-- ==== Defs.lean ====
def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguIdeal_sgu_pre [hPre_sgu_pre : Cert.Pre_sgu_pre.Facts] (m : (ℓ : Loc Cert.SguIdeal.nD Cert.SguIdeal.τ Cert.SguIdeal.sig) → Buf (Elt Ideal) ℓ) : Prop :=
  ∀ c : Dev Cert.SguIdeal.nD,
    (Cert.Pre_sgu_pre.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4)) (m ((c.tc : Thread Cert.SguIdeal.nD Cert.SguIdeal.τ).loc Cert.SguIdeal.main_arg5))) = (fun _ => 1#1)

def Pre_SguRefIdeal (m : (ℓ : Loc Cert.SguRefIdeal.nD Cert.SguRefIdeal.τ Cert.SguRefIdeal.sig) → Buf (Elt Ideal) ℓ) : Prop :=
  True

def Pre_SguRefIdeal_sgu_pre [hPre_sgu_pre : Cert.Pre_sgu_pre.Facts] (m : (ℓ : Loc Cert.SguRefIdeal.nD Cert.SguRefIdeal.τ Cert.SguRefIdeal.sig) → Buf (Elt Ideal) ℓ) : Prop :=
  ∀ c : Dev Cert.SguRefIdeal.nD,
    (Cert.Pre_sgu_pre.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_AIn (m : (ℓ : Loc Cert.AIn.nD Cert.AIn.τ Cert.AIn.sig) → Buf (Elt Bits) ℓ) : Prop :=
  True

def Pre_AInIdeal (m : (ℓ : Loc Cert.AInIdeal.nD Cert.AInIdeal.τ Cert.AInIdeal.sig) → Buf (Elt Ideal) ℓ) : Prop :=
  True

def Pre_AInRefIdeal (m : (ℓ : Loc Cert.AInRefIdeal.nD Cert.AInRefIdeal.τ Cert.AInRefIdeal.sig) → Buf (Elt Ideal) ℓ) : Prop :=
  True

def Pre_AOut (m : (ℓ : Loc Cert.AOut.nD Cert.AOut.τ Cert.AOut.sig) → Buf (Elt Bits) ℓ) : Prop :=
  True

def Pre_AOutIdeal (m : (ℓ : Loc Cert.AOutIdeal.nD Cert.AOutIdeal.τ Cert.AOutIdeal.sig) → Buf (Elt Ideal) ℓ) : Prop :=
  True

def Pre_AOutRefIdeal (m : (ℓ : Loc Cert.AOutRefIdeal.nD Cert.AOutRefIdeal.τ Cert.AOutRefIdeal.sig) → Buf (Elt Ideal) ℓ) : Prop :=
  True

def Pre_AOutDw (m : (ℓ : Loc Cert.AOutDw.nD Cert.AOutDw.τ Cert.AOutDw.sig) → Buf (Elt Bits) ℓ) : Prop :=
  True

def Pre_AOutDwIdeal (m : (ℓ : Loc Cert.AOutDwIdeal.nD Cert.AOutDwIdeal.τ Cert.AOutDwIdeal.sig) → Buf (Elt Ideal) ℓ) : Prop :=
  True

def Pre_AOutDwRefIdeal (m : (ℓ : Loc Cert.AOutDwRefIdeal.nD Cert.AOutDwRefIdeal.τ Cert.AOutDwRefIdeal.sig) → Buf (Elt Ideal) ℓ) : Prop :=
  True

def Pre_AOutDx (m : (ℓ : Loc Cert.AOutDx.nD Cert.AOutDx.τ Cert.AOutDx.sig) → Buf (Elt Bits) ℓ) : Prop :=
  True

def Pre_AOutDxIdeal (m : (ℓ : Loc Cert.AOutDxIdeal.nD Cert.AOutDxIdeal.τ Cert.AOutDxIdeal.sig) → Buf (Elt Ideal) ℓ) : Prop :=
  True

def Pre_AOutDxRefIdeal (m : (ℓ : Loc Cert.AOutDxRefIdeal.nD Cert.AOutDxRefIdeal.τ Cert.AOutDxRefIdeal.sig) → Buf (Elt Ideal) ℓ) : Prop :=
  True

def Pre_AInDw (m : (ℓ : Loc Cert.AInDw.nD Cert.AInDw.τ Cert.AInDw.sig) → Buf (Elt Bits) ℓ) : Prop :=
  True

def Pre_AInDwIdeal (m : (ℓ : Loc Cert.AInDwIdeal.nD Cert.AInDwIdeal.τ Cert.AInDwIdeal.sig) → Buf (Elt Ideal) ℓ) : Prop :=
  True

def Pre_AInDwRefIdeal (m : (ℓ : Loc Cert.AInDwRefIdeal.nD Cert.AInDwRefIdeal.τ Cert.AInDwRefIdeal.sig) → Buf (Elt Ideal) ℓ) : Prop :=
  True

def Pre_AInDx (m : (ℓ : Loc Cert.AInDx.nD Cert.AInDx.τ Cert.AInDx.sig) → Buf (Elt Bits) ℓ) : Prop :=
  True

def Pre_AInDxIdeal (m : (ℓ : Loc Cert.AInDxIdeal.nD Cert.AInDxIdeal.τ Cert.AInDxIdeal.sig) → Buf (Elt Ideal) ℓ) : Prop :=
  True

def Pre_AInDxRefIdeal (m : (ℓ : Loc Cert.AInDxRefIdeal.nD Cert.AInDxRefIdeal.τ Cert.AInDxRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_KvDw (m : (ℓ : Loc Cert.KvDw.nD Cert.KvDw.τ Cert.KvDw.sig) → Buf (Elt Bits) ℓ) : Prop :=
  True

def Pre_KvDwIdeal (m : (ℓ : Loc Cert.KvDwIdeal.nD Cert.KvDwIdeal.τ Cert.KvDwIdeal.sig) → Buf (Elt Ideal) ℓ) : Prop :=
  True

def Pre_KvDwRefIdeal (m : (ℓ : Loc Cert.KvDwRefIdeal.nD Cert.KvDwRefIdeal.τ Cert.KvDwRefIdeal.sig) → Buf (Elt Ideal) ℓ) : Prop :=
  True

def Pre_KvDx (m : (ℓ : Loc Cert.KvDx.nD Cert.KvDx.τ Cert.KvDx.sig) → Buf (Elt Bits) ℓ) : Prop :=
  True

def Pre_KvDxIdeal (m : (ℓ : Loc Cert.KvDxIdeal.nD Cert.KvDxIdeal.τ Cert.KvDxIdeal.sig) → Buf (Elt Ideal) ℓ) : Prop :=
  True

def Pre_KvDxRefIdeal (m : (ℓ : Loc Cert.KvDxRefIdeal.nD Cert.KvDxRefIdeal.τ Cert.KvDxRefIdeal.sig) → Buf (Elt Ideal) ℓ) : Prop :=
  True

def Pre_BQ (m : (ℓ : Loc Cert.BQ.nD Cert.BQ.τ Cert.BQ.sig) → Buf (Elt Bits) ℓ) : Prop :=
  True

def Pre_BQIdeal (m : (ℓ : Loc Cert.BQIdeal.nD Cert.BQIdeal.τ Cert.BQIdeal.sig) → Buf (Elt Ideal) ℓ) : Prop :=
  True

def Pre_BQRefIdeal (m : (ℓ : Loc Cert.BQRefIdeal.nD Cert.BQRefIdeal.τ Cert.BQRefIdeal.sig) → Buf (Elt Ideal) ℓ) : Prop :=
  True

def Pre_BQDw (m : (ℓ : Loc Cert.BQDw.nD Cert.BQDw.τ Cert.BQDw.sig) → Buf (Elt Bits) ℓ) : Prop :=
  True

def Pre_BQDwIdeal (m : (ℓ : Loc Cert.BQDwIdeal.nD Cert.BQDwIdeal.τ Cert.BQDwIdeal.sig) → Buf (Elt Ideal) ℓ) : Prop :=
  True

def Pre_BQDwRefIdeal (m : (ℓ : Loc Cert.BQDwRefIdeal.nD Cert.BQDwRefIdeal.τ Cert.BQDwRefIdeal.sig) → Buf (Elt Ideal) ℓ) : Prop :=
  True

def Pre_BQDx (m : (ℓ : Loc Cert.BQDx.nD Cert.BQDx.τ Cert.BQDx.sig) → Buf (Elt Bits) ℓ) : Prop :=
  True

def Pre_BQDxIdeal (m : (ℓ : Loc Cert.BQDxIdeal.nD Cert.BQDxIdeal.τ Cert.BQDxIdeal.sig) → Buf (Elt Ideal) ℓ) : Prop :=
  True

def Pre_BQDxRefIdeal (m : (ℓ : Loc Cert.BQDxRefIdeal.nD Cert.BQDxRefIdeal.τ Cert.BQDxRefIdeal.sig) → Buf (Elt Ideal) ℓ) : Prop :=
  True

def Pre_BO (m : (ℓ : Loc Cert.BO.nD Cert.BO.τ Cert.BO.sig) → Buf (Elt Bits) ℓ) : Prop :=
  True

def Pre_BOIdeal (m : (ℓ : Loc Cert.BOIdeal.nD Cert.BOIdeal.τ Cert.BOIdeal.sig) → Buf (Elt Ideal) ℓ) : Prop :=
  True

def Pre_BORefIdeal (m : (ℓ : Loc Cert.BORefIdeal.nD Cert.BORefIdeal.τ Cert.BORefIdeal.sig) → Buf (Elt Ideal) ℓ) : Prop :=
  True

def Pre_BODw (m : (ℓ : Loc Cert.BODw.nD Cert.BODw.τ Cert.BODw.sig) → Buf (Elt Bits) ℓ) : Prop :=
  True

def Pre_BODwIdeal (m : (ℓ : Loc Cert.BODwIdeal.nD Cert.BODwIdeal.τ Cert.BODwIdeal.sig) → Buf (Elt Ideal) ℓ) : Prop :=
  True

def Pre_BODwRefIdeal (m : (ℓ : Loc Cert.BODwRefIdeal.nD Cert.BODwRefIdeal.τ Cert.BODwRefIdeal.sig) → Buf (Elt Ideal) ℓ) : Prop :=
  True

def Pre_BODx (m : (ℓ : Loc Cert.BODx.nD Cert.BODx.τ Cert.BODx.sig) → Buf (Elt Bits) ℓ) : Prop :=
  True

def Pre_BODxIdeal (m : (ℓ : Loc Cert.BODxIdeal.nD Cert.BODxIdeal.τ Cert.BODxIdeal.sig) → Buf (Elt Ideal) ℓ) : Prop :=
  True

def Pre_BODxRefIdeal (m : (ℓ : Loc Cert.BODxRefIdeal.nD Cert.BODxRefIdeal.τ Cert.BODxRefIdeal.sig) → Buf (Elt Ideal) ℓ) : Prop :=
  True

def Pre_UpDw1 (m : (ℓ : Loc Cert.UpDw1.nD Cert.UpDw1.τ Cert.UpDw1.sig) → Buf (Elt Bits) ℓ) : Prop :=
  True

def Pre_UpDw1Ideal (m : (ℓ : Loc Cert.UpDw1Ideal.nD Cert.UpDw1Ideal.τ Cert.UpDw1Ideal.sig) → Buf (Elt Ideal) ℓ) : Prop :=
  True

def Pre_UpDw1RefIdeal (m : (ℓ : Loc Cert.UpDw1RefIdeal.nD Cert.UpDw1RefIdeal.τ Cert.UpDw1RefIdeal.sig) → Buf (Elt Ideal) ℓ) : Prop :=
  True

def Pre_UpDw2 (m : (ℓ : Loc Cert.UpDw2.nD Cert.UpDw2.τ Cert.UpDw2.sig) → Buf (Elt Bits) ℓ) : Prop :=
  True

def Pre_UpDw2Ideal (m : (ℓ : Loc Cert.UpDw2Ideal.nD Cert.UpDw2Ideal.τ Cert.UpDw2Ideal.sig) → Buf (Elt Ideal) ℓ) : Prop :=
  True

def Pre_UpDw2RefIdeal (m : (ℓ : Loc Cert.UpDw2RefIdeal.nD Cert.UpDw2RefIdeal.τ Cert.UpDw2RefIdeal.sig) → Buf (Elt Ideal) ℓ) : Prop :=
  True

def Pre_DownDw1 (m : (ℓ : Loc Cert.DownDw1.nD Cert.DownDw1.τ Cert.DownDw1.sig) → Buf (Elt Bits) ℓ) : Prop :=
  True

def Pre_DownDw1Ideal (m : (ℓ : Loc Cert.DownDw1Ideal.nD Cert.DownDw1Ideal.τ Cert.DownDw1Ideal.sig) → Buf (Elt Ideal) ℓ) : Prop :=
  True

def Pre_DownDw1RefIdeal (m : (ℓ : Loc Cert.DownDw1RefIdeal.nD Cert.DownDw1RefIdeal.τ Cert.DownDw1RefIdeal.sig) → Buf (Elt Ideal) ℓ) : Prop :=
  True

def Pre_DownDw2 (m : (ℓ : Loc Cert.DownDw2.nD Cert.DownDw2.τ Cert.DownDw2.sig) → Buf (Elt Bits) ℓ) : Prop :=
  True

def Pre_DownDw2Ideal (m : (ℓ : Loc Cert.DownDw2Ideal.nD Cert.DownDw2Ideal.τ Cert.DownDw2Ideal.sig) → Buf (Elt Ideal) ℓ) : Prop :=
  True

def Pre_DownDw2RefIdeal (m : (ℓ : Loc Cert.DownDw2RefIdeal.nD Cert.DownDw2RefIdeal.τ Cert.DownDw2RefIdeal.sig) → Buf (Elt Ideal) ℓ) : Prop :=
  True

def Pre_AddLn (m : (ℓ : Loc Cert.AddLn.nD Cert.AddLn.τ Cert.AddLn.sig) → Buf (Elt Bits) ℓ) : Prop :=
  True

def Pre_AddLnIdeal (m : (ℓ : Loc Cert.AddLnIdeal.nD Cert.AddLnIdeal.τ Cert.AddLnIdeal.sig) → Buf (Elt Ideal) ℓ) : Prop :=
  True

def Pre_AddLnRefIdeal (m : (ℓ : Loc Cert.AddLnRefIdeal.nD Cert.AddLnRefIdeal.τ Cert.AddLnRefIdeal.sig) → Buf (Elt Ideal) ℓ) : Prop :=
  True

def Pre_LnBwd (m : (ℓ : Loc Cert.LnBwd.nD Cert.LnBwd.τ Cert.LnBwd.sig) → Buf (Elt Bits) ℓ) : Prop :=
  True

def Pre_LnBwdIdeal (m : (ℓ : Loc Cert.LnBwdIdeal.nD Cert.LnBwdIdeal.τ Cert.LnBwdIdeal.sig) → Buf (Elt Ideal) ℓ) : Prop :=
  True

def Pre_LnBwdIdeal_ln_bwd_pre [hPre_ln_bwd_pre : Cert.Pre_ln_bwd_pre.Facts] (m : (ℓ : Loc Cert.LnBwdIdeal.nD Cert.LnBwdIdeal.τ Cert.LnBwdIdeal.sig) → Buf (Elt Ideal) ℓ) : Prop :=
  ∀ c : Dev Cert.LnBwdIdeal.nD,
    (Cert.Pre_ln_bwd_pre.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3))) = (fun _ => 1#1)

def Pre_LnBwdRefIdeal (m : (ℓ : Loc Cert.LnBwdRefIdeal.nD Cert.LnBwdRefIdeal.τ Cert.LnBwdRefIdeal.sig) → Buf (Elt Ideal) ℓ) : Prop :=
  True

def Pre_LnBwdRefIdeal_ln_bwd_pre [hPre_ln_bwd_pre : Cert.Pre_ln_bwd_pre.Facts] (m : (ℓ : Loc Cert.LnBwdRefIdeal.nD Cert.LnBwdRefIdeal.τ Cert.LnBwdRefIdeal.sig) → Buf (Elt Ideal) ℓ) : Prop :=
  ∀ c : Dev Cert.LnBwdRefIdeal.nD,
    (Cert.Pre_ln_bwd_pre.fn (F := Ideal) (m ((c.tc : Thread Cert.LnBwdRefIdeal.nD Cert.LnBwdRefIdeal.τ).loc Cert.LnBwdRefIdeal.main_arg0)) (m ((c.tc : Thread Cert.LnBwdRefIdeal.nD Cert.LnBwdRefIdeal.τ).loc Cert.LnBwdRefIdeal.main_arg1)) (m ((c.tc : Thread Cert.LnBwdRefIdeal.nD Cert.LnBwdRefIdeal.τ).loc Cert.LnBwdRefIdeal.main_arg2)) (m ((c.tc : Thread Cert.LnBwdRefIdeal.nD Cert.LnBwdRefIdeal.τ).loc Cert.LnBwdRefIdeal.main_arg3))) = (fun _ => 1#1)

def Pre_SguFwd (m : (ℓ : Loc Cert.SguFwd.nD Cert.SguFwd.τ Cert.SguFwd.sig) → Buf (Elt Bits) ℓ) : Prop :=
  True

def Pre_SguFwdIdeal (m : (ℓ : Loc Cert.SguFwdIdeal.nD Cert.SguFwdIdeal.τ Cert.SguFwdIdeal.sig) → Buf (Elt Ideal) ℓ) : Prop :=
  True

def Pre_SguFwdRefIdeal (m : (ℓ : Loc Cert.SguFwdRefIdeal.nD Cert.SguFwdRefIdeal.τ Cert.SguFwdRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4)
      ∧ r.2.mem ((c.tc : Thread Cert.Sgu.nD Cert.Sgu.τ).loc Cert.Sgu.main_arg5) = m ((c.tc : Thread Cert.Sgu.nD Cert.Sgu.τ).loc Cert.Sgu.main_arg5))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
      ∧ r.2.mem ((c.tc : Thread Cert.SguIdeal.nD Cert.SguIdeal.τ).loc Cert.SguIdeal.main_arg5) = m ((c.tc : Thread Cert.SguIdeal.nD Cert.SguIdeal.τ).loc Cert.SguIdeal.main_arg5))
      ∧ r.2.sem = fun _ => 0)

def quiescent_SguIdeal_pre_sgu_pre [hSguIdeal : Cert.SguIdeal.Facts] [hPre_sgu_pre : Cert.Pre_sgu_pre.Facts] : Prop :=
  ∀ (m : (ℓ : Loc Cert.SguIdeal.nD Cert.SguIdeal.τ Cert.SguIdeal.sig) → Buf (Elt Ideal) ℓ) (g : Dev Cert.SguIdeal.nD → PrngReg), Pre_SguIdeal_sgu_pre m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
      ∧ r.2.mem ((c.tc : Thread Cert.SguIdeal.nD Cert.SguIdeal.τ).loc Cert.SguIdeal.main_arg5) = m ((c.tc : Thread Cert.SguIdeal.nD Cert.SguIdeal.τ).loc Cert.SguIdeal.main_arg5))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5))
      ∧ r.2.sem = fun _ => 0)

def quiescent_SguRefIdeal_pre_sgu_pre [hSguRefIdeal : Cert.SguRefIdeal.Facts] [hPre_sgu_pre : Cert.Pre_sgu_pre.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal_sgu_pre m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1)
      ∧ r.2.mem ((c.tc : Thread Cert.UpDw.nD Cert.UpDw.τ).loc Cert.UpDw.main_arg2) = m ((c.tc : Thread Cert.UpDw.nD Cert.UpDw.τ).loc Cert.UpDw.main_arg2))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
      ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1)
      ∧ r.2.mem ((c.tc : Thread Cert.UpDwRefIdeal.nD Cert.UpDwRefIdeal.τ).loc Cert.UpDwRefIdeal.main_arg2) = m ((c.tc : Thread Cert.UpDwRefIdeal.nD Cert.UpDwRefIdeal.τ).loc Cert.UpDwRefIdeal.main_arg2))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1)
      ∧ r.2.mem ((c.tc : Thread Cert.DownDw.nD Cert.DownDw.τ).loc Cert.DownDw.main_arg2) = m ((c.tc : Thread Cert.DownDw.nD Cert.DownDw.τ).loc Cert.DownDw.main_arg2))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
      ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1)
      ∧ r.2.mem ((c.tc : Thread Cert.DownDwRefIdeal.nD Cert.DownDwRefIdeal.τ).loc Cert.DownDwRefIdeal.main_arg2) = m ((c.tc : Thread Cert.DownDwRefIdeal.nD Cert.DownDwRefIdeal.τ).loc Cert.DownDwRefIdeal.main_arg2))
      ∧ r.2.sem = fun _ => 0)

def quiescent_AIn [hAIn : Cert.AIn.Facts] : Prop :=
  ∀ (m : (ℓ : Loc Cert.AIn.nD Cert.AIn.τ Cert.AIn.sig) → Buf (Elt Bits) ℓ) (g : Dev Cert.AIn.nD → PrngReg), Pre_AIn m →
    θ_run (Cert.AIn.defs (F := Bits)) (onTc (τ := Cert.AIn.τ) (Cert.AIn.main (F := Bits))) ⟨m, fun _ => 0, g⟩ (fun r => (∀ c : Dev Cert.AIn.nD,
      r.2.mem ((c.tc : Thread Cert.AIn.nD Cert.AIn.τ).loc Cert.AIn.main_arg0) = m ((c.tc : Thread Cert.AIn.nD Cert.AIn.τ).loc Cert.AIn.main_arg0)
      ∧ r.2.mem ((c.tc : Thread Cert.AIn.nD Cert.AIn.τ).loc Cert.AIn.main_arg1) = m ((c.tc : Thread Cert.AIn.nD Cert.AIn.τ).loc Cert.AIn.main_arg1))
      ∧ r.2.sem = fun _ => 0)

def quiescent_AInIdeal [hAInIdeal : Cert.AInIdeal.Facts] : Prop :=
  ∀ (m : (ℓ : Loc Cert.AInIdeal.nD Cert.AInIdeal.τ Cert.AInIdeal.sig) → Buf (Elt Ideal) ℓ) (g : Dev Cert.AInIdeal.nD → PrngReg), Pre_AInIdeal m →
    θ_run (Cert.AInIdeal.defs (F := Ideal)) (onTc (τ := Cert.AInIdeal.τ) (Cert.AInIdeal.main (F := Ideal))) ⟨m, fun _ => 0, g⟩ (fun r => (∀ c : Dev Cert.AInIdeal.nD,
      r.2.mem ((c.tc : Thread Cert.AInIdeal.nD Cert.AInIdeal.τ).loc Cert.AInIdeal.main_arg0) = m ((c.tc : Thread Cert.AInIdeal.nD Cert.AInIdeal.τ).loc Cert.AInIdeal.main_arg0)
      ∧ r.2.mem ((c.tc : Thread Cert.AInIdeal.nD Cert.AInIdeal.τ).loc Cert.AInIdeal.main_arg1) = m ((c.tc : Thread Cert.AInIdeal.nD Cert.AInIdeal.τ).loc Cert.AInIdeal.main_arg1))
      ∧ r.2.sem = fun _ => 0)

def quiescent_AInRefIdeal [hAInRefIdeal : Cert.AInRefIdeal.Facts] : Prop :=
  ∀ (m : (ℓ : Loc Cert.AInRefIdeal.nD Cert.AInRefIdeal.τ Cert.AInRefIdeal.sig) → Buf (Elt Ideal) ℓ) (g : Dev Cert.AInRefIdeal.nD → PrngReg), Pre_AInRefIdeal m →
    θ_run (Cert.AInRefIdeal.defs (F := Ideal)) (onTc (τ := Cert.AInRefIdeal.τ) (Cert.AInRefIdeal.main (F := Ideal))) ⟨m, fun _ => 0, g⟩ (fun r => (∀ c : Dev Cert.AInRefIdeal.nD,
      r.2.mem ((c.tc : Thread Cert.AInRefIdeal.nD Cert.AInRefIdeal.τ).loc Cert.AInRefIdeal.main_arg0) = m ((c.tc : Thread Cert.AInRefIdeal.nD Cert.AInRefIdeal.τ).loc Cert.AInRefIdeal.main_arg0)
      ∧ r.2.mem ((c.tc : Thread Cert.AInRefIdeal.nD Cert.AInRefIdeal.τ).loc Cert.AInRefIdeal.main_arg1) = m ((c.tc : Thread Cert.AInRefIdeal.nD Cert.AInRefIdeal.τ).loc Cert.AInRefIdeal.main_arg1))
      ∧ r.2.sem = fun _ => 0)

def quiescent_AOut [hAOut : Cert.AOut.Facts] : Prop :=
  ∀ (m : (ℓ : Loc Cert.AOut.nD Cert.AOut.τ Cert.AOut.sig) → Buf (Elt Bits) ℓ) (g : Dev Cert.AOut.nD → PrngReg), Pre_AOut m →
    θ_run (Cert.AOut.defs (F := Bits)) (onTc (τ := Cert.AOut.τ) (Cert.AOut.main (F := Bits))) ⟨m, fun _ => 0, g⟩ (fun r => (∀ c : Dev Cert.AOut.nD,
      r.2.mem ((c.tc : Thread Cert.AOut.nD Cert.AOut.τ).loc Cert.AOut.main_arg0) = m ((c.tc : Thread Cert.AOut.nD Cert.AOut.τ).loc Cert.AOut.main_arg0)
      ∧ r.2.mem ((c.tc : Thread Cert.AOut.nD Cert.AOut.τ).loc Cert.AOut.main_arg1) = m ((c.tc : Thread Cert.AOut.nD Cert.AOut.τ).loc Cert.AOut.main_arg1))
      ∧ r.2.sem = fun _ => 0)

def quiescent_AOutIdeal [hAOutIdeal : Cert.AOutIdeal.Facts] : Prop :=
  ∀ (m : (ℓ : Loc Cert.AOutIdeal.nD Cert.AOutIdeal.τ Cert.AOutIdeal.sig) → Buf (Elt Ideal) ℓ) (g : Dev Cert.AOutIdeal.nD → PrngReg), Pre_AOutIdeal m →
    θ_run (Cert.AOutIdeal.defs (F := Ideal)) (onTc (τ := Cert.AOutIdeal.τ) (Cert.AOutIdeal.main (F := Ideal))) ⟨m, fun _ => 0, g⟩ (fun r => (∀ c : Dev Cert.AOutIdeal.nD,
      r.2.mem ((c.tc : Thread Cert.AOutIdeal.nD Cert.AOutIdeal.τ).loc Cert.AOutIdeal.main_arg0) = m ((c.tc : Thread Cert.AOutIdeal.nD Cert.AOutIdeal.τ).loc Cert.AOutIdeal.main_arg0)
      ∧ r.2.mem ((c.tc : Thread Cert.AOutIdeal.nD Cert.AOutIdeal.τ).loc Cert.AOutIdeal.main_arg1) = m ((c.tc : Thread Cert.AOutIdeal.nD Cert.AOutIdeal.τ).loc Cert.AOutIdeal.main_arg1))
      ∧ r.2.sem = fun _ => 0)

def quiescent_AOutRefIdeal [hAOutRefIdeal : Cert.AOutRefIdeal.Facts] : Prop :=
  ∀ (m : (ℓ : Loc Cert.AOutRefIdeal.nD Cert.AOutRefIdeal.τ Cert.AOutRefIdeal.sig) → Buf (Elt Ideal) ℓ) (g : Dev Cert.AOutRefIdeal.nD → PrngReg), Pre_AOutRefIdeal m →
    θ_run (Cert.AOutRefIdeal.defs (F := Ideal)) (onTc (τ := Cert.AOutRefIdeal.τ) (Cert.AOutRefIdeal.main (F := Ideal))) ⟨m, fun _ => 0, g⟩ (fun r => (∀ c : Dev Cert.AOutRefIdeal.nD,
      r.2.mem ((c.tc : Thread Cert.AOutRefIdeal.nD Cert.AOutRefIdeal.τ).loc Cert.AOutRefIdeal.main_arg0) = m ((c.tc : Thread Cert.AOutRefIdeal.nD Cert.AOutRefIdeal.τ).loc Cert.AOutRefIdeal.main_arg0)
      ∧ r.2.mem ((c.tc : Thread Cert.AOutRefIdeal.nD Cert.AOutRefIdeal.τ).loc Cert.AOutRefIdeal.main_arg1) = m ((c.tc : Thread Cert.AOutRefIdeal.nD Cert.AOutRefIdeal.τ).loc Cert.AOutRefIdeal.main_arg1))
      ∧ r.2.sem = fun _ => 0)

def quiescent_AOutDw [hAOutDw : Cert.AOutDw.Facts] : Prop :=
  ∀ (m : (ℓ : Loc Cert.AOutDw.nD Cert.AOutDw.τ Cert.AOutDw.sig) → Buf (Elt Bits) ℓ) (g : Dev Cert.AOutDw.nD → PrngReg), Pre_AOutDw m →
    θ_run (Cert.AOutDw.defs (F := Bits)) (onTc (τ := Cert.AOutDw.τ) (Cert.AOutDw.main (F := Bits))) ⟨m, fun _ => 0, g⟩ (fun r => (∀ c : Dev Cert.AOutDw.nD,
      r.2.mem ((c.tc : Thread Cert.AOutDw.nD Cert.AOutDw.τ).loc Cert.AOutDw.main_arg0) = m ((c.tc : Thread Cert.AOutDw.nD Cert.AOutDw.τ).loc Cert.AOutDw.main_arg0)
      ∧ r.2.mem ((c.tc : Thread Cert.AOutDw.nD Cert.AOutDw.τ).loc Cert.AOutDw.main_arg1) = m ((c.tc : Thread Cert.AOutDw.nD Cert.AOutDw.τ).loc Cert.AOutDw.main_arg1)
      ∧ r.2.mem ((c.tc : Thread Cert.AOutDw.nD Cert.AOutDw.τ).loc Cert.AOutDw.main_arg2) = m ((c.tc : Thread Cert.AOutDw.nD Cert.AOutDw.τ).loc Cert.AOutDw.main_arg2))
      ∧ r.2.sem = fun _ => 0)

def quiescent_AOutDwIdeal [hAOutDwIdeal : Cert.AOutDwIdeal.Facts] : Prop :=
  ∀ (m : (ℓ : Loc Cert.AOutDwIdeal.nD Cert.AOutDwIdeal.τ Cert.AOutDwIdeal.sig) → Buf (Elt Ideal) ℓ) (g : Dev Cert.AOutDwIdeal.nD → PrngReg), Pre_AOutDwIdeal m →
    θ_run (Cert.AOutDwIdeal.defs (F := Ideal)) (onTc (τ := Cert.AOutDwIdeal.τ) (Cert.AOutDwIdeal.main (F := Ideal))) ⟨m, fun _ => 0, g⟩ (fun r => (∀ c : Dev Cert.AOutDwIdeal.nD,
      r.2.mem ((c.tc : Thread Cert.AOutDwIdeal.nD Cert.AOutDwIdeal.τ).loc Cert.AOutDwIdeal.main_arg0) = m ((c.tc : Thread Cert.AOutDwIdeal.nD Cert.AOutDwIdeal.τ).loc Cert.AOutDwIdeal.main_arg0)
      ∧ r.2.mem ((c.tc : Thread Cert.AOutDwIdeal.nD Cert.AOutDwIdeal.τ).loc Cert.AOutDwIdeal.main_arg1) = m ((c.tc : Thread Cert.AOutDwIdeal.nD Cert.AOutDwIdeal.τ).loc Cert.AOutDwIdeal.main_arg1)
      ∧ r.2.mem ((c.tc : Thread Cert.AOutDwIdeal.nD Cert.AOutDwIdeal.τ).loc Cert.AOutDwIdeal.main_arg2) = m ((c.tc : Thread Cert.AOutDwIdeal.nD Cert.AOutDwIdeal.τ).loc Cert.AOutDwIdeal.main_arg2))
      ∧ r.2.sem = fun _ => 0)

def quiescent_AOutDwRefIdeal [hAOutDwRefIdeal : Cert.AOutDwRefIdeal.Facts] : Prop :=
  ∀ (m : (ℓ : Loc Cert.AOutDwRefIdeal.nD Cert.AOutDwRefIdeal.τ Cert.AOutDwRefIdeal.sig) → Buf (Elt Ideal) ℓ) (g : Dev Cert.AOutDwRefIdeal.nD → PrngReg), Pre_AOutDwRefIdeal m →
    θ_run (Cert.AOutDwRefIdeal.defs (F := Ideal)) (onTc (τ := Cert.AOutDwRefIdeal.τ) (Cert.AOutDwRefIdeal.main (F := Ideal))) ⟨m, fun _ => 0, g⟩ (fun r => (∀ c : Dev Cert.AOutDwRefIdeal.nD,
      r.2.mem ((c.tc : Thread Cert.AOutDwRefIdeal.nD Cert.AOutDwRefIdeal.τ).loc Cert.AOutDwRefIdeal.main_arg0) = m ((c.tc : Thread Cert.AOutDwRefIdeal.nD Cert.AOutDwRefIdeal.τ).loc Cert.AOutDwRefIdeal.main_arg0)
      ∧ r.2.mem ((c.tc : Thread Cert.AOutDwRefIdeal.nD Cert.AOutDwRefIdeal.τ).loc Cert.AOutDwRefIdeal.main_arg1) = m ((c.tc : Thread Cert.AOutDwRefIdeal.nD Cert.AOutDwRefIdeal.τ).loc Cert.AOutDwRefIdeal.main_arg1)
      ∧ r.2.mem ((c.tc : Thread Cert.AOutDwRefIdeal.nD Cert.AOutDwRefIdeal.τ).loc Cert.AOutDwRefIdeal.main_arg2) = m ((c.tc : Thread Cert.AOutDwRefIdeal.nD Cert.AOutDwRefIdeal.τ).loc Cert.AOutDwRefIdeal.main_arg2))
      ∧ r.2.sem = fun _ => 0)

def quiescent_AOutDx [hAOutDx : Cert.AOutDx.Facts] : Prop :=
  ∀ (m : (ℓ : Loc Cert.AOutDx.nD Cert.AOutDx.τ Cert.AOutDx.sig) → Buf (Elt Bits) ℓ) (g : Dev Cert.AOutDx.nD → PrngReg), Pre_AOutDx m →
    θ_run (Cert.AOutDx.defs (F := Bits)) (onTc (τ := Cert.AOutDx.τ) (Cert.AOutDx.main (F := Bits))) ⟨m, fun _ => 0, g⟩ (fun r => (∀ c : Dev Cert.AOutDx.nD,
      r.2.mem ((c.tc : Thread Cert.AOutDx.nD Cert.AOutDx.τ).loc Cert.AOutDx.main_arg0) = m ((c.tc : Thread Cert.AOutDx.nD Cert.AOutDx.τ).loc Cert.AOutDx.main_arg0)
      ∧ r.2.mem ((c.tc : Thread Cert.AOutDx.nD Cert.AOutDx.τ).loc Cert.AOutDx.main_arg1) = m ((c.tc : Thread Cert.AOutDx.nD Cert.AOutDx.τ).loc Cert.AOutDx.main_arg1))
      ∧ r.2.sem = fun _ => 0)

def quiescent_AOutDxIdeal [hAOutDxIdeal : Cert.AOutDxIdeal.Facts] : Prop :=
  ∀ (m : (ℓ : Loc Cert.AOutDxIdeal.nD Cert.AOutDxIdeal.τ Cert.AOutDxIdeal.sig) → Buf (Elt Ideal) ℓ) (g : Dev Cert.AOutDxIdeal.nD → PrngReg), Pre_AOutDxIdeal m →
    θ_run (Cert.AOutDxIdeal.defs (F := Ideal)) (onTc (τ := Cert.AOutDxIdeal.τ) (Cert.AOutDxIdeal.main (F := Ideal))) ⟨m, fun _ => 0, g⟩ (fun r => (∀ c : Dev Cert.AOutDxIdeal.nD,
      r.2.mem ((c.tc : Thread Cert.AOutDxIdeal.nD Cert.AOutDxIdeal.τ).loc Cert.AOutDxIdeal.main_arg0) = m ((c.tc : Thread Cert.AOutDxIdeal.nD Cert.AOutDxIdeal.τ).loc Cert.AOutDxIdeal.main_arg0)
      ∧ r.2.mem ((c.tc : Thread Cert.AOutDxIdeal.nD Cert.AOutDxIdeal.τ).loc Cert.AOutDxIdeal.main_arg1) = m ((c.tc : Thread Cert.AOutDxIdeal.nD Cert.AOutDxIdeal.τ).loc Cert.AOutDxIdeal.main_arg1))
      ∧ r.2.sem = fun _ => 0)

def quiescent_AOutDxRefIdeal [hAOutDxRefIdeal : Cert.AOutDxRefIdeal.Facts] : Prop :=
  ∀ (m : (ℓ : Loc Cert.AOutDxRefIdeal.nD Cert.AOutDxRefIdeal.τ Cert.AOutDxRefIdeal.sig) → Buf (Elt Ideal) ℓ) (g : Dev Cert.AOutDxRefIdeal.nD → PrngReg), Pre_AOutDxRefIdeal m →
    θ_run (Cert.AOutDxRefIdeal.defs (F := Ideal)) (onTc (τ := Cert.AOutDxRefIdeal.τ) (Cert.AOutDxRefIdeal.main (F := Ideal))) ⟨m, fun _ => 0, g⟩ (fun r => (∀ c : Dev Cert.AOutDxRefIdeal.nD,
      r.2.mem ((c.tc : Thread Cert.AOutDxRefIdeal.nD Cert.AOutDxRefIdeal.τ).loc Cert.AOutDxRefIdeal.main_arg0) = m ((c.tc : Thread Cert.AOutDxRefIdeal.nD Cert.AOutDxRefIdeal.τ).loc Cert.AOutDxRefIdeal.main_arg0)
      ∧ r.2.mem ((c.tc : Thread Cert.AOutDxRefIdeal.nD Cert.AOutDxRefIdeal.τ).loc Cert.AOutDxRefIdeal.main_arg1) = m ((c.tc : Thread Cert.AOutDxRefIdeal.nD Cert.AOutDxRefIdeal.τ).loc Cert.AOutDxRefIdeal.main_arg1))
      ∧ r.2.sem = fun _ => 0)

def quiescent_AInDw [hAInDw : Cert.AInDw.Facts] : Prop :=
  ∀ (m : (ℓ : Loc Cert.AInDw.nD Cert.AInDw.τ Cert.AInDw.sig) → Buf (Elt Bits) ℓ) (g : Dev Cert.AInDw.nD → PrngReg), Pre_AInDw m →
    θ_run (Cert.AInDw.defs (F := Bits)) (onTc (τ := Cert.AInDw.τ) (Cert.AInDw.main (F := Bits))) ⟨m, fun _ => 0, g⟩ (fun r => (∀ c : Dev Cert.AInDw.nD,
      r.2.mem ((c.tc : Thread Cert.AInDw.nD Cert.AInDw.τ).loc Cert.AInDw.main_arg0) = m ((c.tc : Thread Cert.AInDw.nD Cert.AInDw.τ).loc Cert.AInDw.main_arg0)
      ∧ r.2.mem ((c.tc : Thread Cert.AInDw.nD Cert.AInDw.τ).loc Cert.AInDw.main_arg1) = m ((c.tc : Thread Cert.AInDw.nD Cert.AInDw.τ).loc Cert.AInDw.main_arg1)
      ∧ r.2.mem ((c.tc : Thread Cert.AInDw.nD Cert.AInDw.τ).loc Cert.AInDw.main_arg2) = m ((c.tc : Thread Cert.AInDw.nD Cert.AInDw.τ).loc Cert.AInDw.main_arg2))
      ∧ r.2.sem = fun _ => 0)

def quiescent_AInDwIdeal [hAInDwIdeal : Cert.AInDwIdeal.Facts] : Prop :=
  ∀ (m : (ℓ : Loc Cert.AInDwIdeal.nD Cert.AInDwIdeal.τ Cert.AInDwIdeal.sig) → Buf (Elt Ideal) ℓ) (g : Dev Cert.AInDwIdeal.nD → PrngReg), Pre_AInDwIdeal m →
    θ_run (Cert.AInDwIdeal.defs (F := Ideal)) (onTc (τ := Cert.AInDwIdeal.τ) (Cert.AInDwIdeal.main (F := Ideal))) ⟨m, fun _ => 0, g⟩ (fun r => (∀ c : Dev Cert.AInDwIdeal.nD,
      r.2.mem ((c.tc : Thread Cert.AInDwIdeal.nD Cert.AInDwIdeal.τ).loc Cert.AInDwIdeal.main_arg0) = m ((c.tc : Thread Cert.AInDwIdeal.nD Cert.AInDwIdeal.τ).loc Cert.AInDwIdeal.main_arg0)
      ∧ r.2.mem ((c.tc : Thread Cert.AInDwIdeal.nD Cert.AInDwIdeal.τ).loc Cert.AInDwIdeal.main_arg1) = m ((c.tc : Thread Cert.AInDwIdeal.nD Cert.AInDwIdeal.τ).loc Cert.AInDwIdeal.main_arg1)
      ∧ r.2.mem ((c.tc : Thread Cert.AInDwIdeal.nD Cert.AInDwIdeal.τ).loc Cert.AInDwIdeal.main_arg2) = m ((c.tc : Thread Cert.AInDwIdeal.nD Cert.AInDwIdeal.τ).loc Cert.AInDwIdeal.main_arg2))
      ∧ r.2.sem = fun _ => 0)

def quiescent_AInDwRefIdeal [hAInDwRefIdeal : Cert.AInDwRefIdeal.Facts] : Prop :=
  ∀ (m : (ℓ : Loc Cert.AInDwRefIdeal.nD Cert.AInDwRefIdeal.τ Cert.AInDwRefIdeal.sig) → Buf (Elt Ideal) ℓ) (g : Dev Cert.AInDwRefIdeal.nD → PrngReg), Pre_AInDwRefIdeal m →
    θ_run (Cert.AInDwRefIdeal.defs (F := Ideal)) (onTc (τ := Cert.AInDwRefIdeal.τ) (Cert.AInDwRefIdeal.main (F := Ideal))) ⟨m, fun _ => 0, g⟩ (fun r => (∀ c : Dev Cert.AInDwRefIdeal.nD,
      r.2.mem ((c.tc : Thread Cert.AInDwRefIdeal.nD Cert.AInDwRefIdeal.τ).loc Cert.AInDwRefIdeal.main_arg0) = m ((c.tc : Thread Cert.AInDwRefIdeal.nD Cert.AInDwRefIdeal.τ).loc Cert.AInDwRefIdeal.main_arg0)
      ∧ r.2.mem ((c.tc : Thread Cert.AInDwRefIdeal.nD Cert.AInDwRefIdeal.τ).loc Cert.AInDwRefIdeal.main_arg1) = m ((c.tc : Thread Cert.AInDwRefIdeal.nD Cert.AInDwRefIdeal.τ).loc Cert.AInDwRefIdeal.main_arg1)
      ∧ r.2.mem ((c.tc : Thread Cert.AInDwRefIdeal.nD Cert.AInDwRefIdeal.τ).loc Cert.AInDwRefIdeal.main_arg2) = m ((c.tc : Thread Cert.AInDwRefIdeal.nD Cert.AInDwRefIdeal.τ).loc Cert.AInDwRefIdeal.main_arg2))
      ∧ r.2.sem = fun _ => 0)

def quiescent_AInDx [hAInDx : Cert.AInDx.Facts] : Prop :=
  ∀ (m : (ℓ : Loc Cert.AInDx.nD Cert.AInDx.τ Cert.AInDx.sig) → Buf (Elt Bits) ℓ) (g : Dev Cert.AInDx.nD → PrngReg), Pre_AInDx m →
    θ_run (Cert.AInDx.defs (F := Bits)) (onTc (τ := Cert.AInDx.τ) (Cert.AInDx.main (F := Bits))) ⟨m, fun _ => 0, g⟩ (fun r => (∀ c : Dev Cert.AInDx.nD,
      r.2.mem ((c.tc : Thread Cert.AInDx.nD Cert.AInDx.τ).loc Cert.AInDx.main_arg0) = m ((c.tc : Thread Cert.AInDx.nD Cert.AInDx.τ).loc Cert.AInDx.main_arg0)
      ∧ r.2.mem ((c.tc : Thread Cert.AInDx.nD Cert.AInDx.τ).loc Cert.AInDx.main_arg1) = m ((c.tc : Thread Cert.AInDx.nD Cert.AInDx.τ).loc Cert.AInDx.main_arg1)
      ∧ r.2.mem ((c.tc : Thread Cert.AInDx.nD Cert.AInDx.τ).loc Cert.AInDx.main_arg2) = m ((c.tc : Thread Cert.AInDx.nD Cert.AInDx.τ).loc Cert.AInDx.main_arg2))
      ∧ r.2.sem = fun _ => 0)

def quiescent_AInDxIdeal [hAInDxIdeal : Cert.AInDxIdeal.Facts] : Prop :=
  ∀ (m : (ℓ : Loc Cert.AInDxIdeal.nD Cert.AInDxIdeal.τ Cert.AInDxIdeal.sig) → Buf (Elt Ideal) ℓ) (g : Dev Cert.AInDxIdeal.nD → PrngReg), Pre_AInDxIdeal m →
    θ_run (Cert.AInDxIdeal.defs (F := Ideal)) (onTc (τ := Cert.AInDxIdeal.τ) (Cert.AInDxIdeal.main (F := Ideal))) ⟨m, fun _ => 0, g⟩ (fun r => (∀ c : Dev Cert.AInDxIdeal.nD,
      r.2.mem ((c.tc : Thread Cert.AInDxIdeal.nD Cert.AInDxIdeal.τ).loc Cert.AInDxIdeal.main_arg0) = m ((c.tc : Thread Cert.AInDxIdeal.nD Cert.AInDxIdeal.τ).loc Cert.AInDxIdeal.main_arg0)
      ∧ r.2.mem ((c.tc : Thread Cert.AInDxIdeal.nD Cert.AInDxIdeal.τ).loc Cert.AInDxIdeal.main_arg1) = m ((c.tc : Thread Cert.AInDxIdeal.nD Cert.AInDxIdeal.τ).loc Cert.AInDxIdeal.main_arg1)
      ∧ r.2.mem ((c.tc : Thread Cert.AInDxIdeal.nD Cert.AInDxIdeal.τ).loc Cert.AInDxIdeal.main_arg2) = m ((c.tc : Thread Cert.AInDxIdeal.nD Cert.AInDxIdeal.τ).loc Cert.AInDxIdeal.main_arg2))
      ∧ r.2.sem = fun _ => 0)

def quiescent_AInDxRefIdeal [hAInDxRefIdeal : Cert.AInDxRefIdeal.Facts] : Prop :=
  ∀ (m : (ℓ : Loc Cert.AInDxRefIdeal.nD Cert.AInDxRefIdeal.τ Cert.AInDxRefIdeal.sig) → Buf (Elt Ideal) ℓ) (g : Dev Cert.AInDxRefIdeal.nD → PrngReg), Pre_AInDxRefIdeal m →
    θ_run (Cert.AInDxRefIdeal.defs (F := Ideal)) (onTc (τ := Cert.AInDxRefIdeal.τ) (Cert.AInDxRefIdeal.main (F := Ideal))) ⟨m, fun _ => 0, g⟩ (fun r => (∀ c : Dev Cert.AInDxRefIdeal.nD,
      r.2.mem ((c.tc : Thread Cert.AInDxRefIdeal.nD Cert.AInDxRefIdeal.τ).loc Cert.AInDxRefIdeal.main_arg0) = m ((c.tc : Thread Cert.AInDxRefIdeal.nD Cert.AInDxRefIdeal.τ).loc Cert.AInDxRefIdeal.main_arg0)
      ∧ r.2.mem ((c.tc : Thread Cert.AInDxRefIdeal.nD Cert.AInDxRefIdeal.τ).loc Cert.AInDxRefIdeal.main_arg1) = m ((c.tc : Thread Cert.AInDxRefIdeal.nD Cert.AInDxRefIdeal.τ).loc Cert.AInDxRefIdeal.main_arg1)
      ∧ r.2.mem ((c.tc : Thread Cert.AInDxRefIdeal.nD Cert.AInDxRefIdeal.τ).loc Cert.AInDxRefIdeal.main_arg2) = m ((c.tc : Thread Cert.AInDxRefIdeal.nD Cert.AInDxRefIdeal.τ).loc Cert.AInDxRefIdeal.main_arg2))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1))
      ∧ r.2.sem = fun _ => 0)

def quiescent_KvDw [hKvDw : Cert.KvDw.Facts] : Prop :=
  ∀ (m : (ℓ : Loc Cert.KvDw.nD Cert.KvDw.τ Cert.KvDw.sig) → Buf (Elt Bits) ℓ) (g : Dev Cert.KvDw.nD → PrngReg), Pre_KvDw m →
    θ_run (Cert.KvDw.defs (F := Bits)) (onTc (τ := Cert.KvDw.τ) (Cert.KvDw.main (F := Bits))) ⟨m, fun _ => 0, g⟩ (fun r => (∀ c : Dev Cert.KvDw.nD,
      r.2.mem ((c.tc : Thread Cert.KvDw.nD Cert.KvDw.τ).loc Cert.KvDw.main_arg0) = m ((c.tc : Thread Cert.KvDw.nD Cert.KvDw.τ).loc Cert.KvDw.main_arg0)
      ∧ r.2.mem ((c.tc : Thread Cert.KvDw.nD Cert.KvDw.τ).loc Cert.KvDw.main_arg1) = m ((c.tc : Thread Cert.KvDw.nD Cert.KvDw.τ).loc Cert.KvDw.main_arg1))
      ∧ r.2.sem = fun _ => 0)

def quiescent_KvDwIdeal [hKvDwIdeal : Cert.KvDwIdeal.Facts] : Prop :=
  ∀ (m : (ℓ : Loc Cert.KvDwIdeal.nD Cert.KvDwIdeal.τ Cert.KvDwIdeal.sig) → Buf (Elt Ideal) ℓ) (g : Dev Cert.KvDwIdeal.nD → PrngReg), Pre_KvDwIdeal m →
    θ_run (Cert.KvDwIdeal.defs (F := Ideal)) (onTc (τ := Cert.KvDwIdeal.τ) (Cert.KvDwIdeal.main (F := Ideal))) ⟨m, fun _ => 0, g⟩ (fun r => (∀ c : Dev Cert.KvDwIdeal.nD,
      r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
      ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ r.2.sem = fun _ => 0)

def quiescent_KvDwRefIdeal [hKvDwRefIdeal : Cert.KvDwRefIdeal.Facts] : Prop :=
  ∀ (m : (ℓ : Loc Cert.KvDwRefIdeal.nD Cert.KvDwRefIdeal.τ Cert.KvDwRefIdeal.sig) → Buf (Elt Ideal) ℓ) (g : Dev Cert.KvDwRefIdeal.nD → PrngReg), Pre_KvDwRefIdeal m →
    θ_run (Cert.KvDwRefIdeal.defs (F := Ideal)) (onTc (τ := Cert.KvDwRefIdeal.τ) (Cert.KvDwRefIdeal.main (F := Ideal))) ⟨m, fun _ => 0, g⟩ (fun r => (∀ c : Dev Cert.KvDwRefIdeal.nD,
      r.2.mem ((c.tc : Thread Cert.KvDwRefIdeal.nD Cert.KvDwRefIdeal.τ).loc Cert.KvDwRefIdeal.main_arg0) = m ((c.tc : Thread Cert.KvDwRefIdeal.nD Cert.KvDwRefIdeal.τ).loc Cert.KvDwRefIdeal.main_arg0)
      ∧ r.2.mem ((c.tc : Thread Cert.KvDwRefIdeal.nD Cert.KvDwRefIdeal.τ).loc Cert.KvDwRefIdeal.main_arg1) = m ((c.tc : Thread Cert.KvDwRefIdeal.nD Cert.KvDwRefIdeal.τ).loc Cert.KvDwRefIdeal.main_arg1))
      ∧ r.2.sem = fun _ => 0)

def quiescent_KvDx [hKvDx : Cert.KvDx.Facts] : Prop :=
  ∀ (m : (ℓ : Loc Cert.KvDx.nD Cert.KvDx.τ Cert.KvDx.sig) → Buf (Elt Bits) ℓ) (g : Dev Cert.KvDx.nD → PrngReg), Pre_KvDx m →
    θ_run (Cert.KvDx.defs (F := Bits)) (onTc (τ := Cert.KvDx.τ) (Cert.KvDx.main (F := Bits))) ⟨m, fun _ => 0, g⟩ (fun r => (∀ c : Dev Cert.KvDx.nD,
      r.2.mem ((c.tc : Thread Cert.KvDx.nD Cert.KvDx.τ).loc Cert.KvDx.main_arg0) = m ((c.tc : Thread Cert.KvDx.nD Cert.KvDx.τ).loc Cert.KvDx.main_arg0)
      ∧ r.2.mem ((c.tc : Thread Cert.KvDx.nD Cert.KvDx.τ).loc Cert.KvDx.main_arg1) = m ((c.tc : Thread Cert.KvDx.nD Cert.KvDx.τ).loc Cert.KvDx.main_arg1)
      ∧ r.2.mem ((c.tc : Thread Cert.KvDx.nD Cert.KvDx.τ).loc Cert.KvDx.main_arg2) = m ((c.tc : Thread Cert.KvDx.nD Cert.KvDx.τ).loc Cert.KvDx.main_arg2))
      ∧ r.2.sem = fun _ => 0)

def quiescent_KvDxIdeal [hKvDxIdeal : Cert.KvDxIdeal.Facts] : Prop :=
  ∀ (m : (ℓ : Loc Cert.KvDxIdeal.nD Cert.KvDxIdeal.τ Cert.KvDxIdeal.sig) → Buf (Elt Ideal) ℓ) (g : Dev Cert.KvDxIdeal.nD → PrngReg), Pre_KvDxIdeal m →
    θ_run (Cert.KvDxIdeal.defs (F := Ideal)) (onTc (τ := Cert.KvDxIdeal.τ) (Cert.KvDxIdeal.main (F := Ideal))) ⟨m, fun _ => 0, g⟩ (fun r => (∀ c : Dev Cert.KvDxIdeal.nD,
      r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
      ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1)
      ∧ r.2.mem ((c.tc : Thread Cert.KvDxIdeal.nD Cert.KvDxIdeal.τ).loc Cert.KvDxIdeal.main_arg2) = m ((c.tc : Thread Cert.KvDxIdeal.nD Cert.KvDxIdeal.τ).loc Cert.KvDxIdeal.main_arg2))
      ∧ r.2.sem = fun _ => 0)

def quiescent_KvDxRefIdeal [hKvDxRefIdeal : Cert.KvDxRefIdeal.Facts] : Prop :=
  ∀ (m : (ℓ : Loc Cert.KvDxRefIdeal.nD Cert.KvDxRefIdeal.τ Cert.KvDxRefIdeal.sig) → Buf (Elt Ideal) ℓ) (g : Dev Cert.KvDxRefIdeal.nD → PrngReg), Pre_KvDxRefIdeal m →
    θ_run (Cert.KvDxRefIdeal.defs (F := Ideal)) (onTc (τ := Cert.KvDxRefIdeal.τ) (Cert.KvDxRefIdeal.main (F := Ideal))) ⟨m, fun _ => 0, g⟩ (fun r => (∀ c : Dev Cert.KvDxRefIdeal.nD,
      r.2.mem ((c.tc : Thread Cert.KvDxRefIdeal.nD Cert.KvDxRefIdeal.τ).loc Cert.KvDxRefIdeal.main_arg0) = m ((c.tc : Thread Cert.KvDxRefIdeal.nD Cert.KvDxRefIdeal.τ).loc Cert.KvDxRefIdeal.main_arg0)
      ∧ r.2.mem ((c.tc : Thread Cert.KvDxRefIdeal.nD Cert.KvDxRefIdeal.τ).loc Cert.KvDxRefIdeal.main_arg1) = m ((c.tc : Thread Cert.KvDxRefIdeal.nD Cert.KvDxRefIdeal.τ).loc Cert.KvDxRefIdeal.main_arg1)
      ∧ r.2.mem ((c.tc : Thread Cert.KvDxRefIdeal.nD Cert.KvDxRefIdeal.τ).loc Cert.KvDxRefIdeal.main_arg2) = m ((c.tc : Thread Cert.KvDxRefIdeal.nD Cert.KvDxRefIdeal.τ).loc Cert.KvDxRefIdeal.main_arg2))
      ∧ r.2.sem = fun _ => 0)

def quiescent_BQ [hBQ : Cert.BQ.Facts] : Prop :=
  ∀ (m : (ℓ : Loc Cert.BQ.nD Cert.BQ.τ Cert.BQ.sig) → Buf (Elt Bits) ℓ) (g : Dev Cert.BQ.nD → PrngReg), Pre_BQ m →
    θ_run (Cert.BQ.defs (F := Bits)) (onTc (τ := Cert.BQ.τ) (Cert.BQ.main (F := Bits))) ⟨m, fun _ => 0, g⟩ (fun r => (∀ c : Dev Cert.BQ.nD,
      r.2.mem ((c.tc : Thread Cert.BQ.nD Cert.BQ.τ).loc Cert.BQ.main_arg0) = m ((c.tc : Thread Cert.BQ.nD Cert.BQ.τ).loc Cert.BQ.main_arg0)
      ∧ r.2.mem ((c.tc : Thread Cert.BQ.nD Cert.BQ.τ).loc Cert.BQ.main_arg1) = m ((c.tc : Thread Cert.BQ.nD Cert.BQ.τ).loc Cert.BQ.main_arg1))
      ∧ r.2.sem = fun _ => 0)

def quiescent_BQIdeal [hBQIdeal : Cert.BQIdeal.Facts] : Prop :=
  ∀ (m : (ℓ : Loc Cert.BQIdeal.nD Cert.BQIdeal.τ Cert.BQIdeal.sig) → Buf (Elt Ideal) ℓ) (g : Dev Cert.BQIdeal.nD → PrngReg), Pre_BQIdeal m →
    θ_run (Cert.BQIdeal.defs (F := Ideal)) (onTc (τ := Cert.BQIdeal.τ) (Cert.BQIdeal.main (F := Ideal))) ⟨m, fun _ => 0, g⟩ (fun r => (∀ c : Dev Cert.BQIdeal.nD,
      r.2.mem ((c.tc : Thread Cert.BQIdeal.nD Cert.BQIdeal.τ).loc Cert.BQIdeal.main_arg0) = m ((c.tc : Thread Cert.BQIdeal.nD Cert.BQIdeal.τ).loc Cert.BQIdeal.main_arg0)
      ∧ r.2.mem ((c.tc : Thread Cert.BQIdeal.nD Cert.BQIdeal.τ).loc Cert.BQIdeal.main_arg1) = m ((c.tc : Thread Cert.BQIdeal.nD Cert.BQIdeal.τ).loc Cert.BQIdeal.main_arg1))
      ∧ r.2.sem = fun _ => 0)

def quiescent_BQRefIdeal [hBQRefIdeal : Cert.BQRefIdeal.Facts] : Prop :=
  ∀ (m : (ℓ : Loc Cert.BQRefIdeal.nD Cert.BQRefIdeal.τ Cert.BQRefIdeal.sig) → Buf (Elt Ideal) ℓ) (g : Dev Cert.BQRefIdeal.nD → PrngReg), Pre_BQRefIdeal m →
    θ_run (Cert.BQRefIdeal.defs (F := Ideal)) (onTc (τ := Cert.BQRefIdeal.τ) (Cert.BQRefIdeal.main (F := Ideal))) ⟨m, fun _ => 0, g⟩ (fun r => (∀ c : Dev Cert.BQRefIdeal.nD,
      r.2.mem ((c.tc : Thread Cert.BQRefIdeal.nD Cert.BQRefIdeal.τ).loc Cert.BQRefIdeal.main_arg0) = m ((c.tc : Thread Cert.BQRefIdeal.nD Cert.BQRefIdeal.τ).loc Cert.BQRefIdeal.main_arg0)
      ∧ r.2.mem ((c.tc : Thread Cert.BQRefIdeal.nD Cert.BQRefIdeal.τ).loc Cert.BQRefIdeal.main_arg1) = m ((c.tc : Thread Cert.BQRefIdeal.nD Cert.BQRefIdeal.τ).loc Cert.BQRefIdeal.main_arg1))
      ∧ r.2.sem = fun _ => 0)

def quiescent_BQDw [hBQDw : Cert.BQDw.Facts] : Prop :=
  ∀ (m : (ℓ : Loc Cert.BQDw.nD Cert.BQDw.τ Cert.BQDw.sig) → Buf (Elt Bits) ℓ) (g : Dev Cert.BQDw.nD → PrngReg), Pre_BQDw m →
    θ_run (Cert.BQDw.defs (F := Bits)) (onTc (τ := Cert.BQDw.τ) (Cert.BQDw.main (F := Bits))) ⟨m, fun _ => 0, g⟩ (fun r => (∀ c : Dev Cert.BQDw.nD,
      r.2.mem ((c.tc : Thread Cert.BQDw.nD Cert.BQDw.τ).loc Cert.BQDw.main_arg0) = m ((c.tc : Thread Cert.BQDw.nD Cert.BQDw.τ).loc Cert.BQDw.main_arg0)
      ∧ r.2.mem ((c.tc : Thread Cert.BQDw.nD Cert.BQDw.τ).loc Cert.BQDw.main_arg1) = m ((c.tc : Thread Cert.BQDw.nD Cert.BQDw.τ).loc Cert.BQDw.main_arg1)
      ∧ r.2.mem ((c.tc : Thread Cert.BQDw.nD Cert.BQDw.τ).loc Cert.BQDw.main_arg2) = m ((c.tc : Thread Cert.BQDw.nD Cert.BQDw.τ).loc Cert.BQDw.main_arg2))
      ∧ r.2.sem = fun _ => 0)

def quiescent_BQDwIdeal [hBQDwIdeal : Cert.BQDwIdeal.Facts] : Prop :=
  ∀ (m : (ℓ : Loc Cert.BQDwIdeal.nD Cert.BQDwIdeal.τ Cert.BQDwIdeal.sig) → Buf (Elt Ideal) ℓ) (g : Dev Cert.BQDwIdeal.nD → PrngReg), Pre_BQDwIdeal m →
    θ_run (Cert.BQDwIdeal.defs (F := Ideal)) (onTc (τ := Cert.BQDwIdeal.τ) (Cert.BQDwIdeal.main (F := Ideal))) ⟨m, fun _ => 0, g⟩ (fun r => (∀ c : Dev Cert.BQDwIdeal.nD,
      r.2.mem ((c.tc : Thread Cert.BQDwIdeal.nD Cert.BQDwIdeal.τ).loc Cert.BQDwIdeal.main_arg0) = m ((c.tc : Thread Cert.BQDwIdeal.nD Cert.BQDwIdeal.τ).loc Cert.BQDwIdeal.main_arg0)
      ∧ r.2.mem ((c.tc : Thread Cert.BQDwIdeal.nD Cert.BQDwIdeal.τ).loc Cert.BQDwIdeal.main_arg1) = m ((c.tc : Thread Cert.BQDwIdeal.nD Cert.BQDwIdeal.τ).loc Cert.BQDwIdeal.main_arg1)
      ∧ r.2.mem ((c.tc : Thread Cert.BQDwIdeal.nD Cert.BQDwIdeal.τ).loc Cert.BQDwIdeal.main_arg2) = m ((c.tc : Thread Cert.BQDwIdeal.nD Cert.BQDwIdeal.τ).loc Cert.BQDwIdeal.main_arg2))
      ∧ r.2.sem = fun _ => 0)

def quiescent_BQDwRefIdeal [hBQDwRefIdeal : Cert.BQDwRefIdeal.Facts] : Prop :=
  ∀ (m : (ℓ : Loc Cert.BQDwRefIdeal.nD Cert.BQDwRefIdeal.τ Cert.BQDwRefIdeal.sig) → Buf (Elt Ideal) ℓ) (g : Dev Cert.BQDwRefIdeal.nD → PrngReg), Pre_BQDwRefIdeal m →
    θ_run (Cert.BQDwRefIdeal.defs (F := Ideal)) (onTc (τ := Cert.BQDwRefIdeal.τ) (Cert.BQDwRefIdeal.main (F := Ideal))) ⟨m, fun _ => 0, g⟩ (fun r => (∀ c : Dev Cert.BQDwRefIdeal.nD,
      r.2.mem ((c.tc : Thread Cert.BQDwRefIdeal.nD Cert.BQDwRefIdeal.τ).loc Cert.BQDwRefIdeal.main_arg0) = m ((c.tc : Thread Cert.BQDwRefIdeal.nD Cert.BQDwRefIdeal.τ).loc Cert.BQDwRefIdeal.main_arg0)
      ∧ r.2.mem ((c.tc : Thread Cert.BQDwRefIdeal.nD Cert.BQDwRefIdeal.τ).loc Cert.BQDwRefIdeal.main_arg1) = m ((c.tc : Thread Cert.BQDwRefIdeal.nD Cert.BQDwRefIdeal.τ).loc Cert.BQDwRefIdeal.main_arg1)
      ∧ r.2.mem ((c.tc : Thread Cert.BQDwRefIdeal.nD Cert.BQDwRefIdeal.τ).loc Cert.BQDwRefIdeal.main_arg2) = m ((c.tc : Thread Cert.BQDwRefIdeal.nD Cert.BQDwRefIdeal.τ).loc Cert.BQDwRefIdeal.main_arg2))
      ∧ r.2.sem = fun _ => 0)

def quiescent_BQDx [hBQDx : Cert.BQDx.Facts] : Prop :=
  ∀ (m : (ℓ : Loc Cert.BQDx.nD Cert.BQDx.τ Cert.BQDx.sig) → Buf (Elt Bits) ℓ) (g : Dev Cert.BQDx.nD → PrngReg), Pre_BQDx m →
    θ_run (Cert.BQDx.defs (F := Bits)) (onTc (τ := Cert.BQDx.τ) (Cert.BQDx.main (F := Bits))) ⟨m, fun _ => 0, g⟩ (fun r => (∀ c : Dev Cert.BQDx.nD,
      r.2.mem ((c.tc : Thread Cert.BQDx.nD Cert.BQDx.τ).loc Cert.BQDx.main_arg0) = m ((c.tc : Thread Cert.BQDx.nD Cert.BQDx.τ).loc Cert.BQDx.main_arg0)
      ∧ r.2.mem ((c.tc : Thread Cert.BQDx.nD Cert.BQDx.τ).loc Cert.BQDx.main_arg1) = m ((c.tc : Thread Cert.BQDx.nD Cert.BQDx.τ).loc Cert.BQDx.main_arg1)
      ∧ r.2.mem ((c.tc : Thread Cert.BQDx.nD Cert.BQDx.τ).loc Cert.BQDx.main_arg2) = m ((c.tc : Thread Cert.BQDx.nD Cert.BQDx.τ).loc Cert.BQDx.main_arg2))
      ∧ r.2.sem = fun _ => 0)

def quiescent_BQDxIdeal [hBQDxIdeal : Cert.BQDxIdeal.Facts] : Prop :=
  ∀ (m : (ℓ : Loc Cert.BQDxIdeal.nD Cert.BQDxIdeal.τ Cert.BQDxIdeal.sig) → Buf (Elt Ideal) ℓ) (g : Dev Cert.BQDxIdeal.nD → PrngReg), Pre_BQDxIdeal m →
    θ_run (Cert.BQDxIdeal.defs (F := Ideal)) (onTc (τ := Cert.BQDxIdeal.τ) (Cert.BQDxIdeal.main (F := Ideal))) ⟨m, fun _ => 0, g⟩ (fun r => (∀ c : Dev Cert.BQDxIdeal.nD,
      r.2.mem ((c.tc : Thread Cert.BQDxIdeal.nD Cert.BQDxIdeal.τ).loc Cert.BQDxIdeal.main_arg0) = m ((c.tc : Thread Cert.BQDxIdeal.nD Cert.BQDxIdeal.τ).loc Cert.BQDxIdeal.main_arg0)
      ∧ r.2.mem ((c.tc : Thread Cert.BQDxIdeal.nD Cert.BQDxIdeal.τ).loc Cert.BQDxIdeal.main_arg1) = m ((c.tc : Thread Cert.BQDxIdeal.nD Cert.BQDxIdeal.τ).loc Cert.BQDxIdeal.main_arg1)
      ∧ r.2.mem ((c.tc : Thread Cert.BQDxIdeal.nD Cert.BQDxIdeal.τ).loc Cert.BQDxIdeal.main_arg2) = m ((c.tc : Thread Cert.BQDxIdeal.nD Cert.BQDxIdeal.τ).loc Cert.BQDxIdeal.main_arg2))
      ∧ r.2.sem = fun _ => 0)

def quiescent_BQDxRefIdeal [hBQDxRefIdeal : Cert.BQDxRefIdeal.Facts] : Prop :=
  ∀ (m : (ℓ : Loc Cert.BQDxRefIdeal.nD Cert.BQDxRefIdeal.τ Cert.BQDxRefIdeal.sig) → Buf (Elt Ideal) ℓ) (g : Dev Cert.BQDxRefIdeal.nD → PrngReg), Pre_BQDxRefIdeal m →
    θ_run (Cert.BQDxRefIdeal.defs (F := Ideal)) (onTc (τ := Cert.BQDxRefIdeal.τ) (Cert.BQDxRefIdeal.main (F := Ideal))) ⟨m, fun _ => 0, g⟩ (fun r => (∀ c : Dev Cert.BQDxRefIdeal.nD,
      r.2.mem ((c.tc : Thread Cert.BQDxRefIdeal.nD Cert.BQDxRefIdeal.τ).loc Cert.BQDxRefIdeal.main_arg0) = m ((c.tc : Thread Cert.BQDxRefIdeal.nD Cert.BQDxRefIdeal.τ).loc Cert.BQDxRefIdeal.main_arg0)
      ∧ r.2.mem ((c.tc : Thread Cert.BQDxRefIdeal.nD Cert.BQDxRefIdeal.τ).loc Cert.BQDxRefIdeal.main_arg1) = m ((c.tc : Thread Cert.BQDxRefIdeal.nD Cert.BQDxRefIdeal.τ).loc Cert.BQDxRefIdeal.main_arg1)
      ∧ r.2.mem ((c.tc : Thread Cert.BQDxRefIdeal.nD Cert.BQDxRefIdeal.τ).loc Cert.BQDxRefIdeal.main_arg2) = m ((c.tc : Thread Cert.BQDxRefIdeal.nD Cert.BQDxRefIdeal.τ).loc Cert.BQDxRefIdeal.main_arg2))
      ∧ r.2.sem = fun _ => 0)

def quiescent_BO [hBO : Cert.BO.Facts] : Prop :=
  ∀ (m : (ℓ : Loc Cert.BO.nD Cert.BO.τ Cert.BO.sig) → Buf (Elt Bits) ℓ) (g : Dev Cert.BO.nD → PrngReg), Pre_BO m →
    θ_run (Cert.BO.defs (F := Bits)) (onTc (τ := Cert.BO.τ) (Cert.BO.main (F := Bits))) ⟨m, fun _ => 0, g⟩ (fun r => (∀ c : Dev Cert.BO.nD,
      r.2.mem ((c.tc : Thread Cert.BO.nD Cert.BO.τ).loc Cert.BO.main_arg0) = m ((c.tc : Thread Cert.BO.nD Cert.BO.τ).loc Cert.BO.main_arg0)
      ∧ r.2.mem ((c.tc : Thread Cert.BO.nD Cert.BO.τ).loc Cert.BO.main_arg1) = m ((c.tc : Thread Cert.BO.nD Cert.BO.τ).loc Cert.BO.main_arg1))
      ∧ r.2.sem = fun _ => 0)

def quiescent_BOIdeal [hBOIdeal : Cert.BOIdeal.Facts] : Prop :=
  ∀ (m : (ℓ : Loc Cert.BOIdeal.nD Cert.BOIdeal.τ Cert.BOIdeal.sig) → Buf (Elt Ideal) ℓ) (g : Dev Cert.BOIdeal.nD → PrngReg), Pre_BOIdeal m →
    θ_run (Cert.BOIdeal.defs (F := Ideal)) (onTc (τ := Cert.BOIdeal.τ) (Cert.BOIdeal.main (F := Ideal))) ⟨m, fun _ => 0, g⟩ (fun r => (∀ c : Dev Cert.BOIdeal.nD,
      r.2.mem ((c.tc : Thread Cert.BOIdeal.nD Cert.BOIdeal.τ).loc Cert.BOIdeal.main_arg0) = m ((c.tc : Thread Cert.BOIdeal.nD Cert.BOIdeal.τ).loc Cert.BOIdeal.main_arg0)
      ∧ r.2.mem ((c.tc : Thread Cert.BOIdeal.nD Cert.BOIdeal.τ).loc Cert.BOIdeal.main_arg1) = m ((c.tc : Thread Cert.BOIdeal.nD Cert.BOIdeal.τ).loc Cert.BOIdeal.main_arg1))
      ∧ r.2.sem = fun _ => 0)

def quiescent_BORefIdeal [hBORefIdeal : Cert.BORefIdeal.Facts] : Prop :=
  ∀ (m : (ℓ : Loc Cert.BORefIdeal.nD Cert.BORefIdeal.τ Cert.BORefIdeal.sig) → Buf (Elt Ideal) ℓ) (g : Dev Cert.BORefIdeal.nD → PrngReg), Pre_BORefIdeal m →
    θ_run (Cert.BORefIdeal.defs (F := Ideal)) (onTc (τ := Cert.BORefIdeal.τ) (Cert.BORefIdeal.main (F := Ideal))) ⟨m, fun _ => 0, g⟩ (fun r => (∀ c : Dev Cert.BORefIdeal.nD,
      r.2.mem ((c.tc : Thread Cert.BORefIdeal.nD Cert.BORefIdeal.τ).loc Cert.BORefIdeal.main_arg0) = m ((c.tc : Thread Cert.BORefIdeal.nD Cert.BORefIdeal.τ).loc Cert.BORefIdeal.main_arg0)
      ∧ r.2.mem ((c.tc : Thread Cert.BORefIdeal.nD Cert.BORefIdeal.τ).loc Cert.BORefIdeal.main_arg1) = m ((c.tc : Thread Cert.BORefIdeal.nD Cert.BORefIdeal.τ).loc Cert.BORefIdeal.main_arg1))
      ∧ r.2.sem = fun _ => 0)

def quiescent_BODw [hBODw : Cert.BODw.Facts] : Prop :=
  ∀ (m : (ℓ : Loc Cert.BODw.nD Cert.BODw.τ Cert.BODw.sig) → Buf (Elt Bits) ℓ) (g : Dev Cert.BODw.nD → PrngReg), Pre_BODw m →
    θ_run (Cert.BODw.defs (F := Bits)) (onTc (τ := Cert.BODw.τ) (Cert.BODw.main (F := Bits))) ⟨m, fun _ => 0, g⟩ (fun r => (∀ c : Dev Cert.BODw.nD,
      r.2.mem ((c.tc : Thread Cert.BODw.nD Cert.BODw.τ).loc Cert.BODw.main_arg0) = m ((c.tc : Thread Cert.BODw.nD Cert.BODw.τ).loc Cert.BODw.main_arg0)
      ∧ r.2.mem ((c.tc : Thread Cert.BODw.nD Cert.BODw.τ).loc Cert.BODw.main_arg1) = m ((c.tc : Thread Cert.BODw.nD Cert.BODw.τ).loc Cert.BODw.main_arg1)
      ∧ r.2.mem ((c.tc : Thread Cert.BODw.nD Cert.BODw.τ).loc Cert.BODw.main_arg2) = m ((c.tc : Thread Cert.BODw.nD Cert.BODw.τ).loc Cert.BODw.main_arg2))
      ∧ r.2.sem = fun _ => 0)

def quiescent_BODwIdeal [hBODwIdeal : Cert.BODwIdeal.Facts] : Prop :=
  ∀ (m : (ℓ : Loc Cert.BODwIdeal.nD Cert.BODwIdeal.τ Cert.BODwIdeal.sig) → Buf (Elt Ideal) ℓ) (g : Dev Cert.BODwIdeal.nD → PrngReg), Pre_BODwIdeal m →
    θ_run (Cert.BODwIdeal.defs (F := Ideal)) (onTc (τ := Cert.BODwIdeal.τ) (Cert.BODwIdeal.main (F := Ideal))) ⟨m, fun _ => 0, g⟩ (fun r => (∀ c : Dev Cert.BODwIdeal.nD,
      r.2.mem ((c.tc : Thread Cert.BODwIdeal.nD Cert.BODwIdeal.τ).loc Cert.BODwIdeal.main_arg0) = m ((c.tc : Thread Cert.BODwIdeal.nD Cert.BODwIdeal.τ).loc Cert.BODwIdeal.main_arg0)
      ∧ r.2.mem ((c.tc : Thread Cert.BODwIdeal.nD Cert.BODwIdeal.τ).loc Cert.BODwIdeal.main_arg1) = m ((c.tc : Thread Cert.BODwIdeal.nD Cert.BODwIdeal.τ).loc Cert.BODwIdeal.main_arg1)
      ∧ r.2.mem ((c.tc : Thread Cert.BODwIdeal.nD Cert.BODwIdeal.τ).loc Cert.BODwIdeal.main_arg2) = m ((c.tc : Thread Cert.BODwIdeal.nD Cert.BODwIdeal.τ).loc Cert.BODwIdeal.main_arg2))
      ∧ r.2.sem = fun _ => 0)

def quiescent_BODwRefIdeal [hBODwRefIdeal : Cert.BODwRefIdeal.Facts] : Prop :=
  ∀ (m : (ℓ : Loc Cert.BODwRefIdeal.nD Cert.BODwRefIdeal.τ Cert.BODwRefIdeal.sig) → Buf (Elt Ideal) ℓ) (g : Dev Cert.BODwRefIdeal.nD → PrngReg), Pre_BODwRefIdeal m →
    θ_run (Cert.BODwRefIdeal.defs (F := Ideal)) (onTc (τ := Cert.BODwRefIdeal.τ) (Cert.BODwRefIdeal.main (F := Ideal))) ⟨m, fun _ => 0, g⟩ (fun r => (∀ c : Dev Cert.BODwRefIdeal.nD,
      r.2.mem ((c.tc : Thread Cert.BODwRefIdeal.nD Cert.BODwRefIdeal.τ).loc Cert.BODwRefIdeal.main_arg0) = m ((c.tc : Thread Cert.BODwRefIdeal.nD Cert.BODwRefIdeal.τ).loc Cert.BODwRefIdeal.main_arg0)
      ∧ r.2.mem ((c.tc : Thread Cert.BODwRefIdeal.nD Cert.BODwRefIdeal.τ).loc Cert.BODwRefIdeal.main_arg1) = m ((c.tc : Thread Cert.BODwRefIdeal.nD Cert.BODwRefIdeal.τ).loc Cert.BODwRefIdeal.main_arg1)
      ∧ r.2.mem ((c.tc : Thread Cert.BODwRefIdeal.nD Cert.BODwRefIdeal.τ).loc Cert.BODwRefIdeal.main_arg2) = m ((c.tc : Thread Cert.BODwRefIdeal.nD Cert.BODwRefIdeal.τ).loc Cert.BODwRefIdeal.main_arg2))
      ∧ r.2.sem = fun _ => 0)

def quiescent_BODx [hBODx : Cert.BODx.Facts] : Prop :=
  ∀ (m : (ℓ : Loc Cert.BODx.nD Cert.BODx.τ Cert.BODx.sig) → Buf (Elt Bits) ℓ) (g : Dev Cert.BODx.nD → PrngReg), Pre_BODx m →
    θ_run (Cert.BODx.defs (F := Bits)) (onTc (τ := Cert.BODx.τ) (Cert.BODx.main (F := Bits))) ⟨m, fun _ => 0, g⟩ (fun r => (∀ c : Dev Cert.BODx.nD,
      r.2.mem ((c.tc : Thread Cert.BODx.nD Cert.BODx.τ).loc Cert.BODx.main_arg0) = m ((c.tc : Thread Cert.BODx.nD Cert.BODx.τ).loc Cert.BODx.main_arg0)
      ∧ r.2.mem ((c.tc : Thread Cert.BODx.nD Cert.BODx.τ).loc Cert.BODx.main_arg1) = m ((c.tc : Thread Cert.BODx.nD Cert.BODx.τ).loc Cert.BODx.main_arg1))
      ∧ r.2.sem = fun _ => 0)

def quiescent_BODxIdeal [hBODxIdeal : Cert.BODxIdeal.Facts] : Prop :=
  ∀ (m : (ℓ : Loc Cert.BODxIdeal.nD Cert.BODxIdeal.τ Cert.BODxIdeal.sig) → Buf (Elt Ideal) ℓ) (g : Dev Cert.BODxIdeal.nD → PrngReg), Pre_BODxIdeal m →
    θ_run (Cert.BODxIdeal.defs (F := Ideal)) (onTc (τ := Cert.BODxIdeal.τ) (Cert.BODxIdeal.main (F := Ideal))) ⟨m, fun _ => 0, g⟩ (fun r => (∀ c : Dev Cert.BODxIdeal.nD,
      r.2.mem ((c.tc : Thread Cert.BODxIdeal.nD Cert.BODxIdeal.τ).loc Cert.BODxIdeal.main_arg0) = m ((c.tc : Thread Cert.BODxIdeal.nD Cert.BODxIdeal.τ).loc Cert.BODxIdeal.main_arg0)
      ∧ r.2.mem ((c.tc : Thread Cert.BODxIdeal.nD Cert.BODxIdeal.τ).loc Cert.BODxIdeal.main_arg1) = m ((c.tc : Thread Cert.BODxIdeal.nD Cert.BODxIdeal.τ).loc Cert.BODxIdeal.main_arg1))
      ∧ r.2.sem = fun _ => 0)

def quiescent_BODxRefIdeal [hBODxRefIdeal : Cert.BODxRefIdeal.Facts] : Prop :=
  ∀ (m : (ℓ : Loc Cert.BODxRefIdeal.nD Cert.BODxRefIdeal.τ Cert.BODxRefIdeal.sig) → Buf (Elt Ideal) ℓ) (g : Dev Cert.BODxRefIdeal.nD → PrngReg), Pre_BODxRefIdeal m →
    θ_run (Cert.BODxRefIdeal.defs (F := Ideal)) (onTc (τ := Cert.BODxRefIdeal.τ) (Cert.BODxRefIdeal.main (F := Ideal))) ⟨m, fun _ => 0, g⟩ (fun r => (∀ c : Dev Cert.BODxRefIdeal.nD,
      r.2.mem ((c.tc : Thread Cert.BODxRefIdeal.nD Cert.BODxRefIdeal.τ).loc Cert.BODxRefIdeal.main_arg0) = m ((c.tc : Thread Cert.BODxRefIdeal.nD Cert.BODxRefIdeal.τ).loc Cert.BODxRefIdeal.main_arg0)
      ∧ r.2.mem ((c.tc : Thread Cert.BODxRefIdeal.nD Cert.BODxRefIdeal.τ).loc Cert.BODxRefIdeal.main_arg1) = m ((c.tc : Thread Cert.BODxRefIdeal.nD Cert.BODxRefIdeal.τ).loc Cert.BODxRefIdeal.main_arg1))
      ∧ r.2.sem = fun _ => 0)

def quiescent_UpDw1 [hUpDw1 : Cert.UpDw1.Facts] : Prop :=
  ∀ (m : (ℓ : Loc Cert.UpDw1.nD Cert.UpDw1.τ Cert.UpDw1.sig) → Buf (Elt Bits) ℓ) (g : Dev Cert.UpDw1.nD → PrngReg), Pre_UpDw1 m →
    θ_run (Cert.UpDw1.defs (F := Bits)) (onTc (τ := Cert.UpDw1.τ) (Cert.UpDw1.main (F := Bits))) ⟨m, fun _ => 0, g⟩ (fun r => (∀ c : Dev Cert.UpDw1.nD,
      r.2.mem ((c.tc : Thread Cert.UpDw1.nD Cert.UpDw1.τ).loc Cert.UpDw1.main_arg0) = m ((c.tc : Thread Cert.UpDw1.nD Cert.UpDw1.τ).loc Cert.UpDw1.main_arg0)
      ∧ r.2.mem ((c.tc : Thread Cert.UpDw1.nD Cert.UpDw1.τ).loc Cert.UpDw1.main_arg1) = m ((c.tc : Thread Cert.UpDw1.nD Cert.UpDw1.τ).loc Cert.UpDw1.main_arg1)
      ∧ r.2.mem ((c.tc : Thread Cert.UpDw1.nD Cert.UpDw1.τ).loc Cert.UpDw1.main_arg2) = m ((c.tc : Thread Cert.UpDw1.nD Cert.UpDw1.τ).loc Cert.UpDw1.main_arg2))
      ∧ r.2.sem = fun _ => 0)

def quiescent_UpDw1Ideal [hUpDw1Ideal : Cert.UpDw1Ideal.Facts] : Prop :=
  ∀ (m : (ℓ : Loc Cert.UpDw1Ideal.nD Cert.UpDw1Ideal.τ Cert.UpDw1Ideal.sig) → Buf (Elt Ideal) ℓ) (g : Dev Cert.UpDw1Ideal.nD → PrngReg), Pre_UpDw1Ideal m →
    θ_run (Cert.UpDw1Ideal.defs (F := Ideal)) (onTc (τ := Cert.UpDw1Ideal.τ) (Cert.UpDw1Ideal.main (F := Ideal))) ⟨m, fun _ => 0, g⟩ (fun r => (∀ c : Dev Cert.UpDw1Ideal.nD,
      r.2.mem ((c.tc : Thread Cert.UpDw1Ideal.nD Cert.UpDw1Ideal.τ).loc Cert.UpDw1Ideal.main_arg0) = m ((c.tc : Thread Cert.UpDw1Ideal.nD Cert.UpDw1Ideal.τ).loc Cert.UpDw1Ideal.main_arg0)
      ∧ r.2.mem ((c.tc : Thread Cert.UpDw1Ideal.nD Cert.UpDw1Ideal.τ).loc Cert.UpDw1Ideal.main_arg1) = m ((c.tc : Thread Cert.UpDw1Ideal.nD Cert.UpDw1Ideal.τ).loc Cert.UpDw1Ideal.main_arg1)
      ∧ r.2.mem ((c.tc : Thread Cert.UpDw1Ideal.nD Cert.UpDw1Ideal.τ).loc Cert.UpDw1Ideal.main_arg2) = m ((c.tc : Thread Cert.UpDw1Ideal.nD Cert.UpDw1Ideal.τ).loc Cert.UpDw1Ideal.main_arg2))
      ∧ r.2.sem = fun _ => 0)

def quiescent_UpDw1RefIdeal [hUpDw1RefIdeal : Cert.UpDw1RefIdeal.Facts] : Prop :=
  ∀ (m : (ℓ : Loc Cert.UpDw1RefIdeal.nD Cert.UpDw1RefIdeal.τ Cert.UpDw1RefIdeal.sig) → Buf (Elt Ideal) ℓ) (g : Dev Cert.UpDw1RefIdeal.nD → PrngReg), Pre_UpDw1RefIdeal m →
    θ_run (Cert.UpDw1RefIdeal.defs (F := Ideal)) (onTc (τ := Cert.UpDw1RefIdeal.τ) (Cert.UpDw1RefIdeal.main (F := Ideal))) ⟨m, fun _ => 0, g⟩ (fun r => (∀ c : Dev Cert.UpDw1RefIdeal.nD,
      r.2.mem ((c.tc : Thread Cert.UpDw1RefIdeal.nD Cert.UpDw1RefIdeal.τ).loc Cert.UpDw1RefIdeal.main_arg0) = m ((c.tc : Thread Cert.UpDw1RefIdeal.nD Cert.UpDw1RefIdeal.τ).loc Cert.UpDw1RefIdeal.main_arg0)
      ∧ r.2.mem ((c.tc : Thread Cert.UpDw1RefIdeal.nD Cert.UpDw1RefIdeal.τ).loc Cert.UpDw1RefIdeal.main_arg1) = m ((c.tc : Thread Cert.UpDw1RefIdeal.nD Cert.UpDw1RefIdeal.τ).loc Cert.UpDw1RefIdeal.main_arg1)
      ∧ r.2.mem ((c.tc : Thread Cert.UpDw1RefIdeal.nD Cert.UpDw1RefIdeal.τ).loc Cert.UpDw1RefIdeal.main_arg2) = m ((c.tc : Thread Cert.UpDw1RefIdeal.nD Cert.UpDw1RefIdeal.τ).loc Cert.UpDw1RefIdeal.main_arg2))
      ∧ r.2.sem = fun _ => 0)

def quiescent_UpDw2 [hUpDw2 : Cert.UpDw2.Facts] : Prop :=
  ∀ (m : (ℓ : Loc Cert.UpDw2.nD Cert.UpDw2.τ Cert.UpDw2.sig) → Buf (Elt Bits) ℓ) (g : Dev Cert.UpDw2.nD → PrngReg), Pre_UpDw2 m →
    θ_run (Cert.UpDw2.defs (F := Bits)) (onTc (τ := Cert.UpDw2.τ) (Cert.UpDw2.main (F := Bits))) ⟨m, fun _ => 0, g⟩ (fun r => (∀ c : Dev Cert.UpDw2.nD,
      r.2.mem ((c.tc : Thread Cert.UpDw2.nD Cert.UpDw2.τ).loc Cert.UpDw2.main_arg0) = m ((c.tc : Thread Cert.UpDw2.nD Cert.UpDw2.τ).loc Cert.UpDw2.main_arg0)
      ∧ r.2.mem ((c.tc : Thread Cert.UpDw2.nD Cert.UpDw2.τ).loc Cert.UpDw2.main_arg1) = m ((c.tc : Thread Cert.UpDw2.nD Cert.UpDw2.τ).loc Cert.UpDw2.main_arg1)
      ∧ r.2.mem ((c.tc : Thread Cert.UpDw2.nD Cert.UpDw2.τ).loc Cert.UpDw2.main_arg2) = m ((c.tc : Thread Cert.UpDw2.nD Cert.UpDw2.τ).loc Cert.UpDw2.main_arg2))
      ∧ r.2.sem = fun _ => 0)

def quiescent_UpDw2Ideal [hUpDw2Ideal : Cert.UpDw2Ideal.Facts] : Prop :=
  ∀ (m : (ℓ : Loc Cert.UpDw2Ideal.nD Cert.UpDw2Ideal.τ Cert.UpDw2Ideal.sig) → Buf (Elt Ideal) ℓ) (g : Dev Cert.UpDw2Ideal.nD → PrngReg), Pre_UpDw2Ideal m →
    θ_run (Cert.UpDw2Ideal.defs (F := Ideal)) (onTc (τ := Cert.UpDw2Ideal.τ) (Cert.UpDw2Ideal.main (F := Ideal))) ⟨m, fun _ => 0, g⟩ (fun r => (∀ c : Dev Cert.UpDw2Ideal.nD,
      r.2.mem ((c.tc : Thread Cert.UpDw2Ideal.nD Cert.UpDw2Ideal.τ).loc Cert.UpDw2Ideal.main_arg0) = m ((c.tc : Thread Cert.UpDw2Ideal.nD Cert.UpDw2Ideal.τ).loc Cert.UpDw2Ideal.main_arg0)
      ∧ r.2.mem ((c.tc : Thread Cert.UpDw2Ideal.nD Cert.UpDw2Ideal.τ).loc Cert.UpDw2Ideal.main_arg1) = m ((c.tc : Thread Cert.UpDw2Ideal.nD Cert.UpDw2Ideal.τ).loc Cert.UpDw2Ideal.main_arg1)
      ∧ r.2.mem ((c.tc : Thread Cert.UpDw2Ideal.nD Cert.UpDw2Ideal.τ).loc Cert.UpDw2Ideal.main_arg2) = m ((c.tc : Thread Cert.UpDw2Ideal.nD Cert.UpDw2Ideal.τ).loc Cert.UpDw2Ideal.main_arg2))
      ∧ r.2.sem = fun _ => 0)

def quiescent_UpDw2RefIdeal [hUpDw2RefIdeal : Cert.UpDw2RefIdeal.Facts] : Prop :=
  ∀ (m : (ℓ : Loc Cert.UpDw2RefIdeal.nD Cert.UpDw2RefIdeal.τ Cert.UpDw2RefIdeal.sig) → Buf (Elt Ideal) ℓ) (g : Dev Cert.UpDw2RefIdeal.nD → PrngReg), Pre_UpDw2RefIdeal m →
    θ_run (Cert.UpDw2RefIdeal.defs (F := Ideal)) (onTc (τ := Cert.UpDw2RefIdeal.τ) (Cert.UpDw2RefIdeal.main (F := Ideal))) ⟨m, fun _ => 0, g⟩ (fun r => (∀ c : Dev Cert.UpDw2RefIdeal.nD,
      r.2.mem ((c.tc : Thread Cert.UpDw2RefIdeal.nD Cert.UpDw2RefIdeal.τ).loc Cert.UpDw2RefIdeal.main_arg0) = m ((c.tc : Thread Cert.UpDw2RefIdeal.nD Cert.UpDw2RefIdeal.τ).loc Cert.UpDw2RefIdeal.main_arg0)
      ∧ r.2.mem ((c.tc : Thread Cert.UpDw2RefIdeal.nD Cert.UpDw2RefIdeal.τ).loc Cert.UpDw2RefIdeal.main_arg1) = m ((c.tc : Thread Cert.UpDw2RefIdeal.nD Cert.UpDw2RefIdeal.τ).loc Cert.UpDw2RefIdeal.main_arg1)
      ∧ r.2.mem ((c.tc : Thread Cert.UpDw2RefIdeal.nD Cert.UpDw2RefIdeal.τ).loc Cert.UpDw2RefIdeal.main_arg2) = m ((c.tc : Thread Cert.UpDw2RefIdeal.nD Cert.UpDw2RefIdeal.τ).loc Cert.UpDw2RefIdeal.main_arg2))
      ∧ r.2.sem = fun _ => 0)

def quiescent_DownDw1 [hDownDw1 : Cert.DownDw1.Facts] : Prop :=
  ∀ (m : (ℓ : Loc Cert.DownDw1.nD Cert.DownDw1.τ Cert.DownDw1.sig) → Buf (Elt Bits) ℓ) (g : Dev Cert.DownDw1.nD → PrngReg), Pre_DownDw1 m →
    θ_run (Cert.DownDw1.defs (F := Bits)) (onTc (τ := Cert.DownDw1.τ) (Cert.DownDw1.main (F := Bits))) ⟨m, fun _ => 0, g⟩ (fun r => (∀ c : Dev Cert.DownDw1.nD,
      r.2.mem ((c.tc : Thread Cert.DownDw1.nD Cert.DownDw1.τ).loc Cert.DownDw1.main_arg0) = m ((c.tc : Thread Cert.DownDw1.nD Cert.DownDw1.τ).loc Cert.DownDw1.main_arg0)
      ∧ r.2.mem ((c.tc : Thread Cert.DownDw1.nD Cert.DownDw1.τ).loc Cert.DownDw1.main_arg1) = m ((c.tc : Thread Cert.DownDw1.nD Cert.DownDw1.τ).loc Cert.DownDw1.main_arg1)
      ∧ r.2.mem ((c.tc : Thread Cert.DownDw1.nD Cert.DownDw1.τ).loc Cert.DownDw1.main_arg2) = m ((c.tc : Thread Cert.DownDw1.nD Cert.DownDw1.τ).loc Cert.DownDw1.main_arg2))
      ∧ r.2.sem = fun _ => 0)

def quiescent_DownDw1Ideal [hDownDw1Ideal : Cert.DownDw1Ideal.Facts] : Prop :=
  ∀ (m : (ℓ : Loc Cert.DownDw1Ideal.nD Cert.DownDw1Ideal.τ Cert.DownDw1Ideal.sig) → Buf (Elt Ideal) ℓ) (g : Dev Cert.DownDw1Ideal.nD → PrngReg), Pre_DownDw1Ideal m →
    θ_run (Cert.DownDw1Ideal.defs (F := Ideal)) (onTc (τ := Cert.DownDw1Ideal.τ) (Cert.DownDw1Ideal.main (F := Ideal))) ⟨m, fun _ => 0, g⟩ (fun r => (∀ c : Dev Cert.DownDw1Ideal.nD,
      r.2.mem ((c.tc : Thread Cert.DownDw1Ideal.nD Cert.DownDw1Ideal.τ).loc Cert.DownDw1Ideal.main_arg0) = m ((c.tc : Thread Cert.DownDw1Ideal.nD Cert.DownDw1Ideal.τ).loc Cert.DownDw1Ideal.main_arg0)
      ∧ r.2.mem ((c.tc : Thread Cert.DownDw1Ideal.nD Cert.DownDw1Ideal.τ).loc Cert.DownDw1Ideal.main_arg1) = m ((c.tc : Thread Cert.DownDw1Ideal.nD Cert.DownDw1Ideal.τ).loc Cert.DownDw1Ideal.main_arg1)
      ∧ r.2.mem ((c.tc : Thread Cert.DownDw1Ideal.nD Cert.DownDw1Ideal.τ).loc Cert.DownDw1Ideal.main_arg2) = m ((c.tc : Thread Cert.DownDw1Ideal.nD Cert.DownDw1Ideal.τ).loc Cert.DownDw1Ideal.main_arg2))
      ∧ r.2.sem = fun _ => 0)

def quiescent_DownDw1RefIdeal [hDownDw1RefIdeal : Cert.DownDw1RefIdeal.Facts] : Prop :=
  ∀ (m : (ℓ : Loc Cert.DownDw1RefIdeal.nD Cert.DownDw1RefIdeal.τ Cert.DownDw1RefIdeal.sig) → Buf (Elt Ideal) ℓ) (g : Dev Cert.DownDw1RefIdeal.nD → PrngReg), Pre_DownDw1RefIdeal m →
    θ_run (Cert.DownDw1RefIdeal.defs (F := Ideal)) (onTc (τ := Cert.DownDw1RefIdeal.τ) (Cert.DownDw1RefIdeal.main (F := Ideal))) ⟨m, fun _ => 0, g⟩ (fun r => (∀ c : Dev Cert.DownDw1RefIdeal.nD,
      r.2.mem ((c.tc : Thread Cert.DownDw1RefIdeal.nD Cert.DownDw1RefIdeal.τ).loc Cert.DownDw1RefIdeal.main_arg0) = m ((c.tc : Thread Cert.DownDw1RefIdeal.nD Cert.DownDw1RefIdeal.τ).loc Cert.DownDw1RefIdeal.main_arg0)
      ∧ r.2.mem ((c.tc : Thread Cert.DownDw1RefIdeal.nD Cert.DownDw1RefIdeal.τ).loc Cert.DownDw1RefIdeal.main_arg1) = m ((c.tc : Thread Cert.DownDw1RefIdeal.nD Cert.DownDw1RefIdeal.τ).loc Cert.DownDw1RefIdeal.main_arg1)
      ∧ r.2.mem ((c.tc : Thread Cert.DownDw1RefIdeal.nD Cert.DownDw1RefIdeal.τ).loc Cert.DownDw1RefIdeal.main_arg2) = m ((c.tc : Thread Cert.DownDw1RefIdeal.nD Cert.DownDw1RefIdeal.τ).loc Cert.DownDw1RefIdeal.main_arg2))
      ∧ r.2.sem = fun _ => 0)

def quiescent_DownDw2 [hDownDw2 : Cert.DownDw2.Facts] : Prop :=
  ∀ (m : (ℓ : Loc Cert.DownDw2.nD Cert.DownDw2.τ Cert.DownDw2.sig) → Buf (Elt Bits) ℓ) (g : Dev Cert.DownDw2.nD → PrngReg), Pre_DownDw2 m →
    θ_run (Cert.DownDw2.defs (F := Bits)) (onTc (τ := Cert.DownDw2.τ) (Cert.DownDw2.main (F := Bits))) ⟨m, fun _ => 0, g⟩ (fun r => (∀ c : Dev Cert.DownDw2.nD,
      r.2.mem ((c.tc : Thread Cert.DownDw2.nD Cert.DownDw2.τ).loc Cert.DownDw2.main_arg0) = m ((c.tc : Thread Cert.DownDw2.nD Cert.DownDw2.τ).loc Cert.DownDw2.main_arg0)
      ∧ r.2.mem ((c.tc : Thread Cert.DownDw2.nD Cert.DownDw2.τ).loc Cert.DownDw2.main_arg1) = m ((c.tc : Thread Cert.DownDw2.nD Cert.DownDw2.τ).loc Cert.DownDw2.main_arg1)
      ∧ r.2.mem ((c.tc : Thread Cert.DownDw2.nD Cert.DownDw2.τ).loc Cert.DownDw2.main_arg2) = m ((c.tc : Thread Cert.DownDw2.nD Cert.DownDw2.τ).loc Cert.DownDw2.main_arg2))
      ∧ r.2.sem = fun _ => 0)

def quiescent_DownDw2Ideal [hDownDw2Ideal : Cert.DownDw2Ideal.Facts] : Prop :=
  ∀ (m : (ℓ : Loc Cert.DownDw2Ideal.nD Cert.DownDw2Ideal.τ Cert.DownDw2Ideal.sig) → Buf (Elt Ideal) ℓ) (g : Dev Cert.DownDw2Ideal.nD → PrngReg), Pre_DownDw2Ideal m →
    θ_run (Cert.DownDw2Ideal.defs (F := Ideal)) (onTc (τ := Cert.DownDw2Ideal.τ) (Cert.DownDw2Ideal.main (F := Ideal))) ⟨m, fun _ => 0, g⟩ (fun r => (∀ c : Dev Cert.DownDw2Ideal.nD,
      r.2.mem ((c.tc : Thread Cert.DownDw2Ideal.nD Cert.DownDw2Ideal.τ).loc Cert.DownDw2Ideal.main_arg0) = m ((c.tc : Thread Cert.DownDw2Ideal.nD Cert.DownDw2Ideal.τ).loc Cert.DownDw2Ideal.main_arg0)
      ∧ r.2.mem ((c.tc : Thread Cert.DownDw2Ideal.nD Cert.DownDw2Ideal.τ).loc Cert.DownDw2Ideal.main_arg1) = m ((c.tc : Thread Cert.DownDw2Ideal.nD Cert.DownDw2Ideal.τ).loc Cert.DownDw2Ideal.main_arg1)
      ∧ r.2.mem ((c.tc : Thread Cert.DownDw2Ideal.nD Cert.DownDw2Ideal.τ).loc Cert.DownDw2Ideal.main_arg2) = m ((c.tc : Thread Cert.DownDw2Ideal.nD Cert.DownDw2Ideal.τ).loc Cert.DownDw2Ideal.main_arg2))
      ∧ r.2.sem = fun _ => 0)

def quiescent_DownDw2RefIdeal [hDownDw2RefIdeal : Cert.DownDw2RefIdeal.Facts] : Prop :=
  ∀ (m : (ℓ : Loc Cert.DownDw2RefIdeal.nD Cert.DownDw2RefIdeal.τ Cert.DownDw2RefIdeal.sig) → Buf (Elt Ideal) ℓ) (g : Dev Cert.DownDw2RefIdeal.nD → PrngReg), Pre_DownDw2RefIdeal m →
    θ_run (Cert.DownDw2RefIdeal.defs (F := Ideal)) (onTc (τ := Cert.DownDw2RefIdeal.τ) (Cert.DownDw2RefIdeal.main (F := Ideal))) ⟨m, fun _ => 0, g⟩ (fun r => (∀ c : Dev Cert.DownDw2RefIdeal.nD,
      r.2.mem ((c.tc : Thread Cert.DownDw2RefIdeal.nD Cert.DownDw2RefIdeal.τ).loc Cert.DownDw2RefIdeal.main_arg0) = m ((c.tc : Thread Cert.DownDw2RefIdeal.nD Cert.DownDw2RefIdeal.τ).loc Cert.DownDw2RefIdeal.main_arg0)
      ∧ r.2.mem ((c.tc : Thread Cert.DownDw2RefIdeal.nD Cert.DownDw2RefIdeal.τ).loc Cert.DownDw2RefIdeal.main_arg1) = m ((c.tc : Thread Cert.DownDw2RefIdeal.nD Cert.DownDw2RefIdeal.τ).loc Cert.DownDw2RefIdeal.main_arg1)
      ∧ r.2.mem ((c.tc : Thread Cert.DownDw2RefIdeal.nD Cert.DownDw2RefIdeal.τ).loc Cert.DownDw2RefIdeal.main_arg2) = m ((c.tc : Thread Cert.DownDw2RefIdeal.nD Cert.DownDw2RefIdeal.τ).loc Cert.DownDw2RefIdeal.main_arg2))
      ∧ r.2.sem = fun _ => 0)

def quiescent_AddLn [hAddLn : Cert.AddLn.Facts] : Prop :=
  ∀ (m : (ℓ : Loc Cert.AddLn.nD Cert.AddLn.τ Cert.AddLn.sig) → Buf (Elt Bits) ℓ) (g : Dev Cert.AddLn.nD → PrngReg), Pre_AddLn m →
    θ_run (Cert.AddLn.defs (F := Bits)) (onTc (τ := Cert.AddLn.τ) (Cert.AddLn.main (F := Bits))) ⟨m, fun _ => 0, g⟩ (fun r => (∀ c : Dev Cert.AddLn.nD,
      r.2.mem ((c.tc : Thread Cert.AddLn.nD Cert.AddLn.τ).loc Cert.AddLn.main_arg0) = m ((c.tc : Thread Cert.AddLn.nD Cert.AddLn.τ).loc Cert.AddLn.main_arg0)
      ∧ r.2.mem ((c.tc : Thread Cert.AddLn.nD Cert.AddLn.τ).loc Cert.AddLn.main_arg1) = m ((c.tc : Thread Cert.AddLn.nD Cert.AddLn.τ).loc Cert.AddLn.main_arg1)
      ∧ r.2.mem ((c.tc : Thread Cert.AddLn.nD Cert.AddLn.τ).loc Cert.AddLn.main_arg2) = m ((c.tc : Thread Cert.AddLn.nD Cert.AddLn.τ).loc Cert.AddLn.main_arg2)
      ∧ r.2.mem ((c.tc : Thread Cert.AddLn.nD Cert.AddLn.τ).loc Cert.AddLn.main_arg3) = m ((c.tc : Thread Cert.AddLn.nD Cert.AddLn.τ).loc Cert.AddLn.main_arg3))
      ∧ r.2.sem = fun _ => 0)

def quiescent_AddLnIdeal [hAddLnIdeal : Cert.AddLnIdeal.Facts] : Prop :=
  ∀ (m : (ℓ : Loc Cert.AddLnIdeal.nD Cert.AddLnIdeal.τ Cert.AddLnIdeal.sig) → Buf (Elt Ideal) ℓ) (g : Dev Cert.AddLnIdeal.nD → PrngReg), Pre_AddLnIdeal m →
    θ_run (Cert.AddLnIdeal.defs (F := Ideal)) (onTc (τ := Cert.AddLnIdeal.τ) (Cert.AddLnIdeal.main (F := Ideal))) ⟨m, fun _ => 0, g⟩ (fun r => (∀ c : Dev Cert.AddLnIdeal.nD,
      r.2.mem ((c.tc : Thread Cert.AddLnIdeal.nD Cert.AddLnIdeal.τ).loc Cert.AddLnIdeal.main_arg0) = m ((c.tc : Thread Cert.AddLnIdeal.nD Cert.AddLnIdeal.τ).loc Cert.AddLnIdeal.main_arg0)
      ∧ r.2.mem ((c.tc : Thread Cert.AddLnIdeal.nD Cert.AddLnIdeal.τ).loc Cert.AddLnIdeal.main_arg1) = m ((c.tc : Thread Cert.AddLnIdeal.nD Cert.AddLnIdeal.τ).loc Cert.AddLnIdeal.main_arg1)
      ∧ r.2.mem ((c.tc : Thread Cert.AddLnIdeal.nD Cert.AddLnIdeal.τ).loc Cert.AddLnIdeal.main_arg2) = m ((c.tc : Thread Cert.AddLnIdeal.nD Cert.AddLnIdeal.τ).loc Cert.AddLnIdeal.main_arg2)
      ∧ r.2.mem ((c.tc : Thread Cert.AddLnIdeal.nD Cert.AddLnIdeal.τ).loc Cert.AddLnIdeal.main_arg3) = m ((c.tc : Thread Cert.AddLnIdeal.nD Cert.AddLnIdeal.τ).loc Cert.AddLnIdeal.main_arg3))
      ∧ r.2.sem = fun _ => 0)

def quiescent_AddLnRefIdeal [hAddLnRefIdeal : Cert.AddLnRefIdeal.Facts] : Prop :=
  ∀ (m : (ℓ : Loc Cert.AddLnRefIdeal.nD Cert.AddLnRefIdeal.τ Cert.AddLnRefIdeal.sig) → Buf (Elt Ideal) ℓ) (g : Dev Cert.AddLnRefIdeal.nD → PrngReg), Pre_AddLnRefIdeal m →
    θ_run (Cert.AddLnRefIdeal.defs (F := Ideal)) (onTc (τ := Cert.AddLnRefIdeal.τ) (Cert.AddLnRefIdeal.main (F := Ideal))) ⟨m, fun _ => 0, g⟩ (fun r => (∀ c : Dev Cert.AddLnRefIdeal.nD,
      r.2.mem ((c.tc : Thread Cert.AddLnRefIdeal.nD Cert.AddLnRefIdeal.τ).loc Cert.AddLnRefIdeal.main_arg0) = m ((c.tc : Thread Cert.AddLnRefIdeal.nD Cert.AddLnRefIdeal.τ).loc Cert.AddLnRefIdeal.main_arg0)
      ∧ r.2.mem ((c.tc : Thread Cert.AddLnRefIdeal.nD Cert.AddLnRefIdeal.τ).loc Cert.AddLnRefIdeal.main_arg1) = m ((c.tc : Thread Cert.AddLnRefIdeal.nD Cert.AddLnRefIdeal.τ).loc Cert.AddLnRefIdeal.main_arg1)
      ∧ r.2.mem ((c.tc : Thread Cert.AddLnRefIdeal.nD Cert.AddLnRefIdeal.τ).loc Cert.AddLnRefIdeal.main_arg2) = m ((c.tc : Thread Cert.AddLnRefIdeal.nD Cert.AddLnRefIdeal.τ).loc Cert.AddLnRefIdeal.main_arg2)
      ∧ r.2.mem ((c.tc : Thread Cert.AddLnRefIdeal.nD Cert.AddLnRefIdeal.τ).loc Cert.AddLnRefIdeal.main_arg3) = m ((c.tc : Thread Cert.AddLnRefIdeal.nD Cert.AddLnRefIdeal.τ).loc Cert.AddLnRefIdeal.main_arg3))
      ∧ r.2.sem = fun _ => 0)

def quiescent_LnBwd [hLnBwd : Cert.LnBwd.Facts] : Prop :=
  ∀ (m : (ℓ : Loc Cert.LnBwd.nD Cert.LnBwd.τ Cert.LnBwd.sig) → Buf (Elt Bits) ℓ) (g : Dev Cert.LnBwd.nD → PrngReg), Pre_LnBwd m →
    θ_run (Cert.LnBwd.defs (F := Bits)) (onTc (τ := Cert.LnBwd.τ) (Cert.LnBwd.main (F := Bits))) ⟨m, fun _ => 0, g⟩ (fun r => (∀ c : Dev Cert.LnBwd.nD,
      r.2.mem ((c.tc : Thread Cert.LnBwd.nD Cert.LnBwd.τ).loc Cert.LnBwd.main_arg0) = m ((c.tc : Thread Cert.LnBwd.nD Cert.LnBwd.τ).loc Cert.LnBwd.main_arg0)
      ∧ r.2.mem ((c.tc : Thread Cert.LnBwd.nD Cert.LnBwd.τ).loc Cert.LnBwd.main_arg1) = m ((c.tc : Thread Cert.LnBwd.nD Cert.LnBwd.τ).loc Cert.LnBwd.main_arg1)
      ∧ r.2.mem ((c.tc : Thread Cert.LnBwd.nD Cert.LnBwd.τ).loc Cert.LnBwd.main_arg2) = m ((c.tc : Thread Cert.LnBwd.nD Cert.LnBwd.τ).loc Cert.LnBwd.main_arg2)
      ∧ r.2.mem ((c.tc : Thread Cert.LnBwd.nD Cert.LnBwd.τ).loc Cert.LnBwd.main_arg3) = m ((c.tc : Thread Cert.LnBwd.nD Cert.LnBwd.τ).loc Cert.LnBwd.main_arg3))
      ∧ r.2.sem = fun _ => 0)

def quiescent_LnBwdIdeal [hLnBwdIdeal : Cert.LnBwdIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3))
      ∧ r.2.sem = fun _ => 0)

def quiescent_LnBwdIdeal_pre_ln_bwd_pre [hLnBwdIdeal : Cert.LnBwdIdeal.Facts] [hPre_ln_bwd_pre : Cert.Pre_ln_bwd_pre.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal_ln_bwd_pre m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3))
      ∧ r.2.sem = fun _ => 0)

def quiescent_LnBwdRefIdeal [hLnBwdRefIdeal : Cert.LnBwdRefIdeal.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2)
      ∧ r.2.mem ((c.tc : Thread Cert.LnBwdRefIdeal.nD Cert.LnBwdRefIdeal.τ).loc Cert.LnBwdRefIdeal.main_arg3) = m ((c.tc : Thread Cert.LnBwdRefIdeal.nD Cert.LnBwdRefIdeal.τ).loc Cert.LnBwdRefIdeal.main_arg3))
      ∧ r.2.sem = fun _ => 0)

def quiescent_LnBwdRefIdeal_pre_ln_bwd_pre [hLnBwdRefIdeal : Cert.LnBwdRefIdeal.Facts] [hPre_ln_bwd_pre : Cert.Pre_ln_bwd_pre.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal_ln_bwd_pre m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2)
      ∧ r.2.mem ((c.tc : Thread Cert.LnBwdRefIdeal.nD Cert.LnBwdRefIdeal.τ).loc Cert.LnBwdRefIdeal.main_arg3) = m ((c.tc : Thread Cert.LnBwdRefIdeal.nD Cert.LnBwdRefIdeal.τ).loc Cert.LnBwdRefIdeal.main_arg3))
      ∧ r.2.sem = fun _ => 0)

def quiescent_SguFwd [hSguFwd : Cert.SguFwd.Facts] : Prop :=
  ∀ (m : (ℓ : Loc Cert.SguFwd.nD Cert.SguFwd.τ Cert.SguFwd.sig) → Buf (Elt Bits) ℓ) (g : Dev Cert.SguFwd.nD → PrngReg), Pre_SguFwd m →
    θ_run (Cert.SguFwd.defs (F := Bits)) (onTc (τ := Cert.SguFwd.τ) (Cert.SguFwd.main (F := Bits))) ⟨m, fun _ => 0, g⟩ (fun r => (∀ c : Dev Cert.SguFwd.nD,
      r.2.mem ((c.tc : Thread Cert.SguFwd.nD Cert.SguFwd.τ).loc Cert.SguFwd.main_arg0) = m ((c.tc : Thread Cert.SguFwd.nD Cert.SguFwd.τ).loc Cert.SguFwd.main_arg0)
      ∧ r.2.mem ((c.tc : Thread Cert.SguFwd.nD Cert.SguFwd.τ).loc Cert.SguFwd.main_arg1) = m ((c.tc : Thread Cert.SguFwd.nD Cert.SguFwd.τ).loc Cert.SguFwd.main_arg1)
      ∧ r.2.mem ((c.tc : Thread Cert.SguFwd.nD Cert.SguFwd.τ).loc Cert.SguFwd.main_arg2) = m ((c.tc : Thread Cert.SguFwd.nD Cert.SguFwd.τ).loc Cert.SguFwd.main_arg2)
      ∧ r.2.mem ((c.tc : Thread Cert.SguFwd.nD Cert.SguFwd.τ).loc Cert.SguFwd.main_arg3) = m ((c.tc : Thread Cert.SguFwd.nD Cert.SguFwd.τ).loc Cert.SguFwd.main_arg3)
      ∧ r.2.mem ((c.tc : Thread Cert.SguFwd.nD Cert.SguFwd.τ).loc Cert.SguFwd.main_arg4) = m ((c.tc : Thread Cert.SguFwd.nD Cert.SguFwd.τ).loc Cert.SguFwd.main_arg4))
      ∧ r.2.sem = fun _ => 0)

def quiescent_SguFwdIdeal [hSguFwdIdeal : Cert.SguFwdIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg), Pre_SguFwdIdeal m →
    θ_run (Cert.SguFwdIdeal.defs (F := Ideal)) (onTc (τ := Cert.SguFwdIdeal.τ) (Cert.SguFwdIdeal.main (F := Ideal))) ⟨m, fun _ => 0, g⟩ (fun r => (∀ c : Dev Cert.SguFwdIdeal.nD,
      r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
      ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
      ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
      ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
      ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4))
      ∧ r.2.sem = fun _ => 0)

def quiescent_SguFwdRefIdeal [hSguFwdRefIdeal : Cert.SguFwdRefIdeal.Facts] : Prop :=
  ∀ (m : (ℓ : Loc Cert.SguFwdRefIdeal.nD Cert.SguFwdRefIdeal.τ Cert.SguFwdRefIdeal.sig) → Buf (Elt Ideal) ℓ) (g : Dev Cert.SguFwdRefIdeal.nD → PrngReg), Pre_SguFwdRefIdeal m →
    θ_run (Cert.SguFwdRefIdeal.defs (F := Ideal)) (onTc (τ := Cert.SguFwdRefIdeal.τ) (Cert.SguFwdRefIdeal.main (F := Ideal))) ⟨m, fun _ => 0, g⟩ (fun r => (∀ c : Dev Cert.SguFwdRefIdeal.nD,
      r.2.mem ((c.tc : Thread Cert.SguFwdRefIdeal.nD Cert.SguFwdRefIdeal.τ).loc Cert.SguFwdRefIdeal.main_arg0) = m ((c.tc : Thread Cert.SguFwdRefIdeal.nD Cert.SguFwdRefIdeal.τ).loc Cert.SguFwdRefIdeal.main_arg0)
      ∧ r.2.mem ((c.tc : Thread Cert.SguFwdRefIdeal.nD Cert.SguFwdRefIdeal.τ).loc Cert.SguFwdRefIdeal.main_arg1) = m ((c.tc : Thread Cert.SguFwdRefIdeal.nD Cert.SguFwdRefIdeal.τ).loc Cert.SguFwdRefIdeal.main_arg1)
      ∧ r.2.mem ((c.tc : Thread Cert.SguFwdRefIdeal.nD Cert.SguFwdRefIdeal.τ).loc Cert.SguFwdRefIdeal.main_arg2) = m ((c.tc : Thread Cert.SguFwdRefIdeal.nD Cert.SguFwdRefIdeal.τ).loc Cert.SguFwdRefIdeal.main_arg2)
      ∧ r.2.mem ((c.tc : Thread Cert.SguFwdRefIdeal.nD Cert.SguFwdRefIdeal.τ).loc Cert.SguFwdRefIdeal.main_arg3) = m ((c.tc : Thread Cert.SguFwdRefIdeal.nD Cert.SguFwdRefIdeal.τ).loc Cert.SguFwdRefIdeal.main_arg3)
      ∧ r.2.mem ((c.tc : Thread Cert.SguFwdRefIdeal.nD Cert.SguFwdRefIdeal.τ).loc Cert.SguFwdRefIdeal.main_arg4) = m ((c.tc : Thread Cert.SguFwdRefIdeal.nD Cert.SguFwdRefIdeal.τ).loc Cert.SguFwdRefIdeal.main_arg4))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def preserves_Sgu_SguIdeal : Prop :=
  IdealRules.named_const.Statement Cert.SguIdeal.κ "sqrt_half" .f32 0x3F3504F3#32 (((Real.sqrt 2)⁻¹ : ℝ) : EReal)
  ∧ IdealRules.named_const.Statement Cert.SguIdeal.κ "inv_sqrt_2pi" .f32 0x3ECC422A#32 (((Real.sqrt (2 * Real.pi))⁻¹ : ℝ) : EReal)

def algebraic_SguIdeal_SguRefIdeal_pre_sgu_pre [hSguIdeal : Cert.SguIdeal.Facts] [hSguRefIdeal : Cert.SguRefIdeal.Facts] [hPre_sgu_pre : Cert.Pre_sgu_pre.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal_sgu_pre m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)
      ∧ m' ((c.tc : Thread Cert.SguRefIdeal.nD Cert.SguRefIdeal.τ).loc Cert.SguRefIdeal.main_arg4) = m ((c.tc : Thread Cert.SguIdeal.nD Cert.SguIdeal.τ).loc Cert.SguIdeal.main_arg4)
      ∧ m' ((c.tc : Thread Cert.SguRefIdeal.nD Cert.SguRefIdeal.τ).loc Cert.SguRefIdeal.main_arg5) = m ((c.tc : Thread Cert.SguIdeal.nD Cert.SguIdeal.τ).loc Cert.SguIdeal.main_arg5)) →
    ∃ (v0 : (c : Dev Cert.SguIdeal.nD) → Buf (Elt Ideal) ((c.tc : Thread Cert.SguIdeal.nD Cert.SguIdeal.τ).loc Cert.SguIdeal.main_v3_0)) (v1 : (c : Dev Cert.SguIdeal.nD) → Buf (Elt Ideal) ((c.tc : Thread Cert.SguIdeal.nD Cert.SguIdeal.τ).loc Cert.SguIdeal.main_v3_1)) (v2 : (c : Dev Cert.SguIdeal.nD) → Buf (Elt Ideal) ((c.tc : Thread Cert.SguIdeal.nD Cert.SguIdeal.τ).loc Cert.SguIdeal.main_v3_2)) (v3 : (c : Dev Cert.SguIdeal.nD) → Buf (Elt Ideal) ((c.tc : Thread Cert.SguIdeal.nD Cert.SguIdeal.τ).loc Cert.SguIdeal.main_v3_3)) (v4 : (c : Dev Cert.SguIdeal.nD) → Buf (Elt Ideal) ((c.tc : Thread Cert.SguIdeal.nD Cert.SguIdeal.τ).loc Cert.SguIdeal.main_v3_4)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v3_0) = v0 c
          ∧ r.2.mem ((c.tc : Thread Cert.SguIdeal.nD Cert.SguIdeal.τ).loc Cert.SguIdeal.main_v3_1) = v1 c
          ∧ r.2.mem ((c.tc : Thread Cert.SguIdeal.nD Cert.SguIdeal.τ).loc Cert.SguIdeal.main_v3_2) = v2 c
          ∧ r.2.mem ((c.tc : Thread Cert.SguIdeal.nD Cert.SguIdeal.τ).loc Cert.SguIdeal.main_v3_3) = v3 c
          ∧ r.2.mem ((c.tc : Thread Cert.SguIdeal.nD Cert.SguIdeal.τ).loc Cert.SguIdeal.main_v3_4) = v4 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
          ∧ r.2.mem ((c.tc : Thread Cert.SguIdeal.nD Cert.SguIdeal.τ).loc Cert.SguIdeal.main_arg5) = m ((c.tc : Thread Cert.SguIdeal.nD Cert.SguIdeal.τ).loc Cert.SguIdeal.main_arg5))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v122) = v0 c
          ∧ r.2.mem ((c.tc : Thread Cert.SguRefIdeal.nD Cert.SguRefIdeal.τ).loc Cert.SguRefIdeal.main_v76) = v1 c
          ∧ r.2.mem ((c.tc : Thread Cert.SguRefIdeal.nD Cert.SguRefIdeal.τ).loc Cert.SguRefIdeal.main_v121) = v2 c
          ∧ r.2.mem ((c.tc : Thread Cert.SguRefIdeal.nD Cert.SguRefIdeal.τ).loc Cert.SguRefIdeal.main_v123) = v3 c
          ∧ r.2.mem ((c.tc : Thread Cert.SguRefIdeal.nD Cert.SguRefIdeal.τ).loc Cert.SguRefIdeal.main_v124) = v4 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4)
          ∧ r.2.mem ((c.tc : Thread Cert.SguRefIdeal.nD Cert.SguRefIdeal.τ).loc Cert.SguRefIdeal.main_arg5) = m' ((c.tc : Thread Cert.SguRefIdeal.nD Cert.SguRefIdeal.τ).loc Cert.SguRefIdeal.main_arg5))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v3) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)
      ∧ m' ((c.tc : Thread Cert.UpDxRefIdeal.nD Cert.UpDxRefIdeal.τ).loc Cert.UpDxRefIdeal.main_arg2) = m ((c.tc : Thread Cert.UpDxIdeal.nD Cert.UpDxIdeal.τ).loc Cert.UpDxIdeal.main_arg2)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v14) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1)
          ∧ r.2.mem ((c.tc : Thread Cert.UpDxRefIdeal.nD Cert.UpDxRefIdeal.τ).loc Cert.UpDxRefIdeal.main_arg2) = m' ((c.tc : Thread Cert.UpDxRefIdeal.nD Cert.UpDxRefIdeal.τ).loc Cert.UpDxRefIdeal.main_arg2))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)
      ∧ m' ((c.tc : Thread Cert.UpDwRefIdeal.nD Cert.UpDwRefIdeal.τ).loc Cert.UpDwRefIdeal.main_arg2) = m ((c.tc : Thread Cert.UpDwIdeal.nD Cert.UpDwIdeal.τ).loc Cert.UpDwIdeal.main_arg2)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
          ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v14) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1)
          ∧ r.2.mem ((c.tc : Thread Cert.UpDwRefIdeal.nD Cert.UpDwRefIdeal.τ).loc Cert.UpDwRefIdeal.main_arg2) = m' ((c.tc : Thread Cert.UpDwRefIdeal.nD Cert.UpDwRefIdeal.τ).loc Cert.UpDwRefIdeal.main_arg2))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v5) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)
      ∧ m' ((c.tc : Thread Cert.DownDwRefIdeal.nD Cert.DownDwRefIdeal.τ).loc Cert.DownDwRefIdeal.main_arg2) = m ((c.tc : Thread Cert.DownDwIdeal.nD Cert.DownDwIdeal.τ).loc Cert.DownDwIdeal.main_arg2)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
          ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v9) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1)
          ∧ r.2.mem ((c.tc : Thread Cert.DownDwRefIdeal.nD Cert.DownDwRefIdeal.τ).loc Cert.DownDwRefIdeal.main_arg2) = m' ((c.tc : Thread Cert.DownDwRefIdeal.nD Cert.DownDwRefIdeal.τ).loc Cert.DownDwRefIdeal.main_arg2))

def preserves_AIn_AInIdeal : Prop :=
  True

def algebraic_AInIdeal_AInRefIdeal [hAInIdeal : Cert.AInIdeal.Facts] [hAInRefIdeal : Cert.AInRefIdeal.Facts] : Prop :=
  ∀ (m : (ℓ : Loc Cert.AInIdeal.nD Cert.AInIdeal.τ Cert.AInIdeal.sig) → Buf (Elt Ideal) ℓ) (g : Dev Cert.AInIdeal.nD → PrngReg)
    (m' : (ℓ : Loc Cert.AInRefIdeal.nD Cert.AInRefIdeal.τ Cert.AInRefIdeal.sig) → Buf (Elt Ideal) ℓ) (g' : Dev Cert.AInRefIdeal.nD → PrngReg), Pre_AInIdeal m →
    (∀ c : Dev Cert.AInIdeal.nD,
      m' ((c.tc : Thread Cert.AInRefIdeal.nD Cert.AInRefIdeal.τ).loc Cert.AInRefIdeal.main_arg0) = m ((c.tc : Thread Cert.AInIdeal.nD Cert.AInIdeal.τ).loc Cert.AInIdeal.main_arg0)
      ∧ m' ((c.tc : Thread Cert.AInRefIdeal.nD Cert.AInRefIdeal.τ).loc Cert.AInRefIdeal.main_arg1) = m ((c.tc : Thread Cert.AInIdeal.nD Cert.AInIdeal.τ).loc Cert.AInIdeal.main_arg1)) →
    ∃ (v0 : (c : Dev Cert.AInIdeal.nD) → Buf (Elt Ideal) ((c.tc : Thread Cert.AInIdeal.nD Cert.AInIdeal.τ).loc Cert.AInIdeal.main_v0)),
      θ_run (Cert.AInIdeal.defs (F := Ideal)) (onTc (τ := Cert.AInIdeal.τ) (Cert.AInIdeal.main (F := Ideal))) ⟨m, fun _ => 0, g⟩ (fun r => ∀ c : Dev Cert.AInIdeal.nD,
          r.2.mem ((c.tc : Thread Cert.AInIdeal.nD Cert.AInIdeal.τ).loc Cert.AInIdeal.main_v0) = v0 c
          ∧ r.2.mem ((c.tc : Thread Cert.AInIdeal.nD Cert.AInIdeal.τ).loc Cert.AInIdeal.main_arg0) = m ((c.tc : Thread Cert.AInIdeal.nD Cert.AInIdeal.τ).loc Cert.AInIdeal.main_arg0)
          ∧ r.2.mem ((c.tc : Thread Cert.AInIdeal.nD Cert.AInIdeal.τ).loc Cert.AInIdeal.main_arg1) = m ((c.tc : Thread Cert.AInIdeal.nD Cert.AInIdeal.τ).loc Cert.AInIdeal.main_arg1))
      ∧ θ_run (Cert.AInRefIdeal.defs (F := Ideal)) (onTc (τ := Cert.AInRefIdeal.τ) (Cert.AInRefIdeal.main (F := Ideal))) ⟨m', fun _ => 0, g'⟩ (fun r => ∀ c : Dev Cert.AInRefIdeal.nD,
          r.2.mem ((c.tc : Thread Cert.AInRefIdeal.nD Cert.AInRefIdeal.τ).loc Cert.AInRefIdeal.main_v3) = v0 c
          ∧ r.2.mem ((c.tc : Thread Cert.AInRefIdeal.nD Cert.AInRefIdeal.τ).loc Cert.AInRefIdeal.main_arg0) = m' ((c.tc : Thread Cert.AInRefIdeal.nD Cert.AInRefIdeal.τ).loc Cert.AInRefIdeal.main_arg0)
          ∧ r.2.mem ((c.tc : Thread Cert.AInRefIdeal.nD Cert.AInRefIdeal.τ).loc Cert.AInRefIdeal.main_arg1) = m' ((c.tc : Thread Cert.AInRefIdeal.nD Cert.AInRefIdeal.τ).loc Cert.AInRefIdeal.main_arg1))

def preserves_AOut_AOutIdeal : Prop :=
  True

def algebraic_AOutIdeal_AOutRefIdeal [hAOutIdeal : Cert.AOutIdeal.Facts] [hAOutRefIdeal : Cert.AOutRefIdeal.Facts] : Prop :=
  ∀ (m : (ℓ : Loc Cert.AOutIdeal.nD Cert.AOutIdeal.τ Cert.AOutIdeal.sig) → Buf (Elt Ideal) ℓ) (g : Dev Cert.AOutIdeal.nD → PrngReg)
    (m' : (ℓ : Loc Cert.AOutRefIdeal.nD Cert.AOutRefIdeal.τ Cert.AOutRefIdeal.sig) → Buf (Elt Ideal) ℓ) (g' : Dev Cert.AOutRefIdeal.nD → PrngReg), Pre_AOutIdeal m →
    (∀ c : Dev Cert.AOutIdeal.nD,
      m' ((c.tc : Thread Cert.AOutRefIdeal.nD Cert.AOutRefIdeal.τ).loc Cert.AOutRefIdeal.main_arg0) = m ((c.tc : Thread Cert.AOutIdeal.nD Cert.AOutIdeal.τ).loc Cert.AOutIdeal.main_arg0)
      ∧ m' ((c.tc : Thread Cert.AOutRefIdeal.nD Cert.AOutRefIdeal.τ).loc Cert.AOutRefIdeal.main_arg1) = m ((c.tc : Thread Cert.AOutIdeal.nD Cert.AOutIdeal.τ).loc Cert.AOutIdeal.main_arg1)) →
    ∃ (v0 : (c : Dev Cert.AOutIdeal.nD) → Buf (Elt Ideal) ((c.tc : Thread Cert.AOutIdeal.nD Cert.AOutIdeal.τ).loc Cert.AOutIdeal.main_v0)),
      θ_run (Cert.AOutIdeal.defs (F := Ideal)) (onTc (τ := Cert.AOutIdeal.τ) (Cert.AOutIdeal.main (F := Ideal))) ⟨m, fun _ => 0, g⟩ (fun r => ∀ c : Dev Cert.AOutIdeal.nD,
          r.2.mem ((c.tc : Thread Cert.AOutIdeal.nD Cert.AOutIdeal.τ).loc Cert.AOutIdeal.main_v0) = v0 c
          ∧ r.2.mem ((c.tc : Thread Cert.AOutIdeal.nD Cert.AOutIdeal.τ).loc Cert.AOutIdeal.main_arg0) = m ((c.tc : Thread Cert.AOutIdeal.nD Cert.AOutIdeal.τ).loc Cert.AOutIdeal.main_arg0)
          ∧ r.2.mem ((c.tc : Thread Cert.AOutIdeal.nD Cert.AOutIdeal.τ).loc Cert.AOutIdeal.main_arg1) = m ((c.tc : Thread Cert.AOutIdeal.nD Cert.AOutIdeal.τ).loc Cert.AOutIdeal.main_arg1))
      ∧ θ_run (Cert.AOutRefIdeal.defs (F := Ideal)) (onTc (τ := Cert.AOutRefIdeal.τ) (Cert.AOutRefIdeal.main (F := Ideal))) ⟨m', fun _ => 0, g'⟩ (fun r => ∀ c : Dev Cert.AOutRefIdeal.nD,
          r.2.mem ((c.tc : Thread Cert.AOutRefIdeal.nD Cert.AOutRefIdeal.τ).loc Cert.AOutRefIdeal.main_v2) = v0 c
          ∧ r.2.mem ((c.tc : Thread Cert.AOutRefIdeal.nD Cert.AOutRefIdeal.τ).loc Cert.AOutRefIdeal.main_arg0) = m' ((c.tc : Thread Cert.AOutRefIdeal.nD Cert.AOutRefIdeal.τ).loc Cert.AOutRefIdeal.main_arg0)
          ∧ r.2.mem ((c.tc : Thread Cert.AOutRefIdeal.nD Cert.AOutRefIdeal.τ).loc Cert.AOutRefIdeal.main_arg1) = m' ((c.tc : Thread Cert.AOutRefIdeal.nD Cert.AOutRefIdeal.τ).loc Cert.AOutRefIdeal.main_arg1))

def preserves_AOutDw_AOutDwIdeal : Prop :=
  True

def algebraic_AOutDwIdeal_AOutDwRefIdeal [hAOutDwIdeal : Cert.AOutDwIdeal.Facts] [hAOutDwRefIdeal : Cert.AOutDwRefIdeal.Facts] : Prop :=
  ∀ (m : (ℓ : Loc Cert.AOutDwIdeal.nD Cert.AOutDwIdeal.τ Cert.AOutDwIdeal.sig) → Buf (Elt Ideal) ℓ) (g : Dev Cert.AOutDwIdeal.nD → PrngReg)
    (m' : (ℓ : Loc Cert.AOutDwRefIdeal.nD Cert.AOutDwRefIdeal.τ Cert.AOutDwRefIdeal.sig) → Buf (Elt Ideal) ℓ) (g' : Dev Cert.AOutDwRefIdeal.nD → PrngReg), Pre_AOutDwIdeal m →
    (∀ c : Dev Cert.AOutDwIdeal.nD,
      m' ((c.tc : Thread Cert.AOutDwRefIdeal.nD Cert.AOutDwRefIdeal.τ).loc Cert.AOutDwRefIdeal.main_arg0) = m ((c.tc : Thread Cert.AOutDwIdeal.nD Cert.AOutDwIdeal.τ).loc Cert.AOutDwIdeal.main_arg0)
      ∧ m' ((c.tc : Thread Cert.AOutDwRefIdeal.nD Cert.AOutDwRefIdeal.τ).loc Cert.AOutDwRefIdeal.main_arg1) = m ((c.tc : Thread Cert.AOutDwIdeal.nD Cert.AOutDwIdeal.τ).loc Cert.AOutDwIdeal.main_arg1)
      ∧ m' ((c.tc : Thread Cert.AOutDwRefIdeal.nD Cert.AOutDwRefIdeal.τ).loc Cert.AOutDwRefIdeal.main_arg2) = m ((c.tc : Thread Cert.AOutDwIdeal.nD Cert.AOutDwIdeal.τ).loc Cert.AOutDwIdeal.main_arg2)) →
    ∃ (v0 : (c : Dev Cert.AOutDwIdeal.nD) → Buf (Elt Ideal) ((c.tc : Thread Cert.AOutDwIdeal.nD Cert.AOutDwIdeal.τ).loc Cert.AOutDwIdeal.main_v0)),
      θ_run (Cert.AOutDwIdeal.defs (F := Ideal)) (onTc (τ := Cert.AOutDwIdeal.τ) (Cert.AOutDwIdeal.main (F := Ideal))) ⟨m, fun _ => 0, g⟩ (fun r => ∀ c : Dev Cert.AOutDwIdeal.nD,
          r.2.mem ((c.tc : Thread Cert.AOutDwIdeal.nD Cert.AOutDwIdeal.τ).loc Cert.AOutDwIdeal.main_v0) = v0 c
          ∧ r.2.mem ((c.tc : Thread Cert.AOutDwIdeal.nD Cert.AOutDwIdeal.τ).loc Cert.AOutDwIdeal.main_arg0) = m ((c.tc : Thread Cert.AOutDwIdeal.nD Cert.AOutDwIdeal.τ).loc Cert.AOutDwIdeal.main_arg0)
          ∧ r.2.mem ((c.tc : Thread Cert.AOutDwIdeal.nD Cert.AOutDwIdeal.τ).loc Cert.AOutDwIdeal.main_arg1) = m ((c.tc : Thread Cert.AOutDwIdeal.nD Cert.AOutDwIdeal.τ).loc Cert.AOutDwIdeal.main_arg1)
          ∧ r.2.mem ((c.tc : Thread Cert.AOutDwIdeal.nD Cert.AOutDwIdeal.τ).loc Cert.AOutDwIdeal.main_arg2) = m ((c.tc : Thread Cert.AOutDwIdeal.nD Cert.AOutDwIdeal.τ).loc Cert.AOutDwIdeal.main_arg2))
      ∧ θ_run (Cert.AOutDwRefIdeal.defs (F := Ideal)) (onTc (τ := Cert.AOutDwRefIdeal.τ) (Cert.AOutDwRefIdeal.main (F := Ideal))) ⟨m', fun _ => 0, g'⟩ (fun r => ∀ c : Dev Cert.AOutDwRefIdeal.nD,
          r.2.mem ((c.tc : Thread Cert.AOutDwRefIdeal.nD Cert.AOutDwRefIdeal.τ).loc Cert.AOutDwRefIdeal.main_v9) = v0 c
          ∧ r.2.mem ((c.tc : Thread Cert.AOutDwRefIdeal.nD Cert.AOutDwRefIdeal.τ).loc Cert.AOutDwRefIdeal.main_arg0) = m' ((c.tc : Thread Cert.AOutDwRefIdeal.nD Cert.AOutDwRefIdeal.τ).loc Cert.AOutDwRefIdeal.main_arg0)
          ∧ r.2.mem ((c.tc : Thread Cert.AOutDwRefIdeal.nD Cert.AOutDwRefIdeal.τ).loc Cert.AOutDwRefIdeal.main_arg1) = m' ((c.tc : Thread Cert.AOutDwRefIdeal.nD Cert.AOutDwRefIdeal.τ).loc Cert.AOutDwRefIdeal.main_arg1)
          ∧ r.2.mem ((c.tc : Thread Cert.AOutDwRefIdeal.nD Cert.AOutDwRefIdeal.τ).loc Cert.AOutDwRefIdeal.main_arg2) = m' ((c.tc : Thread Cert.AOutDwRefIdeal.nD Cert.AOutDwRefIdeal.τ).loc Cert.AOutDwRefIdeal.main_arg2))

def preserves_AOutDx_AOutDxIdeal : Prop :=
  True

def algebraic_AOutDxIdeal_AOutDxRefIdeal [hAOutDxIdeal : Cert.AOutDxIdeal.Facts] [hAOutDxRefIdeal : Cert.AOutDxRefIdeal.Facts] : Prop :=
  ∀ (m : (ℓ : Loc Cert.AOutDxIdeal.nD Cert.AOutDxIdeal.τ Cert.AOutDxIdeal.sig) → Buf (Elt Ideal) ℓ) (g : Dev Cert.AOutDxIdeal.nD → PrngReg)
    (m' : (ℓ : Loc Cert.AOutDxRefIdeal.nD Cert.AOutDxRefIdeal.τ Cert.AOutDxRefIdeal.sig) → Buf (Elt Ideal) ℓ) (g' : Dev Cert.AOutDxRefIdeal.nD → PrngReg), Pre_AOutDxIdeal m →
    (∀ c : Dev Cert.AOutDxIdeal.nD,
      m' ((c.tc : Thread Cert.AOutDxRefIdeal.nD Cert.AOutDxRefIdeal.τ).loc Cert.AOutDxRefIdeal.main_arg0) = m ((c.tc : Thread Cert.AOutDxIdeal.nD Cert.AOutDxIdeal.τ).loc Cert.AOutDxIdeal.main_arg0)
      ∧ m' ((c.tc : Thread Cert.AOutDxRefIdeal.nD Cert.AOutDxRefIdeal.τ).loc Cert.AOutDxRefIdeal.main_arg1) = m ((c.tc : Thread Cert.AOutDxIdeal.nD Cert.AOutDxIdeal.τ).loc Cert.AOutDxIdeal.main_arg1)) →
    ∃ (v0 : (c : Dev Cert.AOutDxIdeal.nD) → Buf (Elt Ideal) ((c.tc : Thread Cert.AOutDxIdeal.nD Cert.AOutDxIdeal.τ).loc Cert.AOutDxIdeal.main_v0)),
      θ_run (Cert.AOutDxIdeal.defs (F := Ideal)) (onTc (τ := Cert.AOutDxIdeal.τ) (Cert.AOutDxIdeal.main (F := Ideal))) ⟨m, fun _ => 0, g⟩ (fun r => ∀ c : Dev Cert.AOutDxIdeal.nD,
          r.2.mem ((c.tc : Thread Cert.AOutDxIdeal.nD Cert.AOutDxIdeal.τ).loc Cert.AOutDxIdeal.main_v0) = v0 c
          ∧ r.2.mem ((c.tc : Thread Cert.AOutDxIdeal.nD Cert.AOutDxIdeal.τ).loc Cert.AOutDxIdeal.main_arg0) = m ((c.tc : Thread Cert.AOutDxIdeal.nD Cert.AOutDxIdeal.τ).loc Cert.AOutDxIdeal.main_arg0)
          ∧ r.2.mem ((c.tc : Thread Cert.AOutDxIdeal.nD Cert.AOutDxIdeal.τ).loc Cert.AOutDxIdeal.main_arg1) = m ((c.tc : Thread Cert.AOutDxIdeal.nD Cert.AOutDxIdeal.τ).loc Cert.AOutDxIdeal.main_arg1))
      ∧ θ_run (Cert.AOutDxRefIdeal.defs (F := Ideal)) (onTc (τ := Cert.AOutDxRefIdeal.τ) (Cert.AOutDxRefIdeal.main (F := Ideal))) ⟨m', fun _ => 0, g'⟩ (fun r => ∀ c : Dev Cert.AOutDxRefIdeal.nD,
          r.2.mem ((c.tc : Thread Cert.AOutDxRefIdeal.nD Cert.AOutDxRefIdeal.τ).loc Cert.AOutDxRefIdeal.main_v5) = v0 c
          ∧ r.2.mem ((c.tc : Thread Cert.AOutDxRefIdeal.nD Cert.AOutDxRefIdeal.τ).loc Cert.AOutDxRefIdeal.main_arg0) = m' ((c.tc : Thread Cert.AOutDxRefIdeal.nD Cert.AOutDxRefIdeal.τ).loc Cert.AOutDxRefIdeal.main_arg0)
          ∧ r.2.mem ((c.tc : Thread Cert.AOutDxRefIdeal.nD Cert.AOutDxRefIdeal.τ).loc Cert.AOutDxRefIdeal.main_arg1) = m' ((c.tc : Thread Cert.AOutDxRefIdeal.nD Cert.AOutDxRefIdeal.τ).loc Cert.AOutDxRefIdeal.main_arg1))

def preserves_AInDw_AInDwIdeal : Prop :=
  True

def algebraic_AInDwIdeal_AInDwRefIdeal [hAInDwIdeal : Cert.AInDwIdeal.Facts] [hAInDwRefIdeal : Cert.AInDwRefIdeal.Facts] : Prop :=
  ∀ (m : (ℓ : Loc Cert.AInDwIdeal.nD Cert.AInDwIdeal.τ Cert.AInDwIdeal.sig) → Buf (Elt Ideal) ℓ) (g : Dev Cert.AInDwIdeal.nD → PrngReg)
    (m' : (ℓ : Loc Cert.AInDwRefIdeal.nD Cert.AInDwRefIdeal.τ Cert.AInDwRefIdeal.sig) → Buf (Elt Ideal) ℓ) (g' : Dev Cert.AInDwRefIdeal.nD → PrngReg), Pre_AInDwIdeal m →
    (∀ c : Dev Cert.AInDwIdeal.nD,
      m' ((c.tc : Thread Cert.AInDwRefIdeal.nD Cert.AInDwRefIdeal.τ).loc Cert.AInDwRefIdeal.main_arg0) = m ((c.tc : Thread Cert.AInDwIdeal.nD Cert.AInDwIdeal.τ).loc Cert.AInDwIdeal.main_arg0)
      ∧ m' ((c.tc : Thread Cert.AInDwRefIdeal.nD Cert.AInDwRefIdeal.τ).loc Cert.AInDwRefIdeal.main_arg1) = m ((c.tc : Thread Cert.AInDwIdeal.nD Cert.AInDwIdeal.τ).loc Cert.AInDwIdeal.main_arg1)
      ∧ m' ((c.tc : Thread Cert.AInDwRefIdeal.nD Cert.AInDwRefIdeal.τ).loc Cert.AInDwRefIdeal.main_arg2) = m ((c.tc : Thread Cert.AInDwIdeal.nD Cert.AInDwIdeal.τ).loc Cert.AInDwIdeal.main_arg2)) →
    ∃ (v0 : (c : Dev Cert.AInDwIdeal.nD) → Buf (Elt Ideal) ((c.tc : Thread Cert.AInDwIdeal.nD Cert.AInDwIdeal.τ).loc Cert.AInDwIdeal.main_v0)),
      θ_run (Cert.AInDwIdeal.defs (F := Ideal)) (onTc (τ := Cert.AInDwIdeal.τ) (Cert.AInDwIdeal.main (F := Ideal))) ⟨m, fun _ => 0, g⟩ (fun r => ∀ c : Dev Cert.AInDwIdeal.nD,
          r.2.mem ((c.tc : Thread Cert.AInDwIdeal.nD Cert.AInDwIdeal.τ).loc Cert.AInDwIdeal.main_v0) = v0 c
          ∧ r.2.mem ((c.tc : Thread Cert.AInDwIdeal.nD Cert.AInDwIdeal.τ).loc Cert.AInDwIdeal.main_arg0) = m ((c.tc : Thread Cert.AInDwIdeal.nD Cert.AInDwIdeal.τ).loc Cert.AInDwIdeal.main_arg0)
          ∧ r.2.mem ((c.tc : Thread Cert.AInDwIdeal.nD Cert.AInDwIdeal.τ).loc Cert.AInDwIdeal.main_arg1) = m ((c.tc : Thread Cert.AInDwIdeal.nD Cert.AInDwIdeal.τ).loc Cert.AInDwIdeal.main_arg1)
          ∧ r.2.mem ((c.tc : Thread Cert.AInDwIdeal.nD Cert.AInDwIdeal.τ).loc Cert.AInDwIdeal.main_arg2) = m ((c.tc : Thread Cert.AInDwIdeal.nD Cert.AInDwIdeal.τ).loc Cert.AInDwIdeal.main_arg2))
      ∧ θ_run (Cert.AInDwRefIdeal.defs (F := Ideal)) (onTc (τ := Cert.AInDwRefIdeal.τ) (Cert.AInDwRefIdeal.main (F := Ideal))) ⟨m', fun _ => 0, g'⟩ (fun r => ∀ c : Dev Cert.AInDwRefIdeal.nD,
          r.2.mem ((c.tc : Thread Cert.AInDwRefIdeal.nD Cert.AInDwRefIdeal.τ).loc Cert.AInDwRefIdeal.main_v9) = v0 c
          ∧ r.2.mem ((c.tc : Thread Cert.AInDwRefIdeal.nD Cert.AInDwRefIdeal.τ).loc Cert.AInDwRefIdeal.main_arg0) = m' ((c.tc : Thread Cert.AInDwRefIdeal.nD Cert.AInDwRefIdeal.τ).loc Cert.AInDwRefIdeal.main_arg0)
          ∧ r.2.mem ((c.tc : Thread Cert.AInDwRefIdeal.nD Cert.AInDwRefIdeal.τ).loc Cert.AInDwRefIdeal.main_arg1) = m' ((c.tc : Thread Cert.AInDwRefIdeal.nD Cert.AInDwRefIdeal.τ).loc Cert.AInDwRefIdeal.main_arg1)
          ∧ r.2.mem ((c.tc : Thread Cert.AInDwRefIdeal.nD Cert.AInDwRefIdeal.τ).loc Cert.AInDwRefIdeal.main_arg2) = m' ((c.tc : Thread Cert.AInDwRefIdeal.nD Cert.AInDwRefIdeal.τ).loc Cert.AInDwRefIdeal.main_arg2))

def preserves_AInDx_AInDxIdeal : Prop :=
  True

def algebraic_AInDxIdeal_AInDxRefIdeal [hAInDxIdeal : Cert.AInDxIdeal.Facts] [hAInDxRefIdeal : Cert.AInDxRefIdeal.Facts] : Prop :=
  ∀ (m : (ℓ : Loc Cert.AInDxIdeal.nD Cert.AInDxIdeal.τ Cert.AInDxIdeal.sig) → Buf (Elt Ideal) ℓ) (g : Dev Cert.AInDxIdeal.nD → PrngReg)
    (m' : (ℓ : Loc Cert.AInDxRefIdeal.nD Cert.AInDxRefIdeal.τ Cert.AInDxRefIdeal.sig) → Buf (Elt Ideal) ℓ) (g' : Dev Cert.AInDxRefIdeal.nD → PrngReg), Pre_AInDxIdeal m →
    (∀ c : Dev Cert.AInDxIdeal.nD,
      m' ((c.tc : Thread Cert.AInDxRefIdeal.nD Cert.AInDxRefIdeal.τ).loc Cert.AInDxRefIdeal.main_arg0) = m ((c.tc : Thread Cert.AInDxIdeal.nD Cert.AInDxIdeal.τ).loc Cert.AInDxIdeal.main_arg0)
      ∧ m' ((c.tc : Thread Cert.AInDxRefIdeal.nD Cert.AInDxRefIdeal.τ).loc Cert.AInDxRefIdeal.main_arg1) = m ((c.tc : Thread Cert.AInDxIdeal.nD Cert.AInDxIdeal.τ).loc Cert.AInDxIdeal.main_arg1)
      ∧ m' ((c.tc : Thread Cert.AInDxRefIdeal.nD Cert.AInDxRefIdeal.τ).loc Cert.AInDxRefIdeal.main_arg2) = m ((c.tc : Thread Cert.AInDxIdeal.nD Cert.AInDxIdeal.τ).loc Cert.AInDxIdeal.main_arg2)) →
    ∃ (v0 : (c : Dev Cert.AInDxIdeal.nD) → Buf (Elt Ideal) ((c.tc : Thread Cert.AInDxIdeal.nD Cert.AInDxIdeal.τ).loc Cert.AInDxIdeal.main_v0)),
      θ_run (Cert.AInDxIdeal.defs (F := Ideal)) (onTc (τ := Cert.AInDxIdeal.τ) (Cert.AInDxIdeal.main (F := Ideal))) ⟨m, fun _ => 0, g⟩ (fun r => ∀ c : Dev Cert.AInDxIdeal.nD,
          r.2.mem ((c.tc : Thread Cert.AInDxIdeal.nD Cert.AInDxIdeal.τ).loc Cert.AInDxIdeal.main_v0) = v0 c
          ∧ r.2.mem ((c.tc : Thread Cert.AInDxIdeal.nD Cert.AInDxIdeal.τ).loc Cert.AInDxIdeal.main_arg0) = m ((c.tc : Thread Cert.AInDxIdeal.nD Cert.AInDxIdeal.τ).loc Cert.AInDxIdeal.main_arg0)
          ∧ r.2.mem ((c.tc : Thread Cert.AInDxIdeal.nD Cert.AInDxIdeal.τ).loc Cert.AInDxIdeal.main_arg1) = m ((c.tc : Thread Cert.AInDxIdeal.nD Cert.AInDxIdeal.τ).loc Cert.AInDxIdeal.main_arg1)
          ∧ r.2.mem ((c.tc : Thread Cert.AInDxIdeal.nD Cert.AInDxIdeal.τ).loc Cert.AInDxIdeal.main_arg2) = m ((c.tc : Thread Cert.AInDxIdeal.nD Cert.AInDxIdeal.τ).loc Cert.AInDxIdeal.main_arg2))
      ∧ θ_run (Cert.AInDxRefIdeal.defs (F := Ideal)) (onTc (τ := Cert.AInDxRefIdeal.τ) (Cert.AInDxRefIdeal.main (F := Ideal))) ⟨m', fun _ => 0, g'⟩ (fun r => ∀ c : Dev Cert.AInDxRefIdeal.nD,
          r.2.mem ((c.tc : Thread Cert.AInDxRefIdeal.nD Cert.AInDxRefIdeal.τ).loc Cert.AInDxRefIdeal.main_v9) = v0 c
          ∧ r.2.mem ((c.tc : Thread Cert.AInDxRefIdeal.nD Cert.AInDxRefIdeal.τ).loc Cert.AInDxRefIdeal.main_arg0) = m' ((c.tc : Thread Cert.AInDxRefIdeal.nD Cert.AInDxRefIdeal.τ).loc Cert.AInDxRefIdeal.main_arg0)
          ∧ r.2.mem ((c.tc : Thread Cert.AInDxRefIdeal.nD Cert.AInDxRefIdeal.τ).loc Cert.AInDxRefIdeal.main_arg1) = m' ((c.tc : Thread Cert.AInDxRefIdeal.nD Cert.AInDxRefIdeal.τ).loc Cert.AInDxRefIdeal.main_arg1)
          ∧ r.2.mem ((c.tc : Thread Cert.AInDxRefIdeal.nD Cert.AInDxRefIdeal.τ).loc Cert.AInDxRefIdeal.main_arg2) = m' ((c.tc : Thread Cert.AInDxRefIdeal.nD Cert.AInDxRefIdeal.τ).loc Cert.AInDxRefIdeal.main_arg2))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v0)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v0) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v3) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1))

def preserves_KvDw_KvDwIdeal : Prop :=
  True

def algebraic_KvDwIdeal_KvDwRefIdeal [hKvDwIdeal : Cert.KvDwIdeal.Facts] [hKvDwRefIdeal : Cert.KvDwRefIdeal.Facts] : Prop :=
  ∀ (m : (ℓ : Loc Cert.KvDwIdeal.nD Cert.KvDwIdeal.τ Cert.KvDwIdeal.sig) → Buf (Elt Ideal) ℓ) (g : Dev Cert.KvDwIdeal.nD → PrngReg)
    (m' : (ℓ : Loc Cert.KvDwRefIdeal.nD Cert.KvDwRefIdeal.τ Cert.KvDwRefIdeal.sig) → Buf (Elt Ideal) ℓ) (g' : Dev Cert.KvDwRefIdeal.nD → PrngReg), Pre_KvDwIdeal m →
    (∀ c : Dev Cert.KvDwIdeal.nD,
      m' ((c.tc : Thread Cert.KvDwRefIdeal.nD Cert.KvDwRefIdeal.τ).loc Cert.KvDwRefIdeal.main_arg0) = m ((c.tc : Thread Cert.KvDwIdeal.nD Cert.KvDwIdeal.τ).loc Cert.KvDwIdeal.main_arg0)
      ∧ m' ((c.tc : Thread Cert.KvDwRefIdeal.nD Cert.KvDwRefIdeal.τ).loc Cert.KvDwRefIdeal.main_arg1) = m ((c.tc : Thread Cert.KvDwIdeal.nD Cert.KvDwIdeal.τ).loc Cert.KvDwIdeal.main_arg1)) →
    ∃ (v0 : (c : Dev Cert.KvDwIdeal.nD) → Buf (Elt Ideal) ((c.tc : Thread Cert.KvDwIdeal.nD Cert.KvDwIdeal.τ).loc Cert.KvDwIdeal.main_v0)),
      θ_run (Cert.KvDwIdeal.defs (F := Ideal)) (onTc (τ := Cert.KvDwIdeal.τ) (Cert.KvDwIdeal.main (F := Ideal))) ⟨m, fun _ => 0, g⟩ (fun r => ∀ c : Dev Cert.KvDwIdeal.nD,
          r.2.mem ((c.tc : Thread Cert.KvDwIdeal.nD Cert.KvDwIdeal.τ).loc Cert.KvDwIdeal.main_v0) = v0 c
          ∧ r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
          ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ θ_run (Cert.KvDwRefIdeal.defs (F := Ideal)) (onTc (τ := Cert.KvDwRefIdeal.τ) (Cert.KvDwRefIdeal.main (F := Ideal))) ⟨m', fun _ => 0, g'⟩ (fun r => ∀ c : Dev Cert.KvDwRefIdeal.nD,
          r.2.mem ((c.tc : Thread Cert.KvDwRefIdeal.nD Cert.KvDwRefIdeal.τ).loc Cert.KvDwRefIdeal.main_v7) = v0 c
          ∧ r.2.mem ((c.tc : Thread Cert.KvDwRefIdeal.nD Cert.KvDwRefIdeal.τ).loc Cert.KvDwRefIdeal.main_arg0) = m' ((c.tc : Thread Cert.KvDwRefIdeal.nD Cert.KvDwRefIdeal.τ).loc Cert.KvDwRefIdeal.main_arg0)
          ∧ r.2.mem ((c.tc : Thread Cert.KvDwRefIdeal.nD Cert.KvDwRefIdeal.τ).loc Cert.KvDwRefIdeal.main_arg1) = m' ((c.tc : Thread Cert.KvDwRefIdeal.nD Cert.KvDwRefIdeal.τ).loc Cert.KvDwRefIdeal.main_arg1))

def preserves_KvDx_KvDxIdeal : Prop :=
  True

def algebraic_KvDxIdeal_KvDxRefIdeal [hKvDxIdeal : Cert.KvDxIdeal.Facts] [hKvDxRefIdeal : Cert.KvDxRefIdeal.Facts] : Prop :=
  ∀ (m : (ℓ : Loc Cert.KvDxIdeal.nD Cert.KvDxIdeal.τ Cert.KvDxIdeal.sig) → Buf (Elt Ideal) ℓ) (g : Dev Cert.KvDxIdeal.nD → PrngReg)
    (m' : (ℓ : Loc Cert.KvDxRefIdeal.nD Cert.KvDxRefIdeal.τ Cert.KvDxRefIdeal.sig) → Buf (Elt Ideal) ℓ) (g' : Dev Cert.KvDxRefIdeal.nD → PrngReg), Pre_KvDxIdeal m →
    (∀ c : Dev Cert.KvDxIdeal.nD,
      m' ((c.tc : Thread Cert.KvDxRefIdeal.nD Cert.KvDxRefIdeal.τ).loc Cert.KvDxRefIdeal.main_arg0) = m ((c.tc : Thread Cert.KvDxIdeal.nD Cert.KvDxIdeal.τ).loc Cert.KvDxIdeal.main_arg0)
      ∧ m' ((c.tc : Thread Cert.KvDxRefIdeal.nD Cert.KvDxRefIdeal.τ).loc Cert.KvDxRefIdeal.main_arg1) = m ((c.tc : Thread Cert.KvDxIdeal.nD Cert.KvDxIdeal.τ).loc Cert.KvDxIdeal.main_arg1)
      ∧ m' ((c.tc : Thread Cert.KvDxRefIdeal.nD Cert.KvDxRefIdeal.τ).loc Cert.KvDxRefIdeal.main_arg2) = m ((c.tc : Thread Cert.KvDxIdeal.nD Cert.KvDxIdeal.τ).loc Cert.KvDxIdeal.main_arg2)) →
    ∃ (v0 : (c : Dev Cert.KvDxIdeal.nD) → Buf (Elt Ideal) ((c.tc : Thread Cert.KvDxIdeal.nD Cert.KvDxIdeal.τ).loc Cert.KvDxIdeal.main_v0)),
      θ_run (Cert.KvDxIdeal.defs (F := Ideal)) (onTc (τ := Cert.KvDxIdeal.τ) (Cert.KvDxIdeal.main (F := Ideal))) ⟨m, fun _ => 0, g⟩ (fun r => ∀ c : Dev Cert.KvDxIdeal.nD,
          r.2.mem ((c.tc : Thread Cert.KvDxIdeal.nD Cert.KvDxIdeal.τ).loc Cert.KvDxIdeal.main_v0) = v0 c
          ∧ r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
          ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1)
          ∧ r.2.mem ((c.tc : Thread Cert.KvDxIdeal.nD Cert.KvDxIdeal.τ).loc Cert.KvDxIdeal.main_arg2) = m ((c.tc : Thread Cert.KvDxIdeal.nD Cert.KvDxIdeal.τ).loc Cert.KvDxIdeal.main_arg2))
      ∧ θ_run (Cert.KvDxRefIdeal.defs (F := Ideal)) (onTc (τ := Cert.KvDxRefIdeal.τ) (Cert.KvDxRefIdeal.main (F := Ideal))) ⟨m', fun _ => 0, g'⟩ (fun r => ∀ c : Dev Cert.KvDxRefIdeal.nD,
          r.2.mem ((c.tc : Thread Cert.KvDxRefIdeal.nD Cert.KvDxRefIdeal.τ).loc Cert.KvDxRefIdeal.main_v5) = v0 c
          ∧ r.2.mem ((c.tc : Thread Cert.KvDxRefIdeal.nD Cert.KvDxRefIdeal.τ).loc Cert.KvDxRefIdeal.main_arg0) = m' ((c.tc : Thread Cert.KvDxRefIdeal.nD Cert.KvDxRefIdeal.τ).loc Cert.KvDxRefIdeal.main_arg0)
          ∧ r.2.mem ((c.tc : Thread Cert.KvDxRefIdeal.nD Cert.KvDxRefIdeal.τ).loc Cert.KvDxRefIdeal.main_arg1) = m' ((c.tc : Thread Cert.KvDxRefIdeal.nD Cert.KvDxRefIdeal.τ).loc Cert.KvDxRefIdeal.main_arg1)
          ∧ r.2.mem ((c.tc : Thread Cert.KvDxRefIdeal.nD Cert.KvDxRefIdeal.τ).loc Cert.KvDxRefIdeal.main_arg2) = m' ((c.tc : Thread Cert.KvDxRefIdeal.nD Cert.KvDxRefIdeal.τ).loc Cert.KvDxRefIdeal.main_arg2))

def preserves_BQ_BQIdeal : Prop :=
  True

def algebraic_BQIdeal_BQRefIdeal [hBQIdeal : Cert.BQIdeal.Facts] [hBQRefIdeal : Cert.BQRefIdeal.Facts] : Prop :=
  ∀ (m : (ℓ : Loc Cert.BQIdeal.nD Cert.BQIdeal.τ Cert.BQIdeal.sig) → Buf (Elt Ideal) ℓ) (g : Dev Cert.BQIdeal.nD → PrngReg)
    (m' : (ℓ : Loc Cert.BQRefIdeal.nD Cert.BQRefIdeal.τ Cert.BQRefIdeal.sig) → Buf (Elt Ideal) ℓ) (g' : Dev Cert.BQRefIdeal.nD → PrngReg), Pre_BQIdeal m →
    (∀ c : Dev Cert.BQIdeal.nD,
      m' ((c.tc : Thread Cert.BQRefIdeal.nD Cert.BQRefIdeal.τ).loc Cert.BQRefIdeal.main_arg0) = m ((c.tc : Thread Cert.BQIdeal.nD Cert.BQIdeal.τ).loc Cert.BQIdeal.main_arg0)
      ∧ m' ((c.tc : Thread Cert.BQRefIdeal.nD Cert.BQRefIdeal.τ).loc Cert.BQRefIdeal.main_arg1) = m ((c.tc : Thread Cert.BQIdeal.nD Cert.BQIdeal.τ).loc Cert.BQIdeal.main_arg1)) →
    ∃ (v0 : (c : Dev Cert.BQIdeal.nD) → Buf (Elt Ideal) ((c.tc : Thread Cert.BQIdeal.nD Cert.BQIdeal.τ).loc Cert.BQIdeal.main_v0)),
      θ_run (Cert.BQIdeal.defs (F := Ideal)) (onTc (τ := Cert.BQIdeal.τ) (Cert.BQIdeal.main (F := Ideal))) ⟨m, fun _ => 0, g⟩ (fun r => ∀ c : Dev Cert.BQIdeal.nD,
          r.2.mem ((c.tc : Thread Cert.BQIdeal.nD Cert.BQIdeal.τ).loc Cert.BQIdeal.main_v0) = v0 c
          ∧ r.2.mem ((c.tc : Thread Cert.BQIdeal.nD Cert.BQIdeal.τ).loc Cert.BQIdeal.main_arg0) = m ((c.tc : Thread Cert.BQIdeal.nD Cert.BQIdeal.τ).loc Cert.BQIdeal.main_arg0)
          ∧ r.2.mem ((c.tc : Thread Cert.BQIdeal.nD Cert.BQIdeal.τ).loc Cert.BQIdeal.main_arg1) = m ((c.tc : Thread Cert.BQIdeal.nD Cert.BQIdeal.τ).loc Cert.BQIdeal.main_arg1))
      ∧ θ_run (Cert.BQRefIdeal.defs (F := Ideal)) (onTc (τ := Cert.BQRefIdeal.τ) (Cert.BQRefIdeal.main (F := Ideal))) ⟨m', fun _ => 0, g'⟩ (fun r => ∀ c : Dev Cert.BQRefIdeal.nD,
          r.2.mem ((c.tc : Thread Cert.BQRefIdeal.nD Cert.BQRefIdeal.τ).loc Cert.BQRefIdeal.main_v3) = v0 c
          ∧ r.2.mem ((c.tc : Thread Cert.BQRefIdeal.nD Cert.BQRefIdeal.τ).loc Cert.BQRefIdeal.main_arg0) = m' ((c.tc : Thread Cert.BQRefIdeal.nD Cert.BQRefIdeal.τ).loc Cert.BQRefIdeal.main_arg0)
          ∧ r.2.mem ((c.tc : Thread Cert.BQRefIdeal.nD Cert.BQRefIdeal.τ).loc Cert.BQRefIdeal.main_arg1) = m' ((c.tc : Thread Cert.BQRefIdeal.nD Cert.BQRefIdeal.τ).loc Cert.BQRefIdeal.main_arg1))

def preserves_BQDw_BQDwIdeal : Prop :=
  True

def algebraic_BQDwIdeal_BQDwRefIdeal [hBQDwIdeal : Cert.BQDwIdeal.Facts] [hBQDwRefIdeal : Cert.BQDwRefIdeal.Facts] : Prop :=
  ∀ (m : (ℓ : Loc Cert.BQDwIdeal.nD Cert.BQDwIdeal.τ Cert.BQDwIdeal.sig) → Buf (Elt Ideal) ℓ) (g : Dev Cert.BQDwIdeal.nD → PrngReg)
    (m' : (ℓ : Loc Cert.BQDwRefIdeal.nD Cert.BQDwRefIdeal.τ Cert.BQDwRefIdeal.sig) → Buf (Elt Ideal) ℓ) (g' : Dev Cert.BQDwRefIdeal.nD → PrngReg), Pre_BQDwIdeal m →
    (∀ c : Dev Cert.BQDwIdeal.nD,
      m' ((c.tc : Thread Cert.BQDwRefIdeal.nD Cert.BQDwRefIdeal.τ).loc Cert.BQDwRefIdeal.main_arg0) = m ((c.tc : Thread Cert.BQDwIdeal.nD Cert.BQDwIdeal.τ).loc Cert.BQDwIdeal.main_arg0)
      ∧ m' ((c.tc : Thread Cert.BQDwRefIdeal.nD Cert.BQDwRefIdeal.τ).loc Cert.BQDwRefIdeal.main_arg1) = m ((c.tc : Thread Cert.BQDwIdeal.nD Cert.BQDwIdeal.τ).loc Cert.BQDwIdeal.main_arg1)
      ∧ m' ((c.tc : Thread Cert.BQDwRefIdeal.nD Cert.BQDwRefIdeal.τ).loc Cert.BQDwRefIdeal.main_arg2) = m ((c.tc : Thread Cert.BQDwIdeal.nD Cert.BQDwIdeal.τ).loc Cert.BQDwIdeal.main_arg2)) →
    ∃ (v0 : (c : Dev Cert.BQDwIdeal.nD) → Buf (Elt Ideal) ((c.tc : Thread Cert.BQDwIdeal.nD Cert.BQDwIdeal.τ).loc Cert.BQDwIdeal.main_v0)),
      θ_run (Cert.BQDwIdeal.defs (F := Ideal)) (onTc (τ := Cert.BQDwIdeal.τ) (Cert.BQDwIdeal.main (F := Ideal))) ⟨m, fun _ => 0, g⟩ (fun r => ∀ c : Dev Cert.BQDwIdeal.nD,
          r.2.mem ((c.tc : Thread Cert.BQDwIdeal.nD Cert.BQDwIdeal.τ).loc Cert.BQDwIdeal.main_v0) = v0 c
          ∧ r.2.mem ((c.tc : Thread Cert.BQDwIdeal.nD Cert.BQDwIdeal.τ).loc Cert.BQDwIdeal.main_arg0) = m ((c.tc : Thread Cert.BQDwIdeal.nD Cert.BQDwIdeal.τ).loc Cert.BQDwIdeal.main_arg0)
          ∧ r.2.mem ((c.tc : Thread Cert.BQDwIdeal.nD Cert.BQDwIdeal.τ).loc Cert.BQDwIdeal.main_arg1) = m ((c.tc : Thread Cert.BQDwIdeal.nD Cert.BQDwIdeal.τ).loc Cert.BQDwIdeal.main_arg1)
          ∧ r.2.mem ((c.tc : Thread Cert.BQDwIdeal.nD Cert.BQDwIdeal.τ).loc Cert.BQDwIdeal.main_arg2) = m ((c.tc : Thread Cert.BQDwIdeal.nD Cert.BQDwIdeal.τ).loc Cert.BQDwIdeal.main_arg2))
      ∧ θ_run (Cert.BQDwRefIdeal.defs (F := Ideal)) (onTc (τ := Cert.BQDwRefIdeal.τ) (Cert.BQDwRefIdeal.main (F := Ideal))) ⟨m', fun _ => 0, g'⟩ (fun r => ∀ c : Dev Cert.BQDwRefIdeal.nD,
          r.2.mem ((c.tc : Thread Cert.BQDwRefIdeal.nD Cert.BQDwRefIdeal.τ).loc Cert.BQDwRefIdeal.main_v9) = v0 c
          ∧ r.2.mem ((c.tc : Thread Cert.BQDwRefIdeal.nD Cert.BQDwRefIdeal.τ).loc Cert.BQDwRefIdeal.main_arg0) = m' ((c.tc : Thread Cert.BQDwRefIdeal.nD Cert.BQDwRefIdeal.τ).loc Cert.BQDwRefIdeal.main_arg0)
          ∧ r.2.mem ((c.tc : Thread Cert.BQDwRefIdeal.nD Cert.BQDwRefIdeal.τ).loc Cert.BQDwRefIdeal.main_arg1) = m' ((c.tc : Thread Cert.BQDwRefIdeal.nD Cert.BQDwRefIdeal.τ).loc Cert.BQDwRefIdeal.main_arg1)
          ∧ r.2.mem ((c.tc : Thread Cert.BQDwRefIdeal.nD Cert.BQDwRefIdeal.τ).loc Cert.BQDwRefIdeal.main_arg2) = m' ((c.tc : Thread Cert.BQDwRefIdeal.nD Cert.BQDwRefIdeal.τ).loc Cert.BQDwRefIdeal.main_arg2))

def preserves_BQDx_BQDxIdeal : Prop :=
  True

def algebraic_BQDxIdeal_BQDxRefIdeal [hBQDxIdeal : Cert.BQDxIdeal.Facts] [hBQDxRefIdeal : Cert.BQDxRefIdeal.Facts] : Prop :=
  ∀ (m : (ℓ : Loc Cert.BQDxIdeal.nD Cert.BQDxIdeal.τ Cert.BQDxIdeal.sig) → Buf (Elt Ideal) ℓ) (g : Dev Cert.BQDxIdeal.nD → PrngReg)
    (m' : (ℓ : Loc Cert.BQDxRefIdeal.nD Cert.BQDxRefIdeal.τ Cert.BQDxRefIdeal.sig) → Buf (Elt Ideal) ℓ) (g' : Dev Cert.BQDxRefIdeal.nD → PrngReg), Pre_BQDxIdeal m →
    (∀ c : Dev Cert.BQDxIdeal.nD,
      m' ((c.tc : Thread Cert.BQDxRefIdeal.nD Cert.BQDxRefIdeal.τ).loc Cert.BQDxRefIdeal.main_arg0) = m ((c.tc : Thread Cert.BQDxIdeal.nD Cert.BQDxIdeal.τ).loc Cert.BQDxIdeal.main_arg0)
      ∧ m' ((c.tc : Thread Cert.BQDxRefIdeal.nD Cert.BQDxRefIdeal.τ).loc Cert.BQDxRefIdeal.main_arg1) = m ((c.tc : Thread Cert.BQDxIdeal.nD Cert.BQDxIdeal.τ).loc Cert.BQDxIdeal.main_arg1)
      ∧ m' ((c.tc : Thread Cert.BQDxRefIdeal.nD Cert.BQDxRefIdeal.τ).loc Cert.BQDxRefIdeal.main_arg2) = m ((c.tc : Thread Cert.BQDxIdeal.nD Cert.BQDxIdeal.τ).loc Cert.BQDxIdeal.main_arg2)) →
    ∃ (v0 : (c : Dev Cert.BQDxIdeal.nD) → Buf (Elt Ideal) ((c.tc : Thread Cert.BQDxIdeal.nD Cert.BQDxIdeal.τ).loc Cert.BQDxIdeal.main_v0)),
      θ_run (Cert.BQDxIdeal.defs (F := Ideal)) (onTc (τ := Cert.BQDxIdeal.τ) (Cert.BQDxIdeal.main (F := Ideal))) ⟨m, fun _ => 0, g⟩ (fun r => ∀ c : Dev Cert.BQDxIdeal.nD,
          r.2.mem ((c.tc : Thread Cert.BQDxIdeal.nD Cert.BQDxIdeal.τ).loc Cert.BQDxIdeal.main_v0) = v0 c
          ∧ r.2.mem ((c.tc : Thread Cert.BQDxIdeal.nD Cert.BQDxIdeal.τ).loc Cert.BQDxIdeal.main_arg0) = m ((c.tc : Thread Cert.BQDxIdeal.nD Cert.BQDxIdeal.τ).loc Cert.BQDxIdeal.main_arg0)
          ∧ r.2.mem ((c.tc : Thread Cert.BQDxIdeal.nD Cert.BQDxIdeal.τ).loc Cert.BQDxIdeal.main_arg1) = m ((c.tc : Thread Cert.BQDxIdeal.nD Cert.BQDxIdeal.τ).loc Cert.BQDxIdeal.main_arg1)
          ∧ r.2.mem ((c.tc : Thread Cert.BQDxIdeal.nD Cert.BQDxIdeal.τ).loc Cert.BQDxIdeal.main_arg2) = m ((c.tc : Thread Cert.BQDxIdeal.nD Cert.BQDxIdeal.τ).loc Cert.BQDxIdeal.main_arg2))
      ∧ θ_run (Cert.BQDxRefIdeal.defs (F := Ideal)) (onTc (τ := Cert.BQDxRefIdeal.τ) (Cert.BQDxRefIdeal.main (F := Ideal))) ⟨m', fun _ => 0, g'⟩ (fun r => ∀ c : Dev Cert.BQDxRefIdeal.nD,
          r.2.mem ((c.tc : Thread Cert.BQDxRefIdeal.nD Cert.BQDxRefIdeal.τ).loc Cert.BQDxRefIdeal.main_v9) = v0 c
          ∧ r.2.mem ((c.tc : Thread Cert.BQDxRefIdeal.nD Cert.BQDxRefIdeal.τ).loc Cert.BQDxRefIdeal.main_arg0) = m' ((c.tc : Thread Cert.BQDxRefIdeal.nD Cert.BQDxRefIdeal.τ).loc Cert.BQDxRefIdeal.main_arg0)
          ∧ r.2.mem ((c.tc : Thread Cert.BQDxRefIdeal.nD Cert.BQDxRefIdeal.τ).loc Cert.BQDxRefIdeal.main_arg1) = m' ((c.tc : Thread Cert.BQDxRefIdeal.nD Cert.BQDxRefIdeal.τ).loc Cert.BQDxRefIdeal.main_arg1)
          ∧ r.2.mem ((c.tc : Thread Cert.BQDxRefIdeal.nD Cert.BQDxRefIdeal.τ).loc Cert.BQDxRefIdeal.main_arg2) = m' ((c.tc : Thread Cert.BQDxRefIdeal.nD Cert.BQDxRefIdeal.τ).loc Cert.BQDxRefIdeal.main_arg2))

def preserves_BO_BOIdeal : Prop :=
  True

def algebraic_BOIdeal_BORefIdeal [hBOIdeal : Cert.BOIdeal.Facts] [hBORefIdeal : Cert.BORefIdeal.Facts] : Prop :=
  ∀ (m : (ℓ : Loc Cert.BOIdeal.nD Cert.BOIdeal.τ Cert.BOIdeal.sig) → Buf (Elt Ideal) ℓ) (g : Dev Cert.BOIdeal.nD → PrngReg)
    (m' : (ℓ : Loc Cert.BORefIdeal.nD Cert.BORefIdeal.τ Cert.BORefIdeal.sig) → Buf (Elt Ideal) ℓ) (g' : Dev Cert.BORefIdeal.nD → PrngReg), Pre_BOIdeal m →
    (∀ c : Dev Cert.BOIdeal.nD,
      m' ((c.tc : Thread Cert.BORefIdeal.nD Cert.BORefIdeal.τ).loc Cert.BORefIdeal.main_arg0) = m ((c.tc : Thread Cert.BOIdeal.nD Cert.BOIdeal.τ).loc Cert.BOIdeal.main_arg0)
      ∧ m' ((c.tc : Thread Cert.BORefIdeal.nD Cert.BORefIdeal.τ).loc Cert.BORefIdeal.main_arg1) = m ((c.tc : Thread Cert.BOIdeal.nD Cert.BOIdeal.τ).loc Cert.BOIdeal.main_arg1)) →
    ∃ (v0 : (c : Dev Cert.BOIdeal.nD) → Buf (Elt Ideal) ((c.tc : Thread Cert.BOIdeal.nD Cert.BOIdeal.τ).loc Cert.BOIdeal.main_v0)),
      θ_run (Cert.BOIdeal.defs (F := Ideal)) (onTc (τ := Cert.BOIdeal.τ) (Cert.BOIdeal.main (F := Ideal))) ⟨m, fun _ => 0, g⟩ (fun r => ∀ c : Dev Cert.BOIdeal.nD,
          r.2.mem ((c.tc : Thread Cert.BOIdeal.nD Cert.BOIdeal.τ).loc Cert.BOIdeal.main_v0) = v0 c
          ∧ r.2.mem ((c.tc : Thread Cert.BOIdeal.nD Cert.BOIdeal.τ).loc Cert.BOIdeal.main_arg0) = m ((c.tc : Thread Cert.BOIdeal.nD Cert.BOIdeal.τ).loc Cert.BOIdeal.main_arg0)
          ∧ r.2.mem ((c.tc : Thread Cert.BOIdeal.nD Cert.BOIdeal.τ).loc Cert.BOIdeal.main_arg1) = m ((c.tc : Thread Cert.BOIdeal.nD Cert.BOIdeal.τ).loc Cert.BOIdeal.main_arg1))
      ∧ θ_run (Cert.BORefIdeal.defs (F := Ideal)) (onTc (τ := Cert.BORefIdeal.τ) (Cert.BORefIdeal.main (F := Ideal))) ⟨m', fun _ => 0, g'⟩ (fun r => ∀ c : Dev Cert.BORefIdeal.nD,
          r.2.mem ((c.tc : Thread Cert.BORefIdeal.nD Cert.BORefIdeal.τ).loc Cert.BORefIdeal.main_v2) = v0 c
          ∧ r.2.mem ((c.tc : Thread Cert.BORefIdeal.nD Cert.BORefIdeal.τ).loc Cert.BORefIdeal.main_arg0) = m' ((c.tc : Thread Cert.BORefIdeal.nD Cert.BORefIdeal.τ).loc Cert.BORefIdeal.main_arg0)
          ∧ r.2.mem ((c.tc : Thread Cert.BORefIdeal.nD Cert.BORefIdeal.τ).loc Cert.BORefIdeal.main_arg1) = m' ((c.tc : Thread Cert.BORefIdeal.nD Cert.BORefIdeal.τ).loc Cert.BORefIdeal.main_arg1))

def preserves_BODw_BODwIdeal : Prop :=
  True

def algebraic_BODwIdeal_BODwRefIdeal [hBODwIdeal : Cert.BODwIdeal.Facts] [hBODwRefIdeal : Cert.BODwRefIdeal.Facts] : Prop :=
  ∀ (m : (ℓ : Loc Cert.BODwIdeal.nD Cert.BODwIdeal.τ Cert.BODwIdeal.sig) → Buf (Elt Ideal) ℓ) (g : Dev Cert.BODwIdeal.nD → PrngReg)
    (m' : (ℓ : Loc Cert.BODwRefIdeal.nD Cert.BODwRefIdeal.τ Cert.BODwRefIdeal.sig) → Buf (Elt Ideal) ℓ) (g' : Dev Cert.BODwRefIdeal.nD → PrngReg), Pre_BODwIdeal m →
    (∀ c : Dev Cert.BODwIdeal.nD,
      m' ((c.tc : Thread Cert.BODwRefIdeal.nD Cert.BODwRefIdeal.τ).loc Cert.BODwRefIdeal.main_arg0) = m ((c.tc : Thread Cert.BODwIdeal.nD Cert.BODwIdeal.τ).loc Cert.BODwIdeal.main_arg0)
      ∧ m' ((c.tc : Thread Cert.BODwRefIdeal.nD Cert.BODwRefIdeal.τ).loc Cert.BODwRefIdeal.main_arg1) = m ((c.tc : Thread Cert.BODwIdeal.nD Cert.BODwIdeal.τ).loc Cert.BODwIdeal.main_arg1)
      ∧ m' ((c.tc : Thread Cert.BODwRefIdeal.nD Cert.BODwRefIdeal.τ).loc Cert.BODwRefIdeal.main_arg2) = m ((c.tc : Thread Cert.BODwIdeal.nD Cert.BODwIdeal.τ).loc Cert.BODwIdeal.main_arg2)) →
    ∃ (v0 : (c : Dev Cert.BODwIdeal.nD) → Buf (Elt Ideal) ((c.tc : Thread Cert.BODwIdeal.nD Cert.BODwIdeal.τ).loc Cert.BODwIdeal.main_v0)),
      θ_run (Cert.BODwIdeal.defs (F := Ideal)) (onTc (τ := Cert.BODwIdeal.τ) (Cert.BODwIdeal.main (F := Ideal))) ⟨m, fun _ => 0, g⟩ (fun r => ∀ c : Dev Cert.BODwIdeal.nD,
          r.2.mem ((c.tc : Thread Cert.BODwIdeal.nD Cert.BODwIdeal.τ).loc Cert.BODwIdeal.main_v0) = v0 c
          ∧ r.2.mem ((c.tc : Thread Cert.BODwIdeal.nD Cert.BODwIdeal.τ).loc Cert.BODwIdeal.main_arg0) = m ((c.tc : Thread Cert.BODwIdeal.nD Cert.BODwIdeal.τ).loc Cert.BODwIdeal.main_arg0)
          ∧ r.2.mem ((c.tc : Thread Cert.BODwIdeal.nD Cert.BODwIdeal.τ).loc Cert.BODwIdeal.main_arg1) = m ((c.tc : Thread Cert.BODwIdeal.nD Cert.BODwIdeal.τ).loc Cert.BODwIdeal.main_arg1)
          ∧ r.2.mem ((c.tc : Thread Cert.BODwIdeal.nD Cert.BODwIdeal.τ).loc Cert.BODwIdeal.main_arg2) = m ((c.tc : Thread Cert.BODwIdeal.nD Cert.BODwIdeal.τ).loc Cert.BODwIdeal.main_arg2))
      ∧ θ_run (Cert.BODwRefIdeal.defs (F := Ideal)) (onTc (τ := Cert.BODwRefIdeal.τ) (Cert.BODwRefIdeal.main (F := Ideal))) ⟨m', fun _ => 0, g'⟩ (fun r => ∀ c : Dev Cert.BODwRefIdeal.nD,
          r.2.mem ((c.tc : Thread Cert.BODwRefIdeal.nD Cert.BODwRefIdeal.τ).loc Cert.BODwRefIdeal.main_v9) = v0 c
          ∧ r.2.mem ((c.tc : Thread Cert.BODwRefIdeal.nD Cert.BODwRefIdeal.τ).loc Cert.BODwRefIdeal.main_arg0) = m' ((c.tc : Thread Cert.BODwRefIdeal.nD Cert.BODwRefIdeal.τ).loc Cert.BODwRefIdeal.main_arg0)
          ∧ r.2.mem ((c.tc : Thread Cert.BODwRefIdeal.nD Cert.BODwRefIdeal.τ).loc Cert.BODwRefIdeal.main_arg1) = m' ((c.tc : Thread Cert.BODwRefIdeal.nD Cert.BODwRefIdeal.τ).loc Cert.BODwRefIdeal.main_arg1)
          ∧ r.2.mem ((c.tc : Thread Cert.BODwRefIdeal.nD Cert.BODwRefIdeal.τ).loc Cert.BODwRefIdeal.main_arg2) = m' ((c.tc : Thread Cert.BODwRefIdeal.nD Cert.BODwRefIdeal.τ).loc Cert.BODwRefIdeal.main_arg2))

def preserves_BODx_BODxIdeal : Prop :=
  True

def algebraic_BODxIdeal_BODxRefIdeal [hBODxIdeal : Cert.BODxIdeal.Facts] [hBODxRefIdeal : Cert.BODxRefIdeal.Facts] : Prop :=
  ∀ (m : (ℓ : Loc Cert.BODxIdeal.nD Cert.BODxIdeal.τ Cert.BODxIdeal.sig) → Buf (Elt Ideal) ℓ) (g : Dev Cert.BODxIdeal.nD → PrngReg)
    (m' : (ℓ : Loc Cert.BODxRefIdeal.nD Cert.BODxRefIdeal.τ Cert.BODxRefIdeal.sig) → Buf (Elt Ideal) ℓ) (g' : Dev Cert.BODxRefIdeal.nD → PrngReg), Pre_BODxIdeal m →
    (∀ c : Dev Cert.BODxIdeal.nD,
      m' ((c.tc : Thread Cert.BODxRefIdeal.nD Cert.BODxRefIdeal.τ).loc Cert.BODxRefIdeal.main_arg0) = m ((c.tc : Thread Cert.BODxIdeal.nD Cert.BODxIdeal.τ).loc Cert.BODxIdeal.main_arg0)
      ∧ m' ((c.tc : Thread Cert.BODxRefIdeal.nD Cert.BODxRefIdeal.τ).loc Cert.BODxRefIdeal.main_arg1) = m ((c.tc : Thread Cert.BODxIdeal.nD Cert.BODxIdeal.τ).loc Cert.BODxIdeal.main_arg1)) →
    ∃ (v0 : (c : Dev Cert.BODxIdeal.nD) → Buf (Elt Ideal) ((c.tc : Thread Cert.BODxIdeal.nD Cert.BODxIdeal.τ).loc Cert.BODxIdeal.main_v0)),
      θ_run (Cert.BODxIdeal.defs (F := Ideal)) (onTc (τ := Cert.BODxIdeal.τ) (Cert.BODxIdeal.main (F := Ideal))) ⟨m, fun _ => 0, g⟩ (fun r => ∀ c : Dev Cert.BODxIdeal.nD,
          r.2.mem ((c.tc : Thread Cert.BODxIdeal.nD Cert.BODxIdeal.τ).loc Cert.BODxIdeal.main_v0) = v0 c
          ∧ r.2.mem ((c.tc : Thread Cert.BODxIdeal.nD Cert.BODxIdeal.τ).loc Cert.BODxIdeal.main_arg0) = m ((c.tc : Thread Cert.BODxIdeal.nD Cert.BODxIdeal.τ).loc Cert.BODxIdeal.main_arg0)
          ∧ r.2.mem ((c.tc : Thread Cert.BODxIdeal.nD Cert.BODxIdeal.τ).loc Cert.BODxIdeal.main_arg1) = m ((c.tc : Thread Cert.BODxIdeal.nD Cert.BODxIdeal.τ).loc Cert.BODxIdeal.main_arg1))
      ∧ θ_run (Cert.BODxRefIdeal.defs (F := Ideal)) (onTc (τ := Cert.BODxRefIdeal.τ) (Cert.BODxRefIdeal.main (F := Ideal))) ⟨m', fun _ => 0, g'⟩ (fun r => ∀ c : Dev Cert.BODxRefIdeal.nD,
          r.2.mem ((c.tc : Thread Cert.BODxRefIdeal.nD Cert.BODxRefIdeal.τ).loc Cert.BODxRefIdeal.main_v4) = v0 c
          ∧ r.2.mem ((c.tc : Thread Cert.BODxRefIdeal.nD Cert.BODxRefIdeal.τ).loc Cert.BODxRefIdeal.main_arg0) = m' ((c.tc : Thread Cert.BODxRefIdeal.nD Cert.BODxRefIdeal.τ).loc Cert.BODxRefIdeal.main_arg0)
          ∧ r.2.mem ((c.tc : Thread Cert.BODxRefIdeal.nD Cert.BODxRefIdeal.τ).loc Cert.BODxRefIdeal.main_arg1) = m' ((c.tc : Thread Cert.BODxRefIdeal.nD Cert.BODxRefIdeal.τ).loc Cert.BODxRefIdeal.main_arg1))

def preserves_UpDw1_UpDw1Ideal : Prop :=
  True

def algebraic_UpDw1Ideal_UpDw1RefIdeal [hUpDw1Ideal : Cert.UpDw1Ideal.Facts] [hUpDw1RefIdeal : Cert.UpDw1RefIdeal.Facts] : Prop :=
  ∀ (m : (ℓ : Loc Cert.UpDw1Ideal.nD Cert.UpDw1Ideal.τ Cert.UpDw1Ideal.sig) → Buf (Elt Ideal) ℓ) (g : Dev Cert.UpDw1Ideal.nD → PrngReg)
    (m' : (ℓ : Loc Cert.UpDw1RefIdeal.nD Cert.UpDw1RefIdeal.τ Cert.UpDw1RefIdeal.sig) → Buf (Elt Ideal) ℓ) (g' : Dev Cert.UpDw1RefIdeal.nD → PrngReg), Pre_UpDw1Ideal m →
    (∀ c : Dev Cert.UpDw1Ideal.nD,
      m' ((c.tc : Thread Cert.UpDw1RefIdeal.nD Cert.UpDw1RefIdeal.τ).loc Cert.UpDw1RefIdeal.main_arg0) = m ((c.tc : Thread Cert.UpDw1Ideal.nD Cert.UpDw1Ideal.τ).loc Cert.UpDw1Ideal.main_arg0)
      ∧ m' ((c.tc : Thread Cert.UpDw1RefIdeal.nD Cert.UpDw1RefIdeal.τ).loc Cert.UpDw1RefIdeal.main_arg1) = m ((c.tc : Thread Cert.UpDw1Ideal.nD Cert.UpDw1Ideal.τ).loc Cert.UpDw1Ideal.main_arg1)
      ∧ m' ((c.tc : Thread Cert.UpDw1RefIdeal.nD Cert.UpDw1RefIdeal.τ).loc Cert.UpDw1RefIdeal.main_arg2) = m ((c.tc : Thread Cert.UpDw1Ideal.nD Cert.UpDw1Ideal.τ).loc Cert.UpDw1Ideal.main_arg2)) →
    ∃ (v0 : (c : Dev Cert.UpDw1Ideal.nD) → Buf (Elt Ideal) ((c.tc : Thread Cert.UpDw1Ideal.nD Cert.UpDw1Ideal.τ).loc Cert.UpDw1Ideal.main_v0)),
      θ_run (Cert.UpDw1Ideal.defs (F := Ideal)) (onTc (τ := Cert.UpDw1Ideal.τ) (Cert.UpDw1Ideal.main (F := Ideal))) ⟨m, fun _ => 0, g⟩ (fun r => ∀ c : Dev Cert.UpDw1Ideal.nD,
          r.2.mem ((c.tc : Thread Cert.UpDw1Ideal.nD Cert.UpDw1Ideal.τ).loc Cert.UpDw1Ideal.main_v0) = v0 c
          ∧ r.2.mem ((c.tc : Thread Cert.UpDw1Ideal.nD Cert.UpDw1Ideal.τ).loc Cert.UpDw1Ideal.main_arg0) = m ((c.tc : Thread Cert.UpDw1Ideal.nD Cert.UpDw1Ideal.τ).loc Cert.UpDw1Ideal.main_arg0)
          ∧ r.2.mem ((c.tc : Thread Cert.UpDw1Ideal.nD Cert.UpDw1Ideal.τ).loc Cert.UpDw1Ideal.main_arg1) = m ((c.tc : Thread Cert.UpDw1Ideal.nD Cert.UpDw1Ideal.τ).loc Cert.UpDw1Ideal.main_arg1)
          ∧ r.2.mem ((c.tc : Thread Cert.UpDw1Ideal.nD Cert.UpDw1Ideal.τ).loc Cert.UpDw1Ideal.main_arg2) = m ((c.tc : Thread Cert.UpDw1Ideal.nD Cert.UpDw1Ideal.τ).loc Cert.UpDw1Ideal.main_arg2))
      ∧ θ_run (Cert.UpDw1RefIdeal.defs (F := Ideal)) (onTc (τ := Cert.UpDw1RefIdeal.τ) (Cert.UpDw1RefIdeal.main (F := Ideal))) ⟨m', fun _ => 0, g'⟩ (fun r => ∀ c : Dev Cert.UpDw1RefIdeal.nD,
          r.2.mem ((c.tc : Thread Cert.UpDw1RefIdeal.nD Cert.UpDw1RefIdeal.τ).loc Cert.UpDw1RefIdeal.main_v15) = v0 c
          ∧ r.2.mem ((c.tc : Thread Cert.UpDw1RefIdeal.nD Cert.UpDw1RefIdeal.τ).loc Cert.UpDw1RefIdeal.main_arg0) = m' ((c.tc : Thread Cert.UpDw1RefIdeal.nD Cert.UpDw1RefIdeal.τ).loc Cert.UpDw1RefIdeal.main_arg0)
          ∧ r.2.mem ((c.tc : Thread Cert.UpDw1RefIdeal.nD Cert.UpDw1RefIdeal.τ).loc Cert.UpDw1RefIdeal.main_arg1) = m' ((c.tc : Thread Cert.UpDw1RefIdeal.nD Cert.UpDw1RefIdeal.τ).loc Cert.UpDw1RefIdeal.main_arg1)
          ∧ r.2.mem ((c.tc : Thread Cert.UpDw1RefIdeal.nD Cert.UpDw1RefIdeal.τ).loc Cert.UpDw1RefIdeal.main_arg2) = m' ((c.tc : Thread Cert.UpDw1RefIdeal.nD Cert.UpDw1RefIdeal.τ).loc Cert.UpDw1RefIdeal.main_arg2))

def preserves_UpDw2_UpDw2Ideal : Prop :=
  True

def algebraic_UpDw2Ideal_UpDw2RefIdeal [hUpDw2Ideal : Cert.UpDw2Ideal.Facts] [hUpDw2RefIdeal : Cert.UpDw2RefIdeal.Facts] : Prop :=
  ∀ (m : (ℓ : Loc Cert.UpDw2Ideal.nD Cert.UpDw2Ideal.τ Cert.UpDw2Ideal.sig) → Buf (Elt Ideal) ℓ) (g : Dev Cert.UpDw2Ideal.nD → PrngReg)
    (m' : (ℓ : Loc Cert.UpDw2RefIdeal.nD Cert.UpDw2RefIdeal.τ Cert.UpDw2RefIdeal.sig) → Buf (Elt Ideal) ℓ) (g' : Dev Cert.UpDw2RefIdeal.nD → PrngReg), Pre_UpDw2Ideal m →
    (∀ c : Dev Cert.UpDw2Ideal.nD,
      m' ((c.tc : Thread Cert.UpDw2RefIdeal.nD Cert.UpDw2RefIdeal.τ).loc Cert.UpDw2RefIdeal.main_arg0) = m ((c.tc : Thread Cert.UpDw2Ideal.nD Cert.UpDw2Ideal.τ).loc Cert.UpDw2Ideal.main_arg0)
      ∧ m' ((c.tc : Thread Cert.UpDw2RefIdeal.nD Cert.UpDw2RefIdeal.τ).loc Cert.UpDw2RefIdeal.main_arg1) = m ((c.tc : Thread Cert.UpDw2Ideal.nD Cert.UpDw2Ideal.τ).loc Cert.UpDw2Ideal.main_arg1)
      ∧ m' ((c.tc : Thread Cert.UpDw2RefIdeal.nD Cert.UpDw2RefIdeal.τ).loc Cert.UpDw2RefIdeal.main_arg2) = m ((c.tc : Thread Cert.UpDw2Ideal.nD Cert.UpDw2Ideal.τ).loc Cert.UpDw2Ideal.main_arg2)) →
    ∃ (v0 : (c : Dev Cert.UpDw2Ideal.nD) → Buf (Elt Ideal) ((c.tc : Thread Cert.UpDw2Ideal.nD Cert.UpDw2Ideal.τ).loc Cert.UpDw2Ideal.main_v0)),
      θ_run (Cert.UpDw2Ideal.defs (F := Ideal)) (onTc (τ := Cert.UpDw2Ideal.τ) (Cert.UpDw2Ideal.main (F := Ideal))) ⟨m, fun _ => 0, g⟩ (fun r => ∀ c : Dev Cert.UpDw2Ideal.nD,
          r.2.mem ((c.tc : Thread Cert.UpDw2Ideal.nD Cert.UpDw2Ideal.τ).loc Cert.UpDw2Ideal.main_v0) = v0 c
          ∧ r.2.mem ((c.tc : Thread Cert.UpDw2Ideal.nD Cert.UpDw2Ideal.τ).loc Cert.UpDw2Ideal.main_arg0) = m ((c.tc : Thread Cert.UpDw2Ideal.nD Cert.UpDw2Ideal.τ).loc Cert.UpDw2Ideal.main_arg0)
          ∧ r.2.mem ((c.tc : Thread Cert.UpDw2Ideal.nD Cert.UpDw2Ideal.τ).loc Cert.UpDw2Ideal.main_arg1) = m ((c.tc : Thread Cert.UpDw2Ideal.nD Cert.UpDw2Ideal.τ).loc Cert.UpDw2Ideal.main_arg1)
          ∧ r.2.mem ((c.tc : Thread Cert.UpDw2Ideal.nD Cert.UpDw2Ideal.τ).loc Cert.UpDw2Ideal.main_arg2) = m ((c.tc : Thread Cert.UpDw2Ideal.nD Cert.UpDw2Ideal.τ).loc Cert.UpDw2Ideal.main_arg2))
      ∧ θ_run (Cert.UpDw2RefIdeal.defs (F := Ideal)) (onTc (τ := Cert.UpDw2RefIdeal.τ) (Cert.UpDw2RefIdeal.main (F := Ideal))) ⟨m', fun _ => 0, g'⟩ (fun r => ∀ c : Dev Cert.UpDw2RefIdeal.nD,
          r.2.mem ((c.tc : Thread Cert.UpDw2RefIdeal.nD Cert.UpDw2RefIdeal.τ).loc Cert.UpDw2RefIdeal.main_v15) = v0 c
          ∧ r.2.mem ((c.tc : Thread Cert.UpDw2RefIdeal.nD Cert.UpDw2RefIdeal.τ).loc Cert.UpDw2RefIdeal.main_arg0) = m' ((c.tc : Thread Cert.UpDw2RefIdeal.nD Cert.UpDw2RefIdeal.τ).loc Cert.UpDw2RefIdeal.main_arg0)
          ∧ r.2.mem ((c.tc : Thread Cert.UpDw2RefIdeal.nD Cert.UpDw2RefIdeal.τ).loc Cert.UpDw2RefIdeal.main_arg1) = m' ((c.tc : Thread Cert.UpDw2RefIdeal.nD Cert.UpDw2RefIdeal.τ).loc Cert.UpDw2RefIdeal.main_arg1)
          ∧ r.2.mem ((c.tc : Thread Cert.UpDw2RefIdeal.nD Cert.UpDw2RefIdeal.τ).loc Cert.UpDw2RefIdeal.main_arg2) = m' ((c.tc : Thread Cert.UpDw2RefIdeal.nD Cert.UpDw2RefIdeal.τ).loc Cert.UpDw2RefIdeal.main_arg2))

def preserves_DownDw1_DownDw1Ideal : Prop :=
  True

def algebraic_DownDw1Ideal_DownDw1RefIdeal [hDownDw1Ideal : Cert.DownDw1Ideal.Facts] [hDownDw1RefIdeal : Cert.DownDw1RefIdeal.Facts] : Prop :=
  ∀ (m : (ℓ : Loc Cert.DownDw1Ideal.nD Cert.DownDw1Ideal.τ Cert.DownDw1Ideal.sig) → Buf (Elt Ideal) ℓ) (g : Dev Cert.DownDw1Ideal.nD → PrngReg)
    (m' : (ℓ : Loc Cert.DownDw1RefIdeal.nD Cert.DownDw1RefIdeal.τ Cert.DownDw1RefIdeal.sig) → Buf (Elt Ideal) ℓ) (g' : Dev Cert.DownDw1RefIdeal.nD → PrngReg), Pre_DownDw1Ideal m →
    (∀ c : Dev Cert.DownDw1Ideal.nD,
      m' ((c.tc : Thread Cert.DownDw1RefIdeal.nD Cert.DownDw1RefIdeal.τ).loc Cert.DownDw1RefIdeal.main_arg0) = m ((c.tc : Thread Cert.DownDw1Ideal.nD Cert.DownDw1Ideal.τ).loc Cert.DownDw1Ideal.main_arg0)
      ∧ m' ((c.tc : Thread Cert.DownDw1RefIdeal.nD Cert.DownDw1RefIdeal.τ).loc Cert.DownDw1RefIdeal.main_arg1) = m ((c.tc : Thread Cert.DownDw1Ideal.nD Cert.DownDw1Ideal.τ).loc Cert.DownDw1Ideal.main_arg1)
      ∧ m' ((c.tc : Thread Cert.DownDw1RefIdeal.nD Cert.DownDw1RefIdeal.τ).loc Cert.DownDw1RefIdeal.main_arg2) = m ((c.tc : Thread Cert.DownDw1Ideal.nD Cert.DownDw1Ideal.τ).loc Cert.DownDw1Ideal.main_arg2)) →
    ∃ (v0 : (c : Dev Cert.DownDw1Ideal.nD) → Buf (Elt Ideal) ((c.tc : Thread Cert.DownDw1Ideal.nD Cert.DownDw1Ideal.τ).loc Cert.DownDw1Ideal.main_v0)),
      θ_run (Cert.DownDw1Ideal.defs (F := Ideal)) (onTc (τ := Cert.DownDw1Ideal.τ) (Cert.DownDw1Ideal.main (F := Ideal))) ⟨m, fun _ => 0, g⟩ (fun r => ∀ c : Dev Cert.DownDw1Ideal.nD,
          r.2.mem ((c.tc : Thread Cert.DownDw1Ideal.nD Cert.DownDw1Ideal.τ).loc Cert.DownDw1Ideal.main_v0) = v0 c
          ∧ r.2.mem ((c.tc : Thread Cert.DownDw1Ideal.nD Cert.DownDw1Ideal.τ).loc Cert.DownDw1Ideal.main_arg0) = m ((c.tc : Thread Cert.DownDw1Ideal.nD Cert.DownDw1Ideal.τ).loc Cert.DownDw1Ideal.main_arg0)
          ∧ r.2.mem ((c.tc : Thread Cert.DownDw1Ideal.nD Cert.DownDw1Ideal.τ).loc Cert.DownDw1Ideal.main_arg1) = m ((c.tc : Thread Cert.DownDw1Ideal.nD Cert.DownDw1Ideal.τ).loc Cert.DownDw1Ideal.main_arg1)
          ∧ r.2.mem ((c.tc : Thread Cert.DownDw1Ideal.nD Cert.DownDw1Ideal.τ).loc Cert.DownDw1Ideal.main_arg2) = m ((c.tc : Thread Cert.DownDw1Ideal.nD Cert.DownDw1Ideal.τ).loc Cert.DownDw1Ideal.main_arg2))
      ∧ θ_run (Cert.DownDw1RefIdeal.defs (F := Ideal)) (onTc (τ := Cert.DownDw1RefIdeal.τ) (Cert.DownDw1RefIdeal.main (F := Ideal))) ⟨m', fun _ => 0, g'⟩ (fun r => ∀ c : Dev Cert.DownDw1RefIdeal.nD,
          r.2.mem ((c.tc : Thread Cert.DownDw1RefIdeal.nD Cert.DownDw1RefIdeal.τ).loc Cert.DownDw1RefIdeal.main_v10) = v0 c
          ∧ r.2.mem ((c.tc : Thread Cert.DownDw1RefIdeal.nD Cert.DownDw1RefIdeal.τ).loc Cert.DownDw1RefIdeal.main_arg0) = m' ((c.tc : Thread Cert.DownDw1RefIdeal.nD Cert.DownDw1RefIdeal.τ).loc Cert.DownDw1RefIdeal.main_arg0)
          ∧ r.2.mem ((c.tc : Thread Cert.DownDw1RefIdeal.nD Cert.DownDw1RefIdeal.τ).loc Cert.DownDw1RefIdeal.main_arg1) = m' ((c.tc : Thread Cert.DownDw1RefIdeal.nD Cert.DownDw1RefIdeal.τ).loc Cert.DownDw1RefIdeal.main_arg1)
          ∧ r.2.mem ((c.tc : Thread Cert.DownDw1RefIdeal.nD Cert.DownDw1RefIdeal.τ).loc Cert.DownDw1RefIdeal.main_arg2) = m' ((c.tc : Thread Cert.DownDw1RefIdeal.nD Cert.DownDw1RefIdeal.τ).loc Cert.DownDw1RefIdeal.main_arg2))

def preserves_DownDw2_DownDw2Ideal : Prop :=
  True

def algebraic_DownDw2Ideal_DownDw2RefIdeal [hDownDw2Ideal : Cert.DownDw2Ideal.Facts] [hDownDw2RefIdeal : Cert.DownDw2RefIdeal.Facts] : Prop :=
  ∀ (m : (ℓ : Loc Cert.DownDw2Ideal.nD Cert.DownDw2Ideal.τ Cert.DownDw2Ideal.sig) → Buf (Elt Ideal) ℓ) (g : Dev Cert.DownDw2Ideal.nD → PrngReg)
    (m' : (ℓ : Loc Cert.DownDw2RefIdeal.nD Cert.DownDw2RefIdeal.τ Cert.DownDw2RefIdeal.sig) → Buf (Elt Ideal) ℓ) (g' : Dev Cert.DownDw2RefIdeal.nD → PrngReg), Pre_DownDw2Ideal m →
    (∀ c : Dev Cert.DownDw2Ideal.nD,
      m' ((c.tc : Thread Cert.DownDw2RefIdeal.nD Cert.DownDw2RefIdeal.τ).loc Cert.DownDw2RefIdeal.main_arg0) = m ((c.tc : Thread Cert.DownDw2Ideal.nD Cert.DownDw2Ideal.τ).loc Cert.DownDw2Ideal.main_arg0)
      ∧ m' ((c.tc : Thread Cert.DownDw2RefIdeal.nD Cert.DownDw2RefIdeal.τ).loc Cert.DownDw2RefIdeal.main_arg1) = m ((c.tc : Thread Cert.DownDw2Ideal.nD Cert.DownDw2Ideal.τ).loc Cert.DownDw2Ideal.main_arg1)
      ∧ m' ((c.tc : Thread Cert.DownDw2RefIdeal.nD Cert.DownDw2RefIdeal.τ).loc Cert.DownDw2RefIdeal.main_arg2) = m ((c.tc : Thread Cert.DownDw2Ideal.nD Cert.DownDw2Ideal.τ).loc Cert.DownDw2Ideal.main_arg2)) →
    ∃ (v0 : (c : Dev Cert.DownDw2Ideal.nD) → Buf (Elt Ideal) ((c.tc : Thread Cert.DownDw2Ideal.nD Cert.DownDw2Ideal.τ).loc Cert.DownDw2Ideal.main_v0)),
      θ_run (Cert.DownDw2Ideal.defs (F := Ideal)) (onTc (τ := Cert.DownDw2Ideal.τ) (Cert.DownDw2Ideal.main (F := Ideal))) ⟨m, fun _ => 0, g⟩ (fun r => ∀ c : Dev Cert.DownDw2Ideal.nD,
          r.2.mem ((c.tc : Thread Cert.DownDw2Ideal.nD Cert.DownDw2Ideal.τ).loc Cert.DownDw2Ideal.main_v0) = v0 c
          ∧ r.2.mem ((c.tc : Thread Cert.DownDw2Ideal.nD Cert.DownDw2Ideal.τ).loc Cert.DownDw2Ideal.main_arg0) = m ((c.tc : Thread Cert.DownDw2Ideal.nD Cert.DownDw2Ideal.τ).loc Cert.DownDw2Ideal.main_arg0)
          ∧ r.2.mem ((c.tc : Thread Cert.DownDw2Ideal.nD Cert.DownDw2Ideal.τ).loc Cert.DownDw2Ideal.main_arg1) = m ((c.tc : Thread Cert.DownDw2Ideal.nD Cert.DownDw2Ideal.τ).loc Cert.DownDw2Ideal.main_arg1)
          ∧ r.2.mem ((c.tc : Thread Cert.DownDw2Ideal.nD Cert.DownDw2Ideal.τ).loc Cert.DownDw2Ideal.main_arg2) = m ((c.tc : Thread Cert.DownDw2Ideal.nD Cert.DownDw2Ideal.τ).loc Cert.DownDw2Ideal.main_arg2))
      ∧ θ_run (Cert.DownDw2RefIdeal.defs (F := Ideal)) (onTc (τ := Cert.DownDw2RefIdeal.τ) (Cert.DownDw2RefIdeal.main (F := Ideal))) ⟨m', fun _ => 0, g'⟩ (fun r => ∀ c : Dev Cert.DownDw2RefIdeal.nD,
          r.2.mem ((c.tc : Thread Cert.DownDw2RefIdeal.nD Cert.DownDw2RefIdeal.τ).loc Cert.DownDw2RefIdeal.main_v10) = v0 c
          ∧ r.2.mem ((c.tc : Thread Cert.DownDw2RefIdeal.nD Cert.DownDw2RefIdeal.τ).loc Cert.DownDw2RefIdeal.main_arg0) = m' ((c.tc : Thread Cert.DownDw2RefIdeal.nD Cert.DownDw2RefIdeal.τ).loc Cert.DownDw2RefIdeal.main_arg0)
          ∧ r.2.mem ((c.tc : Thread Cert.DownDw2RefIdeal.nD Cert.DownDw2RefIdeal.τ).loc Cert.DownDw2RefIdeal.main_arg1) = m' ((c.tc : Thread Cert.DownDw2RefIdeal.nD Cert.DownDw2RefIdeal.τ).loc Cert.DownDw2RefIdeal.main_arg1)
          ∧ r.2.mem ((c.tc : Thread Cert.DownDw2RefIdeal.nD Cert.DownDw2RefIdeal.τ).loc Cert.DownDw2RefIdeal.main_arg2) = m' ((c.tc : Thread Cert.DownDw2RefIdeal.nD Cert.DownDw2RefIdeal.τ).loc Cert.DownDw2RefIdeal.main_arg2))

def preserves_AddLn_AddLnIdeal : Prop :=
  True

def algebraic_AddLnIdeal_AddLnRefIdeal [hAddLnIdeal : Cert.AddLnIdeal.Facts] [hAddLnRefIdeal : Cert.AddLnRefIdeal.Facts] : Prop :=
  ∀ (m : (ℓ : Loc Cert.AddLnIdeal.nD Cert.AddLnIdeal.τ Cert.AddLnIdeal.sig) → Buf (Elt Ideal) ℓ) (g : Dev Cert.AddLnIdeal.nD → PrngReg)
    (m' : (ℓ : Loc Cert.AddLnRefIdeal.nD Cert.AddLnRefIdeal.τ Cert.AddLnRefIdeal.sig) → Buf (Elt Ideal) ℓ) (g' : Dev Cert.AddLnRefIdeal.nD → PrngReg), Pre_AddLnIdeal m →
    (∀ c : Dev Cert.AddLnIdeal.nD,
      m' ((c.tc : Thread Cert.AddLnRefIdeal.nD Cert.AddLnRefIdeal.τ).loc Cert.AddLnRefIdeal.main_arg0) = m ((c.tc : Thread Cert.AddLnIdeal.nD Cert.AddLnIdeal.τ).loc Cert.AddLnIdeal.main_arg0)
      ∧ m' ((c.tc : Thread Cert.AddLnRefIdeal.nD Cert.AddLnRefIdeal.τ).loc Cert.AddLnRefIdeal.main_arg1) = m ((c.tc : Thread Cert.AddLnIdeal.nD Cert.AddLnIdeal.τ).loc Cert.AddLnIdeal.main_arg1)
      ∧ m' ((c.tc : Thread Cert.AddLnRefIdeal.nD Cert.AddLnRefIdeal.τ).loc Cert.AddLnRefIdeal.main_arg2) = m ((c.tc : Thread Cert.AddLnIdeal.nD Cert.AddLnIdeal.τ).loc Cert.AddLnIdeal.main_arg2)
      ∧ m' ((c.tc : Thread Cert.AddLnRefIdeal.nD Cert.AddLnRefIdeal.τ).loc Cert.AddLnRefIdeal.main_arg3) = m ((c.tc : Thread Cert.AddLnIdeal.nD Cert.AddLnIdeal.τ).loc Cert.AddLnIdeal.main_arg3)) →
    ∃ (v0 : (c : Dev Cert.AddLnIdeal.nD) → Buf (Elt Ideal) ((c.tc : Thread Cert.AddLnIdeal.nD Cert.AddLnIdeal.τ).loc Cert.AddLnIdeal.main_v2_0)) (v1 : (c : Dev Cert.AddLnIdeal.nD) → Buf (Elt Ideal) ((c.tc : Thread Cert.AddLnIdeal.nD Cert.AddLnIdeal.τ).loc Cert.AddLnIdeal.main_v2_1)),
      θ_run (Cert.AddLnIdeal.defs (F := Ideal)) (onTc (τ := Cert.AddLnIdeal.τ) (Cert.AddLnIdeal.main (F := Ideal))) ⟨m, fun _ => 0, g⟩ (fun r => ∀ c : Dev Cert.AddLnIdeal.nD,
          r.2.mem ((c.tc : Thread Cert.AddLnIdeal.nD Cert.AddLnIdeal.τ).loc Cert.AddLnIdeal.main_v2_0) = v0 c
          ∧ r.2.mem ((c.tc : Thread Cert.AddLnIdeal.nD Cert.AddLnIdeal.τ).loc Cert.AddLnIdeal.main_v2_1) = v1 c
          ∧ r.2.mem ((c.tc : Thread Cert.AddLnIdeal.nD Cert.AddLnIdeal.τ).loc Cert.AddLnIdeal.main_arg0) = m ((c.tc : Thread Cert.AddLnIdeal.nD Cert.AddLnIdeal.τ).loc Cert.AddLnIdeal.main_arg0)
          ∧ r.2.mem ((c.tc : Thread Cert.AddLnIdeal.nD Cert.AddLnIdeal.τ).loc Cert.AddLnIdeal.main_arg1) = m ((c.tc : Thread Cert.AddLnIdeal.nD Cert.AddLnIdeal.τ).loc Cert.AddLnIdeal.main_arg1)
          ∧ r.2.mem ((c.tc : Thread Cert.AddLnIdeal.nD Cert.AddLnIdeal.τ).loc Cert.AddLnIdeal.main_arg2) = m ((c.tc : Thread Cert.AddLnIdeal.nD Cert.AddLnIdeal.τ).loc Cert.AddLnIdeal.main_arg2)
          ∧ r.2.mem ((c.tc : Thread Cert.AddLnIdeal.nD Cert.AddLnIdeal.τ).loc Cert.AddLnIdeal.main_arg3) = m ((c.tc : Thread Cert.AddLnIdeal.nD Cert.AddLnIdeal.τ).loc Cert.AddLnIdeal.main_arg3))
      ∧ θ_run (Cert.AddLnRefIdeal.defs (F := Ideal)) (onTc (τ := Cert.AddLnRefIdeal.τ) (Cert.AddLnRefIdeal.main (F := Ideal))) ⟨m', fun _ => 0, g'⟩ (fun r => ∀ c : Dev Cert.AddLnRefIdeal.nD,
          r.2.mem ((c.tc : Thread Cert.AddLnRefIdeal.nD Cert.AddLnRefIdeal.τ).loc Cert.AddLnRefIdeal.main_v26) = v0 c
          ∧ r.2.mem ((c.tc : Thread Cert.AddLnRefIdeal.nD Cert.AddLnRefIdeal.τ).loc Cert.AddLnRefIdeal.main_v27) = v1 c
          ∧ r.2.mem ((c.tc : Thread Cert.AddLnRefIdeal.nD Cert.AddLnRefIdeal.τ).loc Cert.AddLnRefIdeal.main_arg0) = m' ((c.tc : Thread Cert.AddLnRefIdeal.nD Cert.AddLnRefIdeal.τ).loc Cert.AddLnRefIdeal.main_arg0)
          ∧ r.2.mem ((c.tc : Thread Cert.AddLnRefIdeal.nD Cert.AddLnRefIdeal.τ).loc Cert.AddLnRefIdeal.main_arg1) = m' ((c.tc : Thread Cert.AddLnRefIdeal.nD Cert.AddLnRefIdeal.τ).loc Cert.AddLnRefIdeal.main_arg1)
          ∧ r.2.mem ((c.tc : Thread Cert.AddLnRefIdeal.nD Cert.AddLnRefIdeal.τ).loc Cert.AddLnRefIdeal.main_arg2) = m' ((c.tc : Thread Cert.AddLnRefIdeal.nD Cert.AddLnRefIdeal.τ).loc Cert.AddLnRefIdeal.main_arg2)
          ∧ r.2.mem ((c.tc : Thread Cert.AddLnRefIdeal.nD Cert.AddLnRefIdeal.τ).loc Cert.AddLnRefIdeal.main_arg3) = m' ((c.tc : Thread Cert.AddLnRefIdeal.nD Cert.AddLnRefIdeal.τ).loc Cert.AddLnRefIdeal.main_arg3))

def preserves_LnBwd_LnBwdIdeal : Prop :=
  True

def algebraic_LnBwdIdeal_LnBwdRefIdeal_pre_ln_bwd_pre [hLnBwdIdeal : Cert.LnBwdIdeal.Facts] [hLnBwdRefIdeal : Cert.LnBwdRefIdeal.Facts] [hPre_ln_bwd_pre : Cert.Pre_ln_bwd_pre.Facts] : Prop :=
  ∀ (m : (ℓ : Loc Cert.LnBwdIdeal.nD Cert.LnBwdIdeal.τ Cert.LnBwdIdeal.sig) → Buf (Elt Ideal) ℓ) (g : Dev Cert.LnBwdIdeal.nD → PrngReg)
    (m' : (ℓ : Loc Cert.LnBwdRefIdeal.nD Cert.LnBwdRefIdeal.τ Cert.LnBwdRefIdeal.sig) → Buf (Elt Ideal) ℓ) (g' : Dev Cert.LnBwdRefIdeal.nD → PrngReg), Pre_LnBwdIdeal_ln_bwd_pre m →
    (∀ c : Dev Cert.LnBwdIdeal.nD,
      m' ((c.tc : Thread Cert.LnBwdRefIdeal.nD Cert.LnBwdRefIdeal.τ).loc Cert.LnBwdRefIdeal.main_arg0) = m ((c.tc : Thread Cert.LnBwdIdeal.nD Cert.LnBwdIdeal.τ).loc Cert.LnBwdIdeal.main_arg0)
      ∧ m' ((c.tc : Thread Cert.LnBwdRefIdeal.nD Cert.LnBwdRefIdeal.τ).loc Cert.LnBwdRefIdeal.main_arg1) = m ((c.tc : Thread Cert.LnBwdIdeal.nD Cert.LnBwdIdeal.τ).loc Cert.LnBwdIdeal.main_arg1)
      ∧ m' ((c.tc : Thread Cert.LnBwdRefIdeal.nD Cert.LnBwdRefIdeal.τ).loc Cert.LnBwdRefIdeal.main_arg2) = m ((c.tc : Thread Cert.LnBwdIdeal.nD Cert.LnBwdIdeal.τ).loc Cert.LnBwdIdeal.main_arg2)
      ∧ m' ((c.tc : Thread Cert.LnBwdRefIdeal.nD Cert.LnBwdRefIdeal.τ).loc Cert.LnBwdRefIdeal.main_arg3) = m ((c.tc : Thread Cert.LnBwdIdeal.nD Cert.LnBwdIdeal.τ).loc Cert.LnBwdIdeal.main_arg3)) →
    ∃ (v0 : (c : Dev Cert.LnBwdIdeal.nD) → Buf (Elt Ideal) ((c.tc : Thread Cert.LnBwdIdeal.nD Cert.LnBwdIdeal.τ).loc Cert.LnBwdIdeal.main_v1_0)) (v1 : (c : Dev Cert.LnBwdIdeal.nD) → Buf (Elt Ideal) ((c.tc : Thread Cert.LnBwdIdeal.nD Cert.LnBwdIdeal.τ).loc Cert.LnBwdIdeal.main_v1_1)) (v2 : (c : Dev Cert.LnBwdIdeal.nD) → Buf (Elt Ideal) ((c.tc : Thread Cert.LnBwdIdeal.nD Cert.LnBwdIdeal.τ).loc Cert.LnBwdIdeal.main_v1_2)) (v3 : (c : Dev Cert.LnBwdIdeal.nD) → Buf (Elt Ideal) ((c.tc : Thread Cert.LnBwdIdeal.nD Cert.LnBwdIdeal.τ).loc Cert.LnBwdIdeal.main_v1_3)),
      θ_run (Cert.LnBwdIdeal.defs (F := Ideal)) (onTc (τ := Cert.LnBwdIdeal.τ) (Cert.LnBwdIdeal.main (F := Ideal))) ⟨m, fun _ => 0, g⟩ (fun r => ∀ c : Dev Cert.LnBwdIdeal.nD,
          r.2.mem ((c.tc : Thread Cert.LnBwdIdeal.nD Cert.LnBwdIdeal.τ).loc Cert.LnBwdIdeal.main_v1_0) = v0 c
          ∧ r.2.mem ((c.tc : Thread Cert.LnBwdIdeal.nD Cert.LnBwdIdeal.τ).loc Cert.LnBwdIdeal.main_v1_1) = v1 c
          ∧ r.2.mem ((c.tc : Thread Cert.LnBwdIdeal.nD Cert.LnBwdIdeal.τ).loc Cert.LnBwdIdeal.main_v1_2) = v2 c
          ∧ r.2.mem ((c.tc : Thread Cert.LnBwdIdeal.nD Cert.LnBwdIdeal.τ).loc Cert.LnBwdIdeal.main_v1_3) = v3 c
          ∧ r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
          ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
          ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
          ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3))
      ∧ θ_run (Cert.LnBwdRefIdeal.defs (F := Ideal)) (onTc (τ := Cert.LnBwdRefIdeal.τ) (Cert.LnBwdRefIdeal.main (F := Ideal))) ⟨m', fun _ => 0, g'⟩ (fun r => ∀ c : Dev Cert.LnBwdRefIdeal.nD,
          r.2.mem ((c.tc : Thread Cert.LnBwdRefIdeal.nD Cert.LnBwdRefIdeal.τ).loc Cert.LnBwdRefIdeal.main_v66) = v0 c
          ∧ r.2.mem ((c.tc : Thread Cert.LnBwdRefIdeal.nD Cert.LnBwdRefIdeal.τ).loc Cert.LnBwdRefIdeal.main_v67) = v1 c
          ∧ r.2.mem ((c.tc : Thread Cert.LnBwdRefIdeal.nD Cert.LnBwdRefIdeal.τ).loc Cert.LnBwdRefIdeal.main_v68) = v2 c
          ∧ r.2.mem ((c.tc : Thread Cert.LnBwdRefIdeal.nD Cert.LnBwdRefIdeal.τ).loc Cert.LnBwdRefIdeal.main_v69) = v3 c
          ∧ r.2.mem ((c.tc : Thread Cert.LnBwdRefIdeal.nD Cert.LnBwdRefIdeal.τ).loc Cert.LnBwdRefIdeal.main_arg0) = m' ((c.tc : Thread Cert.LnBwdRefIdeal.nD Cert.LnBwdRefIdeal.τ).loc Cert.LnBwdRefIdeal.main_arg0)
          ∧ r.2.mem ((c.tc : Thread Cert.LnBwdRefIdeal.nD Cert.LnBwdRefIdeal.τ).loc Cert.LnBwdRefIdeal.main_arg1) = m' ((c.tc : Thread Cert.LnBwdRefIdeal.nD Cert.LnBwdRefIdeal.τ).loc Cert.LnBwdRefIdeal.main_arg1)
          ∧ r.2.mem ((c.tc : Thread Cert.LnBwdRefIdeal.nD Cert.LnBwdRefIdeal.τ).loc Cert.LnBwdRefIdeal.main_arg2) = m' ((c.tc : Thread Cert.LnBwdRefIdeal.nD Cert.LnBwdRefIdeal.τ).loc Cert.LnBwdRefIdeal.main_arg2)
          ∧ r.2.mem ((c.tc : Thread Cert.LnBwdRefIdeal.nD Cert.LnBwdRefIdeal.τ).loc Cert.LnBwdRefIdeal.main_arg3) = m' ((c.tc : Thread Cert.LnBwdRefIdeal.nD Cert.LnBwdRefIdeal.τ).loc Cert.LnBwdRefIdeal.main_arg3))

def preserves_SguFwd_SguFwdIdeal : Prop :=
  IdealRules.named_const.Statement Cert.SguFwdIdeal.κ "sqrt_half" .f32 0x3F3504F3#32 (((Real.sqrt 2)⁻¹ : ℝ) : EReal)

def algebraic_SguFwdIdeal_SguFwdRefIdeal [hSguFwdIdeal : Cert.SguFwdIdeal.Facts] [hSguFwdRefIdeal : Cert.SguFwdRefIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg)
    (m' : (ℓ : Loc Cert.SguFwdRefIdeal.nD Cert.SguFwdRefIdeal.τ Cert.SguFwdRefIdeal.sig) → Buf (Elt Ideal) ℓ) (g' : Dev Cert.SguFwdRefIdeal.nD → PrngReg), Pre_SguFwdIdeal m →
    (∀ c : Dev Cert.SguFwdIdeal.nD,
      m' ((c.tc : Thread Cert.SguFwdRefIdeal.nD Cert.SguFwdRefIdeal.τ).loc Cert.SguFwdRefIdeal.main_arg0) = m ((c.tc : Thread Cert.SguFwdIdeal.nD Cert.SguFwdIdeal.τ).loc Cert.SguFwdIdeal.main_arg0)
      ∧ m' ((c.tc : Thread Cert.SguFwdRefIdeal.nD Cert.SguFwdRefIdeal.τ).loc Cert.SguFwdRefIdeal.main_arg1) = m ((c.tc : Thread Cert.SguFwdIdeal.nD Cert.SguFwdIdeal.τ).loc Cert.SguFwdIdeal.main_arg1)
      ∧ m' ((c.tc : Thread Cert.SguFwdRefIdeal.nD Cert.SguFwdRefIdeal.τ).loc Cert.SguFwdRefIdeal.main_arg2) = m ((c.tc : Thread Cert.SguFwdIdeal.nD Cert.SguFwdIdeal.τ).loc Cert.SguFwdIdeal.main_arg2)
      ∧ m' ((c.tc : Thread Cert.SguFwdRefIdeal.nD Cert.SguFwdRefIdeal.τ).loc Cert.SguFwdRefIdeal.main_arg3) = m ((c.tc : Thread Cert.SguFwdIdeal.nD Cert.SguFwdIdeal.τ).loc Cert.SguFwdIdeal.main_arg3)
      ∧ m' ((c.tc : Thread Cert.SguFwdRefIdeal.nD Cert.SguFwdRefIdeal.τ).loc Cert.SguFwdRefIdeal.main_arg4) = m ((c.tc : Thread Cert.SguFwdIdeal.nD Cert.SguFwdIdeal.τ).loc Cert.SguFwdIdeal.main_arg4)) →
    ∃ (v0 : (c : Dev Cert.SguFwdIdeal.nD) → Buf (Elt Ideal) ((c.tc : Thread Cert.SguFwdIdeal.nD Cert.SguFwdIdeal.τ).loc Cert.SguFwdIdeal.main_v3)),
      θ_run (Cert.SguFwdIdeal.defs (F := Ideal)) (onTc (τ := Cert.SguFwdIdeal.τ) (Cert.SguFwdIdeal.main (F := Ideal))) ⟨m, fun _ => 0, g⟩ (fun r => ∀ c : Dev Cert.SguFwdIdeal.nD,
          r.2.mem ((c.tc : Thread Cert.SguFwdIdeal.nD Cert.SguFwdIdeal.τ).loc Cert.SguFwdIdeal.main_v3) = v0 c
          ∧ r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
          ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
          ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
          ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
          ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4))
      ∧ θ_run (Cert.SguFwdRefIdeal.defs (F := Ideal)) (onTc (τ := Cert.SguFwdRefIdeal.τ) (Cert.SguFwdRefIdeal.main (F := Ideal))) ⟨m', fun _ => 0, g'⟩ (fun r => ∀ c : Dev Cert.SguFwdRefIdeal.nD,
          r.2.mem ((c.tc : Thread Cert.SguFwdRefIdeal.nD Cert.SguFwdRefIdeal.τ).loc Cert.SguFwdRefIdeal.main_v50) = v0 c
          ∧ r.2.mem ((c.tc : Thread Cert.SguFwdRefIdeal.nD Cert.SguFwdRefIdeal.τ).loc Cert.SguFwdRefIdeal.main_arg0) = m' ((c.tc : Thread Cert.SguFwdRefIdeal.nD Cert.SguFwdRefIdeal.τ).loc Cert.SguFwdRefIdeal.main_arg0)
          ∧ r.2.mem ((c.tc : Thread Cert.SguFwdRefIdeal.nD Cert.SguFwdRefIdeal.τ).loc Cert.SguFwdRefIdeal.main_arg1) = m' ((c.tc : Thread Cert.SguFwdRefIdeal.nD Cert.SguFwdRefIdeal.τ).loc Cert.SguFwdRefIdeal.main_arg1)
          ∧ r.2.mem ((c.tc : Thread Cert.SguFwdRefIdeal.nD Cert.SguFwdRefIdeal.τ).loc Cert.SguFwdRefIdeal.main_arg2) = m' ((c.tc : Thread Cert.SguFwdRefIdeal.nD Cert.SguFwdRefIdeal.τ).loc Cert.SguFwdRefIdeal.main_arg2)
          ∧ r.2.mem ((c.tc : Thread Cert.SguFwdRefIdeal.nD Cert.SguFwdRefIdeal.τ).loc Cert.SguFwdRefIdeal.main_arg3) = m' ((c.tc : Thread Cert.SguFwdRefIdeal.nD Cert.SguFwdRefIdeal.τ).loc Cert.SguFwdRefIdeal.main_arg3)
          ∧ r.2.mem ((c.tc : Thread Cert.SguFwdRefIdeal.nD Cert.SguFwdRefIdeal.τ).loc Cert.SguFwdRefIdeal.main_arg4) = m' ((c.tc : Thread Cert.SguFwdRefIdeal.nD Cert.SguFwdRefIdeal.τ).loc Cert.SguFwdRefIdeal.main_arg4))

def preserves_Conv_ConvIdeal : Prop :=
  IdealRules.named_const.Statement Cert.ConvIdeal.κ "sqrt_half" .f32 0x3F3504F3#32 (((Real.sqrt 2)⁻¹ : ℝ) : EReal)

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v2_0)) (v1 : (c : Dev Cert.ConvIdeal.nD) → Buf (Elt Ideal) ((c.tc : Thread Cert.ConvIdeal.nD Cert.ConvIdeal.τ).loc Cert.ConvIdeal.main_v2_1)) (v2 : (c : Dev Cert.ConvIdeal.nD) → Buf (Elt Ideal) ((c.tc : Thread Cert.ConvIdeal.nD Cert.ConvIdeal.τ).loc Cert.ConvIdeal.main_v2_2)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v2_0) = v0 c
          ∧ r.2.mem ((c.tc : Thread Cert.ConvIdeal.nD Cert.ConvIdeal.τ).loc Cert.ConvIdeal.main_v2_1) = v1 c
          ∧ r.2.mem ((c.tc : Thread Cert.ConvIdeal.nD Cert.ConvIdeal.τ).loc Cert.ConvIdeal.main_v2_2) = v2 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v40) = v0 c
          ∧ r.2.mem ((c.tc : Thread Cert.ConvRefIdeal.nD Cert.ConvRefIdeal.τ).loc Cert.ConvRefIdeal.main_v41) = v1 c
          ∧ r.2.mem ((c.tc : Thread Cert.ConvRefIdeal.nD Cert.ConvRefIdeal.τ).loc Cert.ConvRefIdeal.main_v42) = v2 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v14) = v0 c
          ∧ r.2.mem ((c.tc : Thread Cert.LossRefIdeal.nD Cert.LossRefIdeal.τ).loc Cert.LossRefIdeal.main_v15) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_Attn_AttnIdeal : Prop :=
  True

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v23_0)) (v1 : (c : Dev Cert.AttnIdeal.nD) → Buf (Elt Ideal) ((c.tc : Thread Cert.AttnIdeal.nD Cert.AttnIdeal.τ).loc Cert.AttnIdeal.main_v23_1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v23_0) = v0 c
          ∧ r.2.mem ((c.tc : Thread Cert.AttnIdeal.nD Cert.AttnIdeal.τ).loc Cert.AttnIdeal.main_v23_1) = v1 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v76) = v0 c
          ∧ r.2.mem ((c.tc : Thread Cert.AttnRefIdeal.nD Cert.AttnRefIdeal.τ).loc Cert.AttnRefIdeal.main_v80) = v1 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def Claim : Prop :=
  ∃ (hSgu : Cert.Sgu.Facts) (hSguIdeal : Cert.SguIdeal.Facts) (hSguRefIdeal : Cert.SguRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hAIn : Cert.AIn.Facts) (hAInIdeal : Cert.AInIdeal.Facts) (hAInRefIdeal : Cert.AInRefIdeal.Facts) (hAOut : Cert.AOut.Facts) (hAOutIdeal : Cert.AOutIdeal.Facts) (hAOutRefIdeal : Cert.AOutRefIdeal.Facts) (hAOutDw : Cert.AOutDw.Facts) (hAOutDwIdeal : Cert.AOutDwIdeal.Facts) (hAOutDwRefIdeal : Cert.AOutDwRefIdeal.Facts) (hAOutDx : Cert.AOutDx.Facts) (hAOutDxIdeal : Cert.AOutDxIdeal.Facts) (hAOutDxRefIdeal : Cert.AOutDxRefIdeal.Facts) (hAInDw : Cert.AInDw.Facts) (hAInDwIdeal : Cert.AInDwIdeal.Facts) (hAInDwRefIdeal : Cert.AInDwRefIdeal.Facts) (hAInDx : Cert.AInDx.Facts) (hAInDxIdeal : Cert.AInDxIdeal.Facts) (hAInDxRefIdeal : Cert.AInDxRefIdeal.Facts) (hKv : Cert.Kv.Facts) (hKvIdeal : Cert.KvIdeal.Facts) (hKvRefIdeal : Cert.KvRefIdeal.Facts) (hKvDw : Cert.KvDw.Facts) (hKvDwIdeal : Cert.KvDwIdeal.Facts) (hKvDwRefIdeal : Cert.KvDwRefIdeal.Facts) (hKvDx : Cert.KvDx.Facts) (hKvDxIdeal : Cert.KvDxIdeal.Facts) (hKvDxRefIdeal : Cert.KvDxRefIdeal.Facts) (hBQ : Cert.BQ.Facts) (hBQIdeal : Cert.BQIdeal.Facts) (hBQRefIdeal : Cert.BQRefIdeal.Facts) (hBQDw : Cert.BQDw.Facts) (hBQDwIdeal : Cert.BQDwIdeal.Facts) (hBQDwRefIdeal : Cert.BQDwRefIdeal.Facts) (hBQDx : Cert.BQDx.Facts) (hBQDxIdeal : Cert.BQDxIdeal.Facts) (hBQDxRefIdeal : Cert.BQDxRefIdeal.Facts) (hBO : Cert.BO.Facts) (hBOIdeal : Cert.BOIdeal.Facts) (hBORefIdeal : Cert.BORefIdeal.Facts) (hBODw : Cert.BODw.Facts) (hBODwIdeal : Cert.BODwIdeal.Facts) (hBODwRefIdeal : Cert.BODwRefIdeal.Facts) (hBODx : Cert.BODx.Facts) (hBODxIdeal : Cert.BODxIdeal.Facts) (hBODxRefIdeal : Cert.BODxRefIdeal.Facts) (hUpDw1 : Cert.UpDw1.Facts) (hUpDw1Ideal : Cert.UpDw1Ideal.Facts) (hUpDw1RefIdeal : Cert.UpDw1RefIdeal.Facts) (hUpDw2 : Cert.UpDw2.Facts) (hUpDw2Ideal : Cert.UpDw2Ideal.Facts) (hUpDw2RefIdeal : Cert.UpDw2RefIdeal.Facts) (hDownDw1 : Cert.DownDw1.Facts) (hDownDw1Ideal : Cert.DownDw1Ideal.Facts) (hDownDw1RefIdeal : Cert.DownDw1RefIdeal.Facts) (hDownDw2 : Cert.DownDw2.Facts) (hDownDw2Ideal : Cert.DownDw2Ideal.Facts) (hDownDw2RefIdeal : Cert.DownDw2RefIdeal.Facts) (hAddLn : Cert.AddLn.Facts) (hAddLnIdeal : Cert.AddLnIdeal.Facts) (hAddLnRefIdeal : Cert.AddLnRefIdeal.Facts) (hLnBwd : Cert.LnBwd.Facts) (hLnBwdIdeal : Cert.LnBwdIdeal.Facts) (hLnBwdRefIdeal : Cert.LnBwdRefIdeal.Facts) (hSguFwd : Cert.SguFwd.Facts) (hSguFwdIdeal : Cert.SguFwdIdeal.Facts) (hSguFwdRefIdeal : Cert.SguFwdRefIdeal.Facts) (hConv : Cert.Conv.Facts) (hConvIdeal : Cert.ConvIdeal.Facts) (hConvRefIdeal : Cert.ConvRefIdeal.Facts) (hLoss : Cert.Loss.Facts) (hLossIdeal : Cert.LossIdeal.Facts) (hLossRefIdeal : Cert.LossRefIdeal.Facts) (hAttn : Cert.Attn.Facts) (hAttnIdeal : Cert.AttnIdeal.Facts) (hAttnRefIdeal : Cert.AttnRefIdeal.Facts) (hPre_sgu_pre : Cert.Pre_sgu_pre.Facts) (hPre_ln_bwd_pre : Cert.Pre_ln_bwd_pre.Facts),
    quiescent_Sgu (hSgu := hSgu)
    ∧ quiescent_SguIdeal (hSguIdeal := hSguIdeal)
    ∧ quiescent_SguIdeal_pre_sgu_pre (hSguIdeal := hSguIdeal) (hPre_sgu_pre := hPre_sgu_pre)
    ∧ quiescent_SguRefIdeal (hSguRefIdeal := hSguRefIdeal)
    ∧ quiescent_SguRefIdeal_pre_sgu_pre (hSguRefIdeal := hSguRefIdeal) (hPre_sgu_pre := hPre_sgu_pre)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_AIn (hAIn := hAIn)
    ∧ quiescent_AInIdeal (hAInIdeal := hAInIdeal)
    ∧ quiescent_AInRefIdeal (hAInRefIdeal := hAInRefIdeal)
    ∧ quiescent_AOut (hAOut := hAOut)
    ∧ quiescent_AOutIdeal (hAOutIdeal := hAOutIdeal)
    ∧ quiescent_AOutRefIdeal (hAOutRefIdeal := hAOutRefIdeal)
    ∧ quiescent_AOutDw (hAOutDw := hAOutDw)
    ∧ quiescent_AOutDwIdeal (hAOutDwIdeal := hAOutDwIdeal)
    ∧ quiescent_AOutDwRefIdeal (hAOutDwRefIdeal := hAOutDwRefIdeal)
    ∧ quiescent_AOutDx (hAOutDx := hAOutDx)
    ∧ quiescent_AOutDxIdeal (hAOutDxIdeal := hAOutDxIdeal)
    ∧ quiescent_AOutDxRefIdeal (hAOutDxRefIdeal := hAOutDxRefIdeal)
    ∧ quiescent_AInDw (hAInDw := hAInDw)
    ∧ quiescent_AInDwIdeal (hAInDwIdeal := hAInDwIdeal)
    ∧ quiescent_AInDwRefIdeal (hAInDwRefIdeal := hAInDwRefIdeal)
    ∧ quiescent_AInDx (hAInDx := hAInDx)
    ∧ quiescent_AInDxIdeal (hAInDxIdeal := hAInDxIdeal)
    ∧ quiescent_AInDxRefIdeal (hAInDxRefIdeal := hAInDxRefIdeal)
    ∧ quiescent_Kv (hKv := hKv)
    ∧ quiescent_KvIdeal (hKvIdeal := hKvIdeal)
    ∧ quiescent_KvRefIdeal (hKvRefIdeal := hKvRefIdeal)
    ∧ quiescent_KvDw (hKvDw := hKvDw)
    ∧ quiescent_KvDwIdeal (hKvDwIdeal := hKvDwIdeal)
    ∧ quiescent_KvDwRefIdeal (hKvDwRefIdeal := hKvDwRefIdeal)
    ∧ quiescent_KvDx (hKvDx := hKvDx)
    ∧ quiescent_KvDxIdeal (hKvDxIdeal := hKvDxIdeal)
    ∧ quiescent_KvDxRefIdeal (hKvDxRefIdeal := hKvDxRefIdeal)
    ∧ quiescent_BQ (hBQ := hBQ)
    ∧ quiescent_BQIdeal (hBQIdeal := hBQIdeal)
    ∧ quiescent_BQRefIdeal (hBQRefIdeal := hBQRefIdeal)
    ∧ quiescent_BQDw (hBQDw := hBQDw)
    ∧ quiescent_BQDwIdeal (hBQDwIdeal := hBQDwIdeal)
    ∧ quiescent_BQDwRefIdeal (hBQDwRefIdeal := hBQDwRefIdeal)
    ∧ quiescent_BQDx (hBQDx := hBQDx)
    ∧ quiescent_BQDxIdeal (hBQDxIdeal := hBQDxIdeal)
    ∧ quiescent_BQDxRefIdeal (hBQDxRefIdeal := hBQDxRefIdeal)
    ∧ quiescent_BO (hBO := hBO)
    ∧ quiescent_BOIdeal (hBOIdeal := hBOIdeal)
    ∧ quiescent_BORefIdeal (hBORefIdeal := hBORefIdeal)
    ∧ quiescent_BODw (hBODw := hBODw)
    ∧ quiescent_BODwIdeal (hBODwIdeal := hBODwIdeal)
    ∧ quiescent_BODwRefIdeal (hBODwRefIdeal := hBODwRefIdeal)
    ∧ quiescent_BODx (hBODx := hBODx)
    ∧ quiescent_BODxIdeal (hBODxIdeal := hBODxIdeal)
    ∧ quiescent_BODxRefIdeal (hBODxRefIdeal := hBODxRefIdeal)
    ∧ quiescent_UpDw1 (hUpDw1 := hUpDw1)
    ∧ quiescent_UpDw1Ideal (hUpDw1Ideal := hUpDw1Ideal)
    ∧ quiescent_UpDw1RefIdeal (hUpDw1RefIdeal := hUpDw1RefIdeal)
    ∧ quiescent_UpDw2 (hUpDw2 := hUpDw2)
    ∧ quiescent_UpDw2Ideal (hUpDw2Ideal := hUpDw2Ideal)
    ∧ quiescent_UpDw2RefIdeal (hUpDw2RefIdeal := hUpDw2RefIdeal)
    ∧ quiescent_DownDw1 (hDownDw1 := hDownDw1)
    ∧ quiescent_DownDw1Ideal (hDownDw1Ideal := hDownDw1Ideal)
    ∧ quiescent_DownDw1RefIdeal (hDownDw1RefIdeal := hDownDw1RefIdeal)
    ∧ quiescent_DownDw2 (hDownDw2 := hDownDw2)
    ∧ quiescent_DownDw2Ideal (hDownDw2Ideal := hDownDw2Ideal)
    ∧ quiescent_DownDw2RefIdeal (hDownDw2RefIdeal := hDownDw2RefIdeal)
    ∧ quiescent_AddLn (hAddLn := hAddLn)
    ∧ quiescent_AddLnIdeal (hAddLnIdeal := hAddLnIdeal)
    ∧ quiescent_AddLnRefIdeal (hAddLnRefIdeal := hAddLnRefIdeal)
    ∧ quiescent_LnBwd (hLnBwd := hLnBwd)
    ∧ quiescent_LnBwdIdeal (hLnBwdIdeal := hLnBwdIdeal)
    ∧ quiescent_LnBwdIdeal_pre_ln_bwd_pre (hLnBwdIdeal := hLnBwdIdeal) (hPre_ln_bwd_pre := hPre_ln_bwd_pre)
    ∧ quiescent_LnBwdRefIdeal (hLnBwdRefIdeal := hLnBwdRefIdeal)
    ∧ quiescent_LnBwdRefIdeal_pre_ln_bwd_pre (hLnBwdRefIdeal := hLnBwdRefIdeal) (hPre_ln_bwd_pre := hPre_ln_bwd_pre)
    ∧ quiescent_SguFwd (hSguFwd := hSguFwd)
    ∧ quiescent_SguFwdIdeal (hSguFwdIdeal := hSguFwdIdeal)
    ∧ quiescent_SguFwdRefIdeal (hSguFwdRefIdeal := hSguFwdRefIdeal)
    ∧ quiescent_Conv (hConv := hConv)
    ∧ quiescent_ConvIdeal (hConvIdeal := hConvIdeal)
    ∧ quiescent_ConvRefIdeal (hConvRefIdeal := hConvRefIdeal)
    ∧ quiescent_Loss (hLoss := hLoss)
    ∧ quiescent_LossIdeal (hLossIdeal := hLossIdeal)
    ∧ quiescent_LossRefIdeal (hLossRefIdeal := hLossRefIdeal)
    ∧ quiescent_Attn (hAttn := hAttn)
    ∧ quiescent_AttnIdeal (hAttnIdeal := hAttnIdeal)
    ∧ quiescent_AttnRefIdeal (hAttnRefIdeal := hAttnRefIdeal)
    ∧ preserves_Sgu_SguIdeal
    ∧ algebraic_SguIdeal_SguRefIdeal_pre_sgu_pre (hSguIdeal := hSguIdeal) (hSguRefIdeal := hSguRefIdeal) (hPre_sgu_pre := hPre_sgu_pre)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_AIn_AInIdeal
    ∧ algebraic_AInIdeal_AInRefIdeal (hAInIdeal := hAInIdeal) (hAInRefIdeal := hAInRefIdeal)
    ∧ preserves_AOut_AOutIdeal
    ∧ algebraic_AOutIdeal_AOutRefIdeal (hAOutIdeal := hAOutIdeal) (hAOutRefIdeal := hAOutRefIdeal)
    ∧ preserves_AOutDw_AOutDwIdeal
    ∧ algebraic_AOutDwIdeal_AOutDwRefIdeal (hAOutDwIdeal := hAOutDwIdeal) (hAOutDwRefIdeal := hAOutDwRefIdeal)
    ∧ preserves_AOutDx_AOutDxIdeal
    ∧ algebraic_AOutDxIdeal_AOutDxRefIdeal (hAOutDxIdeal := hAOutDxIdeal) (hAOutDxRefIdeal := hAOutDxRefIdeal)
    ∧ preserves_AInDw_AInDwIdeal
    ∧ algebraic_AInDwIdeal_AInDwRefIdeal (hAInDwIdeal := hAInDwIdeal) (hAInDwRefIdeal := hAInDwRefIdeal)
    ∧ preserves_AInDx_AInDxIdeal
    ∧ algebraic_AInDxIdeal_AInDxRefIdeal (hAInDxIdeal := hAInDxIdeal) (hAInDxRefIdeal := hAInDxRefIdeal)
    ∧ preserves_Kv_KvIdeal
    ∧ algebraic_KvIdeal_KvRefIdeal (hKvIdeal := hKvIdeal) (hKvRefIdeal := hKvRefIdeal)
    ∧ preserves_KvDw_KvDwIdeal
    ∧ algebraic_KvDwIdeal_KvDwRefIdeal (hKvDwIdeal := hKvDwIdeal) (hKvDwRefIdeal := hKvDwRefIdeal)
    ∧ preserves_KvDx_KvDxIdeal
    ∧ algebraic_KvDxIdeal_KvDxRefIdeal (hKvDxIdeal := hKvDxIdeal) (hKvDxRefIdeal := hKvDxRefIdeal)
    ∧ preserves_BQ_BQIdeal
    ∧ algebraic_BQIdeal_BQRefIdeal (hBQIdeal := hBQIdeal) (hBQRefIdeal := hBQRefIdeal)
    ∧ preserves_BQDw_BQDwIdeal
    ∧ algebraic_BQDwIdeal_BQDwRefIdeal (hBQDwIdeal := hBQDwIdeal) (hBQDwRefIdeal := hBQDwRefIdeal)
    ∧ preserves_BQDx_BQDxIdeal
    ∧ algebraic_BQDxIdeal_BQDxRefIdeal (hBQDxIdeal := hBQDxIdeal) (hBQDxRefIdeal := hBQDxRefIdeal)
    ∧ preserves_BO_BOIdeal
    ∧ algebraic_BOIdeal_BORefIdeal (hBOIdeal := hBOIdeal) (hBORefIdeal := hBORefIdeal)
    ∧ preserves_BODw_BODwIdeal
    ∧ algebraic_BODwIdeal_BODwRefIdeal (hBODwIdeal := hBODwIdeal) (hBODwRefIdeal := hBODwRefIdeal)
    ∧ preserves_BODx_BODxIdeal
    ∧ algebraic_BODxIdeal_BODxRefIdeal (hBODxIdeal := hBODxIdeal) (hBODxRefIdeal := hBODxRefIdeal)
    ∧ preserves_UpDw1_UpDw1Ideal
    ∧ algebraic_UpDw1Ideal_UpDw1RefIdeal (hUpDw1Ideal := hUpDw1Ideal) (hUpDw1RefIdeal := hUpDw1RefIdeal)
    ∧ preserves_UpDw2_UpDw2Ideal
    ∧ algebraic_UpDw2Ideal_UpDw2RefIdeal (hUpDw2Ideal := hUpDw2Ideal) (hUpDw2RefIdeal := hUpDw2RefIdeal)
    ∧ preserves_DownDw1_DownDw1Ideal
    ∧ algebraic_DownDw1Ideal_DownDw1RefIdeal (hDownDw1Ideal := hDownDw1Ideal) (hDownDw1RefIdeal := hDownDw1RefIdeal)
    ∧ preserves_DownDw2_DownDw2Ideal
    ∧ algebraic_DownDw2Ideal_DownDw2RefIdeal (hDownDw2Ideal := hDownDw2Ideal) (hDownDw2RefIdeal := hDownDw2RefIdeal)
    ∧ preserves_AddLn_AddLnIdeal
    ∧ algebraic_AddLnIdeal_AddLnRefIdeal (hAddLnIdeal := hAddLnIdeal) (hAddLnRefIdeal := hAddLnRefIdeal)
    ∧ preserves_LnBwd_LnBwdIdeal
    ∧ algebraic_LnBwdIdeal_LnBwdRefIdeal_pre_ln_bwd_pre (hLnBwdIdeal := hLnBwdIdeal) (hLnBwdRefIdeal := hLnBwdRefIdeal) (hPre_ln_bwd_pre := hPre_ln_bwd_pre)
    ∧ preserves_SguFwd_SguFwdIdeal
    ∧ algebraic_SguFwdIdeal_SguFwdRefIdeal (hSguFwdIdeal := hSguFwdIdeal) (hSguFwdRefIdeal := hSguFwdRefIdeal)
    ∧ preserves_Conv_ConvIdeal
    ∧ algebraic_ConvIdeal_ConvRefIdeal (hConvIdeal := hConvIdeal) (hConvRefIdeal := hConvRefIdeal)
    ∧ preserves_Loss_LossIdeal
    ∧ algebraic_LossIdeal_LossRefIdeal (hLossIdeal := hLossIdeal) (hLossRefIdeal := hLossRefIdeal)
    ∧ preserves_Attn_AttnIdeal
    ∧ algebraic_AttnIdeal_AttnRefIdeal (hAttnIdeal := hAttnIdeal) (hAttnRefIdeal := hAttnRefIdeal)
-- ==== Pre_ln_bwd_pre.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn_part1 {F : FTy → Type} [FloatOps F] (main_arg2 : FVec F S4096x1024 .f32) (main_arg3 : FVec F S1024 .f32) (main_v12 : IVec S_ 1) (main_v14 : IVec S4096x1024 1) (main_v15 : FVec F S4096x1024 .f32) : IVec S_ 1 :=
  let main_v16 : IVec S4096x1024 1 := cmpf .ogt main_arg2 main_v15
  let main_v17 : IVec S4096x1024 1 := andi main_v14 main_v16
  let main_c_6 : IVec S_ 1 := constantI S_ 1 1#1
  let main_v18 : IVec S_ 1 := (fun x v => Host.reduce IntOp.andi x v reducesTo_S4096x1024_S_d0_1 h_S_) main_v17 main_c_6
  let main_v19 : IVec S_ 1 := andi main_v12 main_v18
  let main_cst_7 : FVec F S_ .f32 := constant S_ .f32 0x7F800000#32
  let main_v20 : FVec F S1024 .f32 := broadcastInDim S1024 ![] bcast_S_S1024 main_cst_7
  let main_v21 : IVec S1024 1 := cmpf .olt main_arg3 main_v20
  let main_cst_8 : FVec F S_ .f32 := constant S_ .f32 0xFF800000#32
  let main_v22 : FVec F S1024 .f32 := broadcastInDim S1024 ![] bcast_S_S1024 main_cst_8
  let main_v23 : IVec S1024 1 := cmpf .ogt main_arg3 main_v22
  let main_v24 : IVec S1024 1 := andi main_v21 main_v23
  let main_c_9 : IVec S_ 1 := constantI S_ 1 1#1
  let main_v25 : IVec S_ 1 := (fun x v => Host.reduce IntOp.andi x v reducesTo_S1024_S_d0 h_S_) main_v24 main_c_9
  let main_v26 : IVec S_ 1 := andi main_v19 main_v25
  main_v26

def fn {F : FTy → Type} [FloatOps F] (main_arg0 : FVec F S4096x1024 .f32) (main_arg1 : FVec F S4096x1024 .f32) (main_arg2 : FVec F S4096x1024 .f32) (main_arg3 : FVec F S1024 .f32) : IVec S_ 1 :=
  let main_cst : FVec F S_ .f32 := constant S_ .f32 0x7F800000#32
  let main_v0 : FVec F S4096x1024 .f32 := broadcastInDim S4096x1024 ![] bcast_S_S4096x1024 main_cst
  let main_v1 : IVec S4096x1024 1 := cmpf .olt main_arg0 main_v0
  let main_cst_0 : FVec F S_ .f32 := constant S_ .f32 0xFF800000#32
  let main_v2 : FVec F S4096x1024 .f32 := broadcastInDim S4096x1024 ![] bcast_S_S4096x1024 main_cst_0
  let main_v3 : IVec S4096x1024 1 := cmpf .ogt main_arg0 main_v2
  let main_v4 : IVec S4096x1024 1 := andi main_v1 main_v3
  let main_c : IVec S_ 1 := constantI S_ 1 1#1
  let main_v5 : IVec S_ 1 := (fun x v => Host.reduce IntOp.andi x v reducesTo_S4096x1024_S_d0_1 h_S_) main_v4 main_c
  let main_cst_1 : FVec F S_ .f32 := constant S_ .f32 0x7F800000#32
  let main_v6 : FVec F S4096x1024 .f32 := broadcastInDim S4096x1024 ![] bcast_S_S4096x1024 main_cst_1
  let main_v7 : IVec S4096x1024 1 := cmpf .olt main_arg1 main_v6
  let main_cst_2 : FVec F S_ .f32 := constant S_ .f32 0xFF800000#32
  let main_v8 : FVec F S4096x1024 .f32 := broadcastInDim S4096x1024 ![] bcast_S_S4096x1024 main_cst_2
  let main_v9 : IVec S4096x1024 1 := cmpf .ogt main_arg1 main_v8
  let main_v10 : IVec S4096x1024 1 := andi main_v7 main_v9
  let main_c_3 : IVec S_ 1 := constantI S_ 1 1#1
  let main_v11 : IVec S_ 1 := (fun x v => Host.reduce IntOp.andi x v reducesTo_S4096x1024_S_d0_1 h_S_) main_v10 main_c_3
  let main_v12 : IVec S_ 1 := andi main_v5 main_v11
  let main_cst_4 : FVec F S_ .f32 := constant S_ .f32 0x7F800000#32
  let main_v13 : FVec F S4096x1024 .f32 := broadcastInDim S4096x1024 ![] bcast_S_S4096x1024 main_cst_4
  let main_v14 : IVec S4096x1024 1 := cmpf .olt main_arg2 main_v13
  let main_cst_5 : FVec F S_ .f32 := constant S_ .f32 0xFF800000#32
  let main_v15 : FVec F S4096x1024 .f32 := broadcastInDim S4096x1024 ![] bcast_S_S4096x1024 main_cst_5
  fn_part1 (F := F) main_arg2 main_arg3 main_v12 main_v14 main_v15
-- ==== Pre_sgu_pre.lean ====
abbrev S4096x4096 : Shape := ⟨2, ![4096, 4096]⟩
abbrev S4096x2048 : Shape := ⟨2, ![4096, 2048]⟩
abbrev S8x128x128 : Shape := ⟨3, ![8, 128, 128]⟩
abbrev S8x128 : Shape := ⟨2, ![8, 128]⟩
abbrev S2048 : Shape := ⟨1, ![2048]⟩
abbrev S_ : Shape := ⟨0, ![]⟩

class Facts : Prop where
  bitsLt_bf16_f32 : FTy.bits .bf16 < FTy.bits .f32
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg5 : FVec F S2048 .f32) (main_v28 : IVec S_ 1) (main_v33 : IVec S2048 1) : IVec S_ 1 :=
  let main_c_12 : IVec S_ 1 := constantI S_ 1 1#1
  let main_v34 : IVec S_ 1 := (fun x v => Host.reduce IntOp.andi x v reducesTo_S2048_S_d0 h_S_) main_v33 main_c_12
  let main_v35 : IVec S_ 1 := andi main_v28 main_v34
  let main_cst_13 : FVec F S_ .f32 := constant S_ .f32 0x7F800000#32
  let main_v36 : FVec F S2048 .f32 := broadcastInDim S2048 ![] bcast_S_S2048 main_cst_13
  let main_v37 : IVec S2048 1 := cmpf .olt main_arg5 main_v36
  let main_cst_14 : FVec F S_ .f32 := constant S_ .f32 0xFF800000#32
  let main_v38 : FVec F S2048 .f32 := broadcastInDim S2048 ![] bcast_S_S2048 main_cst_14
  let main_v39 : IVec S2048 1 := cmpf .ogt main_arg5 main_v38
  let main_v40 : IVec S2048 1 := andi main_v37 main_v39
  let main_c_15 : IVec S_ 1 := constantI S_ 1 1#1
  let main_v41 : IVec S_ 1 := (fun x v => Host.reduce IntOp.andi x v reducesTo_S2048_S_d0 h_S_) main_v40 main_c_15
  let main_v42 : IVec S_ 1 := andi main_v35 main_v41
  main_v42

def fn_part1 {F : FTy → Type} [FloatOps F] (main_arg2 : FVec F S8x128x128 .f32) (main_arg3 : FVec F S8x128 .f32) (main_arg4 : FVec F S2048 .f32) (main_arg5 : FVec F S2048 .f32) (main_v14 : IVec S_ 1) (main_v16 : IVec S8x128x128 1) : IVec S_ 1 :=
  let main_cst_5 : FVec F S_ .f32 := constant S_ .f32 0xFF800000#32
  let main_v17 : FVec F S8x128x128 .f32 := broadcastInDim S8x128x128 ![] bcast_S_S8x128x128 main_cst_5
  let main_v18 : IVec S8x128x128 1 := cmpf .ogt main_arg2 main_v17
  let main_v19 : IVec S8x128x128 1 := andi main_v16 main_v18
  let main_c_6 : IVec S_ 1 := constantI S_ 1 1#1
  let main_v20 : IVec S_ 1 := (fun x v => Host.reduce IntOp.andi x v reducesTo_S8x128x128_S_d0_1_2 h_S_) main_v19 main_c_6
  let main_v21 : IVec S_ 1 := andi main_v14 main_v20
  let main_cst_7 : FVec F S_ .f32 := constant S_ .f32 0x7F800000#32
  let main_v22 : FVec F S8x128 .f32 := broadcastInDim S8x128 ![] bcast_S_S8x128 main_cst_7
  let main_v23 : IVec S8x128 1 := cmpf .olt main_arg3 main_v22
  let main_cst_8 : FVec F S_ .f32 := constant S_ .f32 0xFF800000#32
  let main_v24 : FVec F S8x128 .f32 := broadcastInDim S8x128 ![] bcast_S_S8x128 main_cst_8
  let main_v25 : IVec S8x128 1 := cmpf .ogt main_arg3 main_v24
  let main_v26 : IVec S8x128 1 := andi main_v23 main_v25
  let main_c_9 : IVec S_ 1 := constantI S_ 1 1#1
  let main_v27 : IVec S_ 1 := (fun x v => Host.reduce IntOp.andi x v reducesTo_S8x128_S_d0_1 h_S_) main_v26 main_c_9
  let main_v28 : IVec S_ 1 := andi main_v21 main_v27
  let main_cst_10 : FVec F S_ .f32 := constant S_ .f32 0x7F800000#32
  let main_v29 : FVec F S2048 .f32 := broadcastInDim S2048 ![] bcast_S_S2048 main_cst_10
  let main_v30 : IVec S2048 1 := cmpf .olt main_arg4 main_v29
  let main_cst_11 : FVec F S_ .f32 := constant S_ .f32 0xFF800000#32
  let main_v31 : FVec F S2048 .f32 := broadcastInDim S2048 ![] bcast_S_S2048 main_cst_11
  let main_v32 : IVec S2048 1 := cmpf .ogt main_arg4 main_v31
  let main_v33 : IVec S2048 1 := andi main_v30 main_v32
  fn_part2 (F := F) main_arg5 main_v28 main_v33

def fn {F : FTy → Type} [FloatOps F] (main_arg0 : FVec F S4096x4096 .bf16) (main_arg1 : FVec F S4096x2048 .bf16) (main_arg2 : FVec F S8x128x128 .f32) (main_arg3 : FVec F S8x128 .f32) (main_arg4 : FVec F S2048 .f32) (main_arg5 : FVec F S2048 .f32) : IVec S_ 1 :=
  let main_v0 : FVec F S4096x4096 .f32 := (extf .f32 · bitsLt_bf16_f32) main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_cst_0 : FVec F S_ .f32 := constant S_ .f32 0xFF800000#32
  let main_v3 : FVec F S4096x4096 .f32 := broadcastInDim S4096x4096 ![] bcast_S_S4096x4096 main_cst_0
  let main_v4 : IVec S4096x4096 1 := cmpf .ogt main_v0 main_v3
  let main_v5 : IVec S4096x4096 1 := andi main_v2 main_v4
  let main_c : IVec S_ 1 := constantI S_ 1 1#1
  let main_v6 : IVec S_ 1 := (fun x v => Host.reduce IntOp.andi x v reducesTo_S4096x4096_S_d0_1 h_S_) main_v5 main_c
  let main_v7 : FVec F S4096x2048 .f32 := (extf .f32 · bitsLt_bf16_f32) main_arg1
  let main_cst_1 : FVec F S_ .f32 := constant S_ .f32 0x7F800000#32
  let main_v8 : FVec F S4096x2048 .f32 := broadcastInDim S4096x2048 ![] bcast_S_S4096x2048 main_cst_1
  let main_v9 : IVec S4096x2048 1 := cmpf .olt main_v7 main_v8
  let main_cst_2 : FVec F S_ .f32 := constant S_ .f32 0xFF800000#32
  let main_v10 : FVec F S4096x2048 .f32 := broadcastInDim S4096x2048 ![] bcast_S_S4096x2048 main_cst_2
  let main_v11 : IVec S4096x2048 1 := cmpf .ogt main_v7 main_v10
  let main_v12 : IVec S4096x2048 1 := andi main_v9 main_v11
  let main_c_3 : IVec S_ 1 := constantI S_ 1 1#1
  let main_v13 : IVec S_ 1 := (fun x v => Host.reduce IntOp.andi x v reducesTo_S4096x2048_S_d0_1 h_S_) main_v12 main_c_3
  let main_v14 : IVec S_ 1 := andi main_v6 main_v13
  let main_cst_4 : FVec F S_ .f32 := constant S_ .f32 0x7F800000#32
  let main_v15 : FVec F S8x128x128 .f32 := broadcastInDim S8x128x128 ![] bcast_S_S8x128x128 main_cst_4
  let main_v16 : IVec S8x128x128 1 := cmpf .olt main_arg2 main_v15
  fn_part1 (F := F) main_arg2 main_arg3 main_arg4 main_arg5 main_v14 main_v16
-- ==== Sgu.lean ====
abbrev S4096x4096 : Shape := ⟨2, ![4096, 4096]⟩
abbrev S4096x2048 : Shape := ⟨2, ![4096, 2048]⟩
abbrev S8x128x128 : Shape := ⟨3, ![8, 128, 128]⟩
abbrev S8x128 : Shape := ⟨2, ![8, 128]⟩
abbrev S2048 : Shape := ⟨1, ![2048]⟩
abbrev S8x128x1 : Shape := ⟨3, ![8, 128, 1]⟩
abbrev S1x2048 : Shape := ⟨2, ![1, 2048]⟩
abbrev S128x128 : Shape := ⟨2, ![128, 128]⟩
abbrev S128x4096 : Shape := ⟨2, ![128, 4096]⟩
abbrev S128x2048 : Shape := ⟨2, ![128, 2048]⟩
abbrev S128 : Shape := ⟨1, ![128]⟩
abbrev S128x1 : Shape := ⟨2, ![128, 1]⟩
abbrev S1x128x128 : Shape := ⟨3, ![1, 128, 128]⟩
abbrev S128x256 : Shape := ⟨2, ![128, 256]⟩
abbrev S1x128x1 : Shape := ⟨3, ![1, 128, 1]⟩

abbrev nBuf : Space → Nat
  | .hbm => 14
  | .vmem => 15
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S8x128x128, .f32⟩
  | .hbm, ⟨3, _⟩ => ⟨S8x128, .f32⟩
  | .hbm, ⟨4, _⟩ => ⟨S2048, .f32⟩
  | .hbm, ⟨5, _⟩ => ⟨S2048, .f32⟩
  | .hbm, ⟨6, _⟩ => ⟨S8x128x1, .f32⟩
  | .hbm, ⟨7, _⟩ => ⟨S1x2048, .f32⟩
  | .hbm, ⟨8, _⟩ => ⟨S1x2048, .f32⟩
  | .hbm, ⟨9, _⟩ => ⟨S4096x4096, .bf16⟩
  | .hbm, ⟨10, _⟩ => ⟨S8x128x128, .f32⟩
  | .hbm, ⟨11, _⟩ => ⟨S128x128, .f32⟩
  | .hbm, ⟨12, _⟩ => ⟨S1x2048, .f32⟩
  | .hbm, ⟨13, _⟩ => ⟨S1x2048, .f32⟩
  | .local _ .vmem, ⟨0, _⟩ => ⟨S128x4096, .bf16⟩
  | .local _ .vmem, ⟨1, _⟩ => ⟨S128x4096, .bf16⟩
  | .local _ .vmem, ⟨2, _⟩ => ⟨S128x2048, .bf16⟩
  | .local _ .vmem, ⟨3, _⟩ => ⟨S128x2048, .bf16⟩
  | .local _ .vmem, ⟨4, _⟩ => ⟨S8x128x128, .f32⟩
  | .local _ .vmem, ⟨5, _⟩ => ⟨S8x128x1, .f32⟩
  | .local _ .vmem, ⟨6, _⟩ => ⟨S1x2048, .f32⟩
  | .local _ .vmem, ⟨7, _⟩ => ⟨S1x2048, .f32⟩
  | .local _ .vmem, ⟨8, _⟩ => ⟨S128x4096, .bf16⟩
  | .local _ .vmem, ⟨9, _⟩ => ⟨S128x4096, .bf16⟩
  | .local _ .vmem, ⟨10, _⟩ => ⟨S8x128x128, .f32⟩
  | .local _ .vmem, ⟨11, _⟩ => ⟨S128x128, .f32⟩
  | .local _ .vmem, ⟨12, _⟩ => ⟨S1x2048, .f32⟩
  | .local _ .vmem, ⟨13, _⟩ => ⟨S1x2048, .f32⟩
  | .local _ .vmem, ⟨14, _⟩ => ⟨S128x2048, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== SguIdeal.lean ====
variable {F : FTy → Type} [FloatOps F] [Named F]
def κ : String → Option EReal := fun
  | "inv_sqrt_2pi" => some (((Real.sqrt (2 * Real.pi))⁻¹ : ℝ) : EReal)
  | "sqrt_half" => some (((Real.sqrt 2)⁻¹ : ℝ) : EReal)
  | _ => none
-- ==== SguRefIdeal.lean ====
abbrev S4096x4096 : Shape := ⟨2, ![4096, 4096]⟩
abbrev S4096x2048 : Shape := ⟨2, ![4096, 2048]⟩
abbrev S8x128x128 : Shape := ⟨3, ![8, 128, 128]⟩
abbrev S8x128 : Shape := ⟨2, ![8, 128]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S32x128x8x256 : Shape := ⟨4, ![32, 128, 8, 256]⟩
abbrev S128x128 : Shape := ⟨2, ![128, 128]⟩
abbrev S1x128x128 : Shape := ⟨3, ![1, 128, 128]⟩
abbrev S8x32x256x128 : Shape := ⟨4, ![8, 32, 256, 128]⟩
abbrev S128x8 : Shape := ⟨2, ![128, 8]⟩
abbrev S1x128x8x1 : Shape := ⟨4, ![1, 128, 8, 1]⟩

abbrev nBuf : Space → Nat
  | .hbm => 168
  | .vmem => 0
  | .smem => 0
  | _ => 0

abbrev hbmTy0_0 (i : Nat) : BufTy := match i % 128 with
  | 0 => ⟨S4096x4096, .bf16⟩
  | 1 => ⟨S4096x2048, .bf16⟩
  | 2 => ⟨S8x128x128, .f32⟩
  | 3 => ⟨S8x128, .f32⟩
  | 4 => ⟨S2048, .f32⟩
  | 5 => ⟨S2048, .f32⟩
  | 6 => ⟨S4096x4096, .f32⟩
  | 7 => ⟨S_, .f32⟩
  | 8 => ⟨S4096x4096, .f32⟩
  | 9 => ⟨S4096x4096, .f32⟩
  | 10 => ⟨S_, .f32⟩
  | 11 => ⟨S_, .f32⟩
  | 12 => ⟨S4096x4096, .f32⟩
  | 13 => ⟨S4096x4096, .f32⟩
  | 14 => ⟨S_, .f32⟩
  | 15 => ⟨S_, .f32⟩
  | 16 => ⟨S_, .f32⟩
  | 17 => ⟨S_, .f32⟩
  | 18 => ⟨S_, .f32⟩
  | 19 => ⟨S4096x4096, .f32⟩
  | 20 => ⟨S4096x4096, .f32⟩
  | 21 => ⟨S4096x4096, .f32⟩
  | 22 => ⟨S4096x4096, .f32⟩
  | 23 => ⟨S4096x4096, .f32⟩
  | 24 => ⟨S4096x4096, .f32⟩
  | 25 => ⟨S_, .f32⟩
  | 26 => ⟨S4096x4096, .f32⟩
  | 27 => ⟨S4096x4096, .f32⟩
  | 28 => ⟨S4096x4096, .f32⟩
  | 29 => ⟨S4096x2048, .f32⟩
  | 30 => ⟨S4096x2048, .f32⟩
  | 31 => ⟨S_, .f32⟩
  | 32 => ⟨S4096, .f32⟩
  | 33 => ⟨S4096x1, .f32⟩
  | 34 => ⟨S_, .f32⟩
  | 35 => ⟨S4096x1, .f32⟩
  | 36 => ⟨S4096x1, .f32⟩
  | 37 => ⟨S4096x2048, .f32⟩
  | 38 => ⟨S4096x2048, .f32⟩
  | 39 => ⟨S4096x2048, .f32⟩
  | 40 => ⟨S_, .f32⟩
  | 41 => ⟨S4096x2048, .f32⟩
  | 42 => ⟨S4096x2048, .f32⟩
  | 43 => ⟨S_, .f32⟩
  | 44 => ⟨S4096, .f32⟩
  | 45 => ⟨S4096x1, .f32⟩
  | 46 => ⟨S_, .f32⟩
  | 47 => ⟨S4096x1, .f32⟩
  | 48 => ⟨S4096x1, .f32⟩
  | 49 => ⟨S4096x2048, .f32⟩
  | 50 => ⟨S4096x2048, .f32⟩
  | 51 => ⟨S_, .f32⟩
  | 52 => ⟨S4096x1, .f32⟩
  | 53 => ⟨S4096x1, .f32⟩
  | 54 => ⟨S4096x1, .f32⟩
  | 55 => ⟨S4096x1, .f32⟩
  | 56 => ⟨S_, .f32⟩
  | 57 => ⟨S4096x1, .f32⟩
  | 58 => ⟨S4096x1, .f32⟩
  | 59 => ⟨S4096x2048, .f32⟩
  | 60 => ⟨S4096x2048, .f32⟩
  | 61 => ⟨S1x2048, .f32⟩
  | 62 => ⟨S4096x2048, .f32⟩
  | 63 => ⟨S4096x2048, .f32⟩
  | 64 => ⟨S1x2048, .f32⟩
  | 65 => ⟨S4096x2048, .f32⟩
  | 66 => ⟨S4096x2048, .f32⟩
  | 67 => ⟨S32x128x8x256, .f32⟩
  | 68 => ⟨S_, .f32⟩
  | 69 => ⟨S128x128, .f32⟩
  | 70 => ⟨S128x128, .i32⟩
  | 71 => ⟨S_, .i32⟩
  | 72 => ⟨S128x128, .i32⟩
  | 73 => ⟨S128x128, .i32⟩
  | 74 => ⟨S128x128, .i32⟩
  | 75 => ⟨S128x128, .i1⟩
  | 76 => ⟨S_, .f32⟩
  | 77 => ⟨S128x128, .f32⟩
  | 78 => ⟨S128x128, .f32⟩
  | 79 => ⟨S1x128x128, .f32⟩
  | 80 => ⟨S8x128x128, .f32⟩
  | 81 => ⟨S8x128x128, .f32⟩
  | 82 => ⟨S8x32x256x128, .f32⟩
  | 83 => ⟨S32x128x8x256, .f32⟩
  | 84 => ⟨S128x8, .f32⟩
  | 85 => ⟨S1x128x8x1, .f32⟩
  | 86 => ⟨S32x128x8x256, .f32⟩
  | 87 => ⟨S32x128x8x256, .f32⟩
  | 88 => ⟨S4096x2048, .f32⟩
  | 89 => ⟨S4096x2048, .f32⟩
  | 90 => ⟨S4096x2048, .f32⟩
  | 91 => ⟨S4096x2048, .f32⟩
  | 92 => ⟨S4096x2048, .f32⟩
  | 93 => ⟨S32x128x8x256, .f32⟩
  | 94 => ⟨S_, .f32⟩
  | 95 => ⟨S128x8, .f32⟩
  | 96 => ⟨S1x128x8x1, .f32⟩
  | 97 => ⟨S_, .f32⟩
  | 98 => ⟨S128x8, .f32⟩
  | 99 => ⟨S8x128, .f32⟩
  | 100 => ⟨S8x32x256x128, .f32⟩
  | 101 => ⟨S8x128x128, .f32⟩
  | 102 => ⟨S8x32x256x128, .f32⟩
  | 103 => ⟨S32x128x8x256, .f32⟩
  | 104 => ⟨S8x128x128, .f32⟩
  | 105 => ⟨S8x128x128, .f32⟩
  | 106 => ⟨S4096x2048, .f32⟩
  | 107 => ⟨S_, .f32⟩
  | 108 => ⟨S2048, .f32⟩
  | 109 => ⟨S1x2048, .f32⟩
  | 110 => ⟨S_, .f32⟩
  | 111 => ⟨S2048, .f32⟩
  | 112 => ⟨S4096x2048, .f32⟩
  | 113 => ⟨S_, .f32⟩
  | 114 => ⟨S2048, .f32⟩
  | 115 => ⟨S1x2048, .f32⟩
  | 116 => ⟨S4096x2048, .f32⟩
  | 117 => ⟨S4096x2048, .f32⟩
  | 118 => ⟨S_, .f32⟩
  | 119 => ⟨S2048, .f32⟩
  | 120 => ⟨S4096x2048, .f32⟩
  | 121 => ⟨S_, .f32⟩
  | 122 => ⟨S4096, .f32⟩
  | 123 => ⟨S4096x1, .f32⟩
  | 124 => ⟨S4096x2048, .f32⟩
  | 125 => ⟨S4096x2048, .f32⟩
  | 126 => ⟨S4096x1, .f32⟩
  | 127 => ⟨S4096x2048, .f32⟩
  | _ => ⟨S4096x4096, .bf16⟩

abbrev hbmTy0_1 (i : Nat) : BufTy := match i % 128 with
  | 0 => ⟨S_, .f32⟩
  | 1 => ⟨S4096, .f32⟩
  | 2 => ⟨S4096x1, .f32⟩
  | 3 => ⟨S_, .f32⟩
  | 4 => ⟨S4096x1, .f32⟩
  | 5 => ⟨S4096x1, .f32⟩
  | 6 => ⟨S_, .f32⟩
  | 7 => ⟨S4096, .f32⟩
  | 8 => ⟨S4096x2048, .f32⟩
  | 9 => ⟨S4096x2048, .f32⟩
  | 10 => ⟨S4096x2048, .f32⟩
  | 11 => ⟨S_, .f32⟩
  | 12 => ⟨S4096, .f32⟩
  | 13 => ⟨S4096x1, .f32⟩
  | 14 => ⟨S4096x2048, .f32⟩
  | 15 => ⟨S4096x1, .f32⟩
  | 16 => ⟨S_, .f32⟩
  | 17 => ⟨S4096x1, .f32⟩
  | 18 => ⟨S4096x1, .f32⟩
  | 19 => ⟨S_, .f32⟩
  | 20 => ⟨S4096, .f32⟩
  | 21 => ⟨S4096x2048, .f32⟩
  | 22 => ⟨S4096x2048, .f32⟩
  | 23 => ⟨S4096x4096, .f32⟩
  | 24 => ⟨S4096x4096, .f32⟩
  | 25 => ⟨S4096x4096, .f32⟩
  | 26 => ⟨S4096x4096, .f32⟩
  | 27 => ⟨S4096x4096, .f32⟩
  | 28 => ⟨S4096x4096, .f32⟩
  | 29 => ⟨S_, .f32⟩
  | 30 => ⟨S4096x4096, .f32⟩
  | 31 => ⟨S4096x4096, .f32⟩
  | 32 => ⟨S4096x4096, .f32⟩
  | 33 => ⟨S128x8, .f32⟩
  | 34 => ⟨S_, .i32⟩
  | 35 => ⟨S_, .f32⟩
  | 36 => ⟨S128x128, .f32⟩
  | 37 => ⟨S4096x4096, .bf16⟩
  | 38 => ⟨S1x2048, .f32⟩
  | 39 => ⟨S1x2048, .f32⟩
  | _ => ⟨S4096x4096, .bf16⟩

abbrev hbmTy (i : Nat) : BufTy := match i / 128 with
  | 0 => hbmTy0_0 i
  | 1 => hbmTy0_1 i
  | _ => ⟨S4096x4096, .bf16⟩

abbrev bufTy : (tb : Table) → Fin (tcTables nBuf tb) → BufTy
  | .hbm, ⟨i, _⟩ => hbmTy i
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_10 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_call0_v0 : Ref sig .tc := ⟨.hbm, 70, rfl⟩
abbrev main_call0_c : Ref sig .tc := ⟨.hbm, 71, rfl⟩
abbrev main_call0_v1 : Ref sig .tc := ⟨.hbm, 72, rfl⟩
abbrev main_call0_v2 : Ref sig .tc := ⟨.hbm, 73, rfl⟩
abbrev main_call0_v3 : Ref sig .tc := ⟨.hbm, 74, rfl⟩
abbrev main_call0_v4 : Ref sig .tc := ⟨.hbm, 75, rfl⟩
abbrev main_call0_cst : Ref sig .tc := ⟨.hbm, 76, rfl⟩
abbrev main_call0_v5 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_12 : Ref sig .tc := ⟨.hbm, 94, rfl⟩
abbrev main_v67 : Ref sig .tc := ⟨.hbm, 95, rfl⟩
abbrev main_v68 : Ref sig .tc := ⟨.hbm, 96, rfl⟩
abbrev main_cst_13 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_14 : Ref sig .tc := ⟨.hbm, 107, rfl⟩
abbrev main_v78 : Ref sig .tc := ⟨.hbm, 108, rfl⟩
abbrev main_v79 : Ref sig .tc := ⟨.hbm, 109, rfl⟩
abbrev main_cst_15 : Ref sig .tc := ⟨.hbm, 110, rfl⟩
abbrev main_v80 : Ref sig .tc := ⟨.hbm, 111, rfl⟩
abbrev main_v81 : Ref sig .tc := ⟨.hbm, 112, rfl⟩
abbrev main_cst_16 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_17 : Ref sig .tc := ⟨.hbm, 118, rfl⟩
abbrev main_v86 : Ref sig .tc := ⟨.hbm, 119, rfl⟩
abbrev main_v87 : Ref sig .tc := ⟨.hbm, 120, rfl⟩
abbrev main_cst_18 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_19 : Ref sig .tc := ⟨.hbm, 128, rfl⟩
abbrev main_v94 : Ref sig .tc := ⟨.hbm, 129, rfl⟩
abbrev main_v95 : Ref sig .tc := ⟨.hbm, 130, rfl⟩
abbrev main_cst_20 : Ref sig .tc := ⟨.hbm, 131, rfl⟩
abbrev main_v96 : Ref sig .tc := ⟨.hbm, 132, rfl⟩
abbrev main_v97 : Ref sig .tc := ⟨.hbm, 133, rfl⟩
abbrev main_cst_21 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_cst_22 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_cst_23 : Ref sig .tc := ⟨.hbm, 144, rfl⟩
abbrev main_v106 : Ref sig .tc := ⟨.hbm, 145, rfl⟩
abbrev main_v107 : Ref sig .tc := ⟨.hbm, 146, rfl⟩
abbrev main_cst_24 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_cst_25 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_c : Ref sig .tc := ⟨.hbm, 162, rfl⟩
abbrev main_call1_v0 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩

abbrev nD : Nat := 1
abbrev τ : Topo := Topo.v7x

variable {F : FTy → Type} [FloatOps F]
-- ==== Up.lean ====
abbrev S4096x1024 : Shape := ⟨2, ![4096, 1024]⟩
abbrev S1024x5632 : Shape := ⟨2, ![1024, 5632]⟩
abbrev S4096x5632 : Shape := ⟨2, ![4096, 5632]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | .hbm, ⟨5, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Down.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x2816, .f32⟩
  | .hbm, ⟨3, _⟩ => ⟨S2816x1024, .f32⟩
  | .hbm, ⟨4, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UpDx.lean ====
abbrev S2x4096x2816 : Shape := ⟨3, ![2, 4096, 2816]⟩
abbrev S1024x5632 : Shape := ⟨2, ![1024, 5632]⟩
abbrev S4096x1024 : Shape := ⟨2, ![4096, 1024]⟩
abbrev S1x1024x1408 : Shape := ⟨3, ![1, 1024, 1408]⟩
abbrev S1024x1408 : Shape := ⟨2, ![1024, 1408]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2x4096x2816, .bf16⟩
  | .hbm, ⟨1, _⟩ => ⟨S1024x5632, .bf16⟩
  | .hbm, ⟨2, _⟩ => ⟨S4096x1024, .f32⟩
  | .hbm, ⟨3, _⟩ => ⟨S4096x1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpDxRefIdeal.lean ====
abbrev S2x4096x2816 : Shape := ⟨3, ![2, 4096, 2816]⟩
abbrev S1024x5632 : Shape := ⟨2, ![1024, 5632]⟩
abbrev S4096x1024 : Shape := ⟨2, ![4096, 1024]⟩
abbrev S1x4096x2816 : Shape := ⟨3, ![1, 4096, 2816]⟩
abbrev S4096x2816 : Shape := ⟨2, ![4096, 2816]⟩
abbrev S4096x5632 : Shape := ⟨2, ![4096, 5632]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S1024x5632, .bf16⟩
  | .hbm, ⟨2, _⟩ => ⟨S4096x1024, .f32⟩
  | .hbm, ⟨3, _⟩ => ⟨S1x4096x2816, .bf16⟩
  | .hbm, ⟨4, _⟩ => ⟨S4096x2816, .bf16⟩
  | .hbm, ⟨5, _⟩ => ⟨S1x4096x2816, .bf16⟩
  | .hbm, ⟨6, _⟩ => ⟨S4096x2816, .bf16⟩
  | .hbm, ⟨7, _⟩ => ⟨S4096x5632, .bf16⟩
  | .hbm, ⟨8, _⟩ => ⟨S4096x5632, .f32⟩
  | .hbm, ⟨9, _⟩ => ⟨S_, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S1024x5632, .f32⟩
  | .hbm, ⟨15, _⟩ => ⟨S4096x5632, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== UpDw.lean ====
abbrev S4096x1024 : Shape := ⟨2, ![4096, 1024]⟩
abbrev S2x4096x2816 : Shape := ⟨3, ![2, 4096, 2816]⟩
abbrev S4x1024x5632 : Shape := ⟨3, ![4, 1024, 5632]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S1024x1408 : Shape := ⟨2, ![1024, 1408]⟩
abbrev S2048x1408 : Shape := ⟨2, ![2048, 1408]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S4x1024x5632, .bf16⟩
  | .hbm, ⟨3, _⟩ => ⟨S4x1024x5632, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S4096x1024 : Shape := ⟨2, ![4096, 1024]⟩
abbrev S2x4096x2816 : Shape := ⟨3, ![2, 4096, 2816]⟩
abbrev S4x1024x5632 : Shape := ⟨3, ![4, 1024, 5632]⟩
abbrev S1x4096x2816 : Shape := ⟨3, ![1, 4096, 2816]⟩
abbrev S4096x2816 : Shape := ⟨2, ![4096, 2816]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1x1024x5632 : Shape := ⟨3, ![1, 1024, 5632]⟩
abbrev S3x1024x5632 : Shape := ⟨3, ![3, 1024, 5632]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S4x1024x5632, .bf16⟩
  | .hbm, ⟨3, _⟩ => ⟨S1x4096x2816, .bf16⟩
  | .hbm, ⟨4, _⟩ => ⟨S4096x2816, .bf16⟩
  | .hbm, ⟨5, _⟩ => ⟨S1x4096x2816, .bf16⟩
  | .hbm, ⟨6, _⟩ => ⟨S4096x2816, .bf16⟩
  | .hbm, ⟨7, _⟩ => ⟨S4096x5632, .bf16⟩
  | .hbm, ⟨8, _⟩ => ⟨S4096x5632, .f32⟩
  | .hbm, ⟨9, _⟩ => ⟨S_, .f32⟩
  | .hbm, ⟨10, _⟩ => ⟨S1024x5632, .f32⟩
  | .hbm, ⟨11, _⟩ => ⟨S4096x1024, .f32⟩
  | .hbm, ⟨12, _⟩ => ⟨S4096x5632, .f32⟩
  | .hbm, ⟨13, _⟩ => ⟨S5632x1024, .f32⟩
  | .hbm, ⟨14, _⟩ => ⟨S1024x5632, .f32⟩
  | .hbm, ⟨15, _⟩ => ⟨S1024x5632, .bf16⟩
  | .hbm, ⟨16, _⟩ => ⟨S1x1024x5632, .bf16⟩
  | .hbm, ⟨17, _⟩ => ⟨S3x1024x5632, .bf16⟩
  | .hbm, ⟨18, _⟩ => ⟨S4x1024x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== DownDx.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S_, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S4096x2816, .f32⟩
  | .hbm, ⟨8, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownDw.lean ====
abbrev S4096x2816 : Shape := ⟨2, ![4096, 2816]⟩
abbrev S4096x1024 : Shape := ⟨2, ![4096, 1024]⟩
abbrev S4x2816x1024 : Shape := ⟨3, ![4, 2816, 1024]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4x2816x1024, .bf16⟩
  | .hbm, ⟨3, _⟩ => ⟨S4x2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S4096x2816 : Shape := ⟨2, ![4096, 2816]⟩
abbrev S4096x1024 : Shape := ⟨2, ![4096, 1024]⟩
abbrev S4x2816x1024 : Shape := ⟨3, ![4, 2816, 1024]⟩
abbrev S_ : Shape := ⟨0, ![]⟩
abbrev S2816x1024 : Shape := ⟨2, ![2816, 1024]⟩
abbrev S1024x2816 : Shape := ⟨2, ![1024, 2816]⟩
abbrev S1x2816x1024 : Shape := ⟨3, ![1, 2816, 1024]⟩
abbrev S3x2816x1024 : Shape := ⟨3, ![3, 2816, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4x2816x1024, .bf16⟩
  | .hbm, ⟨3, _⟩ => ⟨S_, .f32⟩
  | .hbm, ⟨4, _⟩ => ⟨S2816x1024, .f32⟩
  | .hbm, ⟨5, _⟩ => ⟨S4096x2816, .f32⟩
  | .hbm, ⟨6, _⟩ => ⟨S4096x1024, .f32⟩
  | .hbm, ⟨7, _⟩ => ⟨S4096x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | .hbm, ⟨11, _⟩ => ⟨S1x2816x1024, .bf16⟩
  | .hbm, ⟨12, _⟩ => ⟨S3x2816x1024, .bf16⟩
  | .hbm, ⟨13, _⟩ => ⟨S4x2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== AIn.lean ====
abbrev S4096x1024 : Shape := ⟨2, ![4096, 1024]⟩
abbrev S1024x4096 : Shape := ⟨2, ![1024, 4096]⟩
abbrev S4096x4096 : Shape := ⟨2, ![4096, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AInRefIdeal.lean ====
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .f32⟩
  | .hbm, ⟨3, _⟩ => ⟨S1024x4096, .f32⟩
  | .hbm, ⟨4, _⟩ => ⟨S4096x4096, .f32⟩
  | .hbm, ⟨5, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== AOut.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AOutRefIdeal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x2048, .f32⟩
  | .hbm, ⟨3, _⟩ => ⟨S2048x1024, .f32⟩
  | .hbm, ⟨4, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== AOutDw.lean ====
abbrev S4096x2048 : Shape := ⟨2, ![4096, 2048]⟩
abbrev S4096x1024 : Shape := ⟨2, ![4096, 1024]⟩
abbrev S2x2048x1024 : Shape := ⟨3, ![2, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2x2048x1024, .bf16⟩
  | .hbm, ⟨3, _⟩ => ⟨S2x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AOutDwRefIdeal.lean ====
abbrev S4096x2048 : Shape := ⟨2, ![4096, 2048]⟩
abbrev S4096x1024 : Shape := ⟨2, ![4096, 1024]⟩
abbrev S2x2048x1024 : Shape := ⟨3, ![2, 2048, 1024]⟩
abbrev S_ : Shape := ⟨0, ![]⟩
abbrev S2048x1024 : Shape := ⟨2, ![2048, 1024]⟩
abbrev S1024x2048 : Shape := ⟨2, ![1024, 2048]⟩
abbrev S1x2048x1024 : Shape := ⟨3, ![1, 2048, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2x2048x1024, .bf16⟩
  | .hbm, ⟨3, _⟩ => ⟨S_, .f32⟩
  | .hbm, ⟨4, _⟩ => ⟨S2048x1024, .f32⟩
  | .hbm, ⟨5, _⟩ => ⟨S4096x2048, .f32⟩
  | .hbm, ⟨6, _⟩ => ⟨S4096x1024, .f32⟩
  | .hbm, ⟨7, _⟩ => ⟨S4096x1024, .f32⟩
  | .hbm, ⟨8, _⟩ => ⟨S1024x2048, .f32⟩
  | .hbm, ⟨9, _⟩ => ⟨S2048x1024, .f32⟩
  | .hbm, ⟨10, _⟩ => ⟨S2048x1024, .bf16⟩
  | .hbm, ⟨11, _⟩ => ⟨S1x2048x1024, .bf16⟩
  | .hbm, ⟨12, _⟩ => ⟨S1x2048x1024, .bf16⟩
  | .hbm, ⟨13, _⟩ => ⟨S2x2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== AOutDx.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AOutDxRefIdeal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S_, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x1024, .f32⟩
  | .hbm, ⟨7, _⟩ => ⟨S4096x2048, .f32⟩
  | .hbm, ⟨8, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AInDw.lean ====
abbrev S4096x1024 : Shape := ⟨2, ![4096, 1024]⟩
abbrev S4096x4096 : Shape := ⟨2, ![4096, 4096]⟩
abbrev S2x1024x4096 : Shape := ⟨3, ![2, 1024, 4096]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S2x1024x4096, .bf16⟩
  | .hbm, ⟨3, _⟩ => ⟨S2x1024x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AInDwRefIdeal.lean ====
abbrev S4096x1024 : Shape := ⟨2, ![4096, 1024]⟩
abbrev S4096x4096 : Shape := ⟨2, ![4096, 4096]⟩
abbrev S2x1024x4096 : Shape := ⟨3, ![2, 1024, 4096]⟩
abbrev S_ : Shape := ⟨0, ![]⟩
abbrev S1024x4096 : Shape := ⟨2, ![1024, 4096]⟩
abbrev S1x1024x4096 : Shape := ⟨3, ![1, 1024, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S2x1024x4096, .bf16⟩
  | .hbm, ⟨3, _⟩ => ⟨S_, .f32⟩
  | .hbm, ⟨4, _⟩ => ⟨S1024x4096, .f32⟩
  | .hbm, ⟨5, _⟩ => ⟨S4096x1024, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S1024x4096, .f32⟩
  | .hbm, ⟨10, _⟩ => ⟨S1024x4096, .bf16⟩
  | .hbm, ⟨11, _⟩ => ⟨S1x1024x4096, .bf16⟩
  | .hbm, ⟨12, _⟩ => ⟨S1x1024x4096, .bf16⟩
  | .hbm, ⟨13, _⟩ => ⟨S2x1024x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== AInDx.lean ====
abbrev S4096x4096 : Shape := ⟨2, ![4096, 4096]⟩
abbrev S1024x4096 : Shape := ⟨2, ![1024, 4096]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .hbm, ⟨3, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== AInDxRefIdeal.lean ====
abbrev S4096x4096 : Shape := ⟨2, ![4096, 4096]⟩
abbrev S1024x4096 : Shape := ⟨2, ![1024, 4096]⟩
abbrev S4096x1024 : Shape := ⟨2, ![4096, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S1024x4096, .f32⟩
  | .hbm, ⟨9, _⟩ => ⟨S4096x4096, .f32⟩
  | .hbm, ⟨10, _⟩ => ⟨S4096x4096, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kv.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvRefIdeal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KvDw.lean ====
abbrev S4096x1024 : Shape := ⟨2, ![4096, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== KvDwRefIdeal.lean ====
abbrev S4096x1024 : Shape := ⟨2, ![4096, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S1x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KvDx.lean ====
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== KvDxRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== BQ.lean ====
abbrev S4096x1024 : Shape := ⟨2, ![4096, 1024]⟩
abbrev S1024x1536 : Shape := ⟨2, ![1024, 1536]⟩
abbrev S4096x1536 : Shape := ⟨2, ![4096, 1536]⟩
abbrev S1024x1024 : Shape := ⟨2, ![1024, 1024]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1536, .bf16⟩
  | .hbm, ⟨2, _⟩ => ⟨S4096x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BQRefIdeal.lean ====
abbrev S4096x1024 : Shape := ⟨2, ![4096, 1024]⟩
abbrev S1024x1536 : Shape := ⟨2, ![1024, 1536]⟩
abbrev S4096x1536 : Shape := ⟨2, ![4096, 1536]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1536, .bf16⟩
  | .hbm, ⟨2, _⟩ => ⟨S4096x1024, .f32⟩
  | .hbm, ⟨3, _⟩ => ⟨S1024x1536, .f32⟩
  | .hbm, ⟨4, _⟩ => ⟨S4096x1536, .f32⟩
  | .hbm, ⟨5, _⟩ => ⟨S4096x1536, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== BQDw.lean ====
abbrev S4096x1024 : Shape := ⟨2, ![4096, 1024]⟩
abbrev S4096x1536 : Shape := ⟨2, ![4096, 1536]⟩
abbrev S2x1024x1536 : Shape := ⟨3, ![2, 1024, 1536]⟩
abbrev S2048x1024 : Shape := ⟨2, ![2048, 1024]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S2x1024x1536, .bf16⟩
  | .hbm, ⟨3, _⟩ => ⟨S2x1024x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S1024x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BQDwRefIdeal.lean ====
abbrev S4096x1024 : Shape := ⟨2, ![4096, 1024]⟩
abbrev S4096x1536 : Shape := ⟨2, ![4096, 1536]⟩
abbrev S2x1024x1536 : Shape := ⟨3, ![2, 1024, 1536]⟩
abbrev S_ : Shape := ⟨0, ![]⟩
abbrev S1024x1536 : Shape := ⟨2, ![1024, 1536]⟩
abbrev S1536x1024 : Shape := ⟨2, ![1536, 1024]⟩
abbrev S1x1024x1536 : Shape := ⟨3, ![1, 1024, 1536]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S2x1024x1536, .bf16⟩
  | .hbm, ⟨3, _⟩ => ⟨S_, .f32⟩
  | .hbm, ⟨4, _⟩ => ⟨S1024x1536, .f32⟩
  | .hbm, ⟨5, _⟩ => ⟨S4096x1024, .f32⟩
  | .hbm, ⟨6, _⟩ => ⟨S4096x1536, .f32⟩
  | .hbm, ⟨7, _⟩ => ⟨S4096x1536, .f32⟩
  | .hbm, ⟨8, _⟩ => ⟨S1536x1024, .f32⟩
  | .hbm, ⟨9, _⟩ => ⟨S1024x1536, .f32⟩
  | .hbm, ⟨10, _⟩ => ⟨S1024x1536, .bf16⟩
  | .hbm, ⟨11, _⟩ => ⟨S1x1024x1536, .bf16⟩
  | .hbm, ⟨12, _⟩ => ⟨S1x1024x1536, .bf16⟩
  | .hbm, ⟨13, _⟩ => ⟨S2x1024x1536, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== BQDx.lean ====
abbrev S4096x1536 : Shape := ⟨2, ![4096, 1536]⟩
abbrev S1024x1536 : Shape := ⟨2, ![1024, 1536]⟩
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1536, .bf16⟩
  | .hbm, ⟨1, _⟩ => ⟨S1024x1536, .bf16⟩
  | .hbm, ⟨2, _⟩ => ⟨S4096x1024, .f32⟩
  | .hbm, ⟨3, _⟩ => ⟨S4096x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== BQDxRefIdeal.lean ====
abbrev S4096x1536 : Shape := ⟨2, ![4096, 1536]⟩
abbrev S1024x1536 : Shape := ⟨2, ![1024, 1536]⟩
abbrev S4096x1024 : Shape := ⟨2, ![4096, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S1024x1536, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S1024x1536, .f32⟩
  | .hbm, ⟨9, _⟩ => ⟨S4096x1536, .f32⟩
  | .hbm, ⟨10, _⟩ => ⟨S4096x1536, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== BO.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BORefIdeal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x512, .f32⟩
  | .hbm, ⟨3, _⟩ => ⟨S512x1024, .f32⟩
  | .hbm, ⟨4, _⟩ => ⟨S4096x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== BODw.lean ====
abbrev S4096x512 : Shape := ⟨2, ![4096, 512]⟩
abbrev S4096x1024 : Shape := ⟨2, ![4096, 1024]⟩
abbrev S2x512x1024 : Shape := ⟨3, ![2, 512, 1024]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S2x512x1024, .bf16⟩
  | .hbm, ⟨3, _⟩ => ⟨S2x512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BODwRefIdeal.lean ====
abbrev S4096x512 : Shape := ⟨2, ![4096, 512]⟩
abbrev S4096x1024 : Shape := ⟨2, ![4096, 1024]⟩
abbrev S2x512x1024 : Shape := ⟨3, ![2, 512, 1024]⟩
abbrev S_ : Shape := ⟨0, ![]⟩
abbrev S512x1024 : Shape := ⟨2, ![512, 1024]⟩
abbrev S1024x512 : Shape := ⟨2, ![1024, 512]⟩
abbrev S1x512x1024 : Shape := ⟨3, ![1, 512, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S2x512x1024, .bf16⟩
  | .hbm, ⟨3, _⟩ => ⟨S_, .f32⟩
  | .hbm, ⟨4, _⟩ => ⟨S512x1024, .f32⟩
  | .hbm, ⟨5, _⟩ => ⟨S4096x512, .f32⟩
  | .hbm, ⟨6, _⟩ => ⟨S4096x1024, .f32⟩
  | .hbm, ⟨7, _⟩ => ⟨S4096x1024, .f32⟩
  | .hbm, ⟨8, _⟩ => ⟨S1024x512, .f32⟩
  | .hbm, ⟨9, _⟩ => ⟨S512x1024, .f32⟩
  | .hbm, ⟨10, _⟩ => ⟨S512x1024, .bf16⟩
  | .hbm, ⟨11, _⟩ => ⟨S1x512x1024, .bf16⟩
  | .hbm, ⟨12, _⟩ => ⟨S1x512x1024, .bf16⟩
  | .hbm, ⟨13, _⟩ => ⟨S2x512x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== BODx.lean ====
abbrev S4096x1024 : Shape := ⟨2, ![4096, 1024]⟩
abbrev S512x1024 : Shape := ⟨2, ![512, 1024]⟩
abbrev S4096x512 : Shape := ⟨2, ![4096, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S4096x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BODxRefIdeal.lean ====
abbrev S4096x1024 : Shape := ⟨2, ![4096, 1024]⟩
abbrev S512x1024 : Shape := ⟨2, ![512, 1024]⟩
abbrev S_ : Shape := ⟨0, ![]⟩
abbrev S4096x512 : Shape := ⟨2, ![4096, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S_, .f32⟩
  | .hbm, ⟨3, _⟩ => ⟨S4096x512, .f32⟩
  | .hbm, ⟨4, _⟩ => ⟨S512x1024, .f32⟩
  | .hbm, ⟨5, _⟩ => ⟨S4096x1024, .f32⟩
  | .hbm, ⟨6, _⟩ => ⟨S4096x1024, .f32⟩
  | .hbm, ⟨7, _⟩ => ⟨S4096x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpDw1.lean ====
abbrev S4096x1024 : Shape := ⟨2, ![4096, 1024]⟩
abbrev S2x4096x2816 : Shape := ⟨3, ![2, 4096, 2816]⟩
abbrev S4x1024x5632 : Shape := ⟨3, ![4, 1024, 5632]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S1024x1408 : Shape := ⟨2, ![1024, 1408]⟩
abbrev S2048x1408 : Shape := ⟨2, ![2048, 1408]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S4x1024x5632, .bf16⟩
  | .hbm, ⟨3, _⟩ => ⟨S4x1024x5632, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDw1RefIdeal.lean ====
abbrev S4096x1024 : Shape := ⟨2, ![4096, 1024]⟩
abbrev S2x4096x2816 : Shape := ⟨3, ![2, 4096, 2816]⟩
abbrev S4x1024x5632 : Shape := ⟨3, ![4, 1024, 5632]⟩
abbrev S1x4096x2816 : Shape := ⟨3, ![1, 4096, 2816]⟩
abbrev S4096x2816 : Shape := ⟨2, ![4096, 2816]⟩
abbrev S4096x5632 : Shape := ⟨2, ![4096, 5632]⟩
abbrev S1x1024x5632 : Shape := ⟨3, ![1, 1024, 5632]⟩
abbrev S_ : Shape := ⟨0, ![]⟩
abbrev S1024x5632 : Shape := ⟨2, ![1024, 5632]⟩
abbrev S5632x1024 : Shape := ⟨2, ![5632, 1024]⟩
abbrev S2x1024x5632 : Shape := ⟨3, ![2, 1024, 5632]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S4x1024x5632, .bf16⟩
  | .hbm, ⟨3, _⟩ => ⟨S1x4096x2816, .bf16⟩
  | .hbm, ⟨4, _⟩ => ⟨S4096x2816, .bf16⟩
  | .hbm, ⟨5, _⟩ => ⟨S1x4096x2816, .bf16⟩
  | .hbm, ⟨6, _⟩ => ⟨S4096x2816, .bf16⟩
  | .hbm, ⟨7, _⟩ => ⟨S4096x5632, .bf16⟩
  | .hbm, ⟨8, _⟩ => ⟨S4096x5632, .f32⟩
  | .hbm, ⟨9, _⟩ => ⟨S1x1024x5632, .bf16⟩
  | .hbm, ⟨10, _⟩ => ⟨S_, .f32⟩
  | .hbm, ⟨11, _⟩ => ⟨S1024x5632, .f32⟩
  | .hbm, ⟨12, _⟩ => ⟨S4096x1024, .f32⟩
  | .hbm, ⟨13, _⟩ => ⟨S4096x5632, .f32⟩
  | .hbm, ⟨14, _⟩ => ⟨S5632x1024, .f32⟩
  | .hbm, ⟨15, _⟩ => ⟨S1024x5632, .f32⟩
  | .hbm, ⟨16, _⟩ => ⟨S1024x5632, .bf16⟩
  | .hbm, ⟨17, _⟩ => ⟨S1x1024x5632, .bf16⟩
  | .hbm, ⟨18, _⟩ => ⟨S2x1024x5632, .bf16⟩
  | .hbm, ⟨19, _⟩ => ⟨S4x1024x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== UpDw2.lean ====
abbrev S4096x1024 : Shape := ⟨2, ![4096, 1024]⟩
abbrev S2x4096x2816 : Shape := ⟨3, ![2, 4096, 2816]⟩
abbrev S4x1024x5632 : Shape := ⟨3, ![4, 1024, 5632]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S1024x1408 : Shape := ⟨2, ![1024, 1408]⟩
abbrev S2048x1408 : Shape := ⟨2, ![2048, 1408]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S4x1024x5632, .bf16⟩
  | .hbm, ⟨3, _⟩ => ⟨S4x1024x5632, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDw2RefIdeal.lean ====
abbrev S4096x1024 : Shape := ⟨2, ![4096, 1024]⟩
abbrev S2x4096x2816 : Shape := ⟨3, ![2, 4096, 2816]⟩
abbrev S4x1024x5632 : Shape := ⟨3, ![4, 1024, 5632]⟩
abbrev S1x4096x2816 : Shape := ⟨3, ![1, 4096, 2816]⟩
abbrev S4096x2816 : Shape := ⟨2, ![4096, 2816]⟩
abbrev S4096x5632 : Shape := ⟨2, ![4096, 5632]⟩
abbrev S2x1024x5632 : Shape := ⟨3, ![2, 1024, 5632]⟩
abbrev S_ : Shape := ⟨0, ![]⟩
abbrev S1024x5632 : Shape := ⟨2, ![1024, 5632]⟩
abbrev S5632x1024 : Shape := ⟨2, ![5632, 1024]⟩
abbrev S1x1024x5632 : Shape := ⟨3, ![1, 1024, 5632]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S4x1024x5632, .bf16⟩
  | .hbm, ⟨3, _⟩ => ⟨S1x4096x2816, .bf16⟩
  | .hbm, ⟨4, _⟩ => ⟨S4096x2816, .bf16⟩
  | .hbm, ⟨5, _⟩ => ⟨S1x4096x2816, .bf16⟩
  | .hbm, ⟨6, _⟩ => ⟨S4096x2816, .bf16⟩
  | .hbm, ⟨7, _⟩ => ⟨S4096x5632, .bf16⟩
  | .hbm, ⟨8, _⟩ => ⟨S4096x5632, .f32⟩
  | .hbm, ⟨9, _⟩ => ⟨S2x1024x5632, .bf16⟩
  | .hbm, ⟨10, _⟩ => ⟨S_, .f32⟩
  | .hbm, ⟨11, _⟩ => ⟨S1024x5632, .f32⟩
  | .hbm, ⟨12, _⟩ => ⟨S4096x1024, .f32⟩
  | .hbm, ⟨13, _⟩ => ⟨S4096x5632, .f32⟩
  | .hbm, ⟨14, _⟩ => ⟨S5632x1024, .f32⟩
  | .hbm, ⟨15, _⟩ => ⟨S1024x5632, .f32⟩
  | .hbm, ⟨16, _⟩ => ⟨S1024x5632, .bf16⟩
  | .hbm, ⟨17, _⟩ => ⟨S1x1024x5632, .bf16⟩
  | .hbm, ⟨18, _⟩ => ⟨S1x1024x5632, .bf16⟩
  | .hbm, ⟨19, _⟩ => ⟨S4x1024x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== DownDw1.lean ====
abbrev S4096x2816 : Shape := ⟨2, ![4096, 2816]⟩
abbrev S4096x1024 : Shape := ⟨2, ![4096, 1024]⟩
abbrev S4x2816x1024 : Shape := ⟨3, ![4, 2816, 1024]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4x2816x1024, .bf16⟩
  | .hbm, ⟨3, _⟩ => ⟨S4x2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDw1RefIdeal.lean ====
abbrev S4096x2816 : Shape := ⟨2, ![4096, 2816]⟩
abbrev S4096x1024 : Shape := ⟨2, ![4096, 1024]⟩
abbrev S4x2816x1024 : Shape := ⟨3, ![4, 2816, 1024]⟩
abbrev S1x2816x1024 : Shape := ⟨3, ![1, 2816, 1024]⟩
abbrev S_ : Shape := ⟨0, ![]⟩
abbrev S2816x1024 : Shape := ⟨2, ![2816, 1024]⟩
abbrev S1024x2816 : Shape := ⟨2, ![1024, 2816]⟩
abbrev S2x2816x1024 : Shape := ⟨3, ![2, 2816, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4x2816x1024, .bf16⟩
  | .hbm, ⟨3, _⟩ => ⟨S1x2816x1024, .bf16⟩
  | .hbm, ⟨4, _⟩ => ⟨S_, .f32⟩
  | .hbm, ⟨5, _⟩ => ⟨S2816x1024, .f32⟩
  | .hbm, ⟨6, _⟩ => ⟨S4096x2816, .f32⟩
  | .hbm, ⟨7, _⟩ => ⟨S4096x1024, .f32⟩
  | .hbm, ⟨8, _⟩ => ⟨S4096x1024, .f32⟩
  | .hbm, ⟨9, _⟩ => ⟨S1024x2816, .f32⟩
  | .hbm, ⟨10, _⟩ => ⟨S2816x1024, .f32⟩
  | .hbm, ⟨11, _⟩ => ⟨S2816x1024, .bf16⟩
  | .hbm, ⟨12, _⟩ => ⟨S1x2816x1024, .bf16⟩
  | .hbm, ⟨13, _⟩ => ⟨S2x2816x1024, .bf16⟩
  | .hbm, ⟨14, _⟩ => ⟨S4x2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== DownDw2.lean ====
abbrev S4096x2816 : Shape := ⟨2, ![4096, 2816]⟩
abbrev S4096x1024 : Shape := ⟨2, ![4096, 1024]⟩
abbrev S4x2816x1024 : Shape := ⟨3, ![4, 2816, 1024]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4x2816x1024, .bf16⟩
  | .hbm, ⟨3, _⟩ => ⟨S4x2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDw2RefIdeal.lean ====
abbrev S4096x2816 : Shape := ⟨2, ![4096, 2816]⟩
abbrev S4096x1024 : Shape := ⟨2, ![4096, 1024]⟩
abbrev S4x2816x1024 : Shape := ⟨3, ![4, 2816, 1024]⟩
abbrev S2x2816x1024 : Shape := ⟨3, ![2, 2816, 1024]⟩
abbrev S_ : Shape := ⟨0, ![]⟩
abbrev S2816x1024 : Shape := ⟨2, ![2816, 1024]⟩
abbrev S1024x2816 : Shape := ⟨2, ![1024, 2816]⟩
abbrev S1x2816x1024 : Shape := ⟨3, ![1, 2816, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4x2816x1024, .bf16⟩
  | .hbm, ⟨3, _⟩ => ⟨S2x2816x1024, .bf16⟩
  | .hbm, ⟨4, _⟩ => ⟨S_, .f32⟩
  | .hbm, ⟨5, _⟩ => ⟨S2816x1024, .f32⟩
  | .hbm, ⟨6, _⟩ => ⟨S4096x2816, .f32⟩
  | .hbm, ⟨7, _⟩ => ⟨S4096x1024, .f32⟩
  | .hbm, ⟨8, _⟩ => ⟨S4096x1024, .f32⟩
  | .hbm, ⟨9, _⟩ => ⟨S1024x2816, .f32⟩
  | .hbm, ⟨10, _⟩ => ⟨S2816x1024, .f32⟩
  | .hbm, ⟨11, _⟩ => ⟨S2816x1024, .bf16⟩
  | .hbm, ⟨12, _⟩ => ⟨S1x2816x1024, .bf16⟩
  | .hbm, ⟨13, _⟩ => ⟨S1x2816x1024, .bf16⟩
  | .hbm, ⟨14, _⟩ => ⟨S4x2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== AddLn.lean ====
abbrev S4096x1024 : Shape := ⟨2, ![4096, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== AddLnRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== LnBwd.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LnBwdRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 94
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S_, .f32⟩
  | .hbm, ⟨51, _⟩ => ⟨S1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S4096x1, .f32⟩
  | .hbm, ⟨67, _⟩ => ⟨S4096x1024, .f32⟩
  | .hbm, ⟨68, _⟩ => ⟨S_, .f32⟩
  | .hbm, ⟨69, _⟩ => ⟨S4096, .f32⟩
  | .hbm, ⟨70, _⟩ => ⟨S4096x1, .f32⟩
  | .hbm, ⟨71, _⟩ => ⟨S_, .f32⟩
  | .hbm, ⟨72, _⟩ => ⟨S4096x1, .f32⟩
  | .hbm, ⟨73, _⟩ => ⟨S4096x1, .f32⟩
  | .hbm, ⟨74, _⟩ => ⟨S_, .f32⟩
  | .hbm, ⟨75, _⟩ => ⟨S4096, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S4096, .f32⟩
  | .hbm, ⟨81, _⟩ => ⟨S4096x1, .f32⟩
  | .hbm, ⟨82, _⟩ => ⟨S4096x1024, .f32⟩
  | .hbm, ⟨83, _⟩ => ⟨S4096x1, .f32⟩
  | .hbm, ⟨84, _⟩ => ⟨S_, .f32⟩
  | .hbm, ⟨85, _⟩ => ⟨S4096x1, .f32⟩
  | .hbm, ⟨86, _⟩ => ⟨S4096x1, .f32⟩
  | .hbm, ⟨87, _⟩ => ⟨S_, .f32⟩
  | .hbm, ⟨88, _⟩ => ⟨S4096, .f32⟩
  | .hbm, ⟨89, _⟩ => ⟨S4096x1024, .f32⟩
  | .hbm, ⟨90, _⟩ => ⟨S4096x1024, .f32⟩
  | .hbm, ⟨91, _⟩ => ⟨S4096x1024, .bf16⟩
  | .hbm, ⟨92, _⟩ => ⟨S1x1024, .f32⟩
  | .hbm, ⟨93, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_cst_10 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_11 : Ref sig .tc := ⟨.hbm, 58, rfl⟩
abbrev main_v42 : Ref sig .tc := ⟨.hbm, 59, rfl⟩
abbrev main_v43 : Ref sig .tc := ⟨.hbm, 60, rfl⟩
abbrev main_cst_12 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_13 : Ref sig .tc := ⟨.hbm, 68, rfl⟩
abbrev main_v50 : Ref sig .tc := ⟨.hbm, 69, rfl⟩
abbrev main_v51 : Ref sig .tc := ⟨.hbm, 70, rfl⟩
abbrev main_cst_14 : Ref sig .tc := ⟨.hbm, 71, rfl⟩
abbrev main_v52 : Ref sig .tc := ⟨.hbm, 72, rfl⟩
abbrev main_v53 : Ref sig .tc := ⟨.hbm, 73, rfl⟩
abbrev main_cst_15 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_16 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_17 : Ref sig .tc := ⟨.hbm, 84, rfl⟩
abbrev main_v62 : Ref sig .tc := ⟨.hbm, 85, rfl⟩
abbrev main_v63 : Ref sig .tc := ⟨.hbm, 86, rfl⟩
abbrev main_cst_18 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩

abbrev nD : Nat := 1
abbrev τ : Topo := Topo.v7x

variable {F : FTy → Type} [FloatOps F]
-- ==== SguFwd.lean ====
abbrev S4096x4096 : Shape := ⟨2, ![4096, 4096]⟩
abbrev S8x128x128 : Shape := ⟨3, ![8, 128, 128]⟩
abbrev S8x128 : Shape := ⟨2, ![8, 128]⟩
abbrev S2048 : Shape := ⟨1, ![2048]⟩
abbrev S8x128x1 : Shape := ⟨3, ![8, 128, 1]⟩
abbrev S1x2048 : Shape := ⟨2, ![1, 2048]⟩
abbrev S4096x2048 : Shape := ⟨2, ![4096, 2048]⟩
abbrev S128x4096 : Shape := ⟨2, ![128, 4096]⟩
abbrev S128x2048 : Shape := ⟨2, ![128, 2048]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩
abbrev S128x256 : Shape := ⟨2, ![128, 256]⟩
abbrev S1x128x1 : Shape := ⟨3, ![1, 128, 1]⟩

abbrev nBuf : Space → Nat
  | .hbm => 9
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S8x128x128, .f32⟩
  | .hbm, ⟨2, _⟩ => ⟨S8x128, .f32⟩
  | .hbm, ⟨3, _⟩ => ⟨S2048, .f32⟩
  | .hbm, ⟨4, _⟩ => ⟨S2048, .f32⟩
  | .hbm, ⟨5, _⟩ => ⟨S8x128x1, .f32⟩
  | .hbm, ⟨6, _⟩ => ⟨S1x2048, .f32⟩
  | .hbm, ⟨7, _⟩ => ⟨S1x2048, .f32⟩
  | .hbm, ⟨8, _⟩ => ⟨S4096x2048, .bf16⟩
  | .local _ .vmem, ⟨0, _⟩ => ⟨S128x4096, .bf16⟩
  | .local _ .vmem, ⟨1, _⟩ => ⟨S128x4096, .bf16⟩
  | .local _ .vmem, ⟨2, _⟩ => ⟨S8x128x128, .f32⟩
  | .local _ .vmem, ⟨3, _⟩ => ⟨S8x128x1, .f32⟩
  | .local _ .vmem, ⟨4, _⟩ => ⟨S1x2048, .f32⟩
  | .local _ .vmem, ⟨5, _⟩ => ⟨S1x2048, .f32⟩
  | .local _ .vmem, ⟨6, _⟩ => ⟨S128x2048, .bf16⟩
  | .local _ .vmem, ⟨7, _⟩ => ⟨S128x2048, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== SguFwdIdeal.lean ====
variable {F : FTy → Type} [FloatOps F] [Named F]
def κ : String → Option EReal := fun
  | "sqrt_half" => some (((Real.sqrt 2)⁻¹ : ℝ) : EReal)
  | _ => none
-- ==== SguFwdRefIdeal.lean ====
abbrev S4096x4096 : Shape := ⟨2, ![4096, 4096]⟩
abbrev S8x128x128 : Shape := ⟨3, ![8, 128, 128]⟩
abbrev S8x128 : Shape := ⟨2, ![8, 128]⟩
abbrev S2048 : Shape := ⟨1, ![2048]⟩
abbrev S_ : Shape := ⟨0, ![]⟩
abbrev S4096x2048 : Shape := ⟨2, ![4096, 2048]⟩
abbrev S4096 : Shape := ⟨1, ![4096]⟩
abbrev S4096x1 : Shape := ⟨2, ![4096, 1]⟩
abbrev S1x2048 : Shape := ⟨2, ![1, 2048]⟩
abbrev S32x128x8x256 : Shape := ⟨4, ![32, 128, 8, 256]⟩
abbrev S128x128 : Shape := ⟨2, ![128, 128]⟩
abbrev S1x128x128 : Shape := ⟨3, ![1, 128, 128]⟩
abbrev S8x32x256x128 : Shape := ⟨4, ![8, 32, 256, 128]⟩
abbrev S128x8 : Shape := ⟨2, ![128, 8]⟩
abbrev S1x128x8x1 : Shape := ⟨4, ![1, 128, 8, 1]⟩

abbrev nBuf : Space → Nat
  | .hbm => 73
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x128x128, .f32⟩
  | .hbm, ⟨2, _⟩ => ⟨S8x128, .f32⟩
  | .hbm, ⟨3, _⟩ => ⟨S2048, .f32⟩
  | .hbm, ⟨4, _⟩ => ⟨S2048, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S4096x2048, .f32⟩
  | .hbm, ⟨42, _⟩ => ⟨S4096x2048, .f32⟩
  | .hbm, ⟨43, _⟩ => ⟨S1x2048, .f32⟩
  | .hbm, ⟨44, _⟩ => ⟨S4096x2048, .f32⟩
  | .hbm, ⟨45, _⟩ => ⟨S4096x2048, .f32⟩
  | .hbm, ⟨46, _⟩ => ⟨S1x2048, .f32⟩
  | .hbm, ⟨47, _⟩ => ⟨S4096x2048, .f32⟩
  | .hbm, ⟨48, _⟩ => ⟨S4096x2048, .f32⟩
  | .hbm, ⟨49, _⟩ => ⟨S32x128x8x256, .f32⟩
  | .hbm, ⟨50, _⟩ => ⟨S_, .f32⟩
  | .hbm, ⟨51, _⟩ => ⟨S128x128, .f32⟩
  | .hbm, ⟨52, _⟩ => ⟨S128x128, .i32⟩
  | .hbm, ⟨53, _⟩ => ⟨S_, .i32⟩
  | .hbm, ⟨54, _⟩ => ⟨S128x128, .i32⟩
  | .hbm, ⟨55, _⟩ => ⟨S128x128, .i32⟩
  | .hbm, ⟨56, _⟩ => ⟨S128x128, .i32⟩
  | .hbm, ⟨57, _⟩ => ⟨S128x128, .i1⟩
  | .hbm, ⟨58, _⟩ => ⟨S_, .f32⟩
  | .hbm, ⟨59, _⟩ => ⟨S128x128, .f32⟩
  | .hbm, ⟨60, _⟩ => ⟨S128x128, .f32⟩
  | .hbm, ⟨61, _⟩ => ⟨S1x128x128, .f32⟩
  | .hbm, ⟨62, _⟩ => ⟨S8x128x128, .f32⟩
  | .hbm, ⟨63, _⟩ => ⟨S8x128x128, .f32⟩
  | .hbm, ⟨64, _⟩ => ⟨S8x32x256x128, .f32⟩
  | .hbm, ⟨65, _⟩ => ⟨S32x128x8x256, .f32⟩
  | .hbm, ⟨66, _⟩ => ⟨S128x8, .f32⟩
  | .hbm, ⟨67, _⟩ => ⟨S1x128x8x1, .f32⟩
  | .hbm, ⟨68, _⟩ => ⟨S32x128x8x256, .f32⟩
  | .hbm, ⟨69, _⟩ => ⟨S32x128x8x256, .f32⟩
  | .hbm, ⟨70, _⟩ => ⟨S4096x2048, .f32⟩
  | .hbm, ⟨71, _⟩ => ⟨S4096x2048, .f32⟩
  | .hbm, ⟨72, _⟩ => ⟨S4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_call0_v0 : Ref sig .tc := ⟨.hbm, 52, rfl⟩
abbrev main_call0_c : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_cst : Ref sig .tc := ⟨.hbm, 58, rfl⟩
abbrev main_call0_v5 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩

abbrev nD : Nat := 1
abbrev τ : Topo := Topo.v7x

variable {F : FTy → Type} [FloatOps F]
-- ==== Conv.lean ====
abbrev S4096x5632 : Shape := ⟨2, ![4096, 5632]⟩
abbrev S3x5632 : Shape := ⟨2, ![3, 5632]⟩
abbrev S5632 : Shape := ⟨1, ![5632]⟩
abbrev S1x5632 : Shape := ⟨2, ![1, 5632]⟩
abbrev S4096x2816 : Shape := ⟨2, ![4096, 2816]⟩
abbrev S4096x128 : Shape := ⟨2, ![4096, 128]⟩
abbrev S3x128 : Shape := ⟨2, ![3, 128]⟩
abbrev S1x128 : Shape := ⟨2, ![1, 128]⟩

abbrev nBuf : Space → Nat
  | .hbm => 8
  | .vmem => 18
  | .smem => 0
  | _ => 0

abbrev bufTy : (tb : Table) → Fin (tcTables nBuf tb) → BufTy
  | .hbm, ⟨0, _⟩ => ⟨S4096x5632, .bf16⟩
  | .hbm, ⟨1, _⟩ => ⟨S3x5632, .f32⟩
  | .hbm, ⟨2, _⟩ => ⟨S5632, .f32⟩
  | .hbm, ⟨3, _⟩ => ⟨S1x5632, .f32⟩
  | .hbm, ⟨4, _⟩ => ⟨S1x5632, .f32⟩
  | .hbm, ⟨5, _⟩ => ⟨S4096x2816, .bf16⟩
  | .hbm, ⟨6, _⟩ => ⟨S4096x2816, .bf16⟩
  | .hbm, ⟨7, _⟩ => ⟨S4096x2816, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S3x128, .f32⟩
  | .local _ .vmem, ⟨5, _⟩ => ⟨S3x128, .f32⟩
  | .local _ .vmem, ⟨6, _⟩ => ⟨S3x128, .f32⟩
  | .local _ .vmem, ⟨7, _⟩ => ⟨S3x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S4096x128, .bf16⟩
  | .local _ .vmem, ⟨17, _⟩ => ⟨S4096x128, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ConvIdeal.lean ====
variable {F : FTy → Type} [FloatOps F] [Named F]
def κ : String → Option EReal := fun
  | "sqrt_half" => some (((Real.sqrt 2)⁻¹ : ℝ) : EReal)
  | _ => none
-- ==== ConvRefIdeal.lean ====
abbrev S4096x5632 : Shape := ⟨2, ![4096, 5632]⟩
abbrev S3x5632 : Shape := ⟨2, ![3, 5632]⟩
abbrev S5632 : Shape := ⟨1, ![5632]⟩
abbrev S_ : Shape := ⟨0, ![]⟩
abbrev S2x5632 : Shape := ⟨2, ![2, 5632]⟩
abbrev S4098x5632 : Shape := ⟨2, ![4098, 5632]⟩
abbrev S1x5632 : Shape := ⟨2, ![1, 5632]⟩
abbrev S4096x2816 : Shape := ⟨2, ![4096, 2816]⟩

abbrev nBuf : Space → Nat
  | .hbm => 51
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S3x5632, .f32⟩
  | .hbm, ⟨2, _⟩ => ⟨S5632, .f32⟩
  | .hbm, ⟨3, _⟩ => ⟨S4096x5632, .f32⟩
  | .hbm, ⟨4, _⟩ => ⟨S_, .f32⟩
  | .hbm, ⟨5, _⟩ => ⟨S2x5632, .f32⟩
  | .hbm, ⟨6, _⟩ => ⟨S4098x5632, .f32⟩
  | .hbm, ⟨7, _⟩ => ⟨S4096x5632, .f32⟩
  | .hbm, ⟨8, _⟩ => ⟨S1x5632, .f32⟩
  | .hbm, ⟨9, _⟩ => ⟨S5632, .f32⟩
  | .hbm, ⟨10, _⟩ => ⟨S1x5632, .f32⟩
  | .hbm, ⟨11, _⟩ => ⟨S4096x5632, .f32⟩
  | .hbm, ⟨12, _⟩ => ⟨S4096x5632, .f32⟩
  | .hbm, ⟨13, _⟩ => ⟨S_, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S1x5632, .f32⟩
  | .hbm, ⟨18, _⟩ => ⟨S5632, .f32⟩
  | .hbm, ⟨19, _⟩ => ⟨S1x5632, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S1x5632, .f32⟩
  | .hbm, ⟨25, _⟩ => ⟨S5632, .f32⟩
  | .hbm, ⟨26, _⟩ => ⟨S1x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S1x5632, .f32⟩
  | .hbm, ⟨31, _⟩ => ⟨S4096x5632, .f32⟩
  | .hbm, ⟨32, _⟩ => ⟨S4096x5632, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S_, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S_, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .bf16⟩
  | .hbm, ⟨49, _⟩ => ⟨S4096x2816, .bf16⟩
  | .hbm, ⟨50, _⟩ => ⟨S4096x2816, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_1 : Ref sig .tc := ⟨.hbm, 35, rfl⟩
abbrev main_v30 : Ref sig .tc := ⟨.hbm, 36, rfl⟩
abbrev main_v31 : Ref sig .tc := ⟨.hbm, 37, rfl⟩
abbrev main_cst_2 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_3 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩

abbrev nD : Nat := 1
abbrev τ : Topo := Topo.v7x

variable {F : FTy → Type} [FloatOps F]
-- ==== Loss.lean ====
abbrev S4096x1024 : Shape := ⟨2, ![4096, 1024]⟩
abbrev S1x128 : Shape := ⟨2, ![1, 128]⟩
abbrev S512x1024 : Shape := ⟨2, ![512, 1024]⟩
abbrev S1x1024 : Shape := ⟨2, ![1, 1024]⟩
abbrev S1024 : Shape := ⟨1, ![1024]⟩
abbrev S1 : Shape := ⟨1, ![1]⟩
abbrev S1x1 : Shape := ⟨2, ![1, 1]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x128, .f32⟩
  | .local _ .vmem, ⟨7, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v17 : BitVec 1 := Scalar.cmpi .eq arg0 c7_i32
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S4096x1024 : Shape := ⟨2, ![4096, 1024]⟩
abbrev S_ : Shape := ⟨0, ![]⟩
abbrev S4096 : Shape := ⟨1, ![4096]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | .hbm, ⟨25, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Attn.lean ====
abbrev S4096x1536 : Shape := ⟨2, ![4096, 1536]⟩
abbrev S4096x1024 : Shape := ⟨2, ![4096, 1024]⟩
abbrev S3x8x128x256 : Shape := ⟨4, ![3, 8, 128, 256]⟩
abbrev S128 : Shape := ⟨1, ![128]⟩
abbrev S128x1 : Shape := ⟨2, ![128, 1]⟩
abbrev S_ : Shape := ⟨0, ![]⟩
abbrev S256 : Shape := ⟨1, ![256]⟩
abbrev S1x256 : Shape := ⟨2, ![1, 256]⟩
abbrev S128x256 : Shape := ⟨2, ![128, 256]⟩
abbrev S3x8x1x128x256 : Shape := ⟨5, ![3, 8, 1, 128, 256]⟩
abbrev S3x8x2x128x256 : Shape := ⟨5, ![3, 8, 2, 128, 256]⟩
abbrev S4096x512 : Shape := ⟨2, ![4096, 512]⟩
abbrev S4096x128 : Shape := ⟨2, ![4096, 128]⟩
abbrev S256x512 : Shape := ⟨2, ![256, 512]⟩
abbrev S128x512 : Shape := ⟨2, ![128, 512]⟩
abbrev S1x8x1x128x256 : Shape := ⟨5, ![1, 8, 1, 128, 256]⟩
abbrev S256x128 : Shape := ⟨2, ![256, 128]⟩
abbrev S128x128 : Shape := ⟨2, ![128, 128]⟩
abbrev S1x128x128 : Shape := ⟨3, ![1, 128, 128]⟩
abbrev S8x128x128 : Shape := ⟨3, ![8, 128, 128]⟩
abbrev S8x128x256 : Shape := ⟨3, ![8, 128, 256]⟩
abbrev S8x128 : Shape := ⟨2, ![8, 128]⟩
abbrev S8x128x1 : Shape := ⟨3, ![8, 128, 1]⟩
abbrev S1x128x1 : Shape := ⟨3, ![1, 128, 1]⟩

abbrev nBuf : Space → Nat
  | .hbm => 40
  | .vmem => 17
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S3x8x128x256, .f32⟩
  | .hbm, ⟨3, _⟩ => ⟨S128, .i32⟩
  | .hbm, ⟨4, _⟩ => ⟨S128x1, .i32⟩
  | .hbm, ⟨5, _⟩ => ⟨S_, .i32⟩
  | .hbm, ⟨6, _⟩ => ⟨S128x1, .i32⟩
  | .hbm, ⟨7, _⟩ => ⟨S128x1, .i32⟩
  | .hbm, ⟨8, _⟩ => ⟨S256, .i32⟩
  | .hbm, ⟨9, _⟩ => ⟨S1x256, .i32⟩
  | .hbm, ⟨10, _⟩ => ⟨S128x256, .i32⟩
  | .hbm, ⟨11, _⟩ => ⟨S128x256, .i32⟩
  | .hbm, ⟨12, _⟩ => ⟨S128x256, .i32⟩
  | .hbm, ⟨13, _⟩ => ⟨S_, .i32⟩
  | .hbm, ⟨14, _⟩ => ⟨S128x256, .i32⟩
  | .hbm, ⟨15, _⟩ => ⟨S128x256, .i1⟩
  | .hbm, ⟨16, _⟩ => ⟨S_, .i32⟩
  | .hbm, ⟨17, _⟩ => ⟨S128x256, .i32⟩
  | .hbm, ⟨18, _⟩ => ⟨S128x256, .i1⟩
  | .hbm, ⟨19, _⟩ => ⟨S128x256, .i1⟩
  | .hbm, ⟨20, _⟩ => ⟨S_, .f32⟩
  | .hbm, ⟨21, _⟩ => ⟨S_, .f32⟩
  | .hbm, ⟨22, _⟩ => ⟨S3x8x128x256, .i1⟩
  | .hbm, ⟨23, _⟩ => ⟨S3x8x128x256, .f32⟩
  | .hbm, ⟨24, _⟩ => ⟨S3x8x128x256, .f32⟩
  | .hbm, ⟨25, _⟩ => ⟨S256, .i32⟩
  | .hbm, ⟨26, _⟩ => ⟨S1x256, .i32⟩
  | .hbm, ⟨27, _⟩ => ⟨S_, .i32⟩
  | .hbm, ⟨28, _⟩ => ⟨S1x256, .i32⟩
  | .hbm, ⟨29, _⟩ => ⟨S1x256, .i1⟩
  | .hbm, ⟨30, _⟩ => ⟨S_, .f32⟩
  | .hbm, ⟨31, _⟩ => ⟨S_, .f32⟩
  | .hbm, ⟨32, _⟩ => ⟨S3x8x128x256, .i1⟩
  | .hbm, ⟨33, _⟩ => ⟨S3x8x128x256, .f32⟩
  | .hbm, ⟨34, _⟩ => ⟨S3x8x128x256, .f32⟩
  | .hbm, ⟨35, _⟩ => ⟨S3x8x1x128x256, .f32⟩
  | .hbm, ⟨36, _⟩ => ⟨S3x8x1x128x256, .f32⟩
  | .hbm, ⟨37, _⟩ => ⟨S3x8x2x128x256, .f32⟩
  | .hbm, ⟨38, _⟩ => ⟨S4096x512, .f32⟩
  | .hbm, ⟨39, _⟩ => ⟨S4096x128, .f32⟩
  | .local _ .vmem, ⟨0, _⟩ => ⟨S256x512, .bf16⟩
  | .local _ .vmem, ⟨1, _⟩ => ⟨S256x512, .bf16⟩
  | .local _ .vmem, ⟨2, _⟩ => ⟨S128x512, .bf16⟩
  | .local _ .vmem, ⟨3, _⟩ => ⟨S128x512, .bf16⟩
  | .local _ .vmem, ⟨4, _⟩ => ⟨S256x512, .bf16⟩
  | .local _ .vmem, ⟨5, _⟩ => ⟨S256x512, .bf16⟩
  | .local _ .vmem, ⟨6, _⟩ => ⟨S128x512, .bf16⟩
  | .local _ .vmem, ⟨7, _⟩ => ⟨S128x512, .bf16⟩
  | .local _ .vmem, ⟨8, _⟩ => ⟨S256x512, .bf16⟩
  | .local _ .vmem, ⟨9, _⟩ => ⟨S256x512, .bf16⟩
  | .local _ .vmem, ⟨10, _⟩ => ⟨S1x8x1x128x256, .f32⟩
  | .local _ .vmem, ⟨11, _⟩ => ⟨S1x8x1x128x256, .f32⟩
  | .local _ .vmem, ⟨12, _⟩ => ⟨S1x8x1x128x256, .f32⟩
  | .local _ .vmem, ⟨13, _⟩ => ⟨S256x512, .f32⟩
  | .local _ .vmem, ⟨14, _⟩ => ⟨S256x512, .f32⟩
  | .local _ .vmem, ⟨15, _⟩ => ⟨S256x128, .f32⟩
  | .local _ .vmem, ⟨16, _⟩ => ⟨S256x128, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23_0 : Ref sig .tc := ⟨.hbm, 38, rfl⟩
abbrev main_v23_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 5 → Nat :=
  let arg0 : BitVec 32 := BitVec.ofNat 32 (i 0).val
  let c2_i32 : BitVec 32 := 2#32
  let v0 : BitVec 32 := Scalar.muli c2_i32 arg0
  let c32_i32 : BitVec 32 := 32#32
  let c0_i32 : BitVec 32 := 0#32
  let v1 : BitVec 1 := Scalar.cmpi .eq c32_i32 c0_i32
  let c1_i32 : BitVec 32 := 1#32
  let v2 : BitVec 32 := Scalar.select v1 c1_i32 c32_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let v11 : BitVec 1 := Scalar.cmpi .eq v10 c0_i32_3
  let c1_i32_4 : BitVec 32 := 1#32
  let c0_i32_5 : BitVec 32 := 0#32
  let v12 : BitVec 32 := Scalar.select v11 c1_i32_4 c0_i32_5
  let c0_i32_6 : BitVec 32 := 0#32
  let c0_i32_7 : BitVec 32 := 0#32
  let c0_i32_8 : BitVec 32 := 0#32
  let c0_i32_9 : BitVec 32 := 0#32
  let c0_i32_10 : BitVec 32 := 0#32
  ![c0_i32_6.toNat, c0_i32_7.toNat, v12.toNat, c0_i32_8.toNat, c0_i32_9.toNat]

def cc0_transform_6 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x8x1x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AttnRefIdeal.lean ====
abbrev S4096x1536 : Shape := ⟨2, ![4096, 1536]⟩
abbrev S4096x1024 : Shape := ⟨2, ![4096, 1024]⟩
abbrev S3x8x128x256 : Shape := ⟨4, ![3, 8, 128, 256]⟩
abbrev S4096x512 : Shape := ⟨2, ![4096, 512]⟩
abbrev S4096x8x64 : Shape := ⟨3, ![4096, 8, 64]⟩
abbrev S1x8x128x256 : Shape := ⟨4, ![1, 8, 128, 256]⟩
abbrev S8x128x256 : Shape := ⟨3, ![8, 128, 256]⟩
abbrev S32x128x8x64 : Shape := ⟨4, ![32, 128, 8, 64]⟩
abbrev S8x32x128x64 : Shape := ⟨4, ![8, 32, 128, 64]⟩
abbrev S_ : Shape := ⟨0, ![]⟩
abbrev S8x1x128x64 : Shape := ⟨4, ![8, 1, 128, 64]⟩
abbrev S8x31x128x64 : Shape := ⟨4, ![8, 31, 128, 64]⟩
abbrev S8x32x256x64 : Shape := ⟨4, ![8, 32, 256, 64]⟩
abbrev S8x32x128x256 : Shape := ⟨4, ![8, 32, 128, 256]⟩
abbrev S8x1x128x256 : Shape := ⟨4, ![8, 1, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S8x32x128 : Shape := ⟨3, ![8, 32, 128]⟩
abbrev S8x32x128x1 : Shape := ⟨4, ![8, 32, 128, 1]⟩
abbrev S8x4096 : Shape := ⟨2, ![8, 4096]⟩
abbrev S4096x8 : Shape := ⟨2, ![4096, 8]⟩
abbrev S4096x120 : Shape := ⟨2, ![4096, 120]⟩
abbrev S4096x128 : Shape := ⟨2, ![4096, 128]⟩

abbrev nBuf : Space → Nat
  | .hbm => 99
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S3x8x128x256, .f32⟩
  | .hbm, ⟨3, _⟩ => ⟨S4096x512, .bf16⟩
  | .hbm, ⟨4, _⟩ => ⟨S4096x512, .f32⟩
  | .hbm, ⟨5, _⟩ => ⟨S4096x8x64, .f32⟩
  | .hbm, ⟨6, _⟩ => ⟨S4096x512, .bf16⟩
  | .hbm, ⟨7, _⟩ => ⟨S4096x512, .f32⟩
  | .hbm, ⟨8, _⟩ => ⟨S4096x8x64, .f32⟩
  | .hbm, ⟨9, _⟩ => ⟨S4096x512, .bf16⟩
  | .hbm, ⟨10, _⟩ => ⟨S4096x512, .f32⟩
  | .hbm, ⟨11, _⟩ => ⟨S4096x8x64, .f32⟩
  | .hbm, ⟨12, _⟩ => ⟨S1x8x128x256, .f32⟩
  | .hbm, ⟨13, _⟩ => ⟨S8x128x256, .f32⟩
  | .hbm, ⟨14, _⟩ => ⟨S32x128x8x64, .f32⟩
  | .hbm, ⟨15, _⟩ => ⟨S8x32x128x64, .f32⟩
  | .hbm, ⟨16, _⟩ => ⟨S32x128x8x64, .f32⟩
  | .hbm, ⟨17, _⟩ => ⟨S8x32x128x64, .f32⟩
  | .hbm, ⟨18, _⟩ => ⟨S_, .f32⟩
  | .hbm, ⟨19, _⟩ => ⟨S8x1x128x64, .f32⟩
  | .hbm, ⟨20, _⟩ => ⟨S8x31x128x64, .f32⟩
  | .hbm, ⟨21, _⟩ => ⟨S8x32x128x64, .f32⟩
  | .hbm, ⟨22, _⟩ => ⟨S8x32x256x64, .f32⟩
  | .hbm, ⟨23, _⟩ => ⟨S32x128x8x64, .f32⟩
  | .hbm, ⟨24, _⟩ => ⟨S8x32x128x64, .f32⟩
  | .hbm, ⟨25, _⟩ => ⟨S_, .f32⟩
  | .hbm, ⟨26, _⟩ => ⟨S8x1x128x64, .f32⟩
  | .hbm, ⟨27, _⟩ => ⟨S8x31x128x64, .f32⟩
  | .hbm, ⟨28, _⟩ => ⟨S8x32x128x64, .f32⟩
  | .hbm, ⟨29, _⟩ => ⟨S8x32x256x64, .f32⟩
  | .hbm, ⟨30, _⟩ => ⟨S8x32x128x256, .f32⟩
  | .hbm, ⟨31, _⟩ => ⟨S_, .f32⟩
  | .hbm, ⟨32, _⟩ => ⟨S8x32x128x256, .f32⟩
  | .hbm, ⟨33, _⟩ => ⟨S8x32x128x256, .f32⟩
  | .hbm, ⟨34, _⟩ => ⟨S8x1x128x256, .f32⟩
  | .hbm, ⟨35, _⟩ => ⟨S8x32x128x256, .f32⟩
  | .hbm, ⟨36, _⟩ => ⟨S8x32x128x256, .f32⟩
  | .hbm, ⟨37, _⟩ => ⟨S128, .i32⟩
  | .hbm, ⟨38, _⟩ => ⟨S128x1, .i32⟩
  | .hbm, ⟨39, _⟩ => ⟨S256, .i32⟩
  | .hbm, ⟨40, _⟩ => ⟨S1x256, .i32⟩
  | .hbm, ⟨41, _⟩ => ⟨S_, .i32⟩
  | .hbm, ⟨42, _⟩ => ⟨S128x1, .i32⟩
  | .hbm, ⟨43, _⟩ => ⟨S128x1, .i32⟩
  | .hbm, ⟨44, _⟩ => ⟨S128x256, .i32⟩
  | .hbm, ⟨45, _⟩ => ⟨S128x256, .i32⟩
  | .hbm, ⟨46, _⟩ => ⟨S128x256, .i32⟩
  | .hbm, ⟨47, _⟩ => ⟨S_, .i32⟩
  | .hbm, ⟨48, _⟩ => ⟨S128x256, .i32⟩
  | .hbm, ⟨49, _⟩ => ⟨S128x256, .i1⟩
  | .hbm, ⟨50, _⟩ => ⟨S_, .i32⟩
  | .hbm, ⟨51, _⟩ => ⟨S128x256, .i32⟩
  | .hbm, ⟨52, _⟩ => ⟨S128x256, .i1⟩
  | .hbm, ⟨53, _⟩ => ⟨S128x256, .i1⟩
  | .hbm, ⟨54, _⟩ => ⟨S32, .i32⟩
  | .hbm, ⟨55, _⟩ => ⟨S32x1x1, .i32⟩
  | .hbm, ⟨56, _⟩ => ⟨S_, .i32⟩
  | .hbm, ⟨57, _⟩ => ⟨S32x1x1, .i32⟩
  | .hbm, ⟨58, _⟩ => ⟨S32x1x1, .i1⟩
  | .hbm, ⟨59, _⟩ => ⟨S256, .i32⟩
  | .hbm, ⟨60, _⟩ => ⟨S1x1x256, .i32⟩
  | .hbm, ⟨61, _⟩ => ⟨S_, .i32⟩
  | .hbm, ⟨62, _⟩ => ⟨S1x1x256, .i32⟩
  | .hbm, ⟨63, _⟩ => ⟨S1x1x256, .i1⟩
  | .hbm, ⟨64, _⟩ => ⟨S32x1x256, .i1⟩
  | .hbm, ⟨65, _⟩ => ⟨S32x1x256, .i1⟩
  | .hbm, ⟨66, _⟩ => ⟨S32x1x256, .i1⟩
  | .hbm, ⟨67, _⟩ => ⟨S1x128x256, .i1⟩
  | .hbm, ⟨68, _⟩ => ⟨S32x1x256, .i1⟩
  | .hbm, ⟨69, _⟩ => ⟨S32x128x256, .i1⟩
  | .hbm, ⟨70, _⟩ => ⟨S32x128x256, .i1⟩
  | .hbm, ⟨71, _⟩ => ⟨S32x128x256, .i1⟩
  | .hbm, ⟨72, _⟩ => ⟨S_, .f32⟩
  | .hbm, ⟨73, _⟩ => ⟨S_, .f32⟩
  | .hbm, ⟨74, _⟩ => ⟨S8x32x128x256, .i1⟩
  | .hbm, ⟨75, _⟩ => ⟨S8x32x128x256, .f32⟩
  | .hbm, ⟨76, _⟩ => ⟨S8x32x128x256, .f32⟩
  | .hbm, ⟨77, _⟩ => ⟨S_, .f32⟩
  | .hbm, ⟨78, _⟩ => ⟨S8x32x128, .f32⟩
  | .hbm, ⟨79, _⟩ => ⟨S8x32x128x1, .f32⟩
  | .hbm, ⟨80, _⟩ => ⟨S8x32x128x256, .f32⟩
  | .hbm, ⟨81, _⟩ => ⟨S8x32x128x256, .f32⟩
  | .hbm, ⟨82, _⟩ => ⟨S8x32x128x256, .f32⟩
  | .hbm, ⟨83, _⟩ => ⟨S_, .f32⟩
  | .hbm, ⟨84, _⟩ => ⟨S8x32x128, .f32⟩
  | .hbm, ⟨85, _⟩ => ⟨S8x32x128x1, .f32⟩
  | .hbm, ⟨86, _⟩ => ⟨S8x32x128x256, .f32⟩
  | .hbm, ⟨87, _⟩ => ⟨S8x32x128x256, .f32⟩
  | .hbm, ⟨88, _⟩ => ⟨S8x32x128x64, .f32⟩
  | .hbm, ⟨89, _⟩ => ⟨S8x32x128x1, .f32⟩
  | .hbm, ⟨90, _⟩ => ⟨S8x32x128x1, .f32⟩
  | .hbm, ⟨91, _⟩ => ⟨S8x32x128, .f32⟩
  | .hbm, ⟨92, _⟩ => ⟨S32x128x8x64, .f32⟩
  | .hbm, ⟨93, _⟩ => ⟨S4096x512, .f32⟩
  | .hbm, ⟨94, _⟩ => ⟨S8x4096, .f32⟩
  | .hbm, ⟨95, _⟩ => ⟨S4096x8, .f32⟩
  | .hbm, ⟨96, _⟩ => ⟨S_, .f32⟩
  | .hbm, ⟨97, _⟩ => ⟨S4096x120, .f32⟩
  | .hbm, ⟨98, _⟩ => ⟨S4096x128, .f32⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_1 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_c : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_c_2 : Ref sig .tc := ⟨.hbm, 47, rfl⟩
abbrev main_v40 : Ref sig .tc := ⟨.hbm, 48, rfl⟩
abbrev main_v41 : Ref sig .tc := ⟨.hbm, 49, rfl⟩
abbrev main_c_3 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_c_4 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_c_5 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_cst_6 : Ref sig .tc := ⟨.hbm, 72, rfl⟩
abbrev main_call0_v0 : Ref sig .tc := ⟨.hbm, 73, rfl⟩
abbrev main_call0_v1 : Ref sig .tc := ⟨.hbm, 74, rfl⟩
abbrev main_call0_v2 : Ref sig .tc := ⟨.hbm, 75, rfl⟩
abbrev main_v61 : Ref sig .tc := ⟨.hbm, 76, rfl⟩
abbrev main_cst_7 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_8 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_cst_9 : Ref sig .tc := ⟨.hbm, 96, rfl⟩
abbrev main_v79 : Ref sig .tc := ⟨.hbm, 97, rfl⟩
abbrev main_v80 : Ref sig .tc := ⟨.hbm, 98, rfl⟩

abbrev nD : Nat := 1
abbrev τ : Topo := Topo.v7x

variable {F : FTy → Type} [FloatOps F]
-- ==== Proof.SguBlock.lean ====
module

public import proofs.«01_k».proof.Proof.Gen.SguIdeal.Value
public import Idealize.ShloMosaic.Lib.Pipeline.ValueKit
public import Idealize.ShloMosaic.Lib.Pipeline.ReadBack
public import Idealize.ShloMosaic.Lib.Pointwise
public import Idealize.ShloMosaic.Lib.VecWindow

/-! What one block of 128 rows contributes to the gradients of the spatial gating unit, as plain sums over the block. -/

@[expose] public section

set_option maxRecDepth 16384
noncomputable section
open Idealize.ShloMosaic Idealize.ShloMosaic.TcCoe Idealize.SL.Sem
open Idealize.ShloMosaic.Pipeline (Dat)
namespace Cert.SguIdeal.Value
open Cert.SguIdeal Cert.SguIdeal.Gen

/-- The group of 256 columns that column `e` belongs to. -/
def grp (e : Fin 2048) : Fin 8 := ⟨(e : ℕ) / 256, by omega⟩
/-- Column `k` of group `g`. -/
def colOf (g : Fin 8) (k : Fin 256) : Fin 2048 := ⟨(g : ℕ) * 256 + k, by omega⟩
/-- The same column in the gate's first half of the pre-activation. -/
def lo (e : Fin 2048) : Fin 4096 := ⟨(e : ℕ), by omega⟩
/-- The same column in the pre-activation's second half. -/
def hi (e : Fin 2048) : Fin 4096 := ⟨2048 + (e : ℕ), by omega⟩
/-- The lower triangle of the weights: entry (t, s) of group g where s ≤ t, zero above. -/
def wB (x2 : FVec Ideal S8x128x128 .f32) (g : Fin 8) (t s : Fin 128) : EReal :=
  Scalar.select (k0_pay17 (ix2 t s)) (x2 (ix3 g t s)) 0
/-- The gradient reaching the gate's spatial half: dy · u. -/
def dsvB (x0 : FVec Ideal S128x4096 .bf16) (x1 : FVec Ideal S128x2048 .bf16) (r : Fin 128) (e : Fin 2048) : EReal :=
  x1 (ix2 r e) * k0_pay9 (F := Ideal) x0 (ix2 r e)
/-- The gradient reaching the normalised rows: the transposed triangle on `dsvB`, group by group. -/
def dvnB (x0 : FVec Ideal S128x4096 .bf16) (x1 : FVec Ideal S128x2048 .bf16) (x2 : FVec Ideal S8x128x128 .f32) :
    FVec Ideal S128x2048 .f32 := fun j =>
  ∑ t : Fin 128, wB x2 (grp (j 1)) t (j 0) * dsvB x0 x1 t (j 1)
/-- What the block adds to the weights' gradient. -/
def dwsB (x0 : FVec Ideal S128x4096 .bf16) (x1 : FVec Ideal S128x2048 .bf16) (x4 x5 : FVec Ideal S1x2048 .f32)
    (g : Fin 8) (t s : Fin 128) : EReal :=
  Scalar.select (k0_pay17 (ix2 t s))
    (∑ k : Fin 256, dsvB x0 x1 t (colOf g k) * k0_pay13 (F := Ideal) x0 x4 x5 (ix2 s (colOf g k))) 0
/-- What the block adds to the bias's gradient: lane `g` collects group g's row sums, the lanes past the groups nothing. -/
def dbsB (x0 : FVec Ideal S128x4096 .bf16) (x1 : FVec Ideal S128x2048 .bf16) (r lane : Fin 128) : EReal :=
  ∑ g : Fin 8, if (lane : ℕ) = g then ∑ k : Fin 256, dsvB x0 x1 r (colOf g k) else 0
/-- The gated product's gradient with respect to the pre-activation's first half. -/
def dzuB (x0 : FVec Ideal S128x4096 .bf16) (x1 : FVec Ideal S128x2048 .bf16) (x2 : FVec Ideal S8x128x128 .f32)
    (x3 : FVec Ideal S8x128x1 .f32) (x4 x5 : FVec Ideal S1x2048 .f32) (r : Fin 128) (e : Fin 2048) : EReal :=
  x1 (ix2 r e) * ((∑ s : Fin 128, wB x2 (grp e) r s * k0_pay13 (F := Ideal) x0 x4 x5 (ix2 s e)) + x3 (ix3 (grp e) r 0))
    * k0_pay15 (F := Ideal) (k0_pay6 x0) (k0_pay14 x0) (ix2 r (lo e))

/-- The eight tiles of that gradient, one per group of columns, as the body leaves them in its buffer. -/
def dvnTiles (x0 : FVec Ideal S128x4096 .bf16) (x1 : FVec Ideal S128x2048 .bf16) (x2 : FVec Ideal S8x128x128 .f32) :
    List (View.Piece (Elt Ideal) S128x2048 .f32) :=
  [⟨Rect.unit ![0, 1792] ![128, 256] inb_S128x2048_S128x256_0_1792,
    k0_pay89 (F := Ideal) (k0_pay9 x0) k0_pay17 (View.ld (Val := Elt Ideal) (S := S8x128x128) (e' := .f32) x2 (Rect.unit ![7, 0, 0] ![1, 128, 128] inb_S8x128x128_S1x128x128_7_0_0)) (View.ld (Val := Elt Ideal) (S := S128x2048) (e' := .bf16) x1 (Rect.unit ![0, 1792] ![128, 256] inb_S128x2048_S128x256_0_1792))⟩,
   ⟨Rect.unit ![0, 1536] ![128, 256] inb_S128x2048_S128x256_0_1536,
    k0_pay81 (F := Ideal) (k0_pay9 x0) (k0_pay74 k0_pay17 (View.ld (Val := Elt Ideal) (S := S8x128x128) (e' := .f32) x2 (Rect.unit ![6, 0, 0] ![1, 128, 128] inb_S8x128x128_S1x128x128_6_0_0))) (View.ld (Val := Elt Ideal) (S := S128x2048) (e' := .bf16) x1 (Rect.unit ![0, 1536] ![128, 256] inb_S128x2048_S128x256_0_1536))⟩,
   ⟨Rect.unit ![0, 1280] ![128, 256] inb_S128x2048_S128x256_0_1280,
    k0_pay72 (F := Ideal) (k0_pay9 x0) (k0_pay66 k0_pay17 (View.ld (Val := Elt Ideal) (S := S8x128x128) (e' := .f32) x2 (Rect.unit ![5, 0, 0] ![1, 128, 128] inb_S8x128x128_S1x128x128_5_0_0))) (k0_pay67 (View.ld (Val := Elt Ideal) (S := S128x2048) (e' := .bf16) x1 (Rect.unit ![0, 1280] ![128, 256] inb_S128x2048_S128x256_0_1280)))⟩,
   ⟨Rect.unit ![0, 1024] ![128, 256] inb_S128x2048_S128x256_0_1024,
    k0_pay64 (F := Ideal) (k0_pay56 k0_pay17 (View.ld (Val := Elt Ideal) (S := S8x128x128) (e' := .f32) x2 (Rect.unit ![4, 0, 0] ![1, 128, 128] inb_S8x128x128_S1x128x128_4_0_0))) (k0_pay60 (k0_pay9 x0) (View.ld (Val := Elt Ideal) (S := S128x2048) (e' := .bf16) x1 (Rect.unit ![0, 1024] ![128, 256] inb_S128x2048_S128x256_0_1024)))⟩,
   ⟨Rect.unit ![0, 768] ![128, 256] inb_S128x2048_S128x256_0_768,
    k0_pay54 (F := Ideal) (k0_pay53 (k0_pay9 x0) k0_pay17 (View.ld (Val := Elt Ideal) (S := S8x128x128) (e' := .f32) x2 (Rect.unit ![3, 0, 0] ![1, 128, 128] inb_S8x128x128_S1x128x128_3_0_0)) (View.ld (Val := Elt Ideal) (S := S128x2048) (e' := .bf16) x1 (Rect.unit ![0, 768] ![128, 256] inb_S128x2048_S128x256_0_768)))⟩,
   ⟨Rect.unit ![0, 512] ![128, 256] inb_S128x2048_S128x256_0_512,
    k0_pay43 (F := Ideal) (k0_pay9 x0) (k0_pay36 k0_pay17 (View.ld (Val := Elt Ideal) (S := S8x128x128) (e' := .f32) x2 (Rect.unit ![2, 0, 0] ![1, 128, 128] inb_S8x128x128_S1x128x128_2_0_0))) (View.ld (Val := Elt Ideal) (S := S128x2048) (e' := .bf16) x1 (Rect.unit ![0, 512] ![128, 256] inb_S128x2048_S128x256_0_512))⟩,
   ⟨Rect.unit ![0, 256] ![128, 256] inb_S128x2048_S128x256_0_256,
    k0_pay34 (F := Ideal) (k0_pay9 x0) (k0_pay27 k0_pay17 (View.ld (Val := Elt Ideal) (S := S8x128x128) (e' := .f32) x2 (Rect.unit ![1, 0, 0] ![1, 128, 128] inb_S8x128x128_S1x128x128_1_0_0))) (View.ld (Val := Elt Ideal) (S := S128x2048) (e' := .bf16) x1 (Rect.unit ![0, 256] ![128, 256] inb_S128x2048_S128x256_0_256))⟩,
   ⟨Rect.unit ![0, 0] ![128, 256] inb_S128x2048_S128x256_0_0,
    k0_pay25 (F := Ideal) (k0_pay19 (View.ld (Val := Elt Ideal) (S := S8x128x128) (e' := .f32) x2 (Rect.unit ![0, 0, 0] ![1, 128, 128] inb_S8x128x128_S1x128x128_0_0_0))) (k0_pay23 (k0_pay9 x0) (View.ld (Val := Elt Ideal) (S := S128x2048) (e' := .bf16) x1 (Rect.unit ![0, 0] ![128, 256] inb_S128x2048_S128x256_0_0)))⟩]

/-- Together the tiles are `dvnB`. -/
theorem canon_dvnTiles (x0 : FVec Ideal S128x4096 .bf16) (x1 : FVec Ideal S128x2048 .bf16) (x2 : FVec Ideal S8x128x128 .f32) :
    View.canon (dvnTiles x0 x1 x2) = dvnB x0 x1 x2 := by
  funext j
  unfold dvnTiles
  canon_tiles x hx
  all_goals (simp only [dvnB, wB, dsvB, grp]; open_payloads; pointwise; blk_point [] <;> exact hx0.symm)

/-- Loading a whole buffer reads what the stores into it left. -/
theorem readCov_whole {sig : RefSig} {κ : Kind} {sp : Space} {s : Shape} {e : EltTy} (v : View sig κ sp s e)
    {off : Fin s.rank → ℕ} (inb : ∀ a, off a + s.size a ≤ s.size a) (L : List (View.Piece (Elt Ideal) s e)) :
    v.readCov L (Rect.unit off (no_index s.size) inb).toLoadRect = View.canon L := by
  rw [View.readCov_eq_canon']; funext z; exact congrArg _ (Rect.emb_unit_full inb z)

/-- An earlier store plays no part where a later one writes. -/
theorem canon_drop {S : Shape} {e : EltTy} (q : View.Piece (Elt Ideal) S e) (y : S.Idx) :
    ∀ L : List (View.Piece (Elt Ideal) S e), (∃ p ∈ L, y ∈ p.1.set) → View.canon (L ++ [q]) y = View.canon L y
  | [], h => by obtain ⟨p, hp, _⟩ := h; exact absurd hp List.not_mem_nil
  | ⟨r, w⟩ :: L, h => by
    by_cases hy : y ∈ r.set
    · obtain ⟨x, rfl⟩ : ∃ x, r.emb x = y := by
        choose f hf he using r.mem_set.mp hy
        exact ⟨fun a => ⟨f a, hf a⟩, funext fun a => Fin.ext (he a).symm⟩
      exact (View.canon_cons_emb r w _ x).trans (View.canon_cons_emb r w _ x).symm
    · refine (View.canon_cons_of_not_mem ⟨r, w⟩ (L ++ [q]) hy).trans ((canon_drop q y L ?_).trans (View.canon_cons_of_not_mem ⟨r, w⟩ L hy).symm)
      obtain ⟨p, hp, hyp⟩ := h
      rcases List.mem_cons.mp hp with rfl | hp
      · exact absurd hyp hy
      · exact ⟨p, hp, hyp⟩

/-- Choosing by "the lane is number w" is a choice on the numbers. -/
theorem sel_lane (j : Fin 128) (w : BitVec 32) (a b : EReal) :
    Scalar.select (IntOp.cmpi .eq (BitVec.ofNat 32 (j : ℕ)) w) a b = if (j : ℕ) = w.toNat then a else b := by
  have e : (BitVec.ofNat 32 (j : ℕ) = w) ↔ (j : ℕ) = w.toNat := by
    rw [← BitVec.toNat_inj, BitVec.toNat_ofNat, Nat.mod_eq_of_lt (by omega)]
  by_cases h : (j : ℕ) = w.toNat
  · simp [Scalar.select, IntOp.cmpi, e.mpr h, h]
  · have hne : (BitVec.ofNat 32 (j : ℕ) == w) = false := beq_eq_false_iff_ne.mpr fun hh => h (e.mp hh)
    simp [Scalar.select, IntOp.cmpi, hne, h]

/-- Choosing by the triangle's mask is a choice on the row and column numbers. -/
theorem sel_tril (t s : Fin 128) (a b : EReal) :
    Scalar.select (k0_pay17 (ix2 t s)) a b = if (s : ℕ) ≤ t then a else b := by
  have e : (BitVec.ofNat 32 (s : ℕ)).sle (BitVec.ofNat 32 (t : ℕ)) = decide ((s : ℕ) ≤ t) :=
    (by decide +kernel : ∀ t s : Fin 128, (BitVec.ofNat 32 (s : ℕ)).sle (BitVec.ofNat 32 (t : ℕ)) = decide ((s : ℕ) ≤ t)) t s
  pointwise [k0_pay17]
  by_cases h : (s : ℕ) ≤ t
  · simp [Scalar.select, IntOp.cmpi, e, h]
  · simp [Scalar.select, IntOp.cmpi, e, h]

/-- The normalised rows' gradient times the scale. -/
def dvhB (x0 : FVec Ideal S128x4096 .bf16) (x1 : FVec Ideal S128x2048 .bf16) (x2 : FVec Ideal S8x128x128 .f32)
    (x4 : FVec Ideal S1x2048 .f32) (r : Fin 128) (e : Fin 2048) : EReal := dvnB x0 x1 x2 (ix2 r e) * x4 (ix2 0 e)
/-- The normalisation's gradient times the activation's slope: the pre-activation's second half. -/
def dzvB (x0 : FVec Ideal S128x4096 .bf16) (x1 : FVec Ideal S128x2048 .bf16) (x2 : FVec Ideal S8x128x128 .f32)
    (x4 : FVec Ideal S1x2048 .f32) (r : Fin 128) (e : Fin 2048) : EReal :=
  k0_pay11 (F := Ideal) x0 (ix2 r 0) * (dvhB x0 x1 x2 x4 r e
      - Ideal.div (∑ k : Fin 2048, dvhB x0 x1 x2 x4 r k) (Ideal.ofBits .f32 0x45000000#32)
      - k0_pay12 (F := Ideal) x0 (ix2 r e)
        * Ideal.div (∑ k : Fin 2048, dvhB x0 x1 x2 x4 r k * k0_pay12 (F := Ideal) x0 (ix2 r k)) (Ideal.ofBits .f32 0x45000000#32))
    * k0_pay15 (F := Ideal) (k0_pay6 x0) (k0_pay14 x0) (ix2 r (hi e))

end Cert.SguIdeal.Value
-- ==== Proof.SguStep.lean ====
module

public import proofs.«01_k».proof.Proof.SguBlock

/-! What each grid point leaves in the five outputs: the block written once, and what is added to the accumulated ones. -/

@[expose] public section

set_option maxRecDepth 16384
noncomputable section
open Idealize.ShloMosaic Idealize.ShloMosaic.TcCoe Idealize.SL.Sem
open Idealize.ShloMosaic.Pipeline (Dat)
namespace Cert.SguIdeal.Value
open Cert.SguIdeal Cert.SguIdeal.Gen

variable (m : (ℓ : Loc nD τ sig) → Buf (Elt Ideal) ℓ)

/-- The offset's gradient at the first point: the block's part over zero. -/
theorem dlb_A (c : Dev nD) (t : Fin cfg0.N) (h : t.val % 32 = 0) (j : S1x2048.Idx) : (outsAt0 m c t.val t.isLt).2.2.2.2 j
    = 0 + ∑ r : Fin 128, dvnB (iblk m c 0 t) (iblk m c 1 t) (iblk m c 2 t) (ix2 r (j 1)) := by
  rw [outsAt0_A m c t h]; frame_out
  generalize hD : View.readCov (Val := Elt Ideal) _ _ _ = D
  obtain rfl : D = dvnB (iblk m c 0 t) (iblk m c 1 t) (iblk m c 2 t) :=
    hD.symm.trans ((readCov_whole (s := S128x2048) _ _ _).trans (canon_dvnTiles _ _ _))
  clear hD
  pointwise [k0_pay93, k0_pay94, k0_pay5]

/-- The offset's gradient at a later point: the block's part is added. -/
theorem dlb_B (c : Dev nD) (t : Fin cfg0.N) (h : ¬ t.val % 32 = 0) (j : S1x2048.Idx) : (outsAt0 m c t.val t.isLt).2.2.2.2 j
    = (outsAt0 m c (t.val - 1) (lt_of_le_of_lt (Nat.sub_le _ _) t.isLt)).2.2.2.2 j + ∑ r : Fin 128, dvnB (iblk m c 0 t) (iblk m c 1 t) (iblk m c 2 t) (ix2 r (j 1)) := by
  rw [outsAt0_B m c t h]; frame_out
  generalize hD : View.readCov (Val := Elt Ideal) _ _ _ = D
  obtain rfl : D = dvnB (iblk m c 0 t) (iblk m c 1 t) (iblk m c 2 t) :=
    hD.symm.trans ((readCov_whole (s := S128x2048) _ _ _).trans (canon_dvnTiles _ _ _))
  clear hD
  pointwise [k0_pay93, k0_pay94, k0_pay5]

/-- The scale's gradient at the first point: the block's part over zero. -/
theorem dlg_A (c : Dev nD) (t : Fin cfg0.N) (h : t.val % 32 = 0) (j : S1x2048.Idx) : (outsAt0 m c t.val t.isLt).2.2.2.1 j
    = 0 + ∑ r : Fin 128, dvnB (iblk m c 0 t) (iblk m c 1 t) (iblk m c 2 t) (ix2 r (j 1)) * k0_pay12 (iblk m c 0 t) (ix2 r (j 1)) := by
  rw [outsAt0_A m c t h]; frame_out
  generalize hD : View.readCov (Val := Elt Ideal) _ _ _ = D
  obtain rfl : D = dvnB (iblk m c 0 t) (iblk m c 1 t) (iblk m c 2 t) :=
    hD.symm.trans ((readCov_whole (s := S128x2048) _ _ _).trans (canon_dvnTiles _ _ _))
  clear hD
  pointwise [k0_pay92, k0_pay4]

/-- The scale's gradient at a later point: the block's part is added. -/
theorem dlg_B (c : Dev nD) (t : Fin cfg0.N) (h : ¬ t.val % 32 = 0) (j : S1x2048.Idx) : (outsAt0 m c t.val t.isLt).2.2.2.1 j
    = (outsAt0 m c (t.val - 1) (lt_of_le_of_lt (Nat.sub_le _ _) t.isLt)).2.2.2.1 j + ∑ r : Fin 128, dvnB (iblk m c 0 t) (iblk m c 1 t) (iblk m c 2 t) (ix2 r (j 1)) * k0_pay12 (iblk m c 0 t) (ix2 r (j 1)) := by
  rw [outsAt0_B m c t h]; frame_out
  generalize hD : View.readCov (Val := Elt Ideal) _ _ _ = D
  obtain rfl : D = dvnB (iblk m c 0 t) (iblk m c 1 t) (iblk m c 2 t) :=
    hD.symm.trans ((readCov_whole (s := S128x2048) _ _ _).trans (canon_dvnTiles _ _ _))
  clear hD
  pointwise [k0_pay92, k0_pay4]

/-- The bias's gradient at the first point: the block's part over zero. -/
theorem dbs_A (c : Dev nD) (t : Fin cfg0.N) (h : t.val % 32 = 0) (j : S128x128.Idx) : (outsAt0 m c t.val t.isLt).2.2.1 j
    = 0 + dbsB (iblk m c 0 t) (iblk m c 1 t) (j 0) (j 1) := by
  rw [outsAt0_A m c t h]; frame_out
  simp only [dbsB, dsvB, Fin.sum_univ_eight]; idx_vars j; open_payloads; pointwise
  simp only [sel_lane, add_assoc, colOf]
  blk_point [] <;> rfl

/-- The bias's gradient at a later point: the block's part is added. -/
theorem dbs_B (c : Dev nD) (t : Fin cfg0.N) (h : ¬ t.val % 32 = 0) (j : S128x128.Idx) : (outsAt0 m c t.val t.isLt).2.2.1 j
    = (outsAt0 m c (t.val - 1) (lt_of_le_of_lt (Nat.sub_le _ _) t.isLt)).2.2.1 j + dbsB (iblk m c 0 t) (iblk m c 1 t) (j 0) (j 1) := by
  rw [outsAt0_B m c t h]; frame_out
  simp only [dbsB, dsvB, Fin.sum_univ_eight]; idx_vars j; open_payloads; pointwise
  simp only [sel_lane, add_assoc, colOf]
  blk_point [] <;> rfl

/-- The weights' gradient at the first point: the block's part over zero. -/
theorem dws_A (c : Dev nD) (t : Fin cfg0.N) (h : t.val % 32 = 0) (j : S8x128x128.Idx) : (outsAt0 m c t.val t.isLt).2.1 j
    = 0 + dwsB (iblk m c 0 t) (iblk m c 1 t) (iblk m c 4 t) (iblk m c 5 t) (j 0) (j 1) (j 2) := by
  rw [outsAt0_A m c t h]; frame_out
  simp (disch := decide) only [↓View.readCov_skip, ↓View.readCov_fill]
  refine (canon_drop _ _ [_, _, _, _, _, _, _, _] (View.cover_of_tiledBy _ ![1, 128, 128] (by sl_kernel_rfl) _)).trans ?_
  canon_tiles x hx
  all_goals (simp only [dwsB, dsvB, colOf]; open_payloads; pointwise; blk_point [] <;> first | exact hx1.symm | exact hx2.symm)

/-- The weights' gradient at a later point: the block's part is added. -/
theorem dws_B (c : Dev nD) (t : Fin cfg0.N) (h : ¬ t.val % 32 = 0) (j : S8x128x128.Idx) : (outsAt0 m c t.val t.isLt).2.1 j
    = (outsAt0 m c (t.val - 1) (lt_of_le_of_lt (Nat.sub_le _ _) t.isLt)).2.1 j + dwsB (iblk m c 0 t) (iblk m c 1 t) (iblk m c 4 t) (iblk m c 5 t) (j 0) (j 1) (j 2) := by
  rw [outsAt0_B m c t h]; frame_out
  generalize (outsAt0 m c (t.val - 1) _).2.1 = X
  canon_tiles x hx
  all_goals (simp only [dwsB, dsvB, colOf]; open_payloads; pointwise; blk_point [] <;> first | exact hx1.symm | exact hx2.symm)

/-- The pre-activation's gradient of one block. -/
theorem dzp_A (c : Dev nD) (t : Fin cfg0.N) (h : t.val % 32 = 0) (j : S128x4096.Idx) : (outsAt0 m c t.val t.isLt).1 j
    = if hj : (j 1 : ℕ) < 2048 then dzuB (iblk m c 0 t) (iblk m c 1 t) (iblk m c 2 t) (iblk m c 3 t) (iblk m c 4 t) (iblk m c 5 t) (j 0) ⟨j 1, hj⟩
      else dzvB (iblk m c 0 t) (iblk m c 1 t) (iblk m c 2 t) (iblk m c 4 t) (j 0) ⟨(j 1 : ℕ) - 2048, by have := (j 1).isLt; simp at this; omega⟩ := by
  rw [outsAt0_A m c t h]; frame_out
  generalize hD : View.readCov (Val := Elt Ideal) _ _ _ = D
  obtain rfl : D = dvnB (iblk m c 0 t) (iblk m c 1 t) (iblk m c 2 t) :=
    hD.symm.trans ((readCov_whole (s := S128x2048) _ _ _).trans (canon_dvnTiles _ _ _))
  clear hD
  canon_tiles x hx using View.cover_of_tiledBy _ ![128, 256] (by sl_kernel_rfl) _
  case piece0 =>
    rw [dif_neg (by omega)]
    simp only [dzvB, dvhB, hi]; open_payloads; pointwise; blk_point []
    all_goals first | exact hx0.symm | exact congrArg grp (Fin.ext (by simp only []; omega))
  all_goals (rw [dif_pos (by omega)]; simp only [dzuB, wB, grp, lo]; open_payloads; pointwise; blk_point [] <;> exact hx0.symm)

/-- The pre-activation's gradient of one block. -/
theorem dzp_B (c : Dev nD) (t : Fin cfg0.N) (h : ¬ t.val % 32 = 0) (j : S128x4096.Idx) : (outsAt0 m c t.val t.isLt).1 j
    = if hj : (j 1 : ℕ) < 2048 then dzuB (iblk m c 0 t) (iblk m c 1 t) (iblk m c 2 t) (iblk m c 3 t) (iblk m c 4 t) (iblk m c 5 t) (j 0) ⟨j 1, hj⟩
      else dzvB (iblk m c 0 t) (iblk m c 1 t) (iblk m c 2 t) (iblk m c 4 t) (j 0) ⟨(j 1 : ℕ) - 2048, by have := (j 1).isLt; simp at this; omega⟩ := by
  rw [outsAt0_B m c t h]; frame_out
  generalize hD : View.readCov (Val := Elt Ideal) _ _ _ = D
  obtain rfl : D = dvnB (iblk m c 0 t) (iblk m c 1 t) (iblk m c 2 t) :=
    hD.symm.trans ((readCov_whole (s := S128x2048) _ _ _).trans (canon_dvnTiles _ _ _))
  clear hD
  canon_tiles x hx using View.cover_of_tiledBy _ ![128, 256] (by sl_kernel_rfl) _
  case piece0 =>
    rw [dif_neg (by omega)]
    simp only [dzvB, dvhB, hi]; open_payloads; pointwise; blk_point []
    all_goals first | exact hx0.symm | exact congrArg grp (Fin.ext (by simp only []; omega))
  all_goals (rw [dif_pos (by omega)]; simp only [dzuB, wB, grp, lo]; open_payloads; pointwise; blk_point [] <;> exact hx0.symm)

end Cert.SguIdeal.Value
-- ==== Proof.SguArray.lean ====
module

public import proofs.«01_k».proof.Proof.SguStep
public import Idealize.ShloMosaic.Lib.Claim

/-! # The five result arrays of the spatial gating unit's gradient

The kernel runs over 32 blocks of 128 rows. One block of the gradient of the unit's input is written at each point;
the other four results are sums over all the points. -/

@[expose] public section

set_option maxRecDepth 16384
noncomputable section
open Idealize.ShloMosaic Idealize.ShloMosaic.TcCoe Idealize.SL.Sem
open Idealize.ShloMosaic.Pipeline (Dat)

namespace Cert.SguIdeal.Value
open Cert.SguIdeal.Gen

/-- Rows `128n … 128n + 127` of the unit's input. -/
def rowsZ (X : FVec Ideal S4096x4096 .bf16) (n : Fin 32) : FVec Ideal S128x4096 .bf16 :=
  fun j => X (ix2 (⟨128 * (n : ℕ) + (j 0 : ℕ), by have := n.isLt; have : (j 0 : ℕ) < 128 := (j 0).isLt; omega⟩ : Fin 4096) (j 1))

/-- Rows `128n … 128n + 127` of the incoming gradient. -/
def rowsD (X : FVec Ideal S4096x2048 .bf16) (n : Fin 32) : FVec Ideal S128x2048 .bf16 :=
  fun j => X (ix2 (⟨128 * (n : ℕ) + (j 0 : ℕ), by have := n.isLt; have : (j 0 : ℕ) < 128 := (j 0).isLt; omega⟩ : Fin 4096) (j 1))

/-- The spatial bias, one column for each group. -/
def biasCol (b : FVec Ideal S8x128 .f32) : FVec Ideal S8x128x1 .f32 := fun j => b (ix2 (j 0) (j 1))

/-- A scale or shift of the normalisation as a single row. -/
def rowVec (g : FVec Ideal S2048 .f32) : FVec Ideal S1x2048 .f32 := fun j => g (ix1 (j 1))

/-- The block each window reads at a grid point. -/
theorem idx : ∀ t : Fin cfg0.N, win0_0.index t = ![t.val, 0] ∧ win0_1.index t = ![t.val, 0]
    ∧ win0_2.index t = ![0, 0, 0] ∧ win0_3.index t = ![0, 0, 0] ∧ win0_4.index t = ![0, 0] ∧ win0_5.index t = ![0, 0]
    ∧ win0_6.index t = ![t.val, 0] ∧ win0_7.index t = ![0, 0, 0] ∧ win0_8.index t = ![0, 0] ∧ win0_9.index t = ![0, 0]
    ∧ win0_10.index t = ![0, 0] :=
  (by decide +kernel : ∀ t : Fin grid0.N, _)

variable (m : (ℓ : Loc nD τ sig) → Buf (Elt Ideal) ℓ)

/-- A grid point as the number of its block of rows. -/
def blkOf (t : Fin cfg0.N) : Fin 32 := ⟨t.val, t.isLt⟩

theorem iblk0 (c : Dev nD) (t : Fin cfg0.N) :
    iblk m c 0 t = rowsZ (m ((c : Thread nD τ).loc main_arg0)) (blkOf t) := by
  funext j
  simp only [rowsZ, blkOf]
  blk_point [iblk, V, idx t]

theorem iblk1 (c : Dev nD) (t : Fin cfg0.N) :
    iblk m c 1 t = rowsD (m ((c : Thread nD τ).loc main_arg1)) (blkOf t) := by
  funext j
  simp only [rowsD, blkOf]
  blk_point [iblk, V, idx t]

theorem iblk2 (c : Dev nD) (t : Fin cfg0.N) :
    iblk m c 2 t = m ((c : Thread nD τ).loc main_arg2) := by
  funext j
  blk_point [iblk, V, idx t]

theorem biasCol_cast (b : FVec Ideal S8x128 .f32) : shapeCast S8x128x1 b shapeCasts_S8x128_S8x128x1 = biasCol b := by
  funext j
  simp only [biasCol]
  pointwise

theorem rowVec_cast (b : FVec Ideal S2048 .f32) : shapeCast S1x2048 b shapeCasts_S2048_S1x2048 = rowVec b := by
  funext j
  simp only [rowVec]
  pointwise

/-- The spatial bias as the kernel is given it: one column for each group. -/
theorem V_v0 (c : Dev nD) : V m c main_v0 = biasCol (m ((c : Thread nD τ).loc main_arg3)) := by
  entry_read
  exact biasCol_cast _

theorem iblk3 (c : Dev nD) (t : Fin cfg0.N) :
    iblk m c 3 t = biasCol (m ((c : Thread nD τ).loc main_arg3)) := by
  rw [← V_v0]
  funext j
  blk_point [iblk, idx t]

/-- The scale as the kernel is given it: a single row. -/
theorem V_v1 (c : Dev nD) : V m c main_v1 = rowVec (m ((c : Thread nD τ).loc main_arg4)) := by
  entry_read
  exact rowVec_cast _

theorem iblk4 (c : Dev nD) (t : Fin cfg0.N) :
    iblk m c 4 t = rowVec (m ((c : Thread nD τ).loc main_arg4)) := by
  rw [← V_v1]
  funext j
  blk_point [iblk, idx t]

/-- The shift as the kernel is given it: a single row. -/
theorem V_v2 (c : Dev nD) : V m c main_v2 = rowVec (m ((c : Thread nD τ).loc main_arg5)) := by
  entry_read
  exact rowVec_cast _

theorem iblk5 (c : Dev nD) (t : Fin cfg0.N) :
    iblk m c 5 t = rowVec (m ((c : Thread nD τ).loc main_arg5)) := by
  rw [← V_v2]
  funext j
  blk_point [iblk, idx t]

/-- The gradient of the spatial weights. -/
theorem array7 (c : Dev nD) : (dats m 0 c).arrAt 7 cfg0.N = fun j : S8x128x128.Idx => ∑ n : Fin 32,
    dwsB (rowsZ (m ((c : Thread nD τ).loc main_arg0)) n)
      (rowsD (m ((c : Thread nD τ).loc main_arg1)) n)
      (rowVec (m ((c : Thread nD τ).loc main_arg4)))
      (rowVec (m ((c : Thread nD τ).loc main_arg5))) (j 0) (j 1) (j 2) := by
  refine (dats m 0 c).arrAt_eq_of_covers 7 _ (by decide +kernel) fun t hf y => ?_
  have hmod := (flush0_7 t).mp hf
  blk_simp [idx t]
  rw [after0_7, Pipeline.eq_sum_fin_of_reset_step_apply_of_flush (fun n h => (outsAt0 m c n h).2.1) 32 (fun _ => 0) _
    (fun t h j => dws_A m c t h j) (fun t h j => dws_B m c t h j) t hmod _, zero_add]
  refine Fin.sum_fin_congr fun s => ?_
  rw [iblk0, iblk1, iblk4, iblk5]
  have hs : blkOf (⟨32 * (t.val / 32) + s.val, Pipeline.run_point_lt_of_flush t hmod s⟩ : Fin cfg0.N) = s :=
    Fin.ext (by have := lt_of_lt_of_eq t.isLt N_0; simp only [blkOf]; omega)
  rw [hs]
  congr 1
  all_goals (apply Fin.ext; blk_simp [idx t])

/-- The gradient of the spatial bias, one lane for each group. -/
theorem array8 (c : Dev nD) : (dats m 0 c).arrAt 8 cfg0.N = fun j : S128x128.Idx => ∑ n : Fin 32,
    dbsB (rowsZ (m ((c : Thread nD τ).loc main_arg0)) n) (rowsD (m ((c : Thread nD τ).loc main_arg1)) n) (j 0) (j 1) := by
  refine (dats m 0 c).arrAt_eq_of_covers 8 _ (by decide +kernel) fun t hf y => ?_
  have hmod := (flush0_8 t).mp hf
  blk_simp [idx t]
  rw [after0_8, Pipeline.eq_sum_fin_of_reset_step_apply_of_flush (fun n h => (outsAt0 m c n h).2.2.1) 32 (fun _ => 0) _
    (fun t h j => dbs_A m c t h j) (fun t h j => dbs_B m c t h j) t hmod _, zero_add]
  refine Fin.sum_fin_congr fun s => ?_
  rw [iblk0, iblk1]
  have hs : blkOf (⟨32 * (t.val / 32) + s.val, Pipeline.run_point_lt_of_flush t hmod s⟩ : Fin cfg0.N) = s :=
    Fin.ext (by have := lt_of_lt_of_eq t.isLt N_0; simp only [blkOf]; omega)
  rw [hs]
  congr 1
  all_goals (apply Fin.ext; blk_simp [idx t])

/-- The gradient of the scale. -/
theorem array9 (c : Dev nD) : (dats m 0 c).arrAt 9 cfg0.N = fun j : S1x2048.Idx => ∑ n : Fin 32,
    ∑ r : Fin 128, dvnB (rowsZ (m ((c : Thread nD τ).loc main_arg0)) n) (rowsD (m ((c : Thread nD τ).loc main_arg1)) n) (m ((c : Thread nD τ).loc main_arg2)) (ix2 r (j 1)) * k0_pay12 (rowsZ (m ((c : Thread nD τ).loc main_arg0)) n) (ix2 r (j 1)) := by
  refine (dats m 0 c).arrAt_eq_of_covers 9 _ (by decide +kernel) fun t hf y => ?_
  have hmod := (flush0_9 t).mp hf
  blk_simp [idx t]
  rw [after0_9, Pipeline.eq_sum_fin_of_reset_step_apply_of_flush (fun n h => (outsAt0 m c n h).2.2.2.1) 32 (fun _ => 0) _
    (fun t h j => dlg_A m c t h j) (fun t h j => dlg_B m c t h j) t hmod _, zero_add]
  refine Fin.sum_fin_congr fun s => ?_
  rw [iblk0, iblk1, iblk2]
  have hs : blkOf (⟨32 * (t.val / 32) + s.val, Pipeline.run_point_lt_of_flush t hmod s⟩ : Fin cfg0.N) = s :=
    Fin.ext (by have := lt_of_lt_of_eq t.isLt N_0; simp only [blkOf]; omega)
  rw [hs]
  have he : (win0_9.blk t).view.emb y 1 = y 1 := by apply Fin.ext; blk_simp [idx t]
  rw [he]

/-- The gradient of the shift. -/
theorem array10 (c : Dev nD) : (dats m 0 c).arrAt 10 cfg0.N = fun j : S1x2048.Idx => ∑ n : Fin 32,
    ∑ r : Fin 128, dvnB (rowsZ (m ((c : Thread nD τ).loc main_arg0)) n) (rowsD (m ((c : Thread nD τ).loc main_arg1)) n) (m ((c : Thread nD τ).loc main_arg2)) (ix2 r (j 1)) := by
  refine (dats m 0 c).arrAt_eq_of_covers 10 _ (by decide +kernel) fun t hf y => ?_
  have hmod := (flush0_10 t).mp hf
  blk_simp [idx t]
  rw [after0_10, Pipeline.eq_sum_fin_of_reset_step_apply_of_flush (fun n h => (outsAt0 m c n h).2.2.2.2) 32 (fun _ => 0) _
    (fun t h j => dlb_A m c t h j) (fun t h j => dlb_B m c t h j) t hmod _, zero_add]
  refine Fin.sum_fin_congr fun s => ?_
  rw [iblk0, iblk1, iblk2]
  have hs : blkOf (⟨32 * (t.val / 32) + s.val, Pipeline.run_point_lt_of_flush t hmod s⟩ : Fin cfg0.N) = s :=
    Fin.ext (by have := lt_of_lt_of_eq t.isLt N_0; simp only [blkOf]; omega)
  rw [hs]
  have he : (win0_10.blk t).view.emb y 1 = y 1 := by apply Fin.ext; blk_simp [idx t]
  rw [he]

/-- The gradient of the unit's input at row `i`, column `e`: the left half from the gate, the right half from the
normalisation. -/
def dzpOf (x0 : FVec Ideal S4096x4096 .bf16) (x1 : FVec Ideal S4096x2048 .bf16) (x2 : FVec Ideal S8x128x128 .f32)
    (x3 : FVec Ideal S8x128 .f32) (x4 x5 : FVec Ideal S2048 .f32) (n : Fin 32) (r : Fin 128) (e : Fin 4096) : EReal :=
  if he : (e : ℕ) < 2048 then dzuB (rowsZ x0 n) (rowsD x1 n) x2 (biasCol x3) (rowVec x4) (rowVec x5) r ⟨e, he⟩
  else dzvB (rowsZ x0 n) (rowsD x1 n) x2 (rowVec x4) r ⟨(e : ℕ) - 2048, by have := e.isLt; omega⟩

/-- The block of rows that a row lies in. -/
def blkRow (i : Fin 4096) : Fin 32 := ⟨(i : ℕ) / 128, by have := i.isLt; omega⟩

/-- A row's place in its block. -/
def inRow (i : Fin 4096) : Fin 128 := ⟨(i : ℕ) % 128, by omega⟩

theorem row_split (i : Fin 4096) (n : Fin 32) (r : Fin 128) (h : (i : ℕ) = (n : ℕ) * 128 + (r : ℕ)) :
    blkRow i = n ∧ inRow i = r := by
  have hr := r.isLt
  exact ⟨Fin.ext (by simp only [blkRow]; omega), Fin.ext (by simp only [inRow]; omega)⟩

/-- The gradient of the unit's input. -/
theorem array6 (c : Dev nD) : (dats m 0 c).arrAt 6 cfg0.N = fun j : S4096x4096.Idx =>
    dzpOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (blkRow (j 0)) (inRow (j 0)) (j 1) := by
  refine (dats m 0 c).arrAt_eq_of_covers 6 _ (by decide +kernel) fun t hf y => ?_
  blk_simp [idx t]
  have h0 : (((win0_6.blk t).view.emb y 0 : Fin 4096) : ℕ) = t.val * 128 + (y 0 : ℕ) := by blk_simp [idx t]
  have h1 : (win0_6.blk t).view.emb y 1 = y 1 := by apply Fin.ext; blk_simp [idx t]
  obtain ⟨hb, hr⟩ := row_split _ (blkOf t) (y 0) h0
  rw [after0_6, hb, hr, h1]
  unfold dzpOf
  rw [← iblk0, ← iblk1, ← iblk2 m c t, ← iblk3 m c t, ← iblk4 m c t, ← iblk5 m c t]
  by_cases h : t.val % 32 = 0
  · exact dzp_A m c t h y
  · exact dzp_B m c t h y

end Cert.SguIdeal.Value
-- ==== Proof.SguForward.lean ====
module

public import proofs.«01_k».proof.Proof.SguArray
public import proofs.«01_k».proof.Proof.Gen.SguRefIdeal.Read

/-! # The forward values both programs compute

The kernel's values of a block of rows, and the reference's values of the whole array, before any gradient: the
activation, its two halves, the normalised half, the masked spatial weights and the gate. No finiteness is used. -/

@[expose] public section

set_option maxRecDepth 16384
noncomputable section
open Idealize.ShloMosaic Idealize.ShloMosaic.TcCoe Idealize.SL.Sem

namespace Cert.SguIdeal.Value
open Cert.SguIdeal.Gen

/-! ## Constants -/

theorem word_half : Ideal.ofBits .f32 0x3F000000#32 = ((1 / 2 : ℝ) : EReal) := by
  simp [Ideal.ofBits, Ideal.ieee, -EReal.coe_mul]; norm_num
theorem word_neg_half : Ideal.ofBits .f32 0xBF000000#32 = ((-(1 / 2) : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_one : Ideal.ofBits .f32 0x3F800000#32 = 1 := Ideal.ofBits_one_f32
theorem word_neg_one : Ideal.ofBits .f32 0xBF800000#32 = ((-1 : ℝ) : EReal) := by
  simp [Ideal.ofBits, Ideal.ieee, -EReal.coe_mul]; norm_num
theorem word_width : Ideal.ofBits .f32 0x45000000#32 = ((2048 : ℝ) : EReal) := by
  simp [Ideal.ofBits, Ideal.ieee, -EReal.coe_mul]; norm_num
theorem word_eps : ∃ ε : ℝ, 0 < ε ∧ Ideal.ofBits .f32 0x3727C5AC#32 = (ε : EReal) := by
  refine ⟨_, ?_, by simp [Ideal.ofBits, Ideal.ieee, -EReal.coe_mul]; rfl⟩
  norm_num

/-- One over the root of two, as the kernel names it. -/
theorem sqrt_half_eq : (Named.named (F := Ideal) Cert.SguIdeal.κ "sqrt_half" (φ := .f32) 0x3F3504F3#32 : EReal)
    = (((Real.sqrt 2)⁻¹ : ℝ) : EReal) := rfl
theorem inv_sqrt_2pi_eq : (Named.named (F := Ideal) Cert.SguIdeal.κ "inv_sqrt_2pi" (φ := .f32) 0x3ECC422A#32 : EReal)
    = (((Real.sqrt (2 * Real.pi))⁻¹ : ℝ) : EReal) := rfl

/-- The reference's quotient by the root of two is the kernel's product. -/
theorem div_sqrt_two (x : EReal) : Ideal.div x (Ideal.sqrt (Ideal.ofBits .f32 0x40000000#32)) = x * (((Real.sqrt 2)⁻¹ : ℝ) : EReal) := by
  rw [word_two, Ideal.sqrt_coe, if_neg (by norm_num), Ideal.div_coe (by positivity), one_div]

/-! ## The kernel's values at an index -/

section
variable (Z : FVec Ideal S128x4096 .bf16)

theorem pay8_at (r : Fin 128) (e : Fin 4096) : k0_pay8 (F := Ideal) Z (ix2 r e) =
    Ideal.ofBits .f32 0x3F000000#32 * Z (ix2 r e) * (1 + Ideal.erf (Z (ix2 r e) * (((Real.sqrt 2)⁻¹ : ℝ) : EReal))) := by
  pointwise [k0_pay8, k0_pay6]
  rw [sqrt_half_eq]
  rfl

theorem pay9_at (r : Fin 128) (e : Fin 2048) :
    k0_pay9 (F := Ideal) Z (ix2 r e) = k0_pay8 (F := Ideal) Z (ix2 r (lo e)) := by
  pointwise [k0_pay9]
  rfl

theorem pay10_at (r : Fin 128) (e : Fin 2048) : k0_pay10 (F := Ideal) Z (ix2 r e) = k0_pay8 (F := Ideal) Z (ix2 r (hi e))
    - Ideal.div (∑ k : Fin 2048, k0_pay8 (F := Ideal) Z (ix2 r (hi k))) (Ideal.ofBits .f32 0x45000000#32) := by
  pointwise [k0_pay10]
  rfl

theorem pay11_at (r : Fin 128) (e : Fin 1) : k0_pay11 (F := Ideal) Z (ix2 r e) = Ideal.rsqrt
    (Ideal.div (∑ k : Fin 2048, k0_pay10 (F := Ideal) Z (ix2 r k) * k0_pay10 (F := Ideal) Z (ix2 r k)) (Ideal.ofBits .f32 0x45000000#32)
      + Ideal.ofBits .f32 0x3727C5AC#32) := by
  pointwise [k0_pay11]

theorem pay12_at (r : Fin 128) (e : Fin 2048) :
    k0_pay12 (F := Ideal) Z (ix2 r e) = k0_pay10 (F := Ideal) Z (ix2 r e) * k0_pay11 (F := Ideal) Z (ix2 r 0) := by
  pointwise [k0_pay12]

theorem pay13_at (g b : FVec Ideal S1x2048 .f32) (r : Fin 128) (e : Fin 2048) :
    k0_pay13 (F := Ideal) Z g b (ix2 r e) = k0_pay12 (F := Ideal) Z (ix2 r e) * g (ix2 0 e) + b (ix2 0 e) := by
  pointwise [k0_pay13, k0_pay7]

theorem pay15_at (r : Fin 128) (e : Fin 4096) : k0_pay15 (F := Ideal) (k0_pay6 Z) (k0_pay14 Z) (ix2 r e) =
    Ideal.ofBits .f32 0x3F000000#32 * (1 + Ideal.erf (Z (ix2 r e) * (((Real.sqrt 2)⁻¹ : ℝ) : EReal)))
      + Z (ix2 r e) * ((((Real.sqrt (2 * Real.pi))⁻¹ : ℝ) : EReal)
          * Ideal.exp (Ideal.ofBits .f32 0xBF000000#32 * Z (ix2 r e) * Z (ix2 r e))) := by
  pointwise [k0_pay15, k0_pay6, k0_pay14]
  rw [sqrt_half_eq, inv_sqrt_2pi_eq]
  rfl

end

theorem rowsZ_at (x0 : FVec Ideal S4096x4096 .bf16) (i e : Fin 4096) : rowsZ x0 (blkRow i) (ix2 (inRow i) e) = x0 (ix2 i e) := by
  simp only [rowsZ, blkRow, inRow]
  refine congrArg x0 (congrArg (fun k => ix2 k e) (Fin.ext ?_))
  show 128 * ((i : ℕ) / 128) + (i : ℕ) % 128 = i
  omega

theorem rowsD_at (x1 : FVec Ideal S4096x2048 .bf16) (i : Fin 4096) (e : Fin 2048) :
    rowsD x1 (blkRow i) (ix2 (inRow i) e) = x1 (ix2 i e) := by
  simp only [rowsD, blkRow, inRow]
  refine congrArg x1 (congrArg (fun k => ix2 k e) (Fin.ext ?_))
  show 128 * ((i : ℕ) / 128) + (i : ℕ) % 128 = i
  omega

end Cert.SguIdeal.Value

/-! ## The reference's values -/

namespace Cert.SguRefIdeal.Value
open Cert.SguIdeal.Value Cert.SguRefIdeal.Read Cert.SguIdeal.Gen

section
variable (x0 : FVec Ideal S4096x4096 .bf16) (x4 x5 : FVec Ideal S2048 .f32) (i : Fin 4096)

/-- A row of the reference is that row of its block. -/
theorem ref_z (e : Fin 4096) :
    val_main_v17 (F := Ideal) x0 (ix2 i e) = k0_pay8 (F := Ideal) (rowsZ x0 (blkRow i)) (ix2 (inRow i) e) := by
  rw [pay8_at, rowsZ_at, val_main_v17_apply, val_main_v2_apply, val_main_v16_apply, val_main_v15_apply, val_main_v9_apply,
    val_main_v1_apply, val_main_v5_apply, val_main_v4_apply, val_main_v3_apply, val_main_v0_apply, ← div_sqrt_two, ← word_one]
  rfl

theorem ref_u (e : Fin 2048) :
    val_main_v18 (F := Ideal) x0 (ix2 i e) = k0_pay9 (F := Ideal) (rowsZ x0 (blkRow i)) (ix2 (inRow i) e) := by
  rw [pay9_at, ← ref_z, val_main_v18_apply]
  exact congrArg _ (by funext a; fin_cases a <;> rfl)

theorem ref_v (e : Fin 2048) :
    val_main_v19 (F := Ideal) x0 (ix2 i e) = k0_pay8 (F := Ideal) (rowsZ x0 (blkRow i)) (ix2 (inRow i) (hi e)) := by
  rw [← ref_z, val_main_v19_apply]
  exact congrArg _ (by funext a; fin_cases a <;> rfl)

theorem ref_mean : val_main_v23 (F := Ideal) x0 (ix2 i 0) =
    Ideal.div (∑ k : Fin 2048, k0_pay8 (F := Ideal) (rowsZ x0 (blkRow i)) (ix2 (inRow i) (hi k))) (Ideal.ofBits .f32 0x45000000#32) := by
  rw [val_main_v23_apply, val_main_v21_apply, val_main_v20_apply, val_main_v22_apply, val_main_cst_4_apply, val_main_cst_5_apply]
  show Ideal.div (Ideal.ofBits .f32 0x00000000#32 + _) (Ideal.ofBits .f32 0x45000000#32) = _
  rw [Ideal.ofBits_zero_f32, zero_add]
  refine congrArg (Ideal.div · _) (Fin.sum_fin_congr fun k => ?_)
  rw [← ref_v]
  exact congrArg _ (by funext a; fin_cases a <;> rfl)

/-- The right half less its mean (the reference computes it twice). -/
theorem ref_centred (e : Fin 2048) :
    val_main_v25 (F := Ideal) x0 (ix2 i e) = k0_pay10 (F := Ideal) (rowsZ x0 (blkRow i)) (ix2 (inRow i) e) := by
  rw [pay10_at, ← ref_mean, ← ref_v, val_main_v25_apply, val_main_v24_apply]
  exact congrArg (fun q => val_main_v19 (F := Ideal) x0 (ix2 i e) - val_main_v23 (F := Ideal) x0 q) (by funext a; fin_cases a <;> rfl)

theorem ref_centred' (e : Fin 2048) :
    val_main_v34 (F := Ideal) x0 (ix2 i e) = k0_pay10 (F := Ideal) (rowsZ x0 (blkRow i)) (ix2 (inRow i) e) := by
  rw [pay10_at, ← ref_mean, ← ref_v, val_main_v34_apply, val_main_v33_apply]
  exact congrArg (fun q => val_main_v19 (F := Ideal) x0 (ix2 i e) - val_main_v23 (F := Ideal) x0 q) (by funext a; fin_cases a <;> rfl)

/-- The variance with the small constant added. -/
theorem ref_var : val_main_v36 (F := Ideal) x0 (ix2 i 0) =
    Ideal.div (∑ k : Fin 2048, k0_pay10 (F := Ideal) (rowsZ x0 (blkRow i)) (ix2 (inRow i) k)
        * k0_pay10 (F := Ideal) (rowsZ x0 (blkRow i)) (ix2 (inRow i) k)) (Ideal.ofBits .f32 0x45000000#32)
      + Ideal.ofBits .f32 0x3727C5AC#32 := by
  rw [val_main_v36_apply, val_main_v32_apply, val_main_v30_apply, val_main_v29_apply, val_main_v31_apply, val_main_v35_apply,
    val_main_cst_7_apply, val_main_cst_8_apply, val_main_cst_9_apply]
  show Ideal.div (Ideal.ofBits .f32 0x00000000#32 + _) (Ideal.ofBits .f32 0x45000000#32) + Ideal.ofBits .f32 0x3727C5AC#32 = _
  rw [Ideal.ofBits_zero_f32, zero_add]
  refine congrArg (fun q => Ideal.div q _ + _) (Fin.sum_fin_congr fun k => ?_)
  rw [← ref_centred, val_main_v26_apply]
  exact congrArg (fun q => val_main_v25 (F := Ideal) x0 q * val_main_v25 (F := Ideal) x0 q) (by funext a; fin_cases a <;> rfl)

theorem ref_rstd : val_main_v37 (F := Ideal) x0 (ix2 i 0) = k0_pay11 (F := Ideal) (rowsZ x0 (blkRow i)) (ix2 (inRow i) 0) := by
  rw [pay11_at, ← ref_var, val_main_v37_apply]
  rfl

theorem ref_vhat (e : Fin 2048) :
    val_main_v42 (F := Ideal) x0 (ix2 i e) = k0_pay12 (F := Ideal) (rowsZ x0 (blkRow i)) (ix2 (inRow i) e) := by
  rw [pay12_at, ← ref_rstd, ← ref_centred', val_main_v42_apply, val_main_v41_apply]
  exact congrArg (fun q => val_main_v34 (F := Ideal) x0 (ix2 i e) * val_main_v37 (F := Ideal) x0 q) (by funext a; fin_cases a <;> rfl)

theorem ref_vn (e : Fin 2048) : val_main_v48 (F := Ideal) x0 x4 x5 (ix2 i e) =
    k0_pay13 (F := Ideal) (rowsZ x0 (blkRow i)) (rowVec x4) (rowVec x5) (ix2 (inRow i) e) := by
  rw [pay13_at, ← ref_vhat, val_main_v48_apply, val_main_v45_apply, val_main_v44_apply, val_main_v43_apply, val_main_v47_apply,
    val_main_v46_apply]
  exact congrArg₂ (fun p q => val_main_v42 (F := Ideal) x0 (ix2 i e) * x4 p + x5 q)
    (by funext a; fin_cases a; rfl) (by funext a; fin_cases a; rfl)

end

/-! ## Rows by block, columns by group -/

/-- Row `s` of block `n`. -/
def rowOf (n : Fin 32) (s : Fin 128) : Fin 4096 := ⟨128 * (n : ℕ) + s, by have := n.isLt; have := s.isLt; omega⟩

theorem blkRow_rowOf (n : Fin 32) (s : Fin 128) : blkRow (rowOf n s) = n :=
  Fin.ext (by have := s.isLt; simp only [blkRow, rowOf]; omega)
theorem inRow_rowOf (n : Fin 32) (s : Fin 128) : inRow (rowOf n s) = s :=
  Fin.ext (by have := s.isLt; simp only [inRow, rowOf]; omega)

/-- A column's place in its group. -/
def inCol (e : Fin 2048) : Fin 256 := ⟨(e : ℕ) % 256, by omega⟩

theorem colOf_grp (e : Fin 2048) : colOf (grp e) (inCol e) = e :=
  Fin.ext (by simp only [colOf, grp, inCol]; omega)
theorem grp_colOf (g : Fin 8) (k : Fin 256) : grp (colOf g k) = g :=
  Fin.ext (by have := k.isLt; simp only [colOf, grp]; omega)

section
variable (x0 : FVec Ideal S4096x4096 .bf16) (x1 : FVec Ideal S4096x2048 .bf16) (x2 : FVec Ideal S8x128x128 .f32)
  (x3 : FVec Ideal S8x128 .f32) (x4 x5 : FVec Ideal S2048 .f32)

theorem ref_vn4 (n : Fin 32) (s : Fin 128) (g : Fin 8) (k : Fin 256) : val_main_v49 (F := Ideal) x0 x4 x5 (ix4 n s g k) =
    k0_pay13 (F := Ideal) (rowsZ x0 n) (rowVec x4) (rowVec x5) (ix2 s (colOf g k)) := by
  have h := ref_vn x0 x4 x5 (rowOf n s) (colOf g k)
  rw [blkRow_rowOf, inRow_rowOf] at h
  rw [← h, val_main_v49_apply]
  refine congrArg _ ?_
  have := n.isLt; have := s.isLt; have := g.isLt; have := k.isLt
  funext a
  fin_cases a
  · refine Fin.ext ?_
    show ((((n : ℕ) * 128 + s) * 8 + g) * 256 + k) / 2048 = 128 * n + s
    omega
  · refine Fin.ext ?_
    show ((((n : ℕ) * 128 + s) * 8 + g) * 256 + k) % 2048 = (g : ℕ) * 256 + k
    omega

/-- The reference's triangle of ones. -/
theorem ref_tril (t s : Fin 128) : val_main_v51 (F := Ideal) (ix2 t s) = if (s : ℕ) ≤ t then 1 else 0 := by
  rw [val_main_v51_apply, val_main_call0_v4_apply, val_main_call0_v2_apply, val_main_call0_v0_apply, val_main_call0_v1_apply,
    val_main_call0_c_apply, val_main_call0_v3_apply, val_main_v50_apply, val_main_cst_11_apply, val_main_call0_v5_apply,
    val_main_call0_cst_apply]
  show Scalar.select (IntOp.cmpi .sge (IntOp.addi (BitVec.ofNat 32 t) 0#32) (BitVec.ofNat 32 s)) (Ideal.ofBits .f32 0x3F800000#32)
    (Ideal.ofBits .f32 0x00000000#32) = _
  rw [Ideal.ofBits_zero_f32, Ideal.ofBits_one_f32]
  have e : (BitVec.ofNat 32 (s : ℕ)).sle (BitVec.ofNat 32 (t : ℕ)) = decide ((s : ℕ) ≤ t) :=
    (by decide +kernel : ∀ t s : Fin 128, (BitVec.ofNat 32 (s : ℕ)).sle (BitVec.ofNat 32 (t : ℕ)) = decide ((s : ℕ) ≤ t)) t s
  by_cases h : (s : ℕ) ≤ t
  · simp [Scalar.select, IntOp.cmpi, IntOp.addi, e, h]
  · simp [Scalar.select, IntOp.cmpi, IntOp.addi, e, h]

theorem ref_w (g : Fin 8) (t s : Fin 128) : val_main_v54 (F := Ideal) x2 (ix3 g t s) = wB x2 g t s := by
  have h : val_main_v54 (F := Ideal) x2 (ix3 g t s) = x2 (ix3 g t s) * val_main_v51 (F := Ideal) (ix2 t s) := by
    rw [val_main_v54_apply, val_main_v53_apply, val_main_v52_apply]
    exact congrArg (fun q => x2 (ix3 g t s) * val_main_v51 (F := Ideal) q) (by funext a; fin_cases a <;> rfl)
  rw [h, ref_tril, wB, sel_tril]
  split
  · exact mul_one _
  · exact mul_zero _

/-- The gate. -/
theorem ref_gate (i : Fin 4096) (e : Fin 2048) : val_main_v61 (F := Ideal) x0 x2 x3 x4 x5 (ix2 i e) =
    (∑ s : Fin 128, wB x2 (grp e) (inRow i) s * k0_pay13 (F := Ideal) (rowsZ x0 (blkRow i)) (rowVec x4) (rowVec x5) (ix2 s e))
      + biasCol x3 (ix3 (grp e) (inRow i) 0) := by
  have h : val_main_v61 (F := Ideal) x0 x2 x3 x4 x5 (ix2 i e) =
      val_main_v60 (F := Ideal) x0 x2 x3 x4 x5 (ix4 (blkRow i) (inRow i) (grp e) (inCol e)) := by
    rw [val_main_v61_apply]
    refine congrArg _ ?_
    have := i.isLt; have := e.isLt
    funext a
    fin_cases a
    · refine Fin.ext ?_
      show ((i : ℕ) * 2048 + e) / 262144 = i / 128
      omega
    · refine Fin.ext ?_
      show ((i : ℕ) * 2048 + e) / 2048 % 128 = i % 128
      omega
    · refine Fin.ext ?_
      show ((i : ℕ) * 2048 + e) / 256 % 8 = e / 256
      omega
    · refine Fin.ext ?_
      show ((i : ℕ) * 2048 + e) % 256 = e % 256
      omega
  rw [h, val_main_v60_apply, val_main_v56_apply, val_main_v55_apply, val_main_v59_apply, val_main_v58_apply, val_main_v57_apply]
  refine congrArg₂ (fun p q : EReal => p + q) (Fin.sum_fin_congr fun s => ?_) (congrArg x3 (by funext a; fin_cases a <;> rfl))
  rw [← ref_w, mul_comm]
  have hv := ref_vn4 x0 x4 x5 (blkRow i) s (grp e) (inCol e)
  rw [colOf_grp] at hv
  rw [← hv]
  exact congrArg₂ (fun p q => val_main_v54 (F := Ideal) x2 p * val_main_v49 (F := Ideal) x0 x4 x5 q)
    (by funext a; fin_cases a <;> rfl) (by funext a; fin_cases a <;> rfl)

/-- The incoming gradient times the left half. -/
theorem ref_dsv (i : Fin 4096) (e : Fin 2048) : val_main_v64 (F := Ideal) x0 x1 (ix2 i e) =
    dsvB (rowsZ x0 (blkRow i)) (rowsD x1 (blkRow i)) (inRow i) e := by
  rw [dsvB, rowsD_at, ← ref_u, mul_comm, val_main_v64_apply]
  rfl

theorem ref_dsv4 (n : Fin 32) (s : Fin 128) (g : Fin 8) (k : Fin 256) : val_main_v66 (F := Ideal) x0 x1 (ix4 n s g k) =
    dsvB (rowsZ x0 n) (rowsD x1 n) s (colOf g k) := by
  have h := ref_dsv x0 x1 (rowOf n s) (colOf g k)
  rw [blkRow_rowOf, inRow_rowOf] at h
  rw [← h, val_main_v66_apply]
  refine congrArg _ ?_
  have := n.isLt; have := s.isLt; have := g.isLt; have := k.isLt
  funext a
  fin_cases a
  · refine Fin.ext ?_
    show ((((n : ℕ) * 128 + s) * 8 + g) * 256 + k) / 2048 = 128 * n + s
    omega
  · refine Fin.ext ?_
    show ((((n : ℕ) * 128 + s) * 8 + g) * 256 + k) % 2048 = (g : ℕ) * 256 + k
    omega

theorem ref_dsvT (g : Fin 8) (n : Fin 32) (k : Fin 256) (t : Fin 128) : val_main_v71 (F := Ideal) x0 x1 (ix4 g n k t) =
    dsvB (rowsZ x0 n) (rowsD x1 n) t (colOf g k) := by
  rw [← ref_dsv4, val_main_v71_apply]
  exact congrArg _ (by funext a; fin_cases a <;> rfl)

/-- The gradient of the normalised half. -/
theorem ref_dvn (i : Fin 4096) (e : Fin 2048) : val_main_v77 (F := Ideal) x0 x1 x2 (ix2 i e) =
    dvnB (rowsZ x0 (blkRow i)) (rowsD x1 (blkRow i)) x2 (ix2 (inRow i) e) := by
  have h : val_main_v77 (F := Ideal) x0 x1 x2 (ix2 i e) =
      val_main_v73 (F := Ideal) x0 x1 x2 (ix4 (grp e) (blkRow i) (inCol e) (inRow i)) := by
    rw [val_main_v77_apply, val_main_v74_apply]
    refine congrArg _ ?_
    have := i.isLt; have := e.isLt
    funext a
    fin_cases a
    · refine Fin.ext ?_
      show ((i : ℕ) * 2048 + e) / 256 % 8 = e / 256
      omega
    · refine Fin.ext ?_
      show ((i : ℕ) * 2048 + e) / 262144 = i / 128
      omega
    · refine Fin.ext ?_
      show ((i : ℕ) * 2048 + e) % 256 = e % 256
      omega
    · refine Fin.ext ?_
      show ((i : ℕ) * 2048 + e) / 2048 % 128 = i % 128
      omega
  rw [h, val_main_v73_apply]
  simp only [dvnB]
  refine Fin.sum_fin_congr fun t => ?_
  have hd := ref_dsvT x0 x1 (grp e) (blkRow i) (inCol e) t
  rw [colOf_grp] at hd
  show _ = wB x2 (grp e) t (inRow i) * dsvB (rowsZ x0 (blkRow i)) (rowsD x1 (blkRow i)) t e
  rw [← ref_w, ← hd, mul_comm]
  exact congrArg₂ (fun p q => val_main_v54 (F := Ideal) x2 p * val_main_v71 (F := Ideal) x0 x1 q)
    (by funext a; fin_cases a <;> rfl) (by funext a; fin_cases a <;> rfl)

end

end Cert.SguRefIdeal.Value
-- ==== Proof.SguSums.lean ====
module

public import proofs.«01_k».proof.Proof.SguForward
public import Idealize.ShloMosaic.Lib.TwoAxisContraction

/-! # The gradients of the parameters

The reference sums over all rows at once, the kernel block by block: the spatial weights, the spatial bias (one lane for
each group), and the gain and bias of the normalisation. No finiteness is used. -/

@[expose] public section

set_option maxRecDepth 16384
noncomputable section
open Idealize.ShloMosaic Idealize.ShloMosaic.TcCoe Idealize.SL.Sem

namespace Cert.SguRefIdeal.Value
open Cert.SguIdeal.Value Cert.SguRefIdeal.Read Cert.SguRefIdeal.Gen

/-- A sum over the rows is the sum over the blocks of the sums over their rows. -/
theorem sum_rows (f : Fin 4096 → EReal) : ∑ i : Fin 4096, f i = ∑ n : Fin 32, ∑ r : Fin 128, f (rowOf n r) := by
  rw [← Finset.sum_product']
  refine Finset.sum_nbij' (fun i => (blkRow i, inRow i)) (fun p => rowOf p.1 p.2) ?_ ?_ ?_ ?_ ?_
  · exact fun _ _ => Finset.mem_product.2 ⟨Finset.mem_univ _, Finset.mem_univ _⟩
  · exact fun _ _ => Finset.mem_univ _
  · exact fun i _ => Fin.ext (by simp only [rowOf, blkRow, inRow]; omega)
  · exact fun p _ => Prod.ext (blkRow_rowOf p.1 p.2) (inRow_rowOf p.1 p.2)
  · exact fun i _ => congrArg f (Fin.ext (by simp only [rowOf, blkRow, inRow]; omega))

/-- A sum over the first and the last of four axes. -/
theorem sum_ends (y : FVec Ideal S32x128x8x256 .f32) (z : FVec Ideal S_ .f32) (i : S128x8.Idx) :
    Host.reduceAdd y z reducesTo_S32x128x8x256_S128x8_d0_3 h_S_ i =
      z (Shape.Idx.first h_S_) + ∑ n : Fin 32, ∑ k : Fin 256, y (ix4 n (i 0) (i 1) k) := by
  show z (Shape.Idx.first h_S_) + (∑ q : S32x128x8x256.Idx with _, _) = _
  refine congrArg (z (Shape.Idx.first h_S_) + ·) ?_
  rw [← Finset.sum_product']
  refine Finset.sum_nbij' (fun q => (q 0, q 3)) (fun p => ix4 p.1 (i 0) (i 1) p.2) ?_ ?_ ?_ ?_ ?_
  · exact fun _ _ => Finset.mem_product.2 ⟨Finset.mem_univ _, Finset.mem_univ _⟩
  · refine fun p _ => Finset.mem_filter.2 ⟨Finset.mem_univ _, ?_⟩
    funext a
    fin_cases a <;> rfl
  · intro q hq
    obtain rfl : _ = i := (Finset.mem_filter.1 hq).2
    funext a
    fin_cases a <;> rfl
  · exact fun _ _ => rfl
  · intro q hq
    obtain rfl : _ = i := (Finset.mem_filter.1 hq).2
    refine congrArg y ?_
    funext a
    fin_cases a <;> rfl

/-- The same sum where both axes have one entry. -/
theorem sum_unit_ends (y : FVec Ideal S1x128x8x1 .f32) (z : FVec Ideal S_ .f32) (i : S128x8.Idx) :
    Host.reduceAdd y z reducesTo_S1x128x8x1_S128x8_d0_3 h_S_ i = z (Shape.Idx.first h_S_) + y (ix4 0 (i 0) (i 1) 0) := by
  show Ideal.hostReduceAdd reducesTo_S1x128x8x1_S128x8_d0_3 y (z (Shape.Idx.first h_S_)) i = _
  unfold Ideal.hostReduceAdd
  refine congrArg (z (Shape.Idx.first h_S_) + ·) ?_
  refine (Finset.sum_eq_single (show S1x128x8x1.Idx from ix4 0 (i 0) (i 1) 0) ?_ ?_)
  · intro q hq hne
    obtain rfl : _ = i := (Finset.mem_filter.1 hq).2
    refine absurd ?_ hne
    funext a
    fin_cases a
    · exact Subsingleton.elim (α := Fin 1) _ _
    · rfl
    · rfl
    · exact Subsingleton.elim (α := Fin 1) _ _
  · intro hq
    refine absurd (Finset.mem_filter.2 ⟨Finset.mem_univ _, ?_⟩) hq
    funext a
    fin_cases a <;> rfl

section
variable (x0 : FVec Ideal S4096x4096 .bf16) (x1 : FVec Ideal S4096x2048 .bf16) (x2 : FVec Ideal S8x128x128 .f32)
  (x3 : FVec Ideal S8x128 .f32) (x4 x5 : FVec Ideal S2048 .f32)

/-! ## The spatial weights -/

/-- The product summed over blocks and columns. -/
theorem ref_outer (g : Fin 8) (t s : Fin 128) : val_main_v72 (F := Ideal) x0 x1 x4 x5 (ix3 g t s) =
    ∑ n : Fin 32, ∑ k : Fin 256, dsvB (rowsZ x0 n) (rowsD x1 n) t (colOf g k)
      * Cert.SguIdeal.Gen.k0_pay13 (F := Ideal) (rowsZ x0 n) (rowVec x4) (rowVec x5) (ix2 s (colOf g k)) := by
  unfold val_main_v72
  have h : ∀ (y : FVec Ideal S8x32x256x128 .f32) (z : FVec Ideal S32x128x8x256 .f32),
      Host.dotGeneral dot_S8x32x256x128_S32x128x8x256_S8x128x128_12_03_3_1_0_2 none y z (ix3 g t s)
        = ∑ n : Fin 32, ∑ k : Fin 256, y (ix4 g n k t) * z (ix4 n s g k) := by
    intro y z
    pointwise
  refine (h _ _).trans (Fin.sum_fin_congr fun n => Fin.sum_fin_congr fun k => ?_)
  rw [ref_dsvT, ref_vn4]

theorem ref_dws (g : Fin 8) (t s : Fin 128) : val_main_v76 (F := Ideal) x0 x1 x4 x5 (ix3 g t s) =
    ∑ n : Fin 32, dwsB (rowsZ x0 n) (rowsD x1 n) (rowVec x4) (rowVec x5) g t s := by
  have h : val_main_v76 (F := Ideal) x0 x1 x4 x5 (ix3 g t s) =
      val_main_v72 (F := Ideal) x0 x1 x4 x5 (ix3 g t s) * val_main_v51 (F := Ideal) (ix2 t s) := by
    rw [val_main_v76_apply, val_main_v75_apply, val_main_v52_apply]
    exact congrArg (fun q => val_main_v72 (F := Ideal) x0 x1 x4 x5 (ix3 g t s) * val_main_v51 (F := Ideal) q)
      (by funext a; fin_cases a <;> rfl)
  rw [h, ref_tril, ref_outer]
  simp only [dwsB, sel_tril]
  by_cases hst : (s : ℕ) ≤ t
  · simp only [if_pos hst]
    exact mul_one _
  · simp only [if_neg hst, Finset.sum_const_zero]
    exact mul_zero _

/-! ## The spatial bias -/

theorem ref_dbs (r : Fin 128) (g : Fin 8) : val_main_v69 (F := Ideal) x0 x1 (ix2 r g) =
    ∑ n : Fin 32, ∑ k : Fin 256, dsvB (rowsZ x0 n) (rowsD x1 n) r (colOf g k) := by
  unfold val_main_v69
  refine (sum_unit_ends _ _ _).trans ?_
  rw [val_main_cst_13_apply]
  show Ideal.ofBits .f32 0x00000000#32 + _ = _
  rw [Ideal.ofBits_zero_f32, zero_add, val_main_v68_apply]
  have hi : idx_main_v68 (ix4 0 (ix2 r g 0) (ix2 r g 1) 0) = ix2 r g := by
    have := r.isLt; have := g.isLt
    funext a
    fin_cases a
    · refine Fin.ext ?_
      show (((0 * 128 + (r : ℕ)) * 8 + g) * 1 + 0) / 8 = r
      omega
    · refine Fin.ext ?_
      show (((0 * 128 + (r : ℕ)) * 8 + g) * 1 + 0) % 8 = g
      omega
  refine (congrArg (val_main_v67 (F := Ideal) x0 x1) hi).trans ?_
  unfold val_main_v67
  refine (sum_ends _ _ _).trans ?_
  rw [val_main_cst_12_apply]
  show Ideal.ofBits .f32 0x00000000#32 + _ = _
  rw [Ideal.ofBits_zero_f32, zero_add]
  exact Fin.sum_fin_congr fun n => Fin.sum_fin_congr fun k => ref_dsv4 x0 x1 n r g k

/-- The padded, transposed bias gradient: lane `g` holds group `g`, the other lanes nothing. -/
theorem ref_dbs_lanes (r lane : Fin 128) : val_main_v121 (F := Ideal) x0 x1 (ix2 r lane) =
    ∑ n : Fin 32, dbsB (rowsZ x0 n) (rowsD x1 n) r lane := by
  have hp : ∀ (y : FVec Ideal S128x8 .f32) (z : FVec Ideal S_ .f32),
      pad S128x128 ![0, 0] ![0, 120] ![0, 0] y z pads_S128x8_S128x128_000_01200 h_S_ (ix2 r lane)
        = if h : (lane : ℕ) < 8 then y (ix2 r ⟨lane, h⟩) else z (Shape.Idx.first h_S_) := by
    intro y z
    pointwise
  have h : val_main_v121 (F := Ideal) x0 x1 (ix2 r lane) = if h : (lane : ℕ) < 8 then val_main_v120 (F := Ideal) x0 x1 (ix2 r ⟨lane, h⟩) else 0 := by
    unfold val_main_v121
    refine (hp _ _).trans ?_
    by_cases hl : (lane : ℕ) < 8
    · rw [dif_pos hl, dif_pos hl]
    · rw [dif_neg hl, dif_neg hl]
      show (((0#32 : BitVec 32).toInt : ℝ) : EReal) = 0
      simp
  rw [h]
  by_cases hl : (lane : ℕ) < 8
  · rw [dif_pos hl]
    have ht : val_main_v120 (F := Ideal) x0 x1 (ix2 r ⟨lane, hl⟩) = val_main_v69 (F := Ideal) x0 x1 (ix2 r ⟨lane, hl⟩) := by
      rw [val_main_v120_apply, val_main_v70_apply]
      exact congrArg _ (by funext a; fin_cases a <;> rfl)
    rw [ht, ref_dbs]
    refine Fin.sum_fin_congr fun n => ?_
    rw [dbsB]
    refine ((Finset.sum_eq_single (⟨lane, hl⟩ : Fin 8) ?_ ?_).trans ?_).symm
    · exact fun g _ hg => if_neg fun e => hg (Fin.ext e.symm)
    · exact fun hm => absurd (Finset.mem_univ _) hm
    · exact if_pos rfl
  · rw [dif_neg hl]
    refine (Finset.sum_eq_zero fun n _ => Finset.sum_eq_zero fun g _ => if_neg fun e => hl ?_).symm
    rw [e]
    exact g.isLt

/-! ## The gain and the bias of the normalisation -/

theorem ref_dlb (e : Fin 2048) : val_main_v80 (F := Ideal) x0 x1 x2 (ix1 e) =
    ∑ n : Fin 32, ∑ r : Fin 128, dvnB (rowsZ x0 n) (rowsD x1 n) x2 (ix2 r e) := by
  rw [val_main_v80_apply, val_main_cst_15_apply]
  show Ideal.ofBits .f32 0x00000000#32 + _ = _
  rw [Ideal.ofBits_zero_f32, zero_add, Fin.sum_univ_one, val_main_v79_apply, val_main_v78_apply, val_main_cst_14_apply]
  show Ideal.ofBits .f32 0x00000000#32 + _ = _
  rw [Ideal.ofBits_zero_f32, zero_add, sum_rows]
  refine Fin.sum_fin_congr fun n => Fin.sum_fin_congr fun r => ?_
  have h := ref_dvn x0 x1 x2 (rowOf n r) e
  rw [blkRow_rowOf, inRow_rowOf] at h
  rw [← h]
  refine congrArg _ ?_
  funext a
  fin_cases a
  · rfl
  · refine Fin.ext ?_
    show 0 * 2048 + (e : ℕ) = e
    omega

theorem ref_dlg (e : Fin 2048) : val_main_v86 (F := Ideal) x0 x1 x2 (ix1 e) =
    ∑ n : Fin 32, ∑ r : Fin 128, dvnB (rowsZ x0 n) (rowsD x1 n) x2 (ix2 r e) * Cert.SguIdeal.Gen.k0_pay12 (F := Ideal) (rowsZ x0 n) (ix2 r e) := by
  rw [val_main_v86_apply, val_main_cst_17_apply]
  show Ideal.ofBits .f32 0x00000000#32 + _ = _
  rw [Ideal.ofBits_zero_f32, zero_add, Fin.sum_univ_one, val_main_v83_apply, val_main_v82_apply, val_main_cst_16_apply]
  show Ideal.ofBits .f32 0x00000000#32 + _ = _
  rw [Ideal.ofBits_zero_f32, zero_add, sum_rows]
  refine Fin.sum_fin_congr fun n => Fin.sum_fin_congr fun r => ?_
  have h := ref_dvn x0 x1 x2 (rowOf n r) e
  have hv := ref_vhat x0 (rowOf n r) e
  rw [blkRow_rowOf, inRow_rowOf] at h hv
  rw [← h, ← hv, mul_comm, val_main_v81_apply]
  refine congrArg (fun q => val_main_v42 (F := Ideal) x0 q * val_main_v77 (F := Ideal) x0 x1 x2 q) ?_
  funext a
  fin_cases a
  · rfl
  · refine Fin.ext ?_
    show 0 * 2048 + (e : ℕ) = e
    omega

end

end Cert.SguRefIdeal.Value
-- ==== Proof.SguReal.lean ====
module

public import proofs.«01_k».proof.Proof.SguSums

/-! # Real arithmetic

Sums, quotients and the row's gradient of the normalisation, on real numbers inside the extended reals. -/

@[expose] public section

set_option maxRecDepth 16384
noncomputable section
open Idealize.ShloMosaic Idealize.ShloMosaic.TcCoe Idealize.SL.Sem

namespace Cert.SguIdeal.Value

/-- An extended real that is a real number. -/
def IsReal (x : EReal) : Prop := ∃ r : ℝ, x = (r : EReal)

theorem coe_sum {n : ℕ} (f : Fin n → ℝ) : ((∑ k, f k : ℝ) : EReal) = ∑ k, (f k : EReal) := by
  induction n with
  | zero => simp
  | succ n ih => rw [Fin.sum_univ_succ, Fin.sum_univ_succ, EReal.coe_add, ih]

theorem div_width (x : ℝ) : Ideal.div (x : EReal) (Ideal.ofBits .f32 0x45000000#32) = ((x / 2048 : ℝ) : EReal) := by
  rw [word_width, Ideal.div_coe (by norm_num), ← EReal.coe_mul]
  congr 1; ring

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.sum {n : ℕ} {f : Fin n → EReal} (h : ∀ k, IsReal (f k)) : IsReal (∑ k, f k) := by
  choose g hg using h
  exact ⟨∑ k, g k, by rw [coe_sum]; exact Finset.sum_congr rfl fun k _ => hg k⟩
theorem IsReal.erf {x : EReal} (hx : IsReal x) : IsReal (Ideal.erf x) := by
  obtain ⟨a, rfl⟩ := hx; exact ⟨_, Ideal.erf_coe a⟩
theorem IsReal.exp {x : EReal} (hx : IsReal x) : IsReal (Ideal.exp x) := by
  obtain ⟨a, rfl⟩ := hx; exact ⟨_, Ideal.exp_coe a⟩
theorem isReal_half : IsReal (Ideal.ofBits .f32 0x3F000000#32) := ⟨_, word_half⟩
theorem isReal_one : IsReal 1 := ⟨1, rfl⟩
theorem isReal_zero : IsReal 0 := ⟨0, rfl⟩

/-- One row of the gradient of the normalisation, as differentiated and as the kernel writes it. Here `v` is the variance
    with its small constant, `xc` the centred row, `d` the incoming gradient times the gain and `w` the row's width. -/
theorem row_gradient {n : ℕ} (w : ℝ) (hw : w ≠ 0) (xc d : Fin n → ℝ) (hxc : ∑ k, xc k = 0) (v : ℝ) (hv : 0 < v) (e : Fin n) :
    (d e * (√v)⁻¹ + ((∑ k, xc k * d k) * (-(1 / 2) * ((√v)⁻¹ / v)) / w) * (2 * xc e))
        + ((∑ k, -(d k * (√v)⁻¹)) + ∑ k, -(((∑ k, xc k * d k) * (-(1 / 2) * ((√v)⁻¹ / v)) / w) * (2 * xc k))) / w
      = (√v)⁻¹ * (d e - (∑ k, d k) / w - xc e * (√v)⁻¹ * ((∑ k, d k * (xc k * (√v)⁻¹)) / w)) := by
  have hs : √v ≠ 0 := (Real.sqrt_pos.2 hv).ne'
  have hq : v = √v * √v := (Real.mul_self_sqrt hv.le).symm
  generalize √v = s at hs hq ⊢
  subst hq
  generalize hS : (∑ k, xc k * d k) = S
  have h1 : (∑ k, -(d k * s⁻¹)) = -((∑ k, d k) * s⁻¹) := by rw [Finset.sum_neg_distrib, Finset.sum_mul]
  have h2 : ∀ c : ℝ, (∑ k, -(c * (2 * xc k))) = 0 := fun c => by
    rw [Finset.sum_neg_distrib, ← Finset.mul_sum, ← Finset.mul_sum, hxc, mul_zero, mul_zero, neg_zero]
  have h3 : (∑ k, d k * (xc k * s⁻¹)) = S * s⁻¹ := by
    rw [← hS, Finset.sum_mul]
    exact Finset.sum_congr rfl fun k _ => by ring
  rw [h1, h2, h3]
  field_simp
  ring

/-- The slope of the activation, as differentiated and as the kernel writes it. -/
theorem slope_const : 2 / √(Real.arccos (-1)) * (√2)⁻¹ * (1 / 2) = (√(2 * Real.pi))⁻¹ := by
  rw [Real.arccos_neg_one, Real.sqrt_mul (by norm_num)]
  ring

end Cert.SguIdeal.Value

namespace Cert.SguRefIdeal.Value
open Cert.SguIdeal.Value Cert.SguRefIdeal.Read Cert.SguRefIdeal.Gen

section
variable (x0 : FVec Ideal S4096x4096 .bf16) (x1 : FVec Ideal S4096x2048 .bf16) (x2 : FVec Ideal S8x128x128 .f32)
  (x3 : FVec Ideal S8x128 .f32) (x4 x5 : FVec Ideal S2048 .f32) (i : Fin 4096)

/-! ## The reference's gradient of the normalisation, one row -/

theorem ref_dvh (e : Fin 2048) : val_main_v85 (F := Ideal) x0 x1 x2 x4 (ix2 i e) =
    dvhB (rowsZ x0 (blkRow i)) (rowsD x1 (blkRow i)) x2 (rowVec x4) (inRow i) e := by
  rw [dvhB, ← ref_dvn, val_main_v85_apply, val_main_v84_apply, val_main_v43_apply]
  exact congrArg (fun q => val_main_v77 (F := Ideal) x0 x1 x2 (ix2 i e) * x4 q) (by funext a; fin_cases a; rfl)

theorem ref_direct (e : Fin 2048) : val_main_v91 (F := Ideal) x0 x1 x2 x4 (ix2 i e) =
    val_main_v85 (F := Ideal) x0 x1 x2 x4 (ix2 i e) * val_main_v37 (F := Ideal) x0 (ix2 i 0) := by
  rw [val_main_v91_apply, val_main_v90_apply]
  exact congrArg (fun q => val_main_v85 (F := Ideal) x0 x1 x2 x4 (ix2 i e) * val_main_v37 (F := Ideal) x0 q) (by funext a; fin_cases a <;> rfl)

theorem ref_corr : val_main_v88 (F := Ideal) x0 x1 x2 x4 (ix1 i) =
    ∑ k : Fin 2048, val_main_v34 (F := Ideal) x0 (ix2 i k) * val_main_v85 (F := Ideal) x0 x1 x2 x4 (ix2 i k) := by
  rw [val_main_v88_apply, val_main_cst_18_apply]
  show Ideal.ofBits .f32 0x00000000#32 + _ = _
  rw [Ideal.ofBits_zero_f32, zero_add]
  refine Fin.sum_fin_congr fun k => ?_
  rw [val_main_v87_apply]
  exact congrArg (fun q => val_main_v34 (F := Ideal) x0 q * val_main_v85 (F := Ideal) x0 x1 x2 x4 q) (by funext a; fin_cases a <;> rfl)

theorem ref_dvar : val_main_v98 (F := Ideal) x0 x1 x2 x4 (ix1 i) =
    Ideal.div (val_main_v88 (F := Ideal) x0 x1 x2 x4 (ix1 i) * (Ideal.ofBits .f32 0xBF000000#32
      * Ideal.div (val_main_v37 (F := Ideal) x0 (ix2 i 0)) (val_main_v36 (F := Ideal) x0 (ix2 i 0)))) (Ideal.ofBits .f32 0x45000000#32) := by
  rw [val_main_v98_apply, val_main_cst_21_apply]
  show Ideal.ofBits .f32 0x00000000#32 + _ = _
  rw [Ideal.ofBits_zero_f32, zero_add, Fin.sum_univ_one]
  have hq : idx_main_v98 (ix1 i) 0 = ix2 i 0 := by funext a; fin_cases a <;> rfl
  rw [hq, val_main_v97_apply, val_main_v92_apply, val_main_v89_apply, val_main_v40_apply, val_main_v39_apply, val_main_v38_apply,
    val_main_v96_apply, val_main_cst_20_apply, val_main_cst_10_apply]
  have hr : idx_main_v89 (ix2 i 0) = ix1 i := by
    funext a; fin_cases a
    refine Fin.ext ?_
    show (i : ℕ) * 1 + 0 = i
    omega
  rw [hr]
  rfl

theorem ref_spread (e : Fin 2048) : val_main_v100 (F := Ideal) x0 x1 x2 x4 (ix2 i e) =
    val_main_v98 (F := Ideal) x0 x1 x2 x4 (ix1 i) * (Ideal.ofBits .f32 0x40000000#32 * val_main_v25 (F := Ideal) x0 (ix2 i e)) := by
  rw [val_main_v100_apply, val_main_v99_apply, val_main_v28_apply, val_main_v27_apply, val_main_cst_6_apply]
  exact congrArg (fun q => val_main_v98 (F := Ideal) x0 x1 x2 x4 q * (Ideal.ofBits .f32 0x40000000#32 * val_main_v25 (F := Ideal) x0 (ix2 i e)))
    (by funext a; fin_cases a; rfl)

theorem ref_neg1 : val_main_v95 (F := Ideal) x0 x1 x2 x4 (ix2 i 0) = ∑ k : Fin 2048, -val_main_v91 (F := Ideal) x0 x1 x2 x4 (ix2 i k) := by
  rw [val_main_v95_apply, val_main_v94_apply, val_main_cst_19_apply]
  show Ideal.ofBits .f32 0x00000000#32 + _ = _
  rw [Ideal.ofBits_zero_f32, zero_add]
  refine Fin.sum_fin_congr fun k => ?_
  rw [val_main_v93_apply]
  refine congrArg (fun q => -val_main_v91 (F := Ideal) x0 x1 x2 x4 q) ?_
  funext a
  fin_cases a
  · refine Fin.ext ?_
    show (i : ℕ) * 1 + 0 = i
    omega
  · rfl

theorem ref_neg2 : val_main_v103 (F := Ideal) x0 x1 x2 x4 (ix2 i 0) = ∑ k : Fin 2048, -val_main_v100 (F := Ideal) x0 x1 x2 x4 (ix2 i k) := by
  rw [val_main_v103_apply, val_main_v102_apply, val_main_cst_22_apply]
  show Ideal.ofBits .f32 0x00000000#32 + _ = _
  rw [Ideal.ofBits_zero_f32, zero_add]
  refine Fin.sum_fin_congr fun k => ?_
  rw [val_main_v101_apply]
  refine congrArg (fun q => -val_main_v100 (F := Ideal) x0 x1 x2 x4 q) ?_
  funext a
  fin_cases a
  · refine Fin.ext ?_
    show (i : ℕ) * 1 + 0 = i
    omega
  · rfl

theorem ref_dmean (e : Fin 2048) : val_main_v109 (F := Ideal) x0 x1 x2 x4 (ix2 i e) =
    Ideal.div ((∑ k : Fin 2048, -val_main_v91 (F := Ideal) x0 x1 x2 x4 (ix2 i k))
      + ∑ k : Fin 2048, -val_main_v100 (F := Ideal) x0 x1 x2 x4 (ix2 i k)) (Ideal.ofBits .f32 0x45000000#32) := by
  rw [← ref_neg1, ← ref_neg2, val_main_v109_apply, val_main_v108_apply, val_main_cst_24_apply]
  show Ideal.ofBits .f32 0x00000000#32 + _ = _
  rw [Ideal.ofBits_zero_f32, zero_add, Fin.sum_univ_one]
  have hq : idx_main_v108 (idx_main_v109 (ix2 i e)) 0 = ix2 i 0 := by funext a; fin_cases a <;> rfl
  rw [hq, val_main_v107_apply, val_main_v105_apply, val_main_v106_apply, val_main_cst_23_apply]
  rfl

theorem ref_dv (e : Fin 2048) : val_main_v110 (F := Ideal) x0 x1 x2 x4 (ix2 i e) =
    val_main_v91 (F := Ideal) x0 x1 x2 x4 (ix2 i e) + val_main_v100 (F := Ideal) x0 x1 x2 x4 (ix2 i e)
      + val_main_v109 (F := Ideal) x0 x1 x2 x4 (ix2 i e) := by
  rw [val_main_v110_apply, val_main_v104_apply]
  rfl

/-! ## The values of a row are real -/

variable (h0 : ∀ j, IsReal (x0 j)) (h1 : ∀ j, IsReal (x1 j)) (h2 : ∀ j, IsReal (x2 j)) (h3 : ∀ j, IsReal (x3 j))
  (h4 : ∀ j, IsReal (x4 j)) (h5 : ∀ j, IsReal (x5 j))

include h0 in
theorem real_act (n : Fin 32) (r : Fin 128) (e : Fin 4096) : IsReal (Cert.SguIdeal.Gen.k0_pay8 (F := Ideal) (rowsZ x0 n) (ix2 r e)) := by
  rw [pay8_at]
  have hz : IsReal (rowsZ x0 n (ix2 r e)) := h0 _
  exact (isReal_half.mul hz).mul (isReal_one.add (hz.mul ⟨_, rfl⟩).erf)

include h0 in
/-- The centred row is real and sums to zero. -/
theorem real_centred (n : Fin 32) (r : Fin 128) : ∃ xc : Fin 2048 → ℝ,
    (∀ e, Cert.SguIdeal.Gen.k0_pay10 (F := Ideal) (rowsZ x0 n) (ix2 r e) = (xc e : EReal)) ∧ ∑ e, xc e = 0 := by
  choose a ha using fun e => real_act x0 h0 n r (hi e)
  refine ⟨fun e => a e - (∑ k, a k) / 2048, fun e => ?_, ?_⟩
  · rw [pay10_at, ha]
    simp only [ha]
    rw [← coe_sum, div_width, ← EReal.coe_sub]
  · rw [Finset.sum_sub_distrib, Finset.sum_const, Finset.card_univ, Fintype.card_fin]
    simp only [nsmul_eq_mul]
    push_cast
    ring

/-- The variance with its constant is real and positive. -/
theorem real_var (xc : Fin 2048 → ℝ) : ∃ v : ℝ, 0 < v ∧
    Ideal.div (∑ k, (xc k : EReal) * (xc k : EReal)) (Ideal.ofBits .f32 0x45000000#32) + Ideal.ofBits .f32 0x3727C5AC#32 = (v : EReal) := by
  obtain ⟨ε, hε, he⟩ := word_eps
  refine ⟨(∑ k, xc k * xc k) / 2048 + ε, add_pos_of_nonneg_of_pos (div_nonneg (Finset.sum_nonneg fun k _ => mul_self_nonneg _) (by norm_num)) hε, ?_⟩
  simp only [← EReal.coe_mul]
  rw [he, ← coe_sum, div_width, ← EReal.coe_add]

theorem rsqrt_pos {v : ℝ} (hv : 0 < v) : Ideal.rsqrt (v : EReal) = (((√v)⁻¹ : ℝ) : EReal) := by
  rw [Ideal.rsqrt_coe, if_neg (not_lt.2 hv.le), if_neg hv.ne']

include h0 in
theorem real_norm (n : Fin 32) (r : Fin 128) (e : Fin 2048) : IsReal (Cert.SguIdeal.Gen.k0_pay12 (F := Ideal) (rowsZ x0 n) (ix2 r e)) := by
  obtain ⟨xc, hxc, -⟩ := real_centred x0 h0 n r
  obtain ⟨v, hv, hev⟩ := real_var xc
  rw [pay12_at, pay11_at]
  simp only [hxc]
  rw [hev, rsqrt_pos hv]
  exact IsReal.mul ⟨_, rfl⟩ ⟨_, rfl⟩

include h2 in
theorem real_weight (g : Fin 8) (t s : Fin 128) : IsReal (wB x2 g t s) := by
  rw [wB, sel_tril]
  split
  · exact h2 _
  · exact isReal_zero

include h0 h1 in
theorem real_dsv (n : Fin 32) (r : Fin 128) (e : Fin 2048) : IsReal (dsvB (rowsZ x0 n) (rowsD x1 n) r e) := by
  rw [dsvB, pay9_at]
  exact IsReal.mul (h1 _) (real_act x0 h0 n r (lo e))

include h0 h1 h2 h4 in
theorem real_dvh (n : Fin 32) (r : Fin 128) (e : Fin 2048) : IsReal (dvhB (rowsZ x0 n) (rowsD x1 n) x2 (rowVec x4) r e) := by
  rw [dvhB]
  refine IsReal.mul ?_ (h4 _)
  simp only [dvnB]
  exact IsReal.sum fun t => (real_weight x2 h2 _ _ _).mul (real_dsv x0 x1 h0 h1 _ _ _)

include h0 h2 h3 h4 h5 in
theorem real_gate (n : Fin 32) (r : Fin 128) (e : Fin 2048) : IsReal ((∑ s : Fin 128, wB x2 (grp e) r s
      * Cert.SguIdeal.Gen.k0_pay13 (F := Ideal) (rowsZ x0 n) (rowVec x4) (rowVec x5) (ix2 s e)) + biasCol x3 (ix3 (grp e) r 0)) := by
  refine IsReal.add (IsReal.sum fun s => (real_weight x2 h2 _ _ _).mul ?_) (h3 _)
  rw [pay13_at]
  exact ((real_norm x0 h0 n s e).mul (h4 _)).add (h5 _)

include h0 h1 h2 h4 in
/-- The gradient of the right half, as differentiated and as the kernel writes it: one real number. -/
theorem ref_dv_kernel (e : Fin 2048) : ∃ q : ℝ, val_main_v110 (F := Ideal) x0 x1 x2 x4 (ix2 i e) = (q : EReal) ∧
    Cert.SguIdeal.Gen.k0_pay11 (F := Ideal) (rowsZ x0 (blkRow i)) (ix2 (inRow i) 0)
      * (dvhB (rowsZ x0 (blkRow i)) (rowsD x1 (blkRow i)) x2 (rowVec x4) (inRow i) e
        - Ideal.div (∑ k : Fin 2048, dvhB (rowsZ x0 (blkRow i)) (rowsD x1 (blkRow i)) x2 (rowVec x4) (inRow i) k) (Ideal.ofBits .f32 0x45000000#32)
        - Cert.SguIdeal.Gen.k0_pay12 (F := Ideal) (rowsZ x0 (blkRow i)) (ix2 (inRow i) e)
          * Ideal.div (∑ k : Fin 2048, dvhB (rowsZ x0 (blkRow i)) (rowsD x1 (blkRow i)) x2 (rowVec x4) (inRow i) k
              * Cert.SguIdeal.Gen.k0_pay12 (F := Ideal) (rowsZ x0 (blkRow i)) (ix2 (inRow i) k)) (Ideal.ofBits .f32 0x45000000#32)) = (q : EReal) := by
  obtain ⟨xc, hxc, hz⟩ := real_centred x0 h0 (blkRow i) (inRow i)
  obtain ⟨v, hv, hev⟩ := real_var xc
  choose d hd using fun k => real_dvh x0 x1 x2 x4 h0 h1 h2 h4 (blkRow i) (inRow i) k
  have hr : Cert.SguIdeal.Gen.k0_pay11 (F := Ideal) (rowsZ x0 (blkRow i)) (ix2 (inRow i) 0) = (((√v)⁻¹ : ℝ) : EReal) := by
    rw [pay11_at]
    simp only [hxc]
    rw [hev, rsqrt_pos hv]
  refine ⟨(√v)⁻¹ * (d e - (∑ k, d k) / 2048 - xc e * (√v)⁻¹ * ((∑ k, d k * (xc k * (√v)⁻¹)) / 2048)), ?_, ?_⟩
  rotate_left
  · simp only [pay12_at, hxc, hd, hr, ← EReal.coe_mul]
    rw [← coe_sum, ← coe_sum, div_width, div_width, ← EReal.coe_mul, ← EReal.coe_sub, ← EReal.coe_sub, ← EReal.coe_mul]
  · have h91 : ∀ k, val_main_v91 (F := Ideal) x0 x1 x2 x4 (ix2 i k) = ((d k * (√v)⁻¹ : ℝ) : EReal) := fun k => by
      rw [ref_direct, ref_dvh, ref_rstd, hr, hd, ← EReal.coe_mul]
    have h36 : val_main_v36 (F := Ideal) x0 (ix2 i 0) = (v : EReal) := by
      rw [ref_var]
      simp only [hxc]
      exact hev
    have h98 : val_main_v98 (F := Ideal) x0 x1 x2 x4 (ix1 i) = (((∑ k, xc k * d k) * (-(1 / 2) * ((√v)⁻¹ / v)) / 2048 : ℝ) : EReal) := by
      rw [ref_dvar, ref_corr, ref_rstd, h36, hr, word_neg_half, Ideal.div_coe hv.ne']
      simp only [ref_centred', ref_dvh, hxc, hd, ← EReal.coe_mul]
      rw [← coe_sum, ← EReal.coe_mul, div_width]
      congr 1
      ring
    have h100 : ∀ k, val_main_v100 (F := Ideal) x0 x1 x2 x4 (ix2 i k)
        = ((((∑ k, xc k * d k) * (-(1 / 2) * ((√v)⁻¹ / v)) / 2048) * (2 * xc k) : ℝ) : EReal) := fun k => by
      rw [ref_spread, h98, word_two, ref_centred, hxc, ← EReal.coe_mul, ← EReal.coe_mul]
    rw [ref_dv, ref_dmean]
    simp only [h91, h100, ← EReal.coe_neg]
    rw [← coe_sum, ← coe_sum, ← EReal.coe_add, ← EReal.coe_add, div_width, ← EReal.coe_add]
    exact congrArg _ (row_gradient 2048 (by norm_num) xc d hz v hv e)

/-! ## The activation -/

include h0 in
/-- The activation's gradient, as differentiated and as the kernel writes it. -/
theorem ref_dact (e : Fin 4096) (q : ℝ) (hq : val_main_v111 (F := Ideal) x0 x1 x2 x3 x4 x5 (ix2 i e) = (q : EReal)) :
    val_main_v122 (F := Ideal) x0 x1 x2 x3 x4 x5 (ix2 i e) = (q : EReal) * Cert.SguIdeal.Gen.k0_pay15 (F := Ideal)
      (Cert.SguIdeal.Gen.k0_pay6 (rowsZ x0 (blkRow i))) (Cert.SguIdeal.Gen.k0_pay14 (rowsZ x0 (blkRow i))) (ix2 (inRow i) e) := by
  obtain ⟨z, hz⟩ := h0 (ix2 i e)
  rw [pay15_at, rowsZ_at, hz, val_main_v122_apply, val_main_v119_apply, val_main_v116_apply, val_main_v118_apply, val_main_v114_apply,
    val_main_v112_apply, val_main_v113_apply, hq, val_main_v2_apply, val_main_v16_apply, val_main_v15_apply, val_main_v9_apply,
    val_main_v14_apply, val_main_v13_apply, val_main_v12_apply, val_main_v11_apply, val_main_v10_apply, val_main_v8_apply,
    val_main_v7_apply, val_main_v6_apply, val_main_v5_apply, val_main_v4_apply, val_main_v3_apply, val_main_v1_apply, val_main_v0_apply,
    val_main_v115_apply, val_main_v117_apply, hz]
  show Ideal.div (Ideal.div (Ideal.ofBits .f32 0x40000000#32) (Ideal.sqrt (Ideal.acos (Ideal.ofBits .f32 0xBF800000#32)))
      * Ideal.exp (-(Ideal.div (z : EReal) (Ideal.sqrt (Ideal.ofBits .f32 0x40000000#32)) * Ideal.div (z : EReal) (Ideal.sqrt (Ideal.ofBits .f32 0x40000000#32))))
      * (Ideal.ofBits .f32 0x3F000000#32 * (z : EReal) * (q : EReal))) (Ideal.sqrt (Ideal.ofBits .f32 0x40000000#32))
    + Ideal.ofBits .f32 0x3F000000#32 * ((q : EReal) * (Ideal.ofBits .f32 0x3F800000#32 + Ideal.erf (Ideal.div (z : EReal) (Ideal.sqrt (Ideal.ofBits .f32 0x40000000#32))))) = _
  have hpi : Ideal.div (Ideal.ofBits .f32 0x40000000#32) (Ideal.sqrt (Ideal.acos (Ideal.ofBits .f32 0xBF800000#32)))
      = ((2 / √(Real.arccos (-1)) : ℝ) : EReal) := by
    have hp : (0 : ℝ) < Real.arccos (-1) := by rw [Real.arccos_neg_one]; exact Real.pi_pos
    rw [word_two, word_neg_one, Ideal.acos_coe, if_pos (by norm_num), Ideal.sqrt_coe, if_neg (not_lt.2 hp.le),
      Ideal.div_coe (Real.sqrt_pos.2 hp).ne', ← EReal.coe_mul]
    congr 1; ring
  rw [hpi]
  simp only [div_sqrt_two]
  rw [word_half, word_neg_half, word_one, ← EReal.coe_mul, Ideal.erf_coe]
  generalize (2 / √Real.pi * ∫ t in (0 : ℝ)..z * (√2)⁻¹, Real.exp (-(t ^ 2)) : ℝ) = E
  have hx : Ideal.exp (((-(1 / 2) : ℝ) : EReal) * z * z) = ((Real.exp (-(1 / 2) * z * z) : ℝ) : EReal) := by
    rw [← EReal.coe_mul, ← EReal.coe_mul, Ideal.exp_coe]
  rw [hx, ← EReal.coe_mul, ← EReal.coe_neg, Ideal.exp_coe, ← slope_const]
  have he : Real.exp (-(z * (√2)⁻¹ * (z * (√2)⁻¹))) = Real.exp (-(1 / 2) * z * z) := by
    congr 1
    have : (√2)⁻¹ * (√2)⁻¹ = (1 / 2 : ℝ) := by rw [← mul_inv, Real.mul_self_sqrt (by norm_num)]; norm_num
    linear_combination (-z * z) * this
  rw [he, ← EReal.coe_one]
  simp only [← EReal.coe_mul, ← EReal.coe_add]
  congr 1
  ring

end

end Cert.SguRefIdeal.Value
-- ==== Proof.SguPre.lean ====
module

public import proofs.«01_k».proof.Defs
public import proofs.«01_k».proof.Proof.SguReal
public import Idealize.ShloMosaic.Lib.ReduceAll

/-! # The precondition

It says that every entry of the six arguments is a real number. -/

@[expose] public section

set_option maxRecDepth 16384
noncomputable section
open Idealize.ShloMosaic Idealize.ShloMosaic.TcCoe Idealize.SL.Sem

namespace Cert.SguPre
open Cert.SguIdeal.Value Cert.Pre_sgu_pre

/-- The side conditions of the precondition's operations. -/
theorem facts : Cert.Pre_sgu_pre.Facts where
  bitsLt_bf16_f32 := by decide
  bcast_S_S4096x4096 := by decide
  reducesTo_S4096x4096_S_d0_1 := by decide
  h_S_ := by decide
  bcast_S_S4096x2048 := by decide
  reducesTo_S4096x2048_S_d0_1 := by decide
  bcast_S_S8x128x128 := by decide
  reducesTo_S8x128x128_S_d0_1_2 := by decide
  bcast_S_S8x128 := by decide
  reducesTo_S8x128_S_d0_1 := by decide
  bcast_S_S2048 := by decide
  reducesTo_S2048_S_d0 := by decide

/-- Strictly between the infinities is real. -/
theorem isReal_of_between {x : EReal} (h : IntOp.andi (Ideal.cmp .olt x (Ideal.ofBits .f32 0x7F800000#32))
    (Ideal.cmp .ogt x (Ideal.ofBits .f32 0xFF800000#32)) = 1#1) : IsReal x := by
  have ht : Ideal.ofBits .f32 0x7F800000#32 = ⊤ := by simp [Ideal.ofBits, Ideal.ieee]
  have hb : Ideal.ofBits .f32 0xFF800000#32 = ⊥ := by simp [Ideal.ofBits, Ideal.ieee]
  rw [ht, hb] at h
  obtain ⟨h1, h2⟩ := IntOp.andi_eq_one.1 h
  induction x with
  | bot => simp [Ideal.cmp] at h2
  | top => simp [Ideal.cmp] at h1
  | coe r => exact ⟨r, rfl⟩

instance : Subsingleton S_.Idx := ⟨fun a b => funext fun k => k.elim0⟩

section
variable [hF : Cert.Pre_sgu_pre.Facts] (x0 : FVec Ideal S4096x4096 .bf16) (x1 : FVec Ideal S4096x2048 .bf16) (x2 : FVec Ideal S8x128x128 .f32)
  (x3 : FVec Ideal S8x128 .f32) (x4 x5 : FVec Ideal S2048 .f32)

theorem real_args (h : Cert.Pre_sgu_pre.fn (F := Ideal) x0 x1 x2 x3 x4 x5 = fun _ => 1#1) :
    (∀ j, IsReal (x0 j)) ∧ (∀ j, IsReal (x1 j)) ∧ (∀ j, IsReal (x2 j)) ∧ (∀ j, IsReal (x3 j)) ∧ (∀ j, IsReal (x4 j)) ∧ (∀ j, IsReal (x5 j)) := by
  have h := congrFun h (fun k => k.elim0)
  simp only [Cert.Pre_sgu_pre.fn, fn_part1, fn_part2] at h
  obtain ⟨h, e5⟩ := IntOp.andi_eq_one.1 h
  obtain ⟨h, e4⟩ := IntOp.andi_eq_one.1 h
  obtain ⟨h, e3⟩ := IntOp.andi_eq_one.1 h
  obtain ⟨h, e2⟩ := IntOp.andi_eq_one.1 h
  obtain ⟨e0, e1⟩ := IntOp.andi_eq_one.1 h
  refine ⟨fun j => isReal_of_between ?_, fun j => isReal_of_between ?_, fun j => isReal_of_between ?_, fun j => isReal_of_between ?_,
    fun j => isReal_of_between ?_, fun j => isReal_of_between ?_⟩
  · exact Host.reduce_andi_all _ _ _ _ _ e0 j
  · exact Host.reduce_andi_all _ _ _ _ _ e1 j
  · exact Host.reduce_andi_all _ _ _ _ _ e2 j
  · exact Host.reduce_andi_all _ _ _ _ _ e3 j
  · exact Host.reduce_andi_all _ _ _ _ _ e4 j
  · exact Host.reduce_andi_all _ _ _ _ _ e5 j

end

end Cert.SguPre
-- ==== Proof.SguResults.lean ====
module

public import proofs.«01_k».proof.Proof.SguReal

/-! # The five results agree

Each array the kernel leaves is the reference's result. Only the gradient of the pre-activation needs real arguments. -/

@[expose] public section

set_option maxRecDepth 16384
noncomputable section
open Idealize.ShloMosaic Idealize.ShloMosaic.TcCoe Idealize.SL.Sem

namespace Cert.SguRefIdeal.Value
open Cert.SguIdeal.Value Cert.SguRefIdeal.Read Cert.SguRefIdeal.Gen

section
variable (x0 : FVec Ideal S4096x4096 .bf16) (x1 : FVec Ideal S4096x2048 .bf16) (x2 : FVec Ideal S8x128x128 .f32)
  (x3 : FVec Ideal S8x128 .f32) (x4 x5 : FVec Ideal S2048 .f32)

theorem result_dws : val_main_v76 (F := Ideal) x0 x1 x4 x5 = fun j : S8x128x128.Idx =>
    ∑ n : Fin 32, dwsB (rowsZ x0 n) (rowsD x1 n) (rowVec x4) (rowVec x5) (j 0) (j 1) (j 2) := by
  funext j
  rw [show j = ix3 (j 0) (j 1) (j 2) by funext a; fin_cases a <;> rfl]
  exact ref_dws x0 x1 x4 x5 (j 0) (j 1) (j 2)

theorem result_dbs : val_main_v121 (F := Ideal) x0 x1 = fun j : S128x128.Idx =>
    ∑ n : Fin 32, dbsB (rowsZ x0 n) (rowsD x1 n) (j 0) (j 1) := by
  funext j
  rw [show j = ix2 (j 0) (j 1) by funext a; fin_cases a <;> rfl]
  exact ref_dbs_lanes x0 x1 (j 0) (j 1)

theorem row_idx (j : S1x2048.Idx) : (fun a => match a with | ⟨0, _⟩ => ⟨(j 0).val * 2048 + (j 1).val, by
    have h0 : (j 0).val < 1 := (j 0).isLt; have h1 : (j 1).val < 2048 := (j 1).isLt; show (j 0).val * 2048 + (j 1).val < 2048; omega⟩ : S2048.Idx) = ix1 (j 1) := by
  funext a
  fin_cases a
  refine Fin.ext ?_
  have h0 : (j 0).val < 1 := (j 0).isLt
  show (j 0).val * 2048 + (j 1).val = (j 1).val
  omega

theorem result_dlg : val_main_v123 (F := Ideal) x0 x1 x2 = fun j : S1x2048.Idx =>
    ∑ n : Fin 32, ∑ r : Fin 128, dvnB (rowsZ x0 n) (rowsD x1 n) x2 (ix2 r (j 1)) * Cert.SguIdeal.Gen.k0_pay12 (F := Ideal) (rowsZ x0 n) (ix2 r (j 1)) := by
  funext j
  rw [val_main_v123_apply]
  exact (congrArg (val_main_v86 (F := Ideal) x0 x1 x2) (row_idx j)).trans (ref_dlg x0 x1 x2 (j 1))

theorem result_dlb : val_main_v124 (F := Ideal) x0 x1 x2 = fun j : S1x2048.Idx =>
    ∑ n : Fin 32, ∑ r : Fin 128, dvnB (rowsZ x0 n) (rowsD x1 n) x2 (ix2 r (j 1)) := by
  funext j
  rw [val_main_v124_apply]
  exact (congrArg (val_main_v80 (F := Ideal) x0 x1 x2) (row_idx j)).trans (ref_dlb x0 x1 x2 (j 1))

/-- Two halves side by side. -/
theorem beside (a b : FVec Ideal S4096x2048 .f32) (i e : Fin 4096) :
    concatenate S4096x4096 1 [⟨S4096x2048, a⟩, ⟨S4096x2048, b⟩] concatenates_S4096x2048_S4096x2048_S4096x4096_d1 (ix2 i e)
      = if h : (e : ℕ) < 2048 then a (ix2 i ⟨e, h⟩) else b (ix2 i ⟨(e : ℕ) - 2048, by omega⟩) := by
  pointwise

variable (h0 : ∀ j, IsReal (x0 j)) (h1 : ∀ j, IsReal (x1 j)) (h2 : ∀ j, IsReal (x2 j)) (h3 : ∀ j, IsReal (x3 j))
  (h4 : ∀ j, IsReal (x4 j)) (h5 : ∀ j, IsReal (x5 j))

include h0 h1 h2 h3 h4 h5 in
theorem result_dzp : val_main_v122 (F := Ideal) x0 x1 x2 x3 x4 x5 = fun j : S4096x4096.Idx =>
    dzpOf x0 x1 x2 x3 x4 x5 (blkRow (j 0)) (inRow (j 0)) (j 1) := by
  funext j
  obtain ⟨i, e, rfl⟩ : ∃ i e : Fin 4096, j = ix2 i e := ⟨j 0, j 1, by funext a; fin_cases a <;> rfl⟩
  show _ = dzpOf x0 x1 x2 x3 x4 x5 (blkRow i) (inRow i) e
  have hc : val_main_v111 (F := Ideal) x0 x1 x2 x3 x4 x5 (ix2 i e) = if h : (e : ℕ) < 2048
      then val_main_v65 (F := Ideal) x0 x1 x2 x3 x4 x5 (ix2 i ⟨e, h⟩)
      else val_main_v110 (F := Ideal) x0 x1 x2 x4 (ix2 i ⟨(e : ℕ) - 2048, by omega⟩) := by
    unfold val_main_v111
    exact beside _ _ i e
  unfold dzpOf
  by_cases he : (e : ℕ) < 2048
  · rw [dif_pos he] at hc ⊢
    obtain ⟨g, hg⟩ := real_gate x0 x2 x3 x4 x5 h0 h2 h3 h4 h5 (blkRow i) (inRow i) ⟨e, he⟩
    obtain ⟨d, hd⟩ := h1 (ix2 i ⟨e, he⟩)
    have h65 : val_main_v65 (F := Ideal) x0 x1 x2 x3 x4 x5 (ix2 i ⟨e, he⟩) = ((d * g : ℝ) : EReal) := by
      rw [val_main_v65_apply, ref_gate, hg, val_main_v63_apply, hd, EReal.coe_mul]
      rfl
    rw [ref_dact x0 x1 x2 x3 x4 x5 i h0 e (d * g) (hc.trans h65), dzuB, rowsD_at, hd, hg, EReal.coe_mul]
    rfl
  · rw [dif_neg he] at hc ⊢
    obtain ⟨q, hq, hk⟩ := ref_dv_kernel x0 x1 x2 x4 i h0 h1 h2 h4 ⟨(e : ℕ) - 2048, by omega⟩
    rw [ref_dact x0 x1 x2 x3 x4 x5 i h0 e q (hc.trans hq), dzvB, hk]
    have hh : hi ⟨(e : ℕ) - 2048, by omega⟩ = e := Fin.ext (by simp only [hi]; omega)
    rw [hh]

end

end Cert.SguRefIdeal.Value
-- ==== Proof.SguClaim.lean ====
module

public import proofs.«01_k».proof.Proof.SguPre
public import proofs.«01_k».proof.Proof.SguResults
public import proofs.«01_k».proof.Proof.Gen.Sgu.Frame

/-! # The claims of the spatial gating unit's backward pass -/

@[expose] public section

set_option maxRecDepth 16384
noncomputable section
open Idealize.ShloMosaic Idealize.ShloMosaic.TcCoe Idealize.SL.Sem

namespace Cert.SguClaim
open Cert.SguIdeal.Value Cert.SguRefIdeal.Read

/-- Over ideal values the kernel and the reference end with the same five results, and both keep their arguments. -/
theorem algebraic : Cert.algebraic_SguIdeal_SguRefIdeal_pre_sgu_pre (hPre_sgu_pre := Cert.SguPre.facts) := by
  intro m g m' g' hpre hargs
  refine ⟨fun c => (Cert.SguIdeal.Gen.dats m 0 c).arrAt 6 Cert.SguIdeal.cfg0.N, fun c => (Cert.SguIdeal.Gen.dats m 0 c).arrAt 7 Cert.SguIdeal.cfg0.N,
    fun c => (Cert.SguIdeal.Gen.dats m 0 c).arrAt 8 Cert.SguIdeal.cfg0.N, fun c => (Cert.SguIdeal.Gen.dats m 0 c).arrAt 9 Cert.SguIdeal.cfg0.N,
    fun c => (Cert.SguIdeal.Gen.dats m 0 c).arrAt 10 Cert.SguIdeal.cfg0.N, run_blocks m g, ?_⟩
  refine (θ_run _ _ _).mono (fun r h c => ?_) (Cert.SguRefIdeal.Value.run m' g')
  obtain ⟨r0, r1, r2, r3, r4, k⟩ := h c
  obtain ⟨a0, a1, a2, a3, a4, a5⟩ := hargs c
  obtain ⟨f0, f1, f2, f3, f4, f5⟩ := Cert.SguPre.real_args (hF := Cert.SguPre.facts) _ _ _ _ _ _ (hpre c)
  refine ⟨r0.trans ?_, r1.trans ?_, r2.trans ?_, r3.trans ?_, r4.trans ?_, k⟩
  · refine (val_main_v122_eq m' c).trans ?_
    rw [a0, a1, a2, a3, a4, a5]
    exact (Cert.SguRefIdeal.Value.result_dzp _ _ _ _ _ _ f0 f1 f2 f3 f4 f5).trans (array6 m c).symm
  · refine (val_main_v76_eq m' c).trans ?_
    rw [a0, a1, a4, a5]
    exact (Cert.SguRefIdeal.Value.result_dws _ _ _ _).trans (array7 m c).symm
  · refine (val_main_v121_eq _ _).trans ?_
    rw [a0, a1]
    exact (Cert.SguRefIdeal.Value.result_dbs _ _).trans (array8 m c).symm
  · refine (val_main_v123_eq m' c).trans ?_
    rw [a0, a1, a2]
    exact (Cert.SguRefIdeal.Value.result_dlg _ _ _).trans (array9 m c).symm
  · refine (val_main_v124_eq _ _ _).trans ?_
    rw [a0, a1, a2]
    exact (Cert.SguRefIdeal.Value.result_dlb _ _ _).trans (array10 m c).symm

/-- The reference keeps its arguments and ends with its counters at zero. -/
theorem ref_frame : Cert.quiescent_SguRefIdeal := fun m g _ =>
  (θ_run Cert.SguRefIdeal.defs _ _).mono (fun r h => ⟨fun c => (h c).2.2.2.2.2,
      Idealize.ShloMosaic.sem_eq_zero_of_no_sems (by decide) r.2⟩)
    (Cert.SguRefIdeal.Value.run (F := Ideal) m g)

end Cert.SguClaim
-- ==== Proof.UpValue.lean ====
module

public import proofs.«01_k».proof.Proof.Gen.UpIdeal.Value
public import proofs.«01_k».proof.Proof.Gen.UpRefIdeal.Run
public import proofs.«01_k».proof.Proof.Gen.UpRefIdeal.Read
public import Idealize.ShloMosaic.Lib.Pipeline.ValueKit
public import Idealize.ShloMosaic.Lib.Claim
public import proofs.«01_k».proof.Defs

/-! # The product up to the channel mixer's inner width

Each grid point multiplies 1024 rows of the input by 1408 columns of the weights; the inner dimension is not cut. -/

@[expose] public section

set_option maxRecDepth 16384
noncomputable section
open Idealize.ShloMosaic Idealize.ShloMosaic.TcCoe Idealize.SL.Sem
open Idealize.ShloMosaic.Pipeline (Dat)

namespace Cert.UpIdeal.Value
open Cert.UpIdeal.Gen

/-- The block each window reads or writes at a grid point. -/
theorem idx : ∀ t : Fin cfg0.N, win0_0.index t = ![t.val / 4, 0] ∧ win0_1.index t = ![0, t.val % 4]
    ∧ win0_2.index t = ![t.val / 4, t.val % 4] :=
  (by decide +kernel : ∀ t : Fin grid0.N, _)

variable (m : (ℓ : Loc nD τ sig) → Buf (Elt Ideal) ℓ)

/-- An entry of the stored block. -/
theorem block_entry (x : FVec Ideal S1024x1024 .bf16) (w : FVec Ideal S1024x1408 .bf16) (y : S1024x1408.Idx) :
    out0_2 (F := Ideal) x w y = ∑ k : Fin 1024, x (ix2 (y 0) k) * w (ix2 k (y 1)) := by
  unfold out0_2
  canon_tiles z hz
  pointwise [k0_pay1]
  rw [Fin.ext hz0, Fin.ext hz1]

/-- The kernel's result is the reference's. -/
theorem array (c : Dev nD) : (dats m 0 c).arrAt 2 cfg0.N = Cert.UpRefIdeal.Read.val_main_v3
    (m ((c : Thread nD τ).loc main_arg0)) (m ((c : Thread nD τ).loc main_arg1)) := by
  refine (dats m 0 c).arrAt_eq_of_covers 2 _ (by decide +kernel) fun t hf y => ?_
  blk_simp [idx t]
  rw [after0_2]
  rw [block_entry]
  rw [Cert.UpRefIdeal.Read.val_main_v3_apply, Cert.UpRefIdeal.Read.val_main_v2_apply]
  refine Fin.sum_fin_congr fun k => ?_
  refine congrArg₂ (fun a b : EReal => a * b) ?_ ?_
  · blk_point [iblk, V, idx t]
  · blk_point [iblk, V, idx t]

/-- Over ideal values the kernel and the reference end with the same product, and both keep their arguments. -/
theorem algebraic : Cert.algebraic_UpIdeal_UpRefIdeal := by
  intro m g m' g' _ hargs
  refine ⟨fun c => (dats m 0 c).arrAt 2 cfg0.N, run_blocks m g, ?_⟩
  refine (θ_run _ _ _).mono (fun r h c => ⟨(h c).1.trans ?_, (h c).2⟩) (Cert.UpRefIdeal.Value.run m' g')
  obtain ⟨a0, a1⟩ := hargs c
  refine (Cert.UpRefIdeal.Read.val_main_v3_eq _ _).trans ?_
  rw [a0, a1]
  exact (array m c).symm

/-- The reference keeps its arguments and ends with its counters at zero. -/
theorem ref_frame : Cert.quiescent_UpRefIdeal := fun m g _ =>
  (θ_run Cert.UpRefIdeal.defs _ _).mono (fun r h => ⟨fun c => (h c).2,
      Idealize.ShloMosaic.sem_eq_zero_of_no_sems (by decide) r.2⟩)
    (Cert.UpRefIdeal.Value.run (F := Ideal) m g)

end Cert.UpIdeal.Value
-- ==== Proof.DownValue.lean ====
module

public import proofs.«01_k».proof.Proof.Gen.DownIdeal.Value
public import proofs.«01_k».proof.Proof.Gen.DownRefIdeal.Run
public import proofs.«01_k».proof.Proof.Gen.DownRefIdeal.Read
public import Idealize.ShloMosaic.Lib.Pipeline.ValueKit
public import Idealize.ShloMosaic.Lib.Claim
public import proofs.«01_k».proof.Defs

/-! # The product down from the channel mixer's inner width

Each grid point multiplies 1024 rows of the activations by all the weights; the inner dimension is not cut. -/

@[expose] public section

set_option maxRecDepth 16384
noncomputable section
open Idealize.ShloMosaic Idealize.ShloMosaic.TcCoe Idealize.SL.Sem
open Idealize.ShloMosaic.Pipeline (Dat)

namespace Cert.DownIdeal.Value
open Cert.DownIdeal.Gen

/-- The block each window reads or writes at a grid point. -/
theorem idx : ∀ t : Fin cfg0.N, win0_0.index t = ![t.val, 0] ∧ win0_1.index t = ![0, 0]
    ∧ win0_2.index t = ![t.val, 0] :=
  (by decide +kernel : ∀ t : Fin grid0.N, _)

variable (m : (ℓ : Loc nD τ sig) → Buf (Elt Ideal) ℓ)

/-- An entry of the stored block. -/
theorem block_entry (x : FVec Ideal S1024x2816 .bf16) (w : FVec Ideal S2816x1024 .bf16) (y : S1024x1024.Idx) :
    out0_2 (F := Ideal) x w y = ∑ k : Fin 2816, x (ix2 (y 0) k) * w (ix2 k (y 1)) := by
  unfold out0_2
  canon_tiles z hz
  pointwise [k0_pay1]
  rw [Fin.ext hz0, Fin.ext hz1]

/-- The kernel's result is the reference's. -/
theorem array (c : Dev nD) : (dats m 0 c).arrAt 2 cfg0.N = Cert.DownRefIdeal.Read.val_main_v2
    (m ((c : Thread nD τ).loc main_arg0)) (m ((c : Thread nD τ).loc main_arg1)) := by
  refine (dats m 0 c).arrAt_eq_of_covers 2 _ (by decide +kernel) fun t hf y => ?_
  blk_simp [idx t]
  rw [after0_2]
  rw [block_entry]
  rw [Cert.DownRefIdeal.Read.val_main_v2_apply]
  refine Fin.sum_fin_congr fun k => ?_
  refine congrArg₂ (fun a b : EReal => a * b) ?_ ?_
  · blk_point [iblk, V, idx t]
  · blk_point [iblk, V, idx t]

/-- Over ideal values the kernel and the reference end with the same product, and both keep their arguments. -/
theorem algebraic : Cert.algebraic_DownIdeal_DownRefIdeal := by
  intro m g m' g' _ hargs
  refine ⟨fun c => (dats m 0 c).arrAt 2 cfg0.N, run_blocks m g, ?_⟩
  refine (θ_run _ _ _).mono (fun r h c => ⟨(h c).1.trans ?_, (h c).2⟩) (Cert.DownRefIdeal.Value.run m' g')
  obtain ⟨a0, a1⟩ := hargs c
  refine (Cert.DownRefIdeal.Read.val_main_v2_eq _ _).trans ?_
  rw [a0, a1]
  exact (array m c).symm

/-- The reference keeps its arguments and ends with its counters at zero. -/
theorem ref_frame : Cert.quiescent_DownRefIdeal := fun m g _ =>
  (θ_run Cert.DownRefIdeal.defs _ _).mono (fun r h => ⟨fun c => (h c).2,
      Idealize.ShloMosaic.sem_eq_zero_of_no_sems (by decide) r.2⟩)
    (Cert.DownRefIdeal.Value.run (F := Ideal) m g)

end Cert.DownIdeal.Value
-- ==== Proof.Products.lean ====
module

public import Idealize.ShloMosaic.Lib.Pipeline.ValueKit

/-! # Cutting the inner dimension of a product into blocks -/

@[expose] public section

noncomputable section

namespace Cert.Products

/-- A sum over `a · b` entries is the sum over `a` blocks of the sums over their `b` entries. -/
theorem sum_blocks {N : ℕ} (a b : ℕ) (h : N = a * b) (f : Fin N → EReal) :
    ∑ i : Fin N, f i = ∑ n : Fin a, ∑ r : Fin b, f ⟨b * n.val + r.val, by
      have hr := r.isLt
      have hn : b * (n.val + 1) ≤ b * a := Nat.mul_le_mul_left b n.isLt
      rw [h, Nat.mul_comm a b]
      rw [Nat.mul_succ] at hn
      omega⟩ := by
  subst h
  rw [← Finset.sum_product', Finset.univ_product_univ, ← Equiv.sum_comp finProdFinEquiv]
  exact Finset.sum_congr rfl fun p _ => congrArg f (Fin.ext (Nat.add_comm _ _))

end Cert.Products
-- ==== Proof.UpDxValue.lean ====
module

public import proofs.«01_k».proof.Defs
public import proofs.«01_k».proof.Proof.Products
public import proofs.«01_k».proof.Proof.Gen.UpDxIdeal.Value
public import proofs.«01_k».proof.Proof.Gen.UpDxRefIdeal.Run
public import proofs.«01_k».proof.Proof.Gen.UpDxRefIdeal.Read
public import Idealize.ShloMosaic.Lib.Pipeline.ReadBack
public import Idealize.ShloMosaic.Lib.Claim

/-! # The gradient of the input of the product up

Four grid points in turn, one for each quarter of the inner width, add their products up in a carried buffer; the fourth
adds the scaled gradient of the residual branch and writes the block. -/

@[expose] public section

set_option maxRecDepth 16384
noncomputable section
open Idealize.ShloMosaic Idealize.ShloMosaic.TcCoe Idealize.SL.Sem
open Idealize.ShloMosaic.Pipeline (Dat)

namespace Cert.UpDxIdeal.Value
open Cert.UpDxIdeal.Gen

/-- The block each window reads or writes at a grid point. -/
theorem idx : ∀ t : Fin cfg0.N, win0_0.index t = ![t.val % 4 / 2, t.val / 4, t.val % 2]
    ∧ win0_1.index t = ![0, t.val % 4] ∧ win0_2.index t = ![t.val / 4, 0] ∧ win0_3.index t = ![t.val / 4, 0] :=
  (by decide +kernel : ∀ t : Fin grid0.N, _)

variable (m : (ℓ : Loc nD τ sig) → Buf (Elt Ideal) ℓ)

/-- The product of two blocks over their shared columns. -/
def dotB (d : FVec Ideal S1x1024x1408 .bf16) (w : FVec Ideal S1024x1408 .bf16) (p q : Fin 1024) : EReal :=
  ∑ k : Fin 1408, d (ix3 0 p k) * w (ix2 q k)

/-- The scaled gradient of the residual branch. -/
def scaled (r : FVec Ideal S1024x1024 .f32) (j : S1024x1024.Idx) : EReal := Scalar.ofBits (F := Ideal) .f32 0x3FD744FD#32 * r j

/-- The first point of four leaves its product in the carried buffer. -/
theorem carry_first (c : Dev nD) (t : Fin cfg0.N) (h0 : t.val % 4 = 0) (j : S1024x1024.Idx) :
    (outsAt0 m c t.val t.isLt).2 j = 0 + dotB (iblk m c 0 t) (iblk m c 1 t) (j 0) (j 1) := by
  rw [outsAt0_A m c t h0 (by omega)]; frame_out
  simp only [dotB]
  pointwise [k0_pay1, k0_pay2]

/-- A later point adds its product to the carried buffer. -/
theorem carry_next (c : Dev nD) (t : Fin cfg0.N) (h0 : ¬t.val % 4 = 0) (j : S1024x1024.Idx) :
    (outsAt0 m c t.val t.isLt).2 j = (outsAt0 m c (t.val - 1) (lt_of_le_of_lt (Nat.sub_le _ _) t.isLt)).2 j
      + dotB (iblk m c 0 t) (iblk m c 1 t) (j 0) (j 1) := by
  by_cases h1 : t.val % 4 = 3
  · rw [outsAt0_C m c t h0 h1]; frame_out
    simp only [dotB]
    pointwise [k0_pay2]
    exact congrArg (· + _) (congrFun (read_unread_whole _ _ _) _)
  · rw [outsAt0_B m c t h0 h1]; frame_out
    simp only [dotB]
    pointwise [k0_pay2]
    exact congrArg (· + _) (congrFun (read_unread_whole _ _ _) _)

/-- The fourth point writes what it leaves in the carried buffer plus the scaled gradient of the residual branch. -/
theorem written (c : Dev nD) (t : Fin cfg0.N) (h1 : t.val % 4 = 3) (j : S1024x1024.Idx) :
    (outsAt0 m c t.val t.isLt).1 j = (outsAt0 m c t.val t.isLt).2 j + scaled (iblk m c 2 t) j := by
  rw [outsAt0_C m c t (by omega) h1]
  dsimp only
  simp only [scaled]
  frame_out
  pointwise [k0_pay2, k0_pay3]

/-- The incoming gradient with its two halves side by side. -/
def half (d : FVec Ideal S2x4096x2816 .bf16) (k : Fin 4096) (q : Fin 5632) : EReal :=
  d (ix3 (⟨q / 2816, by omega⟩ : Fin 2) k (⟨q % 2816, by omega⟩ : Fin 2816))

/-- The reference puts the halves side by side. -/
theorem ref_half (d : FVec Ideal S2x4096x2816 .bf16) (i : Cert.UpDxRefIdeal.S4096x5632.Idx) :
    Cert.UpDxRefIdeal.Read.val_main_v5 (F := Ideal) d i = half d (i 0) (i 1) := by
  rw [Cert.UpDxRefIdeal.Read.val_main_v5_apply]
  unfold Cert.UpDxRefIdeal.Read.val_main_v4 half
  pointwise
  have hi : (i 1 : ℕ) < 5632 := (i 1).isLt
  split
  · rw [Cert.UpDxRefIdeal.Read.val_main_v1_apply, Cert.UpDxRefIdeal.Read.val_main_v0_apply]
    refine congrArg d ?_
    funext a
    fin_cases a <;> refine Fin.ext ?_ <;> simp <;> omega
  · rw [Cert.UpDxRefIdeal.Read.val_main_v3_apply, Cert.UpDxRefIdeal.Read.val_main_v2_apply]
    refine congrArg d ?_
    funext a
    fin_cases a <;> refine Fin.ext ?_ <;> simp <;> omega

/-- An entry of the reference's gradient. -/
theorem ref_entry (d : FVec Ideal S2x4096x2816 .bf16) (w : FVec Ideal S1024x5632 .bf16) (r : FVec Ideal S4096x1024 .f32)
    (i : S4096x1024.Idx) : Cert.UpDxRefIdeal.Read.val_main_v14 (F := Ideal) d w r i
      = (∑ k : Fin 5632, half d (i 0) k * w (ix2 (i 1) k)) + Scalar.ofBits (F := Ideal) .f32 0x3FD744FD#32 * r i := by
  rw [Cert.UpDxRefIdeal.Read.val_main_v14_apply, Cert.UpDxRefIdeal.Read.val_main_v11_apply, Cert.UpDxRefIdeal.Read.val_main_v13_apply,
    Cert.UpDxRefIdeal.Read.val_main_v12_apply, Cert.UpDxRefIdeal.Read.val_main_cst_1_apply]
  refine congrArg₂ (fun a b : EReal => a + b) (Fin.sum_fin_congr fun k => ?_) rfl
  refine congrArg₂ (fun a b : EReal => a * b) (ref_half d _) (congrArg w ?_)
  funext a
  fin_cases a <;> rfl

/-- The kernel's gradient is the reference's. -/
theorem array (c : Dev nD) : (dats m 0 c).arrAt 3 cfg0.N = Cert.UpDxRefIdeal.Read.val_main_v14
    (m ((c : Thread nD τ).loc main_arg0)) (m ((c : Thread nD τ).loc main_arg1)) (m ((c : Thread nD τ).loc main_arg2)) := by
  refine (dats m 0 c).arrAt_eq_of_covers 3 _ (by decide +kernel) fun t hf y => ?_
  have hmod := (flush0_3 t).mp hf
  have hN := lt_of_lt_of_eq t.isLt N_0
  blk_simp [idx t]
  rw [after0_3, written m c t hmod, Pipeline.eq_sum_fin_of_reset_step_apply_of_flush (fun n h => (outsAt0 m c n h).2) 4 (fun _ => 0) _
    (fun t h j => carry_first m c t h j) (fun t h j => carry_next m c t h j) t hmod _, zero_add, ref_entry, Cert.Products.sum_blocks 4 1408 rfl]
  refine congrArg₂ (fun a b : EReal => a + b) (Fin.sum_fin_congr fun s => ?_) ?_
  · simp only [dotB]
    refine Fin.sum_fin_congr fun k => congrArg₂ (fun a b : EReal => a * b) ?_ ?_
    · unfold half
      blk_point [iblk, V, idx ⟨4 * (t.val / 4) + s.val, Pipeline.run_point_lt_of_flush t hmod s⟩, idx t]
    · blk_point [iblk, V, idx ⟨4 * (t.val / 4) + s.val, Pipeline.run_point_lt_of_flush t hmod s⟩, idx t]
  · unfold scaled
    blk_point [iblk, V, idx t]

/-- Over ideal values the kernel and the reference end with the same gradient, and both keep their arguments. -/
theorem algebraic : Cert.algebraic_UpDxIdeal_UpDxRefIdeal := by
  intro m g m' g' _ hargs
  refine ⟨fun c => (dats m 0 c).arrAt 3 cfg0.N, run_blocks m g, ?_⟩
  refine (θ_run _ _ _).mono (fun r h c => ⟨(h c).1.trans ?_, (h c).2⟩) (Cert.UpDxRefIdeal.Value.run m' g')
  obtain ⟨a0, a1, a2⟩ := hargs c
  refine (Cert.UpDxRefIdeal.Read.val_main_v14_eq _ _ _).trans ?_
  rw [a0, a1, a2]
  exact (array m c).symm

/-- The reference keeps its arguments and ends with its counters at zero. -/
theorem ref_frame : Cert.quiescent_UpDxRefIdeal := fun m g _ =>
  (θ_run Cert.UpDxRefIdeal.defs _ _).mono (fun r h => ⟨fun c => (h c).2,
      Idealize.ShloMosaic.sem_eq_zero_of_no_sems (by decide) r.2⟩)
    (Cert.UpDxRefIdeal.Value.run (F := Ideal) m g)

end Cert.UpDxIdeal.Value
-- ==== Proof.UpDwValue.lean ====
module

public import proofs.«01_k».proof.Defs
public import proofs.«01_k».proof.Proof.Products
public import proofs.«01_k».proof.Proof.Gen.UpDwIdeal.Value
public import proofs.«01_k».proof.Proof.Gen.UpDwRefIdeal.Run
public import proofs.«01_k».proof.Proof.Gen.UpDwRefIdeal.Read
public import Idealize.ShloMosaic.Lib.Pipeline.ReadBack
public import Idealize.ShloMosaic.Lib.Claim

/-! # The gradient of the weights of the product up

Two grid points in turn, one for each half of the rows, add their products up in a carried buffer; the second rounds the
sum into layer 0 of a stack of four layers, whose other layers stay as they were. -/

@[expose] public section

set_option maxRecDepth 16384
noncomputable section
open Idealize.ShloMosaic Idealize.ShloMosaic.TcCoe Idealize.SL.Sem
open Idealize.ShloMosaic.Pipeline (Dat)

namespace Cert.UpDwIdeal.Value
open Cert.UpDwIdeal.Gen

/-- The block each window reads or writes at a grid point. -/
theorem idx : ∀ t : Fin cfg0.N, win0_0.index t = ![t.val % 2, 0]
    ∧ win0_1.index t = ![t.val / 4, t.val % 2, t.val / 2 % 2] ∧ win0_2.index t = ![0, 0, t.val / 2] :=
  (by decide +kernel : ∀ t : Fin grid0.N, _)

variable (m : (ℓ : Loc nD τ sig) → Buf (Elt Ideal) ℓ)

/-- The product of two blocks over their shared rows. -/
def dotB (x : FVec Ideal S2048x1024 .bf16) (d : FVec Ideal S1x2048x1408 .bf16) (p : Fin 1024) (q : Fin 1408) : EReal :=
  ∑ k : Fin 2048, x (ix2 k p) * d (ix3 0 k q)

/-- The first point of two leaves its product in the carried buffer. -/
theorem first (c : Dev nD) (t : Fin cfg0.N) (h0 : t.val % 2 = 0) (h1 : ¬t.val % 2 = 1) (j : S1024x1408.Idx) :
    (outsAt0 m c t.val t.isLt).2 j
      = 0 + dotB (iblk m c 0 t) (iblk m c 1 t) (j 0) (j 1) := by
  rw [outsAt0_A m c t h0 h1]; frame_out
  simp only [dotB]
  pointwise [k0_pay1, k0_pay2]

/-- The second point adds its product and writes the rounded sum. -/
theorem second (c : Dev nD) (t : Fin cfg0.N) (h0 : ¬t.val % 2 = 0) (h1 : t.val % 2 = 1) (j : S1x1024x1408.Idx) :
    (outsAt0 m c t.val t.isLt).1 j
      = (outsAt0 m c (t.val - 1) (lt_of_le_of_lt (Nat.sub_le _ _) t.isLt)).2 (show S1024x1408.Idx from ix2 (j 1) (j 2))
        + dotB (iblk m c 0 t) (iblk m c 1 t) (j 1) (j 2) := by
  rw [outsAt0_B m c t h0 h1]; frame_out
  simp only [dotB]
  pointwise [k0_pay2, k0_pay3]
  exact congrArg (· + _) (congrFun (read_unread_whole _ _ _) _)

/-- The incoming gradient with its two halves side by side. -/
def half (d : FVec Ideal S2x4096x2816 .bf16) (k : Fin 4096) (q : Fin 5632) : EReal :=
  d (ix3 (⟨q / 2816, by omega⟩ : Fin 2) k (⟨q % 2816, by omega⟩ : Fin 2816))

/-- The reference puts the halves side by side. -/
theorem ref_half (d : FVec Ideal S2x4096x2816 .bf16) (i : Cert.UpDwRefIdeal.S4096x5632.Idx) :
    Cert.UpDwRefIdeal.Read.val_main_v5 (F := Ideal) d i = half d (i 0) (i 1) := by
  rw [Cert.UpDwRefIdeal.Read.val_main_v5_apply]
  unfold Cert.UpDwRefIdeal.Read.val_main_v4 half
  pointwise
  have hi : (i 1 : ℕ) < 5632 := (i 1).isLt
  split
  · rw [Cert.UpDwRefIdeal.Read.val_main_v1_apply, Cert.UpDwRefIdeal.Read.val_main_v0_apply]
    refine congrArg d ?_
    funext a
    fin_cases a <;> refine Fin.ext ?_ <;> simp <;> omega
  · rw [Cert.UpDwRefIdeal.Read.val_main_v3_apply, Cert.UpDwRefIdeal.Read.val_main_v2_apply]
    refine congrArg d ?_
    funext a
    fin_cases a <;> refine Fin.ext ?_ <;> simp <;> omega

/-- Layer 0 of the reference's stack is the gradient of the weights. -/
theorem ref_layer (x : FVec Ideal S4096x1024 .bf16) (d : FVec Ideal S2x4096x2816 .bf16) (b : FVec Ideal S4x1024x5632 .bf16)
    (i : S4x1024x5632.Idx) (h : (i 0 : ℕ) = 0) : Cert.UpDwRefIdeal.Read.val_main_v14 (F := Ideal) x d b i
      = ∑ k : Fin 4096, x (ix2 k (i 1)) * half d k (i 2) := by
  unfold Cert.UpDwRefIdeal.Read.val_main_v14
  pointwise
  rw [dif_pos (by omega), Cert.UpDwRefIdeal.Read.val_main_v12_apply, Cert.UpDwRefIdeal.Read.val_main_v11_apply,
    Cert.UpDwRefIdeal.Read.val_main_v10_apply]
  refine (Cert.UpDwRefIdeal.Read.val_main_v9_apply _ _ _).trans (Fin.sum_fin_congr fun k => ?_)
  refine (mul_comm (_ : EReal) _).trans (congrArg₂ (fun a b : EReal => a * b) (congrArg x ?_) (ref_half d _))
  (funext a; fin_cases a <;> rfl)

/-- The other layers of the reference's stack are the given ones. -/
theorem ref_rest (x : FVec Ideal S4096x1024 .bf16) (d : FVec Ideal S2x4096x2816 .bf16) (b : FVec Ideal S4x1024x5632 .bf16)
    (i : S4x1024x5632.Idx) (h : ¬(i 0 : ℕ) = 0) : Cert.UpDwRefIdeal.Read.val_main_v14 (F := Ideal) x d b i = b i := by
  unfold Cert.UpDwRefIdeal.Read.val_main_v14
  pointwise
  rw [dif_neg (by omega), Cert.UpDwRefIdeal.Read.val_main_v13_apply]
  refine congrArg b ?_
  funext a
  fin_cases a
  · exact Fin.ext (by simp; omega)
  all_goals rfl

/-- The kernel's stack is the reference's. -/
theorem array (c : Dev nD) : (dats m 0 c).arrAt 2 cfg0.N = Cert.UpDwRefIdeal.Read.val_main_v14
    (m ((c : Thread nD τ).loc main_arg0)) (m ((c : Thread nD τ).loc main_arg1)) (m ((c : Thread nD τ).loc main_arg2)) := by
  refine (dats m 0 c).arrAt_eq_of_coversWhere_of_agree 2 _ (fun β => β (0 : Fin 3) = 0) (by decide +kernel) (fun t hf y => ?_) (fun j hj => ?_)
  · have hmod : t.val % 2 = 1 := (flush0_2 t).mp hf
    have hN := lt_of_lt_of_eq t.isLt N_0
    blk_simp [idx t]
    rw [after0_2, second m c t (by omega) hmod, first m c ⟨t.val - 1, lt_of_le_of_lt (Nat.sub_le _ _) t.isLt⟩ (by show (t.val - 1) % 2 = 0; omega) (by show ¬(t.val - 1) % 2 = 1; omega),
      zero_add, ref_layer _ _ _ _ (by blk_simp [idx t]), Cert.Products.sum_blocks 2 2048 rfl, Fin.sum_univ_two]
    refine congrArg₂ (fun a b : EReal => a + b) (Fin.sum_fin_congr fun k => ?_) (Fin.sum_fin_congr fun k => ?_)
    all_goals refine congrArg₂ (fun a b : EReal => a * b) ?_ ?_
    all_goals try unfold half
    all_goals blk_point [iblk, V, idx t, idx ⟨t.val - 1, lt_of_le_of_lt (Nat.sub_le _ _) t.isLt⟩]
  · blk_simp [Pipeline.Window.cell_apply] at hj
    rw [ref_rest _ _ _ _ (by blk_simp; omega)]
    rw [A_eq]
    entry_read
    rfl

/-- Over ideal values the kernel and the reference end with the same stack, and both keep their arguments. -/
theorem algebraic : Cert.algebraic_UpDwIdeal_UpDwRefIdeal := by
  intro m g m' g' _ hargs
  refine ⟨fun c => (dats m 0 c).arrAt 2 cfg0.N, run_blocks m g, ?_⟩
  refine (θ_run _ _ _).mono (fun r h c => ⟨(h c).1.trans ?_, (h c).2⟩) (Cert.UpDwRefIdeal.Value.run m' g')
  obtain ⟨a0, a1, a2⟩ := hargs c
  refine (Cert.UpDwRefIdeal.Read.val_main_v14_eq _ _ _).trans ?_
  rw [a0, a1, a2]
  exact (array m c).symm

/-- The reference keeps its arguments and ends with its counters at zero. -/
theorem ref_frame : Cert.quiescent_UpDwRefIdeal := fun m g _ =>
  (θ_run Cert.UpDwRefIdeal.defs _ _).mono (fun r h => ⟨fun c => (h c).2,
      Idealize.ShloMosaic.sem_eq_zero_of_no_sems (by decide) r.2⟩)
    (Cert.UpDwRefIdeal.Value.run (F := Ideal) m g)

end Cert.UpDwIdeal.Value
-- ==== Proof.DownDxValue.lean ====
module

public import proofs.«01_k».proof.Proof.Gen.DownDxIdeal.Value
public import proofs.«01_k».proof.Proof.Gen.DownDxRefIdeal.Run
public import proofs.«01_k».proof.Proof.Gen.DownDxRefIdeal.Read
public import Idealize.ShloMosaic.Lib.Pipeline.ValueKit
public import Idealize.ShloMosaic.Lib.Claim
public import proofs.«01_k».proof.Defs

/-! # The gradient of the activations of the product down

Each grid point multiplies 1024 rows of the incoming gradient by 1408 rows of the weights, transposed. -/

@[expose] public section

set_option maxRecDepth 16384
noncomputable section
open Idealize.ShloMosaic Idealize.ShloMosaic.TcCoe Idealize.SL.Sem
open Idealize.ShloMosaic.Pipeline (Dat)

namespace Cert.DownDxIdeal.Value
open Cert.DownDxIdeal.Gen

/-- The block each window reads or writes at a grid point. -/
theorem idx : ∀ t : Fin cfg0.N, win0_0.index t = ![t.val / 2, 0] ∧ win0_1.index t = ![t.val % 2, 0]
    ∧ win0_2.index t = ![t.val / 2, t.val % 2] :=
  (by decide +kernel : ∀ t : Fin grid0.N, _)

variable (m : (ℓ : Loc nD τ sig) → Buf (Elt Ideal) ℓ)

/-- An entry of the stored block. -/
theorem block_entry (x : FVec Ideal S1024x1024 .bf16) (w : FVec Ideal S1408x1024 .bf16) (y : S1024x1408.Idx) :
    out0_2 (F := Ideal) x w y = ∑ k : Fin 1024, x (ix2 (y 0) k) * w (ix2 (y 1) k) := by
  unfold out0_2
  canon_tiles z hz
  pointwise [k0_pay1]
  rw [Fin.ext hz0, Fin.ext hz1]

/-- The kernel's result is the reference's. -/
theorem array (c : Dev nD) : (dats m 0 c).arrAt 2 cfg0.N = Cert.DownDxRefIdeal.Read.val_main_v5
    (m ((c : Thread nD τ).loc main_arg0)) (m ((c : Thread nD τ).loc main_arg1)) := by
  refine (dats m 0 c).arrAt_eq_of_covers 2 _ (by decide +kernel) fun t hf y => ?_
  blk_simp [idx t]
  rw [after0_2]
  rw [block_entry]
  rw [Cert.DownDxRefIdeal.Read.val_main_v5_apply, Cert.DownDxRefIdeal.Read.val_main_v4_apply]
  refine Fin.sum_fin_congr fun k => ?_
  refine congrArg₂ (fun a b : EReal => a * b) ?_ ?_
  · blk_point [iblk, V, idx t]
  · blk_point [iblk, V, idx t]

/-- Over ideal values the kernel and the reference end with the same product, and both keep their arguments. -/
theorem algebraic : Cert.algebraic_DownDxIdeal_DownDxRefIdeal := by
  intro m g m' g' _ hargs
  refine ⟨fun c => (dats m 0 c).arrAt 2 cfg0.N, run_blocks m g, ?_⟩
  refine (θ_run _ _ _).mono (fun r h c => ⟨(h c).1.trans ?_, (h c).2⟩) (Cert.DownDxRefIdeal.Value.run m' g')
  obtain ⟨a0, a1⟩ := hargs c
  refine (Cert.DownDxRefIdeal.Read.val_main_v5_eq _ _).trans ?_
  rw [a0, a1]
  exact (array m c).symm

/-- The reference keeps its arguments and ends with its counters at zero. -/
theorem ref_frame : Cert.quiescent_DownDxRefIdeal := fun m g _ =>
  (θ_run Cert.DownDxRefIdeal.defs _ _).mono (fun r h => ⟨fun c => (h c).2,
      Idealize.ShloMosaic.sem_eq_zero_of_no_sems (by decide) r.2⟩)
    (Cert.DownDxRefIdeal.Value.run (F := Ideal) m g)

end Cert.DownDxIdeal.Value
-- ==== Proof.DownDwValue.lean ====
module

public import proofs.«01_k».proof.Defs
public import proofs.«01_k».proof.Proof.Products
public import proofs.«01_k».proof.Proof.Gen.DownDwIdeal.Value
public import proofs.«01_k».proof.Proof.Gen.DownDwRefIdeal.Run
public import proofs.«01_k».proof.Proof.Gen.DownDwRefIdeal.Read
public import Idealize.ShloMosaic.Lib.Pipeline.ReadBack
public import Idealize.ShloMosaic.Lib.Claim

/-! # The gradient of the weights of the product down

Two grid points in turn, one for each half of the rows, add their products up in a carried buffer; the second rounds the
sum into layer 0 of a stack of four layers, whose other layers stay as they were. -/

@[expose] public section

set_option maxRecDepth 16384
noncomputable section
open Idealize.ShloMosaic Idealize.ShloMosaic.TcCoe Idealize.SL.Sem
open Idealize.ShloMosaic.Pipeline (Dat)

namespace Cert.DownDwIdeal.Value
open Cert.DownDwIdeal.Gen

/-- The block each window reads or writes at a grid point. -/
theorem idx : ∀ t : Fin cfg0.N, win0_0.index t = ![t.val % 2, t.val / 2] ∧ win0_1.index t = ![t.val % 2, 0]
    ∧ win0_2.index t = ![0, t.val / 2, 0] :=
  (by decide +kernel : ∀ t : Fin grid0.N, _)

variable (m : (ℓ : Loc nD τ sig) → Buf (Elt Ideal) ℓ)

/-- The product of two blocks over their shared rows. -/
def dotB (x : FVec Ideal S2048x1408 .bf16) (d : FVec Ideal S2048x1024 .bf16) (p : Fin 1408) (q : Fin 1024) : EReal :=
  ∑ k : Fin 2048, x (ix2 k p) * d (ix2 k q)

/-- The first point of two leaves its product in the carried buffer. -/
theorem first (c : Dev nD) (t : Fin cfg0.N) (h0 : t.val % 2 = 0) (h1 : ¬t.val % 2 = 1) (j : S1408x1024.Idx) :
    (outsAt0 m c t.val t.isLt).2 j
      = 0 + dotB (iblk m c 0 t) (iblk m c 1 t) (j 0) (j 1) := by
  rw [outsAt0_A m c t h0 h1]; frame_out
  simp only [dotB]
  pointwise [k0_pay1, k0_pay2]

/-- The second point adds its product and writes the rounded sum. -/
theorem second (c : Dev nD) (t : Fin cfg0.N) (h0 : ¬t.val % 2 = 0) (h1 : t.val % 2 = 1) (j : S1x1408x1024.Idx) :
    (outsAt0 m c t.val t.isLt).1 j
      = (outsAt0 m c (t.val - 1) (lt_of_le_of_lt (Nat.sub_le _ _) t.isLt)).2 (show S1408x1024.Idx from ix2 (j 1) (j 2))
        + dotB (iblk m c 0 t) (iblk m c 1 t) (j 1) (j 2) := by
  rw [outsAt0_B m c t h0 h1]; frame_out
  simp only [dotB]
  pointwise [k0_pay2, k0_pay3]
  exact congrArg (· + _) (congrFun (read_unread_whole _ _ _) _)

/-- Layer 0 of the reference's stack is the gradient of the weights. -/
theorem ref_layer (x : FVec Ideal S4096x2816 .bf16) (d : FVec Ideal S4096x1024 .bf16) (b : FVec Ideal S4x2816x1024 .bf16)
    (i : S4x2816x1024.Idx) (h : (i 0 : ℕ) = 0) : Cert.DownDwRefIdeal.Read.val_main_v9 (F := Ideal) x d b i
      = ∑ k : Fin 4096, x (ix2 k (i 1)) * d (ix2 k (i 2)) := by
  unfold Cert.DownDwRefIdeal.Read.val_main_v9
  pointwise
  rw [dif_pos (by omega), Cert.DownDwRefIdeal.Read.val_main_v7_apply, Cert.DownDwRefIdeal.Read.val_main_v6_apply,
    Cert.DownDwRefIdeal.Read.val_main_v5_apply]
  refine (Cert.DownDwRefIdeal.Read.val_main_v4_apply _ _ _).trans (Fin.sum_fin_congr fun k => ?_)
  refine (mul_comm (_ : EReal) _).trans (congrArg₂ (fun a b : EReal => a * b) (congrArg x ?_) (congrArg d ?_))
  all_goals (funext a; fin_cases a <;> rfl)

/-- The other layers of the reference's stack are the given ones. -/
theorem ref_rest (x : FVec Ideal S4096x2816 .bf16) (d : FVec Ideal S4096x1024 .bf16) (b : FVec Ideal S4x2816x1024 .bf16)
    (i : S4x2816x1024.Idx) (h : ¬(i 0 : ℕ) = 0) : Cert.DownDwRefIdeal.Read.val_main_v9 (F := Ideal) x d b i = b i := by
  unfold Cert.DownDwRefIdeal.Read.val_main_v9
  pointwise
  rw [dif_neg (by omega), Cert.DownDwRefIdeal.Read.val_main_v8_apply]
  refine congrArg b ?_
  funext a
  fin_cases a
  · exact Fin.ext (by simp; omega)
  all_goals rfl

/-- The kernel's stack is the reference's. -/
theorem array (c : Dev nD) : (dats m 0 c).arrAt 2 cfg0.N = Cert.DownDwRefIdeal.Read.val_main_v9
    (m ((c : Thread nD τ).loc main_arg0)) (m ((c : Thread nD τ).loc main_arg1)) (m ((c : Thread nD τ).loc main_arg2)) := by
  refine (dats m 0 c).arrAt_eq_of_coversWhere_of_agree 2 _ (fun β => β (0 : Fin 3) = 0) (by decide +kernel) (fun t hf y => ?_) (fun j hj => ?_)
  · have hmod : t.val % 2 = 1 := (flush0_2 t).mp hf
    have hN := lt_of_lt_of_eq t.isLt N_0
    blk_simp [idx t]
    rw [after0_2, second m c t (by omega) hmod, first m c ⟨t.val - 1, lt_of_le_of_lt (Nat.sub_le _ _) t.isLt⟩ (by show (t.val - 1) % 2 = 0; omega) (by show ¬(t.val - 1) % 2 = 1; omega),
      zero_add, ref_layer _ _ _ _ (by blk_simp [idx t]), Cert.Products.sum_blocks 2 2048 rfl, Fin.sum_univ_two]
    refine congrArg₂ (fun a b : EReal => a + b) (Fin.sum_fin_congr fun k => ?_) (Fin.sum_fin_congr fun k => ?_)
    all_goals refine congrArg₂ (fun a b : EReal => a * b) ?_ ?_
    all_goals blk_point [iblk, V, idx t, idx ⟨t.val - 1, lt_of_le_of_lt (Nat.sub_le _ _) t.isLt⟩]
  · blk_simp [Pipeline.Window.cell_apply] at hj
    rw [ref_rest _ _ _ _ (by blk_simp; omega)]
    rw [A_eq]
    entry_read
    rfl

/-- Over ideal values the kernel and the reference end with the same stack, and both keep their arguments. -/
theorem algebraic : Cert.algebraic_DownDwIdeal_DownDwRefIdeal := by
  intro m g m' g' _ hargs
  refine ⟨fun c => (dats m 0 c).arrAt 2 cfg0.N, run_blocks m g, ?_⟩
  refine (θ_run _ _ _).mono (fun r h c => ⟨(h c).1.trans ?_, (h c).2⟩) (Cert.DownDwRefIdeal.Value.run m' g')
  obtain ⟨a0, a1, a2⟩ := hargs c
  refine (Cert.DownDwRefIdeal.Read.val_main_v9_eq _ _ _).trans ?_
  rw [a0, a1, a2]
  exact (array m c).symm

/-- The reference keeps its arguments and ends with its counters at zero. -/
theorem ref_frame : Cert.quiescent_DownDwRefIdeal := fun m g _ =>
  (θ_run Cert.DownDwRefIdeal.defs _ _).mono (fun r h => ⟨fun c => (h c).2,
      Idealize.ShloMosaic.sem_eq_zero_of_no_sems (by decide) r.2⟩)
    (Cert.DownDwRefIdeal.Value.run (F := Ideal) m g)

end Cert.DownDwIdeal.Value
-- ==== Proof.AInValue.lean ====
module

public import proofs.«01_k».proof.Proof.Gen.AInIdeal.Value
public import proofs.«01_k».proof.Proof.Gen.AInRefIdeal.Run
public import proofs.«01_k».proof.Proof.Gen.AInRefIdeal.Read
public import Idealize.ShloMosaic.Lib.Pipeline.ValueKit
public import Idealize.ShloMosaic.Lib.Claim
public import proofs.«01_k».proof.Defs

/-! # The product into the spatial gating unit

Each grid point multiplies 1024 rows of the input by 1024 columns of the weights; the inner dimension is not cut. -/

@[expose] public section

set_option maxRecDepth 16384
noncomputable section
open Idealize.ShloMosaic Idealize.ShloMosaic.TcCoe Idealize.SL.Sem
open Idealize.ShloMosaic.Pipeline (Dat)

namespace Cert.AInIdeal.Value
open Cert.AInIdeal.Gen

/-- The block each window reads or writes at a grid point. -/
theorem idx : ∀ t : Fin cfg0.N, win0_0.index t = ![t.val / 4, 0] ∧ win0_1.index t = ![0, t.val % 4]
    ∧ win0_2.index t = ![t.val / 4, t.val % 4] :=
  (by decide +kernel : ∀ t : Fin grid0.N, _)

variable (m : (ℓ : Loc nD τ sig) → Buf (Elt Ideal) ℓ)

/-- An entry of the stored block. -/
theorem block_entry (x : FVec Ideal S1024x1024 .bf16) (w : FVec Ideal S1024x1024 .bf16) (y : S1024x1024.Idx) :
    out0_2 (F := Ideal) x w y = ∑ k : Fin 1024, x (ix2 (y 0) k) * w (ix2 k (y 1)) := by
  unfold out0_2
  canon_tiles z hz
  pointwise [k0_pay1]
  rw [Fin.ext hz0, Fin.ext hz1]

/-- The kernel's result is the reference's. -/
theorem array (c : Dev nD) : (dats m 0 c).arrAt 2 cfg0.N = Cert.AInRefIdeal.Read.val_main_v3
    (m ((c : Thread nD τ).loc main_arg0)) (m ((c : Thread nD τ).loc main_arg1)) := by
  refine (dats m 0 c).arrAt_eq_of_covers 2 _ (by decide +kernel) fun t hf y => ?_
  blk_simp [idx t]
  rw [after0_2]
  rw [block_entry]
  rw [Cert.AInRefIdeal.Read.val_main_v3_apply, Cert.AInRefIdeal.Read.val_main_v2_apply]
  refine Fin.sum_fin_congr fun k => ?_
  refine congrArg₂ (fun a b : EReal => a * b) ?_ ?_
  · blk_point [iblk, V, idx t]
  · blk_point [iblk, V, idx t]

/-- Over ideal values the kernel and the reference end with the same product, and both keep their arguments. -/
theorem algebraic : Cert.algebraic_AInIdeal_AInRefIdeal := by
  intro m g m' g' _ hargs
  refine ⟨fun c => (dats m 0 c).arrAt 2 cfg0.N, run_blocks m g, ?_⟩
  refine (θ_run _ _ _).mono (fun r h c => ⟨(h c).1.trans ?_, (h c).2⟩) (Cert.AInRefIdeal.Value.run m' g')
  obtain ⟨a0, a1⟩ := hargs c
  refine (Cert.AInRefIdeal.Read.val_main_v3_eq _ _).trans ?_
  rw [a0, a1]
  exact (array m c).symm

/-- The reference keeps its arguments and ends with its counters at zero. -/
theorem ref_frame : Cert.quiescent_AInRefIdeal := fun m g _ =>
  (θ_run Cert.AInRefIdeal.defs _ _).mono (fun r h => ⟨fun c => (h c).2,
      Idealize.ShloMosaic.sem_eq_zero_of_no_sems (by decide) r.2⟩)
    (Cert.AInRefIdeal.Value.run (F := Ideal) m g)

end Cert.AInIdeal.Value
-- ==== Proof.AOutValue.lean ====
module

public import proofs.«01_k».proof.Proof.Gen.AOutIdeal.Value
public import proofs.«01_k».proof.Proof.Gen.AOutRefIdeal.Run
public import proofs.«01_k».proof.Proof.Gen.AOutRefIdeal.Read
public import Idealize.ShloMosaic.Lib.Pipeline.ValueKit
public import Idealize.ShloMosaic.Lib.Claim
public import proofs.«01_k».proof.Defs

/-! # The product out of the spatial gating unit

Each grid point multiplies 1024 rows of the gated values by all the weights; the inner dimension is not cut. -/

@[expose] public section

set_option maxRecDepth 16384
noncomputable section
open Idealize.ShloMosaic Idealize.ShloMosaic.TcCoe Idealize.SL.Sem
open Idealize.ShloMosaic.Pipeline (Dat)

namespace Cert.AOutIdeal.Value
open Cert.AOutIdeal.Gen

/-- The block each window reads or writes at a grid point. -/
theorem idx : ∀ t : Fin cfg0.N, win0_0.index t = ![t.val, 0] ∧ win0_1.index t = ![0, 0]
    ∧ win0_2.index t = ![t.val, 0] :=
  (by decide +kernel : ∀ t : Fin grid0.N, _)

variable (m : (ℓ : Loc nD τ sig) → Buf (Elt Ideal) ℓ)

/-- An entry of the stored block. -/
theorem block_entry (x : FVec Ideal S1024x2048 .bf16) (w : FVec Ideal S2048x1024 .bf16) (y : S1024x1024.Idx) :
    out0_2 (F := Ideal) x w y = ∑ k : Fin 2048, x (ix2 (y 0) k) * w (ix2 k (y 1)) := by
  unfold out0_2
  canon_tiles z hz
  pointwise [k0_pay1]
  rw [Fin.ext hz0, Fin.ext hz1]

/-- The kernel's result is the reference's. -/
theorem array (c : Dev nD) : (dats m 0 c).arrAt 2 cfg0.N = Cert.AOutRefIdeal.Read.val_main_v2
    (m ((c : Thread nD τ).loc main_arg0)) (m ((c : Thread nD τ).loc main_arg1)) := by
  refine (dats m 0 c).arrAt_eq_of_covers 2 _ (by decide +kernel) fun t hf y => ?_
  blk_simp [idx t]
  rw [after0_2]
  rw [block_entry]
  rw [Cert.AOutRefIdeal.Read.val_main_v2_apply]
  refine Fin.sum_fin_congr fun k => ?_
  refine congrArg₂ (fun a b : EReal => a * b) ?_ ?_
  · blk_point [iblk, V, idx t]
  · blk_point [iblk, V, idx t]

/-- Over ideal values the kernel and the reference end with the same product, and both keep their arguments. -/
theorem algebraic : Cert.algebraic_AOutIdeal_AOutRefIdeal := by
  intro m g m' g' _ hargs
  refine ⟨fun c => (dats m 0 c).arrAt 2 cfg0.N, run_blocks m g, ?_⟩
  refine (θ_run _ _ _).mono (fun r h c => ⟨(h c).1.trans ?_, (h c).2⟩) (Cert.AOutRefIdeal.Value.run m' g')
  obtain ⟨a0, a1⟩ := hargs c
  refine (Cert.AOutRefIdeal.Read.val_main_v2_eq _ _).trans ?_
  rw [a0, a1]
  exact (array m c).symm

/-- The reference keeps its arguments and ends with its counters at zero. -/
theorem ref_frame : Cert.quiescent_AOutRefIdeal := fun m g _ =>
  (θ_run Cert.AOutRefIdeal.defs _ _).mono (fun r h => ⟨fun c => (h c).2,
      Idealize.ShloMosaic.sem_eq_zero_of_no_sems (by decide) r.2⟩)
    (Cert.AOutRefIdeal.Value.run (F := Ideal) m g)

end Cert.AOutIdeal.Value
-- ==== Proof.AOutDwValue.lean ====
module

public import proofs.«01_k».proof.Defs
public import proofs.«01_k».proof.Proof.Products
public import proofs.«01_k».proof.Proof.Gen.AOutDwIdeal.Value
public import proofs.«01_k».proof.Proof.Gen.AOutDwRefIdeal.Run
public import proofs.«01_k».proof.Proof.Gen.AOutDwRefIdeal.Read
public import Idealize.ShloMosaic.Lib.Pipeline.ReadBack
public import Idealize.ShloMosaic.Lib.Claim

/-! # The gradient of the weights of the product out

Two grid points in turn, one for each half of the rows, add their products up in a carried buffer; the second rounds the
sum into layer 0 of a stack of two layers, whose other layer stays as it was. -/

@[expose] public section

set_option maxRecDepth 16384
noncomputable section
open Idealize.ShloMosaic Idealize.ShloMosaic.TcCoe Idealize.SL.Sem
open Idealize.ShloMosaic.Pipeline (Dat)

namespace Cert.AOutDwIdeal.Value
open Cert.AOutDwIdeal.Gen

/-- The block each window reads or writes at a grid point. -/
theorem idx : ∀ t : Fin cfg0.N, win0_0.index t = ![t.val % 2, t.val / 2] ∧ win0_1.index t = ![t.val % 2, 0]
    ∧ win0_2.index t = ![0, t.val / 2, 0] :=
  (by decide +kernel : ∀ t : Fin grid0.N, _)

variable (m : (ℓ : Loc nD τ sig) → Buf (Elt Ideal) ℓ)

/-- The product of two blocks over their shared rows. -/
def dotB (x : FVec Ideal S2048x1024 .bf16) (d : FVec Ideal S2048x1024 .bf16) (p : Fin 1024) (q : Fin 1024) : EReal :=
  ∑ k : Fin 2048, x (ix2 k p) * d (ix2 k q)

/-- The first point of two leaves its product in the carried buffer. -/
theorem first (c : Dev nD) (t : Fin cfg0.N) (h0 : t.val % 2 = 0) (h1 : ¬t.val % 2 = 1) (j : S1024x1024.Idx) :
    (outsAt0 m c t.val t.isLt).2 j
      = 0 + dotB (iblk m c 0 t) (iblk m c 1 t) (j 0) (j 1) := by
  rw [outsAt0_A m c t h0 h1]; frame_out
  simp only [dotB]
  pointwise [k0_pay1, k0_pay2]

/-- The second point adds its product and writes the rounded sum. -/
theorem second (c : Dev nD) (t : Fin cfg0.N) (h0 : ¬t.val % 2 = 0) (h1 : t.val % 2 = 1) (j : S1x1024x1024.Idx) :
    (outsAt0 m c t.val t.isLt).1 j
      = (outsAt0 m c (t.val - 1) (lt_of_le_of_lt (Nat.sub_le _ _) t.isLt)).2 (show S1024x1024.Idx from ix2 (j 1) (j 2))
        + dotB (iblk m c 0 t) (iblk m c 1 t) (j 1) (j 2) := by
  rw [outsAt0_B m c t h0 h1]; frame_out
  simp only [dotB]
  pointwise [k0_pay2, k0_pay3]
  exact congrArg (· + _) (congrFun (read_unread_whole _ _ _) _)

/-- Layer 0 of the reference's stack is the gradient of the weights. -/
theorem ref_layer (x : FVec Ideal S4096x2048 .bf16) (d : FVec Ideal S4096x1024 .bf16) (b : FVec Ideal S2x2048x1024 .bf16)
    (i : S2x2048x1024.Idx) (h : (i 0 : ℕ) = 0) : Cert.AOutDwRefIdeal.Read.val_main_v9 (F := Ideal) x d b i
      = ∑ k : Fin 4096, x (ix2 k (i 1)) * d (ix2 k (i 2)) := by
  unfold Cert.AOutDwRefIdeal.Read.val_main_v9
  pointwise
  rw [dif_pos (by omega), Cert.AOutDwRefIdeal.Read.val_main_v7_apply, Cert.AOutDwRefIdeal.Read.val_main_v6_apply,
    Cert.AOutDwRefIdeal.Read.val_main_v5_apply]
  refine (Cert.AOutDwRefIdeal.Read.val_main_v4_apply _ _ _).trans (Fin.sum_fin_congr fun k => ?_)
  refine (mul_comm (_ : EReal) _).trans (congrArg₂ (fun a b : EReal => a * b) (congrArg x ?_) (congrArg d ?_))
  all_goals (funext a; fin_cases a <;> rfl)

/-- The other layer of the reference's stack is the given one. -/
theorem ref_rest (x : FVec Ideal S4096x2048 .bf16) (d : FVec Ideal S4096x1024 .bf16) (b : FVec Ideal S2x2048x1024 .bf16)
    (i : S2x2048x1024.Idx) (h : ¬(i 0 : ℕ) = 0) : Cert.AOutDwRefIdeal.Read.val_main_v9 (F := Ideal) x d b i = b i := by
  unfold Cert.AOutDwRefIdeal.Read.val_main_v9
  pointwise
  rw [dif_neg (by omega), Cert.AOutDwRefIdeal.Read.val_main_v8_apply]
  refine congrArg b ?_
  funext a
  fin_cases a
  · exact Fin.ext (by simp; omega)
  all_goals rfl

/-- The kernel's stack is the reference's. -/
theorem array (c : Dev nD) : (dats m 0 c).arrAt 2 cfg0.N = Cert.AOutDwRefIdeal.Read.val_main_v9
    (m ((c : Thread nD τ).loc main_arg0)) (m ((c : Thread nD τ).loc main_arg1)) (m ((c : Thread nD τ).loc main_arg2)) := by
  refine (dats m 0 c).arrAt_eq_of_coversWhere_of_agree 2 _ (fun β => β (0 : Fin 3) = 0) (by decide +kernel) (fun t hf y => ?_) (fun j hj => ?_)
  · have hmod : t.val % 2 = 1 := (flush0_2 t).mp hf
    have hN := lt_of_lt_of_eq t.isLt N_0
    blk_simp [idx t]
    rw [after0_2, second m c t (by omega) hmod, first m c ⟨t.val - 1, lt_of_le_of_lt (Nat.sub_le _ _) t.isLt⟩ (by show (t.val - 1) % 2 = 0; omega) (by show ¬(t.val - 1) % 2 = 1; omega),
      zero_add, ref_layer _ _ _ _ (by blk_simp [idx t]), Cert.Products.sum_blocks 2 2048 rfl, Fin.sum_univ_two]
    refine congrArg₂ (fun a b : EReal => a + b) (Fin.sum_fin_congr fun k => ?_) (Fin.sum_fin_congr fun k => ?_)
    all_goals refine congrArg₂ (fun a b : EReal => a * b) ?_ ?_
    all_goals blk_point [iblk, V, idx t, idx ⟨t.val - 1, lt_of_le_of_lt (Nat.sub_le _ _) t.isLt⟩]
  · blk_simp [Pipeline.Window.cell_apply] at hj
    rw [ref_rest _ _ _ _ (by blk_simp; omega)]
    rw [A_eq]
    entry_read
    rfl

/-- Over ideal values the kernel and the reference end with the same stack, and both keep their arguments. -/
theorem algebraic : Cert.algebraic_AOutDwIdeal_AOutDwRefIdeal := by
  intro m g m' g' _ hargs
  refine ⟨fun c => (dats m 0 c).arrAt 2 cfg0.N, run_blocks m g, ?_⟩
  refine (θ_run _ _ _).mono (fun r h c => ⟨(h c).1.trans ?_, (h c).2⟩) (Cert.AOutDwRefIdeal.Value.run m' g')
  obtain ⟨a0, a1, a2⟩ := hargs c
  refine (Cert.AOutDwRefIdeal.Read.val_main_v9_eq _ _ _).trans ?_
  rw [a0, a1, a2]
  exact (array m c).symm

/-- The reference keeps its arguments and ends with its counters at zero. -/
theorem ref_frame : Cert.quiescent_AOutDwRefIdeal := fun m g _ =>
  (θ_run Cert.AOutDwRefIdeal.defs _ _).mono (fun r h => ⟨fun c => (h c).2,
      Idealize.ShloMosaic.sem_eq_zero_of_no_sems (by decide) r.2⟩)
    (Cert.AOutDwRefIdeal.Value.run (F := Ideal) m g)

end Cert.AOutDwIdeal.Value
-- ==== Proof.AOutDxValue.lean ====
module

public import proofs.«01_k».proof.Proof.Gen.AOutDxIdeal.Value
public import proofs.«01_k».proof.Proof.Gen.AOutDxRefIdeal.Run
public import proofs.«01_k».proof.Proof.Gen.AOutDxRefIdeal.Read
public import Idealize.ShloMosaic.Lib.Pipeline.ValueKit
public import Idealize.ShloMosaic.Lib.Claim
public import proofs.«01_k».proof.Defs

/-! # The gradient of the gated values of the product out

Each grid point multiplies 1024 rows of the incoming gradient by 1024 rows of the weights, transposed. -/

@[expose] public section

set_option maxRecDepth 16384
noncomputable section
open Idealize.ShloMosaic Idealize.ShloMosaic.TcCoe Idealize.SL.Sem
open Idealize.ShloMosaic.Pipeline (Dat)

namespace Cert.AOutDxIdeal.Value
open Cert.AOutDxIdeal.Gen

/-- The block each window reads or writes at a grid point. -/
theorem idx : ∀ t : Fin cfg0.N, win0_0.index t = ![t.val / 2, 0] ∧ win0_1.index t = ![t.val % 2, 0]
    ∧ win0_2.index t = ![t.val / 2, t.val % 2] :=
  (by decide +kernel : ∀ t : Fin grid0.N, _)

variable (m : (ℓ : Loc nD τ sig) → Buf (Elt Ideal) ℓ)

/-- An entry of the stored block. -/
theorem block_entry (x : FVec Ideal S1024x1024 .bf16) (w : FVec Ideal S1024x1024 .bf16) (y : S1024x1024.Idx) :
    out0_2 (F := Ideal) x w y = ∑ k : Fin 1024, x (ix2 (y 0) k) * w (ix2 (y 1) k) := by
  unfold out0_2
  canon_tiles z hz
  pointwise [k0_pay1]
  rw [Fin.ext hz0, Fin.ext hz1]

/-- The kernel's result is the reference's. -/
theorem array (c : Dev nD) : (dats m 0 c).arrAt 2 cfg0.N = Cert.AOutDxRefIdeal.Read.val_main_v5
    (m ((c : Thread nD τ).loc main_arg0)) (m ((c : Thread nD τ).loc main_arg1)) := by
  refine (dats m 0 c).arrAt_eq_of_covers 2 _ (by decide +kernel) fun t hf y => ?_
  blk_simp [idx t]
  rw [after0_2]
  rw [block_entry]
  rw [Cert.AOutDxRefIdeal.Read.val_main_v5_apply, Cert.AOutDxRefIdeal.Read.val_main_v4_apply]
  refine Fin.sum_fin_congr fun k => ?_
  refine congrArg₂ (fun a b : EReal => a * b) ?_ ?_
  · blk_point [iblk, V, idx t]
  · blk_point [iblk, V, idx t]

/-- Over ideal values the kernel and the reference end with the same product, and both keep their arguments. -/
theorem algebraic : Cert.algebraic_AOutDxIdeal_AOutDxRefIdeal := by
  intro m g m' g' _ hargs
  refine ⟨fun c => (dats m 0 c).arrAt 2 cfg0.N, run_blocks m g, ?_⟩
  refine (θ_run _ _ _).mono (fun r h c => ⟨(h c).1.trans ?_, (h c).2⟩) (Cert.AOutDxRefIdeal.Value.run m' g')
  obtain ⟨a0, a1⟩ := hargs c
  refine (Cert.AOutDxRefIdeal.Read.val_main_v5_eq _ _).trans ?_
  rw [a0, a1]
  exact (array m c).symm

/-- The reference keeps its arguments and ends with its counters at zero. -/
theorem ref_frame : Cert.quiescent_AOutDxRefIdeal := fun m g _ =>
  (θ_run Cert.AOutDxRefIdeal.defs _ _).mono (fun r h => ⟨fun c => (h c).2,
      Idealize.ShloMosaic.sem_eq_zero_of_no_sems (by decide) r.2⟩)
    (Cert.AOutDxRefIdeal.Value.run (F := Ideal) m g)

end Cert.AOutDxIdeal.Value
-- ==== Proof.AInDwValue.lean ====
module

public import proofs.«01_k».proof.Defs
public import proofs.«01_k».proof.Proof.Products
public import proofs.«01_k».proof.Proof.Gen.AInDwIdeal.Value
public import proofs.«01_k».proof.Proof.Gen.AInDwRefIdeal.Run
public import proofs.«01_k».proof.Proof.Gen.AInDwRefIdeal.Read
public import Idealize.ShloMosaic.Lib.Pipeline.ReadBack
public import Idealize.ShloMosaic.Lib.Claim

/-! # The gradient of the weights of the product in

Two grid points in turn, one for each half of the rows, add their products up in a carried buffer; the second rounds the
sum into layer 0 of a stack of two layers, whose other layer stays as it was. -/

@[expose] public section

set_option maxRecDepth 16384
noncomputable section
open Idealize.ShloMosaic Idealize.ShloMosaic.TcCoe Idealize.SL.Sem
open Idealize.ShloMosaic.Pipeline (Dat)

namespace Cert.AInDwIdeal.Value
open Cert.AInDwIdeal.Gen

/-- The block each window reads or writes at a grid point. -/
theorem idx : ∀ t : Fin cfg0.N, win0_0.index t = ![t.val % 2, 0] ∧ win0_1.index t = ![t.val % 2, t.val / 2]
    ∧ win0_2.index t = ![0, 0, t.val / 2] :=
  (by decide +kernel : ∀ t : Fin grid0.N, _)

variable (m : (ℓ : Loc nD τ sig) → Buf (Elt Ideal) ℓ)

/-- The product of two blocks over their shared rows. -/
def dotB (x : FVec Ideal S2048x1024 .bf16) (d : FVec Ideal S2048x1024 .bf16) (p : Fin 1024) (q : Fin 1024) : EReal :=
  ∑ k : Fin 2048, x (ix2 k p) * d (ix2 k q)

/-- The first point of two leaves its product in the carried buffer. -/
theorem first (c : Dev nD) (t : Fin cfg0.N) (h0 : t.val % 2 = 0) (h1 : ¬t.val % 2 = 1) (j : S1024x1024.Idx) :
    (outsAt0 m c t.val t.isLt).2 j
      = 0 + dotB (iblk m c 0 t) (iblk m c 1 t) (j 0) (j 1) := by
  rw [outsAt0_A m c t h0 h1]; frame_out
  simp only [dotB]
  pointwise [k0_pay1, k0_pay2]

/-- The second point adds its product and writes the rounded sum. -/
theorem second (c : Dev nD) (t : Fin cfg0.N) (h0 : ¬t.val % 2 = 0) (h1 : t.val % 2 = 1) (j : S1x1024x1024.Idx) :
    (outsAt0 m c t.val t.isLt).1 j
      = (outsAt0 m c (t.val - 1) (lt_of_le_of_lt (Nat.sub_le _ _) t.isLt)).2 (show S1024x1024.Idx from ix2 (j 1) (j 2))
        + dotB (iblk m c 0 t) (iblk m c 1 t) (j 1) (j 2) := by
  rw [outsAt0_B m c t h0 h1]; frame_out
  simp only [dotB]
  pointwise [k0_pay2, k0_pay3]
  exact congrArg (· + _) (congrFun (read_unread_whole _ _ _) _)

/-- Layer 0 of the reference's stack is the gradient of the weights. -/
theorem ref_layer (x : FVec Ideal S4096x1024 .bf16) (d : FVec Ideal S4096x4096 .bf16) (b : FVec Ideal S2x1024x4096 .bf16)
    (i : S2x1024x4096.Idx) (h : (i 0 : ℕ) = 0) : Cert.AInDwRefIdeal.Read.val_main_v9 (F := Ideal) x d b i
      = ∑ k : Fin 4096, x (ix2 k (i 1)) * d (ix2 k (i 2)) := by
  unfold Cert.AInDwRefIdeal.Read.val_main_v9
  pointwise
  rw [dif_pos (by omega), Cert.AInDwRefIdeal.Read.val_main_v7_apply, Cert.AInDwRefIdeal.Read.val_main_v6_apply,
    Cert.AInDwRefIdeal.Read.val_main_v5_apply]
  refine (Cert.AInDwRefIdeal.Read.val_main_v4_apply _ _ _).trans (Fin.sum_fin_congr fun k => ?_)
  refine (mul_comm (_ : EReal) _).trans (congrArg₂ (fun a b : EReal => a * b) (congrArg x ?_) (congrArg d ?_))
  all_goals (funext a; fin_cases a <;> rfl)

/-- The other layer of the reference's stack is the given one. -/
theorem ref_rest (x : FVec Ideal S4096x1024 .bf16) (d : FVec Ideal S4096x4096 .bf16) (b : FVec Ideal S2x1024x4096 .bf16)
    (i : S2x1024x4096.Idx) (h : ¬(i 0 : ℕ) = 0) : Cert.AInDwRefIdeal.Read.val_main_v9 (F := Ideal) x d b i = b i := by
  unfold Cert.AInDwRefIdeal.Read.val_main_v9
  pointwise
  rw [dif_neg (by omega), Cert.AInDwRefIdeal.Read.val_main_v8_apply]
  refine congrArg b ?_
  funext a
  fin_cases a
  · exact Fin.ext (by simp; omega)
  all_goals rfl

/-- The kernel's stack is the reference's. -/
theorem array (c : Dev nD) : (dats m 0 c).arrAt 2 cfg0.N = Cert.AInDwRefIdeal.Read.val_main_v9
    (m ((c : Thread nD τ).loc main_arg0)) (m ((c : Thread nD τ).loc main_arg1)) (m ((c : Thread nD τ).loc main_arg2)) := by
  refine (dats m 0 c).arrAt_eq_of_coversWhere_of_agree 2 _ (fun β => β (0 : Fin 3) = 0) (by decide +kernel) (fun t hf y => ?_) (fun j hj => ?_)
  · have hmod : t.val % 2 = 1 := (flush0_2 t).mp hf
    have hN := lt_of_lt_of_eq t.isLt N_0
    blk_simp [idx t]
    rw [after0_2, second m c t (by omega) hmod, first m c ⟨t.val - 1, lt_of_le_of_lt (Nat.sub_le _ _) t.isLt⟩ (by show (t.val - 1) % 2 = 0; omega) (by show ¬(t.val - 1) % 2 = 1; omega),
      zero_add, ref_layer _ _ _ _ (by blk_simp [idx t]), Cert.Products.sum_blocks 2 2048 rfl, Fin.sum_univ_two]
    refine congrArg₂ (fun a b : EReal => a + b) (Fin.sum_fin_congr fun k => ?_) (Fin.sum_fin_congr fun k => ?_)
    all_goals refine congrArg₂ (fun a b : EReal => a * b) ?_ ?_
    all_goals blk_point [iblk, V, idx t, idx ⟨t.val - 1, lt_of_le_of_lt (Nat.sub_le _ _) t.isLt⟩]
  · blk_simp [Pipeline.Window.cell_apply] at hj
    rw [ref_rest _ _ _ _ (by blk_simp; omega)]
    rw [A_eq]
    entry_read
    rfl

/-- Over ideal values the kernel and the reference end with the same stack, and both keep their arguments. -/
theorem algebraic : Cert.algebraic_AInDwIdeal_AInDwRefIdeal := by
  intro m g m' g' _ hargs
  refine ⟨fun c => (dats m 0 c).arrAt 2 cfg0.N, run_blocks m g, ?_⟩
  refine (θ_run _ _ _).mono (fun r h c => ⟨(h c).1.trans ?_, (h c).2⟩) (Cert.AInDwRefIdeal.Value.run m' g')
  obtain ⟨a0, a1, a2⟩ := hargs c
  refine (Cert.AInDwRefIdeal.Read.val_main_v9_eq _ _ _).trans ?_
  rw [a0, a1, a2]
  exact (array m c).symm

/-- The reference keeps its arguments and ends with its counters at zero. -/
theorem ref_frame : Cert.quiescent_AInDwRefIdeal := fun m g _ =>
  (θ_run Cert.AInDwRefIdeal.defs _ _).mono (fun r h => ⟨fun c => (h c).2,
      Idealize.ShloMosaic.sem_eq_zero_of_no_sems (by decide) r.2⟩)
    (Cert.AInDwRefIdeal.Value.run (F := Ideal) m g)

end Cert.AInDwIdeal.Value
-- ==== Proof.AInDxValue.lean ====
module

public import proofs.«01_k».proof.Defs
public import proofs.«01_k».proof.Proof.Products
public import proofs.«01_k».proof.Proof.Gen.AInDxIdeal.Value
public import proofs.«01_k».proof.Proof.Gen.AInDxRefIdeal.Run
public import proofs.«01_k».proof.Proof.Gen.AInDxRefIdeal.Read
public import Idealize.ShloMosaic.Lib.Pipeline.ReadBack
public import Idealize.ShloMosaic.Lib.Claim

/-! # The gradient of the input of the product in

Two grid points in turn, one for each half of the inner width, add their products up in a carried buffer; the second adds
the scaled gradient of the residual branch and writes the block. -/

@[expose] public section

set_option maxRecDepth 16384
noncomputable section
open Idealize.ShloMosaic Idealize.ShloMosaic.TcCoe Idealize.SL.Sem
open Idealize.ShloMosaic.Pipeline (Dat)

namespace Cert.AInDxIdeal.Value
open Cert.AInDxIdeal.Gen

/-- The block each window reads or writes at a grid point. -/
theorem idx : ∀ t : Fin cfg0.N, win0_0.index t = ![t.val / 2, t.val % 2]
    ∧ win0_1.index t = ![0, t.val % 2] ∧ win0_2.index t = ![t.val / 2, 0] ∧ win0_3.index t = ![t.val / 2, 0] :=
  (by decide +kernel : ∀ t : Fin grid0.N, _)

variable (m : (ℓ : Loc nD τ sig) → Buf (Elt Ideal) ℓ)

/-- The product of two blocks over their shared columns. -/
def dotB (d : FVec Ideal S1024x2048 .bf16) (w : FVec Ideal S1024x2048 .bf16) (p q : Fin 1024) : EReal :=
  ∑ k : Fin 2048, d (ix2 p k) * w (ix2 q k)

/-- The scaled gradient of the residual branch. -/
def scaled (r : FVec Ideal S1024x1024 .f32) (j : S1024x1024.Idx) : EReal := Scalar.ofBits (F := Ideal) .f32 0x3FD744FD#32 * r j

/-- The first point of two leaves its product in the carried buffer. -/
theorem first (c : Dev nD) (t : Fin cfg0.N) (h0 : t.val % 2 = 0) (h1 : ¬t.val % 2 = 1) (j : S1024x1024.Idx) :
    (outsAt0 m c t.val t.isLt).2 j = 0 + dotB (iblk m c 0 t) (iblk m c 1 t) (j 0) (j 1) := by
  rw [outsAt0_A m c t h0 h1]; frame_out
  simp only [dotB]
  pointwise [k0_pay1, k0_pay2]

/-- The second point adds its product and the scaled gradient of the residual branch, and writes the sum. -/
theorem second (c : Dev nD) (t : Fin cfg0.N) (h0 : ¬t.val % 2 = 0) (h1 : t.val % 2 = 1) (j : S1024x1024.Idx) :
    (outsAt0 m c t.val t.isLt).1 j = ((outsAt0 m c (t.val - 1) (lt_of_le_of_lt (Nat.sub_le _ _) t.isLt)).2 j
      + dotB (iblk m c 0 t) (iblk m c 1 t) (j 0) (j 1)) + scaled (iblk m c 2 t) j := by
  rw [outsAt0_B m c t h0 h1]; frame_out
  simp only [dotB, scaled]
  pointwise [k0_pay2, k0_pay3]
  exact congrArg (fun z : EReal => z + _ + _) (congrFun (read_unread_whole _ _ _) _)

/-- An entry of the reference's gradient. -/
theorem ref_entry (d : FVec Ideal S4096x4096 .bf16) (w : FVec Ideal S1024x4096 .bf16) (r : FVec Ideal S4096x1024 .f32)
    (i : S4096x1024.Idx) : Cert.AInDxRefIdeal.Read.val_main_v9 (F := Ideal) d w r i
      = (∑ k : Fin 4096, d (ix2 (i 0) k) * w (ix2 (i 1) k)) + Scalar.ofBits (F := Ideal) .f32 0x3FD744FD#32 * r i := by
  rw [Cert.AInDxRefIdeal.Read.val_main_v9_apply, Cert.AInDxRefIdeal.Read.val_main_v6_apply, Cert.AInDxRefIdeal.Read.val_main_v8_apply,
    Cert.AInDxRefIdeal.Read.val_main_v7_apply, Cert.AInDxRefIdeal.Read.val_main_cst_1_apply]
  refine congrArg₂ (fun a b : EReal => a + b) (Fin.sum_fin_congr fun k => ?_) rfl
  refine congrArg₂ (fun a b : EReal => a * b) (congrArg d ?_) (congrArg w ?_)
  all_goals (funext a; fin_cases a <;> rfl)

/-- The kernel's gradient is the reference's. -/
theorem array (c : Dev nD) : (dats m 0 c).arrAt 3 cfg0.N = Cert.AInDxRefIdeal.Read.val_main_v9
    (m ((c : Thread nD τ).loc main_arg0)) (m ((c : Thread nD τ).loc main_arg1)) (m ((c : Thread nD τ).loc main_arg2)) := by
  refine (dats m 0 c).arrAt_eq_of_covers 3 _ (by decide +kernel) fun t hf y => ?_
  have hmod : t.val % 2 = 1 := (flush0_3 t).mp hf
  have hN := lt_of_lt_of_eq t.isLt N_0
  blk_simp [idx t]
  rw [after0_3, second m c t (by omega) hmod, first m c ⟨t.val - 1, lt_of_le_of_lt (Nat.sub_le _ _) t.isLt⟩ (by show (t.val - 1) % 2 = 0; omega) (by show ¬(t.val - 1) % 2 = 1; omega),
    zero_add, ref_entry, Cert.Products.sum_blocks 2 2048 rfl, Fin.sum_univ_two]
  refine congrArg₂ (fun a b : EReal => a + b) (congrArg₂ (fun a b : EReal => a + b)
    (Fin.sum_fin_congr fun k => congrArg₂ (fun a b : EReal => a * b) ?_ ?_)
    (Fin.sum_fin_congr fun k => congrArg₂ (fun a b : EReal => a * b) ?_ ?_)) ?_
  all_goals try unfold scaled
  all_goals blk_point [iblk, V, idx t, idx ⟨t.val - 1, lt_of_le_of_lt (Nat.sub_le _ _) t.isLt⟩]

/-- Over ideal values the kernel and the reference end with the same gradient, and both keep their arguments. -/
theorem algebraic : Cert.algebraic_AInDxIdeal_AInDxRefIdeal := by
  intro m g m' g' _ hargs
  refine ⟨fun c => (dats m 0 c).arrAt 3 cfg0.N, run_blocks m g, ?_⟩
  refine (θ_run _ _ _).mono (fun r h c => ⟨(h c).1.trans ?_, (h c).2⟩) (Cert.AInDxRefIdeal.Value.run m' g')
  obtain ⟨a0, a1, a2⟩ := hargs c
  refine (Cert.AInDxRefIdeal.Read.val_main_v9_eq _ _ _).trans ?_
  rw [a0, a1, a2]
  exact (array m c).symm

/-- The reference keeps its arguments and ends with its counters at zero. -/
theorem ref_frame : Cert.quiescent_AInDxRefIdeal := fun m g _ =>
  (θ_run Cert.AInDxRefIdeal.defs _ _).mono (fun r h => ⟨fun c => (h c).2,
      Idealize.ShloMosaic.sem_eq_zero_of_no_sems (by decide) r.2⟩)
    (Cert.AInDxRefIdeal.Value.run (F := Ideal) m g)

end Cert.AInDxIdeal.Value
-- ==== Proof.KvValue.lean ====
module

public import proofs.«01_k».proof.Proof.Gen.KvIdeal.Value
public import proofs.«01_k».proof.Proof.Gen.KvRefIdeal.Run
public import proofs.«01_k».proof.Proof.Gen.KvRefIdeal.Read
public import Idealize.ShloMosaic.Lib.Pipeline.ValueKit
public import Idealize.ShloMosaic.Lib.Claim
public import proofs.«01_k».proof.Defs

/-! # The product of the shared keys and values

Each grid point multiplies 1024 rows of the input by all the weights; the inner dimension is not cut. -/

@[expose] public section

set_option maxRecDepth 16384
noncomputable section
open Idealize.ShloMosaic Idealize.ShloMosaic.TcCoe Idealize.SL.Sem
open Idealize.ShloMosaic.Pipeline (Dat)

namespace Cert.KvIdeal.Value
open Cert.KvIdeal.Gen

/-- The block each window reads or writes at a grid point. -/
theorem idx : ∀ t : Fin cfg0.N, win0_0.index t = ![t.val, 0] ∧ win0_1.index t = ![0, 0]
    ∧ win0_2.index t = ![t.val, 0] :=
  (by decide +kernel : ∀ t : Fin grid0.N, _)

variable (m : (ℓ : Loc nD τ sig) → Buf (Elt Ideal) ℓ)

/-- An entry of the stored block. -/
theorem block_entry (x : FVec Ideal S1024x1024 .bf16) (w : FVec Ideal S1024x1024 .bf16) (y : S1024x1024.Idx) :
    out0_2 (F := Ideal) x w y = ∑ k : Fin 1024, x (ix2 (y 0) k) * w (ix2 k (y 1)) := by
  unfold out0_2
  canon_tiles z hz
  pointwise [k0_pay1]
  rw [Fin.ext hz0, Fin.ext hz1]

/-- The kernel's result is the reference's. -/
theorem array (c : Dev nD) : (dats m 0 c).arrAt 2 cfg0.N = Cert.KvRefIdeal.Read.val_main_v3
    (m ((c : Thread nD τ).loc main_arg0)) (m ((c : Thread nD τ).loc main_arg1)) := by
  refine (dats m 0 c).arrAt_eq_of_covers 2 _ (by decide +kernel) fun t hf y => ?_
  blk_simp [idx t]
  rw [after0_2]
  rw [block_entry]
  rw [Cert.KvRefIdeal.Read.val_main_v3_apply, Cert.KvRefIdeal.Read.val_main_v2_apply]
  refine Fin.sum_fin_congr fun k => ?_
  refine congrArg₂ (fun a b : EReal => a * b) ?_ ?_
  · blk_point [iblk, V, idx t]
  · blk_point [iblk, V, idx t]

/-- Over ideal values the kernel and the reference end with the same product, and both keep their arguments. -/
theorem algebraic : Cert.algebraic_KvIdeal_KvRefIdeal := by
  intro m g m' g' _ hargs
  refine ⟨fun c => (dats m 0 c).arrAt 2 cfg0.N, run_blocks m g, ?_⟩
  refine (θ_run _ _ _).mono (fun r h c => ⟨(h c).1.trans ?_, (h c).2⟩) (Cert.KvRefIdeal.Value.run m' g')
  obtain ⟨a0, a1⟩ := hargs c
  refine (Cert.KvRefIdeal.Read.val_main_v3_eq _ _).trans ?_
  rw [a0, a1]
  exact (array m c).symm

/-- The reference keeps its arguments and ends with its counters at zero. -/
theorem ref_frame : Cert.quiescent_KvRefIdeal := fun m g _ =>
  (θ_run Cert.KvRefIdeal.defs _ _).mono (fun r h => ⟨fun c => (h c).2,
      Idealize.ShloMosaic.sem_eq_zero_of_no_sems (by decide) r.2⟩)
    (Cert.KvRefIdeal.Value.run (F := Ideal) m g)

end Cert.KvIdeal.Value
-- ==== Proof.KvDwValue.lean ====
module

public import proofs.«01_k».proof.Defs
public import proofs.«01_k».proof.Proof.Products
public import proofs.«01_k».proof.Proof.Gen.KvDwIdeal.Value
public import proofs.«01_k».proof.Proof.Gen.KvDwRefIdeal.Run
public import proofs.«01_k».proof.Proof.Gen.KvDwRefIdeal.Read
public import Idealize.ShloMosaic.Lib.Pipeline.ReadBack
public import Idealize.ShloMosaic.Lib.Claim

/-! # The gradient of the weights of the shared keys and values

Two grid points, one for each half of the rows, add their products up in a carried buffer; the second rounds the sum. -/

@[expose] public section

set_option maxRecDepth 16384
noncomputable section
open Idealize.ShloMosaic Idealize.ShloMosaic.TcCoe Idealize.SL.Sem
open Idealize.ShloMosaic.Pipeline (Dat)

namespace Cert.KvDwIdeal.Value
open Cert.KvDwIdeal.Gen

/-- The block each window reads or writes at a grid point. -/
theorem idx : ∀ t : Fin cfg0.N, win0_0.index t = ![t.val % 2, 0] ∧ win0_1.index t = ![t.val % 2, 0]
    ∧ win0_2.index t = ![0, 0, 0] :=
  (by decide +kernel : ∀ t : Fin grid0.N, _)

variable (m : (ℓ : Loc nD τ sig) → Buf (Elt Ideal) ℓ)

/-- The product of two blocks over their shared rows. -/
def dotB (x : FVec Ideal S2048x1024 .bf16) (d : FVec Ideal S2048x1024 .bf16) (p : Fin 1024) (q : Fin 1024) : EReal :=
  ∑ k : Fin 2048, x (ix2 k p) * d (ix2 k q)

/-- The first point of two leaves its product in the carried buffer. -/
theorem first (c : Dev nD) (t : Fin cfg0.N) (h0 : t.val % 2 = 0) (h1 : ¬t.val % 2 = 1) (j : S1024x1024.Idx) :
    (outsAt0 m c t.val t.isLt).2 j
      = 0 + dotB (iblk m c 0 t) (iblk m c 1 t) (j 0) (j 1) := by
  rw [outsAt0_A m c t h0 h1]; frame_out
  simp only [dotB]
  pointwise [k0_pay1, k0_pay2]

/-- The second point adds its product and writes the rounded sum. -/
theorem second (c : Dev nD) (t : Fin cfg0.N) (h0 : ¬t.val % 2 = 0) (h1 : t.val % 2 = 1) (j : S1x1024x1024.Idx) :
    (outsAt0 m c t.val t.isLt).1 j
      = (outsAt0 m c (t.val - 1) (lt_of_le_of_lt (Nat.sub_le _ _) t.isLt)).2 (show S1024x1024.Idx from ix2 (j 1) (j 2))
        + dotB (iblk m c 0 t) (iblk m c 1 t) (j 1) (j 2) := by
  rw [outsAt0_B m c t h0 h1]; frame_out
  simp only [dotB]
  pointwise [k0_pay2, k0_pay3]
  exact congrArg (· + _) (congrFun (read_unread_whole _ _ _) _)

/-- An entry of the reference's gradient. -/
theorem ref_entry (x d : FVec Ideal S4096x1024 .bf16) (i : S1x1024x1024.Idx) :
    Cert.KvDwRefIdeal.Read.val_main_v7 (F := Ideal) x d i = ∑ k : Fin 4096, x (ix2 k (i 1)) * d (ix2 k (i 2)) := by
  rw [Cert.KvDwRefIdeal.Read.val_main_v7_apply, Cert.KvDwRefIdeal.Read.val_main_v6_apply, Cert.KvDwRefIdeal.Read.val_main_v5_apply]
  refine (Cert.KvDwRefIdeal.Read.val_main_v4_apply _ _ _).trans (Fin.sum_fin_congr fun k => ?_)
  refine (mul_comm (_ : EReal) _).trans (congrArg₂ (fun a b : EReal => a * b) (congrArg x ?_) (congrArg d ?_))
  all_goals (funext a; fin_cases a <;> rfl)

/-- The kernel's gradient is the reference's. -/
theorem array (c : Dev nD) : (dats m 0 c).arrAt 2 cfg0.N = Cert.KvDwRefIdeal.Read.val_main_v7
    (m ((c : Thread nD τ).loc main_arg0)) (m ((c : Thread nD τ).loc main_arg1)) := by
  refine (dats m 0 c).arrAt_eq_of_covers 2 _ (by decide +kernel) fun t hf y => ?_
  have hmod : t.val % 2 = 1 := (flush0_2 t).mp hf
  have hN := lt_of_lt_of_eq t.isLt N_0
  blk_simp [idx t]
  rw [after0_2, second m c t (by omega) hmod, first m c ⟨t.val - 1, lt_of_le_of_lt (Nat.sub_le _ _) t.isLt⟩ (by show (t.val - 1) % 2 = 0; omega) (by show ¬(t.val - 1) % 2 = 1; omega),
    zero_add, ref_entry, Cert.Products.sum_blocks 2 2048 rfl, Fin.sum_univ_two]
  refine congrArg₂ (fun a b : EReal => a + b) (Fin.sum_fin_congr fun k => ?_) (Fin.sum_fin_congr fun k => ?_)
  all_goals refine congrArg₂ (fun a b : EReal => a * b) ?_ ?_
  all_goals blk_point [iblk, V, idx t, idx ⟨t.val - 1, lt_of_le_of_lt (Nat.sub_le _ _) t.isLt⟩]

/-- Over ideal values the kernel and the reference end with the same gradient, and both keep their arguments. -/
theorem algebraic : Cert.algebraic_KvDwIdeal_KvDwRefIdeal := by
  intro m g m' g' _ hargs
  refine ⟨fun c => (dats m 0 c).arrAt 2 cfg0.N, run_blocks m g, ?_⟩
  refine (θ_run _ _ _).mono (fun r h c => ⟨(h c).1.trans ?_, (h c).2⟩) (Cert.KvDwRefIdeal.Value.run m' g')
  obtain ⟨a0, a1⟩ := hargs c
  refine (Cert.KvDwRefIdeal.Read.val_main_v7_eq _ _).trans ?_
  rw [a0, a1]
  exact (array m c).symm

/-- The reference keeps its arguments and ends with its counters at zero. -/
theorem ref_frame : Cert.quiescent_KvDwRefIdeal := fun m g _ =>
  (θ_run Cert.KvDwRefIdeal.defs _ _).mono (fun r h => ⟨fun c => (h c).2,
      Idealize.ShloMosaic.sem_eq_zero_of_no_sems (by decide) r.2⟩)
    (Cert.KvDwRefIdeal.Value.run (F := Ideal) m g)

end Cert.KvDwIdeal.Value
-- ==== Proof.KvDxValue.lean ====
module

public import proofs.«01_k».proof.Proof.Gen.KvDxIdeal.Value
public import proofs.«01_k».proof.Proof.Gen.KvDxRefIdeal.Run
public import proofs.«01_k».proof.Proof.Gen.KvDxRefIdeal.Read
public import Idealize.ShloMosaic.Lib.Pipeline.ValueKit
public import Idealize.ShloMosaic.Lib.Claim
public import proofs.«01_k».proof.Defs

/-! # The gradient of the stream that the keys and values read

Each grid point multiplies 1024 rows of the incoming gradient by all the weights, transposed, and adds the gradient that
arrives along the rest of the layer. -/

@[expose] public section

set_option maxRecDepth 16384
noncomputable section
open Idealize.ShloMosaic Idealize.ShloMosaic.TcCoe Idealize.SL.Sem
open Idealize.ShloMosaic.Pipeline (Dat)

namespace Cert.KvDxIdeal.Value
open Cert.KvDxIdeal.Gen

/-- The block each window reads or writes at a grid point. -/
theorem idx : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

variable (m : (ℓ : Loc nD τ sig) → Buf (Elt Ideal) ℓ)

/-- An entry of the stored block. -/
theorem block_entry (d w : FVec Ideal S1024x1024 .bf16) (r : FVec Ideal S1024x1024 .f32) (y : S1024x1024.Idx) :
    out0_3 (F := Ideal) d w r y = (∑ k : Fin 1024, d (ix2 (y 0) k) * w (ix2 (y 1) k)) + r y := by
  unfold out0_3
  canon_tiles z hz
  obtain rfl : y = z := funext fun a => by fin_cases a; exacts [Fin.ext hz0, Fin.ext hz1]
  pointwise [k0_pay1]

/-- An entry of the reference's gradient. -/
theorem ref_entry (d : FVec Ideal S4096x1024 .bf16) (w : FVec Ideal S1024x1024 .bf16) (r : FVec Ideal S4096x1024 .f32)
    (i : S4096x1024.Idx) : Cert.KvDxRefIdeal.Read.val_main_v5 (F := Ideal) d w r i
      = (∑ k : Fin 1024, d (ix2 (i 0) k) * w (ix2 (i 1) k)) + r i := by
  rw [Cert.KvDxRefIdeal.Read.val_main_v5_apply, Cert.KvDxRefIdeal.Read.val_main_v4_apply]
  refine (add_comm (_ : EReal) _).trans (congrArg (· + r i) (Fin.sum_fin_congr fun k => ?_))
  refine congrArg₂ (fun a b : EReal => a * b) (congrArg d ?_) (congrArg w ?_)
  all_goals (funext a; fin_cases a <;> rfl)

/-- The kernel's gradient is the reference's. -/
theorem array (c : Dev nD) : (dats m 0 c).arrAt 3 cfg0.N = Cert.KvDxRefIdeal.Read.val_main_v5
    (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp [idx t]
  rw [after0_3, block_entry, ref_entry]
  refine congrArg₂ (fun a b : EReal => a + b) (Fin.sum_fin_congr fun k => congrArg₂ (fun a b : EReal => a * b) ?_ ?_) ?_
  all_goals blk_point [iblk, V, idx t]

/-- Over ideal values the kernel and the reference end with the same gradient, and both keep their arguments. -/
theorem algebraic : Cert.algebraic_KvDxIdeal_KvDxRefIdeal := by
  intro m g m' g' _ hargs
  refine ⟨fun c => (dats m 0 c).arrAt 3 cfg0.N, run_blocks m g, ?_⟩
  refine (θ_run _ _ _).mono (fun r h c => ⟨(h c).1.trans ?_, (h c).2⟩) (Cert.KvDxRefIdeal.Value.run m' g')
  obtain ⟨a0, a1, a2⟩ := hargs c
  refine (Cert.KvDxRefIdeal.Read.val_main_v5_eq _ _ _).trans ?_
  rw [a0, a1, a2]
  exact (array m c).symm

/-- The reference keeps its arguments and ends with its counters at zero. -/
theorem ref_frame : Cert.quiescent_KvDxRefIdeal := fun m g _ =>
  (θ_run Cert.KvDxRefIdeal.defs _ _).mono (fun r h => ⟨fun c => (h c).2,
      Idealize.ShloMosaic.sem_eq_zero_of_no_sems (by decide) r.2⟩)
    (Cert.KvDxRefIdeal.Value.run (F := Ideal) m g)

end Cert.KvDxIdeal.Value
-- ==== Proof.BQValue.lean ====
module

public import proofs.«01_k».proof.Proof.Gen.BQIdeal.Value
public import proofs.«01_k».proof.Proof.Gen.BQRefIdeal.Run
public import proofs.«01_k».proof.Proof.Gen.BQRefIdeal.Read
public import Idealize.ShloMosaic.Lib.Pipeline.ValueKit
public import Idealize.ShloMosaic.Lib.Claim
public import proofs.«01_k».proof.Defs

/-! # The product of the queries

Each grid point multiplies 1024 rows of the input by 768 columns of the weights; the inner dimension is not cut. -/

@[expose] public section

set_option maxRecDepth 16384
noncomputable section
open Idealize.ShloMosaic Idealize.ShloMosaic.TcCoe Idealize.SL.Sem
open Idealize.ShloMosaic.Pipeline (Dat)

namespace Cert.BQIdeal.Value
open Cert.BQIdeal.Gen

/-- The block each window reads or writes at a grid point. -/
theorem idx : ∀ t : Fin cfg0.N, win0_0.index t = ![t.val / 2, 0] ∧ win0_1.index t = ![0, t.val % 2]
    ∧ win0_2.index t = ![t.val / 2, t.val % 2] :=
  (by decide +kernel : ∀ t : Fin grid0.N, _)

variable (m : (ℓ : Loc nD τ sig) → Buf (Elt Ideal) ℓ)

/-- An entry of the stored block. -/
theorem block_entry (x : FVec Ideal S1024x1024 .bf16) (w : FVec Ideal S1024x768 .bf16) (y : S1024x768.Idx) :
    out0_2 (F := Ideal) x w y = ∑ k : Fin 1024, x (ix2 (y 0) k) * w (ix2 k (y 1)) := by
  unfold out0_2
  canon_tiles z hz
  pointwise [k0_pay1]
  rw [Fin.ext hz0, Fin.ext hz1]

/-- The kernel's result is the reference's. -/
theorem array (c : Dev nD) : (dats m 0 c).arrAt 2 cfg0.N = Cert.BQRefIdeal.Read.val_main_v3
    (m ((c : Thread nD τ).loc main_arg0)) (m ((c : Thread nD τ).loc main_arg1)) := by
  refine (dats m 0 c).arrAt_eq_of_covers 2 _ (by decide +kernel) fun t hf y => ?_
  blk_simp [idx t]
  rw [after0_2]
  rw [block_entry]
  rw [Cert.BQRefIdeal.Read.val_main_v3_apply, Cert.BQRefIdeal.Read.val_main_v2_apply]
  refine Fin.sum_fin_congr fun k => ?_
  refine congrArg₂ (fun a b : EReal => a * b) ?_ ?_
  · blk_point [iblk, V, idx t]
  · blk_point [iblk, V, idx t]

/-- Over ideal values the kernel and the reference end with the same product, and both keep their arguments. -/
theorem algebraic : Cert.algebraic_BQIdeal_BQRefIdeal := by
  intro m g m' g' _ hargs
  refine ⟨fun c => (dats m 0 c).arrAt 2 cfg0.N, run_blocks m g, ?_⟩
  refine (θ_run _ _ _).mono (fun r h c => ⟨(h c).1.trans ?_, (h c).2⟩) (Cert.BQRefIdeal.Value.run m' g')
  obtain ⟨a0, a1⟩ := hargs c
  refine (Cert.BQRefIdeal.Read.val_main_v3_eq _ _).trans ?_
  rw [a0, a1]
  exact (array m c).symm

/-- The reference keeps its arguments and ends with its counters at zero. -/
theorem ref_frame : Cert.quiescent_BQRefIdeal := fun m g _ =>
  (θ_run Cert.BQRefIdeal.defs _ _).mono (fun r h => ⟨fun c => (h c).2,
      Idealize.ShloMosaic.sem_eq_zero_of_no_sems (by decide) r.2⟩)
    (Cert.BQRefIdeal.Value.run (F := Ideal) m g)

end Cert.BQIdeal.Value
-- ==== Proof.BQDwValue.lean ====
module

public import proofs.«01_k».proof.Defs
public import proofs.«01_k».proof.Proof.Products
public import proofs.«01_k».proof.Proof.Gen.BQDwIdeal.Value
public import proofs.«01_k».proof.Proof.Gen.BQDwRefIdeal.Run
public import proofs.«01_k».proof.Proof.Gen.BQDwRefIdeal.Read
public import Idealize.ShloMosaic.Lib.Pipeline.ReadBack
public import Idealize.ShloMosaic.Lib.Claim

/-! # The gradient of the weights of the queries

Two grid points in turn, one for each half of the rows, add their products up in a carried buffer; the second rounds the
sum into layer 0 of a stack of two layers, whose other layer stays as it was. -/

@[expose] public section

set_option maxRecDepth 16384
noncomputable section
open Idealize.ShloMosaic Idealize.ShloMosaic.TcCoe Idealize.SL.Sem
open Idealize.ShloMosaic.Pipeline (Dat)

namespace Cert.BQDwIdeal.Value
open Cert.BQDwIdeal.Gen

/-- The block each window reads or writes at a grid point. -/
theorem idx : ∀ t : Fin cfg0.N, win0_0.index t = ![t.val % 2, 0] ∧ win0_1.index t = ![t.val % 2, t.val / 2]
    ∧ win0_2.index t = ![0, 0, t.val / 2] :=
  (by decide +kernel : ∀ t : Fin grid0.N, _)

variable (m : (ℓ : Loc nD τ sig) → Buf (Elt Ideal) ℓ)

/-- The product of two blocks over their shared rows. -/
def dotB (x : FVec Ideal S2048x1024 .bf16) (d : FVec Ideal S2048x768 .bf16) (p : Fin 1024) (q : Fin 768) : EReal :=
  ∑ k : Fin 2048, x (ix2 k p) * d (ix2 k q)

/-- The first point of two leaves its product in the carried buffer. -/
theorem first (c : Dev nD) (t : Fin cfg0.N) (h0 : t.val % 2 = 0) (h1 : ¬t.val % 2 = 1) (j : S1024x768.Idx) :
    (outsAt0 m c t.val t.isLt).2 j
      = 0 + dotB (iblk m c 0 t) (iblk m c 1 t) (j 0) (j 1) := by
  rw [outsAt0_A m c t h0 h1]; frame_out
  simp only [dotB]
  pointwise [k0_pay1, k0_pay2]

/-- The second point adds its product and writes the rounded sum. -/
theorem second (c : Dev nD) (t : Fin cfg0.N) (h0 : ¬t.val % 2 = 0) (h1 : t.val % 2 = 1) (j : S1x1024x768.Idx) :
    (outsAt0 m c t.val t.isLt).1 j
      = (outsAt0 m c (t.val - 1) (lt_of_le_of_lt (Nat.sub_le _ _) t.isLt)).2 (show S1024x768.Idx from ix2 (j 1) (j 2))
        + dotB (iblk m c 0 t) (iblk m c 1 t) (j 1) (j 2) := by
  rw [outsAt0_B m c t h0 h1]; frame_out
  simp only [dotB]
  pointwise [k0_pay2, k0_pay3]
  exact congrArg (· + _) (congrFun (read_unread_whole _ _ _) _)

/-- Layer 0 of the reference's stack is the gradient of the weights. -/
theorem ref_layer (x : FVec Ideal S4096x1024 .bf16) (d : FVec Ideal S4096x1536 .bf16) (b : FVec Ideal S2x1024x1536 .bf16)
    (i : S2x1024x1536.Idx) (h : (i 0 : ℕ) = 0) : Cert.BQDwRefIdeal.Read.val_main_v9 (F := Ideal) x d b i
      = ∑ k : Fin 4096, x (ix2 k (i 1)) * d (ix2 k (i 2)) := by
  unfold Cert.BQDwRefIdeal.Read.val_main_v9
  pointwise
  rw [dif_pos (by omega), Cert.BQDwRefIdeal.Read.val_main_v7_apply, Cert.BQDwRefIdeal.Read.val_main_v6_apply,
    Cert.BQDwRefIdeal.Read.val_main_v5_apply]
  refine (Cert.BQDwRefIdeal.Read.val_main_v4_apply _ _ _).trans (Fin.sum_fin_congr fun k => ?_)
  refine (mul_comm (_ : EReal) _).trans (congrArg₂ (fun a b : EReal => a * b) (congrArg x ?_) (congrArg d ?_))
  all_goals (funext a; fin_cases a <;> rfl)

/-- The other layer of the reference's stack is the given one. -/
theorem ref_rest (x : FVec Ideal S4096x1024 .bf16) (d : FVec Ideal S4096x1536 .bf16) (b : FVec Ideal S2x1024x1536 .bf16)
    (i : S2x1024x1536.Idx) (h : ¬(i 0 : ℕ) = 0) : Cert.BQDwRefIdeal.Read.val_main_v9 (F := Ideal) x d b i = b i := by
  unfold Cert.BQDwRefIdeal.Read.val_main_v9
  pointwise
  rw [dif_neg (by omega), Cert.BQDwRefIdeal.Read.val_main_v8_apply]
  refine congrArg b ?_
  funext a
  fin_cases a
  · exact Fin.ext (by simp; omega)
  all_goals rfl

/-- The kernel's stack is the reference's. -/
theorem array (c : Dev nD) : (dats m 0 c).arrAt 2 cfg0.N = Cert.BQDwRefIdeal.Read.val_main_v9
    (m ((c : Thread nD τ).loc main_arg0)) (m ((c : Thread nD τ).loc main_arg1)) (m ((c : Thread nD τ).loc main_arg2)) := by
  refine (dats m 0 c).arrAt_eq_of_coversWhere_of_agree 2 _ (fun β => β (0 : Fin 3) = 0) (by decide +kernel) (fun t hf y => ?_) (fun j hj => ?_)
  · have hmod : t.val % 2 = 1 := (flush0_2 t).mp hf
    have hN := lt_of_lt_of_eq t.isLt N_0
    blk_simp [idx t]
    rw [after0_2, second m c t (by omega) hmod, first m c ⟨t.val - 1, lt_of_le_of_lt (Nat.sub_le _ _) t.isLt⟩ (by show (t.val - 1) % 2 = 0; omega) (by show ¬(t.val - 1) % 2 = 1; omega),
      zero_add, ref_layer _ _ _ _ (by blk_simp [idx t]), Cert.Products.sum_blocks 2 2048 rfl, Fin.sum_univ_two]
    refine congrArg₂ (fun a b : EReal => a + b) (Fin.sum_fin_congr fun k => ?_) (Fin.sum_fin_congr fun k => ?_)
    all_goals refine congrArg₂ (fun a b : EReal => a * b) ?_ ?_
    all_goals blk_point [iblk, V, idx t, idx ⟨t.val - 1, lt_of_le_of_lt (Nat.sub_le _ _) t.isLt⟩]
  · blk_simp [Pipeline.Window.cell_apply] at hj
    rw [ref_rest _ _ _ _ (by blk_simp; omega)]
    rw [A_eq]
    entry_read
    rfl

/-- Over ideal values the kernel and the reference end with the same stack, and both keep their arguments. -/
theorem algebraic : Cert.algebraic_BQDwIdeal_BQDwRefIdeal := by
  intro m g m' g' _ hargs
  refine ⟨fun c => (dats m 0 c).arrAt 2 cfg0.N, run_blocks m g, ?_⟩
  refine (θ_run _ _ _).mono (fun r h c => ⟨(h c).1.trans ?_, (h c).2⟩) (Cert.BQDwRefIdeal.Value.run m' g')
  obtain ⟨a0, a1, a2⟩ := hargs c
  refine (Cert.BQDwRefIdeal.Read.val_main_v9_eq _ _ _).trans ?_
  rw [a0, a1, a2]
  exact (array m c).symm

/-- The reference keeps its arguments and ends with its counters at zero. -/
theorem ref_frame : Cert.quiescent_BQDwRefIdeal := fun m g _ =>
  (θ_run Cert.BQDwRefIdeal.defs _ _).mono (fun r h => ⟨fun c => (h c).2,
      Idealize.ShloMosaic.sem_eq_zero_of_no_sems (by decide) r.2⟩)
    (Cert.BQDwRefIdeal.Value.run (F := Ideal) m g)

end Cert.BQDwIdeal.Value
-- ==== Proof.BQDxValue.lean ====
module

public import proofs.«01_k».proof.Proof.Gen.BQDxIdeal.Value
public import proofs.«01_k».proof.Proof.Gen.BQDxRefIdeal.Run
public import proofs.«01_k».proof.Proof.Gen.BQDxRefIdeal.Read
public import Idealize.ShloMosaic.Lib.Pipeline.ValueKit
public import Idealize.ShloMosaic.Lib.Claim
public import proofs.«01_k».proof.Defs

/-! # The gradient of the input of the queries

Each grid point multiplies 1024 rows of the incoming gradient by all the weights, transposed, and adds the scaled gradient
of the residual branch. -/

@[expose] public section

set_option maxRecDepth 16384
noncomputable section
open Idealize.ShloMosaic Idealize.ShloMosaic.TcCoe Idealize.SL.Sem
open Idealize.ShloMosaic.Pipeline (Dat)

namespace Cert.BQDxIdeal.Value
open Cert.BQDxIdeal.Gen

/-- The block each window reads or writes at a grid point. -/
theorem idx : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

variable (m : (ℓ : Loc nD τ sig) → Buf (Elt Ideal) ℓ)

/-- An entry of the stored block. -/
theorem block_entry (d w : FVec Ideal S1024x1536 .bf16) (r : FVec Ideal S1024x1024 .f32) (y : S1024x1024.Idx) :
    out0_3 (F := Ideal) d w r y = (∑ k : Fin 1536, d (ix2 (y 0) k) * w (ix2 (y 1) k)) + Scalar.ofBits (F := Ideal) .f32 0x3FD744FD#32 * r y := by
  unfold out0_3
  canon_tiles z hz
  obtain rfl : y = z := funext fun a => by fin_cases a; exacts [Fin.ext hz0, Fin.ext hz1]
  pointwise [k0_pay1]

/-- An entry of the reference's gradient. -/
theorem ref_entry (d : FVec Ideal S4096x1536 .bf16) (w : FVec Ideal S1024x1536 .bf16) (r : FVec Ideal S4096x1024 .f32)
    (i : S4096x1024.Idx) : Cert.BQDxRefIdeal.Read.val_main_v9 (F := Ideal) d w r i
      = (∑ k : Fin 1536, d (ix2 (i 0) k) * w (ix2 (i 1) k)) + Scalar.ofBits (F := Ideal) .f32 0x3FD744FD#32 * r i := by
  rw [Cert.BQDxRefIdeal.Read.val_main_v9_apply, Cert.BQDxRefIdeal.Read.val_main_v6_apply, Cert.BQDxRefIdeal.Read.val_main_v8_apply,
    Cert.BQDxRefIdeal.Read.val_main_v7_apply, Cert.BQDxRefIdeal.Read.val_main_cst_1_apply]
  refine congrArg (· + _) (Fin.sum_fin_congr fun k => ?_)
  refine congrArg₂ (fun a b : EReal => a * b) (congrArg d ?_) (congrArg w ?_)
  all_goals (funext a; fin_cases a <;> rfl)

/-- The kernel's gradient is the reference's. -/
theorem array (c : Dev nD) : (dats m 0 c).arrAt 3 cfg0.N = Cert.BQDxRefIdeal.Read.val_main_v9
    (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp [idx t]
  rw [after0_3, block_entry, ref_entry]
  refine congrArg₂ (fun a b : EReal => a + b) (Fin.sum_fin_congr fun k => congrArg₂ (fun a b : EReal => a * b) ?_ ?_) ?_
  all_goals blk_point [iblk, V, idx t]

/-- Over ideal values the kernel and the reference end with the same gradient, and both keep their arguments. -/
theorem algebraic : Cert.algebraic_BQDxIdeal_BQDxRefIdeal := by
  intro m g m' g' _ hargs
  refine ⟨fun c => (dats m 0 c).arrAt 3 cfg0.N, run_blocks m g, ?_⟩
  refine (θ_run _ _ _).mono (fun r h c => ⟨(h c).1.trans ?_, (h c).2⟩) (Cert.BQDxRefIdeal.Value.run m' g')
  obtain ⟨a0, a1, a2⟩ := hargs c
  refine (Cert.BQDxRefIdeal.Read.val_main_v9_eq _ _ _).trans ?_
  rw [a0, a1, a2]
  exact (array m c).symm

/-- The reference keeps its arguments and ends with its counters at zero. -/
theorem ref_frame : Cert.quiescent_BQDxRefIdeal := fun m g _ =>
  (θ_run Cert.BQDxRefIdeal.defs _ _).mono (fun r h => ⟨fun c => (h c).2,
      Idealize.ShloMosaic.sem_eq_zero_of_no_sems (by decide) r.2⟩)
    (Cert.BQDxRefIdeal.Value.run (F := Ideal) m g)

end Cert.BQDxIdeal.Value
-- ==== Proof.BOValue.lean ====
module

public import proofs.«01_k».proof.Proof.Gen.BOIdeal.Value
public import proofs.«01_k».proof.Proof.Gen.BORefIdeal.Run
public import proofs.«01_k».proof.Proof.Gen.BORefIdeal.Read
public import Idealize.ShloMosaic.Lib.Pipeline.ValueKit
public import Idealize.ShloMosaic.Lib.Claim
public import proofs.«01_k».proof.Defs

/-! # The product out of the attention

Each grid point multiplies 1024 rows of the attended values by all the weights; the inner dimension is not cut. -/

@[expose] public section

set_option maxRecDepth 16384
noncomputable section
open Idealize.ShloMosaic Idealize.ShloMosaic.TcCoe Idealize.SL.Sem
open Idealize.ShloMosaic.Pipeline (Dat)

namespace Cert.BOIdeal.Value
open Cert.BOIdeal.Gen

/-- The block each window reads or writes at a grid point. -/
theorem idx : ∀ t : Fin cfg0.N, win0_0.index t = ![t.val, 0] ∧ win0_1.index t = ![0, 0]
    ∧ win0_2.index t = ![t.val, 0] :=
  (by decide +kernel : ∀ t : Fin grid0.N, _)

variable (m : (ℓ : Loc nD τ sig) → Buf (Elt Ideal) ℓ)

/-- An entry of the stored block. -/
theorem block_entry (x : FVec Ideal S1024x512 .bf16) (w : FVec Ideal S512x1024 .bf16) (y : S1024x1024.Idx) :
    out0_2 (F := Ideal) x w y = ∑ k : Fin 512, x (ix2 (y 0) k) * w (ix2 k (y 1)) := by
  unfold out0_2
  canon_tiles z hz
  pointwise [k0_pay1]
  rw [Fin.ext hz0, Fin.ext hz1]

/-- The kernel's result is the reference's. -/
theorem array (c : Dev nD) : (dats m 0 c).arrAt 2 cfg0.N = Cert.BORefIdeal.Read.val_main_v2
    (m ((c : Thread nD τ).loc main_arg0)) (m ((c : Thread nD τ).loc main_arg1)) := by
  refine (dats m 0 c).arrAt_eq_of_covers 2 _ (by decide +kernel) fun t hf y => ?_
  blk_simp [idx t]
  rw [after0_2]
  rw [block_entry]
  rw [Cert.BORefIdeal.Read.val_main_v2_apply]
  refine Fin.sum_fin_congr fun k => ?_
  refine congrArg₂ (fun a b : EReal => a * b) ?_ ?_
  · blk_point [iblk, V, idx t]
  · blk_point [iblk, V, idx t]

/-- Over ideal values the kernel and the reference end with the same product, and both keep their arguments. -/
theorem algebraic : Cert.algebraic_BOIdeal_BORefIdeal := by
  intro m g m' g' _ hargs
  refine ⟨fun c => (dats m 0 c).arrAt 2 cfg0.N, run_blocks m g, ?_⟩
  refine (θ_run _ _ _).mono (fun r h c => ⟨(h c).1.trans ?_, (h c).2⟩) (Cert.BORefIdeal.Value.run m' g')
  obtain ⟨a0, a1⟩ := hargs c
  refine (Cert.BORefIdeal.Read.val_main_v2_eq _ _).trans ?_
  rw [a0, a1]
  exact (array m c).symm

/-- The reference keeps its arguments and ends with its counters at zero. -/
theorem ref_frame : Cert.quiescent_BORefIdeal := fun m g _ =>
  (θ_run Cert.BORefIdeal.defs _ _).mono (fun r h => ⟨fun c => (h c).2,
      Idealize.ShloMosaic.sem_eq_zero_of_no_sems (by decide) r.2⟩)
    (Cert.BORefIdeal.Value.run (F := Ideal) m g)

end Cert.BOIdeal.Value
-- ==== Proof.BODwValue.lean ====
module

public import proofs.«01_k».proof.Defs
public import proofs.«01_k».proof.Proof.Products
public import proofs.«01_k».proof.Proof.Gen.BODwIdeal.Value
public import proofs.«01_k».proof.Proof.Gen.BODwRefIdeal.Run
public import proofs.«01_k».proof.Proof.Gen.BODwRefIdeal.Read
public import Idealize.ShloMosaic.Lib.Pipeline.ReadBack
public import Idealize.ShloMosaic.Lib.Claim

/-! # The gradient of the weights of the attention's product out

Two grid points in turn, one for each half of the rows, add their products up in a carried buffer; the second rounds the
sum into layer 0 of a stack of two layers, whose other layer stays as it was. -/

@[expose] public section

set_option maxRecDepth 16384
noncomputable section
open Idealize.ShloMosaic Idealize.ShloMosaic.TcCoe Idealize.SL.Sem
open Idealize.ShloMosaic.Pipeline (Dat)

namespace Cert.BODwIdeal.Value
open Cert.BODwIdeal.Gen

/-- The block each window reads or writes at a grid point. -/
theorem idx : ∀ t : Fin cfg0.N, win0_0.index t = ![t.val % 2, 0] ∧ win0_1.index t = ![t.val % 2, 0]
    ∧ win0_2.index t = ![0, 0, 0] :=
  (by decide +kernel : ∀ t : Fin grid0.N, _)

variable (m : (ℓ : Loc nD τ sig) → Buf (Elt Ideal) ℓ)

/-- The product of two blocks over their shared rows. -/
def dotB (x : FVec Ideal S2048x512 .bf16) (d : FVec Ideal S2048x1024 .bf16) (p : Fin 512) (q : Fin 1024) : EReal :=
  ∑ k : Fin 2048, x (ix2 k p) * d (ix2 k q)

/-- The first point of two leaves its product in the carried buffer. -/
theorem first (c : Dev nD) (t : Fin cfg0.N) (h0 : t.val % 2 = 0) (h1 : ¬t.val % 2 = 1) (j : S512x1024.Idx) :
    (outsAt0 m c t.val t.isLt).2 j
      = 0 + dotB (iblk m c 0 t) (iblk m c 1 t) (j 0) (j 1) := by
  rw [outsAt0_A m c t h0 h1]; frame_out
  simp only [dotB]
  pointwise [k0_pay1, k0_pay2]

/-- The second point adds its product and writes the rounded sum. -/
theorem second (c : Dev nD) (t : Fin cfg0.N) (h0 : ¬t.val % 2 = 0) (h1 : t.val % 2 = 1) (j : S1x512x1024.Idx) :
    (outsAt0 m c t.val t.isLt).1 j
      = (outsAt0 m c (t.val - 1) (lt_of_le_of_lt (Nat.sub_le _ _) t.isLt)).2 (show S512x1024.Idx from ix2 (j 1) (j 2))
        + dotB (iblk m c 0 t) (iblk m c 1 t) (j 1) (j 2) := by
  rw [outsAt0_B m c t h0 h1]; frame_out
  simp only [dotB]
  pointwise [k0_pay2, k0_pay3]
  exact congrArg (· + _) (congrFun (read_unread_whole _ _ _) _)

/-- Layer 0 of the reference's stack is the gradient of the weights. -/
theorem ref_layer (x : FVec Ideal S4096x512 .bf16) (d : FVec Ideal S4096x1024 .bf16) (b : FVec Ideal S2x512x1024 .bf16)
    (i : S2x512x1024.Idx) (h : (i 0 : ℕ) = 0) : Cert.BODwRefIdeal.Read.val_main_v9 (F := Ideal) x d b i
      = ∑ k : Fin 4096, x (ix2 k (i 1)) * d (ix2 k (i 2)) := by
  unfold Cert.BODwRefIdeal.Read.val_main_v9
  pointwise
  rw [dif_pos (by omega), Cert.BODwRefIdeal.Read.val_main_v7_apply, Cert.BODwRefIdeal.Read.val_main_v6_apply,
    Cert.BODwRefIdeal.Read.val_main_v5_apply]
  refine (Cert.BODwRefIdeal.Read.val_main_v4_apply _ _ _).trans (Fin.sum_fin_congr fun k => ?_)
  refine (mul_comm (_ : EReal) _).trans (congrArg₂ (fun a b : EReal => a * b) (congrArg x ?_) (congrArg d ?_))
  all_goals (funext a; fin_cases a <;> rfl)

/-- The other layer of the reference's stack is the given one. -/
theorem ref_rest (x : FVec Ideal S4096x512 .bf16) (d : FVec Ideal S4096x1024 .bf16) (b : FVec Ideal S2x512x1024 .bf16)
    (i : S2x512x1024.Idx) (h : ¬(i 0 : ℕ) = 0) : Cert.BODwRefIdeal.Read.val_main_v9 (F := Ideal) x d b i = b i := by
  unfold Cert.BODwRefIdeal.Read.val_main_v9
  pointwise
  rw [dif_neg (by omega), Cert.BODwRefIdeal.Read.val_main_v8_apply]
  refine congrArg b ?_
  funext a
  fin_cases a
  · exact Fin.ext (by simp; omega)
  all_goals rfl

/-- The kernel's stack is the reference's. -/
theorem array (c : Dev nD) : (dats m 0 c).arrAt 2 cfg0.N = Cert.BODwRefIdeal.Read.val_main_v9
    (m ((c : Thread nD τ).loc main_arg0)) (m ((c : Thread nD τ).loc main_arg1)) (m ((c : Thread nD τ).loc main_arg2)) := by
  refine (dats m 0 c).arrAt_eq_of_coversWhere_of_agree 2 _ (fun β => β (0 : Fin 3) = 0) (by decide +kernel) (fun t hf y => ?_) (fun j hj => ?_)
  · have hmod : t.val % 2 = 1 := (flush0_2 t).mp hf
    have hN := lt_of_lt_of_eq t.isLt N_0
    blk_simp [idx t]
    rw [after0_2, second m c t (by omega) hmod, first m c ⟨t.val - 1, lt_of_le_of_lt (Nat.sub_le _ _) t.isLt⟩ (by show (t.val - 1) % 2 = 0; omega) (by show ¬(t.val - 1) % 2 = 1; omega),
      zero_add, ref_layer _ _ _ _ (by blk_simp [idx t]), Cert.Products.sum_blocks 2 2048 rfl, Fin.sum_univ_two]
    refine congrArg₂ (fun a b : EReal => a + b) (Fin.sum_fin_congr fun k => ?_) (Fin.sum_fin_congr fun k => ?_)
    all_goals refine congrArg₂ (fun a b : EReal => a * b) ?_ ?_
    all_goals blk_point [iblk, V, idx t, idx ⟨t.val - 1, lt_of_le_of_lt (Nat.sub_le _ _) t.isLt⟩]
  · blk_simp [Pipeline.Window.cell_apply] at hj
    rw [ref_rest _ _ _ _ (by blk_simp; omega)]
    rw [A_eq]
    entry_read
    rfl

/-- Over ideal values the kernel and the reference end with the same stack, and both keep their arguments. -/
theorem algebraic : Cert.algebraic_BODwIdeal_BODwRefIdeal := by
  intro m g m' g' _ hargs
  refine ⟨fun c => (dats m 0 c).arrAt 2 cfg0.N, run_blocks m g, ?_⟩
  refine (θ_run _ _ _).mono (fun r h c => ⟨(h c).1.trans ?_, (h c).2⟩) (Cert.BODwRefIdeal.Value.run m' g')
  obtain ⟨a0, a1, a2⟩ := hargs c
  refine (Cert.BODwRefIdeal.Read.val_main_v9_eq _ _ _).trans ?_
  rw [a0, a1, a2]
  exact (array m c).symm

/-- The reference keeps its arguments and ends with its counters at zero. -/
theorem ref_frame : Cert.quiescent_BODwRefIdeal := fun m g _ =>
  (θ_run Cert.BODwRefIdeal.defs _ _).mono (fun r h => ⟨fun c => (h c).2,
      Idealize.ShloMosaic.sem_eq_zero_of_no_sems (by decide) r.2⟩)
    (Cert.BODwRefIdeal.Value.run (F := Ideal) m g)

end Cert.BODwIdeal.Value
-- ==== Proof.BODxValue.lean ====
module

public import proofs.«01_k».proof.Proof.Gen.BODxIdeal.Value
public import proofs.«01_k».proof.Proof.Gen.BODxRefIdeal.Run
public import proofs.«01_k».proof.Proof.Gen.BODxRefIdeal.Read
public import Idealize.ShloMosaic.Lib.Pipeline.ValueKit
public import Idealize.ShloMosaic.Lib.Claim
public import proofs.«01_k».proof.Defs

/-! # The gradient of the attended values

Each grid point multiplies 1024 rows of the incoming gradient by all the weights, transposed. -/

@[expose] public section

set_option maxRecDepth 16384
noncomputable section
open Idealize.ShloMosaic Idealize.ShloMosaic.TcCoe Idealize.SL.Sem
open Idealize.ShloMosaic.Pipeline (Dat)

namespace Cert.BODxIdeal.Value
open Cert.BODxIdeal.Gen

/-- The block each window reads or writes at a grid point. -/
theorem idx : ∀ t : Fin cfg0.N, win0_0.index t = ![t.val, 0] ∧ win0_1.index t = ![0, 0]
    ∧ win0_2.index t = ![t.val, 0] :=
  (by decide +kernel : ∀ t : Fin grid0.N, _)

variable (m : (ℓ : Loc nD τ sig) → Buf (Elt Ideal) ℓ)

/-- An entry of the stored block. -/
theorem block_entry (x : FVec Ideal S1024x1024 .bf16) (w : FVec Ideal S512x1024 .bf16) (y : S1024x512.Idx) :
    out0_2 (F := Ideal) x w y = ∑ k : Fin 1024, x (ix2 (y 0) k) * w (ix2 (y 1) k) := by
  unfold out0_2
  canon_tiles z hz
  pointwise [k0_pay1]
  rw [Fin.ext hz0, Fin.ext hz1]

/-- The kernel's result is the reference's. -/
theorem array (c : Dev nD) : (dats m 0 c).arrAt 2 cfg0.N = Cert.BODxRefIdeal.Read.val_main_v4
    (m ((c : Thread nD τ).loc main_arg0)) (m ((c : Thread nD τ).loc main_arg1)) := by
  refine (dats m 0 c).arrAt_eq_of_covers 2 _ (by decide +kernel) fun t hf y => ?_
  blk_simp [idx t]
  rw [after0_2]
  rw [block_entry]
  rw [Cert.BODxRefIdeal.Read.val_main_v4_apply]
  refine Fin.sum_fin_congr fun k => ?_
  refine congrArg₂ (fun a b : EReal => a * b) ?_ ?_
  · blk_point [iblk, V, idx t]
  · blk_point [iblk, V, idx t]

/-- Over ideal values the kernel and the reference end with the same product, and both keep their arguments. -/
theorem algebraic : Cert.algebraic_BODxIdeal_BODxRefIdeal := by
  intro m g m' g' _ hargs
  refine ⟨fun c => (dats m 0 c).arrAt 2 cfg0.N, run_blocks m g, ?_⟩
  refine (θ_run _ _ _).mono (fun r h c => ⟨(h c).1.trans ?_, (h c).2⟩) (Cert.BODxRefIdeal.Value.run m' g')
  obtain ⟨a0, a1⟩ := hargs c
  refine (Cert.BODxRefIdeal.Read.val_main_v4_eq _ _).trans ?_
  rw [a0, a1]
  exact (array m c).symm

/-- The reference keeps its arguments and ends with its counters at zero. -/
theorem ref_frame : Cert.quiescent_BODxRefIdeal := fun m g _ =>
  (θ_run Cert.BODxRefIdeal.defs _ _).mono (fun r h => ⟨fun c => (h c).2,
      Idealize.ShloMosaic.sem_eq_zero_of_no_sems (by decide) r.2⟩)
    (Cert.BODxRefIdeal.Value.run (F := Ideal) m g)

end Cert.BODxIdeal.Value
-- ==== Proof.UpDw1Value.lean ====
module

public import proofs.«01_k».proof.Defs
public import proofs.«01_k».proof.Proof.UpDwValue
public import proofs.«01_k».proof.Proof.Gen.UpDw1Ideal.Value
public import proofs.«01_k».proof.Proof.Gen.UpDw1RefIdeal.Run
public import proofs.«01_k».proof.Proof.Gen.UpDw1RefIdeal.Read
public import Idealize.ShloMosaic.Lib.Pipeline.ReadBack
public import Idealize.ShloMosaic.Lib.Claim

/-! # The gradient of the weights of the product up

Two grid points in turn, one for each half of the rows, add their products up in a carried buffer; the second rounds the
sum into layer 1 of a stack of four layers, whose other layers stay as they were. -/

@[expose] public section

set_option maxRecDepth 16384
noncomputable section
open Idealize.ShloMosaic Idealize.ShloMosaic.TcCoe Idealize.SL.Sem
open Idealize.ShloMosaic.Pipeline (Dat)

namespace Cert.UpDw1Ideal.Value
open Cert.UpDw1Ideal.Gen
open Cert.UpDwIdeal.Value (dotB half ref_half)

/-- The block each window reads or writes at a grid point. -/
theorem idx : ∀ t : Fin cfg0.N, win0_0.index t = ![t.val % 2, 0]
    ∧ win0_1.index t = ![t.val / 4, t.val % 2, t.val / 2 % 2] ∧ win0_2.index t = ![1, 0, t.val / 2] :=
  (by decide +kernel : ∀ t : Fin grid0.N, _)

variable (m : (ℓ : Loc nD τ sig) → Buf (Elt Ideal) ℓ)

/-- The first point of two leaves its product in the carried buffer. -/
theorem first (c : Dev nD) (t : Fin cfg0.N) (h0 : t.val % 2 = 0) (h1 : ¬t.val % 2 = 1) (j : S1024x1408.Idx) :
    (outsAt0 m c t.val t.isLt).2 j
      = 0 + dotB (iblk m c 0 t) (iblk m c 1 t) (j 0) (j 1) := by
  rw [outsAt0_A m c t h0 h1]; frame_out
  simp only [dotB]
  pointwise [k0_pay1, k0_pay2]

/-- The second point adds its product and writes the rounded sum. -/
theorem second (c : Dev nD) (t : Fin cfg0.N) (h0 : ¬t.val % 2 = 0) (h1 : t.val % 2 = 1) (j : S1x1024x1408.Idx) :
    (outsAt0 m c t.val t.isLt).1 j
      = (outsAt0 m c (t.val - 1) (lt_of_le_of_lt (Nat.sub_le _ _) t.isLt)).2 (show S1024x1408.Idx from ix2 (j 1) (j 2))
        + dotB (iblk m c 0 t) (iblk m c 1 t) (j 1) (j 2) := by
  rw [outsAt0_B m c t h0 h1]; frame_out
  simp only [dotB]
  pointwise [k0_pay2, k0_pay3]
  exact congrArg (· + _) (congrFun (read_unread_whole _ _ _) _)

/-- The gradient the reference puts into the stack. -/
theorem ref_grad (x : FVec Ideal S4096x1024 .bf16) (d : FVec Ideal S2x4096x2816 .bf16) (i : Cert.UpDw1RefIdeal.S1x1024x5632.Idx) :
    Cert.UpDw1RefIdeal.Read.val_main_v13 (F := Ideal) x d i = ∑ k : Fin 4096, x (ix2 k (i 1)) * half d k (i 2) := by
  rw [Cert.UpDw1RefIdeal.Read.val_main_v13_apply, Cert.UpDw1RefIdeal.Read.val_main_v12_apply, Cert.UpDw1RefIdeal.Read.val_main_v11_apply]
  refine (Cert.UpDw1RefIdeal.Read.val_main_v10_apply _ _ _).trans (Fin.sum_fin_congr fun k => ?_)
  refine (mul_comm (_ : EReal) _).trans (congrArg₂ (fun a b : EReal => a * b) (congrArg x ?_) (ref_half d _))
  (funext a; fin_cases a <;> rfl)

/-- Layer 1 of the reference's stack is the gradient of the weights. -/
theorem ref_layer (x : FVec Ideal S4096x1024 .bf16) (d : FVec Ideal S2x4096x2816 .bf16) (b : FVec Ideal S4x1024x5632 .bf16)
    (i : S4x1024x5632.Idx) (h : (i 0 : ℕ) = 1) : Cert.UpDw1RefIdeal.Read.val_main_v15 (F := Ideal) x d b i
      = ∑ k : Fin 4096, x (ix2 k (i 1)) * half d k (i 2) := by
  unfold Cert.UpDw1RefIdeal.Read.val_main_v15
  pointwise
  rw [dif_neg (by omega), dif_pos (by omega)]
  exact ref_grad x d _

/-- The other layers of the reference's stack are the given ones. -/
theorem ref_rest (x : FVec Ideal S4096x1024 .bf16) (d : FVec Ideal S2x4096x2816 .bf16) (b : FVec Ideal S4x1024x5632 .bf16)
    (i : S4x1024x5632.Idx) (h : ¬(i 0 : ℕ) = 1) : Cert.UpDw1RefIdeal.Read.val_main_v15 (F := Ideal) x d b i = b i := by
  unfold Cert.UpDw1RefIdeal.Read.val_main_v15
  pointwise
  split
  · rw [Cert.UpDw1RefIdeal.Read.val_main_v6_apply]
    refine congrArg b ?_
    funext a
    fin_cases a <;> rfl
  · rw [dif_neg (by omega), Cert.UpDw1RefIdeal.Read.val_main_v14_apply]
    refine congrArg b ?_
    funext a
    fin_cases a
    · exact Fin.ext (by simp; omega)
    all_goals rfl

/-- The kernel's stack is the reference's. -/
theorem array (c : Dev nD) : (dats m 0 c).arrAt 2 cfg0.N = Cert.UpDw1RefIdeal.Read.val_main_v15
    (m ((c : Thread nD τ).loc main_arg0)) (m ((c : Thread nD τ).loc main_arg1)) (m ((c : Thread nD τ).loc main_arg2)) := by
  refine (dats m 0 c).arrAt_eq_of_coversWhere_of_agree 2 _ (fun β => β (0 : Fin 3) = 1) (by decide +kernel) (fun t hf y => ?_) (fun j hj => ?_)
  · have hmod : t.val % 2 = 1 := (flush0_2 t).mp hf
    have hN := lt_of_lt_of_eq t.isLt N_0
    blk_simp [idx t]
    rw [after0_2, second m c t (by omega) hmod, first m c ⟨t.val - 1, lt_of_le_of_lt (Nat.sub_le _ _) t.isLt⟩ (by show (t.val - 1) % 2 = 0; omega) (by show ¬(t.val - 1) % 2 = 1; omega),
      zero_add, ref_layer _ _ _ _ (by blk_simp [idx t]), Cert.Products.sum_blocks 2 2048 rfl, Fin.sum_univ_two]
    refine congrArg₂ (fun a b : EReal => a + b) (Fin.sum_fin_congr fun k => ?_) (Fin.sum_fin_congr fun k => ?_)
    all_goals refine congrArg₂ (fun a b : EReal => a * b) ?_ ?_
    all_goals try unfold half
    all_goals blk_point [iblk, V, idx t, idx ⟨t.val - 1, lt_of_le_of_lt (Nat.sub_le _ _) t.isLt⟩]
  · blk_simp [Pipeline.Window.cell_apply] at hj
    rw [ref_rest _ _ _ _ (by blk_simp; omega)]
    rw [A_eq]
    entry_read
    rfl

/-- Over ideal values the kernel and the reference end with the same stack, and both keep their arguments. -/
theorem algebraic : Cert.algebraic_UpDw1Ideal_UpDw1RefIdeal := by
  intro m g m' g' _ hargs
  refine ⟨fun c => (dats m 0 c).arrAt 2 cfg0.N, run_blocks m g, ?_⟩
  refine (θ_run _ _ _).mono (fun r h c => ⟨(h c).1.trans ?_, (h c).2⟩) (Cert.UpDw1RefIdeal.Value.run m' g')
  obtain ⟨a0, a1, a2⟩ := hargs c
  refine (Cert.UpDw1RefIdeal.Read.val_main_v15_eq _ _ _).trans ?_
  rw [a0, a1, a2]
  exact (array m c).symm

/-- The reference keeps its arguments and ends with its counters at zero. -/
theorem ref_frame : Cert.quiescent_UpDw1RefIdeal := fun m g _ =>
  (θ_run Cert.UpDw1RefIdeal.defs _ _).mono (fun r h => ⟨fun c => (h c).2,
      Idealize.ShloMosaic.sem_eq_zero_of_no_sems (by decide) r.2⟩)
    (Cert.UpDw1RefIdeal.Value.run (F := Ideal) m g)

end Cert.UpDw1Ideal.Value
-- ==== Proof.UpDw2Value.lean ====
module

public import proofs.«01_k».proof.Defs
public import proofs.«01_k».proof.Proof.UpDw1Value
public import proofs.«01_k».proof.Proof.Gen.UpDw2Ideal.Value
public import proofs.«01_k».proof.Proof.Gen.UpDw2RefIdeal.Run
public import proofs.«01_k».proof.Proof.Gen.UpDw2RefIdeal.Read
public import Idealize.ShloMosaic.Lib.Pipeline.ReadBack
public import Idealize.ShloMosaic.Lib.Claim

/-! # The gradient of the weights of the product up

Two grid points in turn, one for each half of the rows, add their products up in a carried buffer; the second rounds the
sum into layer 2 of a stack of four layers, whose other layers stay as they were. -/

@[expose] public section

set_option maxRecDepth 16384
noncomputable section
open Idealize.ShloMosaic Idealize.ShloMosaic.TcCoe Idealize.SL.Sem
open Idealize.ShloMosaic.Pipeline (Dat)

namespace Cert.UpDw2Ideal.Value
open Cert.UpDw2Ideal.Gen
open Cert.UpDwIdeal.Value (dotB half)

/-- The block each window reads or writes at a grid point. -/
theorem idx : ∀ t : Fin cfg0.N, win0_0.index t = ![t.val % 2, 0]
    ∧ win0_1.index t = ![t.val / 4, t.val % 2, t.val / 2 % 2] ∧ win0_2.index t = ![2, 0, t.val / 2] :=
  (by decide +kernel : ∀ t : Fin grid0.N, _)

variable (m : (ℓ : Loc nD τ sig) → Buf (Elt Ideal) ℓ)

/-- The first point of two leaves its product in the carried buffer. -/
theorem first (c : Dev nD) (t : Fin cfg0.N) (h0 : t.val % 2 = 0) (h1 : ¬t.val % 2 = 1) (j : S1024x1408.Idx) :
    (outsAt0 m c t.val t.isLt).2 j
      = 0 + dotB (iblk m c 0 t) (iblk m c 1 t) (j 0) (j 1) := by
  rw [outsAt0_A m c t h0 h1]; frame_out
  simp only [dotB]
  pointwise [k0_pay1, k0_pay2]

/-- The second point adds its product and writes the rounded sum. -/
theorem second (c : Dev nD) (t : Fin cfg0.N) (h0 : ¬t.val % 2 = 0) (h1 : t.val % 2 = 1) (j : S1x1024x1408.Idx) :
    (outsAt0 m c t.val t.isLt).1 j
      = (outsAt0 m c (t.val - 1) (lt_of_le_of_lt (Nat.sub_le _ _) t.isLt)).2 (show S1024x1408.Idx from ix2 (j 1) (j 2))
        + dotB (iblk m c 0 t) (iblk m c 1 t) (j 1) (j 2) := by
  rw [outsAt0_B m c t h0 h1]; frame_out
  simp only [dotB]
  pointwise [k0_pay2, k0_pay3]
  exact congrArg (· + _) (congrFun (read_unread_whole _ _ _) _)

/-- Layer 2 of the reference's stack is the gradient of the weights. -/
theorem ref_layer (x : FVec Ideal S4096x1024 .bf16) (d : FVec Ideal S2x4096x2816 .bf16) (b : FVec Ideal S4x1024x5632 .bf16)
    (i : S4x1024x5632.Idx) (h : (i 0 : ℕ) = 2) : Cert.UpDw2RefIdeal.Read.val_main_v15 (F := Ideal) x d b i
      = ∑ k : Fin 4096, x (ix2 k (i 1)) * half d k (i 2) := by
  unfold Cert.UpDw2RefIdeal.Read.val_main_v15
  pointwise
  rw [dif_neg (by omega), dif_pos (by omega)]
  exact Cert.UpDw1Ideal.Value.ref_grad x d _

/-- The other layers of the reference's stack are the given ones. -/
theorem ref_rest (x : FVec Ideal S4096x1024 .bf16) (d : FVec Ideal S2x4096x2816 .bf16) (b : FVec Ideal S4x1024x5632 .bf16)
    (i : S4x1024x5632.Idx) (h : ¬(i 0 : ℕ) = 2) : Cert.UpDw2RefIdeal.Read.val_main_v15 (F := Ideal) x d b i = b i := by
  unfold Cert.UpDw2RefIdeal.Read.val_main_v15
  pointwise
  split
  · rw [Cert.UpDw2RefIdeal.Read.val_main_v6_apply]
    refine congrArg b ?_
    funext a
    fin_cases a <;> rfl
  · rw [dif_neg (by omega), Cert.UpDw2RefIdeal.Read.val_main_v14_apply]
    refine congrArg b ?_
    funext a
    fin_cases a
    · exact Fin.ext (by simp; omega)
    all_goals rfl

/-- The kernel's stack is the reference's. -/
theorem array (c : Dev nD) : (dats m 0 c).arrAt 2 cfg0.N = Cert.UpDw2RefIdeal.Read.val_main_v15
    (m ((c : Thread nD τ).loc main_arg0)) (m ((c : Thread nD τ).loc main_arg1)) (m ((c : Thread nD τ).loc main_arg2)) := by
  refine (dats m 0 c).arrAt_eq_of_coversWhere_of_agree 2 _ (fun β => β (0 : Fin 3) = 2) (by decide +kernel) (fun t hf y => ?_) (fun j hj => ?_)
  · have hmod : t.val % 2 = 1 := (flush0_2 t).mp hf
    have hN := lt_of_lt_of_eq t.isLt N_0
    blk_simp [idx t]
    rw [after0_2, second m c t (by omega) hmod, first m c ⟨t.val - 1, lt_of_le_of_lt (Nat.sub_le _ _) t.isLt⟩ (by show (t.val - 1) % 2 = 0; omega) (by show ¬(t.val - 1) % 2 = 1; omega),
      zero_add, ref_layer _ _ _ _ (by blk_simp [idx t]), Cert.Products.sum_blocks 2 2048 rfl, Fin.sum_univ_two]
    refine congrArg₂ (fun a b : EReal => a + b) (Fin.sum_fin_congr fun k => ?_) (Fin.sum_fin_congr fun k => ?_)
    all_goals refine congrArg₂ (fun a b : EReal => a * b) ?_ ?_
    all_goals try unfold half
    all_goals blk_point [iblk, V, idx t, idx ⟨t.val - 1, lt_of_le_of_lt (Nat.sub_le _ _) t.isLt⟩]
  · blk_simp [Pipeline.Window.cell_apply] at hj
    rw [ref_rest _ _ _ _ (by blk_simp; omega)]
    rw [A_eq]
    entry_read
    rfl

/-- Over ideal values the kernel and the reference end with the same stack, and both keep their arguments. -/
theorem algebraic : Cert.algebraic_UpDw2Ideal_UpDw2RefIdeal := by
  intro m g m' g' _ hargs
  refine ⟨fun c => (dats m 0 c).arrAt 2 cfg0.N, run_blocks m g, ?_⟩
  refine (θ_run _ _ _).mono (fun r h c => ⟨(h c).1.trans ?_, (h c).2⟩) (Cert.UpDw2RefIdeal.Value.run m' g')
  obtain ⟨a0, a1, a2⟩ := hargs c
  refine (Cert.UpDw2RefIdeal.Read.val_main_v15_eq _ _ _).trans ?_
  rw [a0, a1, a2]
  exact (array m c).symm

/-- The reference keeps its arguments and ends with its counters at zero. -/
theorem ref_frame : Cert.quiescent_UpDw2RefIdeal := fun m g _ =>
  (θ_run Cert.UpDw2RefIdeal.defs _ _).mono (fun r h => ⟨fun c => (h c).2,
      Idealize.ShloMosaic.sem_eq_zero_of_no_sems (by decide) r.2⟩)
    (Cert.UpDw2RefIdeal.Value.run (F := Ideal) m g)

end Cert.UpDw2Ideal.Value
-- ==== Proof.DownDw1Value.lean ====
module

public import proofs.«01_k».proof.Defs
public import proofs.«01_k».proof.Proof.DownDwValue
public import proofs.«01_k».proof.Proof.Gen.DownDw1Ideal.Value
public import proofs.«01_k».proof.Proof.Gen.DownDw1RefIdeal.Run
public import proofs.«01_k».proof.Proof.Gen.DownDw1RefIdeal.Read
public import Idealize.ShloMosaic.Lib.Pipeline.ReadBack
public import Idealize.ShloMosaic.Lib.Claim

/-! # The gradient of the weights of the product down

Two grid points in turn, one for each half of the rows, add their products up in a carried buffer; the second rounds the
sum into layer 1 of a stack of four layers, whose other layers stay as they were. -/

@[expose] public section

set_option maxRecDepth 16384
noncomputable section
open Idealize.ShloMosaic Idealize.ShloMosaic.TcCoe Idealize.SL.Sem
open Idealize.ShloMosaic.Pipeline (Dat)

namespace Cert.DownDw1Ideal.Value
open Cert.DownDw1Ideal.Gen
open Cert.DownDwIdeal.Value (dotB)

/-- The block each window reads or writes at a grid point. -/
theorem idx : ∀ t : Fin cfg0.N, win0_0.index t = ![t.val % 2, t.val / 2] ∧ win0_1.index t = ![t.val % 2, 0]
    ∧ win0_2.index t = ![1, t.val / 2, 0] :=
  (by decide +kernel : ∀ t : Fin grid0.N, _)

variable (m : (ℓ : Loc nD τ sig) → Buf (Elt Ideal) ℓ)

/-- The first point of two leaves its product in the carried buffer. -/
theorem first (c : Dev nD) (t : Fin cfg0.N) (h0 : t.val % 2 = 0) (h1 : ¬t.val % 2 = 1) (j : S1408x1024.Idx) :
    (outsAt0 m c t.val t.isLt).2 j
      = 0 + dotB (iblk m c 0 t) (iblk m c 1 t) (j 0) (j 1) := by
  rw [outsAt0_A m c t h0 h1]; frame_out
  simp only [dotB]
  pointwise [k0_pay1, k0_pay2]

/-- The second point adds its product and writes the rounded sum. -/
theorem second (c : Dev nD) (t : Fin cfg0.N) (h0 : ¬t.val % 2 = 0) (h1 : t.val % 2 = 1) (j : S1x1408x1024.Idx) :
    (outsAt0 m c t.val t.isLt).1 j
      = (outsAt0 m c (t.val - 1) (lt_of_le_of_lt (Nat.sub_le _ _) t.isLt)).2 (show S1408x1024.Idx from ix2 (j 1) (j 2))
        + dotB (iblk m c 0 t) (iblk m c 1 t) (j 1) (j 2) := by
  rw [outsAt0_B m c t h0 h1]; frame_out
  simp only [dotB]
  pointwise [k0_pay2, k0_pay3]
  exact congrArg (· + _) (congrFun (read_unread_whole _ _ _) _)

/-- The gradient the reference puts into the stack. -/
theorem ref_grad (x : FVec Ideal S4096x2816 .bf16) (d : FVec Ideal S4096x1024 .bf16) (i : Cert.DownDw1RefIdeal.S1x2816x1024.Idx) :
    Cert.DownDw1RefIdeal.Read.val_main_v8 (F := Ideal) x d i = ∑ k : Fin 4096, x (ix2 k (i 1)) * d (ix2 k (i 2)) := by
  rw [Cert.DownDw1RefIdeal.Read.val_main_v8_apply, Cert.DownDw1RefIdeal.Read.val_main_v7_apply, Cert.DownDw1RefIdeal.Read.val_main_v6_apply]
  refine (Cert.DownDw1RefIdeal.Read.val_main_v5_apply _ _ _).trans (Fin.sum_fin_congr fun k => ?_)
  refine (mul_comm (_ : EReal) _).trans (congrArg₂ (fun a b : EReal => a * b) (congrArg x ?_) (congrArg d ?_))
  all_goals (funext a; fin_cases a <;> rfl)

/-- Layer 1 of the reference's stack is the gradient of the weights. -/
theorem ref_layer (x : FVec Ideal S4096x2816 .bf16) (d : FVec Ideal S4096x1024 .bf16) (b : FVec Ideal S4x2816x1024 .bf16)
    (i : S4x2816x1024.Idx) (h : (i 0 : ℕ) = 1) : Cert.DownDw1RefIdeal.Read.val_main_v10 (F := Ideal) x d b i
      = ∑ k : Fin 4096, x (ix2 k (i 1)) * d (ix2 k (i 2)) := by
  unfold Cert.DownDw1RefIdeal.Read.val_main_v10
  pointwise
  rw [dif_neg (by omega), dif_pos (by omega)]
  exact ref_grad x d _

/-- The other layers of the reference's stack are the given ones. -/
theorem ref_rest (x : FVec Ideal S4096x2816 .bf16) (d : FVec Ideal S4096x1024 .bf16) (b : FVec Ideal S4x2816x1024 .bf16)
    (i : S4x2816x1024.Idx) (h : ¬(i 0 : ℕ) = 1) : Cert.DownDw1RefIdeal.Read.val_main_v10 (F := Ideal) x d b i = b i := by
  unfold Cert.DownDw1RefIdeal.Read.val_main_v10
  pointwise
  split
  · rw [Cert.DownDw1RefIdeal.Read.val_main_v0_apply]
    refine congrArg b ?_
    funext a
    fin_cases a <;> rfl
  · rw [dif_neg (by omega), Cert.DownDw1RefIdeal.Read.val_main_v9_apply]
    refine congrArg b ?_
    funext a
    fin_cases a
    · exact Fin.ext (by simp; omega)
    all_goals rfl

/-- The kernel's stack is the reference's. -/
theorem array (c : Dev nD) : (dats m 0 c).arrAt 2 cfg0.N = Cert.DownDw1RefIdeal.Read.val_main_v10
    (m ((c : Thread nD τ).loc main_arg0)) (m ((c : Thread nD τ).loc main_arg1)) (m ((c : Thread nD τ).loc main_arg2)) := by
  refine (dats m 0 c).arrAt_eq_of_coversWhere_of_agree 2 _ (fun β => β (0 : Fin 3) = 1) (by decide +kernel) (fun t hf y => ?_) (fun j hj => ?_)
  · have hmod : t.val % 2 = 1 := (flush0_2 t).mp hf
    have hN := lt_of_lt_of_eq t.isLt N_0
    blk_simp [idx t]
    rw [after0_2, second m c t (by omega) hmod, first m c ⟨t.val - 1, lt_of_le_of_lt (Nat.sub_le _ _) t.isLt⟩ (by show (t.val - 1) % 2 = 0; omega) (by show ¬(t.val - 1) % 2 = 1; omega),
      zero_add, ref_layer _ _ _ _ (by blk_simp [idx t]), Cert.Products.sum_blocks 2 2048 rfl, Fin.sum_univ_two]
    refine congrArg₂ (fun a b : EReal => a + b) (Fin.sum_fin_congr fun k => ?_) (Fin.sum_fin_congr fun k => ?_)
    all_goals refine congrArg₂ (fun a b : EReal => a * b) ?_ ?_
    all_goals blk_point [iblk, V, idx t, idx ⟨t.val - 1, lt_of_le_of_lt (Nat.sub_le _ _) t.isLt⟩]
  · blk_simp [Pipeline.Window.cell_apply] at hj
    rw [ref_rest _ _ _ _ (by blk_simp; omega)]
    rw [A_eq]
    entry_read
    rfl

/-- Over ideal values the kernel and the reference end with the same stack, and both keep their arguments. -/
theorem algebraic : Cert.algebraic_DownDw1Ideal_DownDw1RefIdeal := by
  intro m g m' g' _ hargs
  refine ⟨fun c => (dats m 0 c).arrAt 2 cfg0.N, run_blocks m g, ?_⟩
  refine (θ_run _ _ _).mono (fun r h c => ⟨(h c).1.trans ?_, (h c).2⟩) (Cert.DownDw1RefIdeal.Value.run m' g')
  obtain ⟨a0, a1, a2⟩ := hargs c
  refine (Cert.DownDw1RefIdeal.Read.val_main_v10_eq _ _ _).trans ?_
  rw [a0, a1, a2]
  exact (array m c).symm

/-- The reference keeps its arguments and ends with its counters at zero. -/
theorem ref_frame : Cert.quiescent_DownDw1RefIdeal := fun m g _ =>
  (θ_run Cert.DownDw1RefIdeal.defs _ _).mono (fun r h => ⟨fun c => (h c).2,
      Idealize.ShloMosaic.sem_eq_zero_of_no_sems (by decide) r.2⟩)
    (Cert.DownDw1RefIdeal.Value.run (F := Ideal) m g)

end Cert.DownDw1Ideal.Value
-- ==== Proof.DownDw2Value.lean ====
module

public import proofs.«01_k».proof.Defs
public import proofs.«01_k».proof.Proof.DownDw1Value
public import proofs.«01_k».proof.Proof.Gen.DownDw2Ideal.Value
public import proofs.«01_k».proof.Proof.Gen.DownDw2RefIdeal.Run
public import proofs.«01_k».proof.Proof.Gen.DownDw2RefIdeal.Read
public import Idealize.ShloMosaic.Lib.Pipeline.ReadBack
public import Idealize.ShloMosaic.Lib.Claim

/-! # The gradient of the weights of the product down

Two grid points in turn, one for each half of the rows, add their products up in a carried buffer; the second rounds the
sum into layer 2 of a stack of four layers, whose other layers stay as they were. -/

@[expose] public section

set_option maxRecDepth 16384
noncomputable section
open Idealize.ShloMosaic Idealize.ShloMosaic.TcCoe Idealize.SL.Sem
open Idealize.ShloMosaic.Pipeline (Dat)

namespace Cert.DownDw2Ideal.Value
open Cert.DownDw2Ideal.Gen
open Cert.DownDwIdeal.Value (dotB)

/-- The block each window reads or writes at a grid point. -/
theorem idx : ∀ t : Fin cfg0.N, win0_0.index t = ![t.val % 2, t.val / 2] ∧ win0_1.index t = ![t.val % 2, 0]
    ∧ win0_2.index t = ![2, t.val / 2, 0] :=
  (by decide +kernel : ∀ t : Fin grid0.N, _)

variable (m : (ℓ : Loc nD τ sig) → Buf (Elt Ideal) ℓ)

/-- The first point of two leaves its product in the carried buffer. -/
theorem first (c : Dev nD) (t : Fin cfg0.N) (h0 : t.val % 2 = 0) (h1 : ¬t.val % 2 = 1) (j : S1408x1024.Idx) :
    (outsAt0 m c t.val t.isLt).2 j
      = 0 + dotB (iblk m c 0 t) (iblk m c 1 t) (j 0) (j 1) := by
  rw [outsAt0_A m c t h0 h1]; frame_out
  simp only [dotB]
  pointwise [k0_pay1, k0_pay2]

/-- The second point adds its product and writes the rounded sum. -/
theorem second (c : Dev nD) (t : Fin cfg0.N) (h0 : ¬t.val % 2 = 0) (h1 : t.val % 2 = 1) (j : S1x1408x1024.Idx) :
    (outsAt0 m c t.val t.isLt).1 j
      = (outsAt0 m c (t.val - 1) (lt_of_le_of_lt (Nat.sub_le _ _) t.isLt)).2 (show S1408x1024.Idx from ix2 (j 1) (j 2))
        + dotB (iblk m c 0 t) (iblk m c 1 t) (j 1) (j 2) := by
  rw [outsAt0_B m c t h0 h1]; frame_out
  simp only [dotB]
  pointwise [k0_pay2, k0_pay3]
  exact congrArg (· + _) (congrFun (read_unread_whole _ _ _) _)

/-- Layer 2 of the reference's stack is the gradient of the weights. -/
theorem ref_layer (x : FVec Ideal S4096x2816 .bf16) (d : FVec Ideal S4096x1024 .bf16) (b : FVec Ideal S4x2816x1024 .bf16)
    (i : S4x2816x1024.Idx) (h : (i 0 : ℕ) = 2) : Cert.DownDw2RefIdeal.Read.val_main_v10 (F := Ideal) x d b i
      = ∑ k : Fin 4096, x (ix2 k (i 1)) * d (ix2 k (i 2)) := by
  unfold Cert.DownDw2RefIdeal.Read.val_main_v10
  pointwise
  rw [dif_neg (by omega), dif_pos (by omega)]
  exact Cert.DownDw1Ideal.Value.ref_grad x d _

/-- The other layers of the reference's stack are the given ones. -/
theorem ref_rest (x : FVec Ideal S4096x2816 .bf16) (d : FVec Ideal S4096x1024 .bf16) (b : FVec Ideal S4x2816x1024 .bf16)
    (i : S4x2816x1024.Idx) (h : ¬(i 0 : ℕ) = 2) : Cert.DownDw2RefIdeal.Read.val_main_v10 (F := Ideal) x d b i = b i := by
  unfold Cert.DownDw2RefIdeal.Read.val_main_v10
  pointwise
  split
  · rw [Cert.DownDw2RefIdeal.Read.val_main_v0_apply]
    refine congrArg b ?_
    funext a
    fin_cases a <;> rfl
  · rw [dif_neg (by omega), Cert.DownDw2RefIdeal.Read.val_main_v9_apply]
    refine congrArg b ?_
    funext a
    fin_cases a
    · exact Fin.ext (by simp; omega)
    all_goals rfl

/-- The kernel's stack is the reference's. -/
theorem array (c : Dev nD) : (dats m 0 c).arrAt 2 cfg0.N = Cert.DownDw2RefIdeal.Read.val_main_v10
    (m ((c : Thread nD τ).loc main_arg0)) (m ((c : Thread nD τ).loc main_arg1)) (m ((c : Thread nD τ).loc main_arg2)) := by
  refine (dats m 0 c).arrAt_eq_of_coversWhere_of_agree 2 _ (fun β => β (0 : Fin 3) = 2) (by decide +kernel) (fun t hf y => ?_) (fun j hj => ?_)
  · have hmod : t.val % 2 = 1 := (flush0_2 t).mp hf
    have hN := lt_of_lt_of_eq t.isLt N_0
    blk_simp [idx t]
    rw [after0_2, second m c t (by omega) hmod, first m c ⟨t.val - 1, lt_of_le_of_lt (Nat.sub_le _ _) t.isLt⟩ (by show (t.val - 1) % 2 = 0; omega) (by show ¬(t.val - 1) % 2 = 1; omega),
      zero_add, ref_layer _ _ _ _ (by blk_simp [idx t]), Cert.Products.sum_blocks 2 2048 rfl, Fin.sum_univ_two]
    refine congrArg₂ (fun a b : EReal => a + b) (Fin.sum_fin_congr fun k => ?_) (Fin.sum_fin_congr fun k => ?_)
    all_goals refine congrArg₂ (fun a b : EReal => a * b) ?_ ?_
    all_goals blk_point [iblk, V, idx t, idx ⟨t.val - 1, lt_of_le_of_lt (Nat.sub_le _ _) t.isLt⟩]
  · blk_simp [Pipeline.Window.cell_apply] at hj
    rw [ref_rest _ _ _ _ (by blk_simp; omega)]
    rw [A_eq]
    entry_read
    rfl

/-- Over ideal values the kernel and the reference end with the same stack, and both keep their arguments. -/
theorem algebraic : Cert.algebraic_DownDw2Ideal_DownDw2RefIdeal := by
  intro m g m' g' _ hargs
  refine ⟨fun c => (dats m 0 c).arrAt 2 cfg0.N, run_blocks m g, ?_⟩
  refine (θ_run _ _ _).mono (fun r h c => ⟨(h c).1.trans ?_, (h c).2⟩) (Cert.DownDw2RefIdeal.Value.run m' g')
  obtain ⟨a0, a1, a2⟩ := hargs c
  refine (Cert.DownDw2RefIdeal.Read.val_main_v10_eq _ _ _).trans ?_
  rw [a0, a1, a2]
  exact (array m c).symm

/-- The reference keeps its arguments and ends with its counters at zero. -/
theorem ref_frame : Cert.quiescent_DownDw2RefIdeal := fun m g _ =>
  (θ_run Cert.DownDw2RefIdeal.defs _ _).mono (fun r h => ⟨fun c => (h c).2,
      Idealize.ShloMosaic.sem_eq_zero_of_no_sems (by decide) r.2⟩)
    (Cert.DownDw2RefIdeal.Value.run (F := Ideal) m g)

end Cert.DownDw2Ideal.Value
-- ==== Proof.LayerNorm.lean ====
module

public import proofs.«01_k».proof.Proof.Products
public import Idealize.ShloMosaic.Lib.Pipeline.ValueKit
public import Idealize.ShloMosaic.Lib.Claim

/-! # The layer normalisation of one row

A row of 1024 numbers, less its mean, over the root of its variance with a small constant added. The two layer-norm
kernels and their references are all stated by these functions of one row. -/

@[expose] public section

noncomputable section
open Idealize.ShloMosaic

namespace Cert.LayerNorm

/-- An entry of the row that is normalised: the residual times its constant, plus the branch. -/
def joined (x h : EReal) : EReal := Ideal.ofBits .f32 0x3FD744FD#32 * x + h

variable (r : Fin 1024 → EReal)

def mean : EReal := Ideal.div (∑ k, r k) (Ideal.ofBits .f32 0x44800000#32)

def centred (e : Fin 1024) : EReal := r e - mean r

/-- The variance with the small constant added. -/
def spread : EReal := Ideal.div (∑ k, centred r k * centred r k) (Ideal.ofBits .f32 0x44800000#32) + Ideal.ofBits .f32 0x3727C5AC#32

def rstd : EReal := Ideal.rsqrt (spread r)

/-- The normalised row. -/
def hat (e : Fin 1024) : EReal := centred r e * rstd r

end Cert.LayerNorm
-- ==== Proof.AddLnValue.lean ====
module

public import proofs.«01_k».proof.Proof.LayerNorm
public import proofs.«01_k».proof.Proof.Gen.AddLnIdeal.Value
public import proofs.«01_k».proof.Proof.Gen.AddLnRefIdeal.Run
public import proofs.«01_k».proof.Proof.Gen.AddLnRefIdeal.Read
public import proofs.«01_k».proof.Defs

/-! # The residual and layer norm between two blocks

Each grid point normalises 1024 rows of the scaled residual plus the branch, and stores the result twice: as it is and
in the narrower type. -/

@[expose] public section

set_option maxRecDepth 16384
noncomputable section
open Idealize.ShloMosaic Idealize.ShloMosaic.TcCoe Idealize.SL.Sem
open Idealize.ShloMosaic.Pipeline (Dat)

namespace Cert.AddLnRefIdeal.Value
open Cert.AddLnRefIdeal.Read Cert.LayerNorm

section
variable (x0 x1 : FVec Ideal S4096x1024 .f32) (x2 x3 : FVec Ideal S1024 .f32) (i : Fin 4096)

/-- A row of the whole array before it is normalised. -/
def row (k : Fin 1024) : EReal := joined (x0 (ix2 i k)) (x1 (ix2 i k))

theorem ref_mean : val_main_v6 (F := Ideal) x0 x1 (ix2 i 0) = mean (row x0 x1 i) := by
  rw [val_main_v6_apply, val_main_v4_apply, val_main_v3_apply, val_main_v5_apply, val_main_cst_0_apply, val_main_cst_1_apply]
  show Ideal.div (Ideal.ofBits .f32 0x00000000#32 + _) (Ideal.ofBits .f32 0x44800000#32) = _
  rw [Ideal.ofBits_zero_f32, zero_add]
  refine congrArg (Ideal.div · _) (Fin.sum_fin_congr fun k => ?_)
  refine (congrArg (val_main_v2 (F := Ideal) x0 x1) (?_ : _ = ix2 i k)).trans rfl
  funext a; fin_cases a <;> rfl

theorem ref_centred (e : Fin 1024) : val_main_v8 (F := Ideal) x0 x1 (ix2 i e) = centred (row x0 x1 i) e := by
  rw [centred, ← ref_mean, val_main_v8_apply, val_main_v7_apply]
  exact congrArg (fun q => row x0 x1 i e - val_main_v6 (F := Ideal) x0 x1 q) (by funext a; fin_cases a <;> rfl)

theorem ref_spread : val_main_v17 (F := Ideal) x0 x1 (ix2 i 0) = spread (row x0 x1 i) := by
  rw [val_main_v17_apply, val_main_v13_apply, val_main_v11_apply, val_main_v10_apply, val_main_v12_apply, val_main_v16_apply,
    val_main_cst_2_apply, val_main_cst_3_apply, val_main_cst_4_apply]
  show Ideal.div (Ideal.ofBits .f32 0x00000000#32 + _) (Ideal.ofBits .f32 0x44800000#32) + Ideal.ofBits .f32 0x3727C5AC#32 = _
  rw [Ideal.ofBits_zero_f32, zero_add]
  refine congrArg (fun q => Ideal.div q _ + _) (Fin.sum_fin_congr fun k => ?_)
  rw [← ref_centred, val_main_v9_apply]
  exact congrArg (fun q => val_main_v8 (F := Ideal) x0 x1 q * val_main_v8 (F := Ideal) x0 x1 q) (by funext a; fin_cases a <;> rfl)

/-- The reference's result is the normalised row, scaled and shifted. -/
theorem ref_result (e : Fin 1024) : val_main_v26 (F := Ideal) x0 x1 x2 x3 (ix2 i e) =
    hat (row x0 x1 i) e * x2 (ix1 e) + x3 (ix1 e) := by
  rw [hat, rstd, ← ref_spread, ← ref_centred, val_main_v26_apply, val_main_v23_apply, val_main_v20_apply, val_main_v19_apply,
    val_main_v18_apply, val_main_v22_apply, val_main_v21_apply, val_main_v25_apply, val_main_v24_apply]
  refine congrArg₂ (fun a b : EReal => a + b) (congrArg₂ (fun a b : EReal => a * b) (congrArg₂ (fun a b : EReal => a * b) ?_ ?_) ?_) ?_
  · rfl
  · exact congrArg (fun q => Ideal.rsqrt (val_main_v17 (F := Ideal) x0 x1 q)) (by funext a; fin_cases a <;> rfl)
  · exact congrArg x2 (by funext a; fin_cases a; rfl)
  · exact congrArg x3 (by funext a; fin_cases a; rfl)

end

end Cert.AddLnRefIdeal.Value

namespace Cert.AddLnIdeal.Value
open Cert.AddLnIdeal.Gen Cert.LayerNorm

/-- The block each window reads or writes at a grid point. -/
theorem idx : ∀ t : Fin cfg0.N, win0_0.index t = ![t.val, 0] ∧ win0_1.index t = ![t.val, 0]
    ∧ win0_2.index t = ![0, 0] ∧ win0_3.index t = ![0, 0] ∧ win0_4.index t = ![t.val, 0] ∧ win0_5.index t = ![t.val, 0] :=
  (by decide +kernel : ∀ t : Fin grid0.N, _)

variable (m : (ℓ : Loc nD τ sig) → Buf (Elt Ideal) ℓ)

section
variable (x h : FVec Ideal S1024x1024 .f32) (g b : FVec Ideal S1x1024 .f32)

/-- An entry of the block, from the rows of its operands. -/
def entry (p e : Fin 1024) : EReal := hat (fun k => joined (x (ix2 p k)) (h (ix2 p k))) e * g (ix2 0 e) + b (ix2 0 e)

theorem block4 (p e : Fin 1024) : out0_4 (F := Ideal) x h g b (ix2 p e) = entry x h g b p e := by
  unfold out0_4
  canon_tiles z hz
  obtain rfl : ix2 p e = z := funext fun a => by fin_cases a; exacts [Fin.ext hz0, Fin.ext hz1]
  pointwise [k0_pay1]
  rfl

theorem block5 (p e : Fin 1024) : out0_5 (F := Ideal) x h g b (ix2 p e) = entry x h g b p e := by
  unfold out0_5
  canon_tiles z hz
  obtain rfl : ix2 p e = z := funext fun a => by fin_cases a; exacts [Fin.ext hz0, Fin.ext hz1]
  pointwise [k0_pay1, k0_pay2]
  rfl

end

/-- A gain or shift as a single row. -/
def rowVec (g : FVec Ideal S1024 .f32) : FVec Ideal S1x1024 .f32 := fun j => g (ix1 (j 1))

theorem rowVec_cast (b : FVec Ideal S1024 .f32) : shapeCast S1x1024 b shapeCasts_S1024_S1x1024 = rowVec b := by
  funext j
  simp only [rowVec]
  pointwise

theorem V_v0 (c : Dev nD) : V m c main_v0 = rowVec (m ((c : Thread nD τ).loc main_arg2)) := by
  entry_read
  exact rowVec_cast _

theorem V_v1 (c : Dev nD) : V m c main_v1 = rowVec (m ((c : Thread nD τ).loc main_arg3)) := by
  entry_read
  exact rowVec_cast _

theorem iblk2 (c : Dev nD) (t : Fin cfg0.N) : iblk m c 2 t = rowVec (m ((c : Thread nD τ).loc main_arg2)) := by
  rw [← V_v0]
  funext j
  blk_point [iblk, idx t]

theorem iblk3 (c : Dev nD) (t : Fin cfg0.N) : iblk m c 3 t = rowVec (m ((c : Thread nD τ).loc main_arg3)) := by
  rw [← V_v1]
  funext j
  blk_point [iblk, idx t]

/-- Row `p` of block `t` in the whole array. -/
def rowOf (t : Fin cfg0.N) (p : Fin 1024) : Fin 4096 :=
  ⟨t.val * 1024 + p, by have := lt_of_lt_of_eq t.isLt N_0; have := p.isLt; omega⟩

/-- An entry of block `t` is that entry of the reference's result. -/
theorem entry_ref (c : Dev nD) (t : Fin cfg0.N) (p e : Fin 1024) :
    entry (iblk m c 0 t) (iblk m c 1 t) (iblk m c 2 t) (iblk m c 3 t) p e = Cert.AddLnRefIdeal.Read.val_main_v26
      (m ((c : Thread nD τ).loc main_arg0)) (m ((c : Thread nD τ).loc main_arg1))
      (m ((c : Thread nD τ).loc main_arg2)) (m ((c : Thread nD τ).loc main_arg3)) (ix2 (rowOf t p) e) := by
  have h0 : ∀ k : Fin 1024, iblk m c 0 t (ix2 p k) = m ((c : Thread nD τ).loc main_arg0) (ix2 (rowOf t p) k) := fun k => by
    simp only [rowOf]; blk_point [iblk, V, idx t]
  have h1 : ∀ k : Fin 1024, iblk m c 1 t (ix2 p k) = m ((c : Thread nD τ).loc main_arg1) (ix2 (rowOf t p) k) := fun k => by
    simp only [rowOf]; blk_point [iblk, V, idx t]
  rw [Cert.AddLnRefIdeal.Value.ref_result, iblk2, iblk3]
  unfold entry
  simp only [h0, h1]
  rfl

/-- The kernel's first result is the reference's. -/
theorem array4 (c : Dev nD) : (dats m 0 c).arrAt 4 cfg0.N = Cert.AddLnRefIdeal.Read.val_main_v26
    (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  obtain ⟨p, e, rfl⟩ : ∃ p e : Fin 1024, y = ix2 p e := ⟨y 0, y 1, by funext a; fin_cases a <;> rfl⟩
  blk_simp [idx t]
  rw [after0_4, block4, entry_ref]
  refine congrArg _ ?_
  funext a; fin_cases a <;> (apply Fin.ext; simp only [rowOf]; blk_simp [idx t])

/-- The second result is the first in the narrower type. -/
theorem array5 (c : Dev nD) : (dats m 0 c).arrAt 5 cfg0.N = Cert.AddLnRefIdeal.Read.val_main_v27
    (m ((c : Thread nD τ).loc main_arg0)) (m ((c : Thread nD τ).loc main_arg1))
    (m ((c : Thread nD τ).loc main_arg2)) (m ((c : Thread nD τ).loc main_arg3)) := by
  refine (dats m 0 c).arrAt_eq_of_covers 5 _ (by decide +kernel) fun t hf y => ?_
  obtain ⟨p, e, rfl⟩ : ∃ p e : Fin 1024, y = ix2 p e := ⟨y 0, y 1, by funext a; fin_cases a <;> rfl⟩
  blk_simp [idx t]
  rw [after0_5, block5, entry_ref, Cert.AddLnRefIdeal.Read.val_main_v27_apply]
  refine congrArg (Cert.AddLnRefIdeal.Read.val_main_v26 (F := Ideal) _ _ _ _) ?_
  funext a; fin_cases a <;> (apply Fin.ext; simp only [rowOf]; blk_simp [idx t])

/-- Over ideal values the kernel and the reference end with the same two results, and both keep their arguments. -/
theorem algebraic : Cert.algebraic_AddLnIdeal_AddLnRefIdeal := by
  intro m g m' g' _ hargs
  refine ⟨fun c => (dats m 0 c).arrAt 4 cfg0.N, fun c => (dats m 0 c).arrAt 5 cfg0.N, run_blocks m g, ?_⟩
  refine (θ_run _ _ _).mono (fun r h c => ⟨(h c).1.trans ?_, (h c).2.1.trans ?_, (h c).2.2⟩) (Cert.AddLnRefIdeal.Value.run m' g')
  · obtain ⟨a0, a1, a2, a3⟩ := hargs c
    refine (Cert.AddLnRefIdeal.Read.val_main_v26_eq _ _ _ _).trans ?_
    rw [a0, a1, a2, a3]
    exact (array4 m c).symm
  · obtain ⟨a0, a1, a2, a3⟩ := hargs c
    refine (Cert.AddLnRefIdeal.Read.val_main_v27_eq _ _ _ _).trans ?_
    rw [a0, a1, a2, a3]
    exact (array5 m c).symm

/-- The reference keeps its arguments and ends with its counters at zero. -/
theorem ref_frame : Cert.quiescent_AddLnRefIdeal := fun m g _ =>
  (θ_run Cert.AddLnRefIdeal.defs _ _).mono (fun r h => ⟨fun c => (h c).2.2,
      Idealize.ShloMosaic.sem_eq_zero_of_no_sems (by decide) r.2⟩)
    (Cert.AddLnRefIdeal.Value.run (F := Ideal) m g)

end Cert.AddLnIdeal.Value
-- ==== Proof.LayerNormReal.lean ====
module

public import proofs.«01_k».proof.Proof.LayerNorm
public import proofs.«01_k».proof.Proof.SguReal

/-! # The gradient of the layer normalisation of one row

`asDifferentiated` is the row's gradient as the reference's differentiation writes it, with the variance and the mean
differentiated apart; `asWritten` is the kernel's closed form. On real rows the two are the same number. -/

@[expose] public section

noncomputable section
open Idealize.ShloMosaic
open Cert.SguIdeal.Value (IsReal coe_sum row_gradient word_neg_half word_two word_eps)
open Cert.SguRefIdeal.Value (rsqrt_pos)

namespace Cert.LayerNorm

theorem word_width : Ideal.ofBits .f32 0x44800000#32 = ((1024 : ℝ) : EReal) := by
  simp [Ideal.ofBits, Ideal.ieee, -EReal.coe_mul]; norm_num

theorem div_width (x : ℝ) : Ideal.div (x : EReal) (Ideal.ofBits .f32 0x44800000#32) = ((x / 1024 : ℝ) : EReal) := by
  rw [word_width, Ideal.div_coe (by norm_num), ← EReal.coe_mul]
  congr 1; ring

theorem isReal_scale : IsReal (Ideal.ofBits .f32 0x3FD744FD#32) := ⟨_, by simp [Ideal.ofBits, Ideal.ieee, -EReal.coe_mul]; rfl⟩

theorem isReal_joined {x h : EReal} (hx : IsReal x) (hh : IsReal h) : IsReal (joined x h) := (isReal_scale.mul hx).add hh

section
variable (r d : Fin 1024 → EReal)

/-- The variance's share of the gradient, before it is spread over the row. -/
def ofVar : EReal := Ideal.div ((∑ k, centred r k * d k)
  * (Ideal.ofBits .f32 0xBF000000#32 * Ideal.div (rstd r) (spread r))) (Ideal.ofBits .f32 0x44800000#32)

/-- The variance's share at one entry. -/
def varAt (e : Fin 1024) : EReal := ofVar r d * (Ideal.ofBits .f32 0x40000000#32 * centred r e)

def asDifferentiated (e : Fin 1024) : EReal := d e * rstd r + varAt r d e
  + Ideal.div ((∑ k, -(d k * rstd r)) + ∑ k, -varAt r d k) (Ideal.ofBits .f32 0x44800000#32)

def asWritten (e : Fin 1024) : EReal := rstd r * (d e - Ideal.div (∑ k, d k) (Ideal.ofBits .f32 0x44800000#32)
  - hat r e * Ideal.div (∑ k, d k * hat r k) (Ideal.ofBits .f32 0x44800000#32))

variable (hr : ∀ k, IsReal (r k)) (hd : ∀ k, IsReal (d k))

include hr in
/-- The centred row is real and sums to zero. -/
theorem real_centred : ∃ xc : Fin 1024 → ℝ, (∀ e, centred r e = (xc e : EReal)) ∧ ∑ e, xc e = 0 := by
  choose a ha using hr
  refine ⟨fun e => a e - (∑ k, a k) / 1024, fun e => ?_, ?_⟩
  · unfold centred mean
    simp only [ha]
    rw [← coe_sum, div_width, ← EReal.coe_sub]
  · rw [Finset.sum_sub_distrib, Finset.sum_const, Finset.card_univ, Fintype.card_fin]
    simp only [nsmul_eq_mul]
    push_cast
    ring

/-- The variance with its constant is real and positive. -/
theorem real_spread (xc : Fin 1024 → ℝ) (hxc : ∀ e, centred r e = (xc e : EReal)) : ∃ v : ℝ, 0 < v ∧ spread r = (v : EReal) := by
  obtain ⟨ε, hε, he⟩ := word_eps
  refine ⟨(∑ k, xc k * xc k) / 1024 + ε,
    add_pos_of_nonneg_of_pos (div_nonneg (Finset.sum_nonneg fun k _ => mul_self_nonneg _) (by norm_num)) hε, ?_⟩
  unfold spread
  simp only [hxc, ← EReal.coe_mul]
  rw [he, ← coe_sum, div_width, ← EReal.coe_add]

include hr hd in
theorem gradient (e : Fin 1024) : asDifferentiated r d e = asWritten r d e := by
  obtain ⟨xc, hxc, hz⟩ := real_centred r hr
  obtain ⟨v, hv, hev⟩ := real_spread r xc hxc
  choose q hq using hd
  have hs : rstd r = (((√v)⁻¹ : ℝ) : EReal) := by rw [rstd, hev, rsqrt_pos hv]
  have ho : ofVar r d = (((∑ k, xc k * q k) * (-(1 / 2) * ((√v)⁻¹ / v)) / 1024 : ℝ) : EReal) := by
    rw [ofVar, hs, hev, word_neg_half, Ideal.div_coe hv.ne']
    simp only [hxc, hq, ← EReal.coe_mul]
    rw [← coe_sum, ← EReal.coe_mul, div_width]
    congr 1
    ring
  have hv' : ∀ k, varAt r d k = ((((∑ k, xc k * q k) * (-(1 / 2) * ((√v)⁻¹ / v)) / 1024) * (2 * xc k) : ℝ) : EReal) := fun k => by
    rw [varAt, ho, word_two, hxc, ← EReal.coe_mul, ← EReal.coe_mul]
  unfold asDifferentiated asWritten hat
  simp only [hv', hs, hxc, hq, ← EReal.coe_mul, ← EReal.coe_neg]
  rw [← coe_sum, ← coe_sum, ← coe_sum, ← coe_sum, ← EReal.coe_add, ← EReal.coe_add, div_width, div_width, div_width,
    ← EReal.coe_add, ← EReal.coe_sub, ← EReal.coe_mul, ← EReal.coe_sub, ← EReal.coe_mul]
  exact congrArg _ (row_gradient 1024 (by norm_num) xc q hz v hv e)

end

end Cert.LayerNorm
-- ==== Proof.LnBwdRef.lean ====
module

public import proofs.«01_k».proof.Proof.LayerNormReal
public import proofs.«01_k».proof.Proof.Gen.LnBwdRefIdeal.Run
public import proofs.«01_k».proof.Proof.Gen.LnBwdRefIdeal.Read

/-! # The reference of the layer norm's backward pass

Its four results at an index, by the functions of one row: the row's gradient as differentiated, and the sums over all
rows that are the gradients of the gain and of the shift. -/

@[expose] public section

set_option maxRecDepth 16384
noncomputable section
open Idealize.ShloMosaic Idealize.ShloMosaic.TcCoe Idealize.SL.Sem

namespace Cert.LnBwdRefIdeal.Value
open Cert.LnBwdRefIdeal.Read Cert.LayerNorm

/-- A row of the whole array before it is normalised. -/
def row (x h : FVec Ideal S4096x1024 .f32) (i : Fin 4096) (k : Fin 1024) : EReal := joined (x (ix2 i k)) (h (ix2 i k))

/-- A row of the incoming gradient times the gain. -/
def gained (dy : FVec Ideal S4096x1024 .f32) (g : FVec Ideal S1024 .f32) (i : Fin 4096) (k : Fin 1024) : EReal := dy (ix2 i k) * g (ix1 k)

section
variable (dy x h : FVec Ideal S4096x1024 .f32) (g : FVec Ideal S1024 .f32) (i : Fin 4096)

theorem ref_mean : val_main_v7 (F := Ideal) x h (ix2 i 0) = mean (row x h i) := by
  rw [val_main_v7_apply, val_main_v5_apply, val_main_v4_apply, val_main_v6_apply, val_main_cst_1_apply, val_main_cst_2_apply]
  show Ideal.div (Ideal.ofBits .f32 0x00000000#32 + _) (Ideal.ofBits .f32 0x44800000#32) = _
  rw [Ideal.ofBits_zero_f32, zero_add]
  refine congrArg (Ideal.div · _) (Fin.sum_fin_congr fun k => ?_)
  refine (congrArg (val_main_v2 (F := Ideal) x h) (?_ : _ = ix2 i k)).trans rfl
  funext a; fin_cases a <;> rfl

/-- The row less its mean (the reference computes it twice). -/
theorem ref_centred (e : Fin 1024) : val_main_v9 (F := Ideal) x h (ix2 i e) = centred (row x h i) e := by
  rw [centred, ← ref_mean, val_main_v9_apply, val_main_v8_apply]
  exact congrArg (fun q => row x h i e - val_main_v7 (F := Ideal) x h q) (by funext a; fin_cases a <;> rfl)

theorem ref_centred' (e : Fin 1024) : val_main_v18 (F := Ideal) x h (ix2 i e) = centred (row x h i) e := by
  rw [← ref_centred, val_main_v18_apply, val_main_v17_apply, val_main_v9_apply, val_main_v8_apply]

theorem ref_spread : val_main_v20 (F := Ideal) x h (ix2 i 0) = spread (row x h i) := by
  rw [val_main_v20_apply, val_main_v16_apply, val_main_v14_apply, val_main_v13_apply, val_main_v15_apply, val_main_v19_apply,
    val_main_cst_4_apply, val_main_cst_5_apply, val_main_cst_6_apply]
  show Ideal.div (Ideal.ofBits .f32 0x00000000#32 + _) (Ideal.ofBits .f32 0x44800000#32) + Ideal.ofBits .f32 0x3727C5AC#32 = _
  rw [Ideal.ofBits_zero_f32, zero_add]
  refine congrArg (fun q => Ideal.div q _ + _) (Fin.sum_fin_congr fun k => ?_)
  rw [← ref_centred, val_main_v10_apply]
  exact congrArg (fun q => val_main_v9 (F := Ideal) x h q * val_main_v9 (F := Ideal) x h q) (by funext a; fin_cases a <;> rfl)

theorem ref_rstd : val_main_v21 (F := Ideal) x h (ix2 i 0) = rstd (row x h i) := by
  rw [rstd, ← ref_spread, val_main_v21_apply]
  rfl

theorem ref_hat (e : Fin 1024) : val_main_v26 (F := Ideal) x h (ix2 i e) = hat (row x h i) e := by
  rw [hat, ← ref_rstd, ← ref_centred', val_main_v26_apply, val_main_v25_apply]
  exact congrArg (fun q => val_main_v18 (F := Ideal) x h (ix2 i e) * val_main_v21 (F := Ideal) x h q) (by funext a; fin_cases a <;> rfl)

/-- The reference reshapes the incoming gradient to its own shape. -/
theorem ref_dy (e : Fin 1024) : val_main_v33 (F := Ideal) dy (ix2 i e) = dy (ix2 i e) := by
  rw [val_main_v33_apply]
  refine congrArg dy ?_
  have := i.isLt; have := e.isLt
  funext a
  fin_cases a
  · refine Fin.ext ?_
    show ((i : ℕ) * 1024 + e) / 1024 = i
    omega
  · refine Fin.ext ?_
    show ((i : ℕ) * 1024 + e) % 1024 = e
    omega

theorem ref_gained (e : Fin 1024) : val_main_v41 (F := Ideal) dy g (ix2 i e) = gained dy g i e := by
  rw [gained, ← ref_dy dy, val_main_v41_apply, val_main_v40_apply, val_main_v27_apply]
  exact congrArg (fun q => val_main_v33 (F := Ideal) dy (ix2 i e) * g q) (by funext a; fin_cases a; rfl)

/-! ## The gradient of the row -/

theorem ref_direct (e : Fin 1024) : val_main_v47 (F := Ideal) dy x h g (ix2 i e) = gained dy g i e * rstd (row x h i) := by
  rw [← ref_gained, ← ref_rstd, val_main_v47_apply, val_main_v46_apply]
  exact congrArg (fun q => val_main_v41 (F := Ideal) dy g (ix2 i e) * val_main_v21 (F := Ideal) x h q) (by funext a; fin_cases a <;> rfl)

theorem ref_corr : val_main_v44 (F := Ideal) dy x h g (ix1 i) = ∑ k : Fin 1024, centred (row x h i) k * gained dy g i k := by
  rw [val_main_v44_apply, val_main_cst_12_apply]
  show Ideal.ofBits .f32 0x00000000#32 + _ = _
  rw [Ideal.ofBits_zero_f32, zero_add]
  refine Fin.sum_fin_congr fun k => ?_
  rw [← ref_centred', ← ref_gained, val_main_v43_apply]
  exact congrArg (fun q => val_main_v18 (F := Ideal) x h q * val_main_v41 (F := Ideal) dy g q) (by funext a; fin_cases a <;> rfl)

theorem ref_ofVar : val_main_v54 (F := Ideal) dy x h g (ix1 i) = ofVar (row x h i) (gained dy g i) := by
  rw [ofVar, ← ref_corr, ← ref_rstd, ← ref_spread, val_main_v54_apply, val_main_cst_15_apply]
  show Ideal.ofBits .f32 0x00000000#32 + _ = _
  rw [Ideal.ofBits_zero_f32, zero_add, Fin.sum_univ_one]
  have hq : idx_main_v54 (ix1 i) 0 = ix2 i 0 := by funext a; fin_cases a <;> rfl
  rw [hq, val_main_v53_apply, val_main_v48_apply, val_main_v45_apply, val_main_v24_apply, val_main_v23_apply, val_main_v22_apply,
    val_main_v52_apply, val_main_cst_14_apply, val_main_cst_7_apply]
  have hr : idx_main_v45 (ix2 i 0) = ix1 i := by
    funext a; fin_cases a
    refine Fin.ext ?_
    show (i : ℕ) * 1 + 0 = i
    omega
  rw [hr]
  rfl

theorem ref_varAt (e : Fin 1024) : val_main_v56 (F := Ideal) dy x h g (ix2 i e) = varAt (row x h i) (gained dy g i) e := by
  rw [varAt, ← ref_ofVar, ← ref_centred, val_main_v56_apply, val_main_v55_apply, val_main_v12_apply, val_main_v11_apply, val_main_cst_3_apply]
  exact congrArg (fun q => val_main_v54 (F := Ideal) dy x h g q * (Ideal.ofBits .f32 0x40000000#32 * val_main_v9 (F := Ideal) x h (ix2 i e)))
    (by funext a; fin_cases a; rfl)

theorem ref_neg1 : val_main_v51 (F := Ideal) dy x h g (ix2 i 0) = ∑ k : Fin 1024, -(gained dy g i k * rstd (row x h i)) := by
  rw [val_main_v51_apply, val_main_v50_apply, val_main_cst_13_apply]
  show Ideal.ofBits .f32 0x00000000#32 + _ = _
  rw [Ideal.ofBits_zero_f32, zero_add]
  refine Fin.sum_fin_congr fun k => ?_
  rw [← ref_direct, val_main_v49_apply]
  refine congrArg (fun q => -val_main_v47 (F := Ideal) dy x h g q) ?_
  funext a
  fin_cases a
  · refine Fin.ext ?_
    show (i : ℕ) * 1 + 0 = i
    omega
  · rfl

theorem ref_neg2 : val_main_v59 (F := Ideal) dy x h g (ix2 i 0) = ∑ k : Fin 1024, -varAt (row x h i) (gained dy g i) k := by
  rw [val_main_v59_apply, val_main_v58_apply, val_main_cst_16_apply]
  show Ideal.ofBits .f32 0x00000000#32 + _ = _
  rw [Ideal.ofBits_zero_f32, zero_add]
  refine Fin.sum_fin_congr fun k => ?_
  rw [← ref_varAt, val_main_v57_apply]
  refine congrArg (fun q => -val_main_v56 (F := Ideal) dy x h g q) ?_
  funext a
  fin_cases a
  · refine Fin.ext ?_
    show (i : ℕ) * 1 + 0 = i
    omega
  · rfl

/-- The first result: the row's gradient as differentiated. -/
theorem ref_dr (e : Fin 1024) : val_main_v66 (F := Ideal) dy x h g (ix2 i e) = asDifferentiated (row x h i) (gained dy g i) e := by
  have hm : val_main_v65 (F := Ideal) dy x h g (ix2 i e) = Ideal.div ((∑ k : Fin 1024, -(gained dy g i k * rstd (row x h i)))
      + ∑ k : Fin 1024, -varAt (row x h i) (gained dy g i) k) (Ideal.ofBits .f32 0x44800000#32) := by
    rw [← ref_neg1, ← ref_neg2, val_main_v65_apply, val_main_v64_apply, val_main_cst_18_apply]
    show Ideal.ofBits .f32 0x00000000#32 + _ = _
    rw [Ideal.ofBits_zero_f32, zero_add, Fin.sum_univ_one]
    have hq : idx_main_v64 (idx_main_v65 (ix2 i e)) 0 = ix2 i 0 := by funext a; fin_cases a <;> rfl
    rw [hq, val_main_v63_apply, val_main_v61_apply, val_main_v62_apply, val_main_cst_17_apply]
    rfl
  rw [asDifferentiated, ← hm, ← ref_direct, ← ref_varAt, val_main_v66_apply, val_main_v60_apply]
  rfl

/-! ## The gradients of the gain and of the shift -/

theorem sum_dg (e : Fin 1024) : val_main_v42 (F := Ideal) dy x h (ix1 e) = ∑ i : Fin 4096, dy (ix2 i e) * hat (row x h i) e := by
  rw [val_main_v42_apply, val_main_cst_11_apply]
  show Ideal.ofBits .f32 0x00000000#32 + _ = _
  rw [Ideal.ofBits_zero_f32, zero_add, Fin.sum_univ_one, val_main_v39_apply, val_main_v38_apply, val_main_cst_10_apply]
  show Ideal.ofBits .f32 0x00000000#32 + _ = _
  rw [Ideal.ofBits_zero_f32, zero_add]
  refine Fin.sum_fin_congr fun i => ?_
  have hq : idx_main_v38 (idx_main_v39 (idx_main_v42 (ix1 e) 0)) i = ix2 i e := by
    funext a
    fin_cases a
    · rfl
    · refine Fin.ext ?_
      show 0 * 1024 + (e : ℕ) = e
      omega
  refine (congrArg (val_main_v37 (F := Ideal) dy x h) hq).trans ?_
  rw [mul_comm, ← ref_hat, ← ref_dy dy, val_main_v37_apply]
  rfl

theorem sum_db (e : Fin 1024) : val_main_v36 (F := Ideal) dy (ix1 e) = ∑ i : Fin 4096, dy (ix2 i e) := by
  rw [val_main_v36_apply, val_main_cst_9_apply]
  show Ideal.ofBits .f32 0x00000000#32 + _ = _
  rw [Ideal.ofBits_zero_f32, zero_add, Fin.sum_univ_one, val_main_v35_apply, val_main_v34_apply, val_main_cst_8_apply]
  show Ideal.ofBits .f32 0x00000000#32 + _ = _
  rw [Ideal.ofBits_zero_f32, zero_add]
  refine Fin.sum_fin_congr fun i => congrArg dy ?_
  funext a
  fin_cases a
  · rfl
  · refine Fin.ext ?_
    show 0 * 1024 + (e : ℕ) = e
    omega

theorem vec_idx (j : S1x1024.Idx) : idx_main_v68 j = ix1 (j 1) := by
  funext a
  fin_cases a
  refine Fin.ext ?_
  have h0 : (j 0).val < 1 := (j 0).isLt
  show (j 0).val * 1024 + (j 1).val = (j 1).val
  omega

/-- The gain's gradient. -/
theorem result_dg : val_main_v68 (F := Ideal) dy x h = fun j : S1x1024.Idx => ∑ i : Fin 4096, dy (ix2 i (j 1)) * hat (row x h i) (j 1) := by
  funext j
  rw [val_main_v68_apply]
  exact (congrArg (val_main_v42 (F := Ideal) dy x h) (vec_idx j)).trans (sum_dg dy x h (j 1))

/-- The shift's gradient. -/
theorem result_db : val_main_v69 (F := Ideal) dy = fun j : S1x1024.Idx => ∑ i : Fin 4096, dy (ix2 i (j 1)) := by
  funext j
  rw [val_main_v69_apply]
  exact (congrArg (val_main_v36 (F := Ideal) dy) (vec_idx j)).trans (sum_db dy (j 1))

end

end Cert.LnBwdRefIdeal.Value
-- ==== Proof.LnBwdBlock.lean ====
module

public import proofs.«01_k».proof.Proof.LayerNormReal
public import proofs.«01_k».proof.Proof.Gen.LnBwdIdeal.Value
public import Idealize.ShloMosaic.Lib.Pipeline.ReadBack

/-! # One block of the layer norm's backward pass

At each grid point the kernel takes 512 rows, stores their gradient and adds the block's sums to the gradients of the
gain and of the shift. -/

@[expose] public section

set_option maxRecDepth 16384
noncomputable section
open Idealize.ShloMosaic Idealize.ShloMosaic.TcCoe Idealize.SL.Sem
open Idealize.ShloMosaic.Pipeline (Dat)

namespace Cert.LnBwdIdeal.Value
open Cert.LnBwdIdeal.Gen Cert.LayerNorm

section
variable (dy x h : FVec Ideal S512x1024 .f32) (g : FVec Ideal S1x1024 .f32)

/-- A row of the block before it is normalised. -/
def rowB (p : Fin 512) (k : Fin 1024) : EReal := joined (x (ix2 p k)) (h (ix2 p k))

/-- A row of the block's incoming gradient times the gain. -/
def gainedB (p : Fin 512) (k : Fin 1024) : EReal := dy (ix2 p k) * g (ix2 0 k)

theorem pay9_at (p : Fin 512) (e : Fin 1024) : k0_pay9 (F := Ideal) x h (ix2 p e) = hat (rowB x h p) e := by
  pointwise [k0_pay7, k0_pay8, k0_pay9]
  rfl

theorem pay1_at (p : Fin 512) (e : Fin 1024) : k0_pay1 (F := Ideal) (k0_pay8 x h) (k0_pay9 x h) (k0_pay10 dy g) (k0_pay11 dy g)
    (k0_pay12 x h dy g) (ix2 p e) = asWritten (rowB x h p) (gainedB dy g p) e := by
  pointwise [k0_pay1, k0_pay7, k0_pay8, k0_pay9, k0_pay10, k0_pay11, k0_pay12]
  rfl

/-- What the block adds to the gain's gradient. -/
def dgB (j : S1x1024.Idx) : EReal := ∑ p : Fin 512, dy (ix2 p (j 1)) * hat (rowB x h p) (j 1)

/-- What the block adds to the shift's gradient. -/
def dbB (j : S1x1024.Idx) : EReal := ∑ p : Fin 512, dy (ix2 p (j 1))

theorem dgB_pay (j : S1x1024.Idx) : dgB dy x h j = ∑ p : Fin 512, dy (ix2 p (j 1)) * k0_pay9 (F := Ideal) x h (ix2 p (j 1)) :=
  Fin.sum_fin_congr fun p => congrArg (dy (ix2 p (j 1)) * ·) (pay9_at x h p (j 1)).symm

end

variable (m : (ℓ : Loc nD τ sig) → Buf (Elt Ideal) ℓ)

/-- The rows' gradient at the first point. -/
theorem dr_A (c : Dev nD) (t : Fin cfg0.N) (h : t.val % 8 = 0) (p : Fin 512) (e : Fin 1024) : (outsAt0 m c t.val t.isLt).1 (ix2 p e)
    = asWritten (rowB (iblk m c 1 t) (iblk m c 2 t) p) (gainedB (iblk m c 0 t) (iblk m c 3 t) p) e := by
  rw [← pay1_at, outsAt0_A m c t h]; frame_out

/-- The rows' gradient at a later point. -/
theorem dr_B (c : Dev nD) (t : Fin cfg0.N) (h : ¬ t.val % 8 = 0) (p : Fin 512) (e : Fin 1024) : (outsAt0 m c t.val t.isLt).1 (ix2 p e)
    = asWritten (rowB (iblk m c 1 t) (iblk m c 2 t) p) (gainedB (iblk m c 0 t) (iblk m c 3 t) p) e := by
  rw [← pay1_at, outsAt0_B m c t h]; frame_out

/-- The same gradient in the narrower type. -/
theorem drb_A (c : Dev nD) (t : Fin cfg0.N) (h : t.val % 8 = 0) (p : Fin 512) (e : Fin 1024) : (outsAt0 m c t.val t.isLt).2.1 (ix2 p e)
    = asWritten (rowB (iblk m c 1 t) (iblk m c 2 t) p) (gainedB (iblk m c 0 t) (iblk m c 3 t) p) e := by
  rw [← pay1_at, outsAt0_A m c t h]; frame_out
  pointwise [k0_pay2]

theorem drb_B (c : Dev nD) (t : Fin cfg0.N) (h : ¬ t.val % 8 = 0) (p : Fin 512) (e : Fin 1024) : (outsAt0 m c t.val t.isLt).2.1 (ix2 p e)
    = asWritten (rowB (iblk m c 1 t) (iblk m c 2 t) p) (gainedB (iblk m c 0 t) (iblk m c 3 t) p) e := by
  rw [← pay1_at, outsAt0_B m c t h]; frame_out
  pointwise [k0_pay2]

/-- The gain's gradient at the first point: the block's part over zero. -/
theorem dg_A (c : Dev nD) (t : Fin cfg0.N) (h : t.val % 8 = 0) (j : S1x1024.Idx) : (outsAt0 m c t.val t.isLt).2.2.1 j
    = 0 + dgB (iblk m c 0 t) (iblk m c 1 t) (iblk m c 2 t) j := by
  rw [dgB_pay, outsAt0_A m c t h]; frame_out
  pointwise [k0_pay3, k0_pay5]

/-- The gain's gradient at a later point: the block's part is added. -/
theorem dg_B (c : Dev nD) (t : Fin cfg0.N) (h : ¬ t.val % 8 = 0) (j : S1x1024.Idx) : (outsAt0 m c t.val t.isLt).2.2.1 j
    = (outsAt0 m c (t.val - 1) (lt_of_le_of_lt (Nat.sub_le _ _) t.isLt)).2.2.1 j + dgB (iblk m c 0 t) (iblk m c 1 t) (iblk m c 2 t) j := by
  rw [dgB_pay, outsAt0_B m c t h]; frame_out
  pointwise [k0_pay3, k0_pay5]

/-- The shift's gradient at the first point: the block's part over zero. -/
theorem db_A (c : Dev nD) (t : Fin cfg0.N) (h : t.val % 8 = 0) (j : S1x1024.Idx) : (outsAt0 m c t.val t.isLt).2.2.2 j
    = 0 + dbB (iblk m c 0 t) j := by
  rw [outsAt0_A m c t h]; frame_out
  unfold dbB
  pointwise [k0_pay4, k0_pay6]

/-- The shift's gradient at a later point: the block's part is added. -/
theorem db_B (c : Dev nD) (t : Fin cfg0.N) (h : ¬ t.val % 8 = 0) (j : S1x1024.Idx) : (outsAt0 m c t.val t.isLt).2.2.2 j
    = (outsAt0 m c (t.val - 1) (lt_of_le_of_lt (Nat.sub_le _ _) t.isLt)).2.2.2 j + dbB (iblk m c 0 t) j := by
  rw [outsAt0_B m c t h]; frame_out
  unfold dbB
  pointwise [k0_pay4, k0_pay6]

end Cert.LnBwdIdeal.Value
-- ==== Proof.LnBwdPre.lean ====
module

public import proofs.«01_k».proof.Proof.SguPre
public import proofs.«01_k».proof.Pre_ln_bwd_pre
public import proofs.«01_k».proof.Defs

/-! # The layer norm's backward pass: what its precondition says

Every entry of the four arguments is a real number. -/

@[expose] public section

set_option maxRecDepth 16384
noncomputable section
open Idealize.ShloMosaic Idealize.ShloMosaic.TcCoe Idealize.SL.Sem

namespace Cert.LnBwdPre
open Cert.SguIdeal.Value (IsReal)
open Cert.SguPre (isReal_of_between)
open Cert.Pre_ln_bwd_pre

/-- The side conditions of the precondition's operations. -/
theorem facts : Cert.Pre_ln_bwd_pre.Facts where
  bcast_S_S4096x1024 := by decide
  reducesTo_S4096x1024_S_d0_1 := by decide
  h_S_ := by decide
  bcast_S_S1024 := by decide
  reducesTo_S1024_S_d0 := by decide

instance : Subsingleton S_.Idx := ⟨fun a b => funext fun k => k.elim0⟩

section
variable [hF : Cert.Pre_ln_bwd_pre.Facts] (x0 x1 x2 : FVec Ideal S4096x1024 .f32) (x3 : FVec Ideal S1024 .f32)

theorem real_args (h : Cert.Pre_ln_bwd_pre.fn (F := Ideal) x0 x1 x2 x3 = fun _ => 1#1) :
    (∀ j, IsReal (x0 j)) ∧ (∀ j, IsReal (x1 j)) ∧ (∀ j, IsReal (x2 j)) ∧ (∀ j, IsReal (x3 j)) := by
  have h := congrFun h (fun k => k.elim0)
  simp only [Cert.Pre_ln_bwd_pre.fn, fn_part1] at h
  obtain ⟨h, e3⟩ := IntOp.andi_eq_one.1 h
  obtain ⟨h, e2⟩ := IntOp.andi_eq_one.1 h
  obtain ⟨e0, e1⟩ := IntOp.andi_eq_one.1 h
  refine ⟨fun j => isReal_of_between ?_, fun j => isReal_of_between ?_, fun j => isReal_of_between ?_, fun j => isReal_of_between ?_⟩
  · exact Host.reduce_andi_all _ _ _ _ _ e0 j
  · exact Host.reduce_andi_all _ _ _ _ _ e1 j
  · exact Host.reduce_andi_all _ _ _ _ _ e2 j
  · exact Host.reduce_andi_all _ _ _ _ _ e3 j

end

end Cert.LnBwdPre
-- ==== Proof.LnBwdValue.lean ====
module

public import proofs.«01_k».proof.Proof.LnBwdRef
public import proofs.«01_k».proof.Proof.LnBwdBlock
public import proofs.«01_k».proof.Proof.LnBwdPre

/-! # The layer norm's backward pass

The kernel runs over 8 blocks of 512 rows. Two of its results are written block by block, the gradients of the gain and
of the shift are summed over the blocks. -/

@[expose] public section

set_option maxRecDepth 16384
noncomputable section
open Idealize.ShloMosaic Idealize.ShloMosaic.TcCoe Idealize.SL.Sem
open Idealize.ShloMosaic.Pipeline (Dat)

namespace Cert.LnBwdIdeal.Value
open Cert.LnBwdIdeal.Gen Cert.LayerNorm
open Cert.LnBwdRefIdeal.Value (row gained)
open Cert.SguIdeal.Value (IsReal)

/-- The block each window reads or writes at a grid point. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0]
    ∧ win0_6.index t = ![0, 0] ∧ win0_7.index t = ![0, 0] :=
  (by decide +kernel : ∀ t : Fin grid0.N, _)

variable (m : (ℓ : Loc nD τ sig) → Buf (Elt Ideal) ℓ)

/-- Row `p` of block `t` in the whole array. -/
def rowOf (t : Fin cfg0.N) (p : Fin 512) : Fin 4096 :=
  ⟨t.val * 512 + p, by have := lt_of_lt_of_eq t.isLt N_0; have := p.isLt; omega⟩

/-- The gain as a single row. -/
def rowVec (g : FVec Ideal S1024 .f32) : FVec Ideal S1x1024 .f32 := fun j => g (ix1 (j 1))

theorem rowVec_cast (b : FVec Ideal S1024 .f32) : shapeCast S1x1024 b shapeCasts_S1024_S1x1024 = rowVec b := by
  funext j
  simp only [rowVec]
  pointwise

theorem V_v0 (c : Dev nD) : V m c main_v0 = rowVec (m ((c : Thread nD τ).loc main_arg3)) := by
  entry_read
  exact rowVec_cast _

theorem iblk0 (c : Dev nD) (t : Fin cfg0.N) (p : Fin 512) (k : Fin 1024) :
    iblk m c 0 t (ix2 p k) = m ((c : Thread nD τ).loc main_arg0) (ix2 (rowOf t p) k) := by
  simp only [rowOf]; blk_point [iblk, V, idx t]

theorem iblk1 (c : Dev nD) (t : Fin cfg0.N) (p : Fin 512) (k : Fin 1024) :
    iblk m c 1 t (ix2 p k) = m ((c : Thread nD τ).loc main_arg1) (ix2 (rowOf t p) k) := by
  simp only [rowOf]; blk_point [iblk, V, idx t]

theorem iblk2 (c : Dev nD) (t : Fin cfg0.N) (p : Fin 512) (k : Fin 1024) :
    iblk m c 2 t (ix2 p k) = m ((c : Thread nD τ).loc main_arg2) (ix2 (rowOf t p) k) := by
  simp only [rowOf]; blk_point [iblk, V, idx t]

theorem iblk3 (c : Dev nD) (t : Fin cfg0.N) : iblk m c 3 t = rowVec (m ((c : Thread nD τ).loc main_arg3)) := by
  rw [← V_v0]
  funext j
  blk_point [iblk, idx t]

/-- A row of a block is that row of the whole array. -/
theorem rowB_eq (c : Dev nD) (t : Fin cfg0.N) (p : Fin 512) : rowB (iblk m c 1 t) (iblk m c 2 t) p
    = row (m ((c : Thread nD τ).loc main_arg1)) (m ((c : Thread nD τ).loc main_arg2)) (rowOf t p) :=
  funext fun k => congrArg₂ joined (iblk1 m c t p k) (iblk2 m c t p k)

theorem gainedB_eq (c : Dev nD) (t : Fin cfg0.N) (p : Fin 512) : gainedB (iblk m c 0 t) (iblk m c 3 t) p
    = gained (m ((c : Thread nD τ).loc main_arg0)) (m ((c : Thread nD τ).loc main_arg3)) (rowOf t p) := by
  rw [iblk3]
  exact funext fun k => congrArg (fun a : EReal => a * _) (iblk0 m c t p k)

/-- The gradient of a row as the kernel writes it. -/
def drOf (dy x h : FVec Ideal S4096x1024 .f32) (g : FVec Ideal S1024 .f32) (i : Fin 4096) (e : Fin 1024) : EReal :=
  asWritten (row x h i) (gained dy g i) e

/-- The first result, block by block. -/
theorem array4 (c : Dev nD) : (dats m 0 c).arrAt 4 cfg0.N = fun j : S4096x1024.Idx => drOf (m ((c : Thread nD τ).loc main_arg0)) (m ((c : Thread nD τ).loc main_arg1))
      (m ((c : Thread nD τ).loc main_arg2)) (m ((c : Thread nD τ).loc main_arg3)) (j 0) (j 1) := by
  refine (dats m 0 c).arrAt_eq_of_covers 4 _ (by decide +kernel) fun t hf y => ?_
  obtain ⟨p, e, rfl⟩ : ∃ (p : Fin 512) (e : Fin 1024), y = ix2 p e := ⟨y 0, y 1, by funext a; fin_cases a <;> rfl⟩
  blk_simp [idx t]
  have h0 : (win0_4.blk t).view.emb (ix2 p e) 0 = rowOf t p := by apply Fin.ext; simp only [rowOf]; blk_simp [idx t]
  have h1 : (win0_4.blk t).view.emb (ix2 p e) 1 = e := by apply Fin.ext; blk_simp [idx t]
  rw [after0_4, h0, h1, drOf, ← rowB_eq, ← gainedB_eq]
  by_cases h : t.val % 8 = 0
  · exact dr_A m c t h p e
  · exact dr_B m c t h p e

/-- The second result is the first in the narrower type. -/
theorem array5 (c : Dev nD) : (dats m 0 c).arrAt 5 cfg0.N = fun j : S4096x1024.Idx => drOf (m ((c : Thread nD τ).loc main_arg0)) (m ((c : Thread nD τ).loc main_arg1))
      (m ((c : Thread nD τ).loc main_arg2)) (m ((c : Thread nD τ).loc main_arg3)) (j 0) (j 1) := by
  refine (dats m 0 c).arrAt_eq_of_covers 5 _ (by decide +kernel) fun t hf y => ?_
  obtain ⟨p, e, rfl⟩ : ∃ (p : Fin 512) (e : Fin 1024), y = ix2 p e := ⟨y 0, y 1, by funext a; fin_cases a <;> rfl⟩
  blk_simp [idx t]
  have h0 : (win0_5.blk t).view.emb (ix2 p e) 0 = rowOf t p := by apply Fin.ext; simp only [rowOf]; blk_simp [idx t]
  have h1 : (win0_5.blk t).view.emb (ix2 p e) 1 = e := by apply Fin.ext; blk_simp [idx t]
  rw [after0_5, h0, h1, drOf, ← rowB_eq, ← gainedB_eq]
  by_cases h : t.val % 8 = 0
  · exact drb_A m c t h p e
  · exact drb_B m c t h p e

/-- What row `i` adds to the gain's gradient and to the shift's. -/
def dgRow (dy x h : FVec Ideal S4096x1024 .f32) (i : Fin 4096) (e : Fin 1024) : EReal := dy (ix2 i e) * hat (row x h i) e

def dbRow (dy : FVec Ideal S4096x1024 .f32) (i : Fin 4096) (e : Fin 1024) : EReal := dy (ix2 i e)

/-- What a block adds to the gain's gradient, by the rows of the whole array. -/
theorem dgB_eq (c : Dev nD) (t : Fin cfg0.N) (j : S1x1024.Idx) : dgB (iblk m c 0 t) (iblk m c 1 t) (iblk m c 2 t) j = ∑ p : Fin 512,
    dgRow (m ((c : Thread nD τ).loc main_arg0)) (m ((c : Thread nD τ).loc main_arg1))
      (m ((c : Thread nD τ).loc main_arg2)) (rowOf t p) (j 1) := by
  refine Fin.sum_fin_congr fun p => ?_
  rw [rowB_eq]
  exact congrArg (fun a : EReal => a * _) (iblk0 m c t p (j 1))

theorem dbB_eq (c : Dev nD) (t : Fin cfg0.N) (j : S1x1024.Idx) : dbB (iblk m c 0 t) j = ∑ p : Fin 512,
    dbRow (m ((c : Thread nD τ).loc main_arg0)) (rowOf t p) (j 1) :=
  Fin.sum_fin_congr fun p => iblk0 m c t p (j 1)

/-- The gain's gradient, summed over the blocks. -/
theorem array6 (c : Dev nD) : (dats m 0 c).arrAt 6 cfg0.N = fun j : S1x1024.Idx => ∑ i : Fin 4096,
    dgRow (m ((c : Thread nD τ).loc main_arg0)) (m ((c : Thread nD τ).loc main_arg1))
      (m ((c : Thread nD τ).loc main_arg2)) i (j 1) := by
  refine (dats m 0 c).arrAt_eq_of_covers 6 _ (by decide +kernel) fun t hf y => ?_
  have hmod := (flush0_6 t).mp hf
  blk_simp [idx t]
  have he : (win0_6.blk t).view.emb y 1 = y 1 := by apply Fin.ext; blk_simp [idx t]
  rw [he, Cert.Products.sum_blocks 8 512 rfl, after0_6, Pipeline.eq_sum_fin_of_reset_step_apply_of_flush (fun n h => (outsAt0 m c n h).2.2.1) 8
    (fun _ => 0) _ (fun t h j => dg_A m c t h j) (fun t h j => dg_B m c t h j) t hmod _, zero_add]
  refine Fin.sum_fin_congr fun s => ?_
  rw [dgB_eq]
  refine Fin.sum_fin_congr fun p => ?_
  have hs : rowOf (⟨8 * (t.val / 8) + s.val, Pipeline.run_point_lt_of_flush t hmod s⟩ : Fin cfg0.N) p
      = ⟨512 * s.val + p.val, by have := s.isLt; have := p.isLt; omega⟩ :=
    Fin.ext (by have := lt_of_lt_of_eq t.isLt N_0; simp only [rowOf]; omega)
  rw [hs]

/-- The shift's gradient, summed over the blocks. -/
theorem array7 (c : Dev nD) : (dats m 0 c).arrAt 7 cfg0.N = fun j : S1x1024.Idx => ∑ i : Fin 4096,
    dbRow (m ((c : Thread nD τ).loc main_arg0)) i (j 1) := by
  refine (dats m 0 c).arrAt_eq_of_covers 7 _ (by decide +kernel) fun t hf y => ?_
  have hmod := (flush0_7 t).mp hf
  blk_simp [idx t]
  have he : (win0_7.blk t).view.emb y 1 = y 1 := by apply Fin.ext; blk_simp [idx t]
  rw [he, Cert.Products.sum_blocks 8 512 rfl, after0_7, Pipeline.eq_sum_fin_of_reset_step_apply_of_flush (fun n h => (outsAt0 m c n h).2.2.2) 8
    (fun _ => 0) _ (fun t h j => db_A m c t h j) (fun t h j => db_B m c t h j) t hmod _, zero_add]
  refine Fin.sum_fin_congr fun s => ?_
  rw [dbB_eq]
  refine Fin.sum_fin_congr fun p => ?_
  have hs : rowOf (⟨8 * (t.val / 8) + s.val, Pipeline.run_point_lt_of_flush t hmod s⟩ : Fin cfg0.N) p
      = ⟨512 * s.val + p.val, by have := s.isLt; have := p.isLt; omega⟩ :=
    Fin.ext (by have := lt_of_lt_of_eq t.isLt N_0; simp only [rowOf]; omega)
  rw [hs]

/-- On real arguments the reference's first result is the kernel's. -/
theorem ref_drOf (dy x h : FVec Ideal S4096x1024 .f32) (g : FVec Ideal S1024 .f32) (h0 : ∀ j, IsReal (dy j)) (h1 : ∀ j, IsReal (x j))
    (h2 : ∀ j, IsReal (h j)) (h3 : ∀ j, IsReal (g j)) :
    Cert.LnBwdRefIdeal.Read.val_main_v66 (F := Ideal) dy x h g = fun j : S4096x1024.Idx => drOf dy x h g (j 0) (j 1) := by
  funext j
  obtain ⟨i, e, rfl⟩ : ∃ (i : Fin 4096) (e : Fin 1024), j = ix2 i e := ⟨j 0, j 1, by funext a; fin_cases a <;> rfl⟩
  rw [Cert.LnBwdRefIdeal.Value.ref_dr]
  exact gradient _ _ (fun k => isReal_joined (h1 _) (h2 _)) (fun k => (h0 _).mul (h3 _)) e

/-- Over ideal values and on real arguments the kernel and the reference end with the same four results, and both keep
their arguments. -/
theorem algebraic : Cert.algebraic_LnBwdIdeal_LnBwdRefIdeal_pre_ln_bwd_pre (hPre_ln_bwd_pre := Cert.LnBwdPre.facts) := by
  intro m g m' g' hpre hargs
  refine ⟨fun c => (dats m 0 c).arrAt 4 cfg0.N, fun c => (dats m 0 c).arrAt 5 cfg0.N, fun c => (dats m 0 c).arrAt 6 cfg0.N,
    fun c => (dats m 0 c).arrAt 7 cfg0.N, run_blocks m g, ?_⟩
  refine (θ_run _ _ _).mono (fun r h c => ?_) (Cert.LnBwdRefIdeal.Value.run m' g')
  obtain ⟨r0, r1, r2, r3, k⟩ := h c
  obtain ⟨a0, a1, a2, a3⟩ := hargs c
  obtain ⟨f0, f1, f2, f3⟩ := Cert.LnBwdPre.real_args (hF := Cert.LnBwdPre.facts) _ _ _ _ (hpre c)
  refine ⟨r0.trans ?_, r1.trans ?_, r2.trans ?_, r3.trans ?_, k⟩
  · refine (Cert.LnBwdRefIdeal.Read.val_main_v66_eq m' c).trans ?_
    rw [a0, a1, a2, a3]
    exact (ref_drOf _ _ _ _ f0 f1 f2 f3).trans (array4 m c).symm
  · refine (Cert.LnBwdRefIdeal.Read.val_main_v67_eq m' c).trans ?_
    rw [a0, a1, a2, a3]
    exact (ref_drOf _ _ _ _ f0 f1 f2 f3).trans (array5 m c).symm
  · refine (Cert.LnBwdRefIdeal.Read.val_main_v68_eq _ _ _).trans ?_
    rw [a0, a1, a2]
    exact (Cert.LnBwdRefIdeal.Value.result_dg _ _ _).trans (array6 m c).symm
  · refine (Cert.LnBwdRefIdeal.Read.val_main_v69_eq _).trans ?_
    rw [a0]
    exact (Cert.LnBwdRefIdeal.Value.result_db _).trans (array7 m c).symm

/-- The reference keeps its arguments and ends with its counters at zero. -/
theorem ref_frame : Cert.quiescent_LnBwdRefIdeal := fun m g _ =>
  (θ_run Cert.LnBwdRefIdeal.defs _ _).mono (fun r h => ⟨fun c => (h c).2.2.2.2,
      Idealize.ShloMosaic.sem_eq_zero_of_no_sems (by decide) r.2⟩)
    (Cert.LnBwdRefIdeal.Value.run (F := Ideal) m g)

end Cert.LnBwdIdeal.Value
-- ==== Proof.SguFwdValue.lean ====
module

public import proofs.«01_k».proof.Proof.SguForward
public import proofs.«01_k».proof.Proof.Gen.SguFwdIdeal.Value
public import proofs.«01_k».proof.Proof.Gen.SguFwdRefIdeal.Run
public import proofs.«01_k».proof.Proof.Gen.SguFwdRefIdeal.Read
public import proofs.«01_k».proof.Defs

/-! # The forward pass of the spatial gating unit

Each grid point takes 128 rows: the activation, its normalised right half, the masked spatial weights on it and the
gate. These are the forward values that the unit's backward pass computes again, so both sides are stated by those. -/

@[expose] public section

set_option maxRecDepth 16384
noncomputable section
open Idealize.ShloMosaic Idealize.ShloMosaic.TcCoe Idealize.SL.Sem
open Idealize.ShloMosaic.Pipeline (Dat)

namespace Cert.SguFwdRefIdeal.Value
open Cert.SguIdeal.Value

section
variable (x0 : FVec Ideal S4096x4096 .bf16) (x1 : FVec Ideal S8x128x128 .f32) (x2 : FVec Ideal S8x128 .f32) (x3 x4 : FVec Ideal S2048 .f32)

/-- The reference's left half is the backward reference's. -/
theorem ref_left : Cert.SguFwdRefIdeal.Read.val_main_v10 (F := Ideal) x0 = Cert.SguRefIdeal.Read.val_main_v18 (F := Ideal) x0 := rfl

/-- So is the gate. -/
theorem ref_gate : Cert.SguFwdRefIdeal.Read.val_main_v48 (F := Ideal) x0 x1 x2 x3 x4 =
    Cert.SguRefIdeal.Read.val_main_v61 (F := Ideal) x0 x1 x2 x3 x4 := rfl

end

end Cert.SguFwdRefIdeal.Value

namespace Cert.SguFwdIdeal.Value
open Cert.SguFwdIdeal.Gen
open Cert.SguIdeal.Value (grp lo hi wB rowsZ biasCol rowVec biasCol_cast rowVec_cast blkRow inRow row_split)

section
variable (Z : FVec Ideal S128x4096 .bf16) (W : FVec Ideal S8x128x128 .f32) (bs : FVec Ideal S8x128x1 .f32) (g b : FVec Ideal S1x2048 .f32)

theorem pay3_eq : k0_pay3 (F := Ideal) Z = Cert.SguIdeal.Gen.k0_pay9 (F := Ideal) Z := rfl

theorem pay4_eq : k0_pay4 (F := Ideal) Z g b = Cert.SguIdeal.Gen.k0_pay13 (F := Ideal) Z g b := rfl

/-- An entry of the stored block. -/
theorem block_entry (y : S128x2048.Idx) : out0_5 (F := Ideal) Z W bs g b y =
    k0_pay3 (F := Ideal) Z (ix2 (y 0) (y 1)) * ((∑ s : Fin 128, Scalar.select (k0_pay5 (ix2 (y 0) s)) (W (ix3 (grp (y 1)) (y 0) s)) 0
        * k0_pay4 (F := Ideal) Z g b (ix2 s (y 1))) + bs (ix3 (grp (y 1)) (y 0) 0)) := by
  unfold_out out0_5
  canon_tiles x hx
  all_goals (simp only [grp]; open_payloads; pointwise; blk_point [] <;> exact hx0.symm)

/-- The same entry by the values of the backward pass. -/
theorem block_gate (r : Fin 128) (e : Fin 2048) : out0_5 (F := Ideal) Z W bs g b (ix2 r e) =
    Cert.SguIdeal.Gen.k0_pay9 (F := Ideal) Z (ix2 r e)
      * ((∑ s : Fin 128, wB W (grp e) r s * Cert.SguIdeal.Gen.k0_pay13 (F := Ideal) Z g b (ix2 s e)) + bs (ix3 (grp e) r 0)) := by
  rw [block_entry, pay3_eq, pay4_eq]
  rfl

end

/-- The block each window reads or writes at a grid point. -/
theorem idx : ∀ t : Fin cfg0.N, win0_0.index t = ![t.val, 0] ∧ win0_1.index t = ![0, 0, 0]
    ∧ win0_2.index t = ![0, 0, 0] ∧ win0_3.index t = ![0, 0] ∧ win0_4.index t = ![0, 0] ∧ win0_5.index t = ![t.val, 0] :=
  (by decide +kernel : ∀ t : Fin grid0.N, _)

variable (m : (ℓ : Loc nD τ sig) → Buf (Elt Ideal) ℓ)

/-- A grid point as the number of its block of rows. -/
def blkOf (t : Fin cfg0.N) : Fin 32 := ⟨t.val, t.isLt⟩

theorem iblk0 (c : Dev nD) (t : Fin cfg0.N) : iblk m c 0 t = rowsZ (m ((c : Thread nD τ).loc main_arg0)) (blkOf t) := by
  funext j
  simp only [rowsZ, blkOf]
  blk_point [iblk, V, idx t]

theorem iblk1 (c : Dev nD) (t : Fin cfg0.N) : iblk m c 1 t = m ((c : Thread nD τ).loc main_arg1) := by
  funext j
  blk_point [iblk, V, idx t]

theorem V_v0 (c : Dev nD) : V m c main_v0 = biasCol (m ((c : Thread nD τ).loc main_arg2)) := by
  entry_read
  exact biasCol_cast _

theorem iblk2 (c : Dev nD) (t : Fin cfg0.N) : iblk m c 2 t = biasCol (m ((c : Thread nD τ).loc main_arg2)) := by
  rw [← V_v0]
  funext j
  blk_point [iblk, idx t]

theorem V_v1 (c : Dev nD) : V m c main_v1 = rowVec (m ((c : Thread nD τ).loc main_arg3)) := by
  entry_read
  exact rowVec_cast _

theorem iblk3 (c : Dev nD) (t : Fin cfg0.N) : iblk m c 3 t = rowVec (m ((c : Thread nD τ).loc main_arg3)) := by
  rw [← V_v1]
  funext j
  blk_point [iblk, idx t]

theorem V_v2 (c : Dev nD) : V m c main_v2 = rowVec (m ((c : Thread nD τ).loc main_arg4)) := by
  entry_read
  exact rowVec_cast _

theorem iblk4 (c : Dev nD) (t : Fin cfg0.N) : iblk m c 4 t = rowVec (m ((c : Thread nD τ).loc main_arg4)) := by
  rw [← V_v2]
  funext j
  blk_point [iblk, idx t]

/-- The reference's result at row `i`, column `e`, by the values of the backward pass. -/
theorem ref_entry (x0 : FVec Ideal S4096x4096 .bf16) (x1 : FVec Ideal S8x128x128 .f32) (x2 : FVec Ideal S8x128 .f32)
    (x3 x4 : FVec Ideal S2048 .f32) (i : Fin 4096) (e : Fin 2048) :
    Cert.SguFwdRefIdeal.Read.val_main_v50 (F := Ideal) x0 x1 x2 x3 x4 (ix2 i e) =
      out0_5 (F := Ideal) (rowsZ x0 (blkRow i)) x1 (biasCol x2) (rowVec x3) (rowVec x4) (ix2 (inRow i) e) := by
  rw [block_gate, ← Cert.SguRefIdeal.Value.ref_gate, ← Cert.SguRefIdeal.Value.ref_u, Cert.SguFwdRefIdeal.Read.val_main_v50_apply,
    Cert.SguFwdRefIdeal.Read.val_main_v49_apply, Cert.SguFwdRefIdeal.Value.ref_left, Cert.SguFwdRefIdeal.Value.ref_gate]
  rfl

/-- The reference's result, block by block. -/
theorem ref_result (x0 : FVec Ideal S4096x4096 .bf16) (x1 : FVec Ideal S8x128x128 .f32) (x2 : FVec Ideal S8x128 .f32)
    (x3 x4 : FVec Ideal S2048 .f32) : Cert.SguFwdRefIdeal.Read.val_main_v50 (F := Ideal) x0 x1 x2 x3 x4 = fun j : S4096x2048.Idx =>
      out0_5 (F := Ideal) (rowsZ x0 (blkRow (j 0))) x1 (biasCol x2) (rowVec x3) (rowVec x4) (ix2 (inRow (j 0)) (j 1)) := by
  funext j
  obtain ⟨i, e, rfl⟩ : ∃ (i : Fin 4096) (e : Fin 2048), j = ix2 i e := ⟨j 0, j 1, by funext a; fin_cases a <;> rfl⟩
  exact ref_entry x0 x1 x2 x3 x4 i e

/-- The kernel's result is the reference's. -/
theorem array (c : Dev nD) : (dats m 0 c).arrAt 5 cfg0.N = Cert.SguFwdRefIdeal.Read.val_main_v50 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) := by
  rw [ref_result]
  refine (dats m 0 c).arrAt_eq_of_covers 5 _ (by decide +kernel) fun t hf y => ?_
  blk_simp [idx t]
  have h0 : (((win0_5.blk t).view.emb y 0 : Fin 4096) : ℕ) = t.val * 128 + (y 0 : ℕ) := by blk_simp [idx t]
  have h1 : (win0_5.blk t).view.emb y 1 = y 1 := by apply Fin.ext; blk_simp [idx t]
  obtain ⟨hb, hr⟩ := row_split _ (blkOf t) (y 0) h0
  rw [after0_5, hb, hr, h1, iblk0, iblk1, iblk2, iblk3, iblk4]
  exact congrArg _ (by funext a; fin_cases a <;> rfl)

/-- Over ideal values the kernel and the reference end with the same gated values, and both keep their arguments. -/
theorem algebraic : Cert.algebraic_SguFwdIdeal_SguFwdRefIdeal := by
  intro m g m' g' _ hargs
  refine ⟨fun c => (dats m 0 c).arrAt 5 cfg0.N, run_blocks m g, ?_⟩
  refine (θ_run _ _ _).mono (fun r h c => ⟨(h c).1.trans ?_, (h c).2⟩) (Cert.SguFwdRefIdeal.Value.run m' g')
  obtain ⟨a0, a1, a2, a3, a4⟩ := hargs c
  refine (Cert.SguFwdRefIdeal.Read.val_main_v50_eq _ _).trans ?_
  rw [a0, a1, a2, a3, a4]
  exact (array m c).symm

/-- The reference keeps its arguments and ends with its counters at zero. -/
theorem ref_frame : Cert.quiescent_SguFwdRefIdeal := fun m g _ =>
  (θ_run Cert.SguFwdRefIdeal.defs _ _).mono (fun r h => ⟨fun c => (h c).2,
      Idealize.ShloMosaic.sem_eq_zero_of_no_sems (by decide) r.2⟩)
    (Cert.SguFwdRefIdeal.Value.run (F := Ideal) m g)

end Cert.SguFwdIdeal.Value
-- ==== Proof.ConvBlock.lean ====
module

public import proofs.«01_k».proof.Proof.Gen.ConvIdeal.Value
public import Idealize.ShloMosaic.Lib.Pipeline.ReadBack
public import Idealize.ShloMosaic.Lib.Claim
public import proofs.«01_k».proof.Proof.Products
public import Idealize.ShloMosaic.Lib.WordCmp

/-! # The gated convolution: one block of the kernel

A block is 128 channels over all rows. The kernel reads the rows above by rotating the block and clearing the rows that
come round from the end. -/

@[expose] public section

set_option maxRecDepth 16384
noncomputable section
open Idealize.ShloMosaic Idealize.ShloMosaic.TcCoe Idealize.SL.Sem
open Idealize.ShloMosaic.Pipeline (Dat)

namespace Cert.ConvIdeal.Value
open Cert.ConvIdeal.Gen

/-- The entry `k` rows above, zero above the first row. -/
def delay (f : Fin 4096 → EReal) (k : ℕ) (i : Fin 4096) : EReal :=
  if k ≤ i.val then f ⟨i.val - k, by omega⟩ else 0

/-- The convolution of width three of one channel. -/
def conv3 (f : Fin 4096 → EReal) (w0 w1 w2 b : EReal) (i : Fin 4096) : EReal :=
  w2 * f i + w1 * delay f 1 i + w0 * delay f 2 i + b

/-- The exact activation. -/
def act (a : EReal) : EReal :=
  Ideal.ofBits .f32 0x3F000000#32 * a * (1 + Ideal.erf (a * (((Real.sqrt 2)⁻¹ : ℝ) : EReal)))

/-- Rotating down by `k` rows and clearing the first `k` is the entry `k` rows above. -/
theorem delayed (f : Fin 4096 → EReal) (w : EReal) (k : ℕ) (hk : k ≤ 4096) (i : Fin 4096) (h : (i.val + 4096 - k) % 4096 < 4096) :
    Scalar.select (IntOp.cmpi .sge (BitVec.ofNat 32 i.val) (BitVec.ofNat 32 k)) (w * f ⟨(i.val + 4096 - k) % 4096, h⟩) 0 = w * delay f k i := by
  rw [WordCmp.cmpi_sge_ofNat (by omega) (by omega)]
  unfold delay
  by_cases hi : k ≤ i.val
  · rw [if_pos hi]
    have e : (⟨(i.val + 4096 - k) % 4096, h⟩ : Fin 4096) = ⟨i.val - k, by omega⟩ := Fin.ext (by show (i.val + 4096 - k) % 4096 = i.val - k; omega)
    rw [e]
    simp [Scalar.select, hi]
  · rw [if_neg hi, mul_zero]
    simp [Scalar.select, hi]

/-- The first half's convolution, as the kernel computes it. -/
theorem pay5 (x : FVec Ideal S4096x128 .bf16) (w2 w1 w0 b : FVec Ideal S1x128 .f32) (i : Fin 4096) (q : Fin 128) :
    k0_pay5 (F := Ideal) x w2 w1 w0 b (ix2 i q)
      = conv3 (fun i => x (ix2 i q)) (w0 (ix2 0 q)) (w1 (ix2 0 q)) (w2 (ix2 0 q)) (b (ix2 0 q)) i := by
  pointwise [k0_pay5]
  rw [delayed (fun i => x (ix2 i q)) _ 1 (by decide), delayed (fun i => x (ix2 i q)) _ 2 (by decide)]
  rfl

/-- The second half's convolution is the same. -/
theorem pay1 (x : FVec Ideal S4096x128 .bf16) (w2 w1 w0 b : FVec Ideal S1x128 .f32) :
    k0_pay1 (F := Ideal) (k0_pay6 x) (k0_pay7 x w2) w1 (iota .tc S4096x128 32 [0] iota_S4096x128_d0_w32) 1#32 w0 b
      = k0_pay5 x w2 w1 w0 b := rfl

section
variable (X0 X1 : FVec Ideal S4096x128 .bf16) (W0 W1 : FVec Ideal S3x128 .f32) (b0 b1 : FVec Ideal S1x128 .f32) (i : Fin 4096) (q : Fin 128)

/-- The convolved block, from the block, its weights and its bias. -/
def convB (X : FVec Ideal S4096x128 .bf16) (W : FVec Ideal S3x128 .f32) (b : FVec Ideal S1x128 .f32) (i : Fin 4096) (q : Fin 128) : EReal :=
  conv3 (fun i => X (ix2 i q)) (W (ix2 0 q)) (W (ix2 1 q)) (W (ix2 2 q)) (b (ix2 0 q)) i

theorem loads (X : FVec Ideal S4096x128 .bf16) (W : FVec Ideal S3x128 .f32) (b : FVec Ideal S1x128 .f32) (i : Fin 4096) (q : Fin 128) :
    k0_pay5 (F := Ideal) (View.ld X r0_0) (View.ld W r0_1) (View.ld W r0_2) (View.ld W r0_3) (View.ld b r0_4) (ix2 i q) = convB X W b i q := by
  rw [pay5]
  unfold convB
  pointwise

/-- What the kernel writes of the first half. -/
theorem out7 : out0_7 (F := Ideal) X0 X1 W0 W1 b0 b1 (ix2 i q) = convB X0 W0 b0 i q := by
  rw [← loads]
  unfold_out out0_7
  canon_tiles x hx
  have e : x = ix2 i q := by funext a; fin_cases a <;> exact Fin.ext (by symm; assumption)
  rw [e]
  pointwise [k0_pay3]

/-- What the kernel writes of the second half. -/
theorem out8 : out0_8 (F := Ideal) X0 X1 W0 W1 b0 b1 (ix2 i q) = convB X1 W1 b1 i q := by
  rw [← loads, ← pay1]
  unfold_out out0_8
  canon_tiles x hx
  have e : x = ix2 i q := by funext a; fin_cases a <;> exact Fin.ext (by symm; assumption)
  rw [e]
  pointwise [k0_pay4]

/-- What the kernel writes of the gated product. -/
theorem out6 : out0_6 (F := Ideal) X0 X1 W0 W1 b0 b1 (ix2 i q) = act (convB X0 W0 b0 i q) * convB X1 W1 b1 i q := by
  rw [← loads X0, ← loads X1]
  unfold_out out0_6
  canon_tiles x hx
  have e : x = ix2 i q := by funext a; fin_cases a <;> exact Fin.ext (by symm; assumption)
  rw [e]
  pointwise [k0_pay2]
  rfl

end

end Cert.ConvIdeal.Value
-- ==== Proof.ConvRef.lean ====
module

public import proofs.«01_k».proof.Proof.ConvBlock
public import proofs.«01_k».proof.Proof.SguForward
public import proofs.«01_k».proof.Proof.Gen.ConvRefIdeal.Read

/-! # The gated convolution: what the reference computes

The reference puts two rows of zeros above its input and adds up three shifted copies. -/

@[expose] public section

set_option maxRecDepth 16384
noncomputable section
open Idealize.ShloMosaic Idealize.ShloMosaic.TcCoe Idealize.SL.Sem

open Idealize.ShloMosaic.Pipeline (Dat)

namespace Cert.ConvRefIdeal.Value
open Cert.ConvRefIdeal.Read
open Cert.ConvIdeal.Value (delay conv3 act)

/-- The convolution at row `i`, channel `e`. -/
def convAt (h : FVec Ideal S4096x5632 .bf16) (w : FVec Ideal S3x5632 .f32) (b : FVec Ideal S5632 .f32) (i : Fin 4096) (e : Fin 5632) : EReal :=
  conv3 (fun i => h (ix2 i e)) (w (ix2 0 e)) (w (ix2 1 e)) (w (ix2 2 e)) (b (ix1 e)) i

variable (h : FVec Ideal S4096x5632 .bf16) (w : FVec Ideal S3x5632 .f32) (b : FVec Ideal S5632 .f32)

/-- Two rows of zeros lie above the input. -/
theorem padded (r : Fin 4098) (e : Fin 5632) :
    val_main_v2 (F := Ideal) h (ix2 r e) = if hr : r.val < 2 then 0 else h (ix2 ⟨r.val - 2, by omega⟩ e) := by
  unfold val_main_v2
  pointwise
  split
  · rw [val_main_v1_apply]
    exact (val_main_cst_apply _).trans (Ideal.ofBits_zero _)
  · rfl

/-- The rows from `2 - k` on are the input `k` rows above. -/
theorem shifted (k : ℕ) (hk : k ≤ 2) (i : Fin 4096) (e : Fin 5632) (j : S4098x5632.Idx) (h0 : (j 0 : ℕ) = 2 - k + i.val) (h1 : (j 1 : ℕ) = e.val) :
    val_main_v2 (F := Ideal) h j = delay (fun i => h (ix2 i e)) k i := by
  obtain ⟨r, q, rfl⟩ : ∃ (r : Fin 4098) (q : Fin 5632), j = ix2 r q := ⟨j 0, j 1, by funext a; fin_cases a <;> rfl⟩
  obtain rfl : q = e := Fin.ext h1
  have h0 : r.val = 2 - k + i.val := h0
  rw [padded]
  unfold delay
  by_cases hi : k ≤ i.val
  · rw [if_pos hi, dif_neg (by omega)]
    exact congrArg (fun x : Fin 4096 => h (ix2 x q)) (Fin.ext (by show r.val - 2 = i.val - k; omega))
  · rw [if_neg hi, dif_pos (by omega)]

theorem shift2 (i : Fin 4096) (e : Fin 5632) : val_main_v3 (F := Ideal) h (ix2 i e) = delay (fun i => h (ix2 i e)) 2 i := by
  rw [val_main_v3_apply]
  exact shifted h 2 (by decide) i e _ (by show i.val = 2 - 2 + i.val; omega) rfl

theorem shift1 (i : Fin 4096) (e : Fin 5632) : val_main_v11 (F := Ideal) h (ix2 i e) = delay (fun i => h (ix2 i e)) 1 i := by
  rw [val_main_v11_apply]
  exact shifted h 1 (by decide) i e _ rfl rfl

theorem shift0 (i : Fin 4096) (e : Fin 5632) : val_main_v18 (F := Ideal) h (ix2 i e) = h (ix2 i e) := by
  rw [val_main_v18_apply]
  exact (shifted h 0 (by decide) i e _ rfl rfl).trans rfl

theorem weight0 (i : Fin 4096) (e : Fin 5632) : val_main_v7 (F := Ideal) w (ix2 i e) = w (ix2 0 e) := by
  rw [val_main_v7_apply, val_main_v6_apply, val_main_v5_apply, val_main_v4_apply]
  exact congrArg w (by funext a; fin_cases a <;> refine Fin.ext ?_ <;> simp)

theorem weight1 (i : Fin 4096) (e : Fin 5632) : val_main_v15 (F := Ideal) w (ix2 i e) = w (ix2 1 e) := by
  rw [val_main_v15_apply, val_main_v14_apply, val_main_v13_apply, val_main_v12_apply]
  exact congrArg w (by funext a; fin_cases a <;> refine Fin.ext ?_ <;> simp)

theorem weight2 (i : Fin 4096) (e : Fin 5632) : val_main_v22 (F := Ideal) w (ix2 i e) = w (ix2 2 e) := by
  rw [val_main_v22_apply, val_main_v21_apply, val_main_v20_apply, val_main_v19_apply]
  exact congrArg w (by funext a; fin_cases a <;> refine Fin.ext ?_ <;> simp)

theorem bias (i : Fin 4096) (e : Fin 5632) : val_main_v26 (F := Ideal) b (ix2 i e) = b (ix1 e) := by
  rw [val_main_v26_apply, val_main_v25_apply]
  exact congrArg b (by funext a; fin_cases a; rfl)

/-- The reference's convolution. -/
theorem ref_conv (i : Fin 4096) (e : Fin 5632) : val_main_v27 (F := Ideal) h w b (ix2 i e) = convAt h w b i e := by
  rw [val_main_v27_apply, val_main_v24_apply, val_main_v17_apply, val_main_v10_apply, val_main_v8_apply, val_main_v16_apply, val_main_v23_apply,
    shift2, shift1, shift0, weight0, weight1, weight2, bias, val_main_v9_apply, val_main_cst_0_apply]
  show (Ideal.ofBits .f32 0x00000000#32 + delay (fun i => h (ix2 i e)) 2 i * w (ix2 0 e) + delay (fun i => h (ix2 i e)) 1 i * w (ix2 1 e)
    + h (ix2 i e) * w (ix2 2 e) + b (ix1 e) : EReal) = _
  unfold convAt conv3
  rw [Ideal.ofBits_zero, zero_add, mul_comm (delay _ 2 i), mul_comm (delay _ 1 i), mul_comm (h (ix2 i e) : EReal)]
  refine congrArg (· + (b (ix1 e) : EReal)) ?_
  rw [add_comm (_ + _ : EReal) (w (ix2 2 e) * h (ix2 i e)), add_comm (w (ix2 0 e) * _ : EReal), add_assoc]

/-- The channel of the first half, and that of the second. -/
def chanA (q : Fin 2816) : Fin 5632 := ⟨q.val, by omega⟩
def chanG (q : Fin 2816) : Fin 5632 := ⟨2816 + q.val, by omega⟩

theorem ref_a (j : S4096x2816.Idx) : val_main_v28 (F := Ideal) h w b j = convAt h w b (j 0) (chanA (j 1)) := by
  rw [val_main_v28_apply]
  exact (congrArg (val_main_v27 (F := Ideal) h w b) (by funext a; fin_cases a <;> rfl)).trans (ref_conv h w b (j 0) (chanA (j 1)))

theorem ref_g (j : S4096x2816.Idx) : val_main_v29 (F := Ideal) h w b j = convAt h w b (j 0) (chanG (j 1)) := by
  rw [val_main_v29_apply]
  exact (congrArg (val_main_v27 (F := Ideal) h w b) (by funext a; fin_cases a <;> rfl)).trans (ref_conv h w b (j 0) (chanG (j 1)))

/-- The reference's gated product. -/
theorem ref_gated (j : S4096x2816.Idx) : val_main_v39 (F := Ideal) h w b j
    = act (convAt h w b (j 0) (chanA (j 1))) * convAt h w b (j 0) (chanG (j 1)) := by
  rw [val_main_v39_apply, val_main_v38_apply, val_main_v31_apply, val_main_v37_apply, val_main_v35_apply, val_main_v34_apply, ref_a, ref_g,
    val_main_v33_apply, val_main_v32_apply, val_main_v30_apply, val_main_v36_apply]
  show (Ideal.ofBits .f32 0x3F000000#32 * convAt h w b (j 0) (chanA (j 1))
    * (Ideal.ofBits .f32 0x3F800000#32 + Ideal.erf (Ideal.div (convAt h w b (j 0) (chanA (j 1))) (Ideal.sqrt (Ideal.ofBits .f32 0x40000000#32))))
    * convAt h w b (j 0) (chanG (j 1)) : EReal) = _
  rw [Cert.SguIdeal.Value.div_sqrt_two, Ideal.ofBits_one_f32]
  rfl

end Cert.ConvRefIdeal.Value
-- ==== Proof.ConvValue.lean ====
module

public import proofs.«01_k».proof.Defs
public import proofs.«01_k».proof.Proof.ConvRef
public import proofs.«01_k».proof.Proof.Gen.ConvRefIdeal.Run
public import Idealize.ShloMosaic.Lib.Claim

/-! # The gated convolution of the forward pass

The three results are put together from blocks of 128 channels. -/

@[expose] public section

set_option maxRecDepth 16384
noncomputable section
open Idealize.ShloMosaic Idealize.ShloMosaic.TcCoe Idealize.SL.Sem
open Idealize.ShloMosaic.Pipeline (Dat)

namespace Cert.ConvIdeal.Value
open Cert.ConvIdeal.Gen
open Cert.ConvRefIdeal.Value (convAt chanA chanG)

/-- The block each window reads or writes at a grid point. -/
theorem idx : ∀ t : Fin cfg0.N, win0_0.index t = ![0, t.val] ∧ win0_1.index t = ![0, t.val + 22]
    ∧ win0_2.index t = ![0, t.val] ∧ win0_3.index t = ![0, t.val + 22] ∧ win0_4.index t = ![0, t.val] ∧ win0_5.index t = ![0, t.val + 22]
    ∧ win0_6.index t = ![0, t.val] ∧ win0_7.index t = ![0, t.val] ∧ win0_8.index t = ![0, t.val] :=
  (by decide +kernel : ∀ t : Fin grid0.N, _)

variable (m : (ℓ : Loc nD τ sig) → Buf (Elt Ideal) ℓ)

/-- The channel `q` of block `t` among all channels. -/
def chan (t : Fin cfg0.N) (q : Fin 128) : Fin 2816 := ⟨t.val * 128 + q.val, by have := lt_of_lt_of_eq t.isLt N_0; omega⟩

/-- The bias as a row. -/
def rowVec (b : FVec Ideal S5632 .f32) : FVec Ideal S1x5632 .f32 := fun j => b (ix1 (j 1))

theorem rowVec_cast (b : FVec Ideal S5632 .f32) : shapeCast S1x5632 b shapeCasts_S5632_S1x5632 = rowVec b := by
  funext j
  simp only [rowVec]
  pointwise

theorem V_v0 (c : Dev nD) : V m c main_v0 = rowVec (m ((c : Thread nD τ).loc main_arg2)) := by
  entry_read
  exact rowVec_cast _

theorem V_v1 (c : Dev nD) : V m c main_v1 = rowVec (m ((c : Thread nD τ).loc main_arg2)) := by
  entry_read
  exact rowVec_cast _

/-- The convolution at row `i`, channel `e`, from the arguments. -/
def convOf (c : Dev nD) (i : Fin 4096) (e : Fin 5632) : EReal :=
  convAt (m ((c : Thread nD τ).loc main_arg0)) (m ((c : Thread nD τ).loc main_arg1)) (m ((c : Thread nD τ).loc main_arg2)) i e

/-- A block's convolution of the first half is the whole one's. -/
theorem conv_a (c : Dev nD) (t : Fin cfg0.N) (i : Fin 4096) (q : Fin 128) :
    convB (iblk m c 0 t) (iblk m c 2 t) (iblk m c 4 t) i q = convOf m c i (chanA (chan t q)) := by
  have hN := lt_of_lt_of_eq t.isLt N_0
  have hx : ∀ i : Fin 4096, (iblk m c 0 t) (ix2 i q) = (m ((c : Thread nD τ).loc main_arg0)) (ix2 i (chanA (chan t q))) := fun i => by
    simp only [chanA, chan]
    blk_point [iblk, V, idx t]
  have hw : ∀ k : Fin 3, (iblk m c 2 t) (ix2 k q) = (m ((c : Thread nD τ).loc main_arg1)) (ix2 k (chanA (chan t q))) := fun k => by
    simp only [chanA, chan]
    blk_point [iblk, V, idx t]
  have hb : (iblk m c 4 t) (ix2 0 q) = (m ((c : Thread nD τ).loc main_arg2)) (ix1 (chanA (chan t q))) := by
    refine Eq.trans (b := V m c main_v0 (ix2 0 (chanA (chan t q)))) ?_ (congrFun (V_v0 m c) _)
    simp only [chanA, chan]
    blk_point [iblk, idx t]
  unfold convB convOf convAt
  rw [hw, hw, hw, hb]
  exact congrArg (fun f => conv3 f _ _ _ _ i) (funext hx)

/-- So is the second half's. -/
theorem conv_g (c : Dev nD) (t : Fin cfg0.N) (i : Fin 4096) (q : Fin 128) :
    convB (iblk m c 1 t) (iblk m c 3 t) (iblk m c 5 t) i q = convOf m c i (chanG (chan t q)) := by
  have hN := lt_of_lt_of_eq t.isLt N_0
  have hx : ∀ i : Fin 4096, (iblk m c 1 t) (ix2 i q) = (m ((c : Thread nD τ).loc main_arg0)) (ix2 i (chanG (chan t q))) := fun i => by
    simp only [chanG, chan]
    blk_point [iblk, V, idx t]
  have hw : ∀ k : Fin 3, (iblk m c 3 t) (ix2 k q) = (m ((c : Thread nD τ).loc main_arg1)) (ix2 k (chanG (chan t q))) := fun k => by
    simp only [chanG, chan]
    blk_point [iblk, V, idx t]
  have hb : (iblk m c 5 t) (ix2 0 q) = (m ((c : Thread nD τ).loc main_arg2)) (ix1 (chanG (chan t q))) := by
    refine Eq.trans (b := V m c main_v1 (ix2 0 (chanG (chan t q)))) ?_ (congrFun (V_v1 m c) _)
    simp only [chanG, chan]
    blk_point [iblk, idx t]
  unfold convB convOf convAt
  rw [hw, hw, hw, hb]
  exact congrArg (fun f => conv3 f _ _ _ _ i) (funext hx)

/-- The gated product. -/
theorem array6 (c : Dev nD) : (dats m 0 c).arrAt 6 cfg0.N
    = fun j : S4096x2816.Idx => act (convOf m c (j 0) (chanA (j 1))) * convOf m c (j 0) (chanG (j 1)) := by
  refine (dats m 0 c).arrAt_eq_of_covers 6 _ (by decide +kernel) fun t hf y => ?_
  blk_simp [idx t]
  have h0 : (win0_6.blk t).view.emb y 0 = y 0 := by apply Fin.ext; blk_simp [idx t]
  have h1 : (win0_6.blk t).view.emb y 1 = chan t (y 1) := by apply Fin.ext; simp only [chan]; blk_simp [idx t]
  rw [after0_6, h0, h1]
  refine Eq.trans ?_ ((out6 (iblk m c 0 t) (iblk m c 1 t) (iblk m c 2 t) (iblk m c 3 t) (iblk m c 4 t) (iblk m c 5 t) (y 0) (y 1)).trans
    (congrArg₂ (fun a g : EReal => act a * g) (conv_a m c t (y 0) (y 1)) (conv_g m c t (y 0) (y 1))))
  exact congrArg _ (by funext a; fin_cases a <;> rfl)

/-- The convolved first half. -/
theorem array7 (c : Dev nD) : (dats m 0 c).arrAt 7 cfg0.N = fun j : S4096x2816.Idx => convOf m c (j 0) (chanA (j 1)) := by
  refine (dats m 0 c).arrAt_eq_of_covers 7 _ (by decide +kernel) fun t hf y => ?_
  blk_simp [idx t]
  have h0 : (win0_7.blk t).view.emb y 0 = y 0 := by apply Fin.ext; blk_simp [idx t]
  have h1 : (win0_7.blk t).view.emb y 1 = chan t (y 1) := by apply Fin.ext; simp only [chan]; blk_simp [idx t]
  rw [after0_7, h0, h1]
  refine Eq.trans ?_ ((out7 (iblk m c 0 t) (iblk m c 1 t) (iblk m c 2 t) (iblk m c 3 t) (iblk m c 4 t) (iblk m c 5 t) (y 0) (y 1)).trans (conv_a m c t (y 0) (y 1)))
  exact congrArg _ (by funext a; fin_cases a <;> rfl)

/-- The convolved second half. -/
theorem array8 (c : Dev nD) : (dats m 0 c).arrAt 8 cfg0.N = fun j : S4096x2816.Idx => convOf m c (j 0) (chanG (j 1)) := by
  refine (dats m 0 c).arrAt_eq_of_covers 8 _ (by decide +kernel) fun t hf y => ?_
  blk_simp [idx t]
  have h0 : (win0_8.blk t).view.emb y 0 = y 0 := by apply Fin.ext; blk_simp [idx t]
  have h1 : (win0_8.blk t).view.emb y 1 = chan t (y 1) := by apply Fin.ext; simp only [chan]; blk_simp [idx t]
  rw [after0_8, h0, h1]
  refine Eq.trans ?_ ((out8 (iblk m c 0 t) (iblk m c 1 t) (iblk m c 2 t) (iblk m c 3 t) (iblk m c 4 t) (iblk m c 5 t) (y 0) (y 1)).trans (conv_g m c t (y 0) (y 1)))
  exact congrArg _ (by funext a; fin_cases a <;> rfl)

/-- Over ideal values the kernel and the reference end with the same three results, and both keep their arguments. -/
theorem algebraic : Cert.algebraic_ConvIdeal_ConvRefIdeal := by
  intro m g m' g' _ hargs
  refine ⟨fun c => (dats m 0 c).arrAt 6 cfg0.N, fun c => (dats m 0 c).arrAt 7 cfg0.N, fun c => (dats m 0 c).arrAt 8 cfg0.N, run_blocks m g, ?_⟩
  refine (θ_run _ _ _).mono (fun r h c => ?_) (Cert.ConvRefIdeal.Value.run m' g')
  obtain ⟨r0, r1, r2, k⟩ := h c
  obtain ⟨a0, a1, a2⟩ := hargs c
  refine ⟨r0.trans ?_, r1.trans ?_, r2.trans ?_, k⟩
  · refine (Cert.ConvRefIdeal.Read.val_main_v40_eq m' c).trans ?_
    rw [a0, a1, a2]
    exact (funext fun j => Cert.ConvRefIdeal.Value.ref_gated _ _ _ j).trans (array6 m c).symm
  · refine (Cert.ConvRefIdeal.Read.val_main_v41_eq _ _ _).trans ?_
    rw [a0, a1, a2]
    exact (funext fun j => Cert.ConvRefIdeal.Value.ref_a _ _ _ j).trans (array7 m c).symm
  · refine (Cert.ConvRefIdeal.Read.val_main_v42_eq _ _ _).trans ?_
    rw [a0, a1, a2]
    exact (funext fun j => Cert.ConvRefIdeal.Value.ref_g _ _ _ j).trans (array8 m c).symm

/-- The reference keeps its arguments and ends with its counters at zero. -/
theorem ref_frame : Cert.quiescent_ConvRefIdeal := fun m g _ =>
  (θ_run Cert.ConvRefIdeal.defs _ _).mono (fun r h => ⟨fun c => (h c).2.2.2,
      Idealize.ShloMosaic.sem_eq_zero_of_no_sems (by decide) r.2⟩)
    (Cert.ConvRefIdeal.Value.run (F := Ideal) m g)

end Cert.ConvIdeal.Value
-- ==== Proof.LossBlock.lean ====
module

public import proofs.«01_k».proof.Proof.Products
public import proofs.«01_k».proof.Proof.Gen.LossIdeal.Value
public import Idealize.ShloMosaic.Lib.Pipeline.ReadBack

/-! # The loss: one block of the kernel

At each grid point the kernel takes 512 rows, stores the gradient of their errors and adds the squared errors of each
column to a carried row; the last point adds that row up. -/

@[expose] public section

set_option maxRecDepth 16384
noncomputable section
open Idealize.ShloMosaic Idealize.ShloMosaic.TcCoe Idealize.SL.Sem
open Idealize.ShloMosaic.Pipeline (Dat)

namespace Cert.LossIdeal.Value
open Cert.LossIdeal.Gen

/-- The square of an error. -/
def sqErr (a b : EReal) : EReal := (a - b) * (a - b)

section
variable (Y T : FVec Ideal S512x1024 .f32)

/-- A block's squared errors in one column. -/
def sqB (q : Fin 1024) : EReal := ∑ p : Fin 512, sqErr (Y (ix2 p q)) (T (ix2 p q))

/-- The carried row with the block's squared errors added. -/
theorem pay4 (v : FVec Ideal S1x1024 .f32) (q : Fin 1024) : k0_pay4 (F := Ideal) Y T v (ix2 0 q) = v (ix2 0 q) + sqB Y T q := by
  simp only [sqB, sqErr]
  pointwise [k0_pay4, k0_pay2]

/-- An entry of a block's gradient. -/
def gradB (p : Fin 512) (q : Fin 1024) : EReal := (Y (ix2 p q) - T (ix2 p q)) * Ideal.ofBits .f32 0x3A800000#32

/-- The stored gradient. -/
theorem pay3 (p : Fin 512) (q : Fin 1024) : k0_pay3 (F := Ideal) Y T (ix2 p q) = gradB Y T p q := by
  simp only [gradB]
  pointwise [k0_pay3, k0_pay2]

/-- The stored sum, the same in every lane. -/
theorem pay5 (v : FVec Ideal S1x1024 .f32) (j : S1x128.Idx) : k0_pay5 (F := Ideal) v j
    = (∑ q : Fin 1024, v (ix2 0 q)) * Ideal.ofBits .f32 0x3A000000#32 := by
  pointwise [k0_pay5]

end

variable (m : (ℓ : Loc nD τ sig) → Buf (Elt Ideal) ℓ)

/-- The gradient block at every point. -/
theorem grad (c : Dev nD) (t : Fin cfg0.N) (p : Fin 512) (q : Fin 1024) : (outsAt0 m c t.val t.isLt).1 (ix2 p q)
    = gradB (iblk m c 0 t) (iblk m c 1 t) p q := by
  rw [← pay3]
  by_cases h0 : t.val % 8 = 0
  · rw [outsAt0_A m c t h0 (by omega)]; frame_out
  · by_cases h1 : t.val % 8 = 7
    · rw [outsAt0_C m c t h0 h1]; frame_out
    · rw [outsAt0_B m c t h0 h1]; frame_out

/-- The first point adds the block's squared errors to zero. -/
theorem acc_first (c : Dev nD) (t : Fin cfg0.N) (h0 : t.val % 8 = 0) (q : Fin 1024) : (outsAt0 m c t.val t.isLt).2.2 (ix2 0 q)
    = 0 + sqB (iblk m c 0 t) (iblk m c 1 t) q := by
  rw [outsAt0_A m c t h0 (by omega)]; frame_out
  refine (pay4 _ _ _ q).trans (congrArg (· + _) ?_)
  pointwise [k0_pay1]

/-- A later point adds the block's squared errors to the carried row. -/
theorem acc_step (c : Dev nD) (t : Fin cfg0.N) (h0 : ¬t.val % 8 = 0) (q : Fin 1024) : (outsAt0 m c t.val t.isLt).2.2 (ix2 0 q)
    = (outsAt0 m c (t.val - 1) (lt_of_le_of_lt (Nat.sub_le _ _) t.isLt)).2.2 (ix2 0 q) + sqB (iblk m c 0 t) (iblk m c 1 t) q := by
  by_cases h1 : t.val % 8 = 7
  · rw [outsAt0_C m c t h0 h1]; frame_out
    exact (pay4 _ _ _ q).trans (congrArg (· + _) (congrFun (read_unread_whole _ _ _) _))
  · rw [outsAt0_B m c t h0 h1]; frame_out
    exact (pay4 _ _ _ q).trans (congrArg (· + _) (congrFun (read_unread_whole _ _ _) _))

/-- The last point stores the sum of the carried row. -/
theorem last (c : Dev nD) (t : Fin cfg0.N) (h1 : t.val % 8 = 7) (j : S1x128.Idx) : (outsAt0 m c t.val t.isLt).2.1 j
    = (∑ q : Fin 1024, (outsAt0 m c t.val t.isLt).2.2 (ix2 0 q)) * Ideal.ofBits .f32 0x3A000000#32 := by
  rw [← pay5 _ j, outsAt0_C m c t (by omega) h1]; frame_out

end Cert.LossIdeal.Value
-- ==== Proof.LossValue.lean ====
module

public import proofs.«01_k».proof.Defs
public import proofs.«01_k».proof.Proof.LossBlock
public import proofs.«01_k».proof.Proof.Gen.LossRefIdeal.Run
public import proofs.«01_k».proof.Proof.Gen.LossRefIdeal.Read
public import Idealize.ShloMosaic.Lib.Claim

/-! # The loss and its gradient

The kernel sums each column's squared errors over the rows and then over the columns; the reference takes the mean of each
row and adds the means up. Scaling by a nonnegative real distributes over sums of any extended reals, so the two agree on
every argument. -/

@[expose] public section

set_option maxRecDepth 16384
noncomputable section
open Idealize.ShloMosaic Idealize.ShloMosaic.TcCoe Idealize.SL.Sem
open Idealize.ShloMosaic.Pipeline (Dat)

namespace Cert.LossIdeal.Value
open Cert.LossIdeal.Gen

/-! ## Constants -/

theorem word_half : Ideal.ofBits .f32 0x3F000000#32 = ((1 / 2 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_width : Ideal.ofBits .f32 0x44800000#32 = ((1024 : ℝ) : EReal) := by
  simp [Ideal.ofBits, Ideal.ieee, -EReal.coe_mul]; norm_num
theorem word_grad : Ideal.ofBits .f32 0x3A800000#32 = ((1 / 1024 : ℝ) : EReal) := by
  simp [Ideal.ofBits, Ideal.ieee, -EReal.coe_mul]; norm_num
theorem word_loss : Ideal.ofBits .f32 0x3A000000#32 = ((1 / 2048 : ℝ) : EReal) := by
  simp [Ideal.ofBits, Ideal.ieee, -EReal.coe_mul]; norm_num

/-- A nonnegative real distributes over a sum of extended reals. -/
theorem sum_mul_real {ι : Type} (s : Finset ι) (f : ι → EReal) (r : ℝ) (hr : 0 ≤ r) :
    ∑ i ∈ s, f i * (r : EReal) = (∑ i ∈ s, f i) * (r : EReal) := by
  classical
  induction s using Finset.induction_on with
  | empty => simp
  | insert a s ha ih => rw [Finset.sum_insert ha, Finset.sum_insert ha, ih, EReal.right_distrib_of_nonneg_of_ne_top (by exact_mod_cast hr) (EReal.coe_ne_top r)]

/-! ## The reference -/

section
variable (y t : FVec Ideal S4096x1024 .f32)

/-- An entry of the gradient. -/
def gradOf (i : Fin 4096) (q : Fin 1024) : EReal := (y (ix2 i q) - t (ix2 i q)) * Ideal.ofBits .f32 0x3A800000#32

/-- The sum of one column's squared errors. -/
def colSum (q : Fin 1024) : EReal := ∑ i : Fin 4096, sqErr (y (ix2 i q)) (t (ix2 i q))

theorem ref_grad (j : S4096x1024.Idx) : Cert.LossRefIdeal.Read.val_main_v14 (F := Ideal) y t j = gradOf y t (j 0) (j 1) := by
  obtain ⟨i, q, rfl⟩ : ∃ (i : Fin 4096) (q : Fin 1024), j = ix2 i q := ⟨j 0, j 1, by funext a; fin_cases a <;> rfl⟩
  rw [Cert.LossRefIdeal.Read.val_main_v14_apply, Cert.LossRefIdeal.Read.val_main_v13_apply, Cert.LossRefIdeal.Read.val_main_v12_apply,
    Cert.LossRefIdeal.Read.val_main_v11_apply, Cert.LossRefIdeal.Read.val_main_v10_apply, Cert.LossRefIdeal.Read.val_main_v3_apply,
    Cert.LossRefIdeal.Read.val_main_v2_apply]
  show (Ideal.div (Ideal.ofBits .f32 0x3F000000#32 * Ideal.ofBits .f32 0x3F800000#32) (Ideal.ofBits .f32 0x44800000#32)
    * (Ideal.ofBits .f32 0x40000000#32 * (y (ix2 i q) - t (ix2 i q))) : EReal) = (y (ix2 i q) - t (ix2 i q)) * Ideal.ofBits .f32 0x3A800000#32
  rw [word_half, Ideal.ofBits_one_f32, word_width, word_two, word_grad, Ideal.div_coe (by norm_num), mul_one, ← mul_assoc, ← EReal.coe_mul, ← EReal.coe_mul, mul_comm]
  norm_num

theorem ref_loss (j : S1x128.Idx) : Cert.LossRefIdeal.Read.val_main_v15 (F := Ideal) y t j
    = (∑ q : Fin 1024, colSum y t q) * Ideal.ofBits .f32 0x3A000000#32 := by
  rw [Cert.LossRefIdeal.Read.val_main_v15_apply, Cert.LossRefIdeal.Read.val_main_v8_apply, Cert.LossRefIdeal.Read.val_main_v7_apply]
  have row : ∀ i : Cert.LossRefIdeal.S4096.Idx, Cert.LossRefIdeal.Read.val_main_v6 (F := Ideal) y t i
      = (∑ q : Fin 1024, sqErr (y (ix2 (i 0) q)) (t (ix2 (i 0) q))) * ((1 / 1024 : ℝ) : EReal) := fun i => by
    rw [Cert.LossRefIdeal.Read.val_main_v6_apply, Cert.LossRefIdeal.Read.val_main_v4_apply, Cert.LossRefIdeal.Read.val_main_v5_apply]
    show Ideal.div (Ideal.ofBits .f32 0x00000000#32 + _) (Ideal.ofBits .f32 0x44800000#32) = _
    rw [Ideal.ofBits_zero, zero_add, word_width, Ideal.div_coe (by norm_num)]
    refine congrArg (· * ((1 / 1024 : ℝ) : EReal)) (Fin.sum_fin_congr fun q => ?_)
    exact congrArg (fun i : S4096x1024.Idx => sqErr (y i) (t i)) (by funext a; fin_cases a <;> rfl)
  have all : ∑ i : Cert.LossRefIdeal.S4096.Idx, ∑ q : Fin 1024, sqErr (y (ix2 (i 0) q)) (t (ix2 (i 0) q)) = ∑ q : Fin 1024, colSum y t q := by
    unfold colSum
    rw [Finset.sum_comm]
    exact Fin.sum_fin_congr fun q => Fintype.sum_equiv
      ⟨fun i : Cert.LossRefIdeal.S4096.Idx => (i 0 : Fin 4096), fun i => ix1 i, fun i => by funext a; fin_cases a; rfl, fun _ => rfl⟩ _ _ fun _ => rfl
  show (Ideal.ofBits .f32 0x3F000000#32 * (Ideal.ofBits .f32 0x00000000#32 + ∑ i, Cert.LossRefIdeal.Read.val_main_v6 (F := Ideal) y t i) : EReal) = _
  rw [Finset.sum_congr rfl fun i _ => row i, sum_mul_real _ _ _ (by norm_num), all, Ideal.ofBits_zero, zero_add, word_half, word_loss, mul_comm,
    mul_assoc, ← EReal.coe_mul]
  norm_num

end

/-! ## The kernel -/

/-- The block each window reads or writes at a grid point. -/
theorem idx : ∀ t : Fin cfg0.N, win0_0.index t = ![t.val, 0] ∧ win0_1.index t = ![t.val, 0]
    ∧ win0_2.index t = ![t.val, 0] ∧ win0_3.index t = ![0, 0] :=
  (by decide +kernel : ∀ t : Fin grid0.N, _)

variable (m : (ℓ : Loc nD τ sig) → Buf (Elt Ideal) ℓ)

/-- The row `p` of block `t` among all rows. -/
def rowOf (t : Fin cfg0.N) (p : Fin 512) : Fin 4096 := ⟨t.val * 512 + p.val, by have := lt_of_lt_of_eq t.isLt N_0; omega⟩

theorem iblk0 (c : Dev nD) (t : Fin cfg0.N) (p : Fin 512) (q : Fin 1024) :
    (iblk m c 0 t) (ix2 p q) = (m ((c : Thread nD τ).loc main_arg0)) (ix2 (rowOf t p) q) := by
  simp only [rowOf]
  blk_point [iblk, V, idx t]

theorem iblk1 (c : Dev nD) (t : Fin cfg0.N) (p : Fin 512) (q : Fin 1024) :
    (iblk m c 1 t) (ix2 p q) = (m ((c : Thread nD τ).loc main_arg1)) (ix2 (rowOf t p) q) := by
  simp only [rowOf]
  blk_point [iblk, V, idx t]

/-- The gradient, block by block. -/
theorem array2 (c : Dev nD) : (dats m 0 c).arrAt 2 cfg0.N = fun j : S4096x1024.Idx =>
    gradOf (m ((c : Thread nD τ).loc main_arg0)) (m ((c : Thread nD τ).loc main_arg1)) (j 0) (j 1) := by
  refine (dats m 0 c).arrAt_eq_of_covers 2 _ (by decide +kernel) fun t hf y => ?_
  blk_simp [idx t]
  have h0 : (win0_2.blk t).view.emb y 0 = rowOf t (y 0) := by apply Fin.ext; simp only [rowOf]; blk_simp [idx t]
  have h1 : (win0_2.blk t).view.emb y 1 = y 1 := by apply Fin.ext; blk_simp [idx t]
  rw [after0_2, h0, h1]
  refine Eq.trans (congrArg _ (by funext a; fin_cases a <;> rfl)) ((grad m c t (y 0) (y 1)).trans ?_)
  exact congrArg₂ (fun a b : EReal => (a - b) * Ideal.ofBits .f32 0x3A800000#32) (iblk0 m c t _ _) (iblk1 m c t _ _)

/-- The loss, in every lane. -/
theorem array3 (c : Dev nD) : (dats m 0 c).arrAt 3 cfg0.N = fun j : S1x128.Idx =>
    (∑ q : Fin 1024, colSum (m ((c : Thread nD τ).loc main_arg0)) (m ((c : Thread nD τ).loc main_arg1)) q) * Ideal.ofBits .f32 0x3A000000#32 := by
  refine (dats m 0 c).arrAt_eq_of_covers 3 _ (by decide +kernel) fun t hf y => ?_
  have hmod := (flush0_3 t).mp hf
  have hN := lt_of_lt_of_eq t.isLt N_0
  blk_simp [idx t]
  rw [after0_3, last m c t hmod]
  refine congrArg (· * Ideal.ofBits .f32 0x3A000000#32) (Fin.sum_fin_congr fun q => ?_)
  rw [Pipeline.eq_sum_fin_of_reset_step_apply_of_flush (fun n h (q : Fin 1024) => (outsAt0 m c n h).2.2 (ix2 0 q)) 8
    (fun _ => 0) _ (fun t h q => acc_first m c t h q) (fun t h q => acc_step m c t h q) t hmod q, zero_add]
  unfold colSum
  rw [Cert.Products.sum_blocks 8 512 rfl]
  refine Fin.sum_fin_congr fun s => Fin.sum_fin_congr fun p => ?_
  have hs : rowOf (⟨8 * (t.val / 8) + s.val, Pipeline.run_point_lt_of_flush t hmod s⟩ : Fin cfg0.N) p
      = ⟨512 * s.val + p.val, by have := s.isLt; have := p.isLt; omega⟩ :=
    Fin.ext (by simp only [rowOf]; omega)
  rw [← hs]
  exact congrArg₂ sqErr (iblk0 m c _ _ _) (iblk1 m c _ _ _)

/-- Over ideal values the kernel and the reference end with the same gradient and loss, and both keep their arguments. -/
theorem algebraic : Cert.algebraic_LossIdeal_LossRefIdeal := by
  intro m g m' g' _ hargs
  refine ⟨fun c => (dats m 0 c).arrAt 2 cfg0.N, fun c => (dats m 0 c).arrAt 3 cfg0.N, run_blocks m g, ?_⟩
  refine (θ_run _ _ _).mono (fun r h c => ?_) (Cert.LossRefIdeal.Value.run m' g')
  obtain ⟨r0, r1, k⟩ := h c
  obtain ⟨a0, a1⟩ := hargs c
  refine ⟨r0.trans ?_, r1.trans ?_, k⟩
  · refine (Cert.LossRefIdeal.Read.val_main_v14_eq _ _).trans ?_
    rw [a0, a1]
    exact (funext fun j => ref_grad _ _ j).trans (array2 m c).symm
  · refine (Cert.LossRefIdeal.Read.val_main_v15_eq _ _).trans ?_
    rw [a0, a1]
    exact (funext fun j => ref_loss _ _ j).trans (array3 m c).symm

/-- The reference keeps its arguments and ends with its counters at zero. -/
theorem ref_frame : Cert.quiescent_LossRefIdeal := fun m g _ =>
  (θ_run Cert.LossRefIdeal.defs _ _).mono (fun r h => ⟨fun c => (h c).2.2,
      Idealize.ShloMosaic.sem_eq_zero_of_no_sems (by decide) r.2⟩)
    (Cert.LossRefIdeal.Value.run (F := Ideal) m g)

end Cert.LossIdeal.Value
-- ==== Proof.AttnBlock.lean ====
module

public import proofs.«01_k».proof.Proof.Gen.AttnIdeal.Value
public import Idealize.ShloMosaic.Lib.Pipeline.ReadBack
public import Idealize.ShloMosaic.Lib.Claim
public import proofs.«01_k».proof.Proof.Products
public import Idealize.ShloMosaic.Lib.WordCmp

/-! # Band attention: one block of 128 queries

The kernel keeps two heads of 64 channels side by side. It clears the other head's channels in the queries and in the
values, so that a product over 128 channels is one over the head's own 64. -/

@[expose] public section

set_option maxRecDepth 16384
noncomputable section
open Idealize.ShloMosaic Idealize.ShloMosaic.TcCoe Idealize.SL.Sem
open Idealize.ShloMosaic.Pipeline (Dat)

namespace Cert.AttnIdeal.Value
open Cert.AttnIdeal.Gen

/-- The pair of heads that head `h` lies in. -/
def pairOf (h : Fin 8) : Fin 4 := ⟨h.val / 2, by omega⟩

/-- Channel `j` of a pair belongs to head `h`. -/
def own (h : Fin 8) (j : Fin 128) : Prop := (j.val < 64 ↔ h.val % 2 = 0)
instance (h : Fin 8) (j : Fin 128) : Decidable (own h j) := inferInstanceAs (Decidable (_ ↔ _))

abbrev Blk := FVec Ideal S128x128 .bf16

/-- Four pairs, read by head. -/
def stack (K : Fin 4 → Blk) : FVec Ideal S8x128x128 .bf16 :=
  k0_pay13 (F := Ideal) (K 0) (K 0) (K 1) (K 1) (K 2) (K 2) (K 3) (K 3)

/-- Four pairs, read by head, with the other head's channels cleared. -/
def stackOwn (Q : Fin 4 → Blk) : FVec Ideal S8x128x128 .bf16 :=
  k0_pay12 (F := Ideal) (k0_pay3 (Q 0)) (k0_pay4 (Q 0)) (k0_pay5 (Q 1)) (k0_pay6 (Q 1)) (k0_pay7 (Q 2)) (k0_pay8 (Q 2)) (k0_pay9 (Q 3)) (Q 3)
    k0_pay10 (k0_pay11 (F := Ideal))

theorem stack_apply (K : Fin 4 → Blk) (h : Fin 8) (i j : Fin 128) : stack K (ix3 h i j) = K (pairOf h) (ix2 i j) := by
  unfold stack
  fin_cases h <;> pointwise [k0_pay13, pairOf]

/-- Reading the first half of a pair, and reading the second. -/
theorem lower (x : EReal) (h : Fin 8) (j : Fin 128) (hh : h.val % 2 = 0) :
    Scalar.select (IntOp.cmpi .slt (BitVec.ofNat 32 j.val) 64#32) x 0 = if own h j then x else 0 := by
  have e : IntOp.cmpi .slt (BitVec.ofNat 32 j.val) 64#32 = if j.val < 64 then 1#1 else 0#1 := by
    revert j; decide
  rw [e]
  by_cases hj : j.val < 64 <;> simp [own, hj, hh, Scalar.select]

theorem upper (x : EReal) (h : Fin 8) (j : Fin 128) (hh : h.val % 2 = 1) :
    Scalar.select (IntOp.xori (IntOp.cmpi .slt (BitVec.ofNat 32 j.val) 64#32) 1#1) x 0 = if own h j then x else 0 := by
  have e : IntOp.xori (IntOp.cmpi .slt (BitVec.ofNat 32 j.val) 64#32) 1#1 = if j.val < 64 then 0#1 else 1#1 := by
    revert j; decide
  rw [e]
  by_cases hj : j.val < 64 <;> simp [own, hj, hh, Scalar.select]

theorem stackOwn_apply (Q : Fin 4 → Blk) (h : Fin 8) (i j : Fin 128) :
    stackOwn Q (ix3 h i j) = if own h j then Q (pairOf h) (ix2 i j) else 0 := by
  unfold stackOwn
  fin_cases h <;>
    pointwise [k0_pay12, k0_pay2, k0_pay3, k0_pay4, k0_pay5, k0_pay6, k0_pay7, k0_pay8, k0_pay9, k0_pay10, k0_pay11, pairOf] <;>
    first
      | exact lower _ _ j rfl
      | exact upper _ _ j rfl

/-- A row's scores against the block before, before they are normalised. -/
theorem pay15 (A B : FVec Ideal S8x128x128 .bf16) (b : FVec Ideal S1x8x1x128x256 .f32) (h : Fin 8) (i k : Fin 128) :
    k0_pay15 (F := Ideal) A B b (ix3 h i k) = (∑ j : Fin 128, A (ix3 h i j) * B (ix3 h k j)) * Ideal.ofBits .f32 0x3E000000#32
      + b (ix5 0 h 0 i ⟨k.val, by omega⟩) := by
  pointwise [k0_pay15, k0_pay14]

/-- A row's scores against the block itself. -/
theorem pay16 (A : FVec Ideal S8x128x128 .bf16) (K : Fin 4 → Blk) (b : FVec Ideal S1x8x1x128x256 .f32) (h : Fin 8) (i k : Fin 128) :
    k0_pay16 (F := Ideal) A (K 0) (K 0) (K 1) (K 1) (K 2) (K 2) (K 3) (K 3) b (ix3 h i k)
      = (∑ j : Fin 128, A (ix3 h i j) * stack K (ix3 h k j)) * Ideal.ofBits .f32 0x3E000000#32
      + b (ix5 0 h 0 i ⟨128 + k.val, by omega⟩) := by
  unfold stack
  pointwise [k0_pay16, k0_pay14, k0_pay13]

/-- The weighted sum of the values. -/
theorem pay31 (P : FVec Ideal S8x128x128 .bf16) (V : Fin 4 → Blk) (h : Fin 8) (i j : Fin 128) :
    k0_pay31 (F := Ideal) P (k0_pay23 (V 0)) (k0_pay24 (V 0)) (k0_pay25 (V 1)) (k0_pay26 (V 1)) (k0_pay27 (V 2)) (k0_pay28 (V 2)) (k0_pay29 (V 3)) (k0_pay30 (V 3)) (ix3 h i j)
      = ∑ k : Fin 128, P (ix3 h i k) * stackOwn V (ix3 h k j) := by
  have e : k0_pay31 (F := Ideal) P (k0_pay23 (V 0)) (k0_pay24 (V 0)) (k0_pay25 (V 1)) (k0_pay26 (V 1)) (k0_pay27 (V 2)) (k0_pay28 (V 2)) (k0_pay29 (V 3)) (k0_pay30 (V 3))
    = matmul dot_S8x128x128_S8x128x128_S8x128x128_2_1_1_2_0_0 none P (stackOwn V) (constant S8x128x128 .f32 0x00000000#32) := rfl
  rw [e]
  pointwise

/-- The largest of a row's scores, over both blocks. -/
theorem pay17 (A B : FVec Ideal S8x128x128 .bf16) (K : Fin 4 → Blk) (b : FVec Ideal S1x8x1x128x256 .f32) (h : Fin 8) (i : Fin 128) :
    k0_pay17 (F := Ideal) A B (K 0) (K 0) (K 1) (K 1) (K 2) (K 2) (K 3) (K 3) b (ix3 h i 0)
      = max (Finset.univ.sup fun k : Fin 128 => (k0_pay15 (F := Ideal) A B b (ix3 h i k) : EReal))
        (Finset.univ.sup fun k : Fin 128 => (k0_pay16 (F := Ideal) A (K 0) (K 0) (K 1) (K 1) (K 2) (K 2) (K 3) (K 3) b (ix3 h i k) : EReal)) := by
  pointwise [k0_pay17]
  rw [show Ideal.ofBits .f32 4286578688#32 = (⊥ : EReal) from by simp [Ideal.ofBits, Ideal.ieee]]
  rfl

theorem pay18 (A B : FVec Ideal S8x128x128 .bf16) (K : Fin 4 → Blk) (b : FVec Ideal S1x8x1x128x256 .f32) (h : Fin 8) (i k : Fin 128) :
    k0_pay18 (F := Ideal) A B (K 0) (K 0) (K 1) (K 1) (K 2) (K 2) (K 3) (K 3) b (ix3 h i k)
      = Ideal.exp (k0_pay15 (F := Ideal) A B b (ix3 h i k) - k0_pay17 (F := Ideal) A B (K 0) (K 0) (K 1) (K 1) (K 2) (K 2) (K 3) (K 3) b (ix3 h i 0)) := by
  pointwise [k0_pay18]

theorem pay20 (A B : FVec Ideal S8x128x128 .bf16) (K : Fin 4 → Blk) (b : FVec Ideal S1x8x1x128x256 .f32) (h : Fin 8) (i : Fin 128) :
    k0_pay20 (F := Ideal) A B (K 0) (K 0) (K 1) (K 1) (K 2) (K 2) (K 3) (K 3) b (ix3 h i 0)
      = (∑ k : Fin 128, k0_pay18 (F := Ideal) A B (K 0) (K 0) (K 1) (K 1) (K 2) (K 2) (K 3) (K 3) b (ix3 h i k))
        + ∑ k : Fin 128, k0_pay19 (F := Ideal) A B (K 0) (K 0) (K 1) (K 1) (K 2) (K 2) (K 3) (K 3) b (ix3 h i k) := by
  pointwise [k0_pay20]

/-- The two heads of a pair, put side by side. -/
def sides (O : FVec Ideal S8x128x128 .f32) (p : Fin 4) (i j : Fin 128) : EReal :=
  O (ix3 ⟨2 * p.val, by omega⟩ i j) + O (ix3 ⟨2 * p.val + 1, by omega⟩ i j)

end Cert.AttnIdeal.Value
-- ==== Proof.AttnOut.lean ====
module

public import proofs.«01_k».proof.Proof.AttnBlock

/-! # Band attention: what one grid point writes

A grid point does two blocks of 128 queries, with the same operations on each. -/

@[expose] public section

set_option maxRecDepth 16384
noncomputable section
open Idealize.ShloMosaic Idealize.ShloMosaic.TcCoe Idealize.SL.Sem
open Idealize.ShloMosaic.Pipeline (Dat)

namespace Cert.AttnIdeal.Value
open Cert.AttnIdeal.Gen

/-- The pairs of the first 128 rows, of the last 128 rows, and of a block of 128 rows. -/
def upperQ (x : Vec Ideal S256x512 .bf16) : Fin 4 → Blk := ![View.ld x r0_0, View.ld x r0_1, View.ld x r0_2, View.ld x r0_3]
def lowerQ (x : Vec Ideal S256x512 .bf16) : Fin 4 → Blk := ![View.ld x r0_10, View.ld x r0_11, View.ld x r0_12, View.ld x r0_13]
def pairsK (x : Vec Ideal S128x512 .bf16) : Fin 4 → Blk := ![View.ld x r0_4, View.ld x r0_5, View.ld x r0_6, View.ld x r0_7]

section
variable (Q K' K V' V : Fin 4 → Blk) (b : FVec Ideal S1x8x1x128x256 .f32)

/-- The operations on one block of queries `Q`: its keys and values are `K'`, `V'` of the block before and `K`, `V` of the
block itself, and `b` is what it adds to the scores. -/
def top : FVec Ideal S8x128x1 .f32 :=
  k0_pay17 (F := Ideal) (stackOwn Q) (stack K') (K 0) (K 0) (K 1) (K 1) (K 2) (K 2) (K 3) (K 3) b
def ePrev : FVec Ideal S8x128x128 .f32 :=
  k0_pay18 (F := Ideal) (stackOwn Q) (stack K') (K 0) (K 0) (K 1) (K 1) (K 2) (K 2) (K 3) (K 3) b
def eCur : FVec Ideal S8x128x128 .f32 :=
  k0_pay19 (F := Ideal) (stackOwn Q) (stack K') (K 0) (K 0) (K 1) (K 1) (K 2) (K 2) (K 3) (K 3) b
def den : FVec Ideal S8x128x1 .f32 :=
  k0_pay20 (F := Ideal) (stackOwn Q) (stack K') (K 0) (K 0) (K 1) (K 1) (K 2) (K 2) (K 3) (K 3) b
def wPrev : FVec Ideal S8x128x128 .bf16 :=
  k0_pay21 (F := Ideal) (stackOwn Q) (stack K') (K 0) (K 0) (K 1) (K 1) (K 2) (K 2) (K 3) (K 3) b
def wCur : FVec Ideal S8x128x128 .bf16 := k0_pay32 (F := Ideal) (eCur Q K' K b) (den Q K' K b)
def heads : FVec Ideal S8x128x128 .f32 :=
  addf (matmul dot_S8x128x128_S8x128x128_S8x128x128_2_1_1_2_0_0 none (wPrev Q K' K b) (stackOwn V') (constant S8x128x128 .f32 0x00000000#32))
   (matmul dot_S8x128x128_S8x128x128_S8x128x128_2_1_1_2_0_0 none (wCur Q K' K b) (stackOwn V) (constant S8x128x128 .f32 0x00000000#32))
end

theorem sides_congr {O : FVec Ideal S8x128x128 .f32} {p p' : Fin 4} {i i' j j' : Fin 128} (hp : p = p') (hi : i = i') (hj : j = j') :
    sides O p i j = sides O p' i' j' := by rw [hp, hi, hj]

section
variable (x0 : Vec Ideal S256x512 .bf16) (x1 : Vec Ideal S128x512 .bf16) (x2 : Vec Ideal S256x512 .bf16) (x3 : Vec Ideal S128x512 .bf16)
  (x4 : Vec Ideal S256x512 .bf16) (x5 x6 : Vec Ideal S1x8x1x128x256 .f32) (i : Fin 256) (q : Fin 512)

/-- Both blocks of a grid point. -/
def headsA : FVec Ideal S8x128x128 .f32 := heads (upperQ x0) (pairsK x1) (upperQ x2) (pairsK x3) (upperQ x4) (View.ld x5 r0_8)
def headsB : FVec Ideal S8x128x128 .f32 := heads (lowerQ x0) (upperQ x2) (lowerQ x2) (upperQ x4) (lowerQ x4) (View.ld x6 r0_8)

/-- The four stores of the first block write the heads, two by two. -/
theorem stores_A (a b c d e f g h k l m) (r s : Fin 128) :
    k0_pay41 (F := Ideal) a b c d e f g h k l m (ix2 r s) = sides (k0_pay40 a b c d e f g h k l m) 0 r s
    ∧ k0_pay42 (F := Ideal) a b c d e f g h k l m (ix2 r s) = sides (k0_pay40 a b c d e f g h k l m) 1 r s
    ∧ k0_pay43 (F := Ideal) a b c d e f g h k l m (ix2 r s) = sides (k0_pay40 a b c d e f g h k l m) 2 r s
    ∧ k0_pay44 (F := Ideal) a b c d e f g h k l m (ix2 r s) = sides (k0_pay40 a b c d e f g h k l m) 3 r s := by
  refine ⟨?_, ?_, ?_, ?_⟩ <;> pointwise [k0_pay41, k0_pay42, k0_pay43, k0_pay44] <;> rfl

/-- The four stores of the second block write the heads, two by two. -/
theorem stores_B (a b c d e f g h k l m) (r s : Fin 128) :
    k0_pay84 (F := Ideal) a b c d e f g h k l m (ix2 r s) = sides (k0_pay83 a b c d e f g h k l m) 0 r s
    ∧ k0_pay85 (F := Ideal) a b c d e f g h k l m (ix2 r s) = sides (k0_pay83 a b c d e f g h k l m) 1 r s
    ∧ k0_pay86 (F := Ideal) a b c d e f g h k l m (ix2 r s) = sides (k0_pay83 a b c d e f g h k l m) 2 r s
    ∧ k0_pay87 (F := Ideal) a b c d e f g h k l m (ix2 r s) = sides (k0_pay83 a b c d e f g h k l m) 3 r s := by
  refine ⟨?_, ?_, ?_, ?_⟩ <;> pointwise [k0_pay84, k0_pay85, k0_pay86, k0_pay87] <;> rfl

theorem heads_A : k0_pay40 (F := Ideal) (k0_pay96 x0 x1 x2 x3 x4 x5 x6) (k0_pay97 x0 x1 x2 x3 x4 x5 x6) (k0_pay98 x0 x1 x2 x3 x4 x5 x6) (k0_pay99 x0 x1 x2 x3 x4 x5 x6) (k0_pay100 x0 x1 x2 x3 x4 x5 x6) (k0_pay101 x0 x1 x2 x3 x4 x5 x6) (k0_pay102 x0 x1 x2 x3 x4 x5 x6) (k0_pay103 x0 x1 x2 x3 x4 x5 x6) (k0_pay104 x0 x1 x2 x3 x4 x5 x6)
    (View.ld x4 r0_3) (View.ld x4 r0_3) = headsA x0 x1 x2 x3 x4 x5 := rfl

theorem heads_B : k0_pay83 (F := Ideal) (k0_pay111 x0 x1 x2 x3 x4 x5 x6) (k0_pay112 x0 x1 x2 x3 x4 x5 x6) (k0_pay113 x0 x1 x2 x3 x4 x5 x6) (k0_pay114 x0 x1 x2 x3 x4 x5 x6) (k0_pay115 x0 x1 x2 x3 x4 x5 x6) (k0_pay116 x0 x1 x2 x3 x4 x5 x6) (k0_pay117 x0 x1 x2 x3 x4 x5 x6)
    (View.ld x4 r0_12) (View.ld x4 r0_12) (View.ld x4 r0_13) (View.ld x4 r0_13) = headsB x0 x2 x4 x6 := rfl

/-- What the kernel writes of the attention. -/
theorem out7 : out0_7 (F := Ideal) x0 x1 x2 x3 x4 x5 x6 (ix2 i q) =
   if h : i.val < 128 then sides (headsA x0 x1 x2 x3 x4 x5) ⟨q.val / 128, by omega⟩ ⟨i.val, h⟩ ⟨q.val % 128, by omega⟩
   else sides (headsB x0 x2 x4 x6) ⟨q.val / 128, by omega⟩ ⟨i.val - 128, by omega⟩ ⟨q.val % 128, by omega⟩ := by
  unfold out0_7
  canon_tiles x hx
  all_goals
    have hi : i.val = _ := hx0
    have hq : q.val = _ := hx1
    have ex : x = ix2 ⟨(x 0).val, x0_lt⟩ ⟨(x 1).val, x1_lt⟩ := by funext a; fin_cases a <;> rfl
    rw [ex]
    first
      | rw [dif_pos (by omega : i.val < 128)]
        first
          | rw [(stores_A _ _ _ _ _ _ _ _ _ _ _ _ _).1]
          | rw [(stores_A _ _ _ _ _ _ _ _ _ _ _ _ _).2.1]
          | rw [(stores_A _ _ _ _ _ _ _ _ _ _ _ _ _).2.2.1]
          | rw [(stores_A _ _ _ _ _ _ _ _ _ _ _ _ _).2.2.2]
        rw [heads_A]
      | rw [dif_neg (by omega : ¬ i.val < 128)]
        first
          | rw [(stores_B _ _ _ _ _ _ _ _ _ _ _ _ _).1]
          | rw [(stores_B _ _ _ _ _ _ _ _ _ _ _ _ _).2.1]
          | rw [(stores_B _ _ _ _ _ _ _ _ _ _ _ _ _).2.2.1]
          | rw [(stores_B _ _ _ _ _ _ _ _ _ _ _ _ _).2.2.2]
        rw [heads_B]
    refine sides_congr (Fin.ext ?_) (Fin.ext ?_) (Fin.ext ?_)
    · show _ = q.val / 128
      simp only [Fin.val_zero, Fin.val_one, Fin.val_two, show ((3 : Fin 4) : ℕ) = 3 from rfl]
      omega
    · first
        | show (x 0).val = i.val
          omega
        | show (x 0).val = i.val - 128
          omega
    · show (x 1).val = q.val % 128
      omega

/-- Eight columns, one for each head, and zeros. -/
theorem lanes (m d : FVec Ideal S8x128x1 .f32) (i c : Fin 128) :
    k0_pay49 (F := Ideal) (k0_pay45 m d) (iota .tc S128x128 32 [1] iota_S128x128_d1_w32) (k0_pay46 m d) k0_pay47 (k0_pay48 m d) (ix2 i c)
      = if h : c.val < 8 then (m (ix3 ⟨c.val, h⟩ i 0) + Ideal.log (d (ix3 ⟨c.val, h⟩ i 0)) : EReal) else 0 := by
  pointwise [k0_pay49, k0_pay46, k0_pay47, k0_pay48, k0_pay45]
  have e : ∀ k : Fin 8, IntOp.cmpi .eq (BitVec.ofNat 32 c.val) (BitVec.ofNat 32 k.val) = if c.val = k.val then 1#1 else 0#1 := by
    revert c; decide
  rw [show IntOp.cmpi .eq (BitVec.ofNat 32 c.val) 7#32 = _ from e 7, show IntOp.cmpi .eq (BitVec.ofNat 32 c.val) 6#32 = _ from e 6,
    show IntOp.cmpi .eq (BitVec.ofNat 32 c.val) 5#32 = _ from e 5, show IntOp.cmpi .eq (BitVec.ofNat 32 c.val) 4#32 = _ from e 4,
    show IntOp.cmpi .eq (BitVec.ofNat 32 c.val) 3#32 = _ from e 3, show IntOp.cmpi .eq (BitVec.ofNat 32 c.val) 2#32 = _ from e 2,
    show IntOp.cmpi .eq (BitVec.ofNat 32 c.val) 1#32 = _ from e 1, show IntOp.cmpi .eq (BitVec.ofNat 32 c.val) 0#32 = _ from e 0]
  clear e
  obtain ⟨c, hc⟩ := c
  by_cases h : c < 8
  · rw [dif_pos h]
    interval_cases c <;> rfl
  · rw [dif_neg h]
    have n : ∀ k : Fin 8, ¬ c = k.val := fun k => by omega
    rw [if_neg (n 7), if_neg (n 6), if_neg (n 5), if_neg (n 4), if_neg (n 3), if_neg (n 2), if_neg (n 1), if_neg (n 0)]
    rfl

/-- What the kernel writes of the normalisers. -/
theorem out8 (c : Fin 128) : out0_8 (F := Ideal) x0 x1 x2 x3 x4 x5 x6 (ix2 i c) =
   if h : c.val < 8 then
     if hi : i.val < 128 then (top (upperQ x0) (pairsK x1) (upperQ x2) (View.ld x5 r0_8) (ix3 ⟨c.val, h⟩ ⟨i.val, hi⟩ 0) + Ideal.log (den (upperQ x0) (pairsK x1) (upperQ x2) (View.ld x5 r0_8) (ix3 ⟨c.val, h⟩ ⟨i.val, hi⟩ 0)) : EReal)
     else (top (lowerQ x0) (upperQ x2) (lowerQ x2) (View.ld x6 r0_8) (ix3 ⟨c.val, h⟩ ⟨i.val - 128, by omega⟩ 0) + Ideal.log (den (lowerQ x0) (upperQ x2) (lowerQ x2) (View.ld x6 r0_8) (ix3 ⟨c.val, h⟩ ⟨i.val - 128, by omega⟩ 0)) : EReal)
   else 0 := by
  have eA : k0_pay94 (F := Ideal) x0 x1 x2 x3 x4 x5 x6 = top (upperQ x0) (pairsK x1) (upperQ x2) (View.ld x5 r0_8) := rfl
  have eA' : k0_pay95 (F := Ideal) x0 x1 x2 x3 x4 x5 x6 = den (upperQ x0) (pairsK x1) (upperQ x2) (View.ld x5 r0_8) := rfl
  have eB : k0_pay108 (F := Ideal) x0 x1 x2 x3 x4 x5 x6 = top (lowerQ x0) (upperQ x2) (lowerQ x2) (View.ld x6 r0_8) := rfl
  have eB' : k0_pay110 (F := Ideal) x0 x1 x2 x3 x4 x5 x6 = den (lowerQ x0) (upperQ x2) (lowerQ x2) (View.ld x6 r0_8) := rfl
  have same : ∀ m d : FVec Ideal S8x128x1 .f32, k0_pay1 (F := Ideal) (k0_pay88 m d) (iota .tc S128x128 32 [1] iota_S128x128_d1_w32) (k0_pay89 m d) k0_pay90 (k0_pay91 m d)
    = k0_pay49 (F := Ideal) (k0_pay45 m d) (iota .tc S128x128 32 [1] iota_S128x128_d1_w32) (k0_pay46 m d) k0_pay47 (k0_pay48 m d) := fun _ _ => rfl
  unfold out0_8
  rw [eA, eA', eB, eB', same]
  canon_tiles x hx
  all_goals
    have hi : i.val = _ := hx0
    have hq : c.val = _ := hx1
    have ex : x = ix2 ⟨(x 0).val, x0_lt⟩ c := by funext a; fin_cases a <;> [rfl; exact Fin.ext hq.symm]
    rw [ex, lanes]
    split
    · first
        | rw [dif_pos (by omega : i.val < 128)]
          have ei : (⟨(x 0).val, x0_lt⟩ : Fin 128) = ⟨i.val, by omega⟩ := Fin.ext (by show (x 0).val = i.val; omega)
          rw [ei]
        | rw [dif_neg (by omega : ¬ i.val < 128)]
          have ei : (⟨(x 0).val, x0_lt⟩ : Fin 128) = ⟨i.val - 128, by omega⟩ := Fin.ext (by show (x 0).val = i.val - 128; omega)
          rw [ei]
    · rfl
end
end Cert.AttnIdeal.Value
-- ==== Proof.AttnRow.lean ====
module

public import proofs.«01_k».proof.Proof.AttnOut

/-! # Band attention: a row

A query sees 256 keys: the 128 of the block before, and the 128 of its own block. -/

@[expose] public section

set_option maxRecDepth 16384
noncomputable section
open Idealize.ShloMosaic Idealize.ShloMosaic.TcCoe Idealize.SL.Sem
open Idealize.ShloMosaic.Pipeline (Dat)

namespace Cert.AttnIdeal.Value
open Cert.AttnIdeal.Gen

/-- The largest score of a row, the sum of the row's exponentials, the row's normaliser, and its weighted values. -/
def rowMax (s : Fin 256 → EReal) : EReal := Finset.univ.sup s
def rowSum (s : Fin 256 → EReal) : EReal := ∑ k, Ideal.exp (s k - rowMax s)
def normaliser (s : Fin 256 → EReal) : EReal := rowMax s + Ideal.log (rowSum s)
def attend (s v : Fin 256 → EReal) : EReal := ∑ k, Ideal.div (Ideal.exp (s k - rowMax s)) (rowSum s) * v k

/-- A scaled score with its bias. -/
def score (q k : Fin 64 → EReal) (b : EReal) : EReal := (∑ d, q d * k d) * Ideal.ofBits .f32 0x3E000000#32 + b

theorem two_sums (f : Fin 256 → EReal) : ∑ k, f k = (∑ k : Fin 128, f ⟨k.val, by omega⟩) + ∑ k : Fin 128, f ⟨128 + k.val, by omega⟩ :=
  Fin.sum_univ_add (a := 128) (b := 128) f

theorem two_sups (f : Fin 256 → EReal) :
    Finset.univ.sup f = max (Finset.univ.sup fun k : Fin 128 => f ⟨k.val, by omega⟩) (Finset.univ.sup fun k : Fin 128 => f ⟨128 + k.val, by omega⟩) := by
  refine le_antisymm (Finset.sup_le fun k _ => ?_) (max_le (Finset.sup_le fun k _ => Finset.le_sup (f := f) (Finset.mem_univ _)) (Finset.sup_le fun k _ => Finset.le_sup (f := f) (Finset.mem_univ _)))
  by_cases hk : k.val < 128
  · exact le_max_of_le_left (Finset.le_sup (f := fun k : Fin 128 => f ⟨k.val, by omega⟩) (Finset.mem_univ ⟨k.val, hk⟩))
  · have e : k = ⟨128 + (k.val - 128), by omega⟩ := Fin.ext (by show k.val = 128 + (k.val - 128); omega)
    rw [e]
    exact le_max_of_le_right (Finset.le_sup (f := fun k : Fin 128 => f ⟨128 + k.val, by omega⟩) (Finset.mem_univ ⟨k.val - 128, by omega⟩))

/-- Channel `d` of head `h` in its pair. -/
def chan (h : Fin 8) (d : Fin 64) : Fin 128 := ⟨64 * (h.val % 2) + d.val, by omega⟩

/-- A sum over the pair's channels with the other head's cleared. -/
theorem own_sum (h : Fin 8) (f : Fin 128 → EReal) : (∑ j : Fin 128, if own h j then f j else 0) = ∑ d : Fin 64, f (chan h d) := by
  refine (Fin.sum_univ_add (a := 64) (b := 64) _).trans ?_
  obtain hh | hh : h.val % 2 = 0 ∨ h.val % 2 = 1 := by omega
  · have e2 : ∀ d : Fin 64, ¬ own h (Fin.natAdd 64 d) := fun d ho => by have := ho.2 hh; simp at this
    have e1 : ∀ d : Fin 64, own h (Fin.castAdd 64 d) := fun d => ⟨fun _ => hh, fun _ => d.isLt⟩
    simp only [e1, e2, if_true, if_false, Finset.sum_const_zero, add_zero]
    exact Finset.sum_congr rfl fun d _ => congrArg f (Fin.ext (by show d.val = 64 * (h.val % 2) + d.val; omega))
  · have e2 : ∀ d : Fin 64, own h (Fin.natAdd 64 d) := fun d => ⟨fun ho => absurd ho (by simp), fun ho => by omega⟩
    have e1 : ∀ d : Fin 64, ¬ own h (Fin.castAdd 64 d) := fun d ho => by have := ho.1 d.isLt; omega
    simp only [e1, e2, if_true, if_false, Finset.sum_const_zero, zero_add]
    exact Finset.sum_congr rfl fun d _ => congrArg f (Fin.ext (by show 64 + d.val = 64 * (h.val % 2) + d.val; omega))

/-- The 256 rows of two blocks. -/
def both (A B : Fin 4 → Blk) (p : Fin 4) (k : Fin 256) (j : Fin 128) : EReal :=
  if hk : k.val < 128 then A p (ix2 ⟨k.val, hk⟩ j) else B p (ix2 ⟨k.val - 128, by omega⟩ j)

theorem both_before (A B : Fin 4 → Blk) (p : Fin 4) (k : Fin 128) (j : Fin 128) : both A B p ⟨k.val, by omega⟩ j = A p (ix2 k j) := dif_pos k.isLt

theorem both_own (A B : Fin 4 → Blk) (p : Fin 4) (k : Fin 128) (j : Fin 128) : both A B p ⟨128 + k.val, by omega⟩ j = B p (ix2 k j) :=
  (dif_neg (by show ¬ 128 + k.val < 128; omega)).trans (congrArg (fun x : Fin 128 => B p (ix2 x j)) (Fin.ext (by show 128 + k.val - 128 = k.val; omega)))

section
variable (Q K' K V' V : Fin 4 → Blk) (b : FVec Ideal S1x8x1x128x256 .f32) (h : Fin 8) (i : Fin 128)

/-- A row's 256 scores. -/
def scores (k : Fin 256) : EReal :=
  score (fun d => Q (pairOf h) (ix2 i (chan h d))) (fun d => both K' K (pairOf h) k (chan h d)) (b (ix5 0 h 0 i k))

theorem scores_before (k : Fin 128) : k0_pay15 (F := Ideal) (stackOwn Q) (stack K') b (ix3 h i k) = scores Q K' K b h i ⟨k.val, by omega⟩ := by
  rw [pay15]
  simp only [stackOwn_apply, stack_apply, ite_mul, zero_mul]
  rw [own_sum h fun j => Q (pairOf h) (ix2 i j) * K' (pairOf h) (ix2 k j)]
  simp only [scores, score, both_before]

theorem scores_own (k : Fin 128) : k0_pay16 (F := Ideal) (stackOwn Q) (K 0) (K 0) (K 1) (K 1) (K 2) (K 2) (K 3) (K 3) b (ix3 h i k)
    = scores Q K' K b h i ⟨128 + k.val, by omega⟩ := by
  rw [pay16]
  simp only [stackOwn_apply, stack_apply, ite_mul, zero_mul]
  rw [own_sum h fun j => Q (pairOf h) (ix2 i j) * K (pairOf h) (ix2 k j)]
  simp only [scores, score, both_own]

theorem top_eq : top Q K' K b (ix3 h i 0) = rowMax (scores Q K' K b h i) := by
  unfold top rowMax
  rw [pay17, two_sups]
  simp only [scores_before Q K' K, scores_own Q K' K]

theorem ePrev_eq (k : Fin 128) : ePrev Q K' K b (ix3 h i k) = Ideal.exp (scores Q K' K b h i ⟨k.val, by omega⟩ - rowMax (scores Q K' K b h i)) := by
  rw [← top_eq, ← scores_before Q K' K]
  exact pay18 _ _ _ _ _ _ _

theorem eCur_eq (k : Fin 128) : eCur Q K' K b (ix3 h i k) = Ideal.exp (scores Q K' K b h i ⟨128 + k.val, by omega⟩ - rowMax (scores Q K' K b h i)) := by
  rw [← top_eq, ← scores_own Q K' K]
  unfold eCur top
  pointwise [k0_pay19]

theorem den_eq : den Q K' K b (ix3 h i 0) = rowSum (scores Q K' K b h i) := by
  unfold den rowSum
  rw [pay20, two_sums]
  exact congrArg₂ (· + ·) (Finset.sum_congr rfl fun k _ => ePrev_eq Q K' K b h i k) (Finset.sum_congr rfl fun k _ => eCur_eq Q K' K b h i k)

theorem wPrev_eq (k : Fin 128) : wPrev Q K' K b (ix3 h i k)
    = Ideal.div (Ideal.exp (scores Q K' K b h i ⟨k.val, by omega⟩ - rowMax (scores Q K' K b h i))) (rowSum (scores Q K' K b h i)) := by
  rw [← den_eq, ← ePrev_eq]
  unfold wPrev den ePrev
  pointwise [k0_pay21]

theorem wCur_eq (k : Fin 128) : wCur Q K' K b (ix3 h i k)
    = Ideal.div (Ideal.exp (scores Q K' K b h i ⟨128 + k.val, by omega⟩ - rowMax (scores Q K' K b h i))) (rowSum (scores Q K' K b h i)) := by
  rw [← den_eq, ← eCur_eq]
  unfold wCur
  pointwise [k0_pay32]

theorem heads_apply (j : Fin 128) : heads Q K' K V' V b (ix3 h i j)
    = (∑ k : Fin 128, wPrev Q K' K b (ix3 h i k) * stackOwn V' (ix3 h k j)) + ∑ k : Fin 128, wCur Q K' K b (ix3 h i k) * stackOwn V (ix3 h k j) := by
  unfold heads
  pointwise

/-- A head's output in its own channels, and zero in the other head's. -/
theorem heads_eq (j : Fin 128) : heads Q K' K V' V b (ix3 h i j)
    = if own h j then attend (scores Q K' K b h i) (fun k => both V' V (pairOf h) k j) else 0 := by
  rw [heads_apply]
  simp only [stackOwn_apply]
  split
  · unfold attend
    rw [two_sums]
    simp only [both_before, both_own, wPrev_eq, wCur_eq]
  · simp

end

/-- Two heads side by side. -/
theorem sides_eq (Q K' K V' V : Fin 4 → Blk) (b : FVec Ideal S1x8x1x128x256 .f32) (p : Fin 4) (i j : Fin 128) :
    sides (heads Q K' K V' V b) p i j
      = attend (scores Q K' K b ⟨2 * p.val + j.val / 64, by omega⟩ i) (fun k => both V' V p k j) := by
  unfold sides
  rw [heads_eq, heads_eq]
  have e1 : pairOf ⟨2 * p.val, by omega⟩ = p := Fin.ext (by show 2 * p.val / 2 = p.val; omega)
  have e2 : pairOf ⟨2 * p.val + 1, by omega⟩ = p := Fin.ext (by show (2 * p.val + 1) / 2 = p.val; omega)
  rw [e1, e2]
  by_cases hj : j.val < 64
  · rw [if_pos ⟨fun _ => by show 2 * p.val % 2 = 0; omega, fun _ => hj⟩, if_neg (fun ho => by have : (2 * p.val + 1) % 2 = 0 := ho.1 hj; omega), add_zero]
    exact congrArg (fun x : Fin 8 => attend (scores Q K' K b x i) (fun k => both V' V p k j)) (Fin.ext (by show 2 * p.val = 2 * p.val + j.val / 64; omega))
  · rw [if_neg (fun ho => hj (ho.2 (by show 2 * p.val % 2 = 0; omega))), if_pos ⟨fun ho => absurd ho hj, fun (ho : (2 * p.val + 1) % 2 = 0) => by omega⟩, zero_add]
    exact congrArg (fun x : Fin 8 => attend (scores Q K' K b x i) (fun k => both V' V p k j)) (Fin.ext (by show 2 * p.val + 1 = 2 * p.val + j.val / 64; omega))

theorem idem_bot_mul (x : EReal) : (⊥ * x + ⊥ * x : EReal) = ⊥ * x := by
  obtain h | h | h := lt_trichotomy x 0
  · rw [EReal.bot_mul_of_neg h]; rfl
  · rw [h]; simp
  · rw [EReal.bot_mul_of_pos h]; rfl

theorem exp_nonneg (x : EReal) : 0 ≤ Ideal.exp x := by
  induction x with
  | bot => exact le_refl _
  | top => exact le_top
  | coe r => exact EReal.coe_nonneg.mpr (Real.exp_pos r).le

/-- Where the block before is masked out, its values do not matter: zeros there do as well as a copy of the block's own. -/
theorem attend_first (s v v' : Fin 256 → EReal) (hs : ∀ k : Fin 128, s ⟨k.val, by omega⟩ = ⊥)
    (hv : ∀ k : Fin 128, v ⟨128 + k.val, by omega⟩ = v' ⟨128 + k.val, by omega⟩) (hz : ∀ k : Fin 128, v' ⟨k.val, by omega⟩ = 0)
    (hc : ∀ k : Fin 128, v ⟨k.val, by omega⟩ = v ⟨128 + k.val, by omega⟩) : attend s v = attend s v' := by
  unfold attend
  rw [two_sums, two_sums (fun k => _ * v' k)]
  by_cases hZ : rowSum s = 0
  · have h0 : ∀ k, Ideal.exp (s k - rowMax s) = 0 := fun k =>
      (Finset.sum_eq_zero_iff_of_nonneg (fun k _ => exp_nonneg (s k - rowMax s))).1 hZ k (Finset.mem_univ k)
    have hd : Ideal.div (0 : EReal) 0 = ⊥ := by simp [Ideal.div]
    simp only [hZ, h0, hd, hz, hc, hv, mul_zero, Finset.sum_const_zero, zero_add]
    rw [← Finset.sum_add_distrib]
    exact Finset.sum_congr rfl fun k _ => idem_bot_mul _
  · have hd : Ideal.div (0 : EReal) (rowSum s) = 0 := by rw [Ideal.div, if_neg hZ, zero_mul]
    have hb : ∀ k : Fin 128, Ideal.exp (s ⟨k.val, by omega⟩ - rowMax s) = 0 := fun k => by
      rw [hs k, sub_eq_add_neg, EReal.bot_add, Ideal.exp_bot]
    simp only [hb, hd, hz, hv, zero_mul, Finset.sum_const_zero]

end Cert.AttnIdeal.Value
-- ==== Proof.AttnRef.lean ====
module

public import proofs.«01_k».proof.Proof.AttnRow
public import proofs.«01_k».proof.Proof.Gen.AttnRefIdeal.Read

/-! # Band attention: what the reference computes -/

@[expose] public section

set_option maxRecDepth 16384
noncomputable section
open Idealize.ShloMosaic Idealize.ShloMosaic.TcCoe Idealize.SL.Sem
open Idealize.ShloMosaic.Pipeline (Dat)

namespace Cert.AttnRefIdeal.Value
open Cert.AttnRefIdeal.Read
open Cert.AttnIdeal.Value (attend normaliser score rowMax rowSum)

/-- Row `i` of block `n`. -/
def row (n : Fin 32) (i : Fin 128) : Fin 4096 := ⟨128 * n.val + i.val, by omega⟩

/-- The row of key `k` of block `n`; the first block stands in for the one before it. -/
def keyRow (n : Fin 32) (k : Fin 256) : Fin 4096 := ⟨128 * (if k.val < 128 then n.val - 1 else n.val) + k.val % 128, by split <;> omega⟩

/-- Channel `d` of head `h`, of the queries, of the keys and of the values. -/
def chQ (h : Fin 8) (d : Fin 64) : Fin 1536 := ⟨64 * h.val + d.val, by omega⟩
def chK (h : Fin 8) (d : Fin 64) : Fin 1024 := ⟨64 * h.val + d.val, by omega⟩
def chV (h : Fin 8) (d : Fin 64) : Fin 1024 := ⟨512 + (64 * h.val + d.val), by omega⟩

/-- Key `k` is within 128 rows above query `i` of block `n`. -/
def seen (n : Fin 32) (i : Fin 128) (k : Fin 256) : Prop := (i.val ≤ k.val ∧ k.val ≤ i.val + 128) ∧ ¬ (n.val = 0 ∧ k.val < 128)
instance (n : Fin 32) (i : Fin 128) (k : Fin 256) : Decidable (seen n i k) := inferInstanceAs (Decidable (_ ∧ _))

section
variable (q : FVec Ideal S4096x1536 .bf16) (kv : FVec Ideal S4096x1024 .bf16) (b : FVec Ideal S3x8x128x256 .f32)

/-- The scores of a query. -/
def scoreAt (n : Fin 32) (i : Fin 128) (h : Fin 8) (k : Fin 256) : EReal :=
  if seen n i k then score (fun d => q (ix2 (row n i) (chQ h d))) (fun d => kv (ix2 (keyRow n k) (chK h d))) (b (ix4 0 h i k)) else ⊥

theorem queries (h : Fin 8) (n : Fin 32) (i : Fin 128) (d : Fin 64) :
    val_main_v12 (F := Ideal) q (ix4 h n i d) = q (ix2 (row n i) (chQ h d)) := by
  rw [val_main_v12_apply, val_main_v11_apply, val_main_v2_apply, val_main_v1_apply, val_main_v0_apply]
  refine congrArg q ?_
  funext a
  fin_cases a
  · refine Fin.ext ?_
    simp [row]
    omega
  · refine Fin.ext ?_
    simp [chQ]
    omega

theorem keys (h : Fin 8) (n : Fin 32) (i : Fin 128) (d : Fin 64) :
    val_main_v14 (F := Ideal) kv (ix4 h n i d) = kv (ix2 (row n i) (chK h d)) := by
  rw [val_main_v14_apply, val_main_v13_apply, val_main_v5_apply, val_main_v4_apply, val_main_v3_apply]
  refine congrArg kv ?_
  funext a
  fin_cases a
  · refine Fin.ext ?_
    simp [row]
    omega
  · refine Fin.ext ?_
    simp [chK]
    omega

theorem values (h : Fin 8) (n : Fin 32) (i : Fin 128) (d : Fin 64) :
    val_main_v20 (F := Ideal) kv (ix4 h n i d) = kv (ix2 (row n i) (chV h d)) := by
  rw [val_main_v20_apply, val_main_v19_apply, val_main_v8_apply, val_main_v7_apply, val_main_v6_apply]
  refine congrArg kv ?_
  funext a
  fin_cases a
  · refine Fin.ext ?_
    simp [row]
    omega
  · refine Fin.ext ?_
    simp [chV]
    omega

theorem zeroBits : FloatOps.ofBits (F := Ideal) .f32 0x00000000#32 = (0 : EReal) := Ideal.ofBits_zero _

theorem keys_band (h : Fin 8) (n : Fin 32) (k : Fin 256) (d : Fin 64) :
    val_main_v18 (F := Ideal) kv (ix4 h n k d) = if n.val = 0 ∧ k.val < 128 then 0 else kv (ix2 (keyRow n k) (chK h d)) := by
  unfold val_main_v18 val_main_v17
  pointwise
  by_cases hk : k.val < 128
  · rw [dif_pos hk]
    by_cases hn : n.val < 1
    · rw [dif_pos hn, if_pos ⟨by omega, hk⟩, val_main_v15_apply, val_main_cst_apply]
      exact zeroBits
    · rw [dif_neg hn]
      refine Eq.trans ?_ (if_neg (fun h0 => hn (by omega))).symm
      refine Eq.trans (b := val_main_v14 (F := Ideal) kv (ix4 h ⟨n.val - 1, by omega⟩ ⟨k.val, hk⟩ d)) ?_ ((keys kv h ⟨n.val - 1, by omega⟩ ⟨k.val, hk⟩ d).trans ?_)
      · rw [val_main_v16_apply]
        exact congrArg (val_main_v14 (F := Ideal) kv) (by funext a; fin_cases a <;> rfl)
      · exact congrArg (fun x : Fin 4096 => kv (ix2 x (chK h d))) (Fin.ext (by show 128 * (n.val - 1) + k.val = 128 * (if k.val < 128 then n.val - 1 else n.val) + k.val % 128; rw [if_pos hk]; omega))
  · rw [dif_neg hk]
    refine Eq.trans ?_ (if_neg (fun hn => hk hn.2)).symm
    refine (keys kv h n ⟨k.val - 128, by omega⟩ d).trans ?_
    exact congrArg (fun x : Fin 4096 => kv (ix2 x (chK h d))) (Fin.ext (by show 128 * n.val + (k.val - 128) = 128 * (if k.val < 128 then n.val - 1 else n.val) + k.val % 128; rw [if_neg hk]; omega))

theorem values_band (h : Fin 8) (n : Fin 32) (k : Fin 256) (d : Fin 64) :
    val_main_v24 (F := Ideal) kv (ix4 h n k d) = if n.val = 0 ∧ k.val < 128 then 0 else kv (ix2 (keyRow n k) (chV h d)) := by
  unfold val_main_v24 val_main_v23
  pointwise
  by_cases hk : k.val < 128
  · rw [dif_pos hk]
    by_cases hn : n.val < 1
    · rw [dif_pos hn, if_pos ⟨by omega, hk⟩, val_main_v21_apply, val_main_cst_0_apply]
      exact zeroBits
    · rw [dif_neg hn]
      refine Eq.trans ?_ (if_neg (fun h0 => hn (by omega))).symm
      refine Eq.trans (b := val_main_v20 (F := Ideal) kv (ix4 h ⟨n.val - 1, by omega⟩ ⟨k.val, hk⟩ d)) ?_ ((values kv h ⟨n.val - 1, by omega⟩ ⟨k.val, hk⟩ d).trans ?_)
      · rw [val_main_v22_apply]
        exact congrArg (val_main_v20 (F := Ideal) kv) (by funext a; fin_cases a <;> rfl)
      · exact congrArg (fun x : Fin 4096 => kv (ix2 x (chV h d))) (Fin.ext (by show 128 * (n.val - 1) + k.val = 128 * (if k.val < 128 then n.val - 1 else n.val) + k.val % 128; rw [if_pos hk]; omega))
  · rw [dif_neg hk]
    refine Eq.trans ?_ (if_neg (fun hn => hk hn.2)).symm
    refine (values kv h n ⟨k.val - 128, by omega⟩ d).trans ?_
    exact congrArg (fun x : Fin 4096 => kv (ix2 x (chV h d))) (Fin.ext (by show 128 * n.val + (k.val - 128) = 128 * (if k.val < 128 then n.val - 1 else n.val) + k.val % 128; rw [if_neg hk]; omega))

/-- The difference of a query's and a key's position. -/
theorem delta (i : Fin 128) (k : Fin 256) :
    (IntOp.subi (IntOp.addi (BitVec.ofNat 32 i.val) 128#32) (BitVec.ofNat 32 k.val)).toInt = (i.val : ℤ) + 128 - k.val := by
  show (BitVec.ofNat 32 i.val + 128#32 - BitVec.ofNat 32 k.val).toInt = _
  have := i.isLt
  have := k.isLt
  rw [BitVec.toInt_eq_toNat_cond, BitVec.toNat_sub, BitVec.toNat_add, BitVec.toNat_ofNat, BitVec.toNat_ofNat, BitVec.toNat_ofNat]
  split <;> omega

/-- The band, as it is computed. -/
theorem band (i : Fin 128) (k : Fin 256) :
    IntOp.andi (IntOp.cmpi .sge (IntOp.subi (IntOp.addi (BitVec.ofNat 32 i.val) 128#32) (BitVec.ofNat 32 k.val)) 0#32)
      (IntOp.cmpi .sle (IntOp.subi (IntOp.addi (BitVec.ofNat 32 i.val) 128#32) (BitVec.ofNat 32 k.val)) 128#32)
      = BitVec.ofBool (decide (i.val ≤ k.val ∧ k.val ≤ i.val + 128)) := by
  rw [WordCmp.cmpi_sge_eq, WordCmp.cmpi_sle_eq, delta, WordCmp.andi_ofBool]
  refine congrArg BitVec.ofBool ?_
  rw [Bool.eq_iff_iff, Bool.and_eq_true, decide_eq_true_iff, decide_eq_true_iff, decide_eq_true_iff,
    show (0#32 : BitVec 32).toInt = 0 from rfl, show (128#32 : BitVec 32).toInt = 128 from rfl]
  omega

theorem mask (h : Fin 8) (n : Fin 32) (i : Fin 128) (k : Fin 256) :
    val_main_call0_v1 (F := Ideal) (ix4 h n i k) = BitVec.ofBool (decide (seen n i k)) := by
  rw [val_main_call0_v1_apply, val_main_v60_apply, val_main_v58_apply, val_main_v59_apply, val_main_v57_apply, val_main_v56_apply,
    val_main_v55_apply, val_main_v54_apply, val_main_v53_apply, val_main_v52_apply, val_main_v48_apply, val_main_v44_apply, val_main_v43_apply,
    val_main_v41_apply, val_main_v39_apply]
  simp only [val_main_v50_apply, val_main_v51_apply, val_main_v46_apply, val_main_v47_apply, val_main_v42_apply, val_main_v40_apply, val_main_v38_apply,
    val_main_v37_apply, val_main_v36_apply, val_main_v35_apply, val_main_v34_apply, val_main_v32_apply, val_main_v49_apply, val_main_v45_apply, val_main_v33_apply, val_main_v31_apply,
    val_main_c_apply, val_main_c_2_apply, val_main_c_3_apply, val_main_c_4_apply, val_main_c_5_apply]
  refine (congrArg₂ IntOp.andi (band i k) (congrArg (fun x : BitVec 1 => ~~~x) (congrArg₂ IntOp.andi
    (WordCmp.cmpi_eq_ofNat (w := 32) (a := n.val) (b := 0) (by omega) (by omega)) (WordCmp.cmpi_slt_ofNat (w := 32) (a := k.val) (b := 128) (by omega) (by omega))))).trans ?_
  unfold seen
  by_cases h1 : i.val ≤ k.val ∧ k.val ≤ i.val + 128 <;> by_cases h2 : n.val = 0 <;> by_cases h3 : k.val < 128 <;> simp [h1, h2, h3, IntOp.andi]

/-- The masked scores. -/
theorem scores (h : Fin 8) (n : Fin 32) (i : Fin 128) (k : Fin 256) :
    val_main_v61 (F := Ideal) q kv b (ix4 h n i k) = scoreAt q kv b n i h k := by
  rw [val_main_v61_apply, mask, WordCmp.select_ofBool]
  unfold scoreAt
  by_cases hs : seen n i k
  · rw [if_pos hs, if_pos (decide_eq_true hs), val_main_v30_apply, val_main_v27_apply, val_main_v25_apply, val_main_v26_apply, val_main_v29_apply,
      val_main_v28_apply, val_main_v10_apply, val_main_v9_apply, val_main_cst_1_apply]
    unfold score
    refine congrArg₂ (fun x y : EReal => x * Ideal.ofBits .f32 0x3E000000#32 + y) (Finset.sum_congr rfl fun d _ => ?_) ?_
    · refine congrArg₂ (fun x y : EReal => x * y) ((congrArg (val_main_v12 (F := Ideal) q) ?_).trans (queries q h n i d))
        ((congrArg (val_main_v18 (F := Ideal) kv) ?_).trans ((keys_band kv h n k d).trans (if_neg hs.2)))
      · funext a; fin_cases a <;> rfl
      · funext a; fin_cases a <;> rfl
    · refine congrArg b ?_
      funext a
      fin_cases a <;> refine Fin.ext ?_ <;> simp <;> omega
  · rw [if_neg hs, if_neg (by simpa using hs), val_main_call0_v2_apply]
    show Ideal.ofBits .f32 0xFF800000#32 = ⊥
    simp [Ideal.ofBits, Ideal.ieee]

theorem largest (h : Fin 8) (n : Fin 32) (i : Fin 128) :
    val_main_v62 (F := Ideal) q kv b (ix3 h n i) = rowMax (scoreAt q kv b n i h) := by
  unfold val_main_v62
  pointwise
  rw [show (fun x => val_main_v61 (F := Ideal) q kv b (ix4 h n i x)) = scoreAt q kv b n i h from funext fun k => scores q kv b h n i k,
    show val_main_cst_7 (F := Ideal) (Shape.Idx.first Gen.h_S_) = (⊥ : EReal) from by
      show Ideal.ofBits .f32 0xFF800000#32 = ⊥
      simp [Ideal.ofBits, Ideal.ieee]]
  rfl

theorem largest' (j : S8x32x128x1.Idx) : val_main_v63 (F := Ideal) q kv b j = rowMax (scoreAt q kv b (j 1) (j 2) (j 0)) := by
  rw [val_main_v63_apply]
  exact (congrArg (val_main_v62 (F := Ideal) q kv b) (by funext a; fin_cases a <;> rfl)).trans (largest q kv b (j 0) (j 1) (j 2))

theorem exps (h : Fin 8) (n : Fin 32) (i : Fin 128) (k : Fin 256) :
    val_main_v66 (F := Ideal) q kv b (ix4 h n i k) = Ideal.exp (scoreAt q kv b n i h k - rowMax (scoreAt q kv b n i h)) := by
  rw [val_main_v66_apply, val_main_v65_apply, scores, val_main_v64_apply, largest']
  rfl

theorem total (j : S8x32x128x1.Idx) : val_main_v68 (F := Ideal) q kv b j = rowSum (scoreAt q kv b (j 1) (j 2) (j 0)) := by
  rw [val_main_v68_apply, val_main_v67_apply, val_main_cst_8_apply]
  refine (congrArg (· + _) zeroBits).trans ((zero_add _).trans (Finset.sum_congr rfl fun k _ => ?_))
  exact (congrArg (val_main_v66 (F := Ideal) q kv b) (by funext a; fin_cases a <;> rfl)).trans (exps q kv b (j 0) (j 1) (j 2) k)

theorem weighted (h : Fin 8) (n : Fin 32) (i : Fin 128) (d : Fin 64) :
    val_main_v71 (F := Ideal) q kv b (ix4 h n i d)
      = attend (scoreAt q kv b n i h) (fun k => if n.val = 0 ∧ k.val < 128 then 0 else kv (ix2 (keyRow n k) (chV h d))) := by
  rw [val_main_v71_apply]
  unfold attend
  refine Finset.sum_congr rfl fun k _ => congrArg₂ (fun x y : EReal => x * y) ?_ ?_
  · rw [val_main_v70_apply, val_main_v69_apply, total]
    exact congrArg (fun x : EReal => Ideal.div x (rowSum (scoreAt q kv b n i h)))
      ((congrArg (val_main_v66 (F := Ideal) q kv b) (by funext a; fin_cases a <;> rfl)).trans (exps q kv b h n i k))
  · exact (congrArg (val_main_v24 (F := Ideal) kv) (by funext a; fin_cases a <;> rfl)).trans (values_band kv h n k d)

/-- The block of a row, its place there, and the head and channel of a column. -/
def blockOf (g : Fin 4096) : Fin 32 := ⟨g.val / 128, by omega⟩
def placeOf (g : Fin 4096) : Fin 128 := ⟨g.val % 128, by omega⟩
def headOf (c : Fin 512) : Fin 8 := ⟨c.val / 64, by omega⟩
def chanOf (c : Fin 512) : Fin 64 := ⟨c.val % 64, by omega⟩

/-- The reference's attention. -/
theorem ref_out (g : Fin 4096) (c : Fin 512) : val_main_v76 (F := Ideal) q kv b (ix2 g c)
    = attend (scoreAt q kv b (blockOf g) (placeOf g) (headOf c))
        (fun k => if (blockOf g).val = 0 ∧ k.val < 128 then 0 else kv (ix2 (keyRow (blockOf g) k) (chV (headOf c) (chanOf c)))) := by
  rw [val_main_v76_apply, val_main_v75_apply]
  refine (congrArg (val_main_v71 (F := Ideal) q kv b) ?_).trans (weighted q kv b (headOf c) (blockOf g) (placeOf g) (chanOf c))
  funext a
  fin_cases a <;> refine Fin.ext ?_ <;> simp [blockOf, placeOf, headOf, chanOf] <;> omega

/-- The reference's normalisers. -/
theorem ref_lse (g : Fin 4096) (c : Fin 128) : val_main_v80 (F := Ideal) q kv b (ix2 g c)
    = if h : c.val < 8 then normaliser (scoreAt q kv b (blockOf g) (placeOf g) ⟨c.val, h⟩) else 0 := by
  unfold val_main_v80
  pointwise
  by_cases h : c.val < 8
  · rw [dif_pos h, dif_pos h, val_main_v78_apply, val_main_v77_apply, val_main_v74_apply, val_main_v73_apply, val_main_v72_apply, largest', total]
    unfold normaliser
    refine congrArg (fun s => rowMax s + Ideal.log (rowSum s)) ?_
    have hn : ∀ (n n' : Fin 32) (i i' : Fin 128) (h h' : Fin 8), n = n' → i = i' → h = h' → scoreAt q kv b n i h = scoreAt q kv b n' i' h' := by
      rintro _ _ _ _ _ _ rfl rfl rfl; rfl
    refine hn _ _ _ _ _ _ (Fin.ext ?_) (Fin.ext ?_) (Fin.ext ?_) <;> simp [blockOf, placeOf] <;> omega
  · rw [dif_neg h, dif_neg h, val_main_v79_apply, val_main_cst_9_apply]
    exact zeroBits
end
end Cert.AttnRefIdeal.Value
-- ==== Proof.AttnValue.lean ====
module

public import proofs.«01_k».proof.Defs
public import proofs.«01_k».proof.Proof.AttnRef
public import proofs.«01_k».proof.Proof.Gen.AttnRefIdeal.Run
public import Idealize.ShloMosaic.Lib.Claim

/-! # Band attention of the forward pass

The two results are put together from blocks of 256 rows. -/

@[expose] public section

set_option maxRecDepth 16384
noncomputable section
open Idealize.ShloMosaic Idealize.ShloMosaic.TcCoe Idealize.SL.Sem
open Idealize.ShloMosaic.Pipeline (Dat)

namespace Cert.AttnIdeal.Value
open Cert.AttnIdeal.Gen
open Cert.AttnRefIdeal.Value (row keyRow chQ chK chV seen scoreAt blockOf placeOf headOf chanOf)

/-- The block each window reads or writes at a grid point. -/
theorem idx : ∀ t : Fin cfg0.N, win0_0.index t = ![t.val, 0] ∧ win0_1.index t = ![2 * t.val - 1, 0] ∧ win0_2.index t = ![t.val, 0]
    ∧ win0_3.index t = ![2 * t.val - 1, 1] ∧ win0_4.index t = ![t.val, 1] ∧ win0_5.index t = ![0, 0, if t.val = 0 then 1 else 0, 0, 0]
    ∧ win0_6.index t = ![0, 0, 0, 0, 0] ∧ win0_7.index t = ![t.val, 0] ∧ win0_8.index t = ![t.val, 0] :=
  (by decide +kernel : ∀ t : Fin grid0.N, _)

variable (m : (ℓ : Loc nD τ sig) → Buf (Elt Ideal) ℓ)

/-- The bias with the scores outside the band masked out; its second variant masks the block before as well. -/
def masked (b : FVec Ideal S3x8x128x256 .f32) (h : Fin 8) (v : Fin 2) (i : Fin 128) (k : Fin 256) : EReal :=
  if (i.val ≤ k.val ∧ k.val ≤ i.val + 128) ∧ ¬ (v.val = 1 ∧ k.val < 128) then b (ix4 0 h i k) else ⊥

theorem V_v22 (c : Dev nD) (h : Fin 8) (v : Fin 2) (i : Fin 128) (k : Fin 256) :
    V m c main_v22 (ix5 0 h v i k) = masked (m ((c : Thread nD τ).loc main_arg2)) h v i k := by
  unfold V
  simp only [hostOps0, hostOps0_1, hostOps0_2, hostOps0_3, hostOps0_4, List.flatten_cons, List.flatten_nil, List.append_nil, List.cons_append,
    List.nil_append]
  entry_read
  simp only [StableHlo.TRef.ofBuf_toBuf]
  simp only [StableHlo.TRef.ofBuf, StableHlo.TRef.toBuf, cast_eq]
  pointwise
  rw [Cert.AttnRefIdeal.Value.band, WordCmp.cmpi_slt_ofNat (w := 32) (a := k.val) (b := 128) (by omega) (by omega), WordCmp.select_ofBool,
    WordCmp.select_ofBool, show Ideal.ofBits .f32 4286578688#32 = (⊥ : EReal) from by simp [Ideal.ofBits, Ideal.ieee]]
  unfold masked
  by_cases hv : v.val = 1 <;> by_cases hk : k.val < 128 <;> by_cases hb : i.val ≤ k.val ∧ k.val ≤ i.val + 128 <;>
    simp [hv, hk, hb, show v.val < 1 ↔ ¬ v.val = 1 by omega] <;> rfl

/-! ## The blocks, entry by entry -/

theorem upper_at (x : Vec Ideal S256x512 .bf16) (p : Fin 4) (i j : Fin 128) :
    upperQ x p (ix2 i j) = x (ix2 ⟨i.val, by omega⟩ ⟨128 * p.val + j.val, by omega⟩) := by
  unfold upperQ
  fin_cases p <;> pointwise

theorem lower_at (x : Vec Ideal S256x512 .bf16) (p : Fin 4) (i j : Fin 128) :
    lowerQ x p (ix2 i j) = x (ix2 ⟨128 + i.val, by omega⟩ ⟨128 * p.val + j.val, by omega⟩) := by
  unfold lowerQ
  fin_cases p <;> pointwise

theorem pairs_at (x : Vec Ideal S128x512 .bf16) (p : Fin 4) (i j : Fin 128) :
    pairsK x p (ix2 i j) = x (ix2 i ⟨128 * p.val + j.val, by omega⟩) := by
  unfold pairsK
  fin_cases p <;> pointwise

theorem bias_at5 (x : Vec Ideal S1x8x1x128x256 .f32) (h : Fin 8) (i : Fin 128) (k : Fin 256) : View.ld x r0_8 (ix5 0 h 0 i k) = x (ix5 0 h 0 i k) := by
  pointwise

section
variable (c : Dev nD) (t : Fin cfg0.N)

theorem blk0 (r : Fin 256) (s : Fin 512) : (iblk m c 0 t) (ix2 r s)
    = m ((c : Thread nD τ).loc main_arg0) (ix2 ⟨256 * t.val + r.val, by have := lt_of_lt_of_eq t.isLt N_0; omega⟩ ⟨s.val, by omega⟩) := by
  refine Eq.trans (b := V m c main_arg0 _) ?_ (congrFun (V_main_arg0 m c) _)
  blk_point [iblk, idx t]

theorem blk1 (r : Fin 128) (s : Fin 512) : (iblk m c 1 t) (ix2 r s)
    = m ((c : Thread nD τ).loc main_arg1) (ix2 ⟨128 * (2 * t.val - 1) + r.val, by have := lt_of_lt_of_eq t.isLt N_0; omega⟩ ⟨s.val, by omega⟩) := by
  refine Eq.trans (b := V m c main_arg1 _) ?_ (congrFun (V_main_arg1 m c) _)
  blk_point [iblk, idx t]

theorem blk2 (r : Fin 256) (s : Fin 512) : (iblk m c 2 t) (ix2 r s)
    = m ((c : Thread nD τ).loc main_arg1) (ix2 ⟨256 * t.val + r.val, by have := lt_of_lt_of_eq t.isLt N_0; omega⟩ ⟨s.val, by omega⟩) := by
  refine Eq.trans (b := V m c main_arg1 _) ?_ (congrFun (V_main_arg1 m c) _)
  blk_point [iblk, idx t]

theorem blk3 (r : Fin 128) (s : Fin 512) : (iblk m c 3 t) (ix2 r s)
    = m ((c : Thread nD τ).loc main_arg1) (ix2 ⟨128 * (2 * t.val - 1) + r.val, by have := lt_of_lt_of_eq t.isLt N_0; omega⟩ ⟨512 + s.val, by omega⟩) := by
  refine Eq.trans (b := V m c main_arg1 _) ?_ (congrFun (V_main_arg1 m c) _)
  blk_point [iblk, idx t]

theorem blk4 (r : Fin 256) (s : Fin 512) : (iblk m c 4 t) (ix2 r s)
    = m ((c : Thread nD τ).loc main_arg1) (ix2 ⟨256 * t.val + r.val, by have := lt_of_lt_of_eq t.isLt N_0; omega⟩ ⟨512 + s.val, by omega⟩) := by
  refine Eq.trans (b := V m c main_arg1 _) ?_ (congrFun (V_main_arg1 m c) _)
  blk_point [iblk, idx t]

theorem blk5 (h : Fin 8) (i : Fin 128) (k : Fin 256) : (iblk m c 5 t) (ix5 0 h 0 i k)
    = masked (m ((c : Thread nD τ).loc main_arg2)) h (if t.val = 0 then 1 else 0) i k := by
  refine Eq.trans (b := V m c main_v22 (ix5 0 h (if t.val = 0 then 1 else 0) i k)) ?_ (V_v22 m c h _ i k)
  blk_point [iblk, idx t]
  split <;> rfl

theorem blk6 (h : Fin 8) (i : Fin 128) (k : Fin 256) : (iblk m c 6 t) (ix5 0 h 0 i k)
    = masked (m ((c : Thread nD τ).loc main_arg2)) h 0 i k := by
  refine Eq.trans (b := V m c main_v22 (ix5 0 h 0 i k)) ?_ (V_v22 m c h _ i k)
  blk_point [iblk, idx t]

end

/-! ## One block of queries -/

/-- The keys or values of two neighbouring blocks are those of the band. -/
theorem both_rows {A B : Fin 4 → Blk} {kv : FVec Ideal S4096x1024 .bf16} {n : Fin 32} {f : Fin 4 → Fin 128 → Fin 1024}
    (hA : ∀ p k j, A p (ix2 k j) = kv (ix2 ⟨128 * (n.val - 1) + k.val, by omega⟩ (f p j)))
    (hB : ∀ p k j, B p (ix2 k j) = kv (ix2 ⟨128 * n.val + k.val, by omega⟩ (f p j))) (p : Fin 4) (k : Fin 256) (j : Fin 128) :
    both A B p k j = kv (ix2 (keyRow n k) (f p j)) := by
  unfold both keyRow
  split
  · rw [hA]
    refine congrArg (fun x : Fin 4096 => kv (ix2 x (f p j))) (Fin.ext ?_)
    show 128 * (n.val - 1) + k.val = 128 * (n.val - 1) + k.val % 128
    omega
  · rw [hB]
    refine congrArg (fun x : Fin 4096 => kv (ix2 x (f p j))) (Fin.ext ?_)
    show 128 * n.val + (k.val - 128) = 128 * n.val + k.val % 128
    omega

/-- Channel `j` of pair `p`, of the queries, of the keys and of the values. -/
def pq (p : Fin 4) (j : Fin 128) : Fin 1536 := ⟨128 * p.val + j.val, by omega⟩
def pk (p : Fin 4) (j : Fin 128) : Fin 1024 := ⟨128 * p.val + j.val, by omega⟩
def pv (p : Fin 4) (j : Fin 128) : Fin 1024 := ⟨512 + (128 * p.val + j.val), by omega⟩

section
variable {Q K' K V' W : Fin 4 → Blk} {b : FVec Ideal S1x8x1x128x256 .f32} {q : FVec Ideal S4096x1536 .bf16} {kv : FVec Ideal S4096x1024 .bf16}
  {bias : FVec Ideal S3x8x128x256 .f32} {n : Fin 32}
  (hQ : ∀ p i j, Q p (ix2 i j) = q (ix2 (row n i) (pq p j)))
  (hK : ∀ p k j, both K' K p k j = kv (ix2 (keyRow n k) (pk p j)))
  (hb : ∀ h i k, b (ix5 0 h 0 i k) = if seen n i k then bias (ix4 0 h i k) else ⊥)
  (hV : ∀ p k j, both V' W p k j = kv (ix2 (keyRow n k) (pv p j)))
include hQ hK hb

theorem scores_at (h : Fin 8) (i : Fin 128) : scores Q K' K b h i = scoreAt q kv bias n i h := by
  funext k
  have ec : ∀ d : Fin 64, pq (pairOf h) (chan h d) = chQ h d := fun d => Fin.ext (by show 128 * (h.val / 2) + (64 * (h.val % 2) + d.val) = 64 * h.val + d.val; omega)
  have ek : ∀ d : Fin 64, pk (pairOf h) (chan h d) = chK h d := fun d => Fin.ext (by show 128 * (h.val / 2) + (64 * (h.val % 2) + d.val) = 64 * h.val + d.val; omega)
  unfold scores scoreAt
  simp only [hQ, hK, hb, ec, ek]
  split
  · rfl
  · unfold score
    exact EReal.add_bot _

include hV

theorem heads_at (p : Fin 4) (i j : Fin 128) : sides (heads Q K' K V' W b) p i j
    = attend (scoreAt q kv bias n i ⟨2 * p.val + j.val / 64, by omega⟩)
      (fun k => if n.val = 0 ∧ k.val < 128 then 0 else kv (ix2 (keyRow n k) (chV ⟨2 * p.val + j.val / 64, by omega⟩ ⟨j.val % 64, by omega⟩))) := by
  have ev : pv p j = chV ⟨2 * p.val + j.val / 64, by omega⟩ ⟨j.val % 64, by omega⟩ :=
    Fin.ext (by show 512 + (128 * p.val + j.val) = 512 + (64 * (2 * p.val + j.val / 64) + j.val % 64); omega)
  rw [sides_eq, scores_at hQ hK hb]
  simp only [hV, ev]
  by_cases hn : n.val = 0
  · refine attend_first _ _ _ (fun k => ?_) (fun k => ?_) (fun k => ?_) (fun k => ?_)
    · exact if_neg fun hs => hs.2 ⟨hn, k.isLt⟩
    · exact (if_neg fun hs => by have : 128 + k.val < 128 := hs.2; omega).symm
    · exact if_pos ⟨hn, k.isLt⟩
    · refine congrArg (fun x : Fin 4096 => kv (ix2 x _)) (Fin.ext ?_)
      show 128 * (if k.val < 128 then n.val - 1 else n.val) + k.val % 128 = 128 * (if 128 + k.val < 128 then n.val - 1 else n.val) + (128 + k.val) % 128
      rw [hn]
      simp
  · exact congrArg _ (funext fun k => (if_neg fun hs => hn hs.1).symm)

end

/-! ## The two blocks of a grid point -/

/-- The attention at query `i` of block `n`, in channel `d` of head `h`, and what it keeps for the backward pass. -/
def outAt (q : FVec Ideal S4096x1536 .bf16) (kv : FVec Ideal S4096x1024 .bf16) (b : FVec Ideal S3x8x128x256 .f32) (n : Fin 32) (i : Fin 128)
    (h : Fin 8) (d : Fin 64) : EReal :=
  attend (scoreAt q kv b n i h) (fun k => if n.val = 0 ∧ k.val < 128 then 0 else kv (ix2 (keyRow n k) (chV h d)))
def lseAt (q : FVec Ideal S4096x1536 .bf16) (kv : FVec Ideal S4096x1024 .bf16) (b : FVec Ideal S3x8x128x256 .f32) (n : Fin 32) (i : Fin 128)
    (e : Fin 128) : EReal :=
  if h : e.val < 8 then normaliser (scoreAt q kv b n i ⟨e.val, h⟩) else 0

section
variable (c : Dev nD) (t : Fin cfg0.N)

def bl0 : Fin 32 := ⟨2 * t.val, by have := lt_of_lt_of_eq t.isLt N_0; omega⟩
def bl1 : Fin 32 := ⟨2 * t.val + 1, by have := lt_of_lt_of_eq t.isLt N_0; omega⟩

theorem q_upper (p : Fin 4) (i j : Fin 128) : upperQ (iblk m c 0 t) p (ix2 i j) = m ((c : Thread nD τ).loc main_arg0) (ix2 (row (bl0 t) i) (pq p j)) := by
  refine (upper_at _ p i j).trans ((blk0 m c t _ _).trans ?_)
  exact congrArg₂ (fun x y => m ((c : Thread nD τ).loc main_arg0) (ix2 x y)) (Fin.ext (by simp only [row, bl0]; omega)) (Fin.ext rfl)

theorem q_lower (p : Fin 4) (i j : Fin 128) : lowerQ (iblk m c 0 t) p (ix2 i j) = m ((c : Thread nD τ).loc main_arg0) (ix2 (row (bl1 t) i) (pq p j)) := by
  refine (lower_at _ p i j).trans ((blk0 m c t _ _).trans ?_)
  exact congrArg₂ (fun x y => m ((c : Thread nD τ).loc main_arg0) (ix2 x y)) (Fin.ext (by simp only [row, bl1]; omega)) (Fin.ext rfl)

theorem k_first (p : Fin 4) (k : Fin 256) (j : Fin 128) : both (pairsK (iblk m c 1 t)) (upperQ (iblk m c 2 t)) p k j
    = m ((c : Thread nD τ).loc main_arg1) (ix2 (keyRow (bl0 t) k) (pk p j)) := by
  refine both_rows (kv := m ((c : Thread nD τ).loc main_arg1)) (f := pk) (fun p k j => ?_) (fun p k j => ?_) p k j
  · exact (pairs_at _ p k j).trans (blk1 m c t _ _)
  · refine (upper_at _ p k j).trans ((blk2 m c t _ _).trans ?_)
    exact congrArg₂ (fun x y => m ((c : Thread nD τ).loc main_arg1) (ix2 x y)) (Fin.ext (by simp only [bl0]; omega)) (Fin.ext rfl)

theorem v_first (p : Fin 4) (k : Fin 256) (j : Fin 128) : both (pairsK (iblk m c 3 t)) (upperQ (iblk m c 4 t)) p k j
    = m ((c : Thread nD τ).loc main_arg1) (ix2 (keyRow (bl0 t) k) (pv p j)) := by
  refine both_rows (kv := m ((c : Thread nD τ).loc main_arg1)) (f := pv) (fun p k j => ?_) (fun p k j => ?_) p k j
  · exact (pairs_at _ p k j).trans (blk3 m c t _ _)
  · refine (upper_at _ p k j).trans ((blk4 m c t _ _).trans ?_)
    exact congrArg₂ (fun x y => m ((c : Thread nD τ).loc main_arg1) (ix2 x y)) (Fin.ext (by simp only [bl0]; omega)) (Fin.ext rfl)

theorem k_second (p : Fin 4) (k : Fin 256) (j : Fin 128) : both (upperQ (iblk m c 2 t)) (lowerQ (iblk m c 2 t)) p k j
    = m ((c : Thread nD τ).loc main_arg1) (ix2 (keyRow (bl1 t) k) (pk p j)) := by
  refine both_rows (kv := m ((c : Thread nD τ).loc main_arg1)) (f := pk) (fun p k j => ?_) (fun p k j => ?_) p k j
  · refine (upper_at _ p k j).trans ((blk2 m c t _ _).trans ?_)
    exact congrArg₂ (fun x y => m ((c : Thread nD τ).loc main_arg1) (ix2 x y)) (Fin.ext (by simp only [bl1]; omega)) (Fin.ext rfl)
  · refine (lower_at _ p k j).trans ((blk2 m c t _ _).trans ?_)
    exact congrArg₂ (fun x y => m ((c : Thread nD τ).loc main_arg1) (ix2 x y)) (Fin.ext (by simp only [bl1]; omega)) (Fin.ext rfl)

theorem v_second (p : Fin 4) (k : Fin 256) (j : Fin 128) : both (upperQ (iblk m c 4 t)) (lowerQ (iblk m c 4 t)) p k j
    = m ((c : Thread nD τ).loc main_arg1) (ix2 (keyRow (bl1 t) k) (pv p j)) := by
  refine both_rows (kv := m ((c : Thread nD τ).loc main_arg1)) (f := pv) (fun p k j => ?_) (fun p k j => ?_) p k j
  · refine (upper_at _ p k j).trans ((blk4 m c t _ _).trans ?_)
    exact congrArg₂ (fun x y => m ((c : Thread nD τ).loc main_arg1) (ix2 x y)) (Fin.ext (by simp only [bl1]; omega)) (Fin.ext rfl)
  · refine (lower_at _ p k j).trans ((blk4 m c t _ _).trans ?_)
    exact congrArg₂ (fun x y => m ((c : Thread nD τ).loc main_arg1) (ix2 x y)) (Fin.ext (by simp only [bl1]; omega)) (Fin.ext rfl)

theorem b_first (h : Fin 8) (i : Fin 128) (k : Fin 256) : View.ld (iblk m c 5 t) r0_8 (ix5 0 h 0 i k)
    = if seen (bl0 t) i k then m ((c : Thread nD τ).loc main_arg2) (ix4 0 h i k) else (⊥ : EReal) := by
  refine (bias_at5 _ h i k).trans ((blk5 m c t h i k).trans ?_)
  have e : ((i.val ≤ k.val ∧ k.val ≤ i.val + 128) ∧ ¬ ((if t.val = 0 then 1 else 0 : Fin 2).val = 1 ∧ k.val < 128)) ↔ seen (bl0 t) i k := by
    unfold seen bl0
    by_cases ht : t.val = 0 <;> simp [ht]
  unfold masked
  simp only [e]

theorem b_second (h : Fin 8) (i : Fin 128) (k : Fin 256) : View.ld (iblk m c 6 t) r0_8 (ix5 0 h 0 i k)
    = if seen (bl1 t) i k then m ((c : Thread nD τ).loc main_arg2) (ix4 0 h i k) else (⊥ : EReal) := by
  refine (bias_at5 _ h i k).trans ((blk6 m c t h i k).trans ?_)
  have e : ((i.val ≤ k.val ∧ k.val ≤ i.val + 128) ∧ ¬ ((0 : Fin 2).val = 1 ∧ k.val < 128)) ↔ seen (bl1 t) i k := by
    unfold seen bl1
    simp
  unfold masked
  simp only [e]

/-- Row `i` of block `t` of 256 rows. -/
def glob (i : Fin 256) : Fin 4096 := ⟨256 * t.val + i.val, by have := lt_of_lt_of_eq t.isLt N_0; omega⟩

theorem row7 (i : Fin 256) (e : Fin 512) :
    out0_7 (F := Ideal) (iblk m c 0 t) (iblk m c 1 t) (iblk m c 2 t) (iblk m c 3 t) (iblk m c 4 t) (iblk m c 5 t) (iblk m c 6 t) (ix2 i e)
      = outAt (m ((c : Thread nD τ).loc main_arg0)) (m ((c : Thread nD τ).loc main_arg1)) (m ((c : Thread nD τ).loc main_arg2))
        (blockOf (glob t i)) (placeOf (glob t i)) (headOf e) (chanOf e) := by
  have eh : (⟨2 * (e.val / 128) + e.val % 128 / 64, by omega⟩ : Fin 8) = headOf e := Fin.ext (by simp only [headOf]; omega)
  have ed : (⟨e.val % 128 % 64, by omega⟩ : Fin 64) = chanOf e := Fin.ext (by simp only [chanOf]; omega)
  refine (out7 _ _ _ _ _ _ _ i e).trans ?_
  split
  · rename_i hi
    have en : bl0 t = blockOf (glob t i) := Fin.ext (by simp only [bl0, blockOf, glob]; omega)
    have ei : (⟨i.val, hi⟩ : Fin 128) = placeOf (glob t i) := Fin.ext (by simp only [placeOf, glob]; omega)
    refine (heads_at (q_upper m c t) (k_first m c t) (b_first m c t) (v_first m c t) _ _ _).trans ?_
    rw [← en, ← ei, ← eh, ← ed]
    rfl
  · rename_i hi
    have en : bl1 t = blockOf (glob t i) := Fin.ext (by simp only [bl1, blockOf, glob]; omega)
    have ei : (⟨i.val - 128, by omega⟩ : Fin 128) = placeOf (glob t i) := Fin.ext (by simp only [placeOf, glob]; omega)
    refine (heads_at (q_lower m c t) (k_second m c t) (b_second m c t) (v_second m c t) _ _ _).trans ?_
    rw [← en, ← ei, ← eh, ← ed]
    rfl

theorem row8 (i : Fin 256) (e : Fin 128) :
    out0_8 (F := Ideal) (iblk m c 0 t) (iblk m c 1 t) (iblk m c 2 t) (iblk m c 3 t) (iblk m c 4 t) (iblk m c 5 t) (iblk m c 6 t) (ix2 i e)
      = lseAt (m ((c : Thread nD τ).loc main_arg0)) (m ((c : Thread nD τ).loc main_arg1)) (m ((c : Thread nD τ).loc main_arg2))
        (blockOf (glob t i)) (placeOf (glob t i)) e := by
  refine (out8 _ _ _ _ _ _ _ i e).trans ?_
  unfold lseAt
  split
  · split
    · rename_i hi
      have en : bl0 t = blockOf (glob t i) := Fin.ext (by simp only [bl0, blockOf, glob]; omega)
      have ei : (⟨i.val, hi⟩ : Fin 128) = placeOf (glob t i) := Fin.ext (by simp only [placeOf, glob]; omega)
      rw [top_eq, den_eq, ← en, ← ei]
      exact congrArg normaliser (scores_at (q_upper m c t) (k_first m c t) (b_first m c t) _ _)
    · rename_i hi
      have en : bl1 t = blockOf (glob t i) := Fin.ext (by simp only [bl1, blockOf, glob]; omega)
      have ei : (⟨i.val - 128, by omega⟩ : Fin 128) = placeOf (glob t i) := Fin.ext (by simp only [placeOf, glob]; omega)
      rw [top_eq, den_eq, ← en, ← ei]
      exact congrArg normaliser (scores_at (q_lower m c t) (k_second m c t) (b_second m c t) _ _)
  · rfl

end

/-! ## The results -/

/-- The attention. -/
theorem array7 (c : Dev nD) : (dats m 0 c).arrAt 7 cfg0.N
    = fun j : S4096x512.Idx => outAt (m ((c : Thread nD τ).loc main_arg0)) (m ((c : Thread nD τ).loc main_arg1)) (m ((c : Thread nD τ).loc main_arg2))
        (blockOf (j 0)) (placeOf (j 0)) (headOf (j 1)) (chanOf (j 1)) := by
  refine (dats m 0 c).arrAt_eq_of_covers 7 _ (by decide +kernel) fun t hf y => ?_
  blk_simp [idx t]
  have h0 : (win0_7.blk t).view.emb y 0 = glob t (y 0) := by apply Fin.ext; simp only [glob]; blk_simp [idx t]; omega
  have h1 : (win0_7.blk t).view.emb y 1 = y 1 := by apply Fin.ext; blk_simp [idx t]
  rw [after0_7, h0, h1]
  refine Eq.trans ?_ (row7 m c t (y 0) (y 1))
  exact congrArg _ (by funext a; fin_cases a <;> rfl)

/-- What it keeps for the backward pass. -/
theorem array8 (c : Dev nD) : (dats m 0 c).arrAt 8 cfg0.N
    = fun j : S4096x128.Idx => lseAt (m ((c : Thread nD τ).loc main_arg0)) (m ((c : Thread nD τ).loc main_arg1)) (m ((c : Thread nD τ).loc main_arg2))
        (blockOf (j 0)) (placeOf (j 0)) (j 1) := by
  refine (dats m 0 c).arrAt_eq_of_covers 8 _ (by decide +kernel) fun t hf y => ?_
  blk_simp [idx t]
  have h0 : (win0_8.blk t).view.emb y 0 = glob t (y 0) := by apply Fin.ext; simp only [glob]; blk_simp [idx t]; omega
  have h1 : (win0_8.blk t).view.emb y 1 = y 1 := by apply Fin.ext; blk_simp [idx t]
  rw [after0_8, h0, h1]
  refine Eq.trans ?_ (row8 m c t (y 0) (y 1))
  exact congrArg _ (by funext a; fin_cases a <;> rfl)

/-- Over ideal values the kernel and the reference end with the same two results, and both keep their arguments. -/
theorem algebraic : Cert.algebraic_AttnIdeal_AttnRefIdeal := by
  intro m g m' g' _ hargs
  refine ⟨fun c => (dats m 0 c).arrAt 7 cfg0.N, fun c => (dats m 0 c).arrAt 8 cfg0.N, run_blocks m g, ?_⟩
  refine (θ_run _ _ _).mono (fun r h c => ?_) (Cert.AttnRefIdeal.Value.run m' g')
  obtain ⟨r0, r1, k⟩ := h c
  obtain ⟨a0, a1, a2⟩ := hargs c
  refine ⟨r0.trans ?_, r1.trans ?_, k⟩
  · refine (Cert.AttnRefIdeal.Read.val_main_v76_eq _ _).trans ?_
    rw [a0, a1, a2]
    refine (funext fun j => ?_).trans (array7 m c).symm
    exact (congrArg _ (by funext a; fin_cases a <;> rfl)).trans (Cert.AttnRefIdeal.Value.ref_out _ _ _ (j 0) (j 1))
  · refine (Cert.AttnRefIdeal.Read.val_main_v80_eq _ _).trans ?_
    rw [a0, a1, a2]
    refine (funext fun j => ?_).trans (array8 m c).symm
    exact (congrArg _ (by funext a; fin_cases a <;> rfl)).trans (Cert.AttnRefIdeal.Value.ref_lse _ _ _ (j 0) (j 1))

/-- The reference keeps its arguments and ends with its counters at zero. -/
theorem ref_frame : Cert.quiescent_AttnRefIdeal := fun m g _ =>
  (θ_run Cert.AttnRefIdeal.defs _ _).mono (fun r h => ⟨fun c => (h c).2.2,
      Idealize.ShloMosaic.sem_eq_zero_of_no_sems (by decide) r.2⟩)
    (Cert.AttnRefIdeal.Value.run (F := Ideal) m g)

end Cert.AttnIdeal.Value
-- ==== Proof.lean ====
module

public import proofs.«01_k».proof.Proof.SguClaim
public import proofs.«01_k».proof.Proof.Gen.Up.Frame
public import proofs.«01_k».proof.Proof.UpValue
public import proofs.«01_k».proof.Proof.Gen.Down.Frame
public import proofs.«01_k».proof.Proof.DownValue
public import proofs.«01_k».proof.Proof.Gen.UpDx.Frame
public import proofs.«01_k».proof.Proof.UpDxValue
public import proofs.«01_k».proof.Proof.Gen.UpDw.Frame
public import proofs.«01_k».proof.Proof.UpDwValue
public import proofs.«01_k».proof.Proof.Gen.DownDx.Frame
public import proofs.«01_k».proof.Proof.DownDxValue
public import proofs.«01_k».proof.Proof.Gen.DownDw.Frame
public import proofs.«01_k».proof.Proof.DownDwValue
public import proofs.«01_k».proof.Proof.Gen.AIn.Frame
public import proofs.«01_k».proof.Proof.AInValue
public import proofs.«01_k».proof.Proof.Gen.AOut.Frame
public import proofs.«01_k».proof.Proof.AOutValue
public import proofs.«01_k».proof.Proof.Gen.AOutDw.Frame
public import proofs.«01_k».proof.Proof.AOutDwValue
public import proofs.«01_k».proof.Proof.Gen.AOutDx.Frame
public import proofs.«01_k».proof.Proof.AOutDxValue
public import proofs.«01_k».proof.Proof.Gen.AInDw.Frame
public import proofs.«01_k».proof.Proof.AInDwValue
public import proofs.«01_k».proof.Proof.Gen.AInDx.Frame
public import proofs.«01_k».proof.Proof.AInDxValue
public import proofs.«01_k».proof.Proof.Gen.Kv.Frame
public import proofs.«01_k».proof.Proof.KvValue
public import proofs.«01_k».proof.Proof.Gen.KvDw.Frame
public import proofs.«01_k».proof.Proof.KvDwValue
public import proofs.«01_k».proof.Proof.Gen.KvDx.Frame
public import proofs.«01_k».proof.Proof.KvDxValue
public import proofs.«01_k».proof.Proof.Gen.BQ.Frame
public import proofs.«01_k».proof.Proof.BQValue
public import proofs.«01_k».proof.Proof.Gen.BQDw.Frame
public import proofs.«01_k».proof.Proof.BQDwValue
public import proofs.«01_k».proof.Proof.Gen.BQDx.Frame
public import proofs.«01_k».proof.Proof.BQDxValue
public import proofs.«01_k».proof.Proof.Gen.BO.Frame
public import proofs.«01_k».proof.Proof.BOValue
public import proofs.«01_k».proof.Proof.Gen.BODw.Frame
public import proofs.«01_k».proof.Proof.BODwValue
public import proofs.«01_k».proof.Proof.Gen.BODx.Frame
public import proofs.«01_k».proof.Proof.BODxValue
public import proofs.«01_k».proof.Proof.Gen.UpDw1.Frame
public import proofs.«01_k».proof.Proof.UpDw1Value
public import proofs.«01_k».proof.Proof.Gen.UpDw2.Frame
public import proofs.«01_k».proof.Proof.UpDw2Value
public import proofs.«01_k».proof.Proof.Gen.DownDw1.Frame
public import proofs.«01_k».proof.Proof.DownDw1Value
public import proofs.«01_k».proof.Proof.Gen.DownDw2.Frame
public import proofs.«01_k».proof.Proof.DownDw2Value
public import proofs.«01_k».proof.Proof.Gen.AddLn.Frame
public import proofs.«01_k».proof.Proof.AddLnValue
public import proofs.«01_k».proof.Proof.Gen.LnBwd.Frame
public import proofs.«01_k».proof.Proof.LnBwdValue
public import proofs.«01_k».proof.Proof.Gen.SguFwd.Frame
public import proofs.«01_k».proof.Proof.SguFwdValue
public import proofs.«01_k».proof.Proof.Gen.Conv.Frame
public import proofs.«01_k».proof.Proof.ConvValue
public import proofs.«01_k».proof.Proof.Gen.Loss.Frame
public import proofs.«01_k».proof.Proof.LossValue
public import proofs.«01_k».proof.Proof.Gen.Attn.Frame
public import proofs.«01_k».proof.Proof.AttnValue

/-! # The certificate: for each kernel the frames, what its named constants stand for, and its results -/

@[expose] public section

namespace Cert.Proof
open Idealize.ShloMosaic

theorem claim : Cert.Claim := ⟨Cert.Sgu.Gen.facts, Cert.SguIdeal.Gen.facts, Cert.SguRefIdeal.Gen.facts, Cert.Up.Gen.facts, Cert.UpIdeal.Gen.facts, Cert.UpRefIdeal.Gen.facts, Cert.Down.Gen.facts, Cert.DownIdeal.Gen.facts, Cert.DownRefIdeal.Gen.facts, Cert.UpDx.Gen.facts, Cert.UpDxIdeal.Gen.facts, Cert.UpDxRefIdeal.Gen.facts, Cert.UpDw.Gen.facts, Cert.UpDwIdeal.Gen.facts, Cert.UpDwRefIdeal.Gen.facts, Cert.DownDx.Gen.facts, Cert.DownDxIdeal.Gen.facts, Cert.DownDxRefIdeal.Gen.facts, Cert.DownDw.Gen.facts, Cert.DownDwIdeal.Gen.facts, Cert.DownDwRefIdeal.Gen.facts, Cert.AIn.Gen.facts, Cert.AInIdeal.Gen.facts, Cert.AInRefIdeal.Gen.facts, Cert.AOut.Gen.facts, Cert.AOutIdeal.Gen.facts, Cert.AOutRefIdeal.Gen.facts, Cert.AOutDw.Gen.facts, Cert.AOutDwIdeal.Gen.facts, Cert.AOutDwRefIdeal.Gen.facts, Cert.AOutDx.Gen.facts, Cert.AOutDxIdeal.Gen.facts, Cert.AOutDxRefIdeal.Gen.facts, Cert.AInDw.Gen.facts, Cert.AInDwIdeal.Gen.facts, Cert.AInDwRefIdeal.Gen.facts, Cert.AInDx.Gen.facts, Cert.AInDxIdeal.Gen.facts, Cert.AInDxRefIdeal.Gen.facts, Cert.Kv.Gen.facts, Cert.KvIdeal.Gen.facts, Cert.KvRefIdeal.Gen.facts, Cert.KvDw.Gen.facts, Cert.KvDwIdeal.Gen.facts, Cert.KvDwRefIdeal.Gen.facts, Cert.KvDx.Gen.facts, Cert.KvDxIdeal.Gen.facts, Cert.KvDxRefIdeal.Gen.facts, Cert.BQ.Gen.facts, Cert.BQIdeal.Gen.facts, Cert.BQRefIdeal.Gen.facts, Cert.BQDw.Gen.facts, Cert.BQDwIdeal.Gen.facts, Cert.BQDwRefIdeal.Gen.facts, Cert.BQDx.Gen.facts, Cert.BQDxIdeal.Gen.facts, Cert.BQDxRefIdeal.Gen.facts, Cert.BO.Gen.facts, Cert.BOIdeal.Gen.facts, Cert.BORefIdeal.Gen.facts, Cert.BODw.Gen.facts, Cert.BODwIdeal.Gen.facts, Cert.BODwRefIdeal.Gen.facts, Cert.BODx.Gen.facts, Cert.BODxIdeal.Gen.facts, Cert.BODxRefIdeal.Gen.facts, Cert.UpDw1.Gen.facts, Cert.UpDw1Ideal.Gen.facts, Cert.UpDw1RefIdeal.Gen.facts, Cert.UpDw2.Gen.facts, Cert.UpDw2Ideal.Gen.facts, Cert.UpDw2RefIdeal.Gen.facts, Cert.DownDw1.Gen.facts, Cert.DownDw1Ideal.Gen.facts, Cert.DownDw1RefIdeal.Gen.facts, Cert.DownDw2.Gen.facts, Cert.DownDw2Ideal.Gen.facts, Cert.DownDw2RefIdeal.Gen.facts, Cert.AddLn.Gen.facts, Cert.AddLnIdeal.Gen.facts, Cert.AddLnRefIdeal.Gen.facts, Cert.LnBwd.Gen.facts, Cert.LnBwdIdeal.Gen.facts, Cert.LnBwdRefIdeal.Gen.facts, Cert.SguFwd.Gen.facts, Cert.SguFwdIdeal.Gen.facts, Cert.SguFwdRefIdeal.Gen.facts, Cert.Conv.Gen.facts, Cert.ConvIdeal.Gen.facts, Cert.ConvRefIdeal.Gen.facts, Cert.Loss.Gen.facts, Cert.LossIdeal.Gen.facts, Cert.LossRefIdeal.Gen.facts, Cert.Attn.Gen.facts, Cert.AttnIdeal.Gen.facts, Cert.AttnRefIdeal.Gen.facts, Cert.SguPre.facts, Cert.LnBwdPre.facts,
  fun m g _ => Cert.Sgu.Gen.frame m g, fun m g _ => Cert.SguIdeal.Gen.frame m g, fun m g _ => Cert.SguIdeal.Gen.frame m g,
  Cert.SguClaim.ref_frame, fun m g _ => Cert.SguClaim.ref_frame m g trivial,
  fun m g _ => Cert.Up.Gen.frame m g, fun m g _ => Cert.UpIdeal.Gen.frame m g, Cert.UpIdeal.Value.ref_frame,
  fun m g _ => Cert.Down.Gen.frame m g, fun m g _ => Cert.DownIdeal.Gen.frame m g, Cert.DownIdeal.Value.ref_frame,
  fun m g _ => Cert.UpDx.Gen.frame m g, fun m g _ => Cert.UpDxIdeal.Gen.frame m g, Cert.UpDxIdeal.Value.ref_frame,
  fun m g _ => Cert.UpDw.Gen.frame m g, fun m g _ => Cert.UpDwIdeal.Gen.frame m g, Cert.UpDwIdeal.Value.ref_frame,
  fun m g _ => Cert.DownDx.Gen.frame m g, fun m g _ => Cert.DownDxIdeal.Gen.frame m g, Cert.DownDxIdeal.Value.ref_frame,
  fun m g _ => Cert.DownDw.Gen.frame m g, fun m g _ => Cert.DownDwIdeal.Gen.frame m g, Cert.DownDwIdeal.Value.ref_frame,
  fun m g _ => Cert.AIn.Gen.frame m g, fun m g _ => Cert.AInIdeal.Gen.frame m g, Cert.AInIdeal.Value.ref_frame,
  fun m g _ => Cert.AOut.Gen.frame m g, fun m g _ => Cert.AOutIdeal.Gen.frame m g, Cert.AOutIdeal.Value.ref_frame,
  fun m g _ => Cert.AOutDw.Gen.frame m g, fun m g _ => Cert.AOutDwIdeal.Gen.frame m g, Cert.AOutDwIdeal.Value.ref_frame,
  fun m g _ => Cert.AOutDx.Gen.frame m g, fun m g _ => Cert.AOutDxIdeal.Gen.frame m g, Cert.AOutDxIdeal.Value.ref_frame,
  fun m g _ => Cert.AInDw.Gen.frame m g, fun m g _ => Cert.AInDwIdeal.Gen.frame m g, Cert.AInDwIdeal.Value.ref_frame,
  fun m g _ => Cert.AInDx.Gen.frame m g, fun m g _ => Cert.AInDxIdeal.Gen.frame m g, Cert.AInDxIdeal.Value.ref_frame,
  fun m g _ => Cert.Kv.Gen.frame m g, fun m g _ => Cert.KvIdeal.Gen.frame m g, Cert.KvIdeal.Value.ref_frame,
  fun m g _ => Cert.KvDw.Gen.frame m g, fun m g _ => Cert.KvDwIdeal.Gen.frame m g, Cert.KvDwIdeal.Value.ref_frame,
  fun m g _ => Cert.KvDx.Gen.frame m g, fun m g _ => Cert.KvDxIdeal.Gen.frame m g, Cert.KvDxIdeal.Value.ref_frame,
  fun m g _ => Cert.BQ.Gen.frame m g, fun m g _ => Cert.BQIdeal.Gen.frame m g, Cert.BQIdeal.Value.ref_frame,
  fun m g _ => Cert.BQDw.Gen.frame m g, fun m g _ => Cert.BQDwIdeal.Gen.frame m g, Cert.BQDwIdeal.Value.ref_frame,
  fun m g _ => Cert.BQDx.Gen.frame m g, fun m g _ => Cert.BQDxIdeal.Gen.frame m g, Cert.BQDxIdeal.Value.ref_frame,
  fun m g _ => Cert.BO.Gen.frame m g, fun m g _ => Cert.BOIdeal.Gen.frame m g, Cert.BOIdeal.Value.ref_frame,
  fun m g _ => Cert.BODw.Gen.frame m g, fun m g _ => Cert.BODwIdeal.Gen.frame m g, Cert.BODwIdeal.Value.ref_frame,
  fun m g _ => Cert.BODx.Gen.frame m g, fun m g _ => Cert.BODxIdeal.Gen.frame m g, Cert.BODxIdeal.Value.ref_frame,
  fun m g _ => Cert.UpDw1.Gen.frame m g, fun m g _ => Cert.UpDw1Ideal.Gen.frame m g, Cert.UpDw1Ideal.Value.ref_frame,
  fun m g _ => Cert.UpDw2.Gen.frame m g, fun m g _ => Cert.UpDw2Ideal.Gen.frame m g, Cert.UpDw2Ideal.Value.ref_frame,
  fun m g _ => Cert.DownDw1.Gen.frame m g, fun m g _ => Cert.DownDw1Ideal.Gen.frame m g, Cert.DownDw1Ideal.Value.ref_frame,
  fun m g _ => Cert.DownDw2.Gen.frame m g, fun m g _ => Cert.DownDw2Ideal.Gen.frame m g, Cert.DownDw2Ideal.Value.ref_frame,
  fun m g _ => Cert.AddLn.Gen.frame m g, fun m g _ => Cert.AddLnIdeal.Gen.frame m g, Cert.AddLnIdeal.Value.ref_frame,
  fun m g _ => Cert.LnBwd.Gen.frame m g, fun m g _ => Cert.LnBwdIdeal.Gen.frame m g, fun m g _ => Cert.LnBwdIdeal.Gen.frame m g,
  Cert.LnBwdIdeal.Value.ref_frame, fun m g _ => Cert.LnBwdIdeal.Value.ref_frame m g trivial,
  fun m g _ => Cert.SguFwd.Gen.frame m g, fun m g _ => Cert.SguFwdIdeal.Gen.frame m g, Cert.SguFwdIdeal.Value.ref_frame,
  fun m g _ => Cert.Conv.Gen.frame m g, fun m g _ => Cert.ConvIdeal.Gen.frame m g, Cert.ConvIdeal.Value.ref_frame,
  fun m g _ => Cert.Loss.Gen.frame m g, fun m g _ => Cert.LossIdeal.Gen.frame m g, Cert.LossIdeal.Value.ref_frame,
  fun m g _ => Cert.Attn.Gen.frame m g, fun m g _ => Cert.AttnIdeal.Gen.frame m g, Cert.AttnIdeal.Value.ref_frame,
  ⟨IdealRules.named_const.statement Cert.SguIdeal.κ "sqrt_half" .f32 0x3F3504F3#32 _ rfl,
    IdealRules.named_const.statement Cert.SguIdeal.κ "inv_sqrt_2pi" .f32 0x3ECC422A#32 _ rfl⟩,
  Cert.SguClaim.algebraic,
  trivial, Cert.UpIdeal.Value.algebraic, trivial, Cert.DownIdeal.Value.algebraic, trivial, Cert.UpDxIdeal.Value.algebraic, trivial, Cert.UpDwIdeal.Value.algebraic, trivial, Cert.DownDxIdeal.Value.algebraic, trivial, Cert.DownDwIdeal.Value.algebraic,
  trivial, Cert.AInIdeal.Value.algebraic, trivial, Cert.AOutIdeal.Value.algebraic, trivial, Cert.AOutDwIdeal.Value.algebraic, trivial, Cert.AOutDxIdeal.Value.algebraic, trivial, Cert.AInDwIdeal.Value.algebraic, trivial, Cert.AInDxIdeal.Value.algebraic,
  trivial, Cert.KvIdeal.Value.algebraic, trivial, Cert.KvDwIdeal.Value.algebraic, trivial, Cert.KvDxIdeal.Value.algebraic, trivial, Cert.BQIdeal.Value.algebraic, trivial, Cert.BQDwIdeal.Value.algebraic, trivial, Cert.BQDxIdeal.Value.algebraic, trivial, Cert.BOIdeal.Value.algebraic, trivial, Cert.BODwIdeal.Value.algebraic, trivial, Cert.BODxIdeal.Value.algebraic,
  trivial, Cert.UpDw1Ideal.Value.algebraic, trivial, Cert.UpDw2Ideal.Value.algebraic, trivial, Cert.DownDw1Ideal.Value.algebraic, trivial, Cert.DownDw2Ideal.Value.algebraic,
  trivial, Cert.AddLnIdeal.Value.algebraic, trivial, Cert.LnBwdIdeal.Value.algebraic,
  IdealRules.named_const.statement Cert.SguFwdIdeal.κ "sqrt_half" .f32 0x3F3504F3#32 _ rfl, Cert.SguFwdIdeal.Value.algebraic,
  IdealRules.named_const.statement Cert.ConvIdeal.κ "sqrt_half" .f32 0x3F3504F3#32 _ rfl, Cert.ConvIdeal.Value.algebraic,
  trivial, Cert.LossIdeal.Value.algebraic, trivial, Cert.AttnIdeal.Value.algebraic⟩

end Cert.Proof
